-- ==== Defs.lean ====
def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInIdeal_ffn_in_finite [hPre_ffn_in_finite : Cert.Pre_ffn_in_finite.Facts] (m : (ℓ : Loc Cert.FfnInIdeal.nD Cert.FfnInIdeal.τ Cert.FfnInIdeal.sig) → Buf (Elt Ideal) ℓ) : Prop :=
  ∀ c : Dev Cert.FfnInIdeal.nD,
    (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).1 = (fun _ => 1#1)
    ∧ (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).2.1 = (fun _ => 1#1)
    ∧ (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).2.2.1 = (fun _ => 1#1)
    ∧ (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).2.2.2.1 = (fun _ => 1#1)
    ∧ (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).2.2.2.2.1 = (fun _ => 1#1)
    ∧ (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).2.2.2.2.2.1 = (fun _ => 1#1)
    ∧ (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).2.2.2.2.2.2 = (fun _ => 1#1)

def Pre_FfnInRefIdeal (m : (ℓ : Loc Cert.FfnInRefIdeal.nD Cert.FfnInRefIdeal.τ Cert.FfnInRefIdeal.sig) → Buf (Elt Ideal) ℓ) : Prop :=
  True

def Pre_FfnInRefIdeal_ffn_in_finite [hPre_ffn_in_finite : Cert.Pre_ffn_in_finite.Facts] (m : (ℓ : Loc Cert.FfnInRefIdeal.nD Cert.FfnInRefIdeal.τ Cert.FfnInRefIdeal.sig) → Buf (Elt Ideal) ℓ) : Prop :=
  ∀ c : Dev Cert.FfnInRefIdeal.nD,
    (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).1 = (fun _ => 1#1)
    ∧ (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).2.1 = (fun _ => 1#1)
    ∧ (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).2.2.1 = (fun _ => 1#1)
    ∧ (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).2.2.2.1 = (fun _ => 1#1)
    ∧ (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).2.2.2.2.1 = (fun _ => 1#1)
    ∧ (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).2.2.2.2.2.1 = (fun _ => 1#1)
    ∧ (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).2.2.2.2.2.2 = (fun _ => 1#1)

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_in_finite [hPre_in_finite : Cert.Pre_in_finite.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_in_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6))).1 = (fun _ => 1#1)
    ∧ (Cert.Pre_in_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6))).2.1 = (fun _ => 1#1)
    ∧ (Cert.Pre_in_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6))).2.2.1 = (fun _ => 1#1)
    ∧ (Cert.Pre_in_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6))).2.2.2.1 = (fun _ => 1#1)
    ∧ (Cert.Pre_in_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6))).2.2.2.2 = (fun _ => 1#1)

def Pre_InBwdRefIdeal (m : (ℓ : Loc Cert.InBwdRefIdeal.nD Cert.InBwdRefIdeal.τ Cert.InBwdRefIdeal.sig) → Buf (Elt Ideal) ℓ) : Prop :=
  True

def Pre_InBwdRefIdeal_in_finite [hPre_in_finite : Cert.Pre_in_finite.Facts] (m : (ℓ : Loc Cert.InBwdRefIdeal.nD Cert.InBwdRefIdeal.τ Cert.InBwdRefIdeal.sig) → Buf (Elt Ideal) ℓ) : Prop :=
  ∀ c : Dev Cert.InBwdRefIdeal.nD,
    (Cert.Pre_in_finite.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5)) (m ((c.tc : Thread Cert.InBwdRefIdeal.nD Cert.InBwdRefIdeal.τ).loc Cert.InBwdRefIdeal.main_arg6))).1 = (fun _ => 1#1)
    ∧ (Cert.Pre_in_finite.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5)) (m ((c.tc : Thread Cert.InBwdRefIdeal.nD Cert.InBwdRefIdeal.τ).loc Cert.InBwdRefIdeal.main_arg6))).2.1 = (fun _ => 1#1)
    ∧ (Cert.Pre_in_finite.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5)) (m ((c.tc : Thread Cert.InBwdRefIdeal.nD Cert.InBwdRefIdeal.τ).loc Cert.InBwdRefIdeal.main_arg6))).2.2.1 = (fun _ => 1#1)
    ∧ (Cert.Pre_in_finite.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5)) (m ((c.tc : Thread Cert.InBwdRefIdeal.nD Cert.InBwdRefIdeal.τ).loc Cert.InBwdRefIdeal.main_arg6))).2.2.2.1 = (fun _ => 1#1)
    ∧ (Cert.Pre_in_finite.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5)) (m ((c.tc : Thread Cert.InBwdRefIdeal.nD Cert.InBwdRefIdeal.τ).loc Cert.InBwdRefIdeal.main_arg6))).2.2.2.2 = (fun _ => 1#1)

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownIdeal_down_finite [hPre_down_finite : Cert.Pre_down_finite.Facts] (m : (ℓ : Loc Cert.FfnDownIdeal.nD Cert.FfnDownIdeal.τ Cert.FfnDownIdeal.sig) → Buf (Elt Ideal) ℓ) : Prop :=
  ∀ c : Dev Cert.FfnDownIdeal.nD,
    (Cert.Pre_down_finite.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)) (m ((c.tc : Thread Cert.FfnDownIdeal.nD Cert.FfnDownIdeal.τ).loc Cert.FfnDownIdeal.main_arg4))).1 = (fun _ => 1#1)
    ∧ (Cert.Pre_down_finite.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)) (m ((c.tc : Thread Cert.FfnDownIdeal.nD Cert.FfnDownIdeal.τ).loc Cert.FfnDownIdeal.main_arg4))).2.1 = (fun _ => 1#1)
    ∧ (Cert.Pre_down_finite.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)) (m ((c.tc : Thread Cert.FfnDownIdeal.nD Cert.FfnDownIdeal.τ).loc Cert.FfnDownIdeal.main_arg4))).2.2.1 = (fun _ => 1#1)
    ∧ (Cert.Pre_down_finite.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)) (m ((c.tc : Thread Cert.FfnDownIdeal.nD Cert.FfnDownIdeal.τ).loc Cert.FfnDownIdeal.main_arg4))).2.2.2.1 = (fun _ => 1#1)
    ∧ (Cert.Pre_down_finite.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)) (m ((c.tc : Thread Cert.FfnDownIdeal.nD Cert.FfnDownIdeal.τ).loc Cert.FfnDownIdeal.main_arg4))).2.2.2.2 = (fun _ => 1#1)

def Pre_FfnDownRefIdeal (m : (ℓ : Loc Cert.FfnDownRefIdeal.nD Cert.FfnDownRefIdeal.τ Cert.FfnDownRefIdeal.sig) → Buf (Elt Ideal) ℓ) : Prop :=
  True

def Pre_FfnDownRefIdeal_down_finite [hPre_down_finite : Cert.Pre_down_finite.Facts] (m : (ℓ : Loc Cert.FfnDownRefIdeal.nD Cert.FfnDownRefIdeal.τ Cert.FfnDownRefIdeal.sig) → Buf (Elt Ideal) ℓ) : Prop :=
  ∀ c : Dev Cert.FfnDownRefIdeal.nD,
    (Cert.Pre_down_finite.fn (F := Ideal) (m ((c.tc : Thread Cert.FfnDownRefIdeal.nD Cert.FfnDownRefIdeal.τ).loc Cert.FfnDownRefIdeal.main_arg0)) (m ((c.tc : Thread Cert.FfnDownRefIdeal.nD Cert.FfnDownRefIdeal.τ).loc Cert.FfnDownRefIdeal.main_arg1)) (m ((c.tc : Thread Cert.FfnDownRefIdeal.nD Cert.FfnDownRefIdeal.τ).loc Cert.FfnDownRefIdeal.main_arg2)) (m ((c.tc : Thread Cert.FfnDownRefIdeal.nD Cert.FfnDownRefIdeal.τ).loc Cert.FfnDownRefIdeal.main_arg3)) (m ((c.tc : Thread Cert.FfnDownRefIdeal.nD Cert.FfnDownRefIdeal.τ).loc Cert.FfnDownRefIdeal.main_arg4))).1 = (fun _ => 1#1)
    ∧ (Cert.Pre_down_finite.fn (F := Ideal) (m ((c.tc : Thread Cert.FfnDownRefIdeal.nD Cert.FfnDownRefIdeal.τ).loc Cert.FfnDownRefIdeal.main_arg0)) (m ((c.tc : Thread Cert.FfnDownRefIdeal.nD Cert.FfnDownRefIdeal.τ).loc Cert.FfnDownRefIdeal.main_arg1)) (m ((c.tc : Thread Cert.FfnDownRefIdeal.nD Cert.FfnDownRefIdeal.τ).loc Cert.FfnDownRefIdeal.main_arg2)) (m ((c.tc : Thread Cert.FfnDownRefIdeal.nD Cert.FfnDownRefIdeal.τ).loc Cert.FfnDownRefIdeal.main_arg3)) (m ((c.tc : Thread Cert.FfnDownRefIdeal.nD Cert.FfnDownRefIdeal.τ).loc Cert.FfnDownRefIdeal.main_arg4))).2.1 = (fun _ => 1#1)
    ∧ (Cert.Pre_down_finite.fn (F := Ideal) (m ((c.tc : Thread Cert.FfnDownRefIdeal.nD Cert.FfnDownRefIdeal.τ).loc Cert.FfnDownRefIdeal.main_arg0)) (m ((c.tc : Thread Cert.FfnDownRefIdeal.nD Cert.FfnDownRefIdeal.τ).loc Cert.FfnDownRefIdeal.main_arg1)) (m ((c.tc : Thread Cert.FfnDownRefIdeal.nD Cert.FfnDownRefIdeal.τ).loc Cert.FfnDownRefIdeal.main_arg2)) (m ((c.tc : Thread Cert.FfnDownRefIdeal.nD Cert.FfnDownRefIdeal.τ).loc Cert.FfnDownRefIdeal.main_arg3)) (m ((c.tc : Thread Cert.FfnDownRefIdeal.nD Cert.FfnDownRefIdeal.τ).loc Cert.FfnDownRefIdeal.main_arg4))).2.2.1 = (fun _ => 1#1)
    ∧ (Cert.Pre_down_finite.fn (F := Ideal) (m ((c.tc : Thread Cert.FfnDownRefIdeal.nD Cert.FfnDownRefIdeal.τ).loc Cert.FfnDownRefIdeal.main_arg0)) (m ((c.tc : Thread Cert.FfnDownRefIdeal.nD Cert.FfnDownRefIdeal.τ).loc Cert.FfnDownRefIdeal.main_arg1)) (m ((c.tc : Thread Cert.FfnDownRefIdeal.nD Cert.FfnDownRefIdeal.τ).loc Cert.FfnDownRefIdeal.main_arg2)) (m ((c.tc : Thread Cert.FfnDownRefIdeal.nD Cert.FfnDownRefIdeal.τ).loc Cert.FfnDownRefIdeal.main_arg3)) (m ((c.tc : Thread Cert.FfnDownRefIdeal.nD Cert.FfnDownRefIdeal.τ).loc Cert.FfnDownRefIdeal.main_arg4))).2.2.2.1 = (fun _ => 1#1)
    ∧ (Cert.Pre_down_finite.fn (F := Ideal) (m ((c.tc : Thread Cert.FfnDownRefIdeal.nD Cert.FfnDownRefIdeal.τ).loc Cert.FfnDownRefIdeal.main_arg0)) (m ((c.tc : Thread Cert.FfnDownRefIdeal.nD Cert.FfnDownRefIdeal.τ).loc Cert.FfnDownRefIdeal.main_arg1)) (m ((c.tc : Thread Cert.FfnDownRefIdeal.nD Cert.FfnDownRefIdeal.τ).loc Cert.FfnDownRefIdeal.main_arg2)) (m ((c.tc : Thread Cert.FfnDownRefIdeal.nD Cert.FfnDownRefIdeal.τ).loc Cert.FfnDownRefIdeal.main_arg3)) (m ((c.tc : Thread Cert.FfnDownRefIdeal.nD Cert.FfnDownRefIdeal.τ).loc Cert.FfnDownRefIdeal.main_arg4))).2.2.2.2 = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_finite [hPre_attn_finite : Cert.Pre_attn_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.2 = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attn_fwd_finite [hPre_attn_fwd_finite : Cert.Pre_attn_fwd_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))).1 = (fun _ => 1#1)
    ∧ (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))).2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attn_fwd_finite [hPre_attn_fwd_finite : Cert.Pre_attn_fwd_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1))).1 = (fun _ => 1#1)
    ∧ (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1))).2 = (fun _ => 1#1)

def Pre_DwProj (m : (ℓ : Loc Cert.DwProj.nD Cert.DwProj.τ Cert.DwProj.sig) → Buf (Elt Bits) ℓ) : Prop :=
  True

def Pre_DwProjIdeal (m : (ℓ : Loc Cert.DwProjIdeal.nD Cert.DwProjIdeal.τ Cert.DwProjIdeal.sig) → Buf (Elt Ideal) ℓ) : Prop :=
  True

def Pre_DwProjRefIdeal (m : (ℓ : Loc Cert.DwProjRefIdeal.nD Cert.DwProjRefIdeal.τ Cert.DwProjRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5)
      ∧ r.2.mem ((c.tc : Thread Cert.FfnIn.nD Cert.FfnIn.τ).loc Cert.FfnIn.main_arg6) = m ((c.tc : Thread Cert.FfnIn.nD Cert.FfnIn.τ).loc Cert.FfnIn.main_arg6))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ r.2.sem = fun _ => 0)

def quiescent_FfnInIdeal_pre_ffn_in_finite [hFfnInIdeal : Cert.FfnInIdeal.Facts] [hPre_ffn_in_finite : Cert.Pre_ffn_in_finite.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal_ffn_in_finite m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6))
      ∧ r.2.sem = fun _ => 0)

def quiescent_FfnInRefIdeal_pre_ffn_in_finite [hFfnInRefIdeal : Cert.FfnInRefIdeal.Facts] [hPre_ffn_in_finite : Cert.Pre_ffn_in_finite.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal_ffn_in_finite m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6))
      ∧ r.2.sem = fun _ => 0)

def quiescent_InBwdIdeal_pre_in_finite [hInBwdIdeal : Cert.InBwdIdeal.Facts] [hPre_in_finite : Cert.Pre_in_finite.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_in_finite m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6))
      ∧ r.2.sem = fun _ => 0)

def quiescent_InBwdRefIdeal_pre_in_finite [hInBwdRefIdeal : Cert.InBwdRefIdeal.Facts] [hPre_in_finite : Cert.Pre_in_finite.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal_in_finite m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ r.2.sem = fun _ => 0)

def quiescent_FfnDownIdeal_pre_down_finite [hFfnDownIdeal : Cert.FfnDownIdeal.Facts] [hPre_down_finite : Cert.Pre_down_finite.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal_down_finite m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4))
      ∧ r.2.sem = fun _ => 0)

def quiescent_FfnDownRefIdeal_pre_down_finite [hFfnDownRefIdeal : Cert.FfnDownRefIdeal.Facts] [hPre_down_finite : Cert.Pre_down_finite.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal_down_finite m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdIdeal_pre_attn_finite [hAttnBwdIdeal : Cert.AttnBwdIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdIdeal_pre_attn_fwd_finite [hAttnFwdIdeal : Cert.AttnFwdIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attn_fwd_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_AttnFwdRefIdeal_pre_attn_fwd_finite [hAttnFwdRefIdeal : Cert.AttnFwdRefIdeal.Facts] [hPre_attn_fwd_finite : Cert.Pre_attn_fwd_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attn_fwd_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_DwProj [hDwProj : Cert.DwProj.Facts] : Prop :=
  ∀ (m : (ℓ : Loc Cert.DwProj.nD Cert.DwProj.τ Cert.DwProj.sig) → Buf (Elt Bits) ℓ) (g : Dev Cert.DwProj.nD → PrngReg), Pre_DwProj m →
    θ_run (Cert.DwProj.defs (F := Bits)) (onTc (τ := Cert.DwProj.τ) (Cert.DwProj.main (F := Bits))) ⟨m, fun _ => 0, g⟩ (fun r => (∀ c : Dev Cert.DwProj.nD,
      r.2.mem ((c.tc : Thread Cert.DwProj.nD Cert.DwProj.τ).loc Cert.DwProj.main_arg0) = m ((c.tc : Thread Cert.DwProj.nD Cert.DwProj.τ).loc Cert.DwProj.main_arg0)
      ∧ r.2.mem ((c.tc : Thread Cert.DwProj.nD Cert.DwProj.τ).loc Cert.DwProj.main_arg1) = m ((c.tc : Thread Cert.DwProj.nD Cert.DwProj.τ).loc Cert.DwProj.main_arg1))
      ∧ r.2.sem = fun _ => 0)

def quiescent_DwProjIdeal [hDwProjIdeal : Cert.DwProjIdeal.Facts] : Prop :=
  ∀ (m : (ℓ : Loc Cert.DwProjIdeal.nD Cert.DwProjIdeal.τ Cert.DwProjIdeal.sig) → Buf (Elt Ideal) ℓ) (g : Dev Cert.DwProjIdeal.nD → PrngReg), Pre_DwProjIdeal m →
    θ_run (Cert.DwProjIdeal.defs (F := Ideal)) (onTc (τ := Cert.DwProjIdeal.τ) (Cert.DwProjIdeal.main (F := Ideal))) ⟨m, fun _ => 0, g⟩ (fun r => (∀ c : Dev Cert.DwProjIdeal.nD,
      r.2.mem ((c.tc : Thread Cert.DwProjIdeal.nD Cert.DwProjIdeal.τ).loc Cert.DwProjIdeal.main_arg0) = m ((c.tc : Thread Cert.DwProjIdeal.nD Cert.DwProjIdeal.τ).loc Cert.DwProjIdeal.main_arg0)
      ∧ r.2.mem ((c.tc : Thread Cert.DwProjIdeal.nD Cert.DwProjIdeal.τ).loc Cert.DwProjIdeal.main_arg1) = m ((c.tc : Thread Cert.DwProjIdeal.nD Cert.DwProjIdeal.τ).loc Cert.DwProjIdeal.main_arg1))
      ∧ r.2.sem = fun _ => 0)

def quiescent_DwProjRefIdeal [hDwProjRefIdeal : Cert.DwProjRefIdeal.Facts] : Prop :=
  ∀ (m : (ℓ : Loc Cert.DwProjRefIdeal.nD Cert.DwProjRefIdeal.τ Cert.DwProjRefIdeal.sig) → Buf (Elt Ideal) ℓ) (g : Dev Cert.DwProjRefIdeal.nD → PrngReg), Pre_DwProjRefIdeal m →
    θ_run (Cert.DwProjRefIdeal.defs (F := Ideal)) (onTc (τ := Cert.DwProjRefIdeal.τ) (Cert.DwProjRefIdeal.main (F := Ideal))) ⟨m, fun _ => 0, g⟩ (fun r => (∀ c : Dev Cert.DwProjRefIdeal.nD,
      r.2.mem ((c.tc : Thread Cert.DwProjRefIdeal.nD Cert.DwProjRefIdeal.τ).loc Cert.DwProjRefIdeal.main_arg0) = m ((c.tc : Thread Cert.DwProjRefIdeal.nD Cert.DwProjRefIdeal.τ).loc Cert.DwProjRefIdeal.main_arg0)
      ∧ r.2.mem ((c.tc : Thread Cert.DwProjRefIdeal.nD Cert.DwProjRefIdeal.τ).loc Cert.DwProjRefIdeal.main_arg1) = m ((c.tc : Thread Cert.DwProjRefIdeal.nD Cert.DwProjRefIdeal.τ).loc Cert.DwProjRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def preserves_FfnIn_FfnInIdeal : Prop :=
  True

def algebraic_FfnInIdeal_FfnInRefIdeal_pre_ffn_in_finite [hFfnInIdeal : Cert.FfnInIdeal.Facts] [hFfnInRefIdeal : Cert.FfnInRefIdeal.Facts] [hPre_ffn_in_finite : Cert.Pre_ffn_in_finite.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal_ffn_in_finite m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)
      ∧ m' ((c.tc : Thread Cert.FfnInRefIdeal.nD Cert.FfnInRefIdeal.τ).loc Cert.FfnInRefIdeal.main_arg5) = m ((c.tc : Thread Cert.FfnInIdeal.nD Cert.FfnInIdeal.τ).loc Cert.FfnInIdeal.main_arg5)
      ∧ m' ((c.tc : Thread Cert.FfnInRefIdeal.nD Cert.FfnInRefIdeal.τ).loc Cert.FfnInRefIdeal.main_arg6) = m ((c.tc : Thread Cert.FfnInIdeal.nD Cert.FfnInIdeal.τ).loc Cert.FfnInIdeal.main_arg6)) →
    ∃ (v0 : (c : Dev Cert.FfnInIdeal.nD) → Buf (Elt Ideal) ((c.tc : Thread Cert.FfnInIdeal.nD Cert.FfnInIdeal.τ).loc Cert.FfnInIdeal.main_v30_0)) (v1 : (c : Dev Cert.FfnInIdeal.nD) → Buf (Elt Ideal) ((c.tc : Thread Cert.FfnInIdeal.nD Cert.FfnInIdeal.τ).loc Cert.FfnInIdeal.main_v30_1)) (v2 : (c : Dev Cert.FfnInIdeal.nD) → Buf (Elt Ideal) ((c.tc : Thread Cert.FfnInIdeal.nD Cert.FfnInIdeal.τ).loc Cert.FfnInIdeal.main_v30_2)) (v3 : (c : Dev Cert.FfnInIdeal.nD) → Buf (Elt Ideal) ((c.tc : Thread Cert.FfnInIdeal.nD Cert.FfnInIdeal.τ).loc Cert.FfnInIdeal.main_v30_3)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v30_0) = v0 c
          ∧ r.2.mem ((c.tc : Thread Cert.FfnInIdeal.nD Cert.FfnInIdeal.τ).loc Cert.FfnInIdeal.main_v30_1) = v1 c
          ∧ r.2.mem ((c.tc : Thread Cert.FfnInIdeal.nD Cert.FfnInIdeal.τ).loc Cert.FfnInIdeal.main_v30_2) = v2 c
          ∧ r.2.mem ((c.tc : Thread Cert.FfnInIdeal.nD Cert.FfnInIdeal.τ).loc Cert.FfnInIdeal.main_v30_3) = v3 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
          ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v83) = v0 c
          ∧ r.2.mem ((c.tc : Thread Cert.FfnInRefIdeal.nD Cert.FfnInRefIdeal.τ).loc Cert.FfnInRefIdeal.main_v85) = v1 c
          ∧ r.2.mem ((c.tc : Thread Cert.FfnInRefIdeal.nD Cert.FfnInRefIdeal.τ).loc Cert.FfnInRefIdeal.main_v86) = v2 c
          ∧ r.2.mem ((c.tc : Thread Cert.FfnInRefIdeal.nD Cert.FfnInRefIdeal.τ).loc Cert.FfnInRefIdeal.main_v87) = v3 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4)
          ∧ r.2.mem ((c.tc : Thread Cert.FfnInRefIdeal.nD Cert.FfnInRefIdeal.τ).loc Cert.FfnInRefIdeal.main_arg5) = m' ((c.tc : Thread Cert.FfnInRefIdeal.nD Cert.FfnInRefIdeal.τ).loc Cert.FfnInRefIdeal.main_arg5)
          ∧ r.2.mem ((c.tc : Thread Cert.FfnInRefIdeal.nD Cert.FfnInRefIdeal.τ).loc Cert.FfnInRefIdeal.main_arg6) = m' ((c.tc : Thread Cert.FfnInRefIdeal.nD Cert.FfnInRefIdeal.τ).loc Cert.FfnInRefIdeal.main_arg6))

def preserves_InBwd_InBwdIdeal : Prop :=
  True

def algebraic_InBwdIdeal_InBwdRefIdeal_pre_in_finite [hInBwdIdeal : Cert.InBwdIdeal.Facts] [hInBwdRefIdeal : Cert.InBwdRefIdeal.Facts] [hPre_in_finite : Cert.Pre_in_finite.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal_in_finite m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)
      ∧ m' ((c.tc : Thread Cert.InBwdRefIdeal.nD Cert.InBwdRefIdeal.τ).loc Cert.InBwdRefIdeal.main_arg5) = m ((c.tc : Thread Cert.InBwdIdeal.nD Cert.InBwdIdeal.τ).loc Cert.InBwdIdeal.main_arg5)
      ∧ m' ((c.tc : Thread Cert.InBwdRefIdeal.nD Cert.InBwdRefIdeal.τ).loc Cert.InBwdRefIdeal.main_arg6) = m ((c.tc : Thread Cert.InBwdIdeal.nD Cert.InBwdIdeal.τ).loc Cert.InBwdIdeal.main_arg6)) →
    ∃ (v0 : (c : Dev Cert.InBwdIdeal.nD) → Buf (Elt Ideal) ((c.tc : Thread Cert.InBwdIdeal.nD Cert.InBwdIdeal.τ).loc Cert.InBwdIdeal.main_v15_0)) (v1 : (c : Dev Cert.InBwdIdeal.nD) → Buf (Elt Ideal) ((c.tc : Thread Cert.InBwdIdeal.nD Cert.InBwdIdeal.τ).loc Cert.InBwdIdeal.main_v15_1)) (v2 : (c : Dev Cert.InBwdIdeal.nD) → Buf (Elt Ideal) ((c.tc : Thread Cert.InBwdIdeal.nD Cert.InBwdIdeal.τ).loc Cert.InBwdIdeal.main_v15_2)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v15_0) = v0 c
          ∧ r.2.mem ((c.tc : Thread Cert.InBwdIdeal.nD Cert.InBwdIdeal.τ).loc Cert.InBwdIdeal.main_v15_1) = v1 c
          ∧ r.2.mem ((c.tc : Thread Cert.InBwdIdeal.nD Cert.InBwdIdeal.τ).loc Cert.InBwdIdeal.main_v15_2) = v2 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v55) = v0 c
          ∧ r.2.mem ((c.tc : Thread Cert.InBwdRefIdeal.nD Cert.InBwdRefIdeal.τ).loc Cert.InBwdRefIdeal.main_v56) = v1 c
          ∧ r.2.mem ((c.tc : Thread Cert.InBwdRefIdeal.nD Cert.InBwdRefIdeal.τ).loc Cert.InBwdRefIdeal.main_v57) = v2 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4)
          ∧ r.2.mem ((c.tc : Thread Cert.InBwdRefIdeal.nD Cert.InBwdRefIdeal.τ).loc Cert.InBwdRefIdeal.main_arg5) = m' ((c.tc : Thread Cert.InBwdRefIdeal.nD Cert.InBwdRefIdeal.τ).loc Cert.InBwdRefIdeal.main_arg5)
          ∧ r.2.mem ((c.tc : Thread Cert.InBwdRefIdeal.nD Cert.InBwdRefIdeal.τ).loc Cert.InBwdRefIdeal.main_arg6) = m' ((c.tc : Thread Cert.InBwdRefIdeal.nD Cert.InBwdRefIdeal.τ).loc Cert.InBwdRefIdeal.main_arg6))

def preserves_FfnDown_FfnDownIdeal : Prop :=
  True

def algebraic_FfnDownIdeal_FfnDownRefIdeal_pre_down_finite [hFfnDownIdeal : Cert.FfnDownIdeal.Facts] [hFfnDownRefIdeal : Cert.FfnDownRefIdeal.Facts] [hPre_down_finite : Cert.Pre_down_finite.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal_down_finite m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)
      ∧ m' ((c.tc : Thread Cert.FfnDownRefIdeal.nD Cert.FfnDownRefIdeal.τ).loc Cert.FfnDownRefIdeal.main_arg4) = m ((c.tc : Thread Cert.FfnDownIdeal.nD Cert.FfnDownIdeal.τ).loc Cert.FfnDownIdeal.main_arg4)) →
    ∃ (v0 : (c : Dev Cert.FfnDownIdeal.nD) → Buf (Elt Ideal) ((c.tc : Thread Cert.FfnDownIdeal.nD Cert.FfnDownIdeal.τ).loc Cert.FfnDownIdeal.main_v8_0)) (v1 : (c : Dev Cert.FfnDownIdeal.nD) → Buf (Elt Ideal) ((c.tc : Thread Cert.FfnDownIdeal.nD Cert.FfnDownIdeal.τ).loc Cert.FfnDownIdeal.main_v8_1)) (v2 : (c : Dev Cert.FfnDownIdeal.nD) → Buf (Elt Ideal) ((c.tc : Thread Cert.FfnDownIdeal.nD Cert.FfnDownIdeal.τ).loc Cert.FfnDownIdeal.main_v8_2)) (v3 : (c : Dev Cert.FfnDownIdeal.nD) → Buf (Elt Ideal) ((c.tc : Thread Cert.FfnDownIdeal.nD Cert.FfnDownIdeal.τ).loc Cert.FfnDownIdeal.main_v8_3)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v8_0) = v0 c
          ∧ r.2.mem ((c.tc : Thread Cert.FfnDownIdeal.nD Cert.FfnDownIdeal.τ).loc Cert.FfnDownIdeal.main_v8_1) = v1 c
          ∧ r.2.mem ((c.tc : Thread Cert.FfnDownIdeal.nD Cert.FfnDownIdeal.τ).loc Cert.FfnDownIdeal.main_v8_2) = v2 c
          ∧ r.2.mem ((c.tc : Thread Cert.FfnDownIdeal.nD Cert.FfnDownIdeal.τ).loc Cert.FfnDownIdeal.main_v8_3) = v3 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v61) = v0 c
          ∧ r.2.mem ((c.tc : Thread Cert.FfnDownRefIdeal.nD Cert.FfnDownRefIdeal.τ).loc Cert.FfnDownRefIdeal.main_v63) = v1 c
          ∧ r.2.mem ((c.tc : Thread Cert.FfnDownRefIdeal.nD Cert.FfnDownRefIdeal.τ).loc Cert.FfnDownRefIdeal.main_v64) = v2 c
          ∧ r.2.mem ((c.tc : Thread Cert.FfnDownRefIdeal.nD Cert.FfnDownRefIdeal.τ).loc Cert.FfnDownRefIdeal.main_v65) = v3 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3)
          ∧ r.2.mem ((c.tc : Thread Cert.FfnDownRefIdeal.nD Cert.FfnDownRefIdeal.τ).loc Cert.FfnDownRefIdeal.main_arg4) = m' ((c.tc : Thread Cert.FfnDownRefIdeal.nD Cert.FfnDownRefIdeal.τ).loc Cert.FfnDownRefIdeal.main_arg4))

def preserves_AttnBwd_AttnBwdIdeal : Prop :=
  True

def algebraic_AttnBwdIdeal_AttnRefIdeal_pre_attn_finite [hAttnBwdIdeal : Cert.AttnBwdIdeal.Facts] [hAttnRefIdeal : Cert.AttnRefIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnBwdIdeal_attn_finite m →
    (∀ c : Dev Cert.AttnBwdIdeal.nD,
      m' ((c.tc : Thread Cert.AttnRefIdeal.nD Cert.AttnRefIdeal.τ).loc Cert.AttnRefIdeal.main_arg0) = m ((c.tc : Thread Cert.AttnBwdIdeal.nD Cert.AttnBwdIdeal.τ).loc Cert.AttnBwdIdeal.main_arg0)
      ∧ m' ((c.tc : Thread Cert.AttnRefIdeal.nD Cert.AttnRefIdeal.τ).loc Cert.AttnRefIdeal.main_arg1) = m ((c.tc : Thread Cert.AttnBwdIdeal.nD Cert.AttnBwdIdeal.τ).loc Cert.AttnBwdIdeal.main_arg1)
      ∧ m' ((c.tc : Thread Cert.AttnRefIdeal.nD Cert.AttnRefIdeal.τ).loc Cert.AttnRefIdeal.main_arg2) = m ((c.tc : Thread Cert.AttnBwdIdeal.nD Cert.AttnBwdIdeal.τ).loc Cert.AttnBwdIdeal.main_arg2)) →
    ∃ (v0 : (c : Dev Cert.AttnBwdIdeal.nD) → Buf (Elt Ideal) ((c.tc : Thread Cert.AttnBwdIdeal.nD Cert.AttnBwdIdeal.τ).loc Cert.AttnBwdIdeal.main_v184_0)) (v1 : (c : Dev Cert.AttnBwdIdeal.nD) → Buf (Elt Ideal) ((c.tc : Thread Cert.AttnBwdIdeal.nD Cert.AttnBwdIdeal.τ).loc Cert.AttnBwdIdeal.main_v184_1)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v184_0) = v0 c
          ∧ r.2.mem ((c.tc : Thread Cert.AttnBwdIdeal.nD Cert.AttnBwdIdeal.τ).loc Cert.AttnBwdIdeal.main_v184_1) = v1 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v292) = v0 c
          ∧ r.2.mem ((c.tc : Thread Cert.AttnRefIdeal.nD Cert.AttnRefIdeal.τ).loc Cert.AttnRefIdeal.main_v294) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_AttnFwd_AttnFwdIdeal : Prop :=
  IdealRules.named_const.Statement Cert.AttnFwdIdeal.κ "mask" .f32 0xF149F2CA#32 ⊥

def algebraic_AttnFwdIdeal_AttnFwdRefIdeal_pre_attn_fwd_finite [hAttnFwdIdeal : Cert.AttnFwdIdeal.Facts] [hAttnFwdRefIdeal : Cert.AttnFwdRefIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attn_fwd_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v83_0)) (v1 : (c : Dev Cert.AttnFwdIdeal.nD) → Buf (Elt Ideal) ((c.tc : Thread Cert.AttnFwdIdeal.nD Cert.AttnFwdIdeal.τ).loc Cert.AttnFwdIdeal.main_v83_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v83_0) = v0 c
          ∧ r.2.mem ((c.tc : Thread Cert.AttnFwdIdeal.nD Cert.AttnFwdIdeal.τ).loc Cert.AttnFwdIdeal.main_v83_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v166) = v0 c
          ∧ r.2.mem ((c.tc : Thread Cert.AttnFwdRefIdeal.nD Cert.AttnFwdRefIdeal.τ).loc Cert.AttnFwdRefIdeal.main_v167) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def preserves_DwProj_DwProjIdeal : Prop :=
  True

def algebraic_DwProjIdeal_DwProjRefIdeal [hDwProjIdeal : Cert.DwProjIdeal.Facts] [hDwProjRefIdeal : Cert.DwProjRefIdeal.Facts] : Prop :=
  ∀ (m : (ℓ : Loc Cert.DwProjIdeal.nD Cert.DwProjIdeal.τ Cert.DwProjIdeal.sig) → Buf (Elt Ideal) ℓ) (g : Dev Cert.DwProjIdeal.nD → PrngReg)
    (m' : (ℓ : Loc Cert.DwProjRefIdeal.nD Cert.DwProjRefIdeal.τ Cert.DwProjRefIdeal.sig) → Buf (Elt Ideal) ℓ) (g' : Dev Cert.DwProjRefIdeal.nD → PrngReg), Pre_DwProjIdeal m →
    (∀ c : Dev Cert.DwProjIdeal.nD,
      m' ((c.tc : Thread Cert.DwProjRefIdeal.nD Cert.DwProjRefIdeal.τ).loc Cert.DwProjRefIdeal.main_arg0) = m ((c.tc : Thread Cert.DwProjIdeal.nD Cert.DwProjIdeal.τ).loc Cert.DwProjIdeal.main_arg0)
      ∧ m' ((c.tc : Thread Cert.DwProjRefIdeal.nD Cert.DwProjRefIdeal.τ).loc Cert.DwProjRefIdeal.main_arg1) = m ((c.tc : Thread Cert.DwProjIdeal.nD Cert.DwProjIdeal.τ).loc Cert.DwProjIdeal.main_arg1)) →
    ∃ (v0 : (c : Dev Cert.DwProjIdeal.nD) → Buf (Elt Ideal) ((c.tc : Thread Cert.DwProjIdeal.nD Cert.DwProjIdeal.τ).loc Cert.DwProjIdeal.main_v6)),
      θ_run (Cert.DwProjIdeal.defs (F := Ideal)) (onTc (τ := Cert.DwProjIdeal.τ) (Cert.DwProjIdeal.main (F := Ideal))) ⟨m, fun _ => 0, g⟩ (fun r => ∀ c : Dev Cert.DwProjIdeal.nD,
          r.2.mem ((c.tc : Thread Cert.DwProjIdeal.nD Cert.DwProjIdeal.τ).loc Cert.DwProjIdeal.main_v6) = v0 c
          ∧ r.2.mem ((c.tc : Thread Cert.DwProjIdeal.nD Cert.DwProjIdeal.τ).loc Cert.DwProjIdeal.main_arg0) = m ((c.tc : Thread Cert.DwProjIdeal.nD Cert.DwProjIdeal.τ).loc Cert.DwProjIdeal.main_arg0)
          ∧ r.2.mem ((c.tc : Thread Cert.DwProjIdeal.nD Cert.DwProjIdeal.τ).loc Cert.DwProjIdeal.main_arg1) = m ((c.tc : Thread Cert.DwProjIdeal.nD Cert.DwProjIdeal.τ).loc Cert.DwProjIdeal.main_arg1))
      ∧ θ_run (Cert.DwProjRefIdeal.defs (F := Ideal)) (onTc (τ := Cert.DwProjRefIdeal.τ) (Cert.DwProjRefIdeal.main (F := Ideal))) ⟨m', fun _ => 0, g'⟩ (fun r => ∀ c : Dev Cert.DwProjRefIdeal.nD,
          r.2.mem ((c.tc : Thread Cert.DwProjRefIdeal.nD Cert.DwProjRefIdeal.τ).loc Cert.DwProjRefIdeal.main_v6) = v0 c
          ∧ r.2.mem ((c.tc : Thread Cert.DwProjRefIdeal.nD Cert.DwProjRefIdeal.τ).loc Cert.DwProjRefIdeal.main_arg0) = m' ((c.tc : Thread Cert.DwProjRefIdeal.nD Cert.DwProjRefIdeal.τ).loc Cert.DwProjRefIdeal.main_arg0)
          ∧ r.2.mem ((c.tc : Thread Cert.DwProjRefIdeal.nD Cert.DwProjRefIdeal.τ).loc Cert.DwProjRefIdeal.main_arg1) = m' ((c.tc : Thread Cert.DwProjRefIdeal.nD Cert.DwProjRefIdeal.τ).loc Cert.DwProjRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v6)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v6) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v6) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v6)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v6) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v8) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def Claim : Prop :=
  ∃ (hFfnIn : Cert.FfnIn.Facts) (hFfnInIdeal : Cert.FfnInIdeal.Facts) (hFfnInRefIdeal : Cert.FfnInRefIdeal.Facts) (hInBwd : Cert.InBwd.Facts) (hInBwdIdeal : Cert.InBwdIdeal.Facts) (hInBwdRefIdeal : Cert.InBwdRefIdeal.Facts) (hFfnDown : Cert.FfnDown.Facts) (hFfnDownIdeal : Cert.FfnDownIdeal.Facts) (hFfnDownRefIdeal : Cert.FfnDownRefIdeal.Facts) (hAttnBwd : Cert.AttnBwd.Facts) (hAttnBwdIdeal : Cert.AttnBwdIdeal.Facts) (hAttnRefIdeal : Cert.AttnRefIdeal.Facts) (hAttnFwd : Cert.AttnFwd.Facts) (hAttnFwdIdeal : Cert.AttnFwdIdeal.Facts) (hAttnFwdRefIdeal : Cert.AttnFwdRefIdeal.Facts) (hDwProj : Cert.DwProj.Facts) (hDwProjIdeal : Cert.DwProjIdeal.Facts) (hDwProjRefIdeal : Cert.DwProjRefIdeal.Facts) (hDwDown : Cert.DwDown.Facts) (hDwDownIdeal : Cert.DwDownIdeal.Facts) (hDwDownRefIdeal : Cert.DwDownRefIdeal.Facts) (hDwUp : Cert.DwUp.Facts) (hDwUpIdeal : Cert.DwUpIdeal.Facts) (hDwUpRefIdeal : Cert.DwUpRefIdeal.Facts) (hPre_ffn_in_finite : Cert.Pre_ffn_in_finite.Facts) (hPre_in_finite : Cert.Pre_in_finite.Facts) (hPre_down_finite : Cert.Pre_down_finite.Facts) (hPre_attn_finite : Cert.Pre_attn_finite.Facts) (hPre_attn_fwd_finite : Cert.Pre_attn_fwd_finite.Facts),
    quiescent_FfnIn (hFfnIn := hFfnIn)
    ∧ quiescent_FfnInIdeal (hFfnInIdeal := hFfnInIdeal)
    ∧ quiescent_FfnInIdeal_pre_ffn_in_finite (hFfnInIdeal := hFfnInIdeal) (hPre_ffn_in_finite := hPre_ffn_in_finite)
    ∧ quiescent_FfnInRefIdeal (hFfnInRefIdeal := hFfnInRefIdeal)
    ∧ quiescent_FfnInRefIdeal_pre_ffn_in_finite (hFfnInRefIdeal := hFfnInRefIdeal) (hPre_ffn_in_finite := hPre_ffn_in_finite)
    ∧ quiescent_InBwd (hInBwd := hInBwd)
    ∧ quiescent_InBwdIdeal (hInBwdIdeal := hInBwdIdeal)
    ∧ quiescent_InBwdIdeal_pre_in_finite (hInBwdIdeal := hInBwdIdeal) (hPre_in_finite := hPre_in_finite)
    ∧ quiescent_InBwdRefIdeal (hInBwdRefIdeal := hInBwdRefIdeal)
    ∧ quiescent_InBwdRefIdeal_pre_in_finite (hInBwdRefIdeal := hInBwdRefIdeal) (hPre_in_finite := hPre_in_finite)
    ∧ quiescent_FfnDown (hFfnDown := hFfnDown)
    ∧ quiescent_FfnDownIdeal (hFfnDownIdeal := hFfnDownIdeal)
    ∧ quiescent_FfnDownIdeal_pre_down_finite (hFfnDownIdeal := hFfnDownIdeal) (hPre_down_finite := hPre_down_finite)
    ∧ quiescent_FfnDownRefIdeal (hFfnDownRefIdeal := hFfnDownRefIdeal)
    ∧ quiescent_FfnDownRefIdeal_pre_down_finite (hFfnDownRefIdeal := hFfnDownRefIdeal) (hPre_down_finite := hPre_down_finite)
    ∧ quiescent_AttnBwd (hAttnBwd := hAttnBwd)
    ∧ quiescent_AttnBwdIdeal (hAttnBwdIdeal := hAttnBwdIdeal)
    ∧ quiescent_AttnBwdIdeal_pre_attn_finite (hAttnBwdIdeal := hAttnBwdIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_AttnFwd (hAttnFwd := hAttnFwd)
    ∧ quiescent_AttnFwdIdeal (hAttnFwdIdeal := hAttnFwdIdeal)
    ∧ quiescent_AttnFwdIdeal_pre_attn_fwd_finite (hAttnFwdIdeal := hAttnFwdIdeal) (hPre_attn_fwd_finite := hPre_attn_fwd_finite)
    ∧ quiescent_AttnFwdRefIdeal (hAttnFwdRefIdeal := hAttnFwdRefIdeal)
    ∧ quiescent_AttnFwdRefIdeal_pre_attn_fwd_finite (hAttnFwdRefIdeal := hAttnFwdRefIdeal) (hPre_attn_fwd_finite := hPre_attn_fwd_finite)
    ∧ quiescent_DwProj (hDwProj := hDwProj)
    ∧ quiescent_DwProjIdeal (hDwProjIdeal := hDwProjIdeal)
    ∧ quiescent_DwProjRefIdeal (hDwProjRefIdeal := hDwProjRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ preserves_FfnIn_FfnInIdeal
    ∧ algebraic_FfnInIdeal_FfnInRefIdeal_pre_ffn_in_finite (hFfnInIdeal := hFfnInIdeal) (hFfnInRefIdeal := hFfnInRefIdeal) (hPre_ffn_in_finite := hPre_ffn_in_finite)
    ∧ preserves_InBwd_InBwdIdeal
    ∧ algebraic_InBwdIdeal_InBwdRefIdeal_pre_in_finite (hInBwdIdeal := hInBwdIdeal) (hInBwdRefIdeal := hInBwdRefIdeal) (hPre_in_finite := hPre_in_finite)
    ∧ preserves_FfnDown_FfnDownIdeal
    ∧ algebraic_FfnDownIdeal_FfnDownRefIdeal_pre_down_finite (hFfnDownIdeal := hFfnDownIdeal) (hFfnDownRefIdeal := hFfnDownRefIdeal) (hPre_down_finite := hPre_down_finite)
    ∧ preserves_AttnBwd_AttnBwdIdeal
    ∧ algebraic_AttnBwdIdeal_AttnRefIdeal_pre_attn_finite (hAttnBwdIdeal := hAttnBwdIdeal) (hAttnRefIdeal := hAttnRefIdeal) (hPre_attn_finite := hPre_attn_finite)
    ∧ preserves_AttnFwd_AttnFwdIdeal
    ∧ algebraic_AttnFwdIdeal_AttnFwdRefIdeal_pre_attn_fwd_finite (hAttnFwdIdeal := hAttnFwdIdeal) (hAttnFwdRefIdeal := hAttnFwdRefIdeal) (hPre_attn_fwd_finite := hPre_attn_fwd_finite)
    ∧ preserves_DwProj_DwProjIdeal
    ∧ algebraic_DwProjIdeal_DwProjRefIdeal (hDwProjIdeal := hDwProjIdeal) (hDwProjRefIdeal := hDwProjRefIdeal)
    ∧ preserves_DwDown_DwDownIdeal
    ∧ algebraic_DwDownIdeal_DwDownRefIdeal (hDwDownIdeal := hDwDownIdeal) (hDwDownRefIdeal := hDwDownRefIdeal)
    ∧ preserves_DwUp_DwUpIdeal
    ∧ algebraic_DwUpIdeal_DwUpRefIdeal (hDwUpIdeal := hDwUpIdeal) (hDwUpRefIdeal := hDwUpRefIdeal)
-- ==== Pre_attn_finite.lean ====
abbrev S1x4112x1280 : Shape := ⟨3, ![1, 4112, 1280]⟩
abbrev S1x16 : Shape := ⟨2, ![1, 16]⟩
abbrev S1x4112x1024 : Shape := ⟨3, ![1, 4112, 1024]⟩
abbrev S_ : Shape := ⟨0, ![]⟩

class Facts : Prop where
  bcast_S_S1x4112x1280 : S_.BroadcastsInDim S1x4112x1280 (![] : Fin 0 → Fin S1x4112x1280.rank)
  bcast_S_S1x16 : S_.BroadcastsInDim S1x16 (![] : Fin 0 → Fin S1x16.rank)
  bcast_S_S1x4112x1024 : S_.BroadcastsInDim S1x4112x1024 (![] : Fin 0 → Fin S1x4112x1024.rank)

variable [Facts]

def fn {F : FTy → Type} [FloatOps F] (main_arg0 : FVec F S1x4112x1280 .f32) (main_arg1 : FVec F S1x16 .f32) (main_arg2 : FVec F S1x4112x1024 .f32) : IVec S1x4112x1280 1 × IVec S1x16 1 × IVec S1x4112x1024 1 :=
  let main_v0 : FVec F S1x4112x1280 .f32 := Host.absf main_arg0
  let main_cst : FVec F S_ .f32 := constant S_ .f32 0x7F800000#32
  let main_v1 : FVec F S1x4112x1280 .f32 := broadcastInDim S1x4112x1280 ![] bcast_S_S1x4112x1280 main_cst
  let main_v2 : IVec S1x4112x1280 1 := cmpf .olt main_v0 main_v1
  let main_v3 : FVec F S1x16 .f32 := Host.absf main_arg1
  let main_cst_0 : FVec F S_ .f32 := constant S_ .f32 0x7F800000#32
  let main_v4 : FVec F S1x16 .f32 := broadcastInDim S1x16 ![] bcast_S_S1x16 main_cst_0
  let main_v5 : IVec S1x16 1 := cmpf .olt main_v3 main_v4
  let main_v6 : FVec F S1x4112x1024 .f32 := Host.absf main_arg2
  let main_cst_1 : FVec F S_ .f32 := constant S_ .f32 0x7F800000#32
  let main_v7 : FVec F S1x4112x1024 .f32 := broadcastInDim S1x4112x1024 ![] bcast_S_S1x4112x1024 main_cst_1
  let main_v8 : IVec S1x4112x1024 1 := cmpf .olt main_v6 main_v7
  (main_v2, main_v5, main_v8)
-- ==== Pre_attn_fwd_finite.lean ====
abbrev S1x4112x1280 : Shape := ⟨3, ![1, 4112, 1280]⟩
abbrev S1x16 : Shape := ⟨2, ![1, 16]⟩
abbrev S_ : Shape := ⟨0, ![]⟩

class Facts : Prop where
  bcast_S_S1x4112x1280 : S_.BroadcastsInDim S1x4112x1280 (![] : Fin 0 → Fin S1x4112x1280.rank)
  bcast_S_S1x16 : S_.BroadcastsInDim S1x16 (![] : Fin 0 → Fin S1x16.rank)

variable [Facts]

def fn {F : FTy → Type} [FloatOps F] (main_arg0 : FVec F S1x4112x1280 .f32) (main_arg1 : FVec F S1x16 .f32) : IVec S1x4112x1280 1 × IVec S1x16 1 :=
  let main_v0 : FVec F S1x4112x1280 .f32 := Host.absf main_arg0
  let main_cst : FVec F S_ .f32 := constant S_ .f32 0x7F800000#32
  let main_v1 : FVec F S1x4112x1280 .f32 := broadcastInDim S1x4112x1280 ![] bcast_S_S1x4112x1280 main_cst
  let main_v2 : IVec S1x4112x1280 1 := cmpf .olt main_v0 main_v1
  let main_v3 : FVec F S1x16 .f32 := Host.absf main_arg1
  let main_cst_0 : FVec F S_ .f32 := constant S_ .f32 0x7F800000#32
  let main_v4 : FVec F S1x16 .f32 := broadcastInDim S1x16 ![] bcast_S_S1x16 main_cst_0
  let main_v5 : IVec S1x16 1 := cmpf .olt main_v3 main_v4
  (main_v2, main_v5)
-- ==== Pre_down_finite.lean ====
abbrev S1x4112x1024 : Shape := ⟨3, ![1, 4112, 1024]⟩
abbrev S1x4112x2816 : Shape := ⟨3, ![1, 4112, 2816]⟩
abbrev S1x1024 : Shape := ⟨2, ![1, 1024]⟩
abbrev S1x2816x1024 : Shape := ⟨3, ![1, 2816, 1024]⟩
abbrev S1x4096x1024 : Shape := ⟨3, ![1, 4096, 1024]⟩
abbrev S_ : Shape := ⟨0, ![]⟩

class Facts : Prop where
  bcast_S_S1x4112x1024 : S_.BroadcastsInDim S1x4112x1024 (![] : Fin 0 → Fin S1x4112x1024.rank)
  bcast_S_S1x4112x2816 : S_.BroadcastsInDim S1x4112x2816 (![] : Fin 0 → Fin S1x4112x2816.rank)
  bcast_S_S1x1024 : S_.BroadcastsInDim S1x1024 (![] : Fin 0 → Fin S1x1024.rank)
  bcast_S_S1x2816x1024 : S_.BroadcastsInDim S1x2816x1024 (![] : Fin 0 → Fin S1x2816x1024.rank)
  bcast_S_S1x4096x1024 : S_.BroadcastsInDim S1x4096x1024 (![] : Fin 0 → Fin S1x4096x1024.rank)

variable [Facts]

def fn {F : FTy → Type} [FloatOps F] (main_arg0 : FVec F S1x4112x1024 .f32) (main_arg1 : FVec F S1x4112x2816 .f32) (main_arg2 : FVec F S1x1024 .f32) (main_arg3 : FVec F S1x2816x1024 .f32) (main_arg4 : FVec F S1x4096x1024 .f32) : IVec S1x4112x1024 1 × IVec S1x4112x2816 1 × IVec S1x1024 1 × IVec S1x2816x1024 1 × IVec S1x4096x1024 1 :=
  let main_v0 : FVec F S1x4112x1024 .f32 := Host.absf main_arg0
  let main_cst : FVec F S_ .f32 := constant S_ .f32 0x7F800000#32
  let main_v1 : FVec F S1x4112x1024 .f32 := broadcastInDim S1x4112x1024 ![] bcast_S_S1x4112x1024 main_cst
  let main_v2 : IVec S1x4112x1024 1 := cmpf .olt main_v0 main_v1
  let main_v3 : FVec F S1x4112x2816 .f32 := Host.absf main_arg1
  let main_cst_0 : FVec F S_ .f32 := constant S_ .f32 0x7F800000#32
  let main_v4 : FVec F S1x4112x2816 .f32 := broadcastInDim S1x4112x2816 ![] bcast_S_S1x4112x2816 main_cst_0
  let main_v5 : IVec S1x4112x2816 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x2816x1024 .f32 := Host.absf main_arg3
  let main_cst_2 : FVec F S_ .f32 := constant S_ .f32 0x7F800000#32
  let main_v10 : FVec F S1x2816x1024 .f32 := broadcastInDim S1x2816x1024 ![] bcast_S_S1x2816x1024 main_cst_2
  let main_v11 : IVec S1x2816x1024 1 := cmpf .olt main_v9 main_v10
  let main_v12 : FVec F S1x4096x1024 .f32 := Host.absf main_arg4
  let main_cst_3 : FVec F S_ .f32 := constant S_ .f32 0x7F800000#32
  let main_v13 : FVec F S1x4096x1024 .f32 := broadcastInDim S1x4096x1024 ![] bcast_S_S1x4096x1024 main_cst_3
  let main_v14 : IVec S1x4096x1024 1 := cmpf .olt main_v12 main_v13
  (main_v2, main_v5, main_v8, main_v11, main_v14)
-- ==== Pre_ffn_in_finite.lean ====
abbrev S1x4112x1024 : Shape := ⟨3, ![1, 4112, 1024]⟩
abbrev S1x1024 : Shape := ⟨2, ![1, 1024]⟩
abbrev S1x1024x5632 : Shape := ⟨3, ![1, 1024, 5632]⟩
abbrev S1x4112x5632 : Shape := ⟨3, ![1, 4112, 5632]⟩
abbrev S_ : Shape := ⟨0, ![]⟩

class Facts : Prop where
  bcast_S_S1x4112x1024 : S_.BroadcastsInDim S1x4112x1024 (![] : Fin 0 → Fin S1x4112x1024.rank)
  bcast_S_S1x1024 : S_.BroadcastsInDim S1x1024 (![] : Fin 0 → Fin S1x1024.rank)
  bcast_S_S1x1024x5632 : S_.BroadcastsInDim S1x1024x5632 (![] : Fin 0 → Fin S1x1024x5632.rank)
  bcast_S_S1x4112x5632 : S_.BroadcastsInDim S1x4112x5632 (![] : Fin 0 → Fin S1x4112x5632.rank)

variable [Facts]

def fn_part1 {F : FTy → Type} [FloatOps F] (main_arg6 : FVec F S1x4112x5632 .f32) (main_v2 : IVec S1x4112x1024 1) (main_v5 : IVec S1x4112x1024 1) (main_v8 : IVec S1x1024 1) (main_v11 : IVec S1x1024 1) (main_v14 : IVec S1x1024x5632 1) (main_v17 : IVec S1x4112x1024 1) : IVec S1x4112x1024 1 × IVec S1x4112x1024 1 × IVec S1x1024 1 × IVec S1x1024 1 × IVec S1x1024x5632 1 × IVec S1x4112x1024 1 × IVec S1x4112x5632 1 :=
  let main_v18 : FVec F S1x4112x5632 .f32 := Host.absf main_arg6
  let main_cst_5 : FVec F S_ .f32 := constant S_ .f32 0x7F800000#32
  let main_v19 : FVec F S1x4112x5632 .f32 := broadcastInDim S1x4112x5632 ![] bcast_S_S1x4112x5632 main_cst_5
  let main_v20 : IVec S1x4112x5632 1 := cmpf .olt main_v18 main_v19
  (main_v2, main_v5, main_v8, main_v11, main_v14, main_v17, main_v20)

def fn {F : FTy → Type} [FloatOps F] (main_arg0 : FVec F S1x4112x1024 .f32) (main_arg1 : FVec F S1x4112x1024 .f32) (main_arg2 : FVec F S1x1024 .f32) (main_arg3 : FVec F S1x1024 .f32) (main_arg4 : FVec F S1x1024x5632 .f32) (main_arg5 : FVec F S1x4112x1024 .f32) (main_arg6 : FVec F S1x4112x5632 .f32) : IVec S1x4112x1024 1 × IVec S1x4112x1024 1 × IVec S1x1024 1 × IVec S1x1024 1 × IVec S1x1024x5632 1 × IVec S1x4112x1024 1 × IVec S1x4112x5632 1 :=
  let main_v0 : FVec F S1x4112x1024 .f32 := Host.absf main_arg0
  let main_cst : FVec F S_ .f32 := constant S_ .f32 0x7F800000#32
  let main_v1 : FVec F S1x4112x1024 .f32 := broadcastInDim S1x4112x1024 ![] bcast_S_S1x4112x1024 main_cst
  let main_v2 : IVec S1x4112x1024 1 := cmpf .olt main_v0 main_v1
  let main_v3 : FVec F S1x4112x1024 .f32 := Host.absf main_arg1
  let main_cst_0 : FVec F S_ .f32 := constant S_ .f32 0x7F800000#32
  let main_v4 : FVec F S1x4112x1024 .f32 := broadcastInDim S1x4112x1024 ![] bcast_S_S1x4112x1024 main_cst_0
  let main_v5 : IVec S1x4112x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024x5632 .f32 := Host.absf main_arg4
  let main_cst_3 : FVec F S_ .f32 := constant S_ .f32 0x7F800000#32
  let main_v13 : FVec F S1x1024x5632 .f32 := broadcastInDim S1x1024x5632 ![] bcast_S_S1x1024x5632 main_cst_3
  let main_v14 : IVec S1x1024x5632 1 := cmpf .olt main_v12 main_v13
  let main_v15 : FVec F S1x4112x1024 .f32 := Host.absf main_arg5
  let main_cst_4 : FVec F S_ .f32 := constant S_ .f32 0x7F800000#32
  let main_v16 : FVec F S1x4112x1024 .f32 := broadcastInDim S1x4112x1024 ![] bcast_S_S1x4112x1024 main_cst_4
  let main_v17 : IVec S1x4112x1024 1 := cmpf .olt main_v15 main_v16
  fn_part1 (F := F) main_arg6 main_v2 main_v5 main_v8 main_v11 main_v14 main_v17
-- ==== Pre_in_finite.lean ====
abbrev S1x4096x1024 : Shape := ⟨3, ![1, 4096, 1024]⟩
abbrev S16x1024 : Shape := ⟨2, ![16, 1024]⟩
abbrev S1x1024 : Shape := ⟨2, ![1, 1024]⟩
abbrev S1x1024x5376 : Shape := ⟨3, ![1, 1024, 5376]⟩
abbrev S1x5376 : Shape := ⟨2, ![1, 5376]⟩
abbrev S1x4112x1024 : Shape := ⟨3, ![1, 4112, 1024]⟩
abbrev S1x4112x5376 : Shape := ⟨3, ![1, 4112, 5376]⟩
abbrev S_ : Shape := ⟨0, ![]⟩

class Facts : Prop where
  bcast_S_S1x4096x1024 : S_.BroadcastsInDim S1x4096x1024 (![] : Fin 0 → Fin S1x4096x1024.rank)
  bcast_S_S16x1024 : S_.BroadcastsInDim S16x1024 (![] : Fin 0 → Fin S16x1024.rank)
  bcast_S_S1x1024 : S_.BroadcastsInDim S1x1024 (![] : Fin 0 → Fin S1x1024.rank)
  bcast_S_S1x1024x5376 : S_.BroadcastsInDim S1x1024x5376 (![] : Fin 0 → Fin S1x1024x5376.rank)
  bcast_S_S1x4112x5376 : S_.BroadcastsInDim S1x4112x5376 (![] : Fin 0 → Fin S1x4112x5376.rank)

variable [Facts]

def fn {F : FTy → Type} [FloatOps F] (main_arg0 : FVec F S1x4096x1024 .f32) (main_arg1 : FVec F S16x1024 .f32) (main_arg2 : FVec F S1x1024 .f32) (main_arg3 : FVec F S1x1024x5376 .f32) (main_arg4 : FVec F S1x5376 .f32) (main_arg5 : FVec F S1x4112x1024 .f32) (main_arg6 : FVec F S1x4112x5376 .f32) : IVec S1x4096x1024 1 × IVec S16x1024 1 × IVec S1x1024 1 × IVec S1x1024x5376 1 × IVec S1x4112x5376 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S16x1024 .f32 := Host.absf main_arg1
  let main_cst_0 : FVec F S_ .f32 := constant S_ .f32 0x7F800000#32
  let main_v4 : FVec F S16x1024 .f32 := broadcastInDim S16x1024 ![] bcast_S_S16x1024 main_cst_0
  let main_v5 : IVec S16x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x5376 .f32 := Host.absf main_arg3
  let main_cst_2 : FVec F S_ .f32 := constant S_ .f32 0x7F800000#32
  let main_v10 : FVec F S1x1024x5376 .f32 := broadcastInDim S1x1024x5376 ![] bcast_S_S1x1024x5376 main_cst_2
  let main_v11 : IVec S1x1024x5376 1 := cmpf .olt main_v9 main_v10
  let main_v12 : FVec F S1x4112x5376 .f32 := Host.absf main_arg6
  let main_cst_3 : FVec F S_ .f32 := constant S_ .f32 0x7F800000#32
  let main_v13 : FVec F S1x4112x5376 .f32 := broadcastInDim S1x4112x5376 ![] bcast_S_S1x4112x5376 main_cst_3
  let main_v14 : IVec S1x4112x5376 1 := cmpf .olt main_v12 main_v13
  (main_v2, main_v5, main_v8, main_v11, main_v14)
-- ==== FfnIn.lean ====
abbrev S1x4112x1024 : Shape := ⟨3, ![1, 4112, 1024]⟩
abbrev S1x1024 : Shape := ⟨2, ![1, 1024]⟩
abbrev S1x1024x5632 : Shape := ⟨3, ![1, 1024, 5632]⟩
abbrev S1x4112x5632 : Shape := ⟨3, ![1, 4112, 5632]⟩
abbrev S4112x1024 : Shape := ⟨2, ![4112, 1024]⟩
abbrev S1024 : Shape := ⟨1, ![1024]⟩
abbrev S_ : Shape := ⟨0, ![]⟩
abbrev S4112 : Shape := ⟨1, ![4112]⟩
abbrev S4112x1 : Shape := ⟨2, ![4112, 1]⟩
abbrev S4112x5632 : Shape := ⟨2, ![4112, 5632]⟩
abbrev S4224x5632 : Shape := ⟨2, ![4224, 5632]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S4224x1024 : Shape := ⟨2, ![4224, 1024]⟩
abbrev S384x5632 : Shape := ⟨2, ![384, 5632]⟩
abbrev S384x1024 : Shape := ⟨2, ![384, 1024]⟩
abbrev S384x1408 : Shape := ⟨2, ![384, 1408]⟩
abbrev S1x1024x1408 : Shape := ⟨3, ![1, 1024, 1408]⟩
abbrev S1024x1408 : Shape := ⟨2, ![1024, 1408]⟩
abbrev S384 : Shape := ⟨1, ![384]⟩
abbrev S384x1 : Shape := ⟨2, ![384, 1]⟩

abbrev nBuf : Space → Nat
  | .hbm => 52
  | .vmem => 17
  | .smem => 0
  | _ => 0

abbrev bufTy : (tb : Table) → Fin (tcTables nBuf tb) → BufTy
  | .hbm, ⟨0, _⟩ => ⟨S1x4112x1024, .f32⟩
  | .hbm, ⟨1, _⟩ => ⟨S1x4112x1024, .f32⟩
  | .hbm, ⟨2, _⟩ => ⟨S1x1024, .f32⟩
  | .hbm, ⟨3, _⟩ => ⟨S1x1024, .f32⟩
  | .hbm, ⟨4, _⟩ => ⟨S1x1024x5632, .f32⟩
  | .hbm, ⟨5, _⟩ => ⟨S1x4112x1024, .f32⟩
  | .hbm, ⟨6, _⟩ => ⟨S1x4112x5632, .f32⟩
  | .hbm, ⟨7, _⟩ => ⟨S4112x1024, .f32⟩
  | .hbm, ⟨8, _⟩ => ⟨S4112x1024, .f32⟩
  | .hbm, ⟨9, _⟩ => ⟨S1024, .f32⟩
  | .hbm, ⟨10, _⟩ => ⟨S4112x1024, .f32⟩
  | .hbm, ⟨11, _⟩ => ⟨S_, .f32⟩
  | .hbm, ⟨12, _⟩ => ⟨S4112, .f32⟩
  | .hbm, ⟨13, _⟩ => ⟨S4112x1, .f32⟩
  | .hbm, ⟨14, _⟩ => ⟨S_, .f32⟩
  | .hbm, ⟨15, _⟩ => ⟨S4112x1, .f32⟩
  | .hbm, ⟨16, _⟩ => ⟨S4112x1, .f32⟩
  | .hbm, ⟨17, _⟩ => ⟨S_, .f32⟩
  | .hbm, ⟨18, _⟩ => ⟨S4112x1, .f32⟩
  | .hbm, ⟨19, _⟩ => ⟨S4112x1, .f32⟩
  | .hbm, ⟨20, _⟩ => ⟨S4112x1, .f32⟩
  | .hbm, ⟨21, _⟩ => ⟨S4112x1024, .f32⟩
  | .hbm, ⟨22, _⟩ => ⟨S4112x1024, .f32⟩
  | .hbm, ⟨23, _⟩ => ⟨S1x1024, .f32⟩
  | .hbm, ⟨24, _⟩ => ⟨S4112x1024, .f32⟩
  | .hbm, ⟨25, _⟩ => ⟨S4112x1024, .f32⟩
  | .hbm, ⟨26, _⟩ => ⟨S4112x1024, .f32⟩
  | .hbm, ⟨27, _⟩ => ⟨S4112x5632, .f32⟩
  | .hbm, ⟨28, _⟩ => ⟨S_, .i32⟩
  | .hbm, ⟨29, _⟩ => ⟨S_, .f32⟩
  | .hbm, ⟨30, _⟩ => ⟨S4224x5632, .f32⟩
  | .hbm, ⟨31, _⟩ => ⟨S4224x5632, .bf16⟩
  | .hbm, ⟨32, _⟩ => ⟨S1024x5632, .f32⟩
  | .hbm, ⟨33, _⟩ => ⟨S1024x5632, .bf16⟩
  | .hbm, ⟨34, _⟩ => ⟨S1024x4x1408, .bf16⟩
  | .hbm, ⟨35, _⟩ => ⟨S4x1024x1408, .bf16⟩
  | .hbm, ⟨36, _⟩ => ⟨S_, .i32⟩
  | .hbm, ⟨37, _⟩ => ⟨S_, .f32⟩
  | .hbm, ⟨38, _⟩ => ⟨S4224x1024, .f32⟩
  | .hbm, ⟨39, _⟩ => ⟨S4112x1024, .f32⟩
  | .hbm, ⟨40, _⟩ => ⟨S_, .i32⟩
  | .hbm, ⟨41, _⟩ => ⟨S_, .f32⟩
  | .hbm, ⟨42, _⟩ => ⟨S4224x1024, .f32⟩
  | .hbm, ⟨43, _⟩ => ⟨S4112x1024, .f32⟩
  | .hbm, ⟨44, _⟩ => ⟨S_, .i32⟩
  | .hbm, ⟨45, _⟩ => ⟨S_, .f32⟩
  | .hbm, ⟨46, _⟩ => ⟨S4224x1024, .f32⟩
  | .hbm, ⟨47, _⟩ => ⟨S4224x1024, .bf16⟩
  | .hbm, ⟨48, _⟩ => ⟨S4224x1024, .f32⟩
  | .hbm, ⟨49, _⟩ => ⟨S4224x1024, .bf16⟩
  | .hbm, ⟨50, _⟩ => ⟨S1x1024, .f32⟩
  | .hbm, ⟨51, _⟩ => ⟨S1x1024, .f32⟩
  | .local _ .vmem, ⟨0, _⟩ => ⟨S384x5632, .bf16⟩
  | .local _ .vmem, ⟨1, _⟩ => ⟨S384x5632, .bf16⟩
  | .local _ .vmem, ⟨2, _⟩ => ⟨S4x1024x1408, .bf16⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | .local _ .vmem, ⟨7, _⟩ => ⟨S384x1024, .bf16⟩
  | .local _ .vmem, ⟨8, _⟩ => ⟨S384x1024, .bf16⟩
  | .local _ .vmem, ⟨9, _⟩ => ⟨S1x1024, .f32⟩
  | .local _ .vmem, ⟨10, _⟩ => ⟨S1x1024, .f32⟩
  | .local _ .vmem, ⟨11, _⟩ => ⟨S384x1024, .f32⟩
  | .local _ .vmem, ⟨12, _⟩ => ⟨S384x1024, .f32⟩
  | .local _ .vmem, ⟨13, _⟩ => ⟨S384x1024, .bf16⟩
  | .local _ .vmem, ⟨14, _⟩ => ⟨S384x1024, .bf16⟩
  | .local _ .vmem, ⟨15, _⟩ => ⟨S1x1024, .f32⟩
  | .local _ .vmem, ⟨16, _⟩ => ⟨S1x1024, .f32⟩
  | _, _ => ⟨S1x4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_call1_v0 : Ref sig .tc := ⟨.hbm, 37, rfl⟩
abbrev main_v24 : Ref sig .tc := ⟨.hbm, 38, rfl⟩
abbrev main_v25 : Ref sig .tc := ⟨.hbm, 39, rfl⟩
abbrev main_c_3 : Ref sig .tc := ⟨.hbm, 40, rfl⟩
abbrev main_call2_v0 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_call3_v0 : Ref sig .tc := ⟨.hbm, 45, rfl⟩
abbrev main_v28 : Ref sig .tc := ⟨.hbm, 46, rfl⟩
abbrev main_v29 : Ref sig .tc := ⟨.hbm, 47, rfl⟩
abbrev main_v30_0 : Ref sig .tc := ⟨.hbm, 48, rfl⟩
abbrev main_v30_1 : Ref sig .tc := ⟨.hbm, 49, rfl⟩
abbrev main_v30_2 : Ref sig .tc := ⟨.hbm, 50, rfl⟩
abbrev main_v30_3 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnInRefIdeal.lean ====
abbrev S1x4112x1024 : Shape := ⟨3, ![1, 4112, 1024]⟩
abbrev S1x1024 : Shape := ⟨2, ![1, 1024]⟩
abbrev S1x1024x5632 : Shape := ⟨3, ![1, 1024, 5632]⟩
abbrev S1x4112x5632 : Shape := ⟨3, ![1, 4112, 5632]⟩
abbrev S4112x1024 : Shape := ⟨2, ![4112, 1024]⟩
abbrev S1024 : Shape := ⟨1, ![1024]⟩
abbrev S1024x5632 : Shape := ⟨2, ![1024, 5632]⟩
abbrev S_ : Shape := ⟨0, ![]⟩
abbrev S4112 : Shape := ⟨1, ![4112]⟩
abbrev S4112x1 : Shape := ⟨2, ![4112, 1]⟩
abbrev S4112x5632 : Shape := ⟨2, ![4112, 5632]⟩
abbrev S4224x1024 : Shape := ⟨2, ![4224, 1024]⟩

abbrev nBuf : Space → Nat
  | .hbm => 117
  | .vmem => 0
  | .smem => 0
  | _ => 0

abbrev bufTy : (tb : Table) → Fin (tcTables nBuf tb) → BufTy
  | .hbm, ⟨0, _⟩ => ⟨S1x4112x1024, .f32⟩
  | .hbm, ⟨1, _⟩ => ⟨S1x4112x1024, .f32⟩
  | .hbm, ⟨2, _⟩ => ⟨S1x1024, .f32⟩
  | .hbm, ⟨3, _⟩ => ⟨S1x1024, .f32⟩
  | .hbm, ⟨4, _⟩ => ⟨S1x1024x5632, .f32⟩
  | .hbm, ⟨5, _⟩ => ⟨S1x4112x1024, .f32⟩
  | .hbm, ⟨6, _⟩ => ⟨S1x4112x5632, .f32⟩
  | .hbm, ⟨7, _⟩ => ⟨S4112x1024, .f32⟩
  | .hbm, ⟨8, _⟩ => ⟨S4112x1024, .f32⟩
  | .hbm, ⟨9, _⟩ => ⟨S1024, .f32⟩
  | .hbm, ⟨10, _⟩ => ⟨S1024, .f32⟩
  | .hbm, ⟨11, _⟩ => ⟨S1024x5632, .f32⟩
  | .hbm, ⟨12, _⟩ => ⟨S4112x1024, .f32⟩
  | .hbm, ⟨13, _⟩ => ⟨S_, .f32⟩
  | .hbm, ⟨14, _⟩ => ⟨S4112, .f32⟩
  | .hbm, ⟨15, _⟩ => ⟨S4112x1, .f32⟩
  | .hbm, ⟨16, _⟩ => ⟨S_, .f32⟩
  | .hbm, ⟨17, _⟩ => ⟨S4112x1, .f32⟩
  | .hbm, ⟨18, _⟩ => ⟨S4112x1, .f32⟩
  | .hbm, ⟨19, _⟩ => ⟨S_, .f32⟩
  | .hbm, ⟨20, _⟩ => ⟨S4112x1, .f32⟩
  | .hbm, ⟨21, _⟩ => ⟨S4112x1, .f32⟩
  | .hbm, ⟨22, _⟩ => ⟨S4112x1, .f32⟩
  | .hbm, ⟨23, _⟩ => ⟨S4112x1, .f32⟩
  | .hbm, ⟨24, _⟩ => ⟨S_, .f32⟩
  | .hbm, ⟨25, _⟩ => ⟨S4112x1, .f32⟩
  | .hbm, ⟨26, _⟩ => ⟨S4112x1, .f32⟩
  | .hbm, ⟨27, _⟩ => ⟨S4112x1024, .f32⟩
  | .hbm, ⟨28, _⟩ => ⟨S4112x1024, .f32⟩
  | .hbm, ⟨29, _⟩ => ⟨S1x1024, .f32⟩
  | .hbm, ⟨30, _⟩ => ⟨S4112x1024, .f32⟩
  | .hbm, ⟨31, _⟩ => ⟨S4112x1024, .f32⟩
  | .hbm, ⟨32, _⟩ => ⟨S4112x1024, .f32⟩
  | .hbm, ⟨33, _⟩ => ⟨S4112x1024, .f32⟩
  | .hbm, ⟨34, _⟩ => ⟨S_, .f32⟩
  | .hbm, ⟨35, _⟩ => ⟨S4112, .f32⟩
  | .hbm, ⟨36, _⟩ => ⟨S4112x1, .f32⟩
  | .hbm, ⟨37, _⟩ => ⟨S_, .f32⟩
  | .hbm, ⟨38, _⟩ => ⟨S4112x1, .f32⟩
  | .hbm, ⟨39, _⟩ => ⟨S4112x1, .f32⟩
  | .hbm, ⟨40, _⟩ => ⟨S_, .f32⟩
  | .hbm, ⟨41, _⟩ => ⟨S4112x1, .f32⟩
  | .hbm, ⟨42, _⟩ => ⟨S4112x1, .f32⟩
  | .hbm, ⟨43, _⟩ => ⟨S4112x1, .f32⟩
  | .hbm, ⟨44, _⟩ => ⟨S4112x1, .f32⟩
  | .hbm, ⟨45, _⟩ => ⟨S_, .f32⟩
  | .hbm, ⟨46, _⟩ => ⟨S4112x1, .f32⟩
  | .hbm, ⟨47, _⟩ => ⟨S4112x1, .f32⟩
  | .hbm, ⟨48, _⟩ => ⟨S4112x1024, .f32⟩
  | .hbm, ⟨49, _⟩ => ⟨S4112x1024, .f32⟩
  | .hbm, ⟨50, _⟩ => ⟨S1x1024, .f32⟩
  | .hbm, ⟨51, _⟩ => ⟨S4112x1024, .f32⟩
  | .hbm, ⟨52, _⟩ => ⟨S4112x1024, .f32⟩
  | .hbm, ⟨53, _⟩ => ⟨S4112x5632, .f32⟩
  | .hbm, ⟨54, _⟩ => ⟨S4112x1024, .f32⟩
  | .hbm, ⟨55, _⟩ => ⟨S4112x5632, .f32⟩
  | .hbm, ⟨56, _⟩ => ⟨S4112x1024, .f32⟩
  | .hbm, ⟨57, _⟩ => ⟨S4112x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4112x1024, .f32⟩
  | .hbm, ⟨62, _⟩ => ⟨S4112x1024, .f32⟩
  | .hbm, ⟨63, _⟩ => ⟨S_, .f32⟩
  | .hbm, ⟨64, _⟩ => ⟨S1024, .f32⟩
  | .hbm, ⟨65, _⟩ => ⟨S4112x1024, .f32⟩
  | .hbm, ⟨66, _⟩ => ⟨S_, .f32⟩
  | .hbm, ⟨67, _⟩ => ⟨S4112, .f32⟩
  | .hbm, ⟨68, _⟩ => ⟨S4112x1, .f32⟩
  | .hbm, ⟨69, _⟩ => ⟨S4112x1024, .f32⟩
  | .hbm, ⟨70, _⟩ => ⟨S4112x1024, .f32⟩
  | .hbm, ⟨71, _⟩ => ⟨S4112x1024, .f32⟩
  | .hbm, ⟨72, _⟩ => ⟨S4112x1, .f32⟩
  | .hbm, ⟨73, _⟩ => ⟨S_, .f32⟩
  | .hbm, ⟨74, _⟩ => ⟨S4112x1, .f32⟩
  | .hbm, ⟨75, _⟩ => ⟨S4112x1, .f32⟩
  | .hbm, ⟨76, _⟩ => ⟨S_, .f32⟩
  | .hbm, ⟨77, _⟩ => ⟨S4112, .f32⟩
  | .hbm, ⟨78, _⟩ => ⟨S4112x1024, .f32⟩
  | .hbm, ⟨79, _⟩ => ⟨S4112x1024, .f32⟩
  | .hbm, ⟨80, _⟩ => ⟨S4112x1024, .f32⟩
  | .hbm, ⟨81, _⟩ => ⟨S4112x1024, .f32⟩
  | .hbm, ⟨82, _⟩ => ⟨S4112x1024, .f32⟩
  | .hbm, ⟨83, _⟩ => ⟨S4112x1024, .f32⟩
  | .hbm, ⟨84, _⟩ => ⟨S_, .f32⟩
  | .hbm, ⟨85, _⟩ => ⟨S1024, .f32⟩
  | .hbm, ⟨86, _⟩ => ⟨S1x1024, .f32⟩
  | .hbm, ⟨87, _⟩ => ⟨S4112x1024, .f32⟩
  | .hbm, ⟨88, _⟩ => ⟨S4112x1024, .f32⟩
  | .hbm, ⟨89, _⟩ => ⟨S_, .f32⟩
  | .hbm, ⟨90, _⟩ => ⟨S1024, .f32⟩
  | .hbm, ⟨91, _⟩ => ⟨S4112x1024, .f32⟩
  | .hbm, ⟨92, _⟩ => ⟨S_, .f32⟩
  | .hbm, ⟨93, _⟩ => ⟨S4112, .f32⟩
  | .hbm, ⟨94, _⟩ => ⟨S4112x1, .f32⟩
  | .hbm, ⟨95, _⟩ => ⟨S4112x1024, .f32⟩
  | .hbm, ⟨96, _⟩ => ⟨S4112x1024, .f32⟩
  | .hbm, ⟨97, _⟩ => ⟨S4112x1, .f32⟩
  | .hbm, ⟨98, _⟩ => ⟨S_, .f32⟩
  | .hbm, ⟨99, _⟩ => ⟨S4112x1, .f32⟩
  | .hbm, ⟨100, _⟩ => ⟨S4112x1, .f32⟩
  | .hbm, ⟨101, _⟩ => ⟨S_, .f32⟩
  | .hbm, ⟨102, _⟩ => ⟨S4112, .f32⟩
  | .hbm, ⟨103, _⟩ => ⟨S4112x1024, .f32⟩
  | .hbm, ⟨104, _⟩ => ⟨S4112x1024, .f32⟩
  | .hbm, ⟨105, _⟩ => ⟨S4112x1024, .f32⟩
  | .hbm, ⟨106, _⟩ => ⟨S4112x1024, .f32⟩
  | .hbm, ⟨107, _⟩ => ⟨S4112x1024, .f32⟩
  | .hbm, ⟨108, _⟩ => ⟨S_, .i32⟩
  | .hbm, ⟨109, _⟩ => ⟨S_, .f32⟩
  | .hbm, ⟨110, _⟩ => ⟨S4224x1024, .f32⟩
  | .hbm, ⟨111, _⟩ => ⟨S_, .i32⟩
  | .hbm, ⟨112, _⟩ => ⟨S_, .f32⟩
  | .hbm, ⟨113, _⟩ => ⟨S4224x1024, .f32⟩
  | .hbm, ⟨114, _⟩ => ⟨S4224x1024, .bf16⟩
  | .hbm, ⟨115, _⟩ => ⟨S1x1024, .f32⟩
  | .hbm, ⟨116, _⟩ => ⟨S1x1024, .f32⟩
  | _, _ => ⟨S1x4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_12 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_13 : Ref sig .tc := ⟨.hbm, 89, rfl⟩
abbrev main_v68 : Ref sig .tc := ⟨.hbm, 90, rfl⟩
abbrev main_v69 : Ref sig .tc := ⟨.hbm, 91, rfl⟩
abbrev main_cst_14 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_15 : Ref sig .tc := ⟨.hbm, 98, rfl⟩
abbrev main_v75 : Ref sig .tc := ⟨.hbm, 99, rfl⟩
abbrev main_v76 : Ref sig .tc := ⟨.hbm, 100, rfl⟩
abbrev main_cst_16 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_c : Ref sig .tc := ⟨.hbm, 108, rfl⟩
abbrev main_call0_v0 : Ref sig .tc := ⟨.hbm, 109, rfl⟩
abbrev main_v83 : Ref sig .tc := ⟨.hbm, 110, rfl⟩
abbrev main_c_17 : Ref sig .tc := ⟨.hbm, 111, rfl⟩
abbrev main_call1_v0 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩

abbrev nD : Nat := 1
abbrev τ : Topo := Topo.v7x

variable {F : FTy → Type} [FloatOps F]
-- ==== InBwd.lean ====
abbrev S1x4096x1024 : Shape := ⟨3, ![1, 4096, 1024]⟩
abbrev S16x1024 : Shape := ⟨2, ![16, 1024]⟩
abbrev S1x1024 : Shape := ⟨2, ![1, 1024]⟩
abbrev S1x1024x5376 : Shape := ⟨3, ![1, 1024, 5376]⟩
abbrev S1x5376 : Shape := ⟨2, ![1, 5376]⟩
abbrev S1x4112x1024 : Shape := ⟨3, ![1, 4112, 1024]⟩
abbrev S1x4112x5376 : Shape := ⟨3, ![1, 4112, 5376]⟩
abbrev S_ : Shape := ⟨0, ![]⟩
abbrev S112x1024 : Shape := ⟨2, ![112, 1024]⟩
abbrev S4096x1024 : Shape := ⟨2, ![4096, 1024]⟩
abbrev S4224x1024 : Shape := ⟨2, ![4224, 1024]⟩
abbrev S4112x5376 : Shape := ⟨2, ![4112, 5376]⟩
abbrev S4224x5376 : Shape := ⟨2, ![4224, 5376]⟩
abbrev S4224x1280 : Shape := ⟨2, ![4224, 1280]⟩
abbrev S4224x2048 : Shape := ⟨2, ![4224, 2048]⟩
abbrev S1024x5376 : Shape := ⟨2, ![1024, 5376]⟩
abbrev S5376x1024 : Shape := ⟨2, ![5376, 1024]⟩
abbrev S4112x1024 : Shape := ⟨2, ![4112, 1024]⟩
abbrev S384x1280 : Shape := ⟨2, ![384, 1280]⟩
abbrev S384x1024 : Shape := ⟨2, ![384, 1024]⟩
abbrev S384x2048 : Shape := ⟨2, ![384, 2048]⟩
abbrev S1280x1024 : Shape := ⟨2, ![1280, 1024]⟩
abbrev S1x1280 : Shape := ⟨2, ![1, 1280]⟩
abbrev S1280 : Shape := ⟨1, ![1280]⟩
abbrev S1024x1024 : Shape := ⟨2, ![1024, 1024]⟩
abbrev S1024 : Shape := ⟨1, ![1024]⟩
abbrev S2048x1024 : Shape := ⟨2, ![2048, 1024]⟩
abbrev S1x2048 : Shape := ⟨2, ![1, 2048]⟩
abbrev S2048 : Shape := ⟨1, ![2048]⟩
abbrev S384 : Shape := ⟨1, ![384]⟩
abbrev S384x1 : Shape := ⟨2, ![384, 1]⟩

abbrev nBuf : Space → Nat
  | .hbm => 30
  | .vmem => 18
  | .smem => 0
  | _ => 0

abbrev bufTy : (tb : Table) → Fin (tcTables nBuf tb) → BufTy
  | .hbm, ⟨0, _⟩ => ⟨S1x4096x1024, .f32⟩
  | .hbm, ⟨1, _⟩ => ⟨S16x1024, .f32⟩
  | .hbm, ⟨2, _⟩ => ⟨S1x1024, .f32⟩
  | .hbm, ⟨3, _⟩ => ⟨S1x1024x5376, .f32⟩
  | .hbm, ⟨4, _⟩ => ⟨S1x5376, .f32⟩
  | .hbm, ⟨5, _⟩ => ⟨S1x4112x1024, .f32⟩
  | .hbm, ⟨6, _⟩ => ⟨S1x4112x5376, .f32⟩
  | .hbm, ⟨7, _⟩ => ⟨S_, .f32⟩
  | .hbm, ⟨8, _⟩ => ⟨S112x1024, .f32⟩
  | .hbm, ⟨9, _⟩ => ⟨S4096x1024, .f32⟩
  | .hbm, ⟨10, _⟩ => ⟨S4224x1024, .f32⟩
  | .hbm, ⟨11, _⟩ => ⟨S4112x5376, .f32⟩
  | .hbm, ⟨12, _⟩ => ⟨S_, .i32⟩
  | .hbm, ⟨13, _⟩ => ⟨S_, .f32⟩
  | .hbm, ⟨14, _⟩ => ⟨S4224x5376, .f32⟩
  | .hbm, ⟨15, _⟩ => ⟨S4224x5376, .bf16⟩
  | .hbm, ⟨16, _⟩ => ⟨S4224x1280, .bf16⟩
  | .hbm, ⟨17, _⟩ => ⟨S4224x1024, .bf16⟩
  | .hbm, ⟨18, _⟩ => ⟨S4224x1024, .bf16⟩
  | .hbm, ⟨19, _⟩ => ⟨S4224x2048, .bf16⟩
  | .hbm, ⟨20, _⟩ => ⟨S1024x5376, .f32⟩
  | .hbm, ⟨21, _⟩ => ⟨S5376x1024, .f32⟩
  | .hbm, ⟨22, _⟩ => ⟨S5376x1024, .bf16⟩
  | .hbm, ⟨23, _⟩ => ⟨S4112x1024, .f32⟩
  | .hbm, ⟨24, _⟩ => ⟨S_, .i32⟩
  | .hbm, ⟨25, _⟩ => ⟨S_, .f32⟩
  | .hbm, ⟨26, _⟩ => ⟨S4224x1024, .f32⟩
  | .hbm, ⟨27, _⟩ => ⟨S4224x1024, .f32⟩
  | .hbm, ⟨28, _⟩ => ⟨S1x1024, .f32⟩
  | .hbm, ⟨29, _⟩ => ⟨S1x5376, .f32⟩
  | .local _ .vmem, ⟨0, _⟩ => ⟨S384x1280, .bf16⟩
  | .local _ .vmem, ⟨1, _⟩ => ⟨S384x1280, .bf16⟩
  | .local _ .vmem, ⟨2, _⟩ => ⟨S384x1024, .bf16⟩
  | .local _ .vmem, ⟨3, _⟩ => ⟨S384x1024, .bf16⟩
  | .local _ .vmem, ⟨4, _⟩ => ⟨S384x1024, .bf16⟩
  | .local _ .vmem, ⟨5, _⟩ => ⟨S384x1024, .bf16⟩
  | .local _ .vmem, ⟨6, _⟩ => ⟨S384x2048, .bf16⟩
  | .local _ .vmem, ⟨7, _⟩ => ⟨S384x2048, .bf16⟩
  | .local _ .vmem, ⟨8, _⟩ => ⟨S5376x1024, .bf16⟩
  | .local _ .vmem, ⟨9, _⟩ => ⟨S384x1024, .f32⟩
  | .local _ .vmem, ⟨10, _⟩ => ⟨S384x1024, .f32⟩
  | .local _ .vmem, ⟨11, _⟩ => ⟨S384x1024, .f32⟩
  | .local _ .vmem, ⟨12, _⟩ => ⟨S384x1024, .f32⟩
  | .local _ .vmem, ⟨13, _⟩ => ⟨S1x1024, .f32⟩
  | .local _ .vmem, ⟨14, _⟩ => ⟨S384x1024, .f32⟩
  | .local _ .vmem, ⟨15, _⟩ => ⟨S384x1024, .f32⟩
  | .local _ .vmem, ⟨16, _⟩ => ⟨S1x1024, .f32⟩
  | .local _ .vmem, ⟨17, _⟩ => ⟨S1x5376, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_0 : Ref sig .tc := ⟨.hbm, 24, rfl⟩
abbrev main_call1_v0 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v15_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S5376x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x5376 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InBwdRefIdeal.lean ====
abbrev S1x4096x1024 : Shape := ⟨3, ![1, 4096, 1024]⟩
abbrev S16x1024 : Shape := ⟨2, ![16, 1024]⟩
abbrev S1x1024 : Shape := ⟨2, ![1, 1024]⟩
abbrev S1x1024x5376 : Shape := ⟨3, ![1, 1024, 5376]⟩
abbrev S1x5376 : Shape := ⟨2, ![1, 5376]⟩
abbrev S1x4112x1024 : Shape := ⟨3, ![1, 4112, 1024]⟩
abbrev S1x4112x5376 : Shape := ⟨3, ![1, 4112, 5376]⟩
abbrev S4096x1024 : Shape := ⟨2, ![4096, 1024]⟩
abbrev S1024 : Shape := ⟨1, ![1024]⟩
abbrev S5376 : Shape := ⟨1, ![5376]⟩
abbrev S1024x5376 : Shape := ⟨2, ![1024, 5376]⟩
abbrev S4112x1024 : Shape := ⟨2, ![4112, 1024]⟩
abbrev S_ : Shape := ⟨0, ![]⟩
abbrev S4112 : Shape := ⟨1, ![4112]⟩
abbrev S4112x1 : Shape := ⟨2, ![4112, 1]⟩
abbrev S4112x5376 : Shape := ⟨2, ![4112, 5376]⟩
abbrev S4224x1024 : Shape := ⟨2, ![4224, 1024]⟩

abbrev nBuf : Space → Nat
  | .hbm => 78
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S16x1024, .f32⟩
  | .hbm, ⟨2, _⟩ => ⟨S1x1024, .f32⟩
  | .hbm, ⟨3, _⟩ => ⟨S1x1024x5376, .f32⟩
  | .hbm, ⟨4, _⟩ => ⟨S1x5376, .f32⟩
  | .hbm, ⟨5, _⟩ => ⟨S1x4112x1024, .f32⟩
  | .hbm, ⟨6, _⟩ => ⟨S1x4112x5376, .f32⟩
  | .hbm, ⟨7, _⟩ => ⟨S4096x1024, .f32⟩
  | .hbm, ⟨8, _⟩ => ⟨S1024, .f32⟩
  | .hbm, ⟨9, _⟩ => ⟨S5376, .f32⟩
  | .hbm, ⟨10, _⟩ => ⟨S1024x5376, .f32⟩
  | .hbm, ⟨11, _⟩ => ⟨S4112x1024, .f32⟩
  | .hbm, ⟨12, _⟩ => ⟨S4112x1024, .f32⟩
  | .hbm, ⟨13, _⟩ => ⟨S_, .f32⟩
  | .hbm, ⟨14, _⟩ => ⟨S4112, .f32⟩
  | .hbm, ⟨15, _⟩ => ⟨S4112x1, .f32⟩
  | .hbm, ⟨16, _⟩ => ⟨S_, .f32⟩
  | .hbm, ⟨17, _⟩ => ⟨S4112x1, .f32⟩
  | .hbm, ⟨18, _⟩ => ⟨S4112x1, .f32⟩
  | .hbm, ⟨19, _⟩ => ⟨S_, .f32⟩
  | .hbm, ⟨20, _⟩ => ⟨S4112x1, .f32⟩
  | .hbm, ⟨21, _⟩ => ⟨S4112x1, .f32⟩
  | .hbm, ⟨22, _⟩ => ⟨S4112x1, .f32⟩
  | .hbm, ⟨23, _⟩ => ⟨S4112x1, .f32⟩
  | .hbm, ⟨24, _⟩ => ⟨S_, .f32⟩
  | .hbm, ⟨25, _⟩ => ⟨S4112x1, .f32⟩
  | .hbm, ⟨26, _⟩ => ⟨S4112x1, .f32⟩
  | .hbm, ⟨27, _⟩ => ⟨S4112x1024, .f32⟩
  | .hbm, ⟨28, _⟩ => ⟨S4112x1024, .f32⟩
  | .hbm, ⟨29, _⟩ => ⟨S1x1024, .f32⟩
  | .hbm, ⟨30, _⟩ => ⟨S4112x1024, .f32⟩
  | .hbm, ⟨31, _⟩ => ⟨S4112x1024, .f32⟩
  | .hbm, ⟨32, _⟩ => ⟨S4112x5376, .f32⟩
  | .hbm, ⟨33, _⟩ => ⟨S1x5376, .f32⟩
  | .hbm, ⟨34, _⟩ => ⟨S4112x5376, .f32⟩
  | .hbm, ⟨35, _⟩ => ⟨S4112x5376, .f32⟩
  | .hbm, ⟨36, _⟩ => ⟨S4112x1024, .f32⟩
  | .hbm, ⟨37, _⟩ => ⟨S4112x5376, .f32⟩
  | .hbm, ⟨38, _⟩ => ⟨S_, .f32⟩
  | .hbm, ⟨39, _⟩ => ⟨S5376, .f32⟩
  | .hbm, ⟨40, _⟩ => ⟨S1x5376, .f32⟩
  | .hbm, ⟨41, _⟩ => ⟨S_, .f32⟩
  | .hbm, ⟨42, _⟩ => ⟨S5376, .f32⟩
  | .hbm, ⟨43, _⟩ => ⟨S4112x1024, .f32⟩
  | .hbm, ⟨44, _⟩ => ⟨S4112x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4112x1024, .f32⟩
  | .hbm, ⟨49, _⟩ => ⟨S4112x1024, .f32⟩
  | .hbm, ⟨50, _⟩ => ⟨S_, .f32⟩
  | .hbm, ⟨51, _⟩ => ⟨S1024, .f32⟩
  | .hbm, ⟨52, _⟩ => ⟨S4112x1024, .f32⟩
  | .hbm, ⟨53, _⟩ => ⟨S_, .f32⟩
  | .hbm, ⟨54, _⟩ => ⟨S4112, .f32⟩
  | .hbm, ⟨55, _⟩ => ⟨S4112x1, .f32⟩
  | .hbm, ⟨56, _⟩ => ⟨S4112x1024, .f32⟩
  | .hbm, ⟨57, _⟩ => ⟨S4112x1024, .f32⟩
  | .hbm, ⟨58, _⟩ => ⟨S4112x1024, .f32⟩
  | .hbm, ⟨59, _⟩ => ⟨S4112x1, .f32⟩
  | .hbm, ⟨60, _⟩ => ⟨S_, .f32⟩
  | .hbm, ⟨61, _⟩ => ⟨S4112x1, .f32⟩
  | .hbm, ⟨62, _⟩ => ⟨S4112x1, .f32⟩
  | .hbm, ⟨63, _⟩ => ⟨S_, .f32⟩
  | .hbm, ⟨64, _⟩ => ⟨S4112, .f32⟩
  | .hbm, ⟨65, _⟩ => ⟨S4112x1024, .f32⟩
  | .hbm, ⟨66, _⟩ => ⟨S4112x1024, .f32⟩
  | .hbm, ⟨67, _⟩ => ⟨S4112x1024, .f32⟩
  | .hbm, ⟨68, _⟩ => ⟨S4112x1024, .f32⟩
  | .hbm, ⟨69, _⟩ => ⟨S4112x1024, .f32⟩
  | .hbm, ⟨70, _⟩ => ⟨S16x1024, .f32⟩
  | .hbm, ⟨71, _⟩ => ⟨S4096x1024, .f32⟩
  | .hbm, ⟨72, _⟩ => ⟨S4112x1024, .f32⟩
  | .hbm, ⟨73, _⟩ => ⟨S_, .i32⟩
  | .hbm, ⟨74, _⟩ => ⟨S_, .f32⟩
  | .hbm, ⟨75, _⟩ => ⟨S4224x1024, .f32⟩
  | .hbm, ⟨76, _⟩ => ⟨S1x1024, .f32⟩
  | .hbm, ⟨77, _⟩ => ⟨S1x5376, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c : Ref sig .tc := ⟨.hbm, 73, rfl⟩
abbrev main_call0_v0 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== FfnDown.lean ====
abbrev S1x4112x1024 : Shape := ⟨3, ![1, 4112, 1024]⟩
abbrev S1x4112x2816 : Shape := ⟨3, ![1, 4112, 2816]⟩
abbrev S1x1024 : Shape := ⟨2, ![1, 1024]⟩
abbrev S1x2816x1024 : Shape := ⟨3, ![1, 2816, 1024]⟩
abbrev S1x4096x1024 : Shape := ⟨3, ![1, 4096, 1024]⟩
abbrev S4112x2816 : Shape := ⟨2, ![4112, 2816]⟩
abbrev S_ : Shape := ⟨0, ![]⟩
abbrev S4224x2816 : Shape := ⟨2, ![4224, 2816]⟩
abbrev S2816x1024 : Shape := ⟨2, ![2816, 1024]⟩
abbrev S4112x1024 : Shape := ⟨2, ![4112, 1024]⟩
abbrev S4224x1024 : Shape := ⟨2, ![4224, 1024]⟩
abbrev S4096x1024 : Shape := ⟨2, ![4096, 1024]⟩
abbrev S384x2816 : Shape := ⟨2, ![384, 2816]⟩
abbrev S384x1024 : Shape := ⟨2, ![384, 1024]⟩
abbrev S128x1024 : Shape := ⟨2, ![128, 1024]⟩
abbrev S384 : Shape := ⟨1, ![384]⟩
abbrev S384x1 : Shape := ⟨2, ![384, 1]⟩
abbrev S1024 : Shape := ⟨1, ![1024]⟩

abbrev nBuf : Space → Nat
  | .hbm => 21
  | .vmem => 18
  | .smem => 0
  | _ => 0

abbrev bufTy : (tb : Table) → Fin (tcTables nBuf tb) → BufTy
  | .hbm, ⟨0, _⟩ => ⟨S1x4112x1024, .f32⟩
  | .hbm, ⟨1, _⟩ => ⟨S1x4112x2816, .f32⟩
  | .hbm, ⟨2, _⟩ => ⟨S1x1024, .f32⟩
  | .hbm, ⟨3, _⟩ => ⟨S1x2816x1024, .f32⟩
  | .hbm, ⟨4, _⟩ => ⟨S1x4096x1024, .f32⟩
  | .hbm, ⟨5, _⟩ => ⟨S4112x2816, .f32⟩
  | .hbm, ⟨6, _⟩ => ⟨S_, .i32⟩
  | .hbm, ⟨7, _⟩ => ⟨S_, .f32⟩
  | .hbm, ⟨8, _⟩ => ⟨S4224x2816, .f32⟩
  | .hbm, ⟨9, _⟩ => ⟨S4224x2816, .bf16⟩
  | .hbm, ⟨10, _⟩ => ⟨S2816x1024, .f32⟩
  | .hbm, ⟨11, _⟩ => ⟨S2816x1024, .bf16⟩
  | .hbm, ⟨12, _⟩ => ⟨S4112x1024, .f32⟩
  | .hbm, ⟨13, _⟩ => ⟨S_, .i32⟩
  | .hbm, ⟨14, _⟩ => ⟨S_, .f32⟩
  | .hbm, ⟨15, _⟩ => ⟨S4224x1024, .f32⟩
  | .hbm, ⟨16, _⟩ => ⟨S4096x1024, .f32⟩
  | .hbm, ⟨17, _⟩ => ⟨S4224x1024, .f32⟩
  | .hbm, ⟨18, _⟩ => ⟨S4224x1024, .bf16⟩
  | .hbm, ⟨19, _⟩ => ⟨S1x1024, .f32⟩
  | .hbm, ⟨20, _⟩ => ⟨S1x1024, .f32⟩
  | .local _ .vmem, ⟨0, _⟩ => ⟨S384x2816, .bf16⟩
  | .local _ .vmem, ⟨1, _⟩ => ⟨S384x2816, .bf16⟩
  | .local _ .vmem, ⟨2, _⟩ => ⟨S2816x1024, .bf16⟩
  | .local _ .vmem, ⟨3, _⟩ => ⟨S384x1024, .f32⟩
  | .local _ .vmem, ⟨4, _⟩ => ⟨S384x1024, .f32⟩
  | .local _ .vmem, ⟨5, _⟩ => ⟨S1x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S384x1024, .f32⟩
  | .local _ .vmem, ⟨13, _⟩ => ⟨S384x1024, .f32⟩
  | .local _ .vmem, ⟨14, _⟩ => ⟨S384x1024, .bf16⟩
  | .local _ .vmem, ⟨15, _⟩ => ⟨S384x1024, .bf16⟩
  | .local _ .vmem, ⟨16, _⟩ => ⟨S1x1024, .f32⟩
  | .local _ .vmem, ⟨17, _⟩ => ⟨S1x1024, .f32⟩
  | _, _ => ⟨S1x4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.subi v0 c1_i32
  let c0_i32 : BitVec 32 := 0#32
  let v2 : BitVec 32 := Scalar.addi v1 c0_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_5 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.subi v0 c1_i32
  let c1_i32_0 : BitVec 32 := 1#32
  let v2 : BitVec 32 := Scalar.addi v1 c1_i32_0
  let c0_i32 : BitVec 32 := 0#32
  let v3 : BitVec 32 := Scalar.maxsi v2 c0_i32
  let c0_i32_1 : BitVec 32 := 0#32
  let c0_i32_2 : BitVec 32 := 0#32
  ![v3.toNat, c0_i32_1.toNat]

def cc0_transform_6 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.subi v0 c1_i32
  let c2_i32 : BitVec 32 := 2#32
  let v2 : BitVec 32 := Scalar.addi v1 c2_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnDownRefIdeal.lean ====
abbrev S1x4112x1024 : Shape := ⟨3, ![1, 4112, 1024]⟩
abbrev S1x4112x2816 : Shape := ⟨3, ![1, 4112, 2816]⟩
abbrev S1x1024 : Shape := ⟨2, ![1, 1024]⟩
abbrev S1x2816x1024 : Shape := ⟨3, ![1, 2816, 1024]⟩
abbrev S1x4096x1024 : Shape := ⟨3, ![1, 4096, 1024]⟩
abbrev S4112x1024 : Shape := ⟨2, ![4112, 1024]⟩
abbrev S4112x2816 : Shape := ⟨2, ![4112, 2816]⟩
abbrev S2816x1024 : Shape := ⟨2, ![2816, 1024]⟩
abbrev S1024 : Shape := ⟨1, ![1024]⟩
abbrev S4096x1024 : Shape := ⟨2, ![4096, 1024]⟩
abbrev S_ : Shape := ⟨0, ![]⟩
abbrev S4112 : Shape := ⟨1, ![4112]⟩
abbrev S4112x1 : Shape := ⟨2, ![4112, 1]⟩
abbrev S4224x1024 : Shape := ⟨2, ![4224, 1024]⟩

abbrev nBuf : Space → Nat
  | .hbm => 92
  | .vmem => 0
  | .smem => 0
  | _ => 0

abbrev bufTy : (tb : Table) → Fin (tcTables nBuf tb) → BufTy
  | .hbm, ⟨0, _⟩ => ⟨S1x4112x1024, .f32⟩
  | .hbm, ⟨1, _⟩ => ⟨S1x4112x2816, .f32⟩
  | .hbm, ⟨2, _⟩ => ⟨S1x1024, .f32⟩
  | .hbm, ⟨3, _⟩ => ⟨S1x2816x1024, .f32⟩
  | .hbm, ⟨4, _⟩ => ⟨S1x4096x1024, .f32⟩
  | .hbm, ⟨5, _⟩ => ⟨S4112x1024, .f32⟩
  | .hbm, ⟨6, _⟩ => ⟨S4112x2816, .f32⟩
  | .hbm, ⟨7, _⟩ => ⟨S2816x1024, .f32⟩
  | .hbm, ⟨8, _⟩ => ⟨S4112x1024, .f32⟩
  | .hbm, ⟨9, _⟩ => ⟨S1024, .f32⟩
  | .hbm, ⟨10, _⟩ => ⟨S4096x1024, .f32⟩
  | .hbm, ⟨11, _⟩ => ⟨S4112x1024, .f32⟩
  | .hbm, ⟨12, _⟩ => ⟨S_, .f32⟩
  | .hbm, ⟨13, _⟩ => ⟨S4112, .f32⟩
  | .hbm, ⟨14, _⟩ => ⟨S4112x1, .f32⟩
  | .hbm, ⟨15, _⟩ => ⟨S_, .f32⟩
  | .hbm, ⟨16, _⟩ => ⟨S4112x1, .f32⟩
  | .hbm, ⟨17, _⟩ => ⟨S4112x1, .f32⟩
  | .hbm, ⟨18, _⟩ => ⟨S_, .f32⟩
  | .hbm, ⟨19, _⟩ => ⟨S4112x1, .f32⟩
  | .hbm, ⟨20, _⟩ => ⟨S4112x1, .f32⟩
  | .hbm, ⟨21, _⟩ => ⟨S4112x1, .f32⟩
  | .hbm, ⟨22, _⟩ => ⟨S4112x1, .f32⟩
  | .hbm, ⟨23, _⟩ => ⟨S_, .f32⟩
  | .hbm, ⟨24, _⟩ => ⟨S4112x1, .f32⟩
  | .hbm, ⟨25, _⟩ => ⟨S4112x1, .f32⟩
  | .hbm, ⟨26, _⟩ => ⟨S4112x1024, .f32⟩
  | .hbm, ⟨27, _⟩ => ⟨S4112x1024, .f32⟩
  | .hbm, ⟨28, _⟩ => ⟨S1x1024, .f32⟩
  | .hbm, ⟨29, _⟩ => ⟨S4112x1024, .f32⟩
  | .hbm, ⟨30, _⟩ => ⟨S4112x1024, .f32⟩
  | .hbm, ⟨31, _⟩ => ⟨S4112x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S_, .f32⟩
  | .hbm, ⟨44, _⟩ => ⟨S1024, .f32⟩
  | .hbm, ⟨45, _⟩ => ⟨S1024, .f32⟩
  | .hbm, ⟨46, _⟩ => ⟨S_, .f32⟩
  | .hbm, ⟨47, _⟩ => ⟨S1024, .f32⟩
  | .hbm, ⟨48, _⟩ => ⟨S_, .f32⟩
  | .hbm, ⟨49, _⟩ => ⟨S1024, .f32⟩
  | .hbm, ⟨50, _⟩ => ⟨S1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4112x1024, .f32⟩
  | .hbm, ⟨58, _⟩ => ⟨S4112x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4112x1024, .f32⟩
  | .hbm, ⟨63, _⟩ => ⟨S4112x1024, .f32⟩
  | .hbm, ⟨64, _⟩ => ⟨S_, .f32⟩
  | .hbm, ⟨65, _⟩ => ⟨S1024, .f32⟩
  | .hbm, ⟨66, _⟩ => ⟨S4112x1024, .f32⟩
  | .hbm, ⟨67, _⟩ => ⟨S_, .f32⟩
  | .hbm, ⟨68, _⟩ => ⟨S4112, .f32⟩
  | .hbm, ⟨69, _⟩ => ⟨S4112x1, .f32⟩
  | .hbm, ⟨70, _⟩ => ⟨S4112x1024, .f32⟩
  | .hbm, ⟨71, _⟩ => ⟨S4112x1024, .f32⟩
  | .hbm, ⟨72, _⟩ => ⟨S4112x1, .f32⟩
  | .hbm, ⟨73, _⟩ => ⟨S_, .f32⟩
  | .hbm, ⟨74, _⟩ => ⟨S4112x1, .f32⟩
  | .hbm, ⟨75, _⟩ => ⟨S4112x1, .f32⟩
  | .hbm, ⟨76, _⟩ => ⟨S_, .f32⟩
  | .hbm, ⟨77, _⟩ => ⟨S4112, .f32⟩
  | .hbm, ⟨78, _⟩ => ⟨S4112x1024, .f32⟩
  | .hbm, ⟨79, _⟩ => ⟨S4112x1024, .f32⟩
  | .hbm, ⟨80, _⟩ => ⟨S4112x1024, .f32⟩
  | .hbm, ⟨81, _⟩ => ⟨S4112x1024, .f32⟩
  | .hbm, ⟨82, _⟩ => ⟨S4112x1024, .f32⟩
  | .hbm, ⟨83, _⟩ => ⟨S_, .i32⟩
  | .hbm, ⟨84, _⟩ => ⟨S_, .f32⟩
  | .hbm, ⟨85, _⟩ => ⟨S4224x1024, .f32⟩
  | .hbm, ⟨86, _⟩ => ⟨S_, .i32⟩
  | .hbm, ⟨87, _⟩ => ⟨S_, .f32⟩
  | .hbm, ⟨88, _⟩ => ⟨S4224x1024, .f32⟩
  | .hbm, ⟨89, _⟩ => ⟨S4224x1024, .bf16⟩
  | .hbm, ⟨90, _⟩ => ⟨S1x1024, .f32⟩
  | .hbm, ⟨91, _⟩ => ⟨S1x1024, .f32⟩
  | _, _ => ⟨S1x4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_12 : Ref sig .tc := ⟨.hbm, 64, rfl⟩
abbrev main_v46 : Ref sig .tc := ⟨.hbm, 65, rfl⟩
abbrev main_v47 : Ref sig .tc := ⟨.hbm, 66, rfl⟩
abbrev main_cst_13 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c : Ref sig .tc := ⟨.hbm, 83, rfl⟩
abbrev main_call0_v0 : Ref sig .tc := ⟨.hbm, 84, rfl⟩
abbrev main_v61 : Ref sig .tc := ⟨.hbm, 85, rfl⟩
abbrev main_c_16 : Ref sig .tc := ⟨.hbm, 86, rfl⟩
abbrev main_call1_v0 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]
-- ==== AttnBwd.lean ====
abbrev S1x4112x1280 : Shape := ⟨3, ![1, 4112, 1280]⟩
abbrev S1x16 : Shape := ⟨2, ![1, 16]⟩
abbrev S1x4112x1024 : Shape := ⟨3, ![1, 4112, 1024]⟩
abbrev S4112x1280 : Shape := ⟨2, ![4112, 1280]⟩
abbrev S4112x1024 : Shape := ⟨2, ![4112, 1024]⟩
abbrev S4112x128 : Shape := ⟨2, ![4112, 128]⟩
abbrev S4112 : Shape := ⟨1, ![4112]⟩
abbrev S4112x16x64 : Shape := ⟨3, ![4112, 16, 64]⟩
abbrev S8 : Shape := ⟨1, ![8]⟩
abbrev S_ : Shape := ⟨0, ![]⟩
abbrev S4112x1 : Shape := ⟨2, ![4112, 1]⟩
abbrev S1x8 : Shape := ⟨2, ![1, 8]⟩
abbrev S4112x8 : Shape := ⟨2, ![4112, 8]⟩
abbrev S4112x1x8 : Shape := ⟨3, ![4112, 1, 8]⟩
abbrev S4112x16x16 : Shape := ⟨3, ![4112, 16, 16]⟩
abbrev S4112x16x8 : Shape := ⟨3, ![4112, 16, 8]⟩
abbrev S4112x16x48 : Shape := ⟨3, ![4112, 16, 48]⟩
abbrev S4112x2x64 : Shape := ⟨3, ![4112, 2, 64]⟩
abbrev S4112x2x16 : Shape := ⟨3, ![4112, 2, 16]⟩
abbrev S4112x2x8 : Shape := ⟨3, ![4112, 2, 8]⟩
abbrev S4112x2x48 : Shape := ⟨3, ![4112, 2, 48]⟩
abbrev S16 : Shape := ⟨1, ![16]⟩
abbrev S112x16x64 : Shape := ⟨3, ![112, 16, 64]⟩
abbrev S4224x16x64 : Shape := ⟨3, ![4224, 16, 64]⟩
abbrev S33x128x2x8x64 : Shape := ⟨5, ![33, 128, 2, 8, 64]⟩
abbrev S112x2x64 : Shape := ⟨3, ![112, 2, 64]⟩
abbrev S4224x2x64 : Shape := ⟨3, ![4224, 2, 64]⟩
abbrev S33x128x2x64 : Shape := ⟨4, ![33, 128, 2, 64]⟩
abbrev S16x2x64 : Shape := ⟨3, ![16, 2, 64]⟩
abbrev S1x16x2x64 : Shape := ⟨4, ![1, 16, 2, 64]⟩
abbrev S33x16x2x64 : Shape := ⟨4, ![33, 16, 2, 64]⟩
abbrev S1x128x2x64 : Shape := ⟨4, ![1, 128, 2, 64]⟩
abbrev S32x128x2x64 : Shape := ⟨4, ![32, 128, 2, 64]⟩
abbrev S33x272x2x64 : Shape := ⟨4, ![33, 272, 2, 64]⟩
abbrev S4224 : Shape := ⟨1, ![4224]⟩
abbrev S33x128 : Shape := ⟨2, ![33, 128]⟩
abbrev S33x128x1 : Shape := ⟨3, ![33, 128, 1]⟩
abbrev S1x1x16 : Shape := ⟨3, ![1, 1, 16]⟩
abbrev S33x256 : Shape := ⟨2, ![33, 256]⟩
abbrev S33x1x256 : Shape := ⟨3, ![33, 1, 256]⟩
abbrev S33x128x16 : Shape := ⟨3, ![33, 128, 16]⟩
abbrev S33x128x256 : Shape := ⟨3, ![33, 128, 256]⟩
abbrev S33x128x272 : Shape := ⟨3, ![33, 128, 272]⟩
abbrev S33x2x272x128x8 : Shape := ⟨5, ![33, 2, 272, 128, 8]⟩
abbrev S33x2x8x128x272 : Shape := ⟨5, ![33, 2, 8, 128, 272]⟩
abbrev S33x1x1x128x272 : Shape := ⟨5, ![33, 1, 1, 128, 272]⟩
abbrev S2x8 : Shape := ⟨2, ![2, 8]⟩
abbrev S1x2x8x1x1 : Shape := ⟨5, ![1, 2, 8, 1, 1]⟩
abbrev S33x2x8x128x1 : Shape := ⟨5, ![33, 2, 8, 128, 1]⟩
abbrev S33x2x8x128x273 : Shape := ⟨5, ![33, 2, 8, 128, 273]⟩
abbrev S33x2x8x128 : Shape := ⟨4, ![33, 2, 8, 128]⟩
abbrev S4224x1280 : Shape := ⟨2, ![4224, 1280]⟩
abbrev S4224x1024 : Shape := ⟨2, ![4224, 1024]⟩
abbrev S528x128 : Shape := ⟨2, ![528, 128]⟩
abbrev S128 : Shape := ⟨1, ![128]⟩
abbrev S4224x1 : Shape := ⟨2, ![4224, 1]⟩
abbrev S1x128 : Shape := ⟨2, ![1, 128]⟩
abbrev S4224x128 : Shape := ⟨2, ![4224, 128]⟩
abbrev S8x128 : Shape := ⟨2, ![8, 128]⟩
abbrev S128x1024 : Shape := ⟨2, ![128, 1024]⟩
abbrev S128x128 : Shape := ⟨2, ![128, 128]⟩
abbrev S16x128 : Shape := ⟨2, ![16, 128]⟩
abbrev S128x1280 : Shape := ⟨2, ![128, 1280]⟩
abbrev S384x128 : Shape := ⟨2, ![384, 128]⟩
abbrev S128x384 : Shape := ⟨2, ![128, 384]⟩
abbrev S1024x128 : Shape := ⟨2, ![1024, 128]⟩
abbrev S384x1024 : Shape := ⟨2, ![384, 1024]⟩
abbrev S1 : Shape := ⟨1, ![1]⟩
abbrev S1x1x128 : Shape := ⟨3, ![1, 1, 128]⟩
abbrev S1x1x1 : Shape := ⟨3, ![1, 1, 1]⟩

abbrev nBuf : Space → Nat
  | .hbm => 275
  | .vmem => 29
  | .smem => 1
  | _ => 0

abbrev hbmTy0_0 (i : Nat) : BufTy := match i % 128 with
  | 0 => ⟨S1x4112x1280, .f32⟩
  | 1 => ⟨S1x16, .f32⟩
  | 2 => ⟨S1x4112x1024, .f32⟩
  | 3 => ⟨S4112x1280, .f32⟩
  | 4 => ⟨S4112x1024, .f32⟩
  | 5 => ⟨S4112x128, .f32⟩
  | 6 => ⟨S4112x128, .f32⟩
  | 7 => ⟨S4112, .i32⟩
  | 8 => ⟨S4112x16x64, .f32⟩
  | 9 => ⟨S8, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S4112, .f32⟩
  | 21 => ⟨S4112x1, .f32⟩
  | 22 => ⟨S1x8, .f32⟩
  | 23 => ⟨S4112x8, .f32⟩
  | 24 => ⟨S4112x8, .f32⟩
  | 25 => ⟨S4112x8, .f32⟩
  | 26 => ⟨S4112x8, .f32⟩
  | 27 => ⟨S4112x1x8, .f32⟩
  | 28 => ⟨S4112x8, .f32⟩
  | 29 => ⟨S4112x1x8, .f32⟩
  | 30 => ⟨S4112x16x16, .f32⟩
  | 31 => ⟨S4112x16x8, .f32⟩
  | 32 => ⟨S4112x16x8, .f32⟩
  | 33 => ⟨S4112x16x8, .f32⟩
  | 34 => ⟨S4112x16x8, .f32⟩
  | 35 => ⟨S4112x16x8, .f32⟩
  | 36 => ⟨S4112x16x8, .f32⟩
  | 37 => ⟨S4112x16x8, .f32⟩
  | 38 => ⟨S4112x16x8, .f32⟩
  | 39 => ⟨S4112x16x8, .f32⟩
  | 40 => ⟨S4112x16x8, .f32⟩
  | 41 => ⟨S4112x16x8, .f32⟩
  | 42 => ⟨S4112x16x8, .f32⟩
  | 43 => ⟨S4112x16x16, .f32⟩
  | 44 => ⟨S4112x16x48, .f32⟩
  | 45 => ⟨S4112x16x64, .f32⟩
  | 46 => ⟨S4112x2x64, .f32⟩
  | 47 => ⟨S8, .f32⟩
  | 48 => ⟨S8, .f32⟩
  | 49 => ⟨S_, .f32⟩
  | 50 => ⟨S8, .f32⟩
  | 51 => ⟨S8, .f32⟩
  | 52 => ⟨S_, .f32⟩
  | 53 => ⟨S8, .f32⟩
  | 54 => ⟨S8, .f32⟩
  | 55 => ⟨S_, .f32⟩
  | 56 => ⟨S8, .f32⟩
  | 57 => ⟨S8, .f32⟩
  | 58 => ⟨S4112, .f32⟩
  | 59 => ⟨S4112x1, .f32⟩
  | 60 => ⟨S1x8, .f32⟩
  | 61 => ⟨S4112x8, .f32⟩
  | 62 => ⟨S4112x8, .f32⟩
  | 63 => ⟨S4112x8, .f32⟩
  | 64 => ⟨S4112x8, .f32⟩
  | 65 => ⟨S4112x1x8, .f32⟩
  | 66 => ⟨S4112x8, .f32⟩
  | 67 => ⟨S4112x1x8, .f32⟩
  | 68 => ⟨S4112x2x16, .f32⟩
  | 69 => ⟨S4112x2x8, .f32⟩
  | 70 => ⟨S4112x2x8, .f32⟩
  | 71 => ⟨S4112x2x8, .f32⟩
  | 72 => ⟨S4112x2x8, .f32⟩
  | 73 => ⟨S4112x2x8, .f32⟩
  | 74 => ⟨S4112x2x8, .f32⟩
  | 75 => ⟨S4112x2x8, .f32⟩
  | 76 => ⟨S4112x2x8, .f32⟩
  | 77 => ⟨S4112x2x8, .f32⟩
  | 78 => ⟨S4112x2x8, .f32⟩
  | 79 => ⟨S4112x2x8, .f32⟩
  | 80 => ⟨S4112x2x8, .f32⟩
  | 81 => ⟨S4112x2x16, .f32⟩
  | 82 => ⟨S4112x2x48, .f32⟩
  | 83 => ⟨S4112x2x64, .f32⟩
  | 84 => ⟨S4112x2x64, .f32⟩
  | 85 => ⟨S16, .f32⟩
  | 86 => ⟨S_, .f32⟩
  | 87 => ⟨S112x16x64, .f32⟩
  | 88 => ⟨S4224x16x64, .f32⟩
  | 89 => ⟨S_, .f32⟩
  | 90 => ⟨S4224x16x64, .f32⟩
  | 91 => ⟨S4224x16x64, .f32⟩
  | 92 => ⟨S33x128x2x8x64, .f32⟩
  | 93 => ⟨S_, .f32⟩
  | 94 => ⟨S112x2x64, .f32⟩
  | 95 => ⟨S4224x2x64, .f32⟩
  | 96 => ⟨S33x128x2x64, .f32⟩
  | 97 => ⟨S16x2x64, .f32⟩
  | 98 => ⟨S1x16x2x64, .f32⟩
  | 99 => ⟨S33x16x2x64, .f32⟩
  | 100 => ⟨S1x128x2x64, .f32⟩
  | 101 => ⟨S_, .f32⟩
  | 102 => ⟨S1x128x2x64, .f32⟩
  | 103 => ⟨S32x128x2x64, .f32⟩
  | 104 => ⟨S33x128x2x64, .f32⟩
  | 105 => ⟨S33x272x2x64, .f32⟩
  | 106 => ⟨S4224, .i32⟩
  | 107 => ⟨S_, .i32⟩
  | 108 => ⟨S4224, .i32⟩
  | 109 => ⟨S4224, .i32⟩
  | 110 => ⟨S33x128, .i32⟩
  | 111 => ⟨S33x128x1, .i32⟩
  | 112 => ⟨S16, .i32⟩
  | 113 => ⟨S1x1x16, .i32⟩
  | 114 => ⟨S_, .i32⟩
  | 115 => ⟨S33x128, .i32⟩
  | 116 => ⟨S33x128, .i32⟩
  | 117 => ⟨S33x256, .i32⟩
  | 118 => ⟨S33x1x256, .i32⟩
  | 119 => ⟨S33x128x16, .i32⟩
  | 120 => ⟨S33x128x16, .i32⟩
  | 121 => ⟨S33x128x16, .i1⟩
  | 122 => ⟨S_, .i32⟩
  | 123 => ⟨S33x1x256, .i32⟩
  | 124 => ⟨S33x1x256, .i1⟩
  | 125 => ⟨S33x128x256, .i32⟩
  | 126 => ⟨S33x128x256, .i32⟩
  | 127 => ⟨S33x128x256, .i1⟩
  | _ => ⟨S1x4112x1280, .f32⟩

abbrev hbmTy0_1 (i : Nat) : BufTy := match i % 128 with
  | 0 => ⟨S33x128x256, .i1⟩
  | 1 => ⟨S33x128x256, .i1⟩
  | 2 => ⟨S33x128x256, .i32⟩
  | 3 => ⟨S33x128x256, .i32⟩
  | 4 => ⟨S33x128x256, .i32⟩
  | 5 => ⟨S_, .i32⟩
  | 6 => ⟨S33x128x256, .i32⟩
  | 7 => ⟨S33x128x256, .i1⟩
  | 8 => ⟨S33x128x256, .i1⟩
  | 9 => ⟨S33x128x272, .i1⟩
  | 10 => ⟨S33x2x272x128x8, .f32⟩
  | 11 => ⟨S33x2x8x128x272, .f32⟩
  | 12 => ⟨S33x1x1x128x272, .i1⟩
  | 13 => ⟨S_, .f32⟩
  | 14 => ⟨S_, .f32⟩
  | 15 => ⟨S33x2x8x128x272, .i1⟩
  | 16 => ⟨S33x2x8x128x272, .f32⟩
  | 17 => ⟨S33x2x8x128x272, .f32⟩
  | 18 => ⟨S2x8, .f32⟩
  | 19 => ⟨S1x2x8x1x1, .f32⟩
  | 20 => ⟨S33x2x8x128x1, .f32⟩
  | 21 => ⟨S33x2x8x128x273, .f32⟩
  | 22 => ⟨S_, .f32⟩
  | 23 => ⟨S33x2x8x128, .f32⟩
  | 24 => ⟨S33x2x8x128x1, .f32⟩
  | 25 => ⟨S33x2x8x128x273, .f32⟩
  | 26 => ⟨S33x2x8x128x273, .f32⟩
  | 27 => ⟨S33x2x8x128x273, .f32⟩
  | 28 => ⟨S_, .f32⟩
  | 29 => ⟨S33x2x8x128, .f32⟩
  | 30 => ⟨S33x2x8x128x1, .f32⟩
  | 31 => ⟨S33x2x8x128x1, .f32⟩
  | 32 => ⟨S33x2x8x128x1, .f32⟩
  | 33 => ⟨S4112x1024, .f32⟩
  | 34 => ⟨S4112x128, .f32⟩
  | 35 => ⟨S4112x128, .f32⟩
  | 36 => ⟨S4112x1280, .f32⟩
  | 37 => ⟨S_, .i32⟩
  | 38 => ⟨S_, .f32⟩
  | 39 => ⟨S4224x1280, .f32⟩
  | 40 => ⟨S4224x1280, .bf16⟩
  | 41 => ⟨S4112x1024, .f32⟩
  | 42 => ⟨S_, .i32⟩
  | 43 => ⟨S_, .f32⟩
  | 44 => ⟨S4224x1024, .f32⟩
  | 45 => ⟨S4224x1024, .bf16⟩
  | 46 => ⟨S528x128, .f32⟩
  | 47 => ⟨S16, .f32⟩
  | 48 => ⟨S128, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S128, .i32⟩
  | 56 => ⟨S128, .i32⟩
  | 57 => ⟨S_, .i32⟩
  | 58 => ⟨S128, .i32⟩
  | 59 => ⟨S128, .i1⟩
  | 60 => ⟨S_, .i32⟩
  | 61 => ⟨S128, .i32⟩
  | 62 => ⟨S128, .i1⟩
  | 63 => ⟨S_, .i32⟩
  | 64 => ⟨S_, .i1⟩
  | 65 => ⟨S128, .i1⟩
  | 66 => ⟨S128, .i1⟩
  | 67 => ⟨S128, .i1⟩
  | 68 => ⟨S128, .i32⟩
  | 69 => ⟨S128, .i32⟩
  | 70 => ⟨S128, .i32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S128, .i32⟩
  | 78 => ⟨S128, .i32⟩
  | 79 => ⟨S_, .i32⟩
  | 80 => ⟨S128, .i32⟩
  | 81 => ⟨S128, .i1⟩
  | 82 => ⟨S_, .i32⟩
  | 83 => ⟨S128, .i32⟩
  | 84 => ⟨S128, .i1⟩
  | 85 => ⟨S_, .i32⟩
  | 86 => ⟨S_, .i1⟩
  | 87 => ⟨S128, .i1⟩
  | 88 => ⟨S128, .i1⟩
  | 89 => ⟨S128, .i1⟩
  | 90 => ⟨S128, .i32⟩
  | 91 => ⟨S128, .i32⟩
  | 92 => ⟨S128, .i32⟩
  | 93 => ⟨S128, .f32⟩
  | 94 => ⟨S128, .f32⟩
  | 95 => ⟨S_, .f32⟩
  | 96 => ⟨S128, .f32⟩
  | 97 => ⟨S128, .f32⟩
  | 98 => ⟨S_, .f32⟩
  | 99 => ⟨S128, .f32⟩
  | 100 => ⟨S128, .f32⟩
  | 101 => ⟨S_, .f32⟩
  | 102 => ⟨S128, .f32⟩
  | 103 => ⟨S128, .f32⟩
  | 104 => ⟨S4224, .i32⟩
  | 105 => ⟨S_, .i32⟩
  | 106 => ⟨S4224, .i32⟩
  | 107 => ⟨S4224, .i32⟩
  | 108 => ⟨S4224, .f32⟩
  | 109 => ⟨S4224x1, .f32⟩
  | 110 => ⟨S1x128, .f32⟩
  | 111 => ⟨S4224x128, .f32⟩
  | 112 => ⟨S4224x128, .f32⟩
  | 113 => ⟨S4224x128, .f32⟩
  | 114 => ⟨S4224x128, .f32⟩
  | 115 => ⟨S4224x128, .f32⟩
  | 116 => ⟨S_, .i32⟩
  | 117 => ⟨S128, .i32⟩
  | 118 => ⟨S128, .i1⟩
  | 119 => ⟨S_, .f32⟩
  | 120 => ⟨S_, .f32⟩
  | 121 => ⟨S4224x128, .i1⟩
  | 122 => ⟨S4224x128, .f32⟩
  | 123 => ⟨S4224x128, .f32⟩
  | 124 => ⟨S_, .i32⟩
  | 125 => ⟨S128, .i32⟩
  | 126 => ⟨S128, .i1⟩
  | 127 => ⟨S4224x128, .f32⟩
  | _ => ⟨S1x4112x1280, .f32⟩

abbrev hbmTy0_2 (i : Nat) : BufTy := match i % 128 with
  | 0 => ⟨S_, .f32⟩
  | 1 => ⟨S_, .f32⟩
  | 2 => ⟨S4224x128, .i1⟩
  | 3 => ⟨S4224x128, .f32⟩
  | 4 => ⟨S4224x128, .f32⟩
  | 5 => ⟨S_, .i32⟩
  | 6 => ⟨S128, .i32⟩
  | 7 => ⟨S128, .i1⟩
  | 8 => ⟨S_, .i32⟩
  | 9 => ⟨S128, .i32⟩
  | 10 => ⟨S128, .i1⟩
  | 11 => ⟨S128, .i1⟩
  | 12 => ⟨S_, .f32⟩
  | 13 => ⟨S_, .f32⟩
  | 14 => ⟨S4224x128, .i1⟩
  | 15 => ⟨S4224x128, .f32⟩
  | 16 => ⟨S4224x128, .f32⟩
  | 17 => ⟨S4224x1280, .bf16⟩
  | 18 => ⟨S8x128, .f32⟩
  | _ => ⟨S1x4112x1280, .f32⟩

abbrev hbmTy (i : Nat) : BufTy := match i / 128 with
  | 0 => hbmTy0_0 i
  | 1 => hbmTy0_1 i
  | 2 => hbmTy0_2 i
  | _ => ⟨S1x4112x1280, .f32⟩

abbrev bufTy : (tb : Table) → Fin (tcTables nBuf tb) → BufTy
  | .hbm, ⟨i, _⟩ => hbmTy i
  | .local _ .vmem, ⟨0, _⟩ => ⟨S128x1024, .bf16⟩
  | .local _ .vmem, ⟨1, _⟩ => ⟨S128x1024, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S128x1024, .bf16⟩
  | .local _ .vmem, ⟨13, _⟩ => ⟨S128x1024, .bf16⟩
  | .local _ .vmem, ⟨14, _⟩ => ⟨S16x128, .f32⟩
  | .local _ .vmem, ⟨15, _⟩ => ⟨S16x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x1280, .bf16⟩
  | .local _ .vmem, ⟨23, _⟩ => ⟨S128x1280, .bf16⟩
  | .local _ .vmem, ⟨24, _⟩ => ⟨S8x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S128x128, .f32⟩
  | .local _ .smem, ⟨0, _⟩ => ⟨S16, .f32⟩
  | _, _ => ⟨S1x4112x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst_2 : Ref sig .tc := ⟨.hbm, 49, rfl⟩
abbrev main_v43 : Ref sig .tc := ⟨.hbm, 50, rfl⟩
abbrev main_v44 : Ref sig .tc := ⟨.hbm, 51, rfl⟩
abbrev main_cst_3 : Ref sig .tc := ⟨.hbm, 52, rfl⟩
abbrev main_v45 : Ref sig .tc := ⟨.hbm, 53, rfl⟩
abbrev main_v46 : Ref sig .tc := ⟨.hbm, 54, rfl⟩
abbrev main_cst_4 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_cst_5 : Ref sig .tc := ⟨.hbm, 86, rfl⟩
abbrev main_v77 : Ref sig .tc := ⟨.hbm, 87, rfl⟩
abbrev main_v78 : Ref sig .tc := ⟨.hbm, 88, rfl⟩
abbrev main_cst_6 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_cst_7 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_cst_8 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_c : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_c_9 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_c_10 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_c_11 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_cst_12 : Ref sig .tc := ⟨.hbm, 141, rfl⟩
abbrev main_call0_v0 : Ref sig .tc := ⟨.hbm, 142, rfl⟩
abbrev main_call0_v1 : Ref sig .tc := ⟨.hbm, 143, rfl⟩
abbrev main_call0_v2 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_cst_13 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_cst_14 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_c_15 : Ref sig .tc := ⟨.hbm, 165, rfl⟩
abbrev main_call1_v0 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_c_16 : Ref sig .tc := ⟨.hbm, 170, rfl⟩
abbrev main_call2_v0 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_c_17 : Ref sig .tc := ⟨.hbm, 177, rfl⟩
abbrev main_call3_v0 : Ref sig .tc := ⟨.hbm, 178, rfl⟩
abbrev main_call3_c : Ref sig .tc := ⟨.hbm, 179, rfl⟩
abbrev main_call3_v1 : Ref sig .tc := ⟨.hbm, 180, rfl⟩
abbrev main_call3_c_0 : Ref sig .tc := ⟨.hbm, 181, rfl⟩
abbrev main_call3_v2 : Ref sig .tc := ⟨.hbm, 182, rfl⟩
abbrev main_call3_v3 : Ref sig .tc := ⟨.hbm, 183, rfl⟩
abbrev main_call3_v4 : Ref sig .tc := ⟨.hbm, 184, rfl⟩
abbrev main_call3_c_1 : Ref sig .tc := ⟨.hbm, 185, rfl⟩
abbrev main_call3_v5 : Ref sig .tc := ⟨.hbm, 186, rfl⟩
abbrev main_call3_v6 : Ref sig .tc := ⟨.hbm, 187, rfl⟩
abbrev main_call3_c_2 : Ref sig .tc := ⟨.hbm, 188, rfl⟩
abbrev main_call3_v7 : Ref sig .tc := ⟨.hbm, 189, rfl⟩
abbrev main_call3_v8 : Ref sig .tc := ⟨.hbm, 190, rfl⟩
abbrev main_call3_c_3 : Ref sig .tc := ⟨.hbm, 191, rfl⟩
abbrev main_call3_v9 : Ref sig .tc := ⟨.hbm, 192, rfl⟩
abbrev main_call3_v10 : Ref sig .tc := ⟨.hbm, 193, rfl⟩
abbrev main_call3_v11 : Ref sig .tc := ⟨.hbm, 194, rfl⟩
abbrev main_call3_v12 : Ref sig .tc := ⟨.hbm, 195, rfl⟩
abbrev main_call3_v13 : Ref sig .tc := ⟨.hbm, 196, rfl⟩
abbrev main_call3_v14 : Ref sig .tc := ⟨.hbm, 197, rfl⟩
abbrev main_v150 : Ref sig .tc := ⟨.hbm, 198, rfl⟩
abbrev main_c_18 : Ref sig .tc := ⟨.hbm, 199, rfl⟩
abbrev main_call4_v0 : Ref sig .tc := ⟨.hbm, 200, rfl⟩
abbrev main_call4_c : Ref sig .tc := ⟨.hbm, 201, rfl⟩
abbrev main_call4_v1 : Ref sig .tc := ⟨.hbm, 202, rfl⟩
abbrev main_call4_c_0 : Ref sig .tc := ⟨.hbm, 203, rfl⟩
abbrev main_call4_v2 : Ref sig .tc := ⟨.hbm, 204, rfl⟩
abbrev main_call4_v3 : Ref sig .tc := ⟨.hbm, 205, rfl⟩
abbrev main_call4_v4 : Ref sig .tc := ⟨.hbm, 206, rfl⟩
abbrev main_call4_c_1 : Ref sig .tc := ⟨.hbm, 207, rfl⟩
abbrev main_call4_v5 : Ref sig .tc := ⟨.hbm, 208, rfl⟩
abbrev main_call4_v6 : Ref sig .tc := ⟨.hbm, 209, rfl⟩
abbrev main_call4_c_2 : Ref sig .tc := ⟨.hbm, 210, rfl⟩
abbrev main_call4_v7 : Ref sig .tc := ⟨.hbm, 211, rfl⟩
abbrev main_call4_v8 : Ref sig .tc := ⟨.hbm, 212, rfl⟩
abbrev main_call4_c_3 : Ref sig .tc := ⟨.hbm, 213, rfl⟩
abbrev main_call4_v9 : Ref sig .tc := ⟨.hbm, 214, rfl⟩
abbrev main_call4_v10 : Ref sig .tc := ⟨.hbm, 215, rfl⟩
abbrev main_call4_v11 : Ref sig .tc := ⟨.hbm, 216, rfl⟩
abbrev main_call4_v12 : Ref sig .tc := ⟨.hbm, 217, rfl⟩
abbrev main_call4_v13 : Ref sig .tc := ⟨.hbm, 218, rfl⟩
abbrev main_call4_v14 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_cst_19 : Ref sig .tc := ⟨.hbm, 223, rfl⟩
abbrev main_v154 : Ref sig .tc := ⟨.hbm, 224, rfl⟩
abbrev main_v155 : Ref sig .tc := ⟨.hbm, 225, rfl⟩
abbrev main_cst_20 : Ref sig .tc := ⟨.hbm, 226, rfl⟩
abbrev main_v156 : Ref sig .tc := ⟨.hbm, 227, rfl⟩
abbrev main_v157 : Ref sig .tc := ⟨.hbm, 228, rfl⟩
abbrev main_cst_21 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_c_22 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_c_23 : Ref sig .tc := ⟨.hbm, 244, rfl⟩
abbrev main_v171 : Ref sig .tc := ⟨.hbm, 245, rfl⟩
abbrev main_v172 : Ref sig .tc := ⟨.hbm, 246, rfl⟩
abbrev main_cst_24 : Ref sig .tc := ⟨.hbm, 247, rfl⟩
abbrev main_call5_v0 : Ref sig .tc := ⟨.hbm, 248, rfl⟩
abbrev main_call5_v1 : Ref sig .tc := ⟨.hbm, 249, rfl⟩
abbrev main_call5_v2 : Ref sig .tc := ⟨.hbm, 250, rfl⟩
abbrev main_v173 : Ref sig .tc := ⟨.hbm, 251, rfl⟩
abbrev main_c_25 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_cst_26 : Ref sig .tc := ⟨.hbm, 256, rfl⟩
abbrev main_call6_v0 : Ref sig .tc := ⟨.hbm, 257, rfl⟩
abbrev main_call6_v1 : Ref sig .tc := ⟨.hbm, 258, rfl⟩
abbrev main_call6_v2 : Ref sig .tc := ⟨.hbm, 259, rfl⟩
abbrev main_v177 : Ref sig .tc := ⟨.hbm, 260, rfl⟩
abbrev main_c_27 : Ref sig .tc := ⟨.hbm, 261, rfl⟩
abbrev main_v178 : Ref sig .tc := ⟨.hbm, 262, rfl⟩
abbrev main_v179 : Ref sig .tc := ⟨.hbm, 263, rfl⟩
abbrev main_c_28 : Ref sig .tc := ⟨.hbm, 264, rfl⟩
abbrev main_v180 : Ref sig .tc := ⟨.hbm, 265, rfl⟩
abbrev main_v181 : Ref sig .tc := ⟨.hbm, 266, rfl⟩
abbrev main_v182 : Ref sig .tc := ⟨.hbm, 267, rfl⟩
abbrev main_cst_29 : Ref sig .tc := ⟨.hbm, 268, rfl⟩
abbrev main_call7_v0 : Ref sig .tc := ⟨.hbm, 269, rfl⟩
abbrev main_call7_v1 : Ref sig .tc := ⟨.hbm, 270, rfl⟩
abbrev main_call7_v2 : Ref sig .tc := ⟨.hbm, 271, rfl⟩
abbrev main_v183 : Ref sig .tc := ⟨.hbm, 272, rfl⟩
abbrev main_v184_0 : Ref sig .tc := ⟨.hbm, 273, rfl⟩
abbrev main_v184_1 : Ref sig .tc := ⟨.hbm, 274, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25

abbrev nD : Nat := 1
abbrev τ : Topo := Topo.v7x

variable {F : FTy → Type} [FloatOps F]

abbrev grid0 : Pipeline.Grid := ⟨1, ![33], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c8_i32 : BitVec 32 := 8#32
  let c0_i32_1 : BitVec 32 := 0#32
  ![c0_i32_0.toNat, c8_i32.toNat]

def cc0_transform_3 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_4 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v0.toNat, c8_i32.toNat]

def cc0_transform_5 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c9_i32 : BitVec 32 := 9#32
  let c0_i32_1 : BitVec 32 := 0#32
  ![c0_i32_0.toNat, c9_i32.toNat]

def cc0_transform_6 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  ![v2.toNat, c9_i32.toNat]

def cc0_transform_7 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  ![v0.toNat, c9_i32.toNat]

def cc0_transform_8 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1280 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== AttnRefIdeal.lean ====
abbrev S1x4112x1280 : Shape := ⟨3, ![1, 4112, 1280]⟩
abbrev S1x16 : Shape := ⟨2, ![1, 16]⟩
abbrev S1x4112x1024 : Shape := ⟨3, ![1, 4112, 1024]⟩
abbrev S4112x1280 : Shape := ⟨2, ![4112, 1280]⟩
abbrev S16 : Shape := ⟨1, ![16]⟩
abbrev S4112x1024 : Shape := ⟨2, ![4112, 1024]⟩
abbrev S4112x128 : Shape := ⟨2, ![4112, 128]⟩
abbrev S4112 : Shape := ⟨1, ![4112]⟩
abbrev S4112x16x64 : Shape := ⟨3, ![4112, 16, 64]⟩
abbrev S8 : Shape := ⟨1, ![8]⟩
abbrev S_ : Shape := ⟨0, ![]⟩
abbrev S4112x1 : Shape := ⟨2, ![4112, 1]⟩
abbrev S1x8 : Shape := ⟨2, ![1, 8]⟩
abbrev S4112x8 : Shape := ⟨2, ![4112, 8]⟩
abbrev S4112x1x8 : Shape := ⟨3, ![4112, 1, 8]⟩
abbrev S4112x16x16 : Shape := ⟨3, ![4112, 16, 16]⟩
abbrev S4112x16x8 : Shape := ⟨3, ![4112, 16, 8]⟩
abbrev S4112x16x48 : Shape := ⟨3, ![4112, 16, 48]⟩
abbrev S4112x2x64 : Shape := ⟨3, ![4112, 2, 64]⟩
abbrev S4112x2x16 : Shape := ⟨3, ![4112, 2, 16]⟩
abbrev S4112x2x8 : Shape := ⟨3, ![4112, 2, 8]⟩
abbrev S4112x2x48 : Shape := ⟨3, ![4112, 2, 48]⟩
abbrev S112x16x64 : Shape := ⟨3, ![112, 16, 64]⟩
abbrev S4224x16x64 : Shape := ⟨3, ![4224, 16, 64]⟩
abbrev S33x128x2x8x64 : Shape := ⟨5, ![33, 128, 2, 8, 64]⟩
abbrev S112x2x64 : Shape := ⟨3, ![112, 2, 64]⟩
abbrev S4224x2x64 : Shape := ⟨3, ![4224, 2, 64]⟩
abbrev S33x128x2x64 : Shape := ⟨4, ![33, 128, 2, 64]⟩
abbrev S16x2x64 : Shape := ⟨3, ![16, 2, 64]⟩
abbrev S1x16x2x64 : Shape := ⟨4, ![1, 16, 2, 64]⟩
abbrev S33x16x2x64 : Shape := ⟨4, ![33, 16, 2, 64]⟩
abbrev S1x128x2x64 : Shape := ⟨4, ![1, 128, 2, 64]⟩
abbrev S32x128x2x64 : Shape := ⟨4, ![32, 128, 2, 64]⟩
abbrev S33x272x2x64 : Shape := ⟨4, ![33, 272, 2, 64]⟩
abbrev S4224 : Shape := ⟨1, ![4224]⟩
abbrev S33x128 : Shape := ⟨2, ![33, 128]⟩
abbrev S33x128x1 : Shape := ⟨3, ![33, 128, 1]⟩
abbrev S1x1x16 : Shape := ⟨3, ![1, 1, 16]⟩
abbrev S33x256 : Shape := ⟨2, ![33, 256]⟩
abbrev S33x1x256 : Shape := ⟨3, ![33, 1, 256]⟩
abbrev S33x128x16 : Shape := ⟨3, ![33, 128, 16]⟩
abbrev S33x128x256 : Shape := ⟨3, ![33, 128, 256]⟩
abbrev S33x128x272 : Shape := ⟨3, ![33, 128, 272]⟩
abbrev S33x2x272x128x8 : Shape := ⟨5, ![33, 2, 272, 128, 8]⟩
abbrev S33x2x8x128x272 : Shape := ⟨5, ![33, 2, 8, 128, 272]⟩
abbrev S33x1x1x128x272 : Shape := ⟨5, ![33, 1, 1, 128, 272]⟩
abbrev S2x8 : Shape := ⟨2, ![2, 8]⟩
abbrev S1x2x8x1x1 : Shape := ⟨5, ![1, 2, 8, 1, 1]⟩
abbrev S33x2x8x128x1 : Shape := ⟨5, ![33, 2, 8, 128, 1]⟩
abbrev S33x2x8x128x273 : Shape := ⟨5, ![33, 2, 8, 128, 273]⟩
abbrev S33x2x8x128 : Shape := ⟨4, ![33, 2, 8, 128]⟩
abbrev S33x2x64x8x128 : Shape := ⟨5, ![33, 2, 64, 8, 128]⟩
abbrev S4224x1024 : Shape := ⟨2, ![4224, 1024]⟩
abbrev S33x2x64x272 : Shape := ⟨4, ![33, 2, 64, 272]⟩
abbrev S33x2x128x8x64 : Shape := ⟨5, ![33, 2, 128, 8, 64]⟩
abbrev S33x2x272x64 : Shape := ⟨4, ![33, 2, 272, 64]⟩
abbrev S4224x1280 : Shape := ⟨2, ![4224, 1280]⟩
abbrev S8x128 : Shape := ⟨2, ![8, 128]⟩

abbrev nBuf : Space → Nat
  | .hbm => 364
  | .vmem => 0
  | .smem => 0
  | _ => 0

abbrev hbmTy0_0 (i : Nat) : BufTy := match i % 128 with
  | 0 => ⟨S1x4112x1280, .f32⟩
  | 1 => ⟨S1x16, .f32⟩
  | 2 => ⟨S1x4112x1024, .f32⟩
  | 3 => ⟨S4112x1280, .f32⟩
  | 4 => ⟨S16, .f32⟩
  | 5 => ⟨S4112x1024, .f32⟩
  | 6 => ⟨S4112x128, .f32⟩
  | 7 => ⟨S4112x128, .f32⟩
  | 8 => ⟨S4112, .i32⟩
  | 9 => ⟨S4112x16x64, .f32⟩
  | 10 => ⟨S8, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S4112, .f32⟩
  | 22 => ⟨S4112x1, .f32⟩
  | 23 => ⟨S1x8, .f32⟩
  | 24 => ⟨S4112x8, .f32⟩
  | 25 => ⟨S4112x8, .f32⟩
  | 26 => ⟨S4112x8, .f32⟩
  | 27 => ⟨S4112x8, .f32⟩
  | 28 => ⟨S4112x1x8, .f32⟩
  | 29 => ⟨S4112x8, .f32⟩
  | 30 => ⟨S4112x1x8, .f32⟩
  | 31 => ⟨S4112x16x16, .f32⟩
  | 32 => ⟨S4112x16x8, .f32⟩
  | 33 => ⟨S4112x16x8, .f32⟩
  | 34 => ⟨S4112x16x8, .f32⟩
  | 35 => ⟨S4112x16x8, .f32⟩
  | 36 => ⟨S4112x16x8, .f32⟩
  | 37 => ⟨S4112x16x8, .f32⟩
  | 38 => ⟨S4112x16x8, .f32⟩
  | 39 => ⟨S4112x16x8, .f32⟩
  | 40 => ⟨S4112x16x8, .f32⟩
  | 41 => ⟨S4112x16x8, .f32⟩
  | 42 => ⟨S4112x16x8, .f32⟩
  | 43 => ⟨S4112x16x8, .f32⟩
  | 44 => ⟨S4112x16x16, .f32⟩
  | 45 => ⟨S4112x16x48, .f32⟩
  | 46 => ⟨S4112x16x64, .f32⟩
  | 47 => ⟨S4112x2x64, .f32⟩
  | 48 => ⟨S8, .f32⟩
  | 49 => ⟨S8, .f32⟩
  | 50 => ⟨S_, .f32⟩
  | 51 => ⟨S8, .f32⟩
  | 52 => ⟨S8, .f32⟩
  | 53 => ⟨S_, .f32⟩
  | 54 => ⟨S8, .f32⟩
  | 55 => ⟨S8, .f32⟩
  | 56 => ⟨S_, .f32⟩
  | 57 => ⟨S8, .f32⟩
  | 58 => ⟨S8, .f32⟩
  | 59 => ⟨S4112, .f32⟩
  | 60 => ⟨S4112x1, .f32⟩
  | 61 => ⟨S1x8, .f32⟩
  | 62 => ⟨S4112x8, .f32⟩
  | 63 => ⟨S4112x8, .f32⟩
  | 64 => ⟨S4112x8, .f32⟩
  | 65 => ⟨S4112x8, .f32⟩
  | 66 => ⟨S4112x1x8, .f32⟩
  | 67 => ⟨S4112x8, .f32⟩
  | 68 => ⟨S4112x1x8, .f32⟩
  | 69 => ⟨S4112x2x16, .f32⟩
  | 70 => ⟨S4112x2x8, .f32⟩
  | 71 => ⟨S4112x2x8, .f32⟩
  | 72 => ⟨S4112x2x8, .f32⟩
  | 73 => ⟨S4112x2x8, .f32⟩
  | 74 => ⟨S4112x2x8, .f32⟩
  | 75 => ⟨S4112x2x8, .f32⟩
  | 76 => ⟨S4112x2x8, .f32⟩
  | 77 => ⟨S4112x2x8, .f32⟩
  | 78 => ⟨S4112x2x8, .f32⟩
  | 79 => ⟨S4112x2x8, .f32⟩
  | 80 => ⟨S4112x2x8, .f32⟩
  | 81 => ⟨S4112x2x8, .f32⟩
  | 82 => ⟨S4112x2x16, .f32⟩
  | 83 => ⟨S4112x2x48, .f32⟩
  | 84 => ⟨S4112x2x64, .f32⟩
  | 85 => ⟨S4112x2x64, .f32⟩
  | 86 => ⟨S_, .f32⟩
  | 87 => ⟨S112x16x64, .f32⟩
  | 88 => ⟨S4224x16x64, .f32⟩
  | 89 => ⟨S_, .f32⟩
  | 90 => ⟨S112x16x64, .f32⟩
  | 91 => ⟨S_, .f32⟩
  | 92 => ⟨S4224x16x64, .f32⟩
  | 93 => ⟨S4224x16x64, .f32⟩
  | 94 => ⟨S33x128x2x8x64, .f32⟩
  | 95 => ⟨S_, .f32⟩
  | 96 => ⟨S112x2x64, .f32⟩
  | 97 => ⟨S4224x2x64, .f32⟩
  | 98 => ⟨S_, .f32⟩
  | 99 => ⟨S112x2x64, .f32⟩
  | 100 => ⟨S33x128x2x64, .f32⟩
  | 101 => ⟨S16x2x64, .f32⟩
  | 102 => ⟨S1x16x2x64, .f32⟩
  | 103 => ⟨S33x16x2x64, .f32⟩
  | 104 => ⟨S1x128x2x64, .f32⟩
  | 105 => ⟨S_, .f32⟩
  | 106 => ⟨S1x128x2x64, .f32⟩
  | 107 => ⟨S32x128x2x64, .f32⟩
  | 108 => ⟨S33x128x2x64, .f32⟩
  | 109 => ⟨S_, .f32⟩
  | 110 => ⟨S1x128x2x64, .f32⟩
  | 111 => ⟨S33x272x2x64, .f32⟩
  | 112 => ⟨S4224, .i32⟩
  | 113 => ⟨S_, .i32⟩
  | 114 => ⟨S4224, .i32⟩
  | 115 => ⟨S4224, .i32⟩
  | 116 => ⟨S33x128, .i32⟩
  | 117 => ⟨S33x128x1, .i32⟩
  | 118 => ⟨S16, .i32⟩
  | 119 => ⟨S1x1x16, .i32⟩
  | 120 => ⟨S_, .i32⟩
  | 121 => ⟨S33x128, .i32⟩
  | 122 => ⟨S33x128, .i32⟩
  | 123 => ⟨S33x256, .i32⟩
  | 124 => ⟨S33x1x256, .i32⟩
  | 125 => ⟨S33x128x16, .i32⟩
  | 126 => ⟨S33x128x16, .i32⟩
  | 127 => ⟨S33x128x16, .i1⟩
  | _ => ⟨S1x4112x1280, .f32⟩

abbrev hbmTy0_1 (i : Nat) : BufTy := match i % 128 with
  | 0 => ⟨S_, .i32⟩
  | 1 => ⟨S33x1x256, .i32⟩
  | 2 => ⟨S33x1x256, .i1⟩
  | 3 => ⟨S33x128x256, .i32⟩
  | 4 => ⟨S33x128x256, .i32⟩
  | 5 => ⟨S33x128x256, .i1⟩
  | 6 => ⟨S33x128x256, .i1⟩
  | 7 => ⟨S33x128x256, .i1⟩
  | 8 => ⟨S33x128x256, .i32⟩
  | 9 => ⟨S33x128x256, .i32⟩
  | 10 => ⟨S33x128x256, .i32⟩
  | 11 => ⟨S_, .i32⟩
  | 12 => ⟨S33x128x256, .i32⟩
  | 13 => ⟨S33x128x256, .i1⟩
  | 14 => ⟨S33x128x256, .i1⟩
  | 15 => ⟨S33x128x272, .i1⟩
  | 16 => ⟨S33x2x272x128x8, .f32⟩
  | 17 => ⟨S33x2x8x128x272, .f32⟩
  | 18 => ⟨S33x1x1x128x272, .i1⟩
  | 19 => ⟨S_, .f32⟩
  | 20 => ⟨S_, .f32⟩
  | 21 => ⟨S33x2x8x128x272, .i1⟩
  | 22 => ⟨S33x2x8x128x272, .f32⟩
  | 23 => ⟨S33x2x8x128x272, .f32⟩
  | 24 => ⟨S_, .f32⟩
  | 25 => ⟨S33x2x8x128x272, .f32⟩
  | 26 => ⟨S2x8, .f32⟩
  | 27 => ⟨S1x2x8x1x1, .f32⟩
  | 28 => ⟨S33x2x8x128x1, .f32⟩
  | 29 => ⟨S33x2x8x128x273, .f32⟩
  | 30 => ⟨S_, .f32⟩
  | 31 => ⟨S33x2x8x128, .f32⟩
  | 32 => ⟨S33x2x8x128x1, .f32⟩
  | 33 => ⟨S33x2x8x128x273, .f32⟩
  | 34 => ⟨S33x2x8x128x273, .i1⟩
  | 35 => ⟨S33x2x8x128x273, .f32⟩
  | 36 => ⟨S_, .f32⟩
  | 37 => ⟨S33x2x8x128, .f32⟩
  | 38 => ⟨S_, .f32⟩
  | 39 => ⟨S33x2x8x128, .f32⟩
  | 40 => ⟨S33x2x8x128, .f32⟩
  | 41 => ⟨S_, .f32⟩
  | 42 => ⟨S33x2x8x128, .f32⟩
  | 43 => ⟨S33x2x8x128, .i1⟩
  | 44 => ⟨S_, .f32⟩
  | 45 => ⟨S33x2x8x128, .f32⟩
  | 46 => ⟨S33x2x8x128, .i1⟩
  | 47 => ⟨S_, .f32⟩
  | 48 => ⟨S33x2x8x128, .f32⟩
  | 49 => ⟨S_, .f32⟩
  | 50 => ⟨S33x2x8x128, .f32⟩
  | 51 => ⟨S_, .f32⟩
  | 52 => ⟨S33x2x8x128, .f32⟩
  | 53 => ⟨S33x2x8x128, .f32⟩
  | 54 => ⟨S33x2x8x128, .f32⟩
  | 55 => ⟨S33x2x8x128x1, .f32⟩
  | 56 => ⟨S33x2x8x128x273, .f32⟩
  | 57 => ⟨S33x2x8x128x273, .f32⟩
  | 58 => ⟨S33x2x8x128x273, .f32⟩
  | 59 => ⟨S_, .f32⟩
  | 60 => ⟨S33x2x8x128, .f32⟩
  | 61 => ⟨S33x2x8x128x1, .f32⟩
  | 62 => ⟨S33x2x8x128x273, .f32⟩
  | 63 => ⟨S33x2x8x128x273, .f32⟩
  | 64 => ⟨S33x2x8x128x1, .f32⟩
  | 65 => ⟨S_, .f32⟩
  | 66 => ⟨S33x2x8x128x1, .f32⟩
  | 67 => ⟨S33x2x8x128x1, .f32⟩
  | 68 => ⟨S33x2x8x128x272, .f32⟩
  | 69 => ⟨S_, .f32⟩
  | 70 => ⟨S112x2x64, .f32⟩
  | 71 => ⟨S4224x2x64, .f32⟩
  | 72 => ⟨S_, .f32⟩
  | 73 => ⟨S112x2x64, .f32⟩
  | 74 => ⟨S33x128x2x64, .f32⟩
  | 75 => ⟨S16x2x64, .f32⟩
  | 76 => ⟨S1x16x2x64, .f32⟩
  | 77 => ⟨S33x16x2x64, .f32⟩
  | 78 => ⟨S1x128x2x64, .f32⟩
  | 79 => ⟨S_, .f32⟩
  | 80 => ⟨S1x128x2x64, .f32⟩
  | 81 => ⟨S32x128x2x64, .f32⟩
  | 82 => ⟨S33x128x2x64, .f32⟩
  | 83 => ⟨S_, .f32⟩
  | 84 => ⟨S1x128x2x64, .f32⟩
  | 85 => ⟨S33x272x2x64, .f32⟩
  | 86 => ⟨S33x2x64x8x128, .f32⟩
  | 87 => ⟨S33x128x2x8x64, .f32⟩
  | 88 => ⟨S4224x1024, .f32⟩
  | 89 => ⟨S4112x1024, .f32⟩
  | 90 => ⟨S4112x1024, .f32⟩
  | 91 => ⟨S_, .f32⟩
  | 92 => ⟨S4224x1024, .f32⟩
  | 93 => ⟨S33x128x2x8x64, .f32⟩
  | 94 => ⟨S33x2x64x8x128, .f32⟩
  | 95 => ⟨S33x2x8x128x272, .f32⟩
  | 96 => ⟨S33x2x64x272, .f32⟩
  | 97 => ⟨S33x272x2x64, .f32⟩
  | 98 => ⟨S33x16x2x64, .f32⟩
  | 99 => ⟨S33x128x2x64, .f32⟩
  | 100 => ⟨S33x128x2x64, .f32⟩
  | 101 => ⟨S1x128x2x64, .f32⟩
  | 102 => ⟨S32x128x2x64, .f32⟩
  | 103 => ⟨S_, .f32⟩
  | 104 => ⟨S33x128x2x64, .f32⟩
  | 105 => ⟨S33x128x2x64, .f32⟩
  | 106 => ⟨S_, .f32⟩
  | 107 => ⟨S16x2x64, .f32⟩
  | 108 => ⟨S1x16x2x64, .f32⟩
  | 109 => ⟨S_, .f32⟩
  | 110 => ⟨S16x2x64, .f32⟩
  | 111 => ⟨S_, .f32⟩
  | 112 => ⟨S4112x2x64, .f32⟩
  | 113 => ⟨S4224x2x64, .f32⟩
  | 114 => ⟨S112x2x64, .f32⟩
  | 115 => ⟨S4112x2x64, .f32⟩
  | 116 => ⟨S4112x2x64, .f32⟩
  | 117 => ⟨S_, .f32⟩
  | 118 => ⟨S33x2x8x128x273, .f32⟩
  | 119 => ⟨S33x2x8x128x273, .f32⟩
  | 120 => ⟨S33x2x8x128x273, .f32⟩
  | 121 => ⟨S33x2x8x128x273, .f32⟩
  | 122 => ⟨S_, .f32⟩
  | 123 => ⟨S33x2x8x128, .f32⟩
  | 124 => ⟨S33x2x8x128x1, .f32⟩
  | 125 => ⟨S33x2x8x128x1, .f32⟩
  | 126 => ⟨S33x2x8x128x273, .f32⟩
  | 127 => ⟨S33x2x8x128x273, .f32⟩
  | _ => ⟨S1x4112x1280, .f32⟩

abbrev hbmTy0_2 (i : Nat) : BufTy := match i % 128 with
  | 0 => ⟨S_, .f32⟩
  | 1 => ⟨S33x2x8x128, .f32⟩
  | 2 => ⟨S33x2x8x128x273, .f32⟩
  | 3 => ⟨S33x2x8x128x273, .f32⟩
  | 4 => ⟨S33x2x8x128x273, .f32⟩
  | 5 => ⟨S33x2x8x128x272, .f32⟩
  | 6 => ⟨S33x2x8x128x1, .f32⟩
  | 7 => ⟨S_, .f32⟩
  | 8 => ⟨S2x8, .f32⟩
  | 9 => ⟨S1x2x8x1x1, .f32⟩
  | 10 => ⟨S_, .f32⟩
  | 11 => ⟨S2x8, .f32⟩
  | 12 => ⟨S16, .f32⟩
  | 13 => ⟨S_, .f32⟩
  | 14 => ⟨S33x2x8x128x272, .f32⟩
  | 15 => ⟨S33x2x8x128x272, .f32⟩
  | 16 => ⟨S33x2x272x128x8, .f32⟩
  | 17 => ⟨S33x2x128x8x64, .f32⟩
  | 18 => ⟨S33x128x2x8x64, .f32⟩
  | 19 => ⟨S33x2x272x64, .f32⟩
  | 20 => ⟨S33x272x2x64, .f32⟩
  | 21 => ⟨S33x16x2x64, .f32⟩
  | 22 => ⟨S33x128x2x64, .f32⟩
  | 23 => ⟨S33x128x2x64, .f32⟩
  | 24 => ⟨S1x128x2x64, .f32⟩
  | 25 => ⟨S32x128x2x64, .f32⟩
  | 26 => ⟨S_, .f32⟩
  | 27 => ⟨S33x128x2x64, .f32⟩
  | 28 => ⟨S33x128x2x64, .f32⟩
  | 29 => ⟨S_, .f32⟩
  | 30 => ⟨S16x2x64, .f32⟩
  | 31 => ⟨S1x16x2x64, .f32⟩
  | 32 => ⟨S_, .f32⟩
  | 33 => ⟨S16x2x64, .f32⟩
  | 34 => ⟨S_, .f32⟩
  | 35 => ⟨S4112x2x64, .f32⟩
  | 36 => ⟨S4224x2x64, .f32⟩
  | 37 => ⟨S112x2x64, .f32⟩
  | 38 => ⟨S4112x2x64, .f32⟩
  | 39 => ⟨S4112x2x64, .f32⟩
  | 40 => ⟨S4224x16x64, .f32⟩
  | 41 => ⟨S_, .f32⟩
  | 42 => ⟨S4224x16x64, .f32⟩
  | 43 => ⟨S4224x16x64, .f32⟩
  | 44 => ⟨S112x16x64, .f32⟩
  | 45 => ⟨S4112x16x64, .f32⟩
  | 46 => ⟨S4112x128, .f32⟩
  | 47 => ⟨S4112x2x16, .f32⟩
  | 48 => ⟨S4112x2x48, .f32⟩
  | 49 => ⟨S_, .f32⟩
  | 50 => ⟨S4112x2x64, .f32⟩
  | 51 => ⟨S4112x2x8, .f32⟩
  | 52 => ⟨S4112x2x8, .f32⟩
  | 53 => ⟨S4112x2x8, .f32⟩
  | 54 => ⟨S4112x2x8, .f32⟩
  | 55 => ⟨S4112x2x8, .f32⟩
  | 56 => ⟨S4112x2x8, .f32⟩
  | 57 => ⟨S4112x2x8, .f32⟩
  | 58 => ⟨S4112x2x8, .f32⟩
  | 59 => ⟨S4112x2x8, .f32⟩
  | 60 => ⟨S4112x2x8, .f32⟩
  | 61 => ⟨S4112x2x8, .f32⟩
  | 62 => ⟨S4112x2x8, .f32⟩
  | 63 => ⟨S4112x2x8, .f32⟩
  | 64 => ⟨S_, .f32⟩
  | 65 => ⟨S4112x2x16, .f32⟩
  | 66 => ⟨S_, .f32⟩
  | 67 => ⟨S4112x2x16, .f32⟩
  | 68 => ⟨S4112x2x16, .f32⟩
  | 69 => ⟨S_, .f32⟩
  | 70 => ⟨S4112x2x64, .f32⟩
  | 71 => ⟨S4112x2x64, .f32⟩
  | 72 => ⟨S4112x128, .f32⟩
  | 73 => ⟨S4112x16x16, .f32⟩
  | 74 => ⟨S4112x16x48, .f32⟩
  | 75 => ⟨S_, .f32⟩
  | 76 => ⟨S4112x16x64, .f32⟩
  | 77 => ⟨S4112x16x8, .f32⟩
  | 78 => ⟨S4112x16x8, .f32⟩
  | 79 => ⟨S4112x16x8, .f32⟩
  | 80 => ⟨S4112x16x8, .f32⟩
  | 81 => ⟨S4112x16x8, .f32⟩
  | 82 => ⟨S4112x16x8, .f32⟩
  | 83 => ⟨S4112x16x8, .f32⟩
  | 84 => ⟨S4112x16x8, .f32⟩
  | 85 => ⟨S4112x16x8, .f32⟩
  | 86 => ⟨S4112x16x8, .f32⟩
  | 87 => ⟨S4112x16x8, .f32⟩
  | 88 => ⟨S4112x16x8, .f32⟩
  | 89 => ⟨S4112x16x8, .f32⟩
  | 90 => ⟨S_, .f32⟩
  | 91 => ⟨S4112x16x16, .f32⟩
  | 92 => ⟨S_, .f32⟩
  | 93 => ⟨S4112x16x16, .f32⟩
  | 94 => ⟨S4112x16x16, .f32⟩
  | 95 => ⟨S_, .f32⟩
  | 96 => ⟨S4112x16x64, .f32⟩
  | 97 => ⟨S4112x16x64, .f32⟩
  | 98 => ⟨S4112x1024, .f32⟩
  | 99 => ⟨S4112x1280, .f32⟩
  | 100 => ⟨S_, .i32⟩
  | 101 => ⟨S_, .f32⟩
  | 102 => ⟨S4224x1280, .f32⟩
  | 103 => ⟨S4224x1280, .bf16⟩
  | 104 => ⟨S1x16, .f32⟩
  | 105 => ⟨S_, .i32⟩
  | 106 => ⟨S_, .f32⟩
  | 107 => ⟨S8x128, .f32⟩
  | _ => ⟨S1x4112x1280, .f32⟩

abbrev hbmTy (i : Nat) : BufTy := match i / 128 with
  | 0 => hbmTy0_0 i
  | 1 => hbmTy0_1 i
  | 2 => hbmTy0_2 i
  | _ => ⟨S1x4112x1280, .f32⟩

abbrev bufTy : (tb : Table) → Fin (tcTables nBuf tb) → BufTy
  | .hbm, ⟨i, _⟩ => hbmTy i
  | _, _ => ⟨S1x4112x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_cst_2 : Ref sig .tc := ⟨.hbm, 50, rfl⟩
abbrev main_v44 : Ref sig .tc := ⟨.hbm, 51, rfl⟩
abbrev main_v45 : Ref sig .tc := ⟨.hbm, 52, rfl⟩
abbrev main_cst_3 : Ref sig .tc := ⟨.hbm, 53, rfl⟩
abbrev main_v46 : Ref sig .tc := ⟨.hbm, 54, rfl⟩
abbrev main_v47 : Ref sig .tc := ⟨.hbm, 55, rfl⟩
abbrev main_cst_4 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_cst_5 : Ref sig .tc := ⟨.hbm, 86, rfl⟩
abbrev main_v77 : Ref sig .tc := ⟨.hbm, 87, rfl⟩
abbrev main_v78 : Ref sig .tc := ⟨.hbm, 88, rfl⟩
abbrev main_cst_6 : Ref sig .tc := ⟨.hbm, 89, rfl⟩
abbrev main_v79 : Ref sig .tc := ⟨.hbm, 90, rfl⟩
abbrev main_cst_7 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_cst_8 : Ref sig .tc := ⟨.hbm, 95, rfl⟩
abbrev main_v83 : Ref sig .tc := ⟨.hbm, 96, rfl⟩
abbrev main_v84 : Ref sig .tc := ⟨.hbm, 97, rfl⟩
abbrev main_cst_9 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_cst_10 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_cst_11 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_c : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_c_12 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_c_13 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_c_14 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_cst_15 : Ref sig .tc := ⟨.hbm, 147, rfl⟩
abbrev main_call0_v0 : Ref sig .tc := ⟨.hbm, 148, rfl⟩
abbrev main_v127_1 : Ref sig .tc := ⟨.hbm, 149, rfl⟩
abbrev main_call0_v2 : Ref sig .tc := ⟨.hbm, 150, rfl⟩
abbrev main_v127_0 : Ref sig .tc := ⟨.hbm, 151, rfl⟩
abbrev main_call0_cst : Ref sig .tc := ⟨.hbm, 152, rfl⟩
abbrev main_v127_2 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_cst_16 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_cst_17 : Ref sig .tc := ⟨.hbm, 164, rfl⟩
abbrev main_v137 : Ref sig .tc := ⟨.hbm, 165, rfl⟩
abbrev main_cst_18 : Ref sig .tc := ⟨.hbm, 166, rfl⟩
abbrev main_v138 : Ref sig .tc := ⟨.hbm, 167, rfl⟩
abbrev main_v139 : Ref sig .tc := ⟨.hbm, 168, rfl⟩
abbrev main_cst_19 : Ref sig .tc := ⟨.hbm, 169, rfl⟩
abbrev main_v140 : Ref sig .tc := ⟨.hbm, 170, rfl⟩
abbrev main_v141 : Ref sig .tc := ⟨.hbm, 171, rfl⟩
abbrev main_cst_20 : Ref sig .tc := ⟨.hbm, 172, rfl⟩
abbrev main_v142 : Ref sig .tc := ⟨.hbm, 173, rfl⟩
abbrev main_v143 : Ref sig .tc := ⟨.hbm, 174, rfl⟩
abbrev main_cst_21 : Ref sig .tc := ⟨.hbm, 175, rfl⟩
abbrev main_v144 : Ref sig .tc := ⟨.hbm, 176, rfl⟩
abbrev main_cst_22 : Ref sig .tc := ⟨.hbm, 177, rfl⟩
abbrev main_v145 : Ref sig .tc := ⟨.hbm, 178, rfl⟩
abbrev main_cst_23 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_cst_24 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_cst_25 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_cst_26 : Ref sig .tc := ⟨.hbm, 197, rfl⟩
abbrev main_v161 : Ref sig .tc := ⟨.hbm, 198, rfl⟩
abbrev main_v162 : Ref sig .tc := ⟨.hbm, 199, rfl⟩
abbrev main_cst_27 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_cst_28 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_cst_29 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_cst_30 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_cst_31 : Ref sig .tc := ⟨.hbm, 231, rfl⟩
abbrev main_v190 : Ref sig .tc := ⟨.hbm, 232, rfl⟩
abbrev main_v191 : Ref sig .tc := ⟨.hbm, 233, rfl⟩
abbrev main_cst_32 : Ref sig .tc := ⟨.hbm, 234, rfl⟩
abbrev main_v192 : Ref sig .tc := ⟨.hbm, 235, rfl⟩
abbrev main_v193 : Ref sig .tc := ⟨.hbm, 236, rfl⟩
abbrev main_cst_33 : Ref sig .tc := ⟨.hbm, 237, rfl⟩
abbrev main_v194 : Ref sig .tc := ⟨.hbm, 238, rfl⟩
abbrev main_cst_34 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_cst_35 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_cst_36 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_cst_37 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_v214 : Ref sig .tc := ⟨.hbm, 262, rfl⟩
abbrev main_cst_38 : Ref sig .tc := ⟨.hbm, 263, rfl⟩
abbrev main_v215 : Ref sig .tc := ⟨.hbm, 264, rfl⟩
abbrev main_v216 : Ref sig .tc := ⟨.hbm, 265, rfl⟩
abbrev main_cst_39 : Ref sig .tc := ⟨.hbm, 266, rfl⟩
abbrev main_v217 : Ref sig .tc := ⟨.hbm, 267, rfl⟩
abbrev main_v218 : Ref sig .tc := ⟨.hbm, 268, rfl⟩
abbrev main_call1_cst : Ref sig .tc := ⟨.hbm, 269, rfl⟩
abbrev main_call1_v0 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_cst_40 : Ref sig .tc := ⟨.hbm, 282, rfl⟩
abbrev main_v230 : Ref sig .tc := ⟨.hbm, 283, rfl⟩
abbrev main_v231 : Ref sig .tc := ⟨.hbm, 284, rfl⟩
abbrev main_cst_41 : Ref sig .tc := ⟨.hbm, 285, rfl⟩
abbrev main_v232 : Ref sig .tc := ⟨.hbm, 286, rfl⟩
abbrev main_v233 : Ref sig .tc := ⟨.hbm, 287, rfl⟩
abbrev main_cst_42 : Ref sig .tc := ⟨.hbm, 288, rfl⟩
abbrev main_v234 : Ref sig .tc := ⟨.hbm, 289, rfl⟩
abbrev main_cst_43 : Ref sig .tc := ⟨.hbm, 290, rfl⟩
abbrev main_v235 : Ref sig .tc := ⟨.hbm, 291, rfl⟩
abbrev main_v236 : Ref sig .tc := ⟨.hbm, 292, rfl⟩
abbrev main_v237 : Ref sig .tc := ⟨.hbm, 293, rfl⟩
abbrev main_v238 : Ref sig .tc := ⟨.hbm, 294, rfl⟩
abbrev main_v239 : Ref sig .tc := ⟨.hbm, 295, rfl⟩
abbrev main_v240 : Ref sig .tc := ⟨.hbm, 296, rfl⟩
abbrev main_cst_44 : Ref sig .tc := ⟨.hbm, 297, rfl⟩
abbrev main_v241 : Ref sig .tc := ⟨.hbm, 298, rfl⟩
abbrev main_v242 : Ref sig .tc := ⟨.hbm, 299, rfl⟩
abbrev main_v243 : Ref sig .tc := ⟨.hbm, 300, rfl⟩
abbrev main_v244 : Ref sig .tc := ⟨.hbm, 301, rfl⟩
abbrev main_v245 : Ref sig .tc := ⟨.hbm, 302, rfl⟩
abbrev main_v246 : Ref sig .tc := ⟨.hbm, 303, rfl⟩
abbrev main_v247 : Ref sig .tc := ⟨.hbm, 304, rfl⟩
abbrev main_cst_45 : Ref sig .tc := ⟨.hbm, 305, rfl⟩
abbrev main_v248 : Ref sig .tc := ⟨.hbm, 306, rfl⟩
abbrev main_v249 : Ref sig .tc := ⟨.hbm, 307, rfl⟩
abbrev main_v250 : Ref sig .tc := ⟨.hbm, 308, rfl⟩
abbrev main_v251 : Ref sig .tc := ⟨.hbm, 309, rfl⟩
abbrev main_v252 : Ref sig .tc := ⟨.hbm, 310, rfl⟩
abbrev main_v253 : Ref sig .tc := ⟨.hbm, 311, rfl⟩
abbrev main_v254 : Ref sig .tc := ⟨.hbm, 312, rfl⟩
abbrev main_v255 : Ref sig .tc := ⟨.hbm, 313, rfl⟩
abbrev main_v256 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_cst_46 : Ref sig .tc := ⟨.hbm, 320, rfl⟩
abbrev main_v262 : Ref sig .tc := ⟨.hbm, 321, rfl⟩
abbrev main_cst_47 : Ref sig .tc := ⟨.hbm, 322, rfl⟩
abbrev main_v263 : Ref sig .tc := ⟨.hbm, 323, rfl⟩
abbrev main_v264 : Ref sig .tc := ⟨.hbm, 324, rfl⟩
abbrev main_cst_48 : Ref sig .tc := ⟨.hbm, 325, rfl⟩
abbrev main_v265 : Ref sig .tc := ⟨.hbm, 326, rfl⟩
abbrev main_v266 : Ref sig .tc := ⟨.hbm, 327, rfl⟩
abbrev main_v267 : Ref sig .tc := ⟨.hbm, 328, rfl⟩
abbrev main_v268 : Ref sig .tc := ⟨.hbm, 329, rfl⟩
abbrev main_v269 : Ref sig .tc := ⟨.hbm, 330, rfl⟩
abbrev main_cst_49 : Ref sig .tc := ⟨.hbm, 331, rfl⟩
abbrev main_v270 : Ref sig .tc := ⟨.hbm, 332, rfl⟩
abbrev main_v271 : Ref sig .tc := ⟨.hbm, 333, rfl⟩
abbrev main_v272 : Ref sig .tc := ⟨.hbm, 334, rfl⟩
abbrev main_v273 : Ref sig .tc := ⟨.hbm, 335, rfl⟩
abbrev main_v274 : Ref sig .tc := ⟨.hbm, 336, rfl⟩
abbrev main_v275 : Ref sig .tc := ⟨.hbm, 337, rfl⟩
abbrev main_v276 : Ref sig .tc := ⟨.hbm, 338, rfl⟩
abbrev main_v277 : Ref sig .tc := ⟨.hbm, 339, rfl⟩
abbrev main_v278 : Ref sig .tc := ⟨.hbm, 340, rfl⟩
abbrev main_v279 : Ref sig .tc := ⟨.hbm, 341, rfl⟩
abbrev main_v280 : Ref sig .tc := ⟨.hbm, 342, rfl⟩
abbrev main_v281 : Ref sig .tc := ⟨.hbm, 343, rfl⟩
abbrev main_v282 : Ref sig .tc := ⟨.hbm, 344, rfl⟩
abbrev main_v283 : Ref sig .tc := ⟨.hbm, 345, rfl⟩
abbrev main_cst_50 : Ref sig .tc := ⟨.hbm, 346, rfl⟩
abbrev main_v284 : Ref sig .tc := ⟨.hbm, 347, rfl⟩
abbrev main_cst_51 : Ref sig .tc := ⟨.hbm, 348, rfl⟩
abbrev main_v285 : Ref sig .tc := ⟨.hbm, 349, rfl⟩
abbrev main_v286 : Ref sig .tc := ⟨.hbm, 350, rfl⟩
abbrev main_cst_52 : Ref sig .tc := ⟨.hbm, 351, rfl⟩
abbrev main_v287 : Ref sig .tc := ⟨.hbm, 352, rfl⟩
abbrev main_v288 : Ref sig .tc := ⟨.hbm, 353, rfl⟩
abbrev main_v289 : Ref sig .tc := ⟨.hbm, 354, rfl⟩
abbrev main_v290 : Ref sig .tc := ⟨.hbm, 355, rfl⟩
abbrev main_c_53 : Ref sig .tc := ⟨.hbm, 356, rfl⟩
abbrev main_call2_v0 : Ref sig .tc := ⟨.hbm, 357, rfl⟩
abbrev main_v291 : Ref sig .tc := ⟨.hbm, 358, rfl⟩
abbrev main_v292 : Ref sig .tc := ⟨.hbm, 359, rfl⟩
abbrev main_v293 : Ref sig .tc := ⟨.hbm, 360, rfl⟩
abbrev main_c_54 : Ref sig .tc := ⟨.hbm, 361, rfl⟩
abbrev main_call3_v0 : Ref sig .tc := ⟨.hbm, 362, rfl⟩
abbrev main_v294 : Ref sig .tc := ⟨.hbm, 363, rfl⟩

abbrev nD : Nat := 1
abbrev τ : Topo := Topo.v7x

variable {F : FTy → Type} [FloatOps F]
-- ==== AttnFwd.lean ====
abbrev S1x4112x1280 : Shape := ⟨3, ![1, 4112, 1280]⟩
abbrev S1x16 : Shape := ⟨2, ![1, 16]⟩
abbrev S4112x1280 : Shape := ⟨2, ![4112, 1280]⟩
abbrev S4112x1024 : Shape := ⟨2, ![4112, 1024]⟩
abbrev S4112x128 : Shape := ⟨2, ![4112, 128]⟩
abbrev S4112 : Shape := ⟨1, ![4112]⟩
abbrev S4112x16x64 : Shape := ⟨3, ![4112, 16, 64]⟩
abbrev S8 : Shape := ⟨1, ![8]⟩
abbrev S_ : Shape := ⟨0, ![]⟩
abbrev S4112x1 : Shape := ⟨2, ![4112, 1]⟩
abbrev S1x8 : Shape := ⟨2, ![1, 8]⟩
abbrev S4112x8 : Shape := ⟨2, ![4112, 8]⟩
abbrev S4112x1x8 : Shape := ⟨3, ![4112, 1, 8]⟩
abbrev S4112x16x16 : Shape := ⟨3, ![4112, 16, 16]⟩
abbrev S4112x16x8 : Shape := ⟨3, ![4112, 16, 8]⟩
abbrev S4112x16x48 : Shape := ⟨3, ![4112, 16, 48]⟩
abbrev S4112x2x64 : Shape := ⟨3, ![4112, 2, 64]⟩
abbrev S4112x2x16 : Shape := ⟨3, ![4112, 2, 16]⟩
abbrev S4112x2x8 : Shape := ⟨3, ![4112, 2, 8]⟩
abbrev S4112x2x48 : Shape := ⟨3, ![4112, 2, 48]⟩
abbrev S4224x1280 : Shape := ⟨2, ![4224, 1280]⟩
abbrev S16 : Shape := ⟨1, ![16]⟩
abbrev S4224x1024 : Shape := ⟨2, ![4224, 1024]⟩
abbrev S528x128 : Shape := ⟨2, ![528, 128]⟩
abbrev S128x1024 : Shape := ⟨2, ![128, 1024]⟩
abbrev S128x128 : Shape := ⟨2, ![128, 128]⟩
abbrev S16x128 : Shape := ⟨2, ![16, 128]⟩
abbrev S1x128 : Shape := ⟨2, ![1, 128]⟩
abbrev S384x128 : Shape := ⟨2, ![384, 128]⟩
abbrev S128x384 : Shape := ⟨2, ![128, 384]⟩
abbrev S1024x128 : Shape := ⟨2, ![1024, 128]⟩
abbrev S384x1024 : Shape := ⟨2, ![384, 1024]⟩
abbrev S1 : Shape := ⟨1, ![1]⟩
abbrev S128 : Shape := ⟨1, ![128]⟩

abbrev nBuf : Space → Nat
  | .hbm => 95
  | .vmem => 16
  | .smem => 1
  | _ => 0

abbrev bufTy : (tb : Table) → Fin (tcTables nBuf tb) → BufTy
  | .hbm, ⟨0, _⟩ => ⟨S1x4112x1280, .f32⟩
  | .hbm, ⟨1, _⟩ => ⟨S1x16, .f32⟩
  | .hbm, ⟨2, _⟩ => ⟨S4112x1280, .f32⟩
  | .hbm, ⟨3, _⟩ => ⟨S4112x1024, .f32⟩
  | .hbm, ⟨4, _⟩ => ⟨S4112x128, .f32⟩
  | .hbm, ⟨5, _⟩ => ⟨S4112x128, .f32⟩
  | .hbm, ⟨6, _⟩ => ⟨S4112, .i32⟩
  | .hbm, ⟨7, _⟩ => ⟨S4112x16x64, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S4112, .f32⟩
  | .hbm, ⟨20, _⟩ => ⟨S4112x1, .f32⟩
  | .hbm, ⟨21, _⟩ => ⟨S1x8, .f32⟩
  | .hbm, ⟨22, _⟩ => ⟨S4112x8, .f32⟩
  | .hbm, ⟨23, _⟩ => ⟨S4112x8, .f32⟩
  | .hbm, ⟨24, _⟩ => ⟨S4112x8, .f32⟩
  | .hbm, ⟨25, _⟩ => ⟨S4112x8, .f32⟩
  | .hbm, ⟨26, _⟩ => ⟨S4112x1x8, .f32⟩
  | .hbm, ⟨27, _⟩ => ⟨S4112x8, .f32⟩
  | .hbm, ⟨28, _⟩ => ⟨S4112x1x8, .f32⟩
  | .hbm, ⟨29, _⟩ => ⟨S4112x16x16, .f32⟩
  | .hbm, ⟨30, _⟩ => ⟨S4112x16x8, .f32⟩
  | .hbm, ⟨31, _⟩ => ⟨S4112x16x8, .f32⟩
  | .hbm, ⟨32, _⟩ => ⟨S4112x16x8, .f32⟩
  | .hbm, ⟨33, _⟩ => ⟨S4112x16x8, .f32⟩
  | .hbm, ⟨34, _⟩ => ⟨S4112x16x8, .f32⟩
  | .hbm, ⟨35, _⟩ => ⟨S4112x16x8, .f32⟩
  | .hbm, ⟨36, _⟩ => ⟨S4112x16x8, .f32⟩
  | .hbm, ⟨37, _⟩ => ⟨S4112x16x8, .f32⟩
  | .hbm, ⟨38, _⟩ => ⟨S4112x16x8, .f32⟩
  | .hbm, ⟨39, _⟩ => ⟨S4112x16x8, .f32⟩
  | .hbm, ⟨40, _⟩ => ⟨S4112x16x8, .f32⟩
  | .hbm, ⟨41, _⟩ => ⟨S4112x16x8, .f32⟩
  | .hbm, ⟨42, _⟩ => ⟨S4112x16x16, .f32⟩
  | .hbm, ⟨43, _⟩ => ⟨S4112x16x48, .f32⟩
  | .hbm, ⟨44, _⟩ => ⟨S4112x16x64, .f32⟩
  | .hbm, ⟨45, _⟩ => ⟨S4112x2x64, .f32⟩
  | .hbm, ⟨46, _⟩ => ⟨S8, .f32⟩
  | .hbm, ⟨47, _⟩ => ⟨S8, .f32⟩
  | .hbm, ⟨48, _⟩ => ⟨S_, .f32⟩
  | .hbm, ⟨49, _⟩ => ⟨S8, .f32⟩
  | .hbm, ⟨50, _⟩ => ⟨S8, .f32⟩
  | .hbm, ⟨51, _⟩ => ⟨S_, .f32⟩
  | .hbm, ⟨52, _⟩ => ⟨S8, .f32⟩
  | .hbm, ⟨53, _⟩ => ⟨S8, .f32⟩
  | .hbm, ⟨54, _⟩ => ⟨S_, .f32⟩
  | .hbm, ⟨55, _⟩ => ⟨S8, .f32⟩
  | .hbm, ⟨56, _⟩ => ⟨S8, .f32⟩
  | .hbm, ⟨57, _⟩ => ⟨S4112, .f32⟩
  | .hbm, ⟨58, _⟩ => ⟨S4112x1, .f32⟩
  | .hbm, ⟨59, _⟩ => ⟨S1x8, .f32⟩
  | .hbm, ⟨60, _⟩ => ⟨S4112x8, .f32⟩
  | .hbm, ⟨61, _⟩ => ⟨S4112x8, .f32⟩
  | .hbm, ⟨62, _⟩ => ⟨S4112x8, .f32⟩
  | .hbm, ⟨63, _⟩ => ⟨S4112x8, .f32⟩
  | .hbm, ⟨64, _⟩ => ⟨S4112x1x8, .f32⟩
  | .hbm, ⟨65, _⟩ => ⟨S4112x8, .f32⟩
  | .hbm, ⟨66, _⟩ => ⟨S4112x1x8, .f32⟩
  | .hbm, ⟨67, _⟩ => ⟨S4112x2x16, .f32⟩
  | .hbm, ⟨68, _⟩ => ⟨S4112x2x8, .f32⟩
  | .hbm, ⟨69, _⟩ => ⟨S4112x2x8, .f32⟩
  | .hbm, ⟨70, _⟩ => ⟨S4112x2x8, .f32⟩
  | .hbm, ⟨71, _⟩ => ⟨S4112x2x8, .f32⟩
  | .hbm, ⟨72, _⟩ => ⟨S4112x2x8, .f32⟩
  | .hbm, ⟨73, _⟩ => ⟨S4112x2x8, .f32⟩
  | .hbm, ⟨74, _⟩ => ⟨S4112x2x8, .f32⟩
  | .hbm, ⟨75, _⟩ => ⟨S4112x2x8, .f32⟩
  | .hbm, ⟨76, _⟩ => ⟨S4112x2x8, .f32⟩
  | .hbm, ⟨77, _⟩ => ⟨S4112x2x8, .f32⟩
  | .hbm, ⟨78, _⟩ => ⟨S4112x2x8, .f32⟩
  | .hbm, ⟨79, _⟩ => ⟨S4112x2x8, .f32⟩
  | .hbm, ⟨80, _⟩ => ⟨S4112x2x16, .f32⟩
  | .hbm, ⟨81, _⟩ => ⟨S4112x2x48, .f32⟩
  | .hbm, ⟨82, _⟩ => ⟨S4112x2x64, .f32⟩
  | .hbm, ⟨83, _⟩ => ⟨S4112x2x64, .f32⟩
  | .hbm, ⟨84, _⟩ => ⟨S4112x1024, .f32⟩
  | .hbm, ⟨85, _⟩ => ⟨S4112x128, .f32⟩
  | .hbm, ⟨86, _⟩ => ⟨S4112x128, .f32⟩
  | .hbm, ⟨87, _⟩ => ⟨S4112x1280, .f32⟩
  | .hbm, ⟨88, _⟩ => ⟨S_, .i32⟩
  | .hbm, ⟨89, _⟩ => ⟨S_, .f32⟩
  | .hbm, ⟨90, _⟩ => ⟨S4224x1280, .f32⟩
  | .hbm, ⟨91, _⟩ => ⟨S4224x1280, .bf16⟩
  | .hbm, ⟨92, _⟩ => ⟨S16, .f32⟩
  | .hbm, ⟨93, _⟩ => ⟨S4224x1024, .bf16⟩
  | .hbm, ⟨94, _⟩ => ⟨S528x128, .f32⟩
  | .local _ .vmem, ⟨0, _⟩ => ⟨S128x1024, .bf16⟩
  | .local _ .vmem, ⟨1, _⟩ => ⟨S128x1024, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S128x1024, .bf16⟩
  | .local _ .vmem, ⟨13, _⟩ => ⟨S128x1024, .bf16⟩
  | .local _ .vmem, ⟨14, _⟩ => ⟨S16x128, .f32⟩
  | .local _ .vmem, ⟨15, _⟩ => ⟨S16x128, .f32⟩
  | .local _ .smem, ⟨0, _⟩ => ⟨S16, .f32⟩
  | _, _ => ⟨S1x4112x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_cst_2 : Ref sig .tc := ⟨.hbm, 48, rfl⟩
abbrev main_v43 : Ref sig .tc := ⟨.hbm, 49, rfl⟩
abbrev main_v44 : Ref sig .tc := ⟨.hbm, 50, rfl⟩
abbrev main_cst_3 : Ref sig .tc := ⟨.hbm, 51, rfl⟩
abbrev main_v45 : Ref sig .tc := ⟨.hbm, 52, rfl⟩
abbrev main_v46 : Ref sig .tc := ⟨.hbm, 53, rfl⟩
abbrev main_cst_4 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_c : Ref sig .tc := ⟨.hbm, 88, rfl⟩
abbrev main_call0_v0 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83_0 : Ref sig .tc := ⟨.hbm, 93, rfl⟩
abbrev main_v83_1 : Ref sig .tc := ⟨.hbm, 94, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![33], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c8_i32 : BitVec 32 := 8#32
  let c0_i32_1 : BitVec 32 := 0#32
  ![c0_i32_0.toNat, c8_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  ![v1.toNat, c8_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  ![arg0.toNat, c8_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c9_i32 : BitVec 32 := 9#32
  let c0_i32_1 : BitVec 32 := 0#32
  ![c0_i32_0.toNat, c9_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let c0_i32_0 : BitVec 32 := 0#32
  ![v1.toNat, c9_i32.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let c0_i32_0 : BitVec 32 := 0#32
  ![arg0.toNat, c9_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttnFwdIdeal.lean ====
variable {F : FTy → Type} [FloatOps F] [Named F]
def κ : String → Option EReal := fun
  | "mask" => some ⊥
  | _ => none
-- ==== AttnFwdRefIdeal.lean ====
abbrev S1x4112x1280 : Shape := ⟨3, ![1, 4112, 1280]⟩
abbrev S1x16 : Shape := ⟨2, ![1, 16]⟩
abbrev S4112x1280 : Shape := ⟨2, ![4112, 1280]⟩
abbrev S4112x1024 : Shape := ⟨2, ![4112, 1024]⟩
abbrev S4112x128 : Shape := ⟨2, ![4112, 128]⟩
abbrev S4112 : Shape := ⟨1, ![4112]⟩
abbrev S4112x16x64 : Shape := ⟨3, ![4112, 16, 64]⟩
abbrev S8 : Shape := ⟨1, ![8]⟩
abbrev S_ : Shape := ⟨0, ![]⟩
abbrev S4112x1 : Shape := ⟨2, ![4112, 1]⟩
abbrev S1x8 : Shape := ⟨2, ![1, 8]⟩
abbrev S4112x8 : Shape := ⟨2, ![4112, 8]⟩
abbrev S4112x1x8 : Shape := ⟨3, ![4112, 1, 8]⟩
abbrev S4112x16x16 : Shape := ⟨3, ![4112, 16, 16]⟩
abbrev S4112x16x8 : Shape := ⟨3, ![4112, 16, 8]⟩
abbrev S4112x16x48 : Shape := ⟨3, ![4112, 16, 48]⟩
abbrev S4112x2x64 : Shape := ⟨3, ![4112, 2, 64]⟩
abbrev S4112x2x16 : Shape := ⟨3, ![4112, 2, 16]⟩
abbrev S4112x2x8 : Shape := ⟨3, ![4112, 2, 8]⟩
abbrev S4112x2x48 : Shape := ⟨3, ![4112, 2, 48]⟩
abbrev S16 : Shape := ⟨1, ![16]⟩
abbrev S112x16x64 : Shape := ⟨3, ![112, 16, 64]⟩
abbrev S4224x16x64 : Shape := ⟨3, ![4224, 16, 64]⟩
abbrev S33x128x2x8x64 : Shape := ⟨5, ![33, 128, 2, 8, 64]⟩
abbrev S112x2x64 : Shape := ⟨3, ![112, 2, 64]⟩
abbrev S4224x2x64 : Shape := ⟨3, ![4224, 2, 64]⟩
abbrev S33x128x2x64 : Shape := ⟨4, ![33, 128, 2, 64]⟩
abbrev S16x2x64 : Shape := ⟨3, ![16, 2, 64]⟩
abbrev S1x16x2x64 : Shape := ⟨4, ![1, 16, 2, 64]⟩
abbrev S33x16x2x64 : Shape := ⟨4, ![33, 16, 2, 64]⟩
abbrev S1x128x2x64 : Shape := ⟨4, ![1, 128, 2, 64]⟩
abbrev S32x128x2x64 : Shape := ⟨4, ![32, 128, 2, 64]⟩
abbrev S33x272x2x64 : Shape := ⟨4, ![33, 272, 2, 64]⟩
abbrev S4224 : Shape := ⟨1, ![4224]⟩
abbrev S33x128 : Shape := ⟨2, ![33, 128]⟩
abbrev S33x128x1 : Shape := ⟨3, ![33, 128, 1]⟩
abbrev S1x1x16 : Shape := ⟨3, ![1, 1, 16]⟩
abbrev S33x256 : Shape := ⟨2, ![33, 256]⟩
abbrev S33x1x256 : Shape := ⟨3, ![33, 1, 256]⟩
abbrev S33x128x16 : Shape := ⟨3, ![33, 128, 16]⟩
abbrev S33x128x256 : Shape := ⟨3, ![33, 128, 256]⟩
abbrev S33x128x272 : Shape := ⟨3, ![33, 128, 272]⟩
abbrev S33x2x272x128x8 : Shape := ⟨5, ![33, 2, 272, 128, 8]⟩
abbrev S33x2x8x128x272 : Shape := ⟨5, ![33, 2, 8, 128, 272]⟩
abbrev S33x1x1x128x272 : Shape := ⟨5, ![33, 1, 1, 128, 272]⟩
abbrev S2x8 : Shape := ⟨2, ![2, 8]⟩
abbrev S1x2x8x1x1 : Shape := ⟨5, ![1, 2, 8, 1, 1]⟩
abbrev S33x2x8x128x1 : Shape := ⟨5, ![33, 2, 8, 128, 1]⟩
abbrev S33x2x8x128x273 : Shape := ⟨5, ![33, 2, 8, 128, 273]⟩
abbrev S33x2x8x128 : Shape := ⟨4, ![33, 2, 8, 128]⟩
abbrev S33x2x64x8x128 : Shape := ⟨5, ![33, 2, 64, 8, 128]⟩
abbrev S4224x1024 : Shape := ⟨2, ![4224, 1024]⟩
abbrev S528x128 : Shape := ⟨2, ![528, 128]⟩

abbrev nBuf : Space → Nat
  | .hbm => 197
  | .vmem => 0
  | .smem => 0
  | _ => 0

abbrev hbmTy0_0 (i : Nat) : BufTy := match i % 128 with
  | 0 => ⟨S1x4112x1280, .f32⟩
  | 1 => ⟨S1x16, .f32⟩
  | 2 => ⟨S4112x1280, .f32⟩
  | 3 => ⟨S4112x1024, .f32⟩
  | 4 => ⟨S4112x128, .f32⟩
  | 5 => ⟨S4112x128, .f32⟩
  | 6 => ⟨S4112, .i32⟩
  | 7 => ⟨S4112x16x64, .f32⟩
  | 8 => ⟨S8, .f32⟩
  | 9 => ⟨S8, .f32⟩
  | 10 => ⟨S_, .f32⟩
  | 11 => ⟨S8, .f32⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S8, .f32⟩
  | 19 => ⟨S4112, .f32⟩
  | 20 => ⟨S4112x1, .f32⟩
  | 21 => ⟨S1x8, .f32⟩
  | 22 => ⟨S4112x8, .f32⟩
  | 23 => ⟨S4112x8, .f32⟩
  | 24 => ⟨S4112x8, .f32⟩
  | 25 => ⟨S4112x8, .f32⟩
  | 26 => ⟨S4112x1x8, .f32⟩
  | 27 => ⟨S4112x8, .f32⟩
  | 28 => ⟨S4112x1x8, .f32⟩
  | 29 => ⟨S4112x16x16, .f32⟩
  | 30 => ⟨S4112x16x8, .f32⟩
  | 31 => ⟨S4112x16x8, .f32⟩
  | 32 => ⟨S4112x16x8, .f32⟩
  | 33 => ⟨S4112x16x8, .f32⟩
  | 34 => ⟨S4112x16x8, .f32⟩
  | 35 => ⟨S4112x16x8, .f32⟩
  | 36 => ⟨S4112x16x8, .f32⟩
  | 37 => ⟨S4112x16x8, .f32⟩
  | 38 => ⟨S4112x16x8, .f32⟩
  | 39 => ⟨S4112x16x8, .f32⟩
  | 40 => ⟨S4112x16x8, .f32⟩
  | 41 => ⟨S4112x16x8, .f32⟩
  | 42 => ⟨S4112x16x16, .f32⟩
  | 43 => ⟨S4112x16x48, .f32⟩
  | 44 => ⟨S4112x16x64, .f32⟩
  | 45 => ⟨S4112x2x64, .f32⟩
  | 46 => ⟨S8, .f32⟩
  | 47 => ⟨S8, .f32⟩
  | 48 => ⟨S_, .f32⟩
  | 49 => ⟨S8, .f32⟩
  | 50 => ⟨S8, .f32⟩
  | 51 => ⟨S_, .f32⟩
  | 52 => ⟨S8, .f32⟩
  | 53 => ⟨S8, .f32⟩
  | 54 => ⟨S_, .f32⟩
  | 55 => ⟨S8, .f32⟩
  | 56 => ⟨S8, .f32⟩
  | 57 => ⟨S4112, .f32⟩
  | 58 => ⟨S4112x1, .f32⟩
  | 59 => ⟨S1x8, .f32⟩
  | 60 => ⟨S4112x8, .f32⟩
  | 61 => ⟨S4112x8, .f32⟩
  | 62 => ⟨S4112x8, .f32⟩
  | 63 => ⟨S4112x8, .f32⟩
  | 64 => ⟨S4112x1x8, .f32⟩
  | 65 => ⟨S4112x8, .f32⟩
  | 66 => ⟨S4112x1x8, .f32⟩
  | 67 => ⟨S4112x2x16, .f32⟩
  | 68 => ⟨S4112x2x8, .f32⟩
  | 69 => ⟨S4112x2x8, .f32⟩
  | 70 => ⟨S4112x2x8, .f32⟩
  | 71 => ⟨S4112x2x8, .f32⟩
  | 72 => ⟨S4112x2x8, .f32⟩
  | 73 => ⟨S4112x2x8, .f32⟩
  | 74 => ⟨S4112x2x8, .f32⟩
  | 75 => ⟨S4112x2x8, .f32⟩
  | 76 => ⟨S4112x2x8, .f32⟩
  | 77 => ⟨S4112x2x8, .f32⟩
  | 78 => ⟨S4112x2x8, .f32⟩
  | 79 => ⟨S4112x2x8, .f32⟩
  | 80 => ⟨S4112x2x16, .f32⟩
  | 81 => ⟨S4112x2x48, .f32⟩
  | 82 => ⟨S4112x2x64, .f32⟩
  | 83 => ⟨S4112x2x64, .f32⟩
  | 84 => ⟨S16, .f32⟩
  | 85 => ⟨S_, .f32⟩
  | 86 => ⟨S112x16x64, .f32⟩
  | 87 => ⟨S4224x16x64, .f32⟩
  | 88 => ⟨S_, .f32⟩
  | 89 => ⟨S4224x16x64, .f32⟩
  | 90 => ⟨S4224x16x64, .f32⟩
  | 91 => ⟨S33x128x2x8x64, .f32⟩
  | 92 => ⟨S_, .f32⟩
  | 93 => ⟨S112x2x64, .f32⟩
  | 94 => ⟨S4224x2x64, .f32⟩
  | 95 => ⟨S33x128x2x64, .f32⟩
  | 96 => ⟨S16x2x64, .f32⟩
  | 97 => ⟨S1x16x2x64, .f32⟩
  | 98 => ⟨S33x16x2x64, .f32⟩
  | 99 => ⟨S1x128x2x64, .f32⟩
  | 100 => ⟨S_, .f32⟩
  | 101 => ⟨S1x128x2x64, .f32⟩
  | 102 => ⟨S32x128x2x64, .f32⟩
  | 103 => ⟨S33x128x2x64, .f32⟩
  | 104 => ⟨S33x272x2x64, .f32⟩
  | 105 => ⟨S4224, .i32⟩
  | 106 => ⟨S_, .i32⟩
  | 107 => ⟨S4224, .i32⟩
  | 108 => ⟨S4224, .i32⟩
  | 109 => ⟨S33x128, .i32⟩
  | 110 => ⟨S33x128x1, .i32⟩
  | 111 => ⟨S16, .i32⟩
  | 112 => ⟨S1x1x16, .i32⟩
  | 113 => ⟨S_, .i32⟩
  | 114 => ⟨S33x128, .i32⟩
  | 115 => ⟨S33x128, .i32⟩
  | 116 => ⟨S33x256, .i32⟩
  | 117 => ⟨S33x1x256, .i32⟩
  | 118 => ⟨S33x128x16, .i32⟩
  | 119 => ⟨S33x128x16, .i32⟩
  | 120 => ⟨S33x128x16, .i1⟩
  | 121 => ⟨S_, .i32⟩
  | 122 => ⟨S33x1x256, .i32⟩
  | 123 => ⟨S33x1x256, .i1⟩
  | 124 => ⟨S33x128x256, .i32⟩
  | 125 => ⟨S33x128x256, .i32⟩
  | 126 => ⟨S33x128x256, .i1⟩
  | 127 => ⟨S33x128x256, .i1⟩
  | _ => ⟨S1x4112x1280, .f32⟩

abbrev hbmTy0_1 (i : Nat) : BufTy := match i % 128 with
  | 0 => ⟨S33x128x256, .i1⟩
  | 1 => ⟨S33x128x256, .i32⟩
  | 2 => ⟨S33x128x256, .i32⟩
  | 3 => ⟨S33x128x256, .i32⟩
  | 4 => ⟨S_, .i32⟩
  | 5 => ⟨S33x128x256, .i32⟩
  | 6 => ⟨S33x128x256, .i1⟩
  | 7 => ⟨S33x128x256, .i1⟩
  | 8 => ⟨S33x128x272, .i1⟩
  | 9 => ⟨S33x2x272x128x8, .f32⟩
  | 10 => ⟨S33x2x8x128x272, .f32⟩
  | 11 => ⟨S33x1x1x128x272, .i1⟩
  | 12 => ⟨S_, .f32⟩
  | 13 => ⟨S_, .f32⟩
  | 14 => ⟨S33x2x8x128x272, .i1⟩
  | 15 => ⟨S33x2x8x128x272, .f32⟩
  | 16 => ⟨S33x2x8x128x272, .f32⟩
  | 17 => ⟨S2x8, .f32⟩
  | 18 => ⟨S1x2x8x1x1, .f32⟩
  | 19 => ⟨S33x2x8x128x1, .f32⟩
  | 20 => ⟨S33x2x8x128x273, .f32⟩
  | 21 => ⟨S_, .f32⟩
  | 22 => ⟨S33x2x8x128, .f32⟩
  | 23 => ⟨S33x2x8x128x1, .f32⟩
  | 24 => ⟨S33x2x8x128x273, .f32⟩
  | 25 => ⟨S33x2x8x128x273, .f32⟩
  | 26 => ⟨S33x2x8x128x273, .f32⟩
  | 27 => ⟨S_, .f32⟩
  | 28 => ⟨S33x2x8x128, .f32⟩
  | 29 => ⟨S33x2x8x128x1, .f32⟩
  | 30 => ⟨S33x2x8x128x1, .f32⟩
  | 31 => ⟨S33x2x8x128x1, .f32⟩
  | 32 => ⟨S_, .f32⟩
  | 33 => ⟨S33x2x8x128, .f32⟩
  | 34 => ⟨S_, .f32⟩
  | 35 => ⟨S33x2x8x128, .f32⟩
  | 36 => ⟨S33x2x8x128, .f32⟩
  | 37 => ⟨S33x2x8x128x1, .f32⟩
  | 38 => ⟨S33x2x8x128x273, .f32⟩
  | 39 => ⟨S33x2x8x128x273, .f32⟩
  | 40 => ⟨S33x2x8x128x273, .f32⟩
  | 41 => ⟨S_, .f32⟩
  | 42 => ⟨S33x2x8x128, .f32⟩
  | 43 => ⟨S33x2x8x128x1, .f32⟩
  | 44 => ⟨S33x2x8x128x273, .f32⟩
  | 45 => ⟨S33x2x8x128x273, .f32⟩
  | 46 => ⟨S33x2x8x128x272, .f32⟩
  | 47 => ⟨S_, .f32⟩
  | 48 => ⟨S112x2x64, .f32⟩
  | 49 => ⟨S4224x2x64, .f32⟩
  | 50 => ⟨S33x128x2x64, .f32⟩
  | 51 => ⟨S16x2x64, .f32⟩
  | 52 => ⟨S1x16x2x64, .f32⟩
  | 53 => ⟨S33x16x2x64, .f32⟩
  | 54 => ⟨S1x128x2x64, .f32⟩
  | 55 => ⟨S_, .f32⟩
  | 56 => ⟨S1x128x2x64, .f32⟩
  | 57 => ⟨S32x128x2x64, .f32⟩
  | 58 => ⟨S33x128x2x64, .f32⟩
  | 59 => ⟨S33x272x2x64, .f32⟩
  | 60 => ⟨S33x2x64x8x128, .f32⟩
  | 61 => ⟨S33x128x2x8x64, .f32⟩
  | 62 => ⟨S4224x1024, .f32⟩
  | 63 => ⟨S4112x1024, .f32⟩
  | 64 => ⟨S_, .i32⟩
  | 65 => ⟨S_, .f32⟩
  | 66 => ⟨S4224x1024, .f32⟩
  | 67 => ⟨S4224x1024, .bf16⟩
  | 68 => ⟨S528x128, .f32⟩
  | _ => ⟨S1x4112x1280, .f32⟩

abbrev hbmTy (i : Nat) : BufTy := match i / 128 with
  | 0 => hbmTy0_0 i
  | 1 => hbmTy0_1 i
  | _ => ⟨S1x4112x1280, .f32⟩

abbrev bufTy : (tb : Table) → Fin (tcTables nBuf tb) → BufTy
  | .hbm, ⟨i, _⟩ => hbmTy i
  | _, _ => ⟨S1x4112x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_cst_2 : Ref sig .tc := ⟨.hbm, 48, rfl⟩
abbrev main_v43 : Ref sig .tc := ⟨.hbm, 49, rfl⟩
abbrev main_v44 : Ref sig .tc := ⟨.hbm, 50, rfl⟩
abbrev main_cst_3 : Ref sig .tc := ⟨.hbm, 51, rfl⟩
abbrev main_v45 : Ref sig .tc := ⟨.hbm, 52, rfl⟩
abbrev main_v46 : Ref sig .tc := ⟨.hbm, 53, rfl⟩
abbrev main_cst_4 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_cst_5 : Ref sig .tc := ⟨.hbm, 85, rfl⟩
abbrev main_v77 : Ref sig .tc := ⟨.hbm, 86, rfl⟩
abbrev main_v78 : Ref sig .tc := ⟨.hbm, 87, rfl⟩
abbrev main_cst_6 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_cst_7 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_cst_8 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_c : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_c_9 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_c_10 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_c_11 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_cst_12 : Ref sig .tc := ⟨.hbm, 140, rfl⟩
abbrev main_call0_v0 : Ref sig .tc := ⟨.hbm, 141, rfl⟩
abbrev main_call0_v1 : Ref sig .tc := ⟨.hbm, 142, rfl⟩
abbrev main_call0_v2 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_cst_13 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_cst_14 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_cst_15 : Ref sig .tc := ⟨.hbm, 160, rfl⟩
abbrev main_v138 : Ref sig .tc := ⟨.hbm, 161, rfl⟩
abbrev main_cst_16 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_cst_17 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_cst_18 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_cst_19 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_c_20 : Ref sig .tc := ⟨.hbm, 192, rfl⟩
abbrev main_call1_v0 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩

abbrev nD : Nat := 1
abbrev τ : Topo := Topo.v7x

variable {F : FTy → Type} [FloatOps F]
-- ==== DwProj.lean ====
abbrev S1x4112x1024 : Shape := ⟨3, ![1, 4112, 1024]⟩
abbrev S4112x1024 : Shape := ⟨2, ![4112, 1024]⟩
abbrev S_ : Shape := ⟨0, ![]⟩
abbrev S4224x1024 : Shape := ⟨2, ![4224, 1024]⟩
abbrev S1024x1024 : Shape := ⟨2, ![1024, 1024]⟩
abbrev S2112x1024 : Shape := ⟨2, ![2112, 1024]⟩

abbrev nBuf : Space → Nat
  | .hbm => 13
  | .vmem => 6
  | .smem => 0
  | _ => 0

abbrev bufTy : (tb : Table) → Fin (tcTables nBuf tb) → BufTy
  | .hbm, ⟨0, _⟩ => ⟨S1x4112x1024, .f32⟩
  | .hbm, ⟨1, _⟩ => ⟨S1x4112x1024, .f32⟩
  | .hbm, ⟨2, _⟩ => ⟨S4112x1024, .f32⟩
  | .hbm, ⟨3, _⟩ => ⟨S_, .i32⟩
  | .hbm, ⟨4, _⟩ => ⟨S_, .f32⟩
  | .hbm, ⟨5, _⟩ => ⟨S4224x1024, .f32⟩
  | .hbm, ⟨6, _⟩ => ⟨S4224x1024, .bf16⟩
  | .hbm, ⟨7, _⟩ => ⟨S4112x1024, .f32⟩
  | .hbm, ⟨8, _⟩ => ⟨S_, .i32⟩
  | .hbm, ⟨9, _⟩ => ⟨S_, .f32⟩
  | .hbm, ⟨10, _⟩ => ⟨S4224x1024, .f32⟩
  | .hbm, ⟨11, _⟩ => ⟨S4224x1024, .bf16⟩
  | .hbm, ⟨12, _⟩ => ⟨S1024x1024, .bf16⟩
  | .local _ .vmem, ⟨0, _⟩ => ⟨S2112x1024, .bf16⟩
  | .local _ .vmem, ⟨1, _⟩ => ⟨S2112x1024, .bf16⟩
  | .local _ .vmem, ⟨2, _⟩ => ⟨S2112x1024, .bf16⟩
  | .local _ .vmem, ⟨3, _⟩ => ⟨S2112x1024, .bf16⟩
  | .local _ .vmem, ⟨4, _⟩ => ⟨S1024x1024, .bf16⟩
  | .local _ .vmem, ⟨5, _⟩ => ⟨S1024x1024, .f32⟩
  | _, _ => ⟨S1x4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwProjRefIdeal.lean ====
abbrev S1x4112x1024 : Shape := ⟨3, ![1, 4112, 1024]⟩
abbrev S_ : Shape := ⟨0, ![]⟩
abbrev S1024x1024 : Shape := ⟨2, ![1024, 1024]⟩
abbrev S4112x1024 : Shape := ⟨2, ![4112, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1x4112x1024, .f32⟩
  | .hbm, ⟨1, _⟩ => ⟨S1x4112x1024, .f32⟩
  | .hbm, ⟨2, _⟩ => ⟨S_, .f32⟩
  | .hbm, ⟨3, _⟩ => ⟨S1024x1024, .f32⟩
  | .hbm, ⟨4, _⟩ => ⟨S4112x1024, .f32⟩
  | .hbm, ⟨5, _⟩ => ⟨S4112x1024, .f32⟩
  | .hbm, ⟨6, _⟩ => ⟨S4112x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S1x4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwDown.lean ====
abbrev S1x4112x2816 : Shape := ⟨3, ![1, 4112, 2816]⟩
abbrev S1x4112x1024 : Shape := ⟨3, ![1, 4112, 1024]⟩
abbrev S4112x2816 : Shape := ⟨2, ![4112, 2816]⟩
abbrev S_ : Shape := ⟨0, ![]⟩
abbrev S4224x2816 : Shape := ⟨2, ![4224, 2816]⟩
abbrev S4112x1024 : Shape := ⟨2, ![4112, 1024]⟩
abbrev S4224x1024 : Shape := ⟨2, ![4224, 1024]⟩
abbrev S2816x1024 : Shape := ⟨2, ![2816, 1024]⟩
abbrev S1056x2816 : Shape := ⟨2, ![1056, 2816]⟩
abbrev S1056x512 : Shape := ⟨2, ![1056, 512]⟩
abbrev S2816x512 : Shape := ⟨2, ![2816, 512]⟩

abbrev nBuf : Space → Nat
  | .hbm => 13
  | .vmem => 7
  | .smem => 0
  | _ => 0

abbrev bufTy : (tb : Table) → Fin (tcTables nBuf tb) → BufTy
  | .hbm, ⟨0, _⟩ => ⟨S1x4112x2816, .f32⟩
  | .hbm, ⟨1, _⟩ => ⟨S1x4112x1024, .f32⟩
  | .hbm, ⟨2, _⟩ => ⟨S4112x2816, .f32⟩
  | .hbm, ⟨3, _⟩ => ⟨S_, .i32⟩
  | .hbm, ⟨4, _⟩ => ⟨S_, .f32⟩
  | .hbm, ⟨5, _⟩ => ⟨S4224x2816, .f32⟩
  | .hbm, ⟨6, _⟩ => ⟨S4224x2816, .bf16⟩
  | .hbm, ⟨7, _⟩ => ⟨S4112x1024, .f32⟩
  | .hbm, ⟨8, _⟩ => ⟨S_, .i32⟩
  | .hbm, ⟨9, _⟩ => ⟨S_, .f32⟩
  | .hbm, ⟨10, _⟩ => ⟨S4224x1024, .f32⟩
  | .hbm, ⟨11, _⟩ => ⟨S4224x1024, .bf16⟩
  | .hbm, ⟨12, _⟩ => ⟨S2816x1024, .bf16⟩
  | .local _ .vmem, ⟨0, _⟩ => ⟨S1056x2816, .bf16⟩
  | .local _ .vmem, ⟨1, _⟩ => ⟨S1056x2816, .bf16⟩
  | .local _ .vmem, ⟨2, _⟩ => ⟨S1056x512, .bf16⟩
  | .local _ .vmem, ⟨3, _⟩ => ⟨S1056x512, .bf16⟩
  | .local _ .vmem, ⟨4, _⟩ => ⟨S2816x512, .bf16⟩
  | .local _ .vmem, ⟨5, _⟩ => ⟨S2816x512, .bf16⟩
  | .local _ .vmem, ⟨6, _⟩ => ⟨S2816x512, .f32⟩
  | _, _ => ⟨S1x4112x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S1056x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1056x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2816x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S1x4112x2816 : Shape := ⟨3, ![1, 4112, 2816]⟩
abbrev S1x4112x1024 : Shape := ⟨3, ![1, 4112, 1024]⟩
abbrev S_ : Shape := ⟨0, ![]⟩
abbrev S2816x1024 : Shape := ⟨2, ![2816, 1024]⟩
abbrev S4112x2816 : Shape := ⟨2, ![4112, 2816]⟩
abbrev S4112x1024 : Shape := ⟨2, ![4112, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S1x4112x2816, .f32⟩
  | .hbm, ⟨1, _⟩ => ⟨S1x4112x1024, .f32⟩
  | .hbm, ⟨2, _⟩ => ⟨S_, .f32⟩
  | .hbm, ⟨3, _⟩ => ⟨S2816x1024, .f32⟩
  | .hbm, ⟨4, _⟩ => ⟨S4112x2816, .f32⟩
  | .hbm, ⟨5, _⟩ => ⟨S4112x1024, .f32⟩
  | .hbm, ⟨6, _⟩ => ⟨S4112x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S1x4112x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwUp.lean ====
abbrev S1x4112x1024 : Shape := ⟨3, ![1, 4112, 1024]⟩
abbrev S1x4112x5632 : Shape := ⟨3, ![1, 4112, 5632]⟩
abbrev S4112x1024 : Shape := ⟨2, ![4112, 1024]⟩
abbrev S_ : Shape := ⟨0, ![]⟩
abbrev S4224x1024 : Shape := ⟨2, ![4224, 1024]⟩
abbrev S4112x5632 : Shape := ⟨2, ![4112, 5632]⟩
abbrev S4224x5632 : Shape := ⟨2, ![4224, 5632]⟩
abbrev S4x1024x1408 : Shape := ⟨3, ![4, 1024, 1408]⟩
abbrev S2112x1024 : Shape := ⟨2, ![2112, 1024]⟩
abbrev S2112x1408 : Shape := ⟨2, ![2112, 1408]⟩
abbrev S1x1024x1408 : Shape := ⟨3, ![1, 1024, 1408]⟩
abbrev S1024x1408 : Shape := ⟨2, ![1024, 1408]⟩

abbrev nBuf : Space → Nat
  | .hbm => 13
  | .vmem => 7
  | .smem => 0
  | _ => 0

abbrev bufTy : (tb : Table) → Fin (tcTables nBuf tb) → BufTy
  | .hbm, ⟨0, _⟩ => ⟨S1x4112x1024, .f32⟩
  | .hbm, ⟨1, _⟩ => ⟨S1x4112x5632, .f32⟩
  | .hbm, ⟨2, _⟩ => ⟨S4112x1024, .f32⟩
  | .hbm, ⟨3, _⟩ => ⟨S_, .i32⟩
  | .hbm, ⟨4, _⟩ => ⟨S_, .f32⟩
  | .hbm, ⟨5, _⟩ => ⟨S4224x1024, .f32⟩
  | .hbm, ⟨6, _⟩ => ⟨S4224x1024, .bf16⟩
  | .hbm, ⟨7, _⟩ => ⟨S4112x5632, .f32⟩
  | .hbm, ⟨8, _⟩ => ⟨S_, .i32⟩
  | .hbm, ⟨9, _⟩ => ⟨S_, .f32⟩
  | .hbm, ⟨10, _⟩ => ⟨S4224x5632, .f32⟩
  | .hbm, ⟨11, _⟩ => ⟨S4224x5632, .bf16⟩
  | .hbm, ⟨12, _⟩ => ⟨S4x1024x1408, .bf16⟩
  | .local _ .vmem, ⟨0, _⟩ => ⟨S2112x1024, .bf16⟩
  | .local _ .vmem, ⟨1, _⟩ => ⟨S2112x1024, .bf16⟩
  | .local _ .vmem, ⟨2, _⟩ => ⟨S2112x1408, .bf16⟩
  | .local _ .vmem, ⟨3, _⟩ => ⟨S2112x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S1x4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2112x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S1x4112x1024 : Shape := ⟨3, ![1, 4112, 1024]⟩
abbrev S1x4112x5632 : Shape := ⟨3, ![1, 4112, 5632]⟩
abbrev S_ : Shape := ⟨0, ![]⟩
abbrev S1024x5632 : Shape := ⟨2, ![1024, 5632]⟩
abbrev S4112x1024 : Shape := ⟨2, ![4112, 1024]⟩
abbrev S4112x5632 : Shape := ⟨2, ![4112, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S1x4112x1024, .f32⟩
  | .hbm, ⟨1, _⟩ => ⟨S1x4112x5632, .f32⟩
  | .hbm, ⟨2, _⟩ => ⟨S_, .f32⟩
  | .hbm, ⟨3, _⟩ => ⟨S1024x5632, .f32⟩
  | .hbm, ⟨4, _⟩ => ⟨S4112x1024, .f32⟩
  | .hbm, ⟨5, _⟩ => ⟨S4112x5632, .f32⟩
  | .hbm, ⟨6, _⟩ => ⟨S4112x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | .hbm, ⟨11, _⟩ => ⟨S4x1024x1408, .bf16⟩
  | _, _ => ⟨S1x4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.Rows.lean ====
/- One row of a normalisation's gradient, over the extended reals: the facts the value proofs share.
   Real numbers sit in the extended reals as a subring; a row of finite numbers stays in it under every
   operation used here, and there the kernels' closed gradients equal the chain rule's. -/
module

public import Idealize.ShloMosaic.Lib.Pointwise
public import Idealize.ShloMosaic.PureOps.Ideal.Laws

@[expose] public section

set_option maxRecDepth 16384

noncomputable section

namespace Cert.Rows
open Idealize.ShloMosaic

/-- A finite extended real. -/
def Fin' (x : EReal) : Prop := ∃ r : ℝ, x = (r : EReal)

/-- The predicate `|x| < ∞` on one element says that the element is finite. -/
theorem finite_of_abs_lt {x : EReal} (h : max x (-x) < ⊤) : Fin' x := by
  induction x with
  | bot => simp at h
  | top => simp at h
  | coe r => exact ⟨r, rfl⟩

theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.sub {x y : EReal} (hx : Fin' x) (hy : Fin' y) : Fin' (x - y) := by
  obtain ⟨a, rfl⟩ := hx; obtain ⟨b, rfl⟩ := hy; exact ⟨a - b, (EReal.coe_sub a b).symm⟩
theorem Fin'.zero : Fin' 0 := ⟨0, rfl⟩

/-- The embedding of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Fin'.sum {ι : Type*} (s : Finset ι) {f : ι → EReal} (h : ∀ i, Fin' (f i)) : Fin' (∑ i ∈ s, f i) := by
  choose g hg using h
  exact ⟨∑ i ∈ s, g i, by rw [coe_sum]; exact Finset.sum_congr rfl fun i _ => hg i⟩

/-- The sigmoid of any extended real is finite. -/
theorem fin_logistic (x : EReal) : Fin' (Ideal.logistic x) := by
  induction x with
  | bot => exact ⟨0, by simp⟩
  | top => exact ⟨1, by simp⟩
  | coe r => exact ⟨_, Ideal.logistic_coe r⟩

theorem div_coe_coe (a : ℝ) {b : ℝ} (hb : b ≠ 0) : Ideal.div (a : EReal) (b : EReal) = ((a / b : ℝ) : EReal) := by
  rw [Ideal.div_coe hb, ← EReal.coe_mul, mul_one_div]

theorem rsqrt_pos {v : ℝ} (hv : 0 < v) : Ideal.rsqrt (v : EReal) = (((Real.sqrt v)⁻¹ : ℝ) : EReal) := by
  rw [Ideal.rsqrt_coe, if_neg (not_lt.mpr hv.le), if_neg hv.ne']

/-! The literals the programs divide by, add under the root and multiply with. -/
abbrev n1024 : EReal := Ideal.ofBits .f32 1149239296#32
theorem n1024_eq : n1024 = ((1024 : ℝ) : EReal) := by
  simp [n1024, Ideal.ofBits, Ideal.ieee, -EReal.coe_mul]; norm_num
abbrev epsLn : EReal := Ideal.ofBits .f32 925353388#32
theorem epsLn_eq : ∃ e : ℝ, 0 < e ∧ epsLn = (e : EReal) := by
  refine ⟨10995116 * 2 ^ (-40 : ℤ), by positivity, ?_⟩
  simp [epsLn, Ideal.ofBits, Ideal.ieee, -EReal.coe_mul]
abbrev negHalf : EReal := Ideal.ofBits .f32 3204448256#32
theorem negHalf_eq : negHalf = ((-(1/2) : ℝ) : EReal) := by
  simp [negHalf, Ideal.ofBits, Ideal.ieee, -EReal.coe_mul]; norm_num
abbrev two : EReal := Ideal.ofBits .f32 1073741824#32
theorem two_eq : two = ((2 : ℝ) : EReal) := by
  simp [two, Ideal.ofBits, Ideal.ieee, -EReal.coe_mul]; norm_num
theorem inf_eq : Ideal.ofBits .f32 2139095040#32 = ⊤ := by
  simp [Ideal.ofBits, Ideal.ieee]

/-! ## Layer normalisation -/

/-- Over the reals: centring a row makes its sum vanish, so the chain rule through the mean and the
    variance collapses to the closed gradient. -/
theorem ln_real {n : ℕ} (xc g : Fin n → ℝ) (N v : ℝ) (hN : N ≠ 0) (hv : 0 < v) (h0 : ∑ k, xc k = 0) (l : Fin n) :
    (Real.sqrt v)⁻¹ * (g l - (∑ k, g k) / N - xc l * (Real.sqrt v)⁻¹ * ((∑ k, g k * (xc k * (Real.sqrt v)⁻¹)) / N))
    = (g l * (Real.sqrt v)⁻¹ + (∑ k, xc k * g k) * (-(1/2) * ((Real.sqrt v)⁻¹ / v)) / N * (2 * xc l))
      + (∑ k, -(g k * (Real.sqrt v)⁻¹) + ∑ k, -((∑ k, xc k * g k) * (-(1/2) * ((Real.sqrt v)⁻¹ / v)) / N * (2 * xc k))) / N := by
  have hs : Real.sqrt v * Real.sqrt v = v := Real.mul_self_sqrt hv.le
  have hr : (Real.sqrt v)⁻¹ / v = (Real.sqrt v)⁻¹ * (Real.sqrt v)⁻¹ * (Real.sqrt v)⁻¹ := by
    rw [div_eq_mul_inv, show v⁻¹ = (Real.sqrt v)⁻¹ * (Real.sqrt v)⁻¹ by rw [← mul_inv, hs]]; ring
  rw [hr]
  generalize (Real.sqrt v)⁻¹ = s
  have e1 : ∑ k, g k * (xc k * s) = (∑ k, xc k * g k) * s := by
    rw [Finset.sum_mul]; exact Finset.sum_congr rfl fun k _ => by ring
  have e2 : ∑ k, -(g k * s) = -((∑ k, g k) * s) := by rw [Finset.sum_neg_distrib, Finset.sum_mul]
  generalize hT : (∑ k, xc k * g k) = T at *
  have e3 : ∑ k, -(T * (-(1/2) * (s * s * s)) / N * (2 * xc k)) = 0 := by
    rw [Finset.sum_neg_distrib, ← Finset.mul_sum, ← Finset.mul_sum, h0]; simp
  rw [e1, e2, e3]
  field_simp
  ring

/-- A row of finite numbers is a row of reals. -/
theorem lift_row {n : ℕ} {x : Fin n → EReal} (h : ∀ k, Fin' (x k)) : ∃ r : Fin n → ℝ, x = fun k => (r k : EReal) := by
  choose r hr using h
  exact ⟨r, funext hr⟩

/-- A row's mean, its centred entries, the reciprocal root of its variance, its normalised entries. -/
def mu (x : Fin 1024 → EReal) : EReal := Ideal.div (∑ k, x k) n1024
def va (x : Fin 1024 → EReal) : EReal := Ideal.div (∑ k, (x k - mu x) * (x k - mu x)) n1024 + epsLn
def rs (x : Fin 1024 → EReal) : EReal := Ideal.rsqrt (va x)
def xh (x : Fin 1024 → EReal) (l : Fin 1024) : EReal := (x l - mu x) * rs x

/-- The closed gradient of a normalised row with respect to the row. -/
def lnG (x g : Fin 1024 → EReal) (l : Fin 1024) : EReal :=
  rs x * (g l - Ideal.div (∑ k, g k) n1024 - xh x l * Ideal.div (∑ k, g k * xh x k) n1024)

/-- The chain rule through the variance: what multiplies twice the centred row. -/
def lnT (x g : Fin 1024 → EReal) : EReal :=
  Ideal.div ((∑ k, (x k - mu x) * g k) * (negHalf * Ideal.div (rs x) (va x))) n1024

/-- The same gradient as the chain rule writes it, term by term. -/
def lnR (x g : Fin 1024 → EReal) (l : Fin 1024) : EReal :=
  g l * rs x + lnT x g * (two * (x l - mu x))
    + Ideal.div (∑ k, -(g k * rs x) + ∑ k, -(lnT x g * (two * (x k - mu x)))) n1024

theorem va_real (r : Fin 1024 → ℝ) : ∃ v : ℝ, 0 < v ∧ va (fun k => (r k : EReal)) = (v : EReal) := by
  obtain ⟨e, he, hE⟩ := epsLn_eq
  refine ⟨(∑ k, (r k - (∑ k, r k) / 1024) * (r k - (∑ k, r k) / 1024)) / 1024 + e, ?_, ?_⟩
  · have : 0 ≤ ∑ k, (r k - (∑ k, r k) / 1024) * (r k - (∑ k, r k) / 1024) :=
      Finset.sum_nonneg fun k _ => mul_self_nonneg _
    positivity
  · simp only [va, mu, n1024_eq, hE, ← coe_sum, div_coe_coe _ (show (1024 : ℝ) ≠ 0 by norm_num), ← EReal.coe_sub,
      ← EReal.coe_mul, ← EReal.coe_add]

theorem mu_real (r : Fin 1024 → ℝ) : mu (fun k => (r k : EReal)) = (((∑ k, r k) / 1024 : ℝ) : EReal) := by
  simp only [mu, n1024_eq, ← coe_sum, div_coe_coe _ (show (1024 : ℝ) ≠ 0 by norm_num)]

/-- On finite rows the two forms agree. -/
theorem lnG_eq_lnR {x g : Fin 1024 → EReal} (hx : ∀ k, Fin' (x k)) (hg : ∀ k, Fin' (g k)) (l : Fin 1024) :
    lnG x g l = lnR x g l := by
  obtain ⟨r, rfl⟩ := lift_row hx
  obtain ⟨g, rfl⟩ := lift_row hg
  obtain ⟨v, hv, hva⟩ := va_real r
  have hN : (1024 : ℝ) ≠ 0 := by norm_num
  have h0 : ∑ k, (r k - (∑ k, r k) / 1024) = 0 := by
    rw [Finset.sum_sub_distrib, Finset.sum_const, Finset.card_univ, Fintype.card_fin, nsmul_eq_mul]
    push_cast; ring
  have key := ln_real (fun k => r k - (∑ k, r k) / 1024) g 1024 v hN hv h0 l
  simp only [lnG, lnR, lnT, xh, rs, hva, rsqrt_pos hv, mu_real, n1024_eq, negHalf_eq, two_eq,
    div_coe_coe _ hv.ne', div_coe_coe _ hN, ← EReal.coe_sub, ← EReal.coe_mul, ← coe_sum, ← EReal.coe_add, ← EReal.coe_neg]
  exact congrArg _ key

theorem fin_lnG_input {x : Fin 1024 → EReal} (hx : ∀ k, Fin' (x k)) (l : Fin 1024) : Fin' (xh x l) := by
  obtain ⟨r, rfl⟩ := lift_row hx
  obtain ⟨v, hv, hva⟩ := va_real r
  simp only [xh, rs, hva, rsqrt_pos hv, mu_real, ← EReal.coe_sub, ← EReal.coe_mul]
  exact ⟨_, rfl⟩

/-! ## The gate `x · sigmoid x` -/

/-- The gate's derivative in closed form, times a finite cotangent, is the product rule's two terms. -/
theorem silu_grad {d : EReal} (hd : Fin' d) (c : EReal) :
    d * Ideal.logistic c * (1 + c * (1 - Ideal.logistic c))
      = d * Ideal.logistic c + c * d * (Ideal.logistic c * (1 - Ideal.logistic c)) := by
  obtain ⟨d, rfl⟩ := hd
  induction c with
  | bot => simp
  | top =>
    have h : (1 : EReal) - 1 = 0 := by rw [← EReal.coe_one, ← EReal.coe_sub]; simp
    simp [h]
  | coe c =>
    rw [Ideal.logistic_coe]
    generalize (1 + Real.exp (-c))⁻¹ = s
    rw [← EReal.coe_one]
    simp only [← EReal.coe_sub, ← EReal.coe_mul, ← EReal.coe_add]
    exact congrArg _ (by ring)

/-- A cotangent of zero leaves the gate's gradient zero. -/
theorem zero_silu (c : EReal) : (0 : EReal) * Ideal.logistic c * (1 + c * (1 - Ideal.logistic c)) = 0 := by
  rw [zero_mul, zero_mul]

/-- A cotangent row of zeros leaves the normalisation's gradient zero, whatever the row. -/
theorem lnG_zero (x : Fin 1024 → EReal) (l : Fin 1024) : lnG x (fun _ => 0) l = 0 := by
  have h : Ideal.div 0 n1024 = 0 := by
    rw [n1024_eq, Ideal.div_coe (by norm_num), zero_mul]
  simp [lnG, h]

/-- The gate's derivative is finite when its argument is. -/
theorem fin_silu_grad {d c : EReal} (hd : Fin' d) :
    Fin' (d * Ideal.logistic c * (1 + c * (1 - Ideal.logistic c))) := by
  obtain ⟨d, rfl⟩ := hd
  induction c with
  | bot => exact ⟨0, by simp⟩
  | top =>
    have h : (1 : EReal) - 1 = 0 := by rw [← EReal.coe_one, ← EReal.coe_sub]; simp
    exact ⟨d, by simp [h]⟩
  | coe c =>
    rw [Ideal.logistic_coe, ← EReal.coe_one]
    simp only [← EReal.coe_sub, ← EReal.coe_mul, ← EReal.coe_add]
    exact ⟨_, rfl⟩

end Cert.Rows
-- ==== Proof.Finite.lean ====
/- The precondition of the gradients, read: an entry whose magnitude is below infinity is a real number. -/
module

public import proofs.«01_k».proof.Proof.Rows
public import Idealize.ShloMosaic.Lib.Pipeline.ValueKit
public import Idealize.ShloMosaic.Lib.Pointwise

@[expose] public section

set_option maxRecDepth 16384

noncomputable section

namespace Cert.Rows
open Idealize.ShloMosaic

theorem finite_arg {S T : Shape} {dims} {h : T.BroadcastsInDim S dims} (x : FVec Ideal S .f32)
    (e : cmpf .olt (Host.absf x) (broadcastInDim S dims h (constant T .f32 0x7F800000#32 : FVec Ideal T .f32)) = fun _ => 1#1) (i : S.Idx) :
    Fin' (x i) := by
  have e' : FloatOps.cmpf (F := Ideal) (φ := .f32) .olt (max (x i) (-(x i)) : EReal) (Ideal.ofBits .f32 2139095040#32) = 1#1 := congrFun e i
  rw [inf_eq, Ideal.cmpf_def] at e'
  refine finite_of_abs_lt ?_
  by_contra hn
  simp [Ideal.cmp, hn] at e'

end Cert.Rows
-- ==== Proof.Rms.lean ====
/- One row of the root-mean-square norm's gradient over the extended reals. -/
module

public import proofs.«01_k».proof.Proof.Rows

@[expose] public section

set_option maxRecDepth 16384

noncomputable section

namespace Cert.Rms
open Idealize.ShloMosaic Cert.Rows

/-- The norm's epsilon, 1e-6 as its float word. -/
abbrev eps : EReal := Ideal.ofBits .f32 897988541#32
theorem eps_eq : ∃ e : ℝ, 0 < e ∧ eps = (e : EReal) := by
  refine ⟨8796093 * 2 ^ (-43 : ℤ), by positivity, ?_⟩
  simp [eps, Ideal.ofBits, Ideal.ieee, -EReal.coe_mul]

/-- A row's mean square plus epsilon, and the reciprocal of its root. -/
def ms (x : Fin 1024 → EReal) : EReal := Ideal.div (∑ k, x k * x k) n1024 + eps
def rr (x : Fin 1024 → EReal) : EReal := Ideal.rsqrt (ms x)

/-- The closed gradient of the norm with respect to the row, `d` the scaled row's cotangent times the scale. -/
def gK (x d : Fin 1024 → EReal) (l : Fin 1024) : EReal :=
  rr x * d l - x l * (rr x * rr x * rr x) * Ideal.div (∑ k, x k * d k) n1024

/-- The chain rule through the mean square: what multiplies the row twice. -/
def gT (x d : Fin 1024 → EReal) : EReal :=
  Ideal.div ((∑ k, x k * d k) * (negHalf * Ideal.div (rr x) (ms x))) n1024

/-- The same gradient as the chain rule writes it. -/
def gR (x d : Fin 1024 → EReal) (l : Fin 1024) : EReal :=
  d l * rr x + (x l * gT x d + gT x d * x l)

theorem ms_real (r : Fin 1024 → ℝ) : ∃ v : ℝ, 0 < v ∧ ms (fun k => (r k : EReal)) = (v : EReal) := by
  obtain ⟨e, he, hE⟩ := eps_eq
  refine ⟨(∑ k, r k * r k) / 1024 + e, ?_, ?_⟩
  · have : 0 ≤ ∑ k, r k * r k := Finset.sum_nonneg fun k _ => mul_self_nonneg _
    positivity
  · simp only [ms, n1024_eq, hE, ← EReal.coe_mul, ← coe_sum, div_coe_coe _ (show (1024 : ℝ) ≠ 0 by norm_num), ← EReal.coe_add]

theorem rms_real (s v a b S : ℝ) (hv : 0 < v) (hs : s * s * v = 1) :
    s * a - b * (s * s * s) * (S / 1024)
      = a * s + (b * (S * (-(1/2) * (s / v)) / 1024) + S * (-(1/2) * (s / v)) / 1024 * b) := by
  have : s / v = s * s * s := by
    rw [div_eq_iff hv.ne']; linear_combination (-s) * hs
  rw [this]; ring

/-- On finite rows the two forms agree. -/
theorem gK_eq_gR {x d : Fin 1024 → EReal} (hx : ∀ k, Fin' (x k)) (hd : ∀ k, Fin' (d k)) (l : Fin 1024) :
    gK x d l = gR x d l := by
  obtain ⟨r, rfl⟩ := lift_row hx
  obtain ⟨g, rfl⟩ := lift_row hd
  obtain ⟨v, hv, hva⟩ := ms_real r
  have hN : (1024 : ℝ) ≠ 0 := by norm_num
  have hs : (Real.sqrt v)⁻¹ * (Real.sqrt v)⁻¹ * v = 1 := by
    rw [← mul_inv, Real.mul_self_sqrt hv.le, inv_mul_cancel₀ hv.ne']
  have key := rms_real (Real.sqrt v)⁻¹ v (g l) (r l) (∑ k, r k * g k) hv hs
  simp only [gK, gR, gT, rr, hva, rsqrt_pos hv, n1024_eq, negHalf_eq,
    div_coe_coe _ hv.ne', div_coe_coe _ hN, ← EReal.coe_sub, ← EReal.coe_mul, ← coe_sum, ← EReal.coe_add]
  exact congrArg _ key

/-- The reciprocal root and the gradient of a finite row are finite. -/
theorem fin_rr {x : Fin 1024 → EReal} (hx : ∀ k, Fin' (x k)) : Fin' (rr x) := by
  obtain ⟨r, rfl⟩ := lift_row hx
  obtain ⟨v, hv, hva⟩ := ms_real r
  exact ⟨_, by rw [rr, hva, rsqrt_pos hv]⟩

theorem fin_gK {x d : Fin 1024 → EReal} (hx : ∀ k, Fin' (x k)) (hd : ∀ k, Fin' (d k)) (l : Fin 1024) : Fin' (gK x d l) := by
  have hr := fin_rr hx
  have hS := Fin'.sum Finset.univ fun k => (hx k).mul (hd k)
  have hm : Fin' (Ideal.div (∑ k, x k * d k) n1024) := by
    obtain ⟨a, ha⟩ := hS
    exact ⟨a / 1024, by rw [ha, n1024_eq, div_coe_coe _ (by norm_num)]⟩
  exact (hr.mul (hd l)).sub (((hx l).mul ((hr.mul hr).mul hr)).mul hm)

/-- A row of zeros has no gradient where its cotangent is zero. -/
theorem gK_zero (x d : Fin 1024 → EReal) (l : Fin 1024) (hx : x l = 0) (hd : d l = 0) : gK x d l = 0 := by
  simp [gK, hx, hd]

end Cert.Rms
-- ==== Proof.FfnInRows.lean ====
/- What one block of the kernel around the feed-forward input computes, row by row. -/
module

public import proofs.«01_k».proof.Proof.Rms
public import proofs.«01_k».proof.Proof.Gen.FfnInIdeal.Skeleton

@[expose] public section

set_option maxRecDepth 16384

noncomputable section

namespace Cert.FfnInIdeal.Pure
open Idealize.ShloMosaic Idealize.ShloMosaic.TcCoe Idealize.SL.Sem Cert.Rows Cert.Rms
open Cert.FfnInIdeal Cert.FfnInIdeal.Gen

/-- Row `r` of a block of 384 rows, in either format. -/
abbrev row {φ : FTy} (X : FVec Ideal S384x1024 φ) (r : Fin 384) : Fin 1024 → EReal := fun k => X (ix2 r k)
abbrev vec (g : FVec Ideal S1x1024 .f32) : Fin 1024 → EReal := fun k => g (ix2 0 k)

/-- The product of a row of the up projection's cotangent with the projection's columns, a quarter of them at a time. -/
theorem pay7 (a0 a1 a2 a3 : Vec Ideal S384x1408 .bf16) (w0 w1 w2 w3 : Vec Ideal S1x1024x1408 .bf16) (r : Fin 384) (l : Fin 1024) :
    k0_pay7 (F := Ideal) a0 w0 a1 w1 a2 w2 a3 w3 (ix2 r l)
      = (((∑ k, a0 (ix2 r k) * w0 (ix3 0 l k)) + ∑ k, a1 (ix2 r k) * w1 (ix3 0 l k)) + ∑ k, a2 (ix2 r k) * w2 (ix3 0 l k))
        + ∑ k, a3 (ix2 r k) * w3 (ix3 0 l k) := by
  pointwise [k0_pay7]

theorem pay9 (x : FVec Ideal S384x1024 .f32) (r : Fin 384) : k0_pay9 (F := Ideal) x (ix2 r 0) = rr (row x r) := by
  pointwise [k0_pay9, k0_pay8, rr, ms]

theorem pay10 (d x h : FVec Ideal S384x1024 .f32) (g : FVec Ideal S1x1024 .f32) (r : Fin 384) (l : Fin 1024) :
    k0_pay10 (F := Ideal) d x h g (ix2 r l) = h (ix2 r l) + gK (row x r) (fun k => d (ix2 r k) * g (ix2 0 k)) l := by
  pointwise [k0_pay10, k0_pay8, pay9, gK]

theorem pay11 (d x : FVec Ideal S384x1024 .f32) (a : FVec Ideal S1x1024 .f32) (l : Fin 1024) :
    k0_pay11 (F := Ideal) d x a (ix2 0 l) = a (ix2 0 l) + ∑ r, d (ix2 r l) * x (ix2 r l) * rr (row x r) := by
  pointwise [k0_pay11, k0_pay8, pay9]

theorem pay2 (x : FVec Ideal S384x1024 .bf16) (r : Fin 384) : k0_pay2 (F := Ideal) x (ix2 r 0) = rr (row x r) := by
  pointwise [k0_pay2, k0_pay1, rr, ms]

theorem pay3 (d : FVec Ideal S384x1024 .f32) (x : FVec Ideal S384x1024 .bf16) (g : FVec Ideal S1x1024 .f32) (r : Fin 384) (l : Fin 1024) :
    k0_pay3 (F := Ideal) d x g (ix2 r l) = gK (row x r) (fun k => d (ix2 r k) * g (ix2 0 k)) l := by
  pointwise [k0_pay3, k0_pay1, pay2, gK]

theorem pay4 (d : FVec Ideal S384x1024 .f32) (x : FVec Ideal S384x1024 .bf16) (a : FVec Ideal S1x1024 .f32) (l : Fin 1024) :
    k0_pay4 (F := Ideal) d x a (ix2 0 l) = a (ix2 0 l) + ∑ r, d (ix2 r l) * x (ix2 r l) * rr (row x r) := by
  pointwise [k0_pay4, k0_pay1, pay2]

theorem pay56 (l : Fin 1024) : k0_pay5 (F := Ideal) (ix2 0 l) = 0 ∧ k0_pay6 (F := Ideal) (ix2 0 l) = 0 := by
  constructor
  · pointwise [k0_pay5]
  · pointwise [k0_pay6]

end Cert.FfnInIdeal.Pure
-- ==== Proof.FfnInRef.lean ====
/- The reference around the feed-forward input, one sequence row at a time. -/
module

public import proofs.«01_k».proof.Proof.Rms
public import proofs.«01_k».proof.Proof.Gen.FfnInRefIdeal.Read

@[expose] public section

set_option maxRecDepth 16384

noncomputable section

namespace Cert.FfnIn
open Idealize.ShloMosaic Cert.Rows Cert.Rms

/-- A sequence of the arguments, the scales and the up projection: arrays with a leading axis of one. -/
abbrev Seq := (⟨Cert.FfnInRefIdeal.S1x4112x1024, .f32⟩ : BufTy).Contents (Elt Ideal)
abbrev Vec1 := (⟨Cert.FfnInRefIdeal.S1x1024, .f32⟩ : BufTy).Contents (Elt Ideal)
abbrev Up := (⟨Cert.FfnInRefIdeal.S1x1024x5632, .f32⟩ : BufTy).Contents (Elt Ideal)
abbrev UpSeq := (⟨Cert.FfnInRefIdeal.S1x4112x5632, .f32⟩ : BufTy).Contents (Elt Ideal)

abbrev rowOf (x : Seq) (i : Fin 4112) : Fin 1024 → EReal := fun k => x (ix3 0 i k)

/-- The residual stream after the mixer: `h + rms_norm(mix)`. -/
def stream (h mix : Seq) (gp : Vec1) (i : Fin 4112) : Fin 1024 → EReal :=
  fun l => h (ix3 0 i l) + mix (ix3 0 i l) * rr (rowOf mix i) * gp (ix2 0 l)
/-- The gradient of the normalised stream: the up projection's cotangent times its transposed matrix. -/
def dNorm (w : Up) (du : UpSeq) (i : Fin 4112) : Fin 1024 → EReal :=
  fun l => ∑ k, du (ix3 0 i k) * w (ix3 0 l k)

end Cert.FfnIn

namespace Cert.FfnInRefIdeal.Rows
open Idealize.ShloMosaic Cert.Rows Cert.Rms Cert.FfnIn Cert.FfnInRefIdeal.Read

variable (h mix : Seq) (gp gf : Vec1) (w : Up) (dh : Seq) (du : UpSeq)

theorem v12 (i : Fin 4112) : val_main_v12 (F := Ideal) mix (ix2 i 0) = rr (rowOf mix i) := by
  pointwise [val_main_v12, val_main_v11, val_main_v10, val_main_v9, val_main_v8, val_main_v7, val_main_v6, val_main_v5, val_main_v1,
    val_main_cst, val_main_cst_0, val_main_cst_1, rr, ms]

theorem v21 (i : Fin 4112) (l : Fin 1024) : val_main_v21 (F := Ideal) h mix gp (ix2 i l) = stream h mix gp i l := by
  pointwise [val_main_v21, val_main_v20, val_main_v19, val_main_v18, val_main_v17, val_main_v16, val_main_v2, val_main_v1, val_main_v0,
    v12, stream]

theorem v41 (i : Fin 4112) (l : Fin 1024) : val_main_v41 (F := Ideal) w du (ix2 i l) = dNorm w du i l := by
  pointwise [val_main_v41, val_main_v40, val_main_v4, dNorm]

theorem v28 (i : Fin 4112) : val_main_v28 (F := Ideal) h mix gp (ix2 i 0) = ms (stream h mix gp i) := by
  pointwise [val_main_v28, val_main_v27, val_main_v26, val_main_v25, val_main_v24, val_main_v23, val_main_v22, v21,
    val_main_cst_3, val_main_cst_4, val_main_cst_5, ms]

theorem v29 (i : Fin 4112) : val_main_v29 (F := Ideal) h mix gp (ix2 i 0) = rr (stream h mix gp i) := by
  pointwise [val_main_v29, v28, rr]

/-- The cotangent of the normalised stream before its scale. -/
def dScaled (gf : Vec1) (w : Up) (du : UpSeq) (i : Fin 4112) : Fin 1024 → EReal := fun l => dNorm w du i l * gf (ix2 0 l)

theorem v46 (i : Fin 4112) (l : Fin 1024) : val_main_v46 (F := Ideal) gf w du (ix2 i l) = dScaled gf w du i l := by
  pointwise [val_main_v46, v41, val_main_v45, val_main_v35, val_main_v3, dScaled]

theorem v57 (i : Fin 4112) : val_main_v57 (F := Ideal) h mix gp gf w du (ix1 i) = gT (stream h mix gp i) (dScaled gf w du i) := by
  pointwise [val_main_v57, val_main_v56, val_main_v55, val_main_v54, val_main_v50, val_main_v49, val_main_v48, v46, v21, val_main_v32,
    val_main_v31, val_main_v30, v28, v29, val_main_cst_6, val_main_cst_9, val_main_cst_10, val_main_cst_11, gT]
  rw [Fin.sum_univ_one, v28, v29]

/-- The gradient of the residual stream before the mixer's norm: the cotangent that arrives plus the norm's gradient. -/
def dStream (i : Fin 4112) : Fin 1024 → EReal :=
  fun l => dh (ix3 0 i l) + gR (stream h mix gp i) (dScaled gf w du i) l

theorem v62 (i : Fin 4112) (l : Fin 1024) :
    val_main_v62 (F := Ideal) h mix gp gf w dh du (ix2 i l) = dStream h mix gp gf w dh du i l := by
  pointwise [val_main_v62, val_main_v61, val_main_v60, val_main_v59, val_main_v58, val_main_v53, val_main_v52, val_main_v51, v57, v46,
    v29, v21, val_main_v39, dStream, gR]
  ac_rfl

theorem v47 (l : Fin 1024) : val_main_v47 (F := Ideal) h mix gp w du (ix1 l)
    = ∑ i, stream h mix gp i l * rr (stream h mix gp i) * dNorm w du i l := by
  pointwise [val_main_v47, val_main_v44, val_main_v43, val_main_v42, val_main_v34, val_main_v33, v41, v21, v29, val_main_cst_7, val_main_cst_8]
  rw [Fin.sum_univ_one]

theorem v68 (l : Fin 1024) : val_main_v68 (F := Ideal) h mix gp gf w dh du (ix1 l)
    = ∑ i, mix (ix3 0 i l) * rr (rowOf mix i) * dStream h mix gp gf w dh du i l := by
  pointwise [val_main_v68, val_main_v65, val_main_v64, val_main_v63, val_main_v17, val_main_v16, val_main_v1, v12, v62,
    val_main_cst_12, val_main_cst_13]
  rw [Fin.sum_univ_one]

theorem v11 (i : Fin 4112) : val_main_v11 (F := Ideal) mix (ix2 i 0) = ms (rowOf mix i) := by
  pointwise [val_main_v11, val_main_v10, val_main_v9, val_main_v8, val_main_v7, val_main_v6, val_main_v5, val_main_v1,
    val_main_cst, val_main_cst_0, val_main_cst_1, ms]

theorem v67 (i : Fin 4112) (l : Fin 1024) : val_main_v67 (F := Ideal) h mix gp gf w dh du (ix2 i l)
    = dStream h mix gp gf w dh du i l * gp (ix2 0 l) := by
  pointwise [val_main_v67, v62, val_main_v66, val_main_v18, val_main_v2]

theorem v77 (i : Fin 4112) : val_main_v77 (F := Ideal) h mix gp gf w dh du (ix1 i)
    = gT (rowOf mix i) (fun l => dStream h mix gp gf w dh du i l * gp (ix2 0 l)) := by
  pointwise [val_main_v77, val_main_v76, val_main_v75, val_main_v74, val_main_v71, val_main_v70, val_main_v69, v67, val_main_v1, val_main_v15,
    val_main_v14, val_main_v13, v11, v12, val_main_cst_2, val_main_cst_14, val_main_cst_15, val_main_cst_16, gT]
  rw [Fin.sum_univ_one, v11, v12]

theorem v82 (i : Fin 4112) (l : Fin 1024) : val_main_v82 (F := Ideal) h mix gp gf w dh du (ix2 i l)
    = gR (rowOf mix i) (fun l => dStream h mix gp gf w dh du i l * gp (ix2 0 l)) l := by
  pointwise [val_main_v82, val_main_v81, val_main_v80, val_main_v79, val_main_v78, val_main_v73, val_main_v72, v77, v67,
    v12, val_main_v1, gR]
  simp only [rowOf]
  ac_rfl

end Cert.FfnInRefIdeal.Rows
-- ==== Proof.Pad.lean ====
/- Sequences with zero rows before them. -/
module

public import proofs.«01_k».proof.Proof.Rows
public import Idealize.ShloMosaic.Lib.Pipeline.ValueKit

@[expose] public section

set_option maxRecDepth 16384

noncomputable section

namespace Cert.Pad
open Idealize.ShloMosaic Cert.Rows

/-- 112 zero rows, then the 4112 rows of the argument. -/
def padRow (f : Fin 4112 → EReal) (R : Fin 4224) : EReal := if hR : 112 ≤ R.val then f ⟨R.val - 112, by omega⟩ else 0

theorem padRow_lt (f : Fin 4112 → EReal) (R : Fin 4224) (h : ¬112 ≤ R.val) : padRow f R = 0 := dif_neg h
theorem padRow_ge (f : Fin 4112 → EReal) (R : Fin 4224) (h : 112 ≤ R.val) : padRow f R = f ⟨R.val - 112, by omega⟩ := dif_pos h

theorem padRow_congr {f g : Fin 4112 → EReal} (h : ∀ i, f i = g i) (R : Fin 4224) : padRow f R = padRow g R :=
  congrArg (padRow · R) (funext h)

/-- The padding as the host's operation writes it: the rows from the 113th on, and the integer zero as a float before. -/
theorem pad_if (f : Fin 4112 → EReal) (R : Fin 4224) :
    (if hR : 112 ≤ R.val ∧ R.val - 112 < 4112 then f ⟨R.val - 112, hR.2⟩ else (FloatOps.sitofp (F := Ideal) FTy.f32 0#32 : EReal)) = padRow f R := by
  unfold padRow
  by_cases hR : 112 ≤ R.val
  · rw [dif_pos ⟨hR, by omega⟩, dif_pos hR]
  · rw [dif_neg (fun hh => hR hh.1), dif_neg hR]
    exact (EReal.coe_natCast (n := 0)).trans (by simp)

/-- The zero rows add nothing. -/
theorem sum_pad (f : Fin 4112 → EReal) : ∑ R, padRow f R = ∑ i, f i := by
  rw [show (∑ R : Fin 4224, padRow f R) = ∑ R : Fin (112 + 4112), padRow f R from rfl, Fin.sum_univ_add]
  have h0 : ∀ i : Fin 112, padRow f (Fin.castAdd 4112 i) = 0 := fun i => padRow_lt f _ (by simp)
  have h1 : ∀ i : Fin 4112, padRow f (Fin.natAdd 112 i) = f i := fun i => by
    rw [padRow_ge f _ (by simp)]
    congr 1
    ext
    simp
  simp only [h0, h1, Finset.sum_const_zero, zero_add]

/-- A sum over the padded rows, block by block of 384. -/
theorem sum_blocks {N : ℕ} (hN : N = 11) {F : Fin N → Fin 384 → EReal} (f : Fin 4112 → EReal)
    (h : ∀ (t : Fin N) (r : Fin 384) (hl : 384 * t.val + r.val < 4224), F t r = padRow f ⟨384 * t.val + r.val, hl⟩) :
    ∑ t, ∑ r, F t r = ∑ i, f i := by
  rw [← sum_pad]
  subst hN
  refine Fin.sum_mul_add_congr fun t r hl => ?_
  rw [h t r (by omega)]
  congr 2
  omega

/-- A sum in four equal parts. -/
theorem sum_quarters (f : Fin 5632 → EReal) :
    (((∑ k : Fin 1408, f ⟨k.val, by omega⟩) + ∑ k : Fin 1408, f ⟨1408 + k.val, by omega⟩)
      + ∑ k : Fin 1408, f ⟨2816 + k.val, by omega⟩) + ∑ k : Fin 1408, f ⟨4224 + k.val, by omega⟩ = ∑ k, f k := by
  rw [← Fin.sum_mul_add_fin 4 1408 f rfl, Fin.sum_univ_four]
  simp

end Cert.Pad
-- ==== Proof.FfnInValue.lean ====
/- The arrays the kernel around the feed-forward input leaves. -/
module

public import proofs.«01_k».proof.Proof.FfnInRows
public import proofs.«01_k».proof.Proof.FfnInRef
public import proofs.«01_k».proof.Proof.Pad
public import proofs.«01_k».proof.Proof.Gen.FfnInIdeal.Frame
public import Idealize.ShloMosaic.Lib.Pipeline.ValueKit
public import Idealize.ShloMosaic.Lib.Claim

@[expose] public section

set_option maxRecDepth 16384

noncomputable section

namespace Cert.FfnInIdeal.Val
open Idealize.ShloMosaic Idealize.ShloMosaic.TcCoe Idealize.SL.Sem Cert.Rows Cert.Rms Cert.Pad Cert.FfnIn Cert.FfnInIdeal.Pure
open Cert.FfnInIdeal Cert.FfnInIdeal.Gen
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![0, 0, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] ∧ win0_8.index t = ![t.val, 0] ∧ win0_9.index t = ![0, 0] ∧ win0_10.index t = ![0, 0] :=
  (by decide +kernel : ∀ t : Fin grid0.N, _)

/-- The kernel's arguments. -/
abbrev h : Seq := m ((c.tc : Thread nD τ).loc main_arg0)
abbrev mix : Seq := m ((c.tc : Thread nD τ).loc main_arg1)
abbrev gp : Vec1 := m ((c.tc : Thread nD τ).loc main_arg2)
abbrev gf : Vec1 := m ((c.tc : Thread nD τ).loc main_arg3)
abbrev w : Up := m ((c.tc : Thread nD τ).loc main_arg4)
abbrev dh : Seq := m ((c.tc : Thread nD τ).loc main_arg5)
abbrev du : UpSeq := m ((c.tc : Thread nD τ).loc main_arg6)

/-! What the region finds in the buffers that the host lines filled. -/

theorem e19 (R : Fin 4224) (k : Fin 5632) :
    (V m c main_v19 : FVec Ideal S4224x5632 .bf16) (ix2 R k) = padRow (fun i => du m c (ix3 0 i k)) R := by
  unfold V
  simp only [List.flatten_cons, List.flatten_nil, List.cons_append, List.nil_append, List.append_nil, hostOps0, hostOps0_1, hostOps0_2, hostOps0_3, hostOps0_4, hostOps0_5, hostOps0_6, hostOps0_7, hostOps0_8]
  after_results
  simp only [StableHlo.TRef.toBuf, StableHlo.TRef.ofBuf, cast_eq]
  pointwise
  exact pad_if (fun i => du m c (ix3 0 i k)) R

theorem e23 (q : Fin 4) (l : Fin 1024) (k : Fin 1408) :
    (V m c main_v23 : FVec Ideal S4x1024x1408 .bf16) (ix3 q l k) = w m c (ix3 0 l ⟨q.val * 1408 + k.val, by omega⟩) := by
  unfold V
  simp only [List.flatten_cons, List.flatten_nil, List.cons_append, List.nil_append, List.append_nil, hostOps0, hostOps0_1, hostOps0_2, hostOps0_3, hostOps0_4, hostOps0_5, hostOps0_6, hostOps0_7, hostOps0_8]
  after_results
  simp only [StableHlo.TRef.toBuf, StableHlo.TRef.ofBuf, cast_eq]
  pointwise

theorem e24 (R : Fin 4224) (l : Fin 1024) :
    (V m c main_v24 : FVec Ideal S4224x1024 .f32) (ix2 R l) = padRow (fun i => stream (h m c) (mix m c) (gp m c) i l) R := by
  unfold V
  simp only [List.flatten_cons, List.flatten_nil, List.cons_append, List.nil_append, List.append_nil, hostOps0, hostOps0_1, hostOps0_2, hostOps0_3, hostOps0_4, hostOps0_5, hostOps0_6, hostOps0_7, hostOps0_8]
  after_results
  simp only [StableHlo.TRef.toBuf, StableHlo.TRef.ofBuf, cast_eq]
  pointwise
  exact pad_if (fun i => stream (h m c) (mix m c) (gp m c) i l) R

/-- The row of the padded arrays that block `t` holds at its row `r`. -/
abbrev R (t : Fin cfg0.N) (r : Fin 384) : Fin 4224 := ⟨384 * t.val + r.val, by have := lt_of_lt_of_eq t.isLt N_0; omega⟩

theorem b0 (t : Fin cfg0.N) (r : Fin 384) (k : Fin 5632) :
    (iblk m c 0 t : FVec Ideal S384x5632 .bf16) (ix2 r k) = padRow (fun i => du m c (ix3 0 i k)) (R t r) :=
  (show (iblk m c 0 t : FVec Ideal S384x5632 .bf16) (ix2 r k) = (V m c main_v19 : FVec Ideal S4224x5632 .bf16) (ix2 (R t r) k) by
    blk_ext [iblk, idx t]).trans (e19 m c _ _)
theorem b1 (t : Fin cfg0.N) (q : Fin 4) (l : Fin 1024) (k : Fin 1408) :
    (iblk m c 1 t : FVec Ideal S4x1024x1408 .bf16) (ix3 q l k) = w m c (ix3 0 l ⟨q.val * 1408 + k.val, by omega⟩) :=
  (show (iblk m c 1 t : FVec Ideal S4x1024x1408 .bf16) (ix3 q l k) = (V m c main_v23 : FVec Ideal S4x1024x1408 .bf16) (ix3 q l k) by
    blk_ext [iblk, idx t]).trans (e23 m c _ _ _)
theorem b2 (t : Fin cfg0.N) (r : Fin 384) (l : Fin 1024) :
    (iblk m c 2 t : FVec Ideal S384x1024 .f32) (ix2 r l) = padRow (fun i => stream (h m c) (mix m c) (gp m c) i l) (R t r) :=
  (show (iblk m c 2 t : FVec Ideal S384x1024 .f32) (ix2 r l) = (V m c main_v24 : FVec Ideal S4224x1024 .f32) (ix2 (R t r) l) by
    blk_ext [iblk, idx t]).trans (e24 m c _ _)
theorem b3 (t : Fin cfg0.N) (r : Fin 384) (l : Fin 1024) :
    (iblk m c 3 t : FVec Ideal S384x1024 .f32) (ix2 r l) = padRow (fun i => dh m c (ix3 0 i l)) (R t r) := by
  refine (show (iblk m c 3 t : FVec Ideal S384x1024 .f32) (ix2 r l) = (V m c main_v26 : FVec Ideal S4224x1024 .f32) (ix2 (R t r) l) by
    blk_ext [iblk, idx t]).trans ?_
  unfold V
  simp only [List.flatten_cons, List.flatten_nil, List.cons_append, List.nil_append, List.append_nil, hostOps0, hostOps0_1, hostOps0_2, hostOps0_3, hostOps0_4, hostOps0_5, hostOps0_6, hostOps0_7, hostOps0_8]
  after_results
  simp only [StableHlo.TRef.toBuf, StableHlo.TRef.ofBuf, cast_eq]
  pointwise
  exact pad_if (fun i => dh m c (ix3 0 i l)) (R t r)
theorem b4 (t : Fin cfg0.N) (r : Fin 384) (l : Fin 1024) :
    (iblk m c 4 t : FVec Ideal S384x1024 .bf16) (ix2 r l) = padRow (fun i => mix m c (ix3 0 i l)) (R t r) := by
  refine (show (iblk m c 4 t : FVec Ideal S384x1024 .bf16) (ix2 r l) = (V m c main_v29 : FVec Ideal S4224x1024 .bf16) (ix2 (R t r) l) by
    blk_ext [iblk, idx t]).trans ?_
  unfold V
  simp only [List.flatten_cons, List.flatten_nil, List.cons_append, List.nil_append, List.append_nil, hostOps0, hostOps0_1, hostOps0_2, hostOps0_3, hostOps0_4, hostOps0_5, hostOps0_6, hostOps0_7, hostOps0_8]
  after_results
  simp only [StableHlo.TRef.toBuf, StableHlo.TRef.ofBuf, cast_eq]
  pointwise
  exact pad_if (fun i => mix m c (ix3 0 i l)) (R t r)
theorem b5 (t : Fin cfg0.N) (l : Fin 1024) : (iblk m c 5 t : FVec Ideal S1x1024 .f32) (ix2 0 l) = gf m c (ix2 0 l) := by
  blk_ext! [iblk, idx t]
theorem b6 (t : Fin cfg0.N) (l : Fin 1024) : (iblk m c 6 t : FVec Ideal S1x1024 .f32) (ix2 0 l) = gp m c (ix2 0 l) := by
  blk_ext! [iblk, idx t]

/-- Every entry of the arguments is a real number. -/
structure Fine : Prop where
  h : ∀ i, Fin' (h m c i)
  mix : ∀ i, Fin' (mix m c i)
  gp : ∀ i, Fin' (gp m c i)
  gf : ∀ i, Fin' (gf m c i)
  w : ∀ i, Fin' (w m c i)
  dh : ∀ i, Fin' (dh m c i)
  du : ∀ i, Fin' (du m c i)

/-- The block's rows of the normalised stream's cotangent, and of the residual stream's. -/
abbrev DN (t : Fin cfg0.N) : FVec Ideal S384x1024 .f32 :=
  k0_pay7 (View.ld (iblk m c 0 t) (Rect.unit ![0, 0] ![384, 1408] inb_S384x5632_S384x1408_0_0))
    (View.ld (iblk m c 1 t) (Rect.unit ![0, 0, 0] ![1, 1024, 1408] inb_S4x1024x1408_S1x1024x1408_0_0_0))
    (View.ld (iblk m c 0 t) (Rect.unit ![0, 1408] ![384, 1408] inb_S384x5632_S384x1408_0_1408))
    (View.ld (iblk m c 1 t) (Rect.unit ![1, 0, 0] ![1, 1024, 1408] inb_S4x1024x1408_S1x1024x1408_1_0_0))
    (View.ld (iblk m c 0 t) (Rect.unit ![0, 2816] ![384, 1408] inb_S384x5632_S384x1408_0_2816))
    (View.ld (iblk m c 1 t) (Rect.unit ![2, 0, 0] ![1, 1024, 1408] inb_S4x1024x1408_S1x1024x1408_2_0_0))
    (View.ld (iblk m c 0 t) (Rect.unit ![0, 4224] ![384, 1408] inb_S384x5632_S384x1408_0_4224))
    (View.ld (iblk m c 1 t) (Rect.unit ![3, 0, 0] ![1, 1024, 1408] inb_S4x1024x1408_S1x1024x1408_3_0_0))
abbrev DS (t : Fin cfg0.N) : FVec Ideal S384x1024 .f32 := k0_pay10 (DN m c t) (iblk m c 2 t) (iblk m c 3 t) (iblk m c 5 t)

theorem dn (t : Fin cfg0.N) (r : Fin 384) (l : Fin 1024) :
    DN m c t (ix2 r l) = padRow (fun i => dNorm (w m c) (du m c) i l) (R t r) := by
  rw [DN, pay7]
  pointwise
  simp only [b0, b1]
  by_cases hR : 112 ≤ (R t r).val
  · simp only [padRow_ge _ _ hR]
    exact sum_quarters fun k => du m c (ix3 0 _ k) * w m c (ix3 0 l k)
  · simp [padRow_lt _ _ hR]

variable {m c} in
theorem Fine.stream (hf : Fine m c) (i : Fin 4112) (l : Fin 1024) : Fin' (stream (Val.h m c) (Val.mix m c) (Val.gp m c) i l) :=
  (hf.h _).add (((hf.mix _).mul (fin_rr fun _ => hf.mix _)).mul (hf.gp _))
variable {m c} in
theorem Fine.dScaled (hf : Fine m c) (i : Fin 4112) (l : Fin 1024) :
    Fin' (Cert.FfnInRefIdeal.Rows.dScaled (Val.gf m c) (Val.w m c) (Val.du m c) i l) :=
  (Fin'.sum _ fun _ => (hf.du _).mul (hf.w _)).mul (hf.gf _)

/-- The reference's gradient of the residual stream, over the kernel's arguments. -/
abbrev dst (i : Fin 4112) (l : Fin 1024) : EReal :=
  Cert.FfnInRefIdeal.Rows.dStream (h m c) (mix m c) (gp m c) (gf m c) (w m c) (dh m c) (du m c) i l

variable {m c} in
theorem Fine.dst (hf : Fine m c) (i : Fin 4112) (l : Fin 1024) : Fin' (dst m c i l) := by
  refine (hf.dh _).add ?_
  rw [← gK_eq_gR (fun k => hf.stream i k) (fun k => hf.dScaled i k)]
  exact fin_gK (fun k => hf.stream i k) (fun k => hf.dScaled i k) l

theorem ds (hf : Fine m c) (t : Fin cfg0.N) (r : Fin 384) (l : Fin 1024) :
    DS m c t (ix2 r l) = padRow (fun i => dst m c i l) (R t r) := by
  rw [DS, pay10, b3, show row (iblk m c 2 t : FVec Ideal S384x1024 .f32) r
      = fun k => padRow (fun i => stream (h m c) (mix m c) (gp m c) i k) (R t r) from funext fun k => b2 m c t r k]
  simp only [dn, b5]
  by_cases hR : 112 ≤ (R t r).val
  · simp only [padRow_ge _ _ hR]
    exact congrArg _ (gK_eq_gR (fun k => hf.stream _ k) (fun k => hf.dScaled _ k) l)
  · simp only [padRow_lt _ _ hR, zero_mul]
    rw [gK_zero _ _ _ rfl rfl, add_zero]

theorem dm (hf : Fine m c) (t : Fin cfg0.N) (r : Fin 384) (l : Fin 1024) :
    k0_pay3 (F := Ideal) (DS m c t) (iblk m c 4 t) (iblk m c 6 t) (ix2 r l)
      = padRow (fun i => gR (rowOf (mix m c) i) (fun l => dst m c i l * gp m c (ix2 0 l)) l) (R t r) := by
  rw [pay3, show row (iblk m c 4 t : FVec Ideal S384x1024 .bf16) r
      = fun k => padRow (fun i => mix m c (ix3 0 i k)) (R t r) from funext fun k => b4 m c t r k]
  simp only [ds m c hf, b6]
  by_cases hR : 112 ≤ (R t r).val
  · simp only [padRow_ge _ _ hR]
    exact gK_eq_gR (fun k => hf.mix _) (fun k => (hf.dst _ k).mul (hf.gp _)) l
  · simp only [padRow_lt _ _ hR, zero_mul]
    exact gK_zero _ _ _ rfl rfl

/-- A block's part of the scale's gradient of the second norm, and of the first's. -/
theorem term9 (t : Fin cfg0.N) (r : Fin 384) (l : Fin 1024) :
    DN m c t (ix2 r l) * (iblk m c 2 t : FVec Ideal S384x1024 .f32) (ix2 r l) * rr (row (φ := .f32) (iblk m c 2 t) r)
      = padRow (fun i => stream (h m c) (mix m c) (gp m c) i l * rr (stream (h m c) (mix m c) (gp m c) i) * dNorm (w m c) (du m c) i l) (R t r) := by
  rw [dn, show row (iblk m c 2 t : FVec Ideal S384x1024 .f32) r
      = fun k => padRow (fun i => stream (h m c) (mix m c) (gp m c) i k) (R t r) from funext fun k => b2 m c t r k, b2]
  by_cases hR : 112 ≤ (R t r).val
  · simp only [padRow_ge _ _ hR]
    rw [mul_assoc, mul_comm]
  · simp only [padRow_lt _ _ hR, zero_mul]
theorem term10 (hf : Fine m c) (t : Fin cfg0.N) (r : Fin 384) (l : Fin 1024) :
    DS m c t (ix2 r l) * (iblk m c 4 t : FVec Ideal S384x1024 .bf16) (ix2 r l) * rr (row (φ := .bf16) (iblk m c 4 t) r)
      = padRow (fun i => mix m c (ix3 0 i l) * rr (rowOf (mix m c) i) * dst m c i l) (R t r) := by
  rw [ds m c hf, show row (iblk m c 4 t : FVec Ideal S384x1024 .bf16) r
      = fun k => padRow (fun i => mix m c (ix3 0 i k)) (R t r) from funext fun k => b4 m c t r k, b4]
  by_cases hR : 112 ≤ (R t r).val
  · simp only [padRow_ge _ _ hR]
    rw [mul_assoc, mul_comm]
  · simp only [padRow_lt _ _ hR, zero_mul]

open Cert.FfnInRefIdeal.Read Cert.FfnInRefIdeal.Rows

/-! The reference's four results, and the arrays the region leaves. -/

theorem r83 (S : Fin 4224) (l : Fin 1024) :
    val_main_v83 (F := Ideal) (h m c) (mix m c) (gp m c) (gf m c) (w m c) (dh m c) (du m c) (ix2 S l) = padRow (fun i => dst m c i l) S := by
  pointwise [val_main_v83, v62, val_main_call0_v0, val_main_c]
  exact pad_if (fun i => dst m c i l) S
theorem r85 (S : Fin 4224) (l : Fin 1024) :
    val_main_v85 (F := Ideal) (h m c) (mix m c) (gp m c) (gf m c) (w m c) (dh m c) (du m c) (ix2 S l)
      = padRow (fun i => gR (rowOf (mix m c) i) (fun l => dst m c i l * gp m c (ix2 0 l)) l) S := by
  pointwise [val_main_v85, val_main_v84, v82, val_main_call1_v0, val_main_c_17]
  exact pad_if (fun i => gR (rowOf (mix m c) i) (fun l => dst m c i l * gp m c (ix2 0 l)) l) S

theorem fin7 (hf : Fine m c) : (dats m 0 c).arrAt 7 cfg0.N
    = val_main_v83 (F := Ideal) (h m c) (mix m c) (gp m c) (gf m c) (w m c) (dh m c) (du m c) := by
  refine (dats m 0 c).arrAt_eq_of_covers 7 _ (by decide +kernel) fun t hf' y => ?_
  blk_simp
  rw [after0_7]
  obtain ⟨r, l, rfl⟩ : ∃ (r : Fin 384) (l : Fin 1024), y = ix2 r l := ⟨y 0, y 1, eq_ix2 y⟩
  refine Eq.trans (b := DS m c t (ix2 r l)) ?_ ((ds m c hf t r l).trans ((r83 m c _ l).symm.trans ?_))
  · by_cases h0 : t.val % 11 = 0
    · rw [outsAt0_A m c t h0]
      frame_out
      rfl
    · rw [outsAt0_B m c t h0]
      frame_out
      rfl
  · blk_ext [idx t]

theorem fin8 (hf : Fine m c) : (dats m 0 c).arrAt 8 cfg0.N
    = val_main_v85 (F := Ideal) (h m c) (mix m c) (gp m c) (gf m c) (w m c) (dh m c) (du m c) := by
  refine (dats m 0 c).arrAt_eq_of_covers 8 _ (by decide +kernel) fun t hf' y => ?_
  blk_simp
  rw [after0_8]
  obtain ⟨r, l, rfl⟩ : ∃ (r : Fin 384) (l : Fin 1024), y = ix2 r l := ⟨y 0, y 1, eq_ix2 y⟩
  refine Eq.trans (b := k0_pay3 (F := Ideal) (DS m c t) (iblk m c 4 t) (iblk m c 6 t) (ix2 r l)) ?_
    ((dm m c hf t r l).trans ((r85 m c _ l).symm.trans ?_))
  · by_cases h0 : t.val % 11 = 0
    · rw [outsAt0_A m c t h0]
      frame_out
      rfl
    · rw [outsAt0_B m c t h0]
      frame_out
      rfl
  · blk_ext [idx t]

theorem fin9 : (dats m 0 c).arrAt 9 cfg0.N = val_main_v86 (F := Ideal) (h m c) (mix m c) (gp m c) (w m c) (du m c) := by
  refine (dats m 0 c).arrAt_eq_of_after_last 9 t0_10 (by decide +kernel) _ fun j => ?_
  blk_simp
  rw [after0_9, Pipeline.eq_sum_fin_of_reset_step_apply_last (fun n h => (outsAt0 m c n h).2.2.1) 11 (fun _ => (0 : EReal))
    (fun t j => ∑ r : Fin 384, DN m c t (ix2 r (j 1)) * (iblk m c 2 t : FVec Ideal S384x1024 .f32) (ix2 r (j 1)) * rr (row (iblk m c 2 t : FVec Ideal S384x1024 .f32) r))
    (fun t h j => by
      obtain ⟨u, l, rfl⟩ : ∃ (u : Fin 1) (l : Fin 1024), j = ix2 u l := ⟨j 0, j 1, eq_ix2 j⟩
      obtain rfl : u = 0 := Subsingleton.elim _ _
      rw [outsAt0_A m c t h]
      frame_out
      refine (pay11 _ _ _ l).trans ?_
      rw [(pay56 l).1]
      rfl)
    (fun t h j => by
      obtain ⟨u, l, rfl⟩ : ∃ (u : Fin 1) (l : Fin 1024), j = ix2 u l := ⟨j 0, j 1, eq_ix2 j⟩
      obtain rfl : u = 0 := Subsingleton.elim _ _
      rw [outsAt0_B m c t h]
      frame_out
      exact pay11 _ _ _ l)
    (le_of_eq N_0) t0_10 rfl j, zero_add]
  obtain ⟨u, l, rfl⟩ : ∃ (u : Fin 1) (l : Fin 1024), j = ix2 u l := ⟨j 0, j 1, eq_ix2 j⟩
  obtain rfl : u = 0 := Subsingleton.elim _ _
  refine (sum_blocks N_0 _ fun t r hl => term9 m c t r l).trans (Eq.trans ?_ (congrArg _ (show ix2 0 l = _ by blk_ext [idx t0_10])))
  pointwise [val_main_v86, v47]

theorem fin10 (hf : Fine m c) : (dats m 0 c).arrAt 10 cfg0.N
    = val_main_v87 (F := Ideal) (h m c) (mix m c) (gp m c) (gf m c) (w m c) (dh m c) (du m c) := by
  refine (dats m 0 c).arrAt_eq_of_after_last 10 t0_10 (by decide +kernel) _ fun j => ?_
  blk_simp
  rw [after0_10, Pipeline.eq_sum_fin_of_reset_step_apply_last (fun n h => (outsAt0 m c n h).2.2.2) 11 (fun _ => (0 : EReal))
    (fun t j => ∑ r : Fin 384, DS m c t (ix2 r (j 1)) * (iblk m c 4 t : FVec Ideal S384x1024 .bf16) (ix2 r (j 1)) * rr (row (iblk m c 4 t : FVec Ideal S384x1024 .bf16) r))
    (fun t h j => by
      obtain ⟨u, l, rfl⟩ : ∃ (u : Fin 1) (l : Fin 1024), j = ix2 u l := ⟨j 0, j 1, eq_ix2 j⟩
      obtain rfl : u = 0 := Subsingleton.elim _ _
      rw [outsAt0_A m c t h]
      frame_out
      refine (pay4 _ _ _ l).trans ?_
      rw [(pay56 l).2]
      rfl)
    (fun t h j => by
      obtain ⟨u, l, rfl⟩ : ∃ (u : Fin 1) (l : Fin 1024), j = ix2 u l := ⟨j 0, j 1, eq_ix2 j⟩
      obtain rfl : u = 0 := Subsingleton.elim _ _
      rw [outsAt0_B m c t h]
      frame_out
      exact pay4 _ _ _ l)
    (le_of_eq N_0) t0_10 rfl j, zero_add]
  obtain ⟨u, l, rfl⟩ : ∃ (u : Fin 1) (l : Fin 1024), j = ix2 u l := ⟨j 0, j 1, eq_ix2 j⟩
  obtain rfl : u = 0 := Subsingleton.elim _ _
  refine (sum_blocks N_0 _ fun t r hl => term10 m c hf t r l).trans (Eq.trans ?_ (congrArg _ (show ix2 0 l = _ by blk_ext [idx t0_10])))
  pointwise [val_main_v87, v68]

end Cert.FfnInIdeal.Val
-- ==== Proof.FfnInClaim.lean ====
/- The claims about the kernel around the feed-forward input. -/
module

public import proofs.«01_k».proof.Defs
public import proofs.«01_k».proof.Proof.Finite
public import proofs.«01_k».proof.Proof.FfnInValue
public import proofs.«01_k».proof.Proof.Gen.FfnIn.Frame
public import proofs.«01_k».proof.Proof.Gen.FfnInIdeal.Value
public import proofs.«01_k».proof.Proof.Gen.FfnInRefIdeal.Run
public import proofs.«01_k».proof.Proof.Gen.FfnInRefIdeal.Read
public import proofs.«01_k».proof.Proof.Gen.Pre_ffn_in_finite

@[expose] public section

noncomputable section

namespace Cert.Proof.FfnIn
open Idealize.ShloMosaic Idealize.SL.Sem Cert.Rows

/-- The precondition makes every entry of the arguments a real number. -/
theorem fine (m : (ℓ : Loc Cert.FfnInIdeal.nD Cert.FfnInIdeal.τ Cert.FfnInIdeal.sig) → Buf (Elt Ideal) ℓ)
    (hp : Cert.Pre_FfnInIdeal_ffn_in_finite m) (c : Dev Cert.FfnInIdeal.nD) : Cert.FfnInIdeal.Val.Fine m c := by
  obtain ⟨e0, e1, e2, e3, e4, e5, e6⟩ := hp c
  exact ⟨finite_arg _ e0, finite_arg _ e1, finite_arg _ e2, finite_arg _ e3, finite_arg _ e4, finite_arg _ e5, finite_arg _ e6⟩

theorem q1 : Cert.quiescent_FfnIn := fun m ρ _ => Cert.FfnIn.Gen.frame m ρ
theorem q2 : Cert.quiescent_FfnInIdeal := fun m ρ _ => Cert.FfnInIdeal.Gen.frame m ρ
theorem q3 : Cert.quiescent_FfnInIdeal_pre_ffn_in_finite := fun m ρ _ => Cert.FfnInIdeal.Gen.frame m ρ
theorem q4 : Cert.quiescent_FfnInRefIdeal := by
  intro m g _
  hlo_run
  · simp
  · exact sem_eq_zero_of_no_sems (sig := Cert.FfnInRefIdeal.sig) (by decide) _
theorem q5 : Cert.quiescent_FfnInRefIdeal_pre_ffn_in_finite := by
  intro m g _
  hlo_run
  · simp
  · exact sem_eq_zero_of_no_sems (sig := Cert.FfnInRefIdeal.sig) (by decide) _
theorem q6 : Cert.preserves_FfnIn_FfnInIdeal := trivial

set_option maxHeartbeats 1000000 in
/-- The two programs leave the same four arrays. -/
theorem algebraic : Cert.algebraic_FfnInIdeal_FfnInRefIdeal_pre_ffn_in_finite := by
  pair_intro
  · run_from Cert.FfnInIdeal.Value.run_blocks m g
  · run_from Cert.FfnInRefIdeal.Value.run m' g'
    all_goals obtain ⟨a0, a1, a2, a3, a4, a5, a6⟩ := hagree c
    · refine (Cert.FfnInRefIdeal.Read.val_main_v83_eq m' c).trans ?_
      rw [a0, a1, a2, a3, a4, a5, a6]
      exact (Cert.FfnInIdeal.Val.fin7 m c (fine m hpre c)).symm
    · refine (Cert.FfnInRefIdeal.Read.val_main_v85_eq m' c).trans ?_
      rw [a0, a1, a2, a3, a4, a5, a6]
      exact (Cert.FfnInIdeal.Val.fin8 m c (fine m hpre c)).symm
    · exact (Cert.FfnInRefIdeal.Read.val_main_v86_eq _ _ _ _ _).trans (Cert.FfnInIdeal.Val.fin9 m c).symm
    · refine (Cert.FfnInRefIdeal.Read.val_main_v87_eq m' c).trans ?_
      rw [a0, a1, a2, a3, a4, a5, a6]
      exact (Cert.FfnInIdeal.Val.fin10 m c (fine m hpre c)).symm

end Cert.Proof.FfnIn
-- ==== Proof.InRows.lean ====
/- What one block of the input projection's backward kernel computes, row by row. -/
module

public import proofs.«01_k».proof.Proof.Rms
public import proofs.«01_k».proof.Proof.Gen.InBwdIdeal.Skeleton

@[expose] public section

set_option maxRecDepth 16384

noncomputable section

namespace Cert.InBwdIdeal.Pure
open Idealize.ShloMosaic Idealize.ShloMosaic.TcCoe Idealize.SL.Sem Cert.Rows Cert.Rms
open Cert.InBwdIdeal Cert.InBwdIdeal.Gen

/-- Row `r` of a block of 384 rows. -/
abbrev row (X : FVec Ideal S384x1024 .f32) (r : Fin 384) : Fin 1024 → EReal := fun k => X (ix2 r k)

/-- The product of a row of the projection's cotangent with the projection's columns, one group of columns at a time. -/
theorem pay8 (a0 : Vec Ideal S384x1280 .bf16) (w0 : Vec Ideal S1280x1024 .bf16) (a1 : Vec Ideal S384x1024 .bf16)
    (w1 : Vec Ideal S1024x1024 .bf16) (r : Fin 384) (l : Fin 1024) :
    k0_pay8 (F := Ideal) a0 w0 a1 w1 (ix2 r l) = (∑ k, a0 (ix2 r k) * w0 (ix2 k l)) + ∑ k, a1 (ix2 r k) * w1 (ix2 k l) := by
  pointwise [k0_pay8, k0_pay5, k0_pay7]
theorem pay13 (v : FVec Ideal S384x1024 .f32) (a2 : Vec Ideal S384x1024 .bf16) (w2 : Vec Ideal S1024x1024 .bf16)
    (a3 : Vec Ideal S384x2048 .bf16) (w3 : Vec Ideal S2048x1024 .bf16) (r : Fin 384) (l : Fin 1024) :
    k0_pay13 (F := Ideal) v a2 w2 a3 w3 (ix2 r l)
      = (v (ix2 r l) + ∑ k, a2 (ix2 r k) * w2 (ix2 k l)) + ∑ k, a3 (ix2 r k) * w3 (ix2 k l) := by
  pointwise [k0_pay13, k0_pay10, k0_pay12]

theorem pay15 (x : Vec Ideal S384x1024 .f32) (r : Fin 384) (l : Fin 1024) : k0_pay15 (F := Ideal) x (ix2 r l) = x (ix2 r l) := by
  pointwise [k0_pay15]
theorem pay16 (x : Vec Ideal S384x1024 .f32) (r : Fin 384) : k0_pay16 (F := Ideal) x (ix2 r 0) = rr (row x r) := by
  pointwise [k0_pay16, pay15, rr, ms]

theorem pay1 (d x h : Vec Ideal S384x1024 .f32) (g : Vec Ideal S1x1024 .f32) (r : Fin 384) (l : Fin 1024) :
    k0_pay1 (F := Ideal) d (k0_pay15 x) (k0_pay16 x) h g (ix2 r l)
      = h (ix2 r l) + gK (row x r) (fun k => d (ix2 r k) * g (ix2 0 k)) l := by
  pointwise [k0_pay1, pay15, pay16, gK]
theorem pay2 (d x : Vec Ideal S384x1024 .f32) (a : Vec Ideal S1x1024 .f32) (l : Fin 1024) :
    k0_pay2 (F := Ideal) d (k0_pay15 x) (k0_pay16 x) a (ix2 0 l)
      = a (ix2 0 l) + ∑ r, d (ix2 r l) * x (ix2 r l) * rr (row x r) := by
  pointwise [k0_pay2, pay15, pay16]
theorem pay3 (l : Fin 1024) : k0_pay3 (F := Ideal) (ix2 0 l) = 0 := by
  pointwise [k0_pay3]
theorem pay4 (k : Fin 5376) : k0_pay4 (F := Ideal) (ix2 0 k) = 0 := by
  pointwise [k0_pay4]

/-! The sums of the cotangent's columns. -/

theorem pay6 (d : Vec Ideal S384x1280 .bf16) (a : Vec Ideal S1x1280 .f32) (k : Fin 1280) :
    k0_pay6 (F := Ideal) d a (ix2 0 k) = a (ix2 0 k) + ∑ r, d (ix2 r k) := by
  pointwise [k0_pay6, k0_pay5]
theorem pay9 (d : Vec Ideal S384x1024 .bf16) (a : Vec Ideal S1x1024 .f32) (k : Fin 1024) :
    k0_pay9 (F := Ideal) d a (ix2 0 k) = a (ix2 0 k) + ∑ r, d (ix2 r k) := by
  pointwise [k0_pay9, k0_pay7]
theorem pay11 (d : Vec Ideal S384x1024 .bf16) (a : Vec Ideal S1x1024 .f32) (k : Fin 1024) :
    k0_pay11 (F := Ideal) d a (ix2 0 k) = a (ix2 0 k) + ∑ r, d (ix2 r k) := by
  pointwise [k0_pay11, k0_pay10]
theorem pay14 (d : Vec Ideal S384x2048 .bf16) (a : Vec Ideal S1x2048 .f32) (k : Fin 2048) :
    k0_pay14 (F := Ideal) d a (ix2 0 k) = a (ix2 0 k) + ∑ r, d (ix2 r k) := by
  pointwise [k0_pay14, k0_pay12]

end Cert.InBwdIdeal.Pure
-- ==== Proof.InRef.lean ====
/- The reference of the input projection's backward call, one sequence row at a time. -/
module

public import proofs.«01_k».proof.Proof.Rms
public import proofs.«01_k».proof.Proof.Gen.InBwdRefIdeal.Read

@[expose] public section

set_option maxRecDepth 16384

noncomputable section

namespace Cert.InBwd
open Idealize.ShloMosaic Cert.Rows Cert.Rms

/-- The arguments: the step's input, the meta rows, the scale, the projection, and the two cotangents. -/
abbrev Inp := (⟨Cert.InBwdRefIdeal.S1x4096x1024, .f32⟩ : BufTy).Contents (Elt Ideal)
abbrev Meta := (⟨Cert.InBwdRefIdeal.S16x1024, .f32⟩ : BufTy).Contents (Elt Ideal)
abbrev Vec1 := (⟨Cert.InBwdRefIdeal.S1x1024, .f32⟩ : BufTy).Contents (Elt Ideal)
abbrev Mat := (⟨Cert.InBwdRefIdeal.S1x1024x5376, .f32⟩ : BufTy).Contents (Elt Ideal)
abbrev Seq := (⟨Cert.InBwdRefIdeal.S1x4112x1024, .f32⟩ : BufTy).Contents (Elt Ideal)
abbrev ProjSeq := (⟨Cert.InBwdRefIdeal.S1x4112x5376, .f32⟩ : BufTy).Contents (Elt Ideal)

/-- The sequence: the meta rows, then the input's. -/
def stream (x : Inp) (mt : Meta) (i : Fin 4112) : Fin 1024 → EReal :=
  fun l => if h : i.val < 16 then mt (ix2 ⟨i.val, h⟩ l) else x (ix3 0 ⟨i.val - 16, by omega⟩ l)
/-- The gradient of the normalised sequence: the projection's cotangent times its transposed matrix. -/
def dNorm (w : Mat) (du : ProjSeq) (i : Fin 4112) : Fin 1024 → EReal :=
  fun l => ∑ k, du (ix3 0 i k) * w (ix3 0 l k)
/-- That gradient times the norm's scale. -/
def dScaled (g : Vec1) (w : Mat) (du : ProjSeq) (i : Fin 4112) : Fin 1024 → EReal := fun l => dNorm w du i l * g (ix2 0 l)

end Cert.InBwd

namespace Cert.InBwdRefIdeal.Rows
open Idealize.ShloMosaic Cert.Rows Cert.Rms Cert.InBwd Cert.InBwdRefIdeal.Read

variable (x : Inp) (mt : Meta) (g : Vec1) (w : Mat) (dh : Seq) (du : ProjSeq)

theorem v4 (i : Fin 4112) (l : Fin 1024) : val_main_v4 (F := Ideal) x mt (ix2 i l) = stream x mt i l := by
  pointwise [val_main_v4, val_main_v0, stream]

theorem v11 (i : Fin 4112) : val_main_v11 (F := Ideal) x mt (ix2 i 0) = ms (stream x mt i) := by
  pointwise [val_main_v11, val_main_v10, val_main_v9, val_main_v8, val_main_v7, val_main_v6, val_main_v5, v4,
    val_main_cst, val_main_cst_0, val_main_cst_1, ms]
theorem v12 (i : Fin 4112) : val_main_v12 (F := Ideal) x mt (ix2 i 0) = rr (stream x mt i) := by
  pointwise [val_main_v12, v11, rr]
theorem v30 (i : Fin 4112) (l : Fin 1024) : val_main_v30 (F := Ideal) w du (ix2 i l) = dNorm w du i l := by
  pointwise [val_main_v30, val_main_v26, val_main_v3, dNorm]
theorem v35 (i : Fin 4112) (l : Fin 1024) : val_main_v35 (F := Ideal) g w du (ix2 i l) = dScaled g w du i l := by
  pointwise [val_main_v35, v30, val_main_v34, val_main_v18, val_main_v1, dScaled]
theorem v46 (i : Fin 4112) : val_main_v46 (F := Ideal) x mt g w du (ix1 i) = gT (stream x mt i) (dScaled g w du i) := by
  pointwise [val_main_v46, val_main_v45, val_main_v44, val_main_v43, val_main_v39, val_main_v38, val_main_v37, v35, v4, val_main_v15,
    val_main_v14, val_main_v13, v11, v12, val_main_cst_2, val_main_cst_7, val_main_cst_8, val_main_cst_9, gT]
  rw [Fin.sum_univ_one, v11, v12]

/-- The gradient of the sequence: the cotangent that arrives plus the norm's gradient. -/
def dStream (i : Fin 4112) : Fin 1024 → EReal :=
  fun l => dh (ix3 0 i l) + gR (stream x mt i) (dScaled g w du i) l

theorem v51 (i : Fin 4112) (l : Fin 1024) :
    val_main_v51 (F := Ideal) x mt g w dh du (ix2 i l) = dStream x mt g w dh du i l := by
  pointwise [val_main_v51, val_main_v50, val_main_v49, val_main_v48, val_main_v47, val_main_v42, val_main_v41, val_main_v40, v46, v35,
    v12, v4, val_main_v25, dStream, gR]
  ac_rfl

theorem v54 (i : Fin 4112) (l : Fin 1024) :
    val_main_v54 (F := Ideal) x mt g w dh du (ix2 i l) = dStream x mt g w dh du i l := by
  rw [← v51]
  by_cases h : i.val < 16
  · pointwise [val_main_v54, val_main_v52, val_main_v53]
    simp [h]
  · pointwise [val_main_v54, val_main_v52, val_main_v53]
    simp only [h, dite_false, if_false]
    exact congrArg (fun j => val_main_v51 (F := Ideal) x mt g w dh du (ix2 j l)) (Fin.ext (by simp only []; omega))

theorem v56 (l : Fin 1024) : val_main_v56 (F := Ideal) x mt w du (ix2 0 l)
    = ∑ i, stream x mt i l * rr (stream x mt i) * dNorm w du i l := by
  pointwise [val_main_v56, val_main_v36, val_main_v33, val_main_v32, val_main_v31, val_main_v17, val_main_v16, v30, v4, v12,
    val_main_cst_5, val_main_cst_6]
  rw [Fin.sum_univ_one]

theorem v57 (k : Fin 5376) : val_main_v57 (F := Ideal) du (ix2 0 k) = ∑ i, du (ix3 0 i k) := by
  pointwise [val_main_v57, val_main_v29, val_main_v28, val_main_v27, val_main_v26, val_main_cst_3, val_main_cst_4]
  rw [Fin.sum_univ_one]

end Cert.InBwdRefIdeal.Rows
-- ==== Proof.InValue.lean ====
/- The arrays the input projection's backward kernel leaves. -/
module

public import proofs.«01_k».proof.Proof.InRows
public import proofs.«01_k».proof.Proof.InRef
public import proofs.«01_k».proof.Proof.Pad
public import proofs.«01_k».proof.Proof.Gen.InBwdIdeal.Frame
public import Idealize.ShloMosaic.Lib.Pipeline.ValueKit
public import Idealize.ShloMosaic.Lib.Claim
public import Idealize.ShloMosaic.Lib.WritesUnit

@[expose] public section

set_option maxRecDepth 16384

noncomputable section

namespace Cert.InBwdIdeal.Val
open Idealize.ShloMosaic Idealize.ShloMosaic.TcCoe Idealize.SL.Sem Cert.Rows Cert.Rms Cert.Pad Cert.InBwd Cert.InBwdIdeal.Pure
open Cert.InBwdIdeal Cert.InBwdIdeal.Gen
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![t.val, 0] ∧ win0_9.index t = ![0, 0] ∧ win0_10.index t = ![0, 0] :=
  (by decide +kernel : ∀ t : Fin grid0.N, _)

/-- The kernel's arguments. -/
abbrev x : Inp := m ((c.tc : Thread nD τ).loc main_arg0)
abbrev mt : Meta := m ((c.tc : Thread nD τ).loc main_arg1)
abbrev g : Vec1 := m ((c.tc : Thread nD τ).loc main_arg2)
abbrev w : Mat := m ((c.tc : Thread nD τ).loc main_arg3)
abbrev dh : InBwd.Seq := m ((c.tc : Thread nD τ).loc main_arg5)
abbrev du : ProjSeq := m ((c.tc : Thread nD τ).loc main_arg6)

/-! What the region finds in the buffers that the host lines filled. -/

/-- The padding of a group of columns, as the host's operations write it. -/
theorem pad_cols (f : Fin 4112 → EReal) (R : Fin 4224) (p : Prop) [Decidable p] (hp : p) :
    (if hR : (112 ≤ R.val ∧ R.val - 112 < 4112) ∧ p then f ⟨R.val - 112, hR.1.2⟩ else (FloatOps.sitofp (F := Ideal) FTy.f32 0#32 : EReal)) = padRow f R := by
  refine Eq.trans ?_ (pad_if f R)
  by_cases hR : 112 ≤ R.val ∧ R.val - 112 < 4112
  · rw [dif_pos ⟨hR, hp⟩, dif_pos hR]
  · rw [dif_neg fun h => hR h.1, dif_neg hR]

theorem e6 (R : Fin 4224) (k : Fin 1280) :
    (V m c main_v6 : FVec Ideal S4224x1280 .bf16) (ix2 R k) = padRow (fun i => du m c (ix3 0 i ⟨k.val, by omega⟩)) R := by
  unfold V
  simp only [List.flatten_cons, List.flatten_nil, List.cons_append, List.nil_append, List.append_nil, hostOps0, hostOps0_1, hostOps0_2, hostOps0_3]
  after_results
  simp only [StableHlo.TRef.toBuf, StableHlo.TRef.ofBuf, cast_eq]
  pointwise
  exact pad_cols (fun i => du m c (ix3 0 i ⟨k.val, by omega⟩)) R (k.val < 5376) (by omega)
theorem e7 (R : Fin 4224) (k : Fin 1024) :
    (V m c main_v7 : FVec Ideal S4224x1024 .bf16) (ix2 R k) = padRow (fun i => du m c (ix3 0 i ⟨1280 + k.val, by omega⟩)) R := by
  unfold V
  simp only [List.flatten_cons, List.flatten_nil, List.cons_append, List.nil_append, List.append_nil, hostOps0, hostOps0_1, hostOps0_2, hostOps0_3]
  after_results
  simp only [StableHlo.TRef.toBuf, StableHlo.TRef.ofBuf, cast_eq]
  pointwise
  exact pad_cols (fun i => du m c (ix3 0 i ⟨1280 + k.val, by omega⟩)) R (1280 + k.val < 5376) (by omega)
theorem e8 (R : Fin 4224) (k : Fin 1024) :
    (V m c main_v8 : FVec Ideal S4224x1024 .bf16) (ix2 R k) = padRow (fun i => du m c (ix3 0 i ⟨2304 + k.val, by omega⟩)) R := by
  unfold V
  simp only [List.flatten_cons, List.flatten_nil, List.cons_append, List.nil_append, List.append_nil, hostOps0, hostOps0_1, hostOps0_2, hostOps0_3]
  after_results
  simp only [StableHlo.TRef.toBuf, StableHlo.TRef.ofBuf, cast_eq]
  pointwise
  exact pad_cols (fun i => du m c (ix3 0 i ⟨2304 + k.val, by omega⟩)) R (2304 + k.val < 5376) (by omega)
theorem e9 (R : Fin 4224) (k : Fin 2048) :
    (V m c main_v9 : FVec Ideal S4224x2048 .bf16) (ix2 R k) = padRow (fun i => du m c (ix3 0 i ⟨3328 + k.val, by omega⟩)) R := by
  unfold V
  simp only [List.flatten_cons, List.flatten_nil, List.cons_append, List.nil_append, List.append_nil, hostOps0, hostOps0_1, hostOps0_2, hostOps0_3]
  after_results
  simp only [StableHlo.TRef.toBuf, StableHlo.TRef.ofBuf, cast_eq]
  pointwise
  exact pad_cols (fun i => du m c (ix3 0 i ⟨3328 + k.val, by omega⟩)) R (3328 + k.val < 5376) (by omega)
theorem e12 (k : Fin 5376) (l : Fin 1024) :
    (V m c main_v12 : FVec Ideal S5376x1024 .bf16) (ix2 k l) = w m c (ix3 0 l k) := by
  unfold V
  simp only [List.flatten_cons, List.flatten_nil, List.cons_append, List.nil_append, List.append_nil, hostOps0, hostOps0_1, hostOps0_2, hostOps0_3]
  after_results
  simp only [StableHlo.TRef.toBuf, StableHlo.TRef.ofBuf, cast_eq]
  pointwise

theorem e2 (R : Fin 4224) (l : Fin 1024) :
    (V m c main_v2 : FVec Ideal S4224x1024 .f32) (ix2 R l) = padRow (fun i => stream (x m c) (mt m c) i l) R := by
  unfold V
  simp only [List.flatten_cons, List.flatten_nil, List.cons_append, List.nil_append, List.append_nil, hostOps0, hostOps0_1, hostOps0_2, hostOps0_3]
  after_results
  simp only [StableHlo.TRef.toBuf, StableHlo.TRef.ofBuf, cast_eq]
  pointwise
  unfold padRow
  by_cases h0 : R.val < 112
  · rw [dif_pos h0, dif_neg (by omega)]
    show broadcastInDim S112x1024 ![] bcast_S_S112x1024 (constant (F := Ideal) S_ FTy.f32 0#32) (ix2 ⟨R.val, by omega⟩ l) = 0
    pointwise
  · rw [dif_neg h0, dif_pos (show 112 ≤ R.val by omega)]
    by_cases h1 : R.val - 112 < 16
    · have es : stream (x m c) (mt m c) ⟨R.val - 112, by omega⟩ l = mt m c (ix2 ⟨R.val - 112, h1⟩ l) := dif_pos h1
      exact (dif_pos h1).trans es.symm
    · have es : stream (x m c) (mt m c) ⟨R.val - 112, by omega⟩ l = x m c (ix3 0 ⟨R.val - 112 - 16, by omega⟩ l) := dif_neg h1
      refine (dif_neg h1).trans (Eq.trans ?_ es.symm)
      show shapeCast S4096x1024 (x m c) shapeCasts_S1x4096x1024_S4096x1024 (ix2 ⟨R.val - 112 - 16, by omega⟩ l) = _
      pointwise
theorem e14 (R : Fin 4224) (l : Fin 1024) :
    (V m c main_v14 : FVec Ideal S4224x1024 .f32) (ix2 R l) = padRow (fun i => dh m c (ix3 0 i l)) R := by
  unfold V
  simp only [List.flatten_cons, List.flatten_nil, List.cons_append, List.nil_append, List.append_nil, hostOps0, hostOps0_1, hostOps0_2, hostOps0_3]
  after_results
  simp only [StableHlo.TRef.toBuf, StableHlo.TRef.ofBuf, cast_eq]
  pointwise
  exact pad_if (fun i => dh m c (ix3 0 i l)) R

/-- The row of the padded arrays that block `t` holds at its row `r`. -/
abbrev R (t : Fin cfg0.N) (r : Fin 384) : Fin 4224 := ⟨384 * t.val + r.val, by have := lt_of_lt_of_eq t.isLt N_0; omega⟩

theorem b0 (t : Fin cfg0.N) (r : Fin 384) (k : Fin 1280) :
    (iblk m c 0 t : FVec Ideal S384x1280 .bf16) (ix2 r k) = padRow (fun i => du m c (ix3 0 i ⟨k.val, by omega⟩)) (R t r) :=
  (show (iblk m c 0 t : FVec Ideal S384x1280 .bf16) (ix2 r k) = (V m c main_v6 : FVec Ideal S4224x1280 .bf16) (ix2 (R t r) k) by
    blk_ext [iblk, idx t]).trans (e6 m c _ _)
theorem b1 (t : Fin cfg0.N) (r : Fin 384) (k : Fin 1024) :
    (iblk m c 1 t : FVec Ideal S384x1024 .bf16) (ix2 r k) = padRow (fun i => du m c (ix3 0 i ⟨1280 + k.val, by omega⟩)) (R t r) :=
  (show (iblk m c 1 t : FVec Ideal S384x1024 .bf16) (ix2 r k) = (V m c main_v7 : FVec Ideal S4224x1024 .bf16) (ix2 (R t r) k) by
    blk_ext [iblk, idx t]).trans (e7 m c _ _)
theorem b2 (t : Fin cfg0.N) (r : Fin 384) (k : Fin 1024) :
    (iblk m c 2 t : FVec Ideal S384x1024 .bf16) (ix2 r k) = padRow (fun i => du m c (ix3 0 i ⟨2304 + k.val, by omega⟩)) (R t r) :=
  (show (iblk m c 2 t : FVec Ideal S384x1024 .bf16) (ix2 r k) = (V m c main_v8 : FVec Ideal S4224x1024 .bf16) (ix2 (R t r) k) by
    blk_ext [iblk, idx t]).trans (e8 m c _ _)
theorem b3 (t : Fin cfg0.N) (r : Fin 384) (k : Fin 2048) :
    (iblk m c 3 t : FVec Ideal S384x2048 .bf16) (ix2 r k) = padRow (fun i => du m c (ix3 0 i ⟨3328 + k.val, by omega⟩)) (R t r) :=
  (show (iblk m c 3 t : FVec Ideal S384x2048 .bf16) (ix2 r k) = (V m c main_v9 : FVec Ideal S4224x2048 .bf16) (ix2 (R t r) k) by
    blk_ext [iblk, idx t]).trans (e9 m c _ _)
theorem b4 (t : Fin cfg0.N) (k : Fin 5376) (l : Fin 1024) :
    (iblk m c 4 t : FVec Ideal S5376x1024 .bf16) (ix2 k l) = w m c (ix3 0 l k) :=
  (show (iblk m c 4 t : FVec Ideal S5376x1024 .bf16) (ix2 k l) = (V m c main_v12 : FVec Ideal S5376x1024 .bf16) (ix2 k l) by
    blk_ext [iblk, idx t]).trans (e12 m c _ _)
theorem b5 (t : Fin cfg0.N) (r : Fin 384) (l : Fin 1024) :
    (iblk m c 5 t : FVec Ideal S384x1024 .f32) (ix2 r l) = padRow (fun i => stream (x m c) (mt m c) i l) (R t r) :=
  (show (iblk m c 5 t : FVec Ideal S384x1024 .f32) (ix2 r l) = (V m c main_v2 : FVec Ideal S4224x1024 .f32) (ix2 (R t r) l) by
    blk_ext [iblk, idx t]).trans (e2 m c _ _)
theorem b6 (t : Fin cfg0.N) (r : Fin 384) (l : Fin 1024) :
    (iblk m c 6 t : FVec Ideal S384x1024 .f32) (ix2 r l) = padRow (fun i => dh m c (ix3 0 i l)) (R t r) :=
  (show (iblk m c 6 t : FVec Ideal S384x1024 .f32) (ix2 r l) = (V m c main_v14 : FVec Ideal S4224x1024 .f32) (ix2 (R t r) l) by
    blk_ext [iblk, idx t]).trans (e14 m c _ _)
theorem b7 (t : Fin cfg0.N) (l : Fin 1024) : (iblk m c 7 t : FVec Ideal S1x1024 .f32) (ix2 0 l) = g m c (ix2 0 l) := by
  blk_ext! [iblk, idx t]

/-- Every entry of the arguments but the bias and the arriving cotangent is a real number. -/
structure Fine : Prop where
  x : ∀ i, Fin' (x m c i)
  mt : ∀ i, Fin' (mt m c i)
  g : ∀ i, Fin' (g m c i)
  w : ∀ i, Fin' (w m c i)
  du : ∀ i, Fin' (du m c i)

/-- A sum over the columns of the projection, group by group. -/
theorem sum_groups (f : Fin 5376 → EReal) :
    (((∑ k : Fin 1280, f ⟨k.val, by omega⟩) + ∑ k : Fin 1024, f ⟨1280 + k.val, by omega⟩)
      + ∑ k : Fin 1024, f ⟨2304 + k.val, by omega⟩) + ∑ k : Fin 2048, f ⟨3328 + k.val, by omega⟩ = ∑ k, f k := by
  have e3 : ∑ k, f k = (∑ k : Fin 3328, f ⟨k.val, by omega⟩) + ∑ k : Fin 2048, f ⟨3328 + k.val, by omega⟩ := Fin.sum_univ_add (a := 3328) (b := 2048) f
  have e2 : ∑ k : Fin 3328, f ⟨k.val, by omega⟩ = (∑ k : Fin 2304, f ⟨k.val, by omega⟩) + ∑ k : Fin 1024, f ⟨2304 + k.val, by omega⟩ :=
    Fin.sum_univ_add (a := 2304) (b := 1024) fun k => f ⟨k.val, by omega⟩
  have e1 : ∑ k : Fin 2304, f ⟨k.val, by omega⟩ = (∑ k : Fin 1280, f ⟨k.val, by omega⟩) + ∑ k : Fin 1024, f ⟨1280 + k.val, by omega⟩ :=
    Fin.sum_univ_add (a := 1280) (b := 1024) fun k => f ⟨k.val, by omega⟩
  rw [e3, e2, e1]

/-- The block's rows of the normalised sequence's gradient. -/
abbrev DN (t : Fin cfg0.N) : FVec Ideal S384x1024 .f32 :=
  k0_pay13
    (k0_pay8 (iblk m c 0 t) (View.ld (iblk m c 4 t) (Rect.unit ![0, 0] ![1280, 1024] inb_S5376x1024_S1280x1024_0_0))
      (iblk m c 1 t) (View.ld (iblk m c 4 t) (Rect.unit ![1280, 0] ![1024, 1024] inb_S5376x1024_S1024x1024_1280_0)))
    (iblk m c 2 t) (View.ld (iblk m c 4 t) (Rect.unit ![2304, 0] ![1024, 1024] inb_S5376x1024_S1024x1024_2304_0))
    (iblk m c 3 t) (View.ld (iblk m c 4 t) (Rect.unit ![3328, 0] ![2048, 1024] inb_S5376x1024_S2048x1024_3328_0))

theorem dn (t : Fin cfg0.N) (r : Fin 384) (l : Fin 1024) :
    DN m c t (ix2 r l) = padRow (fun i => dNorm (w m c) (du m c) i l) (R t r) := by
  rw [DN, pay13, pay8]
  pointwise
  simp only [b0, b1, b2, b3, b4]
  by_cases hR : 112 ≤ (R t r).val
  · simp only [padRow_ge _ _ hR]
    exact sum_groups fun k => du m c (ix3 0 _ k) * w m c (ix3 0 l k)
  · simp [padRow_lt _ _ hR]

variable {m c} in
theorem Fine.stream (hf : Fine m c) (i : Fin 4112) (l : Fin 1024) : Fin' (stream (Val.x m c) (Val.mt m c) i l) := by
  unfold InBwd.stream
  by_cases h : i.val < 16
  · rw [dif_pos h]; exact hf.mt _
  · rw [dif_neg h]; exact hf.x _
variable {m c} in
theorem Fine.dScaled (hf : Fine m c) (i : Fin 4112) (l : Fin 1024) : Fin' (dScaled (Val.g m c) (Val.w m c) (Val.du m c) i l) :=
  (Fin'.sum _ fun _ => (hf.du _).mul (hf.w _)).mul (hf.g _)

/-- The reference's gradient of the sequence, over the kernel's arguments. -/
abbrev dst (i : Fin 4112) (l : Fin 1024) : EReal :=
  Cert.InBwdRefIdeal.Rows.dStream (x m c) (mt m c) (g m c) (w m c) (dh m c) (du m c) i l

abbrev DS (t : Fin cfg0.N) : FVec Ideal S384x1024 .f32 :=
  k0_pay1 (F := Ideal) (DN m c t) (k0_pay15 (iblk m c 5 t)) (k0_pay16 (iblk m c 5 t)) (iblk m c 6 t) (iblk m c 7 t)

theorem row5 (t : Fin cfg0.N) (r : Fin 384) :
    row (iblk m c 5 t : FVec Ideal S384x1024 .f32) r = fun k => padRow (fun i => stream (x m c) (mt m c) i k) (R t r) :=
  funext fun k => b5 m c t r k

theorem ds (hf : Fine m c) (t : Fin cfg0.N) (r : Fin 384) (l : Fin 1024) :
    DS m c t (ix2 r l) = padRow (fun i => dst m c i l) (R t r) := by
  rw [DS, pay1, b6, row5]
  simp only [dn, b7]
  by_cases hR : 112 ≤ (R t r).val
  · simp only [padRow_ge _ _ hR]
    exact congrArg _ (gK_eq_gR (fun k => hf.stream _ k) (fun k => hf.dScaled _ k) l)
  · simp only [padRow_lt _ _ hR, zero_mul]
    rw [gK_zero _ _ _ rfl rfl, add_zero]

/-- A block's part of the scale's gradient. -/
theorem term9 (t : Fin cfg0.N) (r : Fin 384) (l : Fin 1024) :
    DN m c t (ix2 r l) * (iblk m c 5 t : FVec Ideal S384x1024 .f32) (ix2 r l) * rr (row (iblk m c 5 t) r)
      = padRow (fun i => stream (x m c) (mt m c) i l * rr (stream (x m c) (mt m c) i) * dNorm (w m c) (du m c) i l) (R t r) := by
  rw [dn, row5, b5]
  by_cases hR : 112 ≤ (R t r).val
  · simp only [padRow_ge _ _ hR]
    rw [mul_assoc, mul_comm]
  · simp only [padRow_lt _ _ hR, zero_mul]

open Cert.InBwdRefIdeal.Read Cert.InBwdRefIdeal.Rows

/-! The reference's results, and the arrays the region leaves. -/

theorem r55 (S : Fin 4224) (l : Fin 1024) :
    val_main_v55 (F := Ideal) (x m c) (mt m c) (g m c) (w m c) (dh m c) (du m c) (ix2 S l) = padRow (fun i => dst m c i l) S := by
  pointwise [val_main_v55, v54, val_main_call0_v0, val_main_c]
  exact pad_if (fun i => dst m c i l) S

theorem fin8 (hf : Fine m c) : (dats m 0 c).arrAt 8 cfg0.N
    = val_main_v55 (F := Ideal) (x m c) (mt m c) (g m c) (w m c) (dh m c) (du m c) := by
  refine (dats m 0 c).arrAt_eq_of_covers 8 _ (by decide +kernel) fun t hf' y => ?_
  blk_simp
  rw [after0_8]
  obtain ⟨r, l, rfl⟩ : ∃ (r : Fin 384) (l : Fin 1024), y = ix2 r l := ⟨y 0, y 1, eq_ix2 y⟩
  refine Eq.trans (b := DS m c t (ix2 r l)) ?_ ((ds m c hf t r l).trans ((r55 m c _ l).symm.trans ?_))
  · by_cases h0 : t.val % 11 = 0
    · rw [outsAt0_A m c t h0]
      frame_out
      rfl
    · rw [outsAt0_B m c t h0]
      frame_out
      rfl
  · blk_ext [idx t]

theorem fin9 : (dats m 0 c).arrAt 9 cfg0.N = val_main_v56 (F := Ideal) (x m c) (mt m c) (w m c) (du m c) := by
  refine (dats m 0 c).arrAt_eq_of_after_last 9 t0_10 (by decide +kernel) _ fun j => ?_
  blk_simp
  rw [after0_9, Pipeline.eq_sum_fin_of_reset_step_apply_last (fun n h => (outsAt0 m c n h).2.1) 11 (fun _ => (0 : EReal))
    (fun t j => ∑ r : Fin 384, DN m c t (ix2 r (j 1)) * (iblk m c 5 t : FVec Ideal S384x1024 .f32) (ix2 r (j 1)) * rr (row (iblk m c 5 t : FVec Ideal S384x1024 .f32) r))
    (fun t h j => by
      obtain ⟨u, l, rfl⟩ : ∃ (u : Fin 1) (l : Fin 1024), j = ix2 u l := ⟨j 0, j 1, eq_ix2 j⟩
      obtain rfl : u = 0 := Subsingleton.elim _ _
      rw [outsAt0_A m c t h]
      frame_out
      refine (pay2 _ _ _ l).trans ?_
      rw [pay3 l]
      rfl)
    (fun t h j => by
      obtain ⟨u, l, rfl⟩ : ∃ (u : Fin 1) (l : Fin 1024), j = ix2 u l := ⟨j 0, j 1, eq_ix2 j⟩
      obtain rfl : u = 0 := Subsingleton.elim _ _
      rw [outsAt0_B m c t h]
      frame_out
      exact pay2 _ _ _ l)
    (le_of_eq N_0) t0_10 rfl j, zero_add]
  obtain ⟨u, l, rfl⟩ : ∃ (u : Fin 1) (l : Fin 1024), j = ix2 u l := ⟨j 0, j 1, eq_ix2 j⟩
  obtain rfl : u = 0 := Subsingleton.elim _ _
  refine (sum_blocks N_0 _ fun t r hl => term9 m c t r l).trans (Eq.trans ?_ (congrArg _ (show ix2 0 l = _ by blk_ext [idx t0_10])))
  exact (v56 _ _ _ _ l).symm

/-! The bias's gradient, which a point leaves in four groups of columns. -/

theorem canon_in (a n : Nat) (inb : ∀ x, (![0, a] : Fin 2 → Nat) x + (![1, n] : Fin 2 → Nat) x ≤ S1x5376.size x)
    (p : (Rect.unit (s := S1x5376) ![0, a] ![1, n] inb).shape.Idx → EReal) (L : List (View.Piece (Elt Ideal) S1x5376 .f32)) (k : Fin n) (K : Fin 5376)
    (hK : K.val = a + k.val) :
    View.canon ((⟨Rect.unit ![0, a] ![1, n] inb, p⟩ : View.Piece (Elt Ideal) S1x5376 .f32) :: L) (ix2 0 K) = p (ix2 0 k) := by
  have e : (ix2 0 K : S1x5376.Idx) = (Rect.unit (s := S1x5376) ![0, a] ![1, n] inb).emb (ix2 0 k) := by
    funext x; fin_cases x <;> exact Fin.ext (by simp [Rect.emb_apply, hK])
  rw [e, View.canon_cons_emb]

theorem canon_out (a n : Nat) (inb : ∀ x, (![0, a] : Fin 2 → Nat) x + (![1, n] : Fin 2 → Nat) x ≤ S1x5376.size x)
    (p : (Rect.unit (s := S1x5376) ![0, a] ![1, n] inb).shape.Idx → EReal) (L : List (View.Piece (Elt Ideal) S1x5376 .f32)) (K : Fin 5376)
    (hK : K.val < a ∨ a + n ≤ K.val) :
    View.canon ((⟨Rect.unit ![0, a] ![1, n] inb, p⟩ : View.Piece (Elt Ideal) S1x5376 .f32) :: L) (ix2 0 K) = View.canon L (ix2 0 K) := by
  refine View.canon_cons_of_not_mem (⟨Rect.unit ![0, a] ![1, n] inb, p⟩ : View.Piece (Elt Ideal) S1x5376 .f32) L fun h => ?_
  have h1 := (Rect.mem_set_unit (s := S1x5376) (off := ![0, a]) (size := ![1, n]) (inb := inb)).mp h 1
  have h2 : a ≤ K.val ∧ K.val < a + n := h1
  omega

/-- Four groups of columns written one after another. -/
theorem canon_groups (p0 : FVec Ideal S1x1280 .f32) (p1 p2 : FVec Ideal S1x1024 .f32) (p3 : FVec Ideal S1x2048 .f32)
    (L : List (View.Piece (Elt Ideal) S1x5376 .f32)) (f : Fin 5376 → EReal)
    (h0 : ∀ k : Fin 1280, p0 (ix2 0 k) = f ⟨k.val, by omega⟩) (h1 : ∀ k : Fin 1024, p1 (ix2 0 k) = f ⟨1280 + k.val, by omega⟩)
    (h2 : ∀ k : Fin 1024, p2 (ix2 0 k) = f ⟨2304 + k.val, by omega⟩) (h3 : ∀ k : Fin 2048, p3 (ix2 0 k) = f ⟨3328 + k.val, by omega⟩) (K : Fin 5376) :
    View.canon ((⟨Rect.unit ![0, 3328] ![1, 2048] inb_S1x5376_S1x2048_0_3328, p3⟩ : View.Piece (Elt Ideal) S1x5376 .f32)
      :: ⟨Rect.unit ![0, 2304] ![1, 1024] inb_S1x5376_S1x1024_0_2304, p2⟩ :: ⟨Rect.unit ![0, 1280] ![1, 1024] inb_S1x5376_S1x1024_0_1280, p1⟩
      :: ⟨Rect.unit ![0, 0] ![1, 1280] inb_S1x5376_S1x1280_0_0, p0⟩ :: L) (ix2 0 K) = f K := by
  have hK := K.isLt
  by_cases c3 : 3328 ≤ K.val
  · refine (canon_in 3328 2048 _ p3 _ ⟨K.val - 3328, by omega⟩ K (by simp only []; omega)).trans ((h3 _).trans (congrArg f (Fin.ext (by simp only []; omega))))
  refine (canon_out 3328 2048 _ p3 _ K (by omega)).trans ?_
  by_cases c2 : 2304 ≤ K.val
  · refine (canon_in 2304 1024 _ p2 _ ⟨K.val - 2304, by omega⟩ K (by simp only []; omega)).trans ((h2 _).trans (congrArg f (Fin.ext (by simp only []; omega))))
  refine (canon_out 2304 1024 _ p2 _ K (by omega)).trans ?_
  by_cases c1 : 1280 ≤ K.val
  · refine (canon_in 1280 1024 _ p1 _ ⟨K.val - 1280, by omega⟩ K (by simp only []; omega)).trans ((h1 _).trans (congrArg f (Fin.ext (by simp only []; omega))))
  refine (canon_out 1280 1024 _ p1 _ K (by omega)).trans ?_
  exact (canon_in 0 1280 _ p0 _ ⟨K.val, by omega⟩ K (by simp only []; omega)).trans (h0 _)

/-- A block's part of the bias's gradient. -/
abbrev bsum (t : Fin cfg0.N) (k : Fin 5376) : EReal := ∑ r : Fin 384, padRow (fun i => du m c (ix3 0 i k)) (R t r)

theorem zeros (k : Fin 5376) : View.canon [(⟨Rect.unit ![0, 0] ![1, 5376] inb_S1x5376_S1x5376_0_0, k0_pay4 (F := Ideal)⟩ : View.Piece (Elt Ideal) S1x5376 .f32)] (ix2 0 k) = 0 :=
  (canon_in 0 5376 _ _ _ k k (by omega)).trans (pay4 k)

theorem at_idx (a n : Nat) (inb : ∀ x, (![0, a] : Fin 2 → Nat) x + (![1, n] : Fin 2 → Nat) x ≤ S1x5376.size x) (k : Fin n) (h : a + k.val < 5376) :
    (Rect.unit (s := S1x5376) ![0, a] ![1, n] inb).toLoadRect.idx (ix2 0 k) = (ix2 0 ⟨a + k.val, h⟩ : S1x5376.Idx) := by
  funext x; fin_cases x <;> exact Fin.ext (by simp [Rect.emb_apply])

theorem ld_at (a n : Nat) (inb : ∀ x, (![0, a] : Fin 2 → Nat) x + (![1, n] : Fin 2 → Nat) x ≤ S1x5376.size x) (X : FVec Ideal S1x5376 .f32) (k : Fin n)
    (h : a + k.val < 5376) : View.ld (Val := Elt Ideal) (e' := .f32) X (Rect.unit ![0, a] ![1, n] inb) (ix2 0 k) = X (ix2 0 ⟨a + k.val, h⟩) := by
  refine congrArg X ?_
  funext x; fin_cases x <;> exact Fin.ext (by simp [Rect.emb_apply])

theorem leftB (t : Fin cfg0.N) (h0 : ¬t.val % 11 = 0) (K : Fin 5376) :
    (outsAt0 m c t.val t.isLt).2.2 (ix2 0 K) = (outsAt0 m c (t.val - 1) (lt_of_le_of_lt (Nat.sub_le _ _) t.isLt)).2.2 (ix2 0 K) + bsum m c t K := by
  rw [outsAt0_B m c t h0]
  frame_out
  refine canon_groups _ _ _ _ [] (fun K => (outsAt0 m c (t.val - 1) (lt_of_le_of_lt (Nat.sub_le _ _) t.isLt)).2.2 (ix2 0 K) + bsum m c t K)
    (fun k => ?_) (fun k => ?_) (fun k => ?_) (fun k => ?_) K
  · refine (pay6 _ _ k).trans ?_
    rw [ld_at 0 1280 _ _ k (by omega)]
    simp only [b0, zero_add]
  · refine (pay9 _ _ k).trans ?_
    rw [ld_at 1280 1024 _ _ k (by omega)]
    simp only [b1]
  · refine (pay11 _ _ k).trans ?_
    rw [ld_at 2304 1024 _ _ k (by omega)]
    simp only [b2]
  · refine (pay14 _ _ k).trans ?_
    rw [ld_at 3328 2048 _ _ k (by omega)]
    simp only [b3]

theorem leftA (t : Fin cfg0.N) (h0 : t.val % 11 = 0) (K : Fin 5376) :
    (outsAt0 m c t.val t.isLt).2.2 (ix2 0 K) = 0 + bsum m c t K := by
  rw [outsAt0_A m c t h0]
  frame_out
  refine canon_groups _ _ _ _ [_] (fun K => 0 + bsum m c t K) (fun k => ?_) (fun k => ?_) (fun k => ?_) (fun k => ?_) K
  · refine (pay6 _ _ k).trans ?_
    rw [View.readCov_eq_canon']
    simp only [b0]
    rw [at_idx 0 1280 _ k (by omega), zeros]
  · refine (pay9 _ _ k).trans ?_
    rw [View.readCov_eq_canon']
    simp only [b1]
    rw [at_idx 1280 1024 _ k (by omega), canon_out 0 1280 _ _ _ _ (by simp only []; omega), zeros]
  · refine (pay11 _ _ k).trans ?_
    rw [View.readCov_eq_canon']
    simp only [b2]
    rw [at_idx 2304 1024 _ k (by omega), canon_out 1280 1024 _ _ _ _ (by simp only []; omega), canon_out 0 1280 _ _ _ _ (by simp only []; omega), zeros]
  · refine (pay14 _ _ k).trans ?_
    rw [View.readCov_eq_canon']
    simp only [b3]
    rw [at_idx 3328 2048 _ k (by omega), canon_out 2304 1024 _ _ _ _ (by simp only []; omega), canon_out 1280 1024 _ _ _ _ (by simp only []; omega),
      canon_out 0 1280 _ _ _ _ (by simp only []; omega), zeros]

theorem fin10 : (dats m 0 c).arrAt 10 cfg0.N = val_main_v57 (F := Ideal) (du m c) := by
  refine (dats m 0 c).arrAt_eq_of_after_last 10 t0_10 (by decide +kernel) _ fun j => ?_
  blk_simp
  rw [after0_10, Pipeline.eq_sum_fin_of_reset_step_apply_last (fun n h => (outsAt0 m c n h).2.2) 11 (fun _ => (0 : EReal))
    (fun t j => bsum m c t (j 1))
    (fun t h j => by
      obtain ⟨u, l, rfl⟩ : ∃ (u : Fin 1) (l : Fin 5376), j = ix2 u l := ⟨j 0, j 1, eq_ix2 j⟩
      obtain rfl : u = 0 := Subsingleton.elim _ _
      exact leftA m c t h l)
    (fun t h j => by
      obtain ⟨u, l, rfl⟩ : ∃ (u : Fin 1) (l : Fin 5376), j = ix2 u l := ⟨j 0, j 1, eq_ix2 j⟩
      obtain rfl : u = 0 := Subsingleton.elim _ _
      exact leftB m c t h l)
    (le_of_eq N_0) t0_10 rfl j, zero_add]
  obtain ⟨u, l, rfl⟩ : ∃ (u : Fin 1) (l : Fin 5376), j = ix2 u l := ⟨j 0, j 1, eq_ix2 j⟩
  obtain rfl : u = 0 := Subsingleton.elim _ _
  refine (sum_blocks N_0 _ fun t r hl => rfl).trans (Eq.trans ?_ (congrArg _ (show ix2 0 l = _ by blk_ext [idx t0_10])))
  exact (v57 _ l).symm

end Cert.InBwdIdeal.Val
-- ==== Proof.InClaim.lean ====
/- The claims about the kernel behind the input projection. -/
module

public import proofs.«01_k».proof.Defs
public import proofs.«01_k».proof.Proof.Finite
public import proofs.«01_k».proof.Proof.InValue
public import proofs.«01_k».proof.Proof.Gen.InBwd.Frame
public import proofs.«01_k».proof.Proof.Gen.InBwdIdeal.Value
public import proofs.«01_k».proof.Proof.Gen.InBwdRefIdeal.Run
public import proofs.«01_k».proof.Proof.Gen.InBwdRefIdeal.Read
public import proofs.«01_k».proof.Proof.Gen.Pre_in_finite

@[expose] public section

noncomputable section

namespace Cert.Proof.InBwd
open Idealize.ShloMosaic Idealize.SL.Sem Cert.Rows

/-- The precondition makes every entry of the arguments a real number. -/
theorem fine (m : (ℓ : Loc Cert.InBwdIdeal.nD Cert.InBwdIdeal.τ Cert.InBwdIdeal.sig) → Buf (Elt Ideal) ℓ)
    (hp : Cert.Pre_InBwdIdeal_in_finite m) (c : Dev Cert.InBwdIdeal.nD) : Cert.InBwdIdeal.Val.Fine m c := by
  obtain ⟨e0, e1, e2, e3, e4⟩ := hp c
  exact ⟨finite_arg _ e0, finite_arg _ e1, finite_arg _ e2, finite_arg _ e3, finite_arg _ e4⟩

theorem q1 : Cert.quiescent_InBwd := fun m ρ _ => Cert.InBwd.Gen.frame m ρ
theorem q2 : Cert.quiescent_InBwdIdeal := fun m ρ _ => Cert.InBwdIdeal.Gen.frame m ρ
theorem q3 : Cert.quiescent_InBwdIdeal_pre_in_finite := fun m ρ _ => Cert.InBwdIdeal.Gen.frame m ρ
theorem q4 : Cert.quiescent_InBwdRefIdeal := by
  intro m g _
  hlo_run
  · simp
  · exact sem_eq_zero_of_no_sems (sig := Cert.InBwdRefIdeal.sig) (by decide) _
theorem q5 : Cert.quiescent_InBwdRefIdeal_pre_in_finite := by
  intro m g _
  hlo_run
  · simp
  · exact sem_eq_zero_of_no_sems (sig := Cert.InBwdRefIdeal.sig) (by decide) _
theorem q6 : Cert.preserves_InBwd_InBwdIdeal := trivial

set_option maxHeartbeats 1000000 in
/-- The two programs leave the same three arrays. -/
theorem algebraic : Cert.algebraic_InBwdIdeal_InBwdRefIdeal_pre_in_finite := by
  pair_intro
  · run_from Cert.InBwdIdeal.Value.run_blocks m g
  · refine (θ_run _ _ _).mono (fun r h c => ?_) (Cert.InBwdRefIdeal.Value.run m' g')
    obtain ⟨a0, a1, a2, a3, a4, a5, a6⟩ := hagree c
    refine ⟨(h c).1.trans ((Cert.InBwdRefIdeal.Read.val_main_v55_eq m' c).trans ?_), (h c).2.1.trans ((Cert.InBwdRefIdeal.Read.val_main_v56_eq _ _ _ _).trans ?_),
      (h c).2.2.1.trans ((Cert.InBwdRefIdeal.Read.val_main_v57_eq _).trans ?_), (h c).2.2.2⟩
    · rw [a0, a1, a2, a3, a5, a6]
      exact (Cert.InBwdIdeal.Val.fin8 m c (fine m hpre c)).symm
    · rw [a0, a1, a3, a6]
      exact (Cert.InBwdIdeal.Val.fin9 m c).symm
    · rw [a6]
      exact (Cert.InBwdIdeal.Val.fin10 m c).symm

end Cert.Proof.InBwd
-- ==== Proof.DownRows.lean ====
/- What one block of the down projection's kernel computes, row by row. -/
module

public import proofs.«01_k».proof.Proof.Rms
public import proofs.«01_k».proof.Proof.Gen.FfnDownIdeal.Skeleton

@[expose] public section

set_option maxRecDepth 16384

noncomputable section

namespace Cert.FfnDownIdeal.Pure
open Idealize.ShloMosaic Idealize.ShloMosaic.TcCoe Idealize.SL.Sem Cert.Rows Cert.Rms
open Cert.FfnDownIdeal Cert.FfnDownIdeal.Gen

/-- The literals 1/1024 and 1/2048. -/
abbrev c1024 : EReal := Ideal.ofBits .f32 0x3A800000#32
abbrev c2048 : EReal := Ideal.ofBits .f32 0x3A000000#32
theorem c1024_eq : c1024 = ((1/1024 : ℝ) : EReal) := by
  simp [c1024, Ideal.ofBits, Ideal.ieee, -EReal.coe_mul]; norm_num
theorem c2048_eq : c2048 = ((1/2048 : ℝ) : EReal) := by
  simp [c2048, Ideal.ofBits, Ideal.ieee, -EReal.coe_mul]; norm_num

/-- Row `r` of a block of 384 rows. -/
abbrev row (X : FVec Ideal S384x1024 .f32) (r : Fin 384) : Fin 1024 → EReal := fun k => X (ix2 r k)

variable (a : Vec Ideal S384x2816 .bf16) (w : Vec Ideal S2816x1024 .bf16) (g : Vec Ideal S1x1024 .f32)
  (t0 t1 t2 : Vec Ideal S128x1024 .f32) (h : Vec Ideal S384x1024 .f32) (i : grid0.Coords)

theorem pay4 (r : Fin 384) (l : Fin 1024) : k0_pay4 (F := Ideal) a w (ix2 r l) = ∑ k, a (ix2 r k) * w (ix2 k l) := by
  pointwise [k0_pay4]
theorem pay5 (r : Fin 384) : k0_pay5 (F := Ideal) a w (ix2 r 0) = rr (row (k0_pay4 (F := Ideal) a w) r) := by
  pointwise [k0_pay5, rr, ms]
theorem pay6 (r : Fin 384) (l : Fin 1024) : k0_pay6 (F := Ideal) a w g (ix2 r l)
    = k0_pay4 (F := Ideal) a w (ix2 r l) * rr (row (k0_pay4 (F := Ideal) a w) r) * g (ix2 0 l) := by
  pointwise [k0_pay6, pay5]
theorem pay7 (r : Fin 384) (l : Fin 1024) : k0_pay7 (F := Ideal) t0 t1 t2 (ix2 r l)
    = if h0 : r.val < 128 then t0 (ix2 ⟨r.val, h0⟩ l) else if h1 : r.val - 128 < 128 then t1 (ix2 ⟨r.val - 128, h1⟩ l)
      else t2 (ix2 ⟨r.val - 128 - 128, by omega⟩ l) := by
  pointwise [k0_pay7]
theorem pay9 (r : Fin 384) (l : Fin 1024) : k0_pay9 (F := Ideal) h (ix2 r l) = h (ix2 r l) := by
  pointwise [k0_pay9]

theorem behind : ∀ (n : Fin 11) (r : Fin 384), IntOp.cmpi .sge (IntOp.addi (Scalar.muli (BitVec.ofNat 32 n.val) 384#32) (BitVec.ofNat 32 r.val)) 128#32
    = if 128 ≤ 384 * n.val + r.val then 1#1 else 0#1 := by decide +kernel
/-- Whether a row of the padded sequence is behind the meta rows. -/
theorem pay8 (r : Fin 384) (hn : (i 0).val < 11) : k0_pay8 i (ix2 r 0) = if 128 ≤ 384 * (i 0).val + r.val then 1#1 else 0#1 := by
  pointwise [k0_pay8]
  exact behind ⟨(i 0).val, hn⟩ r

/-- The block's part of the loss's argument. -/
abbrev er (y tg hh : FVec Ideal S384x1024 .f32) (m : IVec S384x1 1) (r : Fin 384) (l : Fin 1024) : EReal :=
  if m (ix2 r 0) = 1#1 then hh (ix2 r l) + y (ix2 r l) - tg (ix2 r l) else 0

variable (y tg hh f : FVec Ideal S384x1024 .f32) (m : IVec S384x1 1) (s : FVec Ideal S384x1 .f32)

theorem pay10 (r : Fin 384) (l : Fin 1024) : k0_pay10 (F := Ideal) y tg m hh (ix2 r l) = er y tg hh m r l := by
  pointwise [k0_pay10]
  rfl
theorem pay11 (b : Vec Ideal S1x1024 .f32) (l : Fin 1024) : k0_pay11 (F := Ideal) y tg m hh b (ix2 0 l)
    = b (ix2 0 l) + (∑ r, er y tg hh m r l * er y tg hh m r l) * c2048 := by
  pointwise [k0_pay11, pay10]
theorem pay12 (r : Fin 384) (l : Fin 1024) : k0_pay12 (F := Ideal) y tg m hh (ix2 r l) = er y tg hh m r l * c1024 := by
  pointwise [k0_pay12, pay10]
theorem pay13 (r : Fin 384) (l : Fin 1024) (hs : s (ix2 r 0) = rr (row f r)) : k0_pay13 (F := Ideal) f g s y tg m hh (ix2 r l)
    = gK (row f r) (fun k => er y tg hh m r k * c1024 * g (ix2 0 k)) l := by
  pointwise [k0_pay13, pay12, gK, hs]
theorem pay15 (r : Fin 384) (l : Fin 1024) : k0_pay15 (F := Ideal) f s y tg m hh (ix2 r l)
    = er y tg hh m r l * c1024 * f (ix2 r l) * s (ix2 r 0) := by
  pointwise [k0_pay15, pay12]
theorem pay1 (b : Vec Ideal S1x1024 .f32) (d : FVec Ideal S384x1024 .f32) (l : Fin 1024) :
    k0_pay1 (F := Ideal) (k0_pay14 b) d (ix2 0 l) = b (ix2 0 l) + ∑ r, d (ix2 r l) := by
  pointwise [k0_pay1, k0_pay14]
theorem pay2 (l : Fin 1024) : k0_pay2 (F := Ideal) (ix2 0 l) = 0 := by
  pointwise [k0_pay2]
theorem pay3 (l : Fin 1024) : k0_pay3 (F := Ideal) (ix2 0 l) = 0 := by
  pointwise [k0_pay3]

end Cert.FfnDownIdeal.Pure
-- ==== Proof.DownRef.lean ====
/- The reference of the down projection's call, one sequence row at a time. -/
module

public import proofs.«01_k».proof.Proof.Rms
public import proofs.«01_k».proof.Proof.Gen.FfnDownRefIdeal.Read

@[expose] public section

set_option maxRecDepth 16384

noncomputable section

namespace Cert.FfnDown
open Idealize.ShloMosaic Cert.Rows Cert.Rms

/-- The arguments: the residual stream, the activation, the scale, the projection, the target. -/
abbrev Seq := (⟨Cert.FfnDownRefIdeal.S1x4112x1024, .f32⟩ : BufTy).Contents (Elt Ideal)
abbrev Act := (⟨Cert.FfnDownRefIdeal.S1x4112x2816, .f32⟩ : BufTy).Contents (Elt Ideal)
abbrev Vec1 := (⟨Cert.FfnDownRefIdeal.S1x1024, .f32⟩ : BufTy).Contents (Elt Ideal)
abbrev Mat := (⟨Cert.FfnDownRefIdeal.S1x2816x1024, .f32⟩ : BufTy).Contents (Elt Ideal)
abbrev Tgt := (⟨Cert.FfnDownRefIdeal.S1x4096x1024, .f32⟩ : BufTy).Contents (Elt Ideal)

abbrev half : EReal := Ideal.ofBits .f32 0x3F000000#32
theorem half_eq : half = ((1/2 : ℝ) : EReal) := by
  simp [half, Ideal.ofBits, Ideal.ieee, -EReal.coe_mul]; norm_num

variable (h : Seq) (a : Act) (g : Vec1) (w : Mat) (tg : Tgt)

/-- The feed-forward's output, and the stream behind its norm. -/
def ffn (i : Fin 4112) : Fin 1024 → EReal := fun l => ∑ k, a (ix3 0 i k) * w (ix3 0 k l)
def out (i : Fin 4112) (l : Fin 1024) : EReal := h (ix3 0 i l) + ffn a w i l * rr (ffn a w i) * g (ix2 0 l)
/-- How far the stream is from the target behind the meta rows. -/
def err (j : Fin 4096) (l : Fin 1024) : EReal := out h a g w ⟨16 + j.val, by omega⟩ l - tg (ix3 0 j l)
/-- The loss's gradient of the stream, none on the meta rows. -/
def dy (i : Fin 4112) (l : Fin 1024) : EReal :=
  if hi : 16 ≤ i.val then Ideal.div half n1024 * (two * err h a g w tg ⟨i.val - 16, by omega⟩ l) else 0
def dScaled (i : Fin 4112) : Fin 1024 → EReal := fun l => dy h a g w tg i l * g (ix2 0 l)

end Cert.FfnDown

namespace Cert.FfnDownRefIdeal.Rows
open Idealize.ShloMosaic Cert.Rows Cert.Rms Cert.FfnDown Cert.FfnDownRefIdeal.Read

variable (h : Seq) (a : Act) (g : Vec1) (w : Mat) (tg : Tgt)

theorem v3 (i : Fin 4112) (l : Fin 1024) : val_main_v3 (F := Ideal) a w (ix2 i l) = ffn a w i l := by
  pointwise [val_main_v3, val_main_v1, val_main_v2, ffn]
theorem v12 (i : Fin 4112) : val_main_v12 (F := Ideal) a w (ix2 i 0) = ms (ffn a w i) := by
  pointwise [val_main_v12, val_main_v11, val_main_v10, val_main_v9, val_main_v8, val_main_v7, val_main_v6, v3,
    val_main_cst, val_main_cst_0, val_main_cst_1, ms]
theorem v13 (i : Fin 4112) : val_main_v13 (F := Ideal) a w (ix2 i 0) = rr (ffn a w i) := by
  pointwise [val_main_v13, v12, rr]
theorem v18 (i : Fin 4112) (l : Fin 1024) : val_main_v18 (F := Ideal) a w (ix2 i l) = ffn a w i l * rr (ffn a w i) := by
  pointwise [val_main_v18, val_main_v17, v3, v13]
theorem v22 (i : Fin 4112) (l : Fin 1024) : val_main_v22 (F := Ideal) h a g w (ix2 i l) = out h a g w i l := by
  pointwise [val_main_v22, val_main_v21, val_main_v20, val_main_v19, val_main_v4, val_main_v0, v18, out]
theorem v24 (j : Fin 4096) (l : Fin 1024) : val_main_v24 (F := Ideal) h a g w tg (ix2 j l) = err h a g w tg j l := by
  pointwise [val_main_v24, val_main_v23, val_main_v5, v22, err]
theorem v64 (l : Fin 1024) : val_main_v64 (F := Ideal) h a g w tg (ix2 0 l)
    = half * ∑ j, Ideal.div (err h a g w tg j l * err h a g w tg j l) n1024 := by
  pointwise [val_main_v64, val_main_v32, val_main_v31, val_main_v30, val_main_v29, val_main_v28, val_main_v25, v24,
    val_main_cst_4, val_main_cst_5, val_main_cst_6]
theorem v39 (j : Fin 4096) (l : Fin 1024) : val_main_v39 (F := Ideal) h a g w tg (ix2 j l)
    = Ideal.div half n1024 * (two * err h a g w tg j l) := by
  pointwise [val_main_v39, val_main_v38, val_main_v37, val_main_v36, val_main_v35, val_main_v34, val_main_v33, val_main_v27, val_main_v26, v24,
    val_main_cst_3, val_main_cst_7, val_main_cst_8, val_main_cst_9]
theorem v40 (i : Fin 4112) (l : Fin 1024) : val_main_v40 (F := Ideal) h a g w tg (ix2 i l) = dy h a g w tg i l := by
  pointwise [val_main_v40, v39, val_main_cst_10]
  unfold dy
  by_cases hi : 16 ≤ i.val
  · rw [dif_pos ⟨hi, by omega⟩, dif_pos hi]
  · rw [dif_neg (fun hh => hi hh.1), dif_neg hi]
theorem v45 (i : Fin 4112) (l : Fin 1024) : val_main_v45 (F := Ideal) h a g w tg (ix2 i l) = dScaled h a g w tg i l := by
  pointwise [val_main_v45, v40, val_main_v44, val_main_v19, val_main_v4, dScaled]
theorem v55 (i : Fin 4112) : val_main_v55 (F := Ideal) h a g w tg (ix1 i) = gT (ffn a w i) (dScaled h a g w tg i) := by
  pointwise [val_main_v55, val_main_v54, val_main_v53, val_main_v52, val_main_v49, val_main_v48, val_main_v47, v45, v3, val_main_v16,
    val_main_v15, val_main_v14, v12, v13, val_main_cst_2, val_main_cst_13, val_main_cst_14, val_main_cst_15, gT]
  rw [Fin.sum_univ_one, v12, v13]
theorem v60 (i : Fin 4112) (l : Fin 1024) :
    val_main_v60 (F := Ideal) h a g w tg (ix2 i l) = gR (ffn a w i) (dScaled h a g w tg i) l := by
  pointwise [val_main_v60, val_main_v59, val_main_v58, val_main_v57, val_main_v56, val_main_v51, val_main_v50, v55, v45, v13, v3, gR]
  ac_rfl
theorem v65 (l : Fin 1024) : val_main_v65 (F := Ideal) h a g w tg (ix2 0 l)
    = ∑ i, ffn a w i l * rr (ffn a w i) * dy h a g w tg i l := by
  pointwise [val_main_v65, val_main_v46, val_main_v43, val_main_v42, val_main_v41, v40, v18, val_main_cst_11, val_main_cst_12]
  rw [Fin.sum_univ_one]

end Cert.FfnDownRefIdeal.Rows
-- ==== Proof.DownValue.lean ====
/- The arrays the down projection's kernel leaves. -/
module

public import proofs.«01_k».proof.Proof.DownRows
public import proofs.«01_k».proof.Proof.DownRef
public import proofs.«01_k».proof.Proof.Pad
public import proofs.«01_k».proof.Proof.Gen.FfnDownIdeal.Frame
public import Idealize.ShloMosaic.Lib.Pipeline.ValueKit
public import Idealize.ShloMosaic.Lib.Claim
public import Idealize.ShloMosaic.Lib.WritesUnit

@[expose] public section

set_option maxRecDepth 16384

noncomputable section

namespace Cert.FfnDownIdeal.Val
open Idealize.ShloMosaic Idealize.ShloMosaic.TcCoe Idealize.SL.Sem Cert.Rows Cert.Rms Cert.Pad Cert.FfnDown Cert.FfnDownIdeal.Pure
open Cert.FfnDownIdeal Cert.FfnDownIdeal.Gen
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![0, 0] ∧ win0_4.index t = ![3 * t.val - 1, 0] ∧ win0_5.index t = ![3 * t.val, 0] ∧ win0_6.index t = ![3 * t.val + 1, 0]
    ∧ win0_7.index t = ![t.val, 0] ∧ win0_8.index t = ![t.val, 0] ∧ win0_9.index t = ![0, 0] ∧ win0_10.index t = ![0, 0] :=
  (by decide +kernel : ∀ t : Fin grid0.N, _)
theorem crd : ∀ t : Fin cfg0.N, (grid0.coords t 0).val = t.val := (by decide +kernel : ∀ t : Fin grid0.N, _)

/-- The kernel's arguments. -/
abbrev h : FfnDown.Seq := m ((c.tc : Thread nD τ).loc main_arg0)
abbrev a : Act := m ((c.tc : Thread nD τ).loc main_arg1)
abbrev g : Vec1 := m ((c.tc : Thread nD τ).loc main_arg2)
abbrev w : Mat := m ((c.tc : Thread nD τ).loc main_arg3)
abbrev tg : Tgt := m ((c.tc : Thread nD τ).loc main_arg4)

/-! What the region finds in the buffers that the host lines filled. -/

theorem e2 (R : Fin 4224) (k : Fin 2816) : (V m c main_v2 : FVec Ideal S4224x2816 .bf16) (ix2 R k) = padRow (fun i => a m c (ix3 0 i k)) R := by
  unfold V
  simp only [List.flatten_cons, List.flatten_nil, List.cons_append, List.nil_append, List.append_nil, hostOps0, hostOps0_1, hostOps0_2, hostOps0_3]
  after_results
  simp only [StableHlo.TRef.toBuf, StableHlo.TRef.ofBuf, cast_eq]
  pointwise
  exact pad_if (fun i => a m c (ix3 0 i k)) R
theorem e4 (k : Fin 2816) (l : Fin 1024) : (V m c main_v4 : FVec Ideal S2816x1024 .bf16) (ix2 k l) = w m c (ix3 0 k l) := by
  unfold V
  simp only [List.flatten_cons, List.flatten_nil, List.cons_append, List.nil_append, List.append_nil, hostOps0, hostOps0_1, hostOps0_2, hostOps0_3]
  after_results
  simp only [StableHlo.TRef.toBuf, StableHlo.TRef.ofBuf, cast_eq]
  pointwise
theorem e6 (R : Fin 4224) (l : Fin 1024) : (V m c main_v6 : FVec Ideal S4224x1024 .f32) (ix2 R l) = padRow (fun i => h m c (ix3 0 i l)) R := by
  unfold V
  simp only [List.flatten_cons, List.flatten_nil, List.cons_append, List.nil_append, List.append_nil, hostOps0, hostOps0_1, hostOps0_2, hostOps0_3]
  after_results
  simp only [StableHlo.TRef.toBuf, StableHlo.TRef.ofBuf, cast_eq]
  pointwise
  exact pad_if (fun i => h m c (ix3 0 i l)) R
theorem e7 (j : Fin 4096) (l : Fin 1024) : (V m c main_v7 : FVec Ideal S4096x1024 .f32) (ix2 j l) = tg m c (ix3 0 j l) := by
  unfold V
  simp only [List.flatten_cons, List.flatten_nil, List.cons_append, List.nil_append, List.append_nil, hostOps0, hostOps0_1, hostOps0_2, hostOps0_3]
  after_results
  simp only [StableHlo.TRef.toBuf, StableHlo.TRef.ofBuf, cast_eq]
  pointwise

/-- The row of the padded arrays that block `t` holds at its row `r`. -/
abbrev R (t : Fin cfg0.N) (r : Fin 384) : Fin 4224 := ⟨384 * t.val + r.val, by have := lt_of_lt_of_eq t.isLt N_0; omega⟩

theorem b0 (t : Fin cfg0.N) (r : Fin 384) (k : Fin 2816) :
    (iblk m c 0 t : FVec Ideal S384x2816 .bf16) (ix2 r k) = padRow (fun i => a m c (ix3 0 i k)) (R t r) :=
  (show (iblk m c 0 t : FVec Ideal S384x2816 .bf16) (ix2 r k) = (V m c main_v2 : FVec Ideal S4224x2816 .bf16) (ix2 (R t r) k) by
    blk_ext [iblk, idx t]).trans (e2 m c _ _)
theorem b1 (t : Fin cfg0.N) (k : Fin 2816) (l : Fin 1024) :
    (iblk m c 1 t : FVec Ideal S2816x1024 .bf16) (ix2 k l) = w m c (ix3 0 k l) :=
  (show (iblk m c 1 t : FVec Ideal S2816x1024 .bf16) (ix2 k l) = (V m c main_v4 : FVec Ideal S2816x1024 .bf16) (ix2 k l) by
    blk_ext [iblk, idx t]).trans (e4 m c _ _)
theorem b2 (t : Fin cfg0.N) (r : Fin 384) (l : Fin 1024) :
    (iblk m c 2 t : FVec Ideal S384x1024 .f32) (ix2 r l) = padRow (fun i => h m c (ix3 0 i l)) (R t r) :=
  (show (iblk m c 2 t : FVec Ideal S384x1024 .f32) (ix2 r l) = (V m c main_v6 : FVec Ideal S4224x1024 .f32) (ix2 (R t r) l) by
    blk_ext [iblk, idx t]).trans (e6 m c _ _)
theorem b3 (t : Fin cfg0.N) (l : Fin 1024) : (iblk m c 3 t : FVec Ideal S1x1024 .f32) (ix2 0 l) = g m c (ix2 0 l) := by
  blk_ext! [iblk, idx t]
theorem b4 (t : Fin cfg0.N) (s : Fin 128) (l : Fin 1024) (hs : 128 * (3 * t.val - 1) + s.val < 4096) :
    (iblk m c 4 t : FVec Ideal S128x1024 .f32) (ix2 s l) = tg m c (ix3 0 ⟨128 * (3 * t.val - 1) + s.val, hs⟩ l) :=
  (show (iblk m c 4 t : FVec Ideal S128x1024 .f32) (ix2 s l) = (V m c main_v7 : FVec Ideal S4096x1024 .f32) (ix2 ⟨128 * (3 * t.val - 1) + s.val, hs⟩ l) by
    blk_ext [iblk, idx t]).trans (e7 m c _ _)
theorem b5 (t : Fin cfg0.N) (s : Fin 128) (l : Fin 1024) (hs : 128 * (3 * t.val) + s.val < 4096) :
    (iblk m c 5 t : FVec Ideal S128x1024 .f32) (ix2 s l) = tg m c (ix3 0 ⟨128 * (3 * t.val) + s.val, hs⟩ l) :=
  (show (iblk m c 5 t : FVec Ideal S128x1024 .f32) (ix2 s l) = (V m c main_v7 : FVec Ideal S4096x1024 .f32) (ix2 ⟨128 * (3 * t.val) + s.val, hs⟩ l) by
    blk_ext [iblk, idx t]).trans (e7 m c _ _)
theorem b6 (t : Fin cfg0.N) (s : Fin 128) (l : Fin 1024) (hs : 128 * (3 * t.val + 1) + s.val < 4096) :
    (iblk m c 6 t : FVec Ideal S128x1024 .f32) (ix2 s l) = tg m c (ix3 0 ⟨128 * (3 * t.val + 1) + s.val, hs⟩ l) :=
  (show (iblk m c 6 t : FVec Ideal S128x1024 .f32) (ix2 s l) = (V m c main_v7 : FVec Ideal S4096x1024 .f32) (ix2 ⟨128 * (3 * t.val + 1) + s.val, hs⟩ l) by
    blk_ext [iblk, idx t]).trans (e7 m c _ _)

/-- The three blocks of targets that a point reads, at its rows behind the meta rows. -/
theorem targets (t : Fin cfg0.N) (r : Fin 384) (l : Fin 1024) (hR : 128 ≤ (R t r).val) :
    k0_pay7 (F := Ideal) (iblk m c 4 t) (iblk m c 5 t) (iblk m c 6 t) (ix2 r l) = tg m c (ix3 0 ⟨(R t r).val - 128, by omega⟩ l) := by
  have ht := lt_of_lt_of_eq t.isLt N_0
  have hR' : 128 ≤ 384 * t.val + r.val := hR
  rw [pay7]
  by_cases h0 : r.val < 128
  · rw [dif_pos h0, b4 m c t _ l (by simp only []; omega)]
    exact congrArg (fun j => tg m c (ix3 0 j l)) (Fin.ext (by simp only []; omega))
  by_cases h1 : r.val - 128 < 128
  · rw [dif_neg h0, dif_pos h1, b5 m c t _ l (by simp only []; omega)]
    exact congrArg (fun j => tg m c (ix3 0 j l)) (Fin.ext (by simp only []; omega))
  · rw [dif_neg h0, dif_neg h1, b6 m c t _ l (by simp only []; omega)]
    exact congrArg (fun j => tg m c (ix3 0 j l)) (Fin.ext (by simp only []; omega))

/-- Every entry of the arguments is a real number. -/
structure Fine : Prop where
  h : ∀ i, Fin' (h m c i)
  a : ∀ i, Fin' (a m c i)
  g : ∀ i, Fin' (g m c i)
  w : ∀ i, Fin' (w m c i)
  tg : ∀ i, Fin' (tg m c i)

abbrev ff (i : Fin 4112) : Fin 1024 → EReal := ffn (a m c) (w m c) i
abbrev e (j : Fin 4096) (l : Fin 1024) : EReal := err (h m c) (a m c) (g m c) (w m c) (tg m c) j l
abbrev dyR (i : Fin 4112) (l : Fin 1024) : EReal := dy (h m c) (a m c) (g m c) (w m c) (tg m c) i l

/-- Something about the rows behind the meta rows, zero on the meta rows. -/
def behind (f : Fin 4096 → EReal) (i : Fin 4112) : EReal := if hi : 16 ≤ i.val then f ⟨i.val - 16, by omega⟩ else 0
theorem behind_mul (f : Fin 4096 → EReal) (x : EReal) (i : Fin 4112) : behind f i * x = behind (fun j => f j * x) i := by
  unfold behind
  by_cases hi : 16 ≤ i.val
  · rw [dif_pos hi, dif_pos hi]
  · rw [dif_neg hi, dif_neg hi, zero_mul]
theorem behind_sq (f : Fin 4096 → EReal) (i : Fin 4112) : behind f i * behind f i = behind (fun j => f j * f j) i := by
  unfold behind
  by_cases hi : 16 ≤ i.val
  · rw [dif_pos hi, dif_pos hi]
  · rw [dif_neg hi, dif_neg hi, zero_mul]
theorem sum_behind (f : Fin 4096 → EReal) : ∑ i, behind f i = ∑ j, f j := by
  rw [show (∑ i : Fin 4112, behind f i) = ∑ i : Fin (16 + 4096), behind f i from rfl, Fin.sum_univ_add]
  have h0 : ∀ i : Fin 16, behind f (Fin.castAdd 4096 i) = 0 := fun i => dif_neg (by simp)
  have h1 : ∀ i : Fin 4096, behind f (Fin.natAdd 16 i) = f i := fun i => (dif_pos (by simp)).trans (congrArg f (Fin.ext (by simp)))
  simp only [h0, h1, Finset.sum_const_zero, zero_add]

theorem pad_mul (f : Fin 4112 → EReal) (x : EReal) (S : Fin 4224) : padRow f S * x = padRow (fun i => f i * x) S := by
  by_cases hS : 112 ≤ S.val
  · rw [padRow_ge _ _ hS, padRow_ge _ _ hS]
  · rw [padRow_lt _ _ hS, padRow_lt _ _ hS, zero_mul]
theorem pad_sq (f : Fin 4112 → EReal) (S : Fin 4224) : padRow f S * padRow f S = padRow (fun i => f i * f i) S := by
  by_cases hS : 112 ≤ S.val
  · rw [padRow_ge _ _ hS, padRow_ge _ _ hS]
  · rw [padRow_lt _ _ hS, padRow_lt _ _ hS, zero_mul]

abbrev FF (t : Fin cfg0.N) : FVec Ideal S384x1024 .f32 := k0_pay4 (F := Ideal) (iblk m c 0 t) (iblk m c 1 t)

theorem ffAt (t : Fin cfg0.N) (r : Fin 384) (l : Fin 1024) : FF m c t (ix2 r l) = padRow (fun i => ff m c i l) (R t r) := by
  rw [FF, pay4]
  simp only [b0, b1]
  by_cases hR : 112 ≤ (R t r).val
  · simp only [padRow_ge _ _ hR]
    rfl
  · simp [padRow_lt _ _ hR]
theorem rowFF (t : Fin cfg0.N) (r : Fin 384) : row (FF m c t) r = fun k => padRow (fun i => ff m c i k) (R t r) :=
  funext fun k => ffAt m c t r k

/-- How far the block's rows are from their targets. -/
abbrev E (t : Fin cfg0.N) (r : Fin 384) (l : Fin 1024) : EReal :=
  er (k0_pay6 (F := Ideal) (iblk m c 0 t) (iblk m c 1 t) (iblk m c 3 t)) (k0_pay7 (F := Ideal) (iblk m c 4 t) (iblk m c 5 t) (iblk m c 6 t))
    (k0_pay9 (F := Ideal) (iblk m c 2 t)) (k0_pay8 (grid0.coords t)) r l

theorem eAt (t : Fin cfg0.N) (r : Fin 384) (l : Fin 1024) : E m c t r l = padRow (behind fun j => e m c j l) (R t r) := by
  have ht := lt_of_lt_of_eq t.isLt N_0
  rw [E, er, pay8 _ r (by rw [crd t]; exact ht), crd t]
  by_cases hR : 128 ≤ 384 * t.val + r.val
  · have h1 : 112 ≤ (R t r).val := by simp only []; omega
    rw [if_pos hR, if_pos rfl, targets m c t r l hR, pay9, pay6, b2, b3, rowFF, show k0_pay4 (F := Ideal) (iblk m c 0 t) (iblk m c 1 t) (ix2 r l) = _ from ffAt m c t r l]
    simp only [padRow_ge _ _ h1]
    unfold behind
    rw [dif_pos (show 16 ≤ 384 * t.val + r.val - 112 by omega)]
    unfold FfnDownIdeal.Val.e err out
    have x1 : (⟨16 + (384 * t.val + r.val - 112 - 16), by omega⟩ : Fin 4112) = ⟨384 * t.val + r.val - 112, by omega⟩ := Fin.ext (by simp only []; omega)
    have x2 : (⟨384 * t.val + r.val - 112 - 16, by omega⟩ : Fin 4096) = ⟨384 * t.val + r.val - 128, by omega⟩ := Fin.ext (by simp only []; omega)
    dsimp only
    rw [x1, x2]
  · rw [if_neg hR, if_neg (by decide)]
    by_cases h1 : 112 ≤ (R t r).val
    · rw [padRow_ge _ _ h1]
      unfold behind
      rw [dif_neg (show ¬16 ≤ 384 * t.val + r.val - 112 by omega)]
    · rw [padRow_lt _ _ h1]

variable {m c} in
theorem Fine.ff (hf : Fine m c) (i : Fin 4112) (l : Fin 1024) : Fin' (ff m c i l) := Fin'.sum _ fun _ => (hf.a _).mul (hf.w _)
variable {m c} in
theorem Fine.e (hf : Fine m c) (j : Fin 4096) (l : Fin 1024) : Fin' (e m c j l) :=
  ((hf.h _).add (((hf.ff _ l).mul (fin_rr fun k => hf.ff _ k)).mul (hf.g _))).sub (hf.tg _)

/-- Half of twice the distance over the width is the distance times 1/1024. -/
theorem dy_one {x : EReal} (hx : Fin' x) : Ideal.div half n1024 * (two * x) = x * c1024 := by
  obtain ⟨x, rfl⟩ := hx
  rw [half_eq, n1024_eq, two_eq, c1024_eq, div_coe_coe _ (by norm_num)]
  simp only [← EReal.coe_mul]
  exact congrArg _ (by ring)

theorem dy_eq (hf : Fine m c) (i : Fin 4112) (l : Fin 1024) : behind (fun j => e m c j l) i * c1024 = dyR m c i l := by
  unfold behind dyR dy
  by_cases hi : 16 ≤ i.val
  · rw [dif_pos hi, dif_pos hi]
    exact (dy_one (hf.e _ l)).symm
  · rw [dif_neg hi, dif_neg hi, zero_mul]
variable {m c} in
theorem Fine.dy (hf : Fine m c) (i : Fin 4112) (l : Fin 1024) : Fin' (dyR m c i l) := by
  rw [← dy_eq m c hf]
  refine Fin'.mul ?_ ⟨_, c1024_eq⟩
  unfold behind
  by_cases hi : 16 ≤ i.val
  · rw [dif_pos hi]; exact hf.e _ l
  · rw [dif_neg hi]; exact Fin'.zero

theorem dyAt (hf : Fine m c) (t : Fin cfg0.N) (r : Fin 384) (l : Fin 1024) :
    E m c t r l * c1024 = padRow (fun i => dyR m c i l) (R t r) := by
  rw [eAt, pad_mul]
  exact padRow_congr (fun i => dy_eq m c hf i l) _

abbrev DF (t : Fin cfg0.N) : FVec Ideal S384x1024 .bf16 :=
  k0_pay13 (F := Ideal) (FF m c t) (iblk m c 3 t) (k0_pay5 (F := Ideal) (iblk m c 0 t) (iblk m c 1 t))
    (k0_pay6 (F := Ideal) (iblk m c 0 t) (iblk m c 1 t) (iblk m c 3 t)) (k0_pay7 (F := Ideal) (iblk m c 4 t) (iblk m c 5 t) (iblk m c 6 t))
    (k0_pay8 (grid0.coords t)) (k0_pay9 (F := Ideal) (iblk m c 2 t))

theorem df (hf : Fine m c) (t : Fin cfg0.N) (r : Fin 384) (l : Fin 1024) :
    DF m c t (ix2 r l) = padRow (fun i => gR (ff m c i) (dScaled (h m c) (a m c) (g m c) (w m c) (tg m c) i) l) (R t r) := by
  refine (pay13 _ _ _ _ _ _ _ r l (pay5 _ _ r)).trans ?_
  rw [rowFF]
  simp only [dyAt m c hf, b3]
  by_cases hR : 112 ≤ (R t r).val
  · simp only [padRow_ge _ _ hR]
    exact gK_eq_gR (fun k => hf.ff _ k) (fun k => (hf.dy _ k).mul (hf.g _)) l
  · simp only [padRow_lt _ _ hR, zero_mul]
    exact gK_zero _ _ _ rfl rfl

abbrev DG (t : Fin cfg0.N) : FVec Ideal S384x1024 .f32 :=
  k0_pay15 (F := Ideal) (FF m c t) (k0_pay5 (F := Ideal) (iblk m c 0 t) (iblk m c 1 t))
    (k0_pay6 (F := Ideal) (iblk m c 0 t) (iblk m c 1 t) (iblk m c 3 t)) (k0_pay7 (F := Ideal) (iblk m c 4 t) (iblk m c 5 t) (iblk m c 6 t))
    (k0_pay8 (grid0.coords t)) (k0_pay9 (F := Ideal) (iblk m c 2 t))

theorem dg (hf : Fine m c) (t : Fin cfg0.N) (r : Fin 384) (l : Fin 1024) :
    DG m c t (ix2 r l) = padRow (fun i => ff m c i l * rr (ff m c i) * dyR m c i l) (R t r) := by
  refine (pay15 _ _ _ _ _ _ r l).trans ?_
  rw [dyAt m c hf t r l, pay5, rowFF, ffAt]
  by_cases hR : 112 ≤ (R t r).val
  · simp only [padRow_ge _ _ hR]
    rw [mul_assoc, mul_comm]
  · simp only [padRow_lt _ _ hR, zero_mul]

open Cert.FfnDownRefIdeal.Read Cert.FfnDownRefIdeal.Rows

/-! The reference's results, and the arrays the region leaves. -/

theorem r61 (S : Fin 4224) (l : Fin 1024) :
    val_main_v61 (F := Ideal) (h m c) (a m c) (g m c) (w m c) (tg m c) (ix2 S l) = padRow (fun i => dyR m c i l) S := by
  pointwise [val_main_v61, v40, val_main_call0_v0, val_main_c]
  exact pad_if (fun i => dyR m c i l) S
theorem r63 (S : Fin 4224) (l : Fin 1024) :
    val_main_v63 (F := Ideal) (h m c) (a m c) (g m c) (w m c) (tg m c) (ix2 S l)
      = padRow (fun i => gR (ff m c i) (dScaled (h m c) (a m c) (g m c) (w m c) (tg m c) i) l) S := by
  pointwise [val_main_v63, val_main_v62, v60, val_main_call1_v0, val_main_c_16]
  exact pad_if (fun i => gR (ff m c i) (dScaled (h m c) (a m c) (g m c) (w m c) (tg m c) i) l) S

theorem fin7 (hf : Fine m c) : (dats m 0 c).arrAt 7 cfg0.N
    = val_main_v61 (F := Ideal) (h m c) (a m c) (g m c) (w m c) (tg m c) := by
  refine (dats m 0 c).arrAt_eq_of_covers 7 _ (by decide +kernel) fun t hf' y => ?_
  blk_simp
  rw [after0_7]
  obtain ⟨r, l, rfl⟩ : ∃ (r : Fin 384) (l : Fin 1024), y = ix2 r l := ⟨y 0, y 1, eq_ix2 y⟩
  refine Eq.trans (b := E m c t r l * c1024) ?_ ((dyAt m c hf t r l).trans ((r61 m c _ l).symm.trans ?_))
  · by_cases h0 : t.val % 11 = 0
    · rw [outsAt0_A m c t h0]
      frame_out
      exact pay12 _ _ _ _ r l
    · rw [outsAt0_B m c t h0]
      frame_out
      exact pay12 _ _ _ _ r l
  · blk_ext [idx t]

theorem fin8 (hf : Fine m c) : (dats m 0 c).arrAt 8 cfg0.N
    = val_main_v63 (F := Ideal) (h m c) (a m c) (g m c) (w m c) (tg m c) := by
  refine (dats m 0 c).arrAt_eq_of_covers 8 _ (by decide +kernel) fun t hf' y => ?_
  blk_simp
  rw [after0_8]
  obtain ⟨r, l, rfl⟩ : ∃ (r : Fin 384) (l : Fin 1024), y = ix2 r l := ⟨y 0, y 1, eq_ix2 y⟩
  refine Eq.trans (b := DF m c t (ix2 r l)) ?_ ((df m c hf t r l).trans ((r63 m c _ l).symm.trans ?_))
  · by_cases h0 : t.val % 11 = 0
    · rw [outsAt0_A m c t h0]
      frame_out
    · rw [outsAt0_B m c t h0]
      frame_out
  · blk_ext [idx t]

theorem sum_mul_c {ι : Type*} [Fintype ι] {f : ι → EReal} (hf : ∀ i, Fin' (f i)) : (∑ i, f i) * c2048 = ∑ i, f i * c2048 := by
  choose r hr using hf
  obtain rfl : f = fun i => (r i : EReal) := funext hr
  simp only [c2048_eq, ← coe_sum, ← EReal.coe_mul, Finset.sum_mul]

/-- The sum of the halved squares over the width, as the reference writes it. -/
theorem loss_sum {f : Fin 4096 → EReal} (hf : ∀ j, Fin' (f j)) : ∑ j, f j * f j * c2048 = half * ∑ j, Ideal.div (f j * f j) n1024 := by
  choose r hr using hf
  obtain rfl : f = fun i => (r i : EReal) := funext hr
  simp only [c2048_eq, half_eq, n1024_eq, ← EReal.coe_mul, div_coe_coe _ (show (1024 : ℝ) ≠ 0 by norm_num), ← coe_sum]
  refine congrArg _ ?_
  rw [Finset.mul_sum]
  exact Finset.sum_congr rfl fun j _ => by ring

theorem lossT (hf : Fine m c) (t : Fin cfg0.N) (l : Fin 1024) : (∑ r : Fin 384, E m c t r l * E m c t r l) * c2048
    = ∑ r : Fin 384, padRow (behind fun j => e m c j l * e m c j l * c2048) (R t r) := by
  rw [sum_mul_c fun r => ?_]
  · refine Finset.sum_congr rfl fun r _ => ?_
    rw [eAt, pad_sq, pad_mul]
    refine padRow_congr (fun i => ?_) _
    rw [behind_sq, behind_mul]
  · rw [eAt]
    have : Fin' (padRow (behind fun j => e m c j l) (R t r)) := by
      unfold padRow behind
      split
      · split
        · exact hf.e _ l
        · exact Fin'.zero
      · exact Fin'.zero
    exact this.mul this

theorem fin9 (hf : Fine m c) : (dats m 0 c).arrAt 9 cfg0.N = val_main_v64 (F := Ideal) (h m c) (a m c) (g m c) (w m c) (tg m c) := by
  refine (dats m 0 c).arrAt_eq_of_after_last 9 t0_10 (by decide +kernel) _ fun j => ?_
  blk_simp
  rw [after0_9, Pipeline.eq_sum_fin_of_reset_step_apply_last (fun n h => (outsAt0 m c n h).2.2.1) 11 (fun _ => (0 : EReal))
    (fun t j => (∑ r : Fin 384, E m c t r (j 1) * E m c t r (j 1)) * c2048)
    (fun t h j => by
      obtain ⟨u, l, rfl⟩ : ∃ (u : Fin 1) (l : Fin 1024), j = ix2 u l := ⟨j 0, j 1, eq_ix2 j⟩
      obtain rfl : u = 0 := Subsingleton.elim _ _
      rw [outsAt0_A m c t h]
      frame_out
      refine (pay11 _ _ _ _ _ l).trans ?_
      rw [pay2 l]
      rfl)
    (fun t h j => by
      obtain ⟨u, l, rfl⟩ : ∃ (u : Fin 1) (l : Fin 1024), j = ix2 u l := ⟨j 0, j 1, eq_ix2 j⟩
      obtain rfl : u = 0 := Subsingleton.elim _ _
      rw [outsAt0_B m c t h]
      frame_out
      exact pay11 _ _ _ _ _ l)
    (le_of_eq N_0) t0_10 rfl j, zero_add]
  obtain ⟨u, l, rfl⟩ : ∃ (u : Fin 1) (l : Fin 1024), j = ix2 u l := ⟨j 0, j 1, eq_ix2 j⟩
  obtain rfl : u = 0 := Subsingleton.elim _ _
  refine (Finset.sum_congr rfl fun t _ => lossT m c hf t l).trans ?_
  refine (sum_blocks N_0 (behind fun j => e m c j l * e m c j l * c2048) fun t r hl => rfl).trans (Eq.trans ?_ (congrArg _ (show ix2 0 l = _ by blk_ext [idx t0_10])))
  rw [sum_behind, loss_sum fun j => hf.e j l]
  exact (v64 _ _ _ _ _ l).symm

theorem fin10 (hf : Fine m c) : (dats m 0 c).arrAt 10 cfg0.N = val_main_v65 (F := Ideal) (h m c) (a m c) (g m c) (w m c) (tg m c) := by
  refine (dats m 0 c).arrAt_eq_of_after_last 10 t0_10 (by decide +kernel) _ fun j => ?_
  blk_simp
  rw [after0_10, Pipeline.eq_sum_fin_of_reset_step_apply_last (fun n h => (outsAt0 m c n h).2.2.2) 11 (fun _ => (0 : EReal))
    (fun t j => ∑ r : Fin 384, DG m c t (ix2 r (j 1)))
    (fun t h j => by
      obtain ⟨u, l, rfl⟩ : ∃ (u : Fin 1) (l : Fin 1024), j = ix2 u l := ⟨j 0, j 1, eq_ix2 j⟩
      obtain rfl : u = 0 := Subsingleton.elim _ _
      rw [outsAt0_A m c t h]
      frame_out
      refine (pay1 _ _ l).trans ?_
      rw [pay3 l]
      rfl)
    (fun t h j => by
      obtain ⟨u, l, rfl⟩ : ∃ (u : Fin 1) (l : Fin 1024), j = ix2 u l := ⟨j 0, j 1, eq_ix2 j⟩
      obtain rfl : u = 0 := Subsingleton.elim _ _
      rw [outsAt0_B m c t h]
      frame_out
      exact pay1 _ _ l)
    (le_of_eq N_0) t0_10 rfl j, zero_add]
  obtain ⟨u, l, rfl⟩ : ∃ (u : Fin 1) (l : Fin 1024), j = ix2 u l := ⟨j 0, j 1, eq_ix2 j⟩
  obtain rfl : u = 0 := Subsingleton.elim _ _
  refine (sum_blocks N_0 _ fun t r hl => dg m c hf t r l).trans (Eq.trans ?_ (congrArg _ (show ix2 0 l = _ by blk_ext [idx t0_10])))
  exact (v65 _ _ _ _ _ l).symm

end Cert.FfnDownIdeal.Val
-- ==== Proof.DownClaim.lean ====
/- The claims about the kernel of the down projection and the loss. -/
module

public import proofs.«01_k».proof.Defs
public import proofs.«01_k».proof.Proof.Finite
public import proofs.«01_k».proof.Proof.DownValue
public import proofs.«01_k».proof.Proof.Gen.FfnDown.Frame
public import proofs.«01_k».proof.Proof.Gen.FfnDownIdeal.Value
public import proofs.«01_k».proof.Proof.Gen.FfnDownRefIdeal.Run
public import proofs.«01_k».proof.Proof.Gen.FfnDownRefIdeal.Read
public import proofs.«01_k».proof.Proof.Gen.Pre_down_finite

@[expose] public section

noncomputable section

namespace Cert.Proof.FfnDown
open Idealize.ShloMosaic Idealize.SL.Sem Cert.Rows

/-- The precondition makes every entry of the arguments a real number. -/
theorem fine (m : (ℓ : Loc Cert.FfnDownIdeal.nD Cert.FfnDownIdeal.τ Cert.FfnDownIdeal.sig) → Buf (Elt Ideal) ℓ)
    (hp : Cert.Pre_FfnDownIdeal_down_finite m) (c : Dev Cert.FfnDownIdeal.nD) : Cert.FfnDownIdeal.Val.Fine m c := by
  obtain ⟨e0, e1, e2, e3, e4⟩ := hp c
  exact ⟨finite_arg _ e0, finite_arg _ e1, finite_arg _ e2, finite_arg _ e3, finite_arg _ e4⟩

theorem q1 : Cert.quiescent_FfnDown := fun m ρ _ => Cert.FfnDown.Gen.frame m ρ
theorem q2 : Cert.quiescent_FfnDownIdeal := fun m ρ _ => Cert.FfnDownIdeal.Gen.frame m ρ
theorem q3 : Cert.quiescent_FfnDownIdeal_pre_down_finite := fun m ρ _ => Cert.FfnDownIdeal.Gen.frame m ρ
theorem q4 : Cert.quiescent_FfnDownRefIdeal := by
  intro m g _
  hlo_run
  · simp
  · exact sem_eq_zero_of_no_sems (sig := Cert.FfnDownRefIdeal.sig) (by decide) _
theorem q5 : Cert.quiescent_FfnDownRefIdeal_pre_down_finite := by
  intro m g _
  hlo_run
  · simp
  · exact sem_eq_zero_of_no_sems (sig := Cert.FfnDownRefIdeal.sig) (by decide) _
theorem q6 : Cert.preserves_FfnDown_FfnDownIdeal := trivial

set_option maxHeartbeats 1000000 in
/-- The two programs leave the same four arrays. -/
theorem algebraic : Cert.algebraic_FfnDownIdeal_FfnDownRefIdeal_pre_down_finite := by
  pair_intro
  · run_from Cert.FfnDownIdeal.Value.run_blocks m g
  · refine (θ_run _ _ _).mono (fun r h c => ?_) (Cert.FfnDownRefIdeal.Value.run m' g')
    obtain ⟨a0, a1, a2, a3, a4⟩ := hagree c
    refine ⟨(h c).1.trans ((Cert.FfnDownRefIdeal.Read.val_main_v61_eq _ _ _ _ _).trans ?_), (h c).2.1.trans ((Cert.FfnDownRefIdeal.Read.val_main_v63_eq m' c).trans ?_),
      (h c).2.2.1.trans ((Cert.FfnDownRefIdeal.Read.val_main_v64_eq _ _ _ _ _).trans ?_),
      (h c).2.2.2.1.trans ((Cert.FfnDownRefIdeal.Read.val_main_v65_eq _ _ _ _ _).trans ?_), (h c).2.2.2.2⟩
    · rw [a0, a1, a2, a3, a4]
      exact (Cert.FfnDownIdeal.Val.fin7 m c (fine m hpre c)).symm
    · rw [a0, a1, a2, a3, a4]
      exact (Cert.FfnDownIdeal.Val.fin8 m c (fine m hpre c)).symm
    · rw [a0, a1, a2, a3, a4]
      exact (Cert.FfnDownIdeal.Val.fin9 m c (fine m hpre c)).symm
    · rw [a0, a1, a2, a3, a4]
      exact (Cert.FfnDownIdeal.Val.fin10 m c (fine m hpre c)).symm

end Cert.Proof.FfnDown
-- ==== Proof.AttnBwdFrame.lean ====
/- the backward attention's idealized program -/
module

public import proofs.«01_k».proof.Proof.Gen.AttnBwdIdeal.Frame.RunB
public import Idealize.ShloMosaic.Lib.Claim

@[expose] public section

set_option maxRecDepth 16384

noncomputable section

namespace Cert.AttnBwdIdeal.Hand
open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

/-- What the body leaves at a point: the two outputs' buffers and the four carried ones. -/
structure Left (F : FTy → Type) where
  dqkv : Vec F S128x1280 .bf16
  dsink : Vec F S8x128 .f32
  carK : Vec F S128x128 .f32
  carV : Vec F S128x128 .f32
  metK : Vec F S128x128 .f32
  metV : Vec F S128x128 .f32

/-- The body's run at the first point, where it clears the accumulators. -/
abbrev runA (c : Dev nD) (t : Fin cfg0.N) (h0 : t.val % 33 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t)
    scM0_0 (Memref.isWhole_whole _) scM0_1 (Memref.isWhole_whole _) scM0_2 (Memref.isWhole_whole _) scM0_3 (Memref.isWhole_whole _) ((hcond0_0 t).mpr h0)
    (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- The body's run at a later point, over what the point before left. -/
abbrev runB (c : Dev nD) (t : Fin cfg0.N) (h0 : ¬t.val % 33 = 0) (p : Left F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t)
    scM0_0 (Memref.isWhole_whole _) scM0_1 (Memref.isWhole_whole _) scM0_2 (Memref.isWhole_whole _) scM0_3 (Memref.isWhole_whole _) (fun h => h0 ((hcond0_0 t).mp h))
    (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) p.dsink p.carK p.carV p.metK p.metV

def stepA (c : Dev nD) (t : Fin cfg0.N) (h0 : t.val % 33 = 0) : Left F where
  dqkv := VO0_13.read (Elt F) (VO0_13.writes (Elt F) VO0_13.junk (runA m c t h0).1)
  dsink := VO0_14.read (Elt F) (VO0_14.writes (Elt F) VO0_14.junk (runA m c t h0).2.1)
  carK := VS0_0.read (Elt F) (VS0_0.writes (Elt F) VS0_0.junk (runA m c t h0).2.2.1)
  carV := VS0_1.read (Elt F) (VS0_1.writes (Elt F) VS0_1.junk (runA m c t h0).2.2.2.1)
  metK := VS0_2.read (Elt F) (VS0_2.writes (Elt F) VS0_2.junk (runA m c t h0).2.2.2.2.1)
  metV := VS0_3.read (Elt F) (VS0_3.writes (Elt F) VS0_3.junk (runA m c t h0).2.2.2.2.2.1)

def stepB (c : Dev nD) (t : Fin cfg0.N) (h0 : ¬t.val % 33 = 0) (p : Left F) : Left F where
  dqkv := VO0_13.read (Elt F) (VO0_13.writes (Elt F) VO0_13.junk (runB m c t h0 p).1)
  dsink := (ms0_14 t).view.read (Elt F) ((ms0_14 t).view.writes (Elt F) ((hs0_14 t).unread p.dsink) (runB m c t h0 p).2.1)
  carK := VS0_0.read (Elt F) (VS0_0.writes (Elt F) VS0_0.junk (runB m c t h0 p).2.2.1)
  carV := VS0_1.read (Elt F) (VS0_1.writes (Elt F) VS0_1.junk (runB m c t h0 p).2.2.2.1)
  metK := VS0_2.read (Elt F) (VS0_2.writes (Elt F) VS0_2.junk (runB m c t h0 p).2.2.2.2.1)
  metV := VS0_3.read (Elt F) (VS0_3.writes (Elt F) VS0_3.junk (runB m c t h0 p).2.2.2.2.2.1)

/-- The stores of the first point cover what they leave. -/
theorem covA (c : Dev nD) (t : Fin cfg0.N) (h0 : t.val % 33 = 0) :
    (∀ y, ∃ pc ∈ (runA m c t h0).1, y ∈ pc.1.set) ∧ (∀ y, ∃ pc ∈ (runA m c t h0).2.2.1, y ∈ pc.1.set)
      ∧ (∀ y, ∃ pc ∈ (runA m c t h0).2.2.2.1, y ∈ pc.1.set) ∧ (∀ y, ∃ pc ∈ (runA m c t h0).2.2.2.2.1, y ∈ pc.1.set)
      ∧ (∀ y, ∃ pc ∈ (runA m c t h0).2.2.2.2.2.1, y ∈ pc.1.set) ∧ (∀ y, ∃ pc ∈ (runA m c t h0).2.1, y ∈ pc.1.set) := by
  refine ⟨View.cover_of_tiledL _ S128x128.size ?_, View.cover_of_tiledL _ S128x128.size ?_, View.cover_of_tiledL _ S128x128.size ?_,
    View.cover_of_tiledL _ S128x128.size ?_, View.cover_of_tiledL _ S128x128.size ?_, View.cover_of_tiledBy _ ![1, 128] ?_⟩ <;> sl_kernel_rfl

/-- And so do those of a later point. -/
theorem covB (c : Dev nD) (t : Fin cfg0.N) (h0 : ¬t.val % 33 = 0) (p : Left F) :
    (∀ y, ∃ pc ∈ (runB m c t h0 p).1, y ∈ pc.1.set) ∧ (∀ y, ∃ pc ∈ (runB m c t h0 p).2.2.1, y ∈ pc.1.set)
      ∧ (∀ y, ∃ pc ∈ (runB m c t h0 p).2.2.2.1, y ∈ pc.1.set) ∧ (∀ y, ∃ pc ∈ (runB m c t h0 p).2.2.2.2.1, y ∈ pc.1.set)
      ∧ (∀ y, ∃ pc ∈ (runB m c t h0 p).2.2.2.2.2.1, y ∈ pc.1.set) := by
  refine ⟨View.cover_of_tiledL _ S128x128.size ?_, View.cover_of_tiledL _ S128x128.size ?_, View.cover_of_tiledL _ S128x128.size ?_,
    View.cover_of_tiledL _ S128x128.size ?_, View.cover_of_tiledL _ S128x128.size ?_⟩ <;> sl_kernel_rfl

/-- What the buffers hold after the body at position `n`. -/
def left (c : Dev nD) : (n : ℕ) → n < cfg0.N → Left F
  | 0, hn => stepA m c ⟨0, hn⟩ rfl
  | n + 1, hn =>
    if h0 : (n + 1) % 33 = 0 then stepA m c ⟨n + 1, hn⟩ h0
    else stepB m c ⟨n + 1, hn⟩ h0 (left c n (Nat.lt_of_succ_lt hn))

/-- What the point before left. -/
abbrev before (c : Dev nD) (t : Fin cfg0.N) : Left F := left m c (t.val - 1) (Nat.lt_of_le_of_lt (Nat.sub_le _ _) t.isLt)

theorem left_A (c : Dev nD) (t : Fin cfg0.N) (h0 : t.val % 33 = 0) : left m c t.val t.isLt = stepA m c t h0 := by
  obtain ⟨n, hn⟩ := t
  cases n with
  | zero => unfold left; rfl
  | succ n => rw [left]; exact dif_pos h0

theorem left_B (c : Dev nD) (t : Fin cfg0.N) (h0 : ¬t.val % 33 = 0) : left m c t.val t.isLt = stepB m c t h0 (before m c t) := by
  obtain ⟨n, hn⟩ := t
  cases n with
  | zero => exact absurd (Nat.zero_mod _) h0
  | succ n => rw [left]; exact dif_neg h0

/-- The invariant before position `n`: after the first point, the carried buffers at what the point before left. -/
def PhiS (c : Dev nD) : (n : ℕ) → n ≤ cfg0.N → sProp 𝕄
  | 0, _ => Pipeline.ΦA spec0 c
  | n + 1, hn => iprop(iprop(owns (c : Thread nD τ) scM0_0 fullShare (left m c n hn).carK ∗ owns (c : Thread nD τ) scM0_1 fullShare (left m c n hn).carV
      ∗ owns (c : Thread nD τ) scM0_2 fullShare (left m c n hn).metK ∗ owns (c : Thread nD τ) scM0_3 fullShare (left m c n hn).metV) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn
    = iprop(iprop(owns (c : Thread nD τ) scM0_0 fullShare (left m c n hn).carK ∗ owns (c : Thread nD τ) scM0_1 fullShare (left m c n hn).carV
      ∗ owns (c : Thread nD τ) scM0_2 fullShare (left m c n hn).metK ∗ owns (c : Thread nD τ) scM0_3 fullShare (left m c n hn).metV) ∗ (∃ r, prngReg c r)) := rfl

theorem PhiS_pos (c : Dev nD) (n : ℕ) (h : n ≤ cfg0.N) (hz : n ≠ 0) :
    PhiS m c n h = PhiS m c (n - 1 + 1) (by omega) := by
  cases n with
  | zero => exact absurd rfl hz
  | succ n => rfl

/-- The pipeline's proof data: an input's buffer at its block, an output's at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (left m c t.val t.isLt).dqkv
    | ⟨14, _⟩ => (left m c t.val t.isLt).dsink
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_at (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = (left m c t.val t.isLt).dqkv := by dsimp only [dats]
theorem after_14 (c : Dev nD) (t : Fin cfg0.N) : (dats m 0 c).after 14 t = (left m c t.val t.isLt).dsink := by dsimp only [dats]

/-- The sinks' buffer is not written back before the last point, so it holds what the point before left. -/
theorem before_14 (c : Dev nD) (t : Fin cfg0.N) (h0 : ¬t.val % 33 = 0) (d) : (dats m 0 c).before 14 t d = (before m c t).dsink := by
  have hN : t.val < 33 := lt_of_lt_of_eq t.isLt (show cfg0.N = 33 from N_0)
  rw [Dat.before_out_kept _ 14 rfl t (by omega) (Bool.eq_false_iff.mpr fun h => by have := (flush0_14 _).mp h; dsimp only at this; omega)
    (fun _ => rfl) (fun _ _ => rfl)]
  dsimp only [dats]

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 12800000 in
/-- The body's triple at every point. -/
theorem sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after_0 m c), before0_1_of m (dats m 0 c) (A_eq m c 1) (after_1 m c), before0_2_of m (dats m 0 c) (A_eq m c 2) (after_2 m c), before0_3_of m (dats m 0 c) (A_eq m c 3) (after_3 m c), before0_4_of m (dats m 0 c) (A_eq m c 4) (after_4 m c), before0_5_of m (dats m 0 c) (A_eq m c 5) (after_5 m c), before0_6_of m (dats m 0 c) (A_eq m c 6) (after_6 m c), before0_7_of m (dats m 0 c) (A_eq m c 7) (after_7 m c), before0_8_of m (dats m 0 c) (A_eq m c 8) (after_8 m c), before0_9_of m (dats m 0 c) (A_eq m c 9) (after_9 m c), before0_10_of m (dats m 0 c) (A_eq m c 10) (after_10 m c), before0_11_of m (dats m 0 c) (A_eq m c 11) (after_11 m c), before0_12_of m (dats m 0 c) (A_eq m c 12) (after_12 m c)]
  rw [show (dats m 0 c).owesAt () t.succ = (dats m 0 c).owesAt () t.castSucc from rfl, Phi_at,
    after_0, after_1, after_2, after_3, after_4, after_5, after_6, after_7, after_8, after_9, after_10, after_11, after_12, after_13, after_14]
  rw [show (dats m 0 c).Φ t.succ = PhiS m c (t.val + 1) t.isLt from rfl, PhiS_succ]
  have hN : t.val < 33 := lt_of_lt_of_eq t.isLt (show cfg0.N = 33 from N_0)
  by_cases h0 : t.val % 33 = 0
  · rw [PhiS_zero m c _ _ (by omega), PhiA0_eq, left_A m c t h0]
    unfold stepA; dsimp only
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((runA m c t h0).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [HS0]; · iexact HS0
    isplitl [HS1]; · iexact HS1
    isplitl [HS2]; · iexact HS2
    isplitl [HS3]; · iexact HS3
    iintro ⟨H0, H1, H2, H3, H4, H5, H6, H7, H8, H9, H10, H11, H12, ⟨%e13, H13⟩, ⟨%e14, H14⟩, ⟨%es0, HS0⟩, ⟨%es1, HS1⟩, ⟨%es2, HS2⟩, ⟨%es3, HS3⟩⟩
    isplitl [HS0 HS1 HS2 HS3 Hg]
    · isplitl [HS0 HS1 HS2 HS3]
      · isplitl [HS0]
        · unfold owns; iexists _; isplitr
          swap; · iexact HS0
          ipureintro; exact View.read_writes_of_cover _ _ _ _ _ (covA m c t h0).2.1
        isplitl [HS1]
        · unfold owns; iexists _; isplitr
          swap; · iexact HS1
          ipureintro; exact View.read_writes_of_cover _ _ _ _ _ (covA m c t h0).2.2.1
        isplitl [HS2]
        · unfold owns; iexists _; isplitr
          swap; · iexact HS2
          ipureintro; exact View.read_writes_of_cover _ _ _ _ _ (covA m c t h0).2.2.2.1
        unfold owns; iexists _; isplitr
        swap; · iexact HS3
        ipureintro; exact View.read_writes_of_cover _ _ _ _ _ (covA m c t h0).2.2.2.2.1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact View.read_writes_of_cover _ _ _ _ _ (covA m c t h0).1
    unfold owns; iexists _; isplitr
    swap; · iexact H14
    ipureintro; exact View.read_writes_of_cover _ _ _ _ _ (covA m c t h0).2.2.2.2.2
  · rw [PhiS_pos m c _ _ (by omega), PhiS_succ, left_B m c t h0]
    simp only [before_14 m c t h0]
    unfold stepB; dsimp only
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((runB m c t h0 (before m c t)).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexact H14
    isplitl [HS0]; · iexact HS0
    isplitl [HS1]; · iexact HS1
    isplitl [HS2]; · iexact HS2
    isplitl [HS3]; · iexact HS3
    iintro ⟨H0, H1, H2, H3, H4, H5, H6, H7, H8, H9, H10, H11, H12, ⟨%e13, H13⟩, H14, ⟨%es0, HS0⟩, ⟨%es1, HS1⟩, ⟨%es2, HS2⟩, ⟨%es3, HS3⟩⟩
    isplitl [HS0 HS1 HS2 HS3 Hg]
    · isplitl [HS0 HS1 HS2 HS3]
      · isplitl [HS0]
        · unfold owns; iexists _; isplitr
          swap; · iexact HS0
          ipureintro; exact View.read_writes_of_cover _ _ _ _ _ (covB m c t h0 _).2.1
        isplitl [HS1]
        · unfold owns; iexists _; isplitr
          swap; · iexact HS1
          ipureintro; exact View.read_writes_of_cover _ _ _ _ _ (covB m c t h0 _).2.2.1
        isplitl [HS2]
        · unfold owns; iexists _; isplitr
          swap; · iexact HS2
          ipureintro; exact View.read_writes_of_cover _ _ _ _ _ (covB m c t h0 _).2.2.2.1
        unfold owns; iexists _; isplitr
        swap; · iexact HS3
        ipureintro; exact View.read_writes_of_cover _ _ _ _ _ (covB m c t h0 _).2.2.2.2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact View.read_writes_of_cover _ _ _ _ _ (covB m c t h0 _).1
    unfold owns; iexists _; isplitr
    swap; · iexact H14
    ipureintro; rfl

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound m c t) rfl .rfl fun _ => .rfl

theorem enters (c : Dev nD) : Pipeline.ΦA spec0 c ⊢ (dats m 0 c).Φ 0 := by
  rw [show (dats m 0 c).Φ 0 = PhiS m c 0 (Nat.zero_le _) from rfl, PhiS_zero m c 0 _ rfl]

/-- After the last point the carried buffers' contents are forgotten. -/
theorem leaves (c : Dev nD) : (dats m 0 c).Φ (Fin.last cfg0.N) ⊢ Pipeline.ΦA spec0 c := by
  have hN : cfg0.N = 33 := N_0
  rw [show (dats m 0 c).Φ (Fin.last cfg0.N) = PhiS m c cfg0.N le_rfl from rfl, PhiS_pos m c _ _ (by omega), PhiS_succ, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

set_option backward.isDefEq.respectTransparency.types false in
theorem run_zero : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enters m) (hout := leaves m)

theorem run : θ_run defs (onTc (τ := τ) (main (F := F))) (s₀ m ρ) (Pipeline.FramePost cfgs (dats m) 0 (V m)) :=
  (θ_run defs _ _).mono (fun _ h => h.1) (run_zero m ρ)

/-- The program ends, its arguments as they were and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_zero m ρ))

/-- The run with the two results named. -/
theorem run_named : θ_run defs (onTc (τ := τ) (main (F := F))) ⟨m, fun _ => 0, ρ⟩ fun r => ∀ c : Dev nD,
      r.2.mem ((c : Thread nD τ).loc main_v184_0) = (dats m 0 c).arrAt 13 cfg0.N
      ∧ r.2.mem ((c : Thread nD τ).loc main_v184_1) = (dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 13, (h c).1 14,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run m ρ)

end Cert.AttnBwdIdeal.Hand

end
-- ==== Proof.AttnBwdBlock.lean ====
/- What the kernel's body makes of one block of queries: its inputs as one structure, and the block's
   pieces as the vector operations the body runs on them, written once for both key heads and all
   sixteen heads. -/
module

public import proofs.«01_k».proof.Proof.AttnBwdFrame
public import Idealize.ShloMosaic.Lib.Pipeline.ValueKit
public import Idealize.ShloMosaic.Lib.Claim

@[expose] public section

set_option maxRecDepth 16384

noncomputable section

namespace Cert.AttnBwdIdeal.Hand
open Cert.AttnBwdIdeal Cert.AttnBwdIdeal.Gen
open Idealize.ShloMosaic Idealize.ShloMosaic.TcCoe Idealize.ShloMosaic.Tactic
open Idealize.ShloMosaic.ValueIdx

/-- What the body reads at a point. -/
structure In where
  n : BitVec 32
  s : Vec Ideal S16 .f32
  q : Vec Ideal S128x1024 .bf16
  km : Vec Ideal S128x128 .bf16
  kp : Vec Ideal S128x128 .bf16
  kc : Vec Ideal S128x128 .bf16
  vm : Vec Ideal S128x128 .bf16
  vp : Vec Ideal S128x128 .bf16
  vc : Vec Ideal S128x128 .bf16
  ct : Vec Ideal S128x1024 .bf16
  lse : Vec Ideal S16x128 .f32
  c : Vec Ideal S128x128 .f32
  sa : Vec Ideal S128x128 .f32
  sb : Vec Ideal S128x128 .f32

theorem inb_tile (p : Fin 8) : ∀ a, (![0, 128 * p.val] : Fin 2 → ℕ) a + S128x128.size a ≤ S128x1024.size a := by
  revert p; decide
theorem inb_row (h : Fin 16) : ∀ a, (![h.val, 0] : Fin 2 → ℕ) a + S1x128.size a ≤ S16x128.size a := by
  revert h; decide
theorem inb_word (h : Fin 16) : ∀ a, (![h.val] : Fin 1 → ℕ) a + S1.size a ≤ S16.size a := by
  revert h; decide
theorem slices_head (j : Fin 8) : S384x1024.Slices ![0, 128 * j.val] S384x128 := by
  revert j; decide
theorem slices_dq (j : Fin 8) : S128x1024.Slices ![0, 128 * j.val] S128x128 := by
  revert j; decide

/-- Head `8 g + j`, and the tile of 128 columns it lies in. -/
abbrev hd (g : Fin 2) (j : Fin 8) : Fin 16 := ⟨8 * g.val + j.val, by omega⟩
abbrev tl (g : Fin 2) (j : Fin 8) : Fin 8 := ⟨4 * g.val + j.val / 2, by omega⟩

namespace In
variable (I : In)

def qTile (p : Fin 8) : Vec Ideal S128x128 .bf16 := View.ld I.q (Rect.unit ![0, 128 * p.val] S128x128.size (inb_tile p))
def cTile (p : Fin 8) : Vec Ideal S128x128 .bf16 := View.ld I.ct (Rect.unit ![0, 128 * p.val] S128x128.size (inb_tile p))
def lRow (h : Fin 16) : Vec Ideal S1x128 .f32 := View.ld I.lse (Rect.unit ![h.val, 0] S1x128.size (inb_row h))
def sWord (h : Fin 16) : Elt Ideal .f32 := View.ld I.s (Rect.unit ![h.val] S1.size (inb_word h)) (Shape.Idx.first (Nat.one_pos))

/-- Which keys a query attends to. -/
def mask : IVec S384x128 1 := k0_pay23 (iota Kind.tc S384x128 32 [0] iota_S384x128_d0_w32) (k0_pay20 I.n) (k0_pay21 I.n) (k0_pay22 I.n)

/-- The keys and the values of key head `g`, in both halves of the lanes. -/
def kd (g : Fin 2) : FVec Ideal S384x128 .bf16 := if g.val = 0 then k0_pay9 I.km I.kp I.kc else k0_pay10 I.km I.kp I.kc
def vd (g : Fin 2) : FVec Ideal S384x128 .bf16 := if g.val = 0 then k0_pay14 I.vm I.vp I.vc else k0_pay15 (k0_pay13 I.vm I.vp I.vc)
def kt (g : Fin 2) : FVec Ideal S128x384 .bf16 := if g.val = 0 then k0_pay18 k0_pay6 I.km I.kp I.kc else k0_pay19 k0_pay6 I.km I.kp I.kc

/-- Head `8 g + j`'s queries and cotangents, in their half of the lanes, zeros in the other. -/
def qh (g : Fin 2) (j : Fin 8) : FVec Ideal S128x128 .bf16 :=
  if j.val % 2 = 0 then k0_pay30 k0_pay6 (I.qTile (tl g j)) else k0_pay31 k0_pay6 (I.qTile (tl g j))
def ch (g : Fin 2) (j : Fin 8) : FVec Ideal S128x128 .bf16 :=
  if j.val % 2 = 0 then k0_pay32 k0_pay6 (I.cTile (tl g j)) else k0_pay33 k0_pay6 (I.cTile (tl g j))

def qs (g : Fin 2) : FVec Ideal S1024x128 .bf16 :=
  concatenate S1024x128 0 (List.ofFn fun j : Fin 8 => ⟨S128x128, I.qh g j⟩) concatenates_S128x128_S128x128_S128x128_S128x128_S128x128_S128x128_S128x128_S128x128_S1024x128_d0
def cs (g : Fin 2) : FVec Ideal S1024x128 .bf16 :=
  concatenate S1024x128 0 (List.ofFn fun j : Fin 8 => ⟨S128x128, I.ch g j⟩) concatenates_S128x128_S128x128_S128x128_S128x128_S128x128_S128x128_S128x128_S128x128_S1024x128_d0

def st (g : Fin 2) : FVec Ideal S384x1024 .f32 :=
  matmul dot_S384x128_S1024x128_S384x1024_1_1_0_0_n_n none (I.kd g) (I.qs g) (constant S384x1024 .f32 0x00000000#32)
def dpt (g : Fin 2) : FVec Ideal S384x1024 .f32 :=
  matmul dot_S384x128_S1024x128_S384x1024_1_1_0_0_n_n none (I.vd g) (I.cs g) (constant S384x1024 .f32 0x00000000#32)

/-- Head `8 g + j`'s probabilities. -/
def p (g : Fin 2) (j : Fin 8) : FVec Ideal S384x128 .f32 :=
  select I.mask (exp (subf (extractStridedSlice S384x128 ![0, 128 * j.val] (I.st g) (slices_head j))
    (broadcastTo S384x128 (shapeCast S1x128 (I.lRow (hd g j)) shapeCasts_S1x128_S1x128) broadcasts_S1x128_S384x128)))
    (broadcast S384x128 (Scalar.ofBits .f32 0x00000000#32))
def dp (g : Fin 2) (j : Fin 8) : FVec Ideal S384x128 .f32 := extractStridedSlice S384x128 ![0, 128 * j.val] (I.dpt g) (slices_head j)
def delta (g : Fin 2) (j : Fin 8) : FVec Ideal S1x128 .f32 :=
  shapeCast S1x128 (multiReduction .add [0] S128 (mulf (I.p g j) (I.dp g j)) 0x00000000#32 reduces_S384x128_S128 (.inl rfl) rfl) shapeCasts_S128_S1x128
def ds (g : Fin 2) (j : Fin 8) : FVec Ideal S384x128 .bf16 :=
  truncf .bf16 (mulf (I.p g j) (subf (I.dp g j) (broadcastTo S384x128 (I.delta g j) broadcasts_S1x128_S384x128))) bitsLt_bf16_f32
def pc (g : Fin 2) (j : Fin 8) : FVec Ideal S384x128 .bf16 := truncf .bf16 (I.p g j) bitsLt_bf16_f32

def dsC (g : Fin 2) : FVec Ideal S384x1024 .bf16 :=
  concatenate S384x1024 1 (List.ofFn fun j : Fin 8 => ⟨S384x128, I.ds g j⟩) concatenates_S384x128_S384x128_S384x128_S384x128_S384x128_S384x128_S384x128_S384x128_S384x1024_d1
def pC (g : Fin 2) : FVec Ideal S384x1024 .bf16 :=
  concatenate S384x1024 1 (List.ofFn fun j : Fin 8 => ⟨S384x128, I.pc g j⟩) concatenates_S384x128_S384x128_S384x128_S384x128_S384x128_S384x128_S384x128_S384x128_S384x1024_d1

def dk (g : Fin 2) : FVec Ideal S384x128 .f32 :=
  matmul dot_S384x1024_S1024x128_S384x128_1_0_0_1_n_n none (I.dsC g) (I.qs g) (constant S384x128 .f32 0x00000000#32)
def dv (g : Fin 2) : FVec Ideal S384x128 .f32 :=
  matmul dot_S384x1024_S1024x128_S384x128_1_0_0_1_n_n none (I.pC g) (I.cs g) (constant S384x128 .f32 0x00000000#32)
def dqt (g : Fin 2) : FVec Ideal S128x1024 .f32 :=
  mulf (matmul dot_S128x384_S384x1024_S128x1024_1_0_0_1_n_n none (I.kt g) (I.dsC g) (constant S128x1024 .f32 0x00000000#32))
    (broadcast S128x1024 (Scalar.ofBits .f32 0x3E000000#32))

/-- The rotation carried back, in f32. -/
def rope (x : FVec Ideal S128x128 .f32) : FVec Ideal S128x128 .bf16 :=
  truncf .bf16 (addf (addf (mulf x (k0_pay24 I.c)) (dynamicRotate 1 8#32 none (mulf x (k0_pay25 I.sa)) rotates_S128x128_d1))
    (dynamicRotate 1 120#32 none (mulf x (k0_pay26 I.sb)) rotates_S128x128_d1)) bitsLt_bf16_f32

/-- One tile of two heads, from the transposed products. -/
def lanes (x y : FVec Ideal S128x128 .f32) : FVec Ideal S128x128 .f32 :=
  select (broadcastTo S128x128 (shapeCast S1x128 (k0_pay6) shapeCasts_S1x128_S1x128) broadcasts_S1x128_S128x128)
    (transpose S128x128 [1, 0] x transposes_S128x128_p1_0_S128x128) (transpose S128x128 [1, 0] y transposes_S128x128_p1_0_S128x128)
def dq (p : Fin 8) : FVec Ideal S128x128 .bf16 :=
  I.rope (lanes (extractStridedSlice S128x128 ![0, 128 * (2 * (p.val % 4))] (I.dqt ⟨p.val / 4, by omega⟩) (slices_dq ⟨2 * (p.val % 4), by omega⟩))
    (extractStridedSlice S128x128 ![0, 128 * (2 * (p.val % 4) + 1)] (I.dqt ⟨p.val / 4, by omega⟩) (slices_dq ⟨2 * (p.val % 4) + 1, by omega⟩)))

/-- Head `h`'s own sum for its sink, at its lane. -/
def sinkAdd (h : Fin 16) : FVec Ideal S1x128 .f32 :=
  select (cmpi .eq (iota Kind.tc S1x128 32 [1] iota_S1x128_d1_w32) (broadcast S1x128 (BitVec.ofNat 32 h.val)))
    (broadcast S1x128 (Scalar.subf (Scalar.ofBits .f32 0x00000000#32)
      (extractAt ![0, 0, 0] (shapeCast S1x1x1 (multiReduction .add [1, 2] S1
        (shapeCast S1x1x128 (mulf (exp (subf (broadcast S1x128 (I.sWord h)) (shapeCast S1x128 (I.lRow h) shapeCasts_S1x128_S1x128)))
          (I.delta ⟨h.val / 8, by omega⟩ ⟨h.val % 8, by omega⟩)) shapeCasts_S1x128_S1x1x128) 0x00000000#32 reduces_S1x1x128_S1 (.inl rfl) rfl) shapeCasts_S1_S1x1x1) inpos_S1x1x1_p0_0_0)))
    (broadcast S1x128 (Scalar.ofBits .f32 0x00000000#32))
def sinkUpTo : (h : ℕ) → h ≤ 16 → FVec Ideal S1x128 .f32
  | 0, _ => k0_pay27
  | h + 1, hh => addf (sinkUpTo h (Nat.le_of_succ_le hh)) (I.sinkAdd ⟨h, hh⟩)

/-- Both key heads' sums over the keys, in the columns' own layout. -/
def foldK : FVec Ideal S384x128 .f32 := k0_pay214 k0_pay6 (I.dk 0) (I.dk 1)
def foldV : FVec Ideal S384x128 .f32 := k0_pay215 k0_pay6 (I.dv 0) (I.dv 1)

end In

/-- The inputs at point `t`, as the body reads them. -/
def inp (m : (ℓ : Loc nD τ sig) → Buf (Elt Ideal) ℓ) (c : Dev nD) (t : Fin cfg0.N) : In where
  n := Scalar.subi 32#32 (BitVec.ofNat 32 (grid0.coords t 0).val)
  s := (ms0_0 t).view.read (Elt Ideal) ((hs0_0 t).unread (iblk m c 0 t))
  q := (ms0_1 t).view.read (Elt Ideal) ((hs0_1 t).unread (X0_1 m c t))
  km := (ms0_2 t).view.read (Elt Ideal) ((hs0_2 t).unread (iblk m c 2 t))
  kp := (ms0_3 t).view.read (Elt Ideal) ((hs0_3 t).unread (iblk m c 3 t))
  kc := (ms0_4 t).view.read (Elt Ideal) ((hs0_4 t).unread (iblk m c 4 t))
  vm := (ms0_5 t).view.read (Elt Ideal) ((hs0_5 t).unread (iblk m c 5 t))
  vp := (ms0_6 t).view.read (Elt Ideal) ((hs0_6 t).unread (iblk m c 6 t))
  vc := (ms0_7 t).view.read (Elt Ideal) ((hs0_7 t).unread (iblk m c 7 t))
  ct := (ms0_8 t).view.read (Elt Ideal) ((hs0_8 t).unread (iblk m c 8 t))
  lse := (ms0_9 t).view.read (Elt Ideal) ((hs0_9 t).unread (iblk m c 9 t))
  c := (ms0_10 t).view.read (Elt Ideal) ((hs0_10 t).unread (iblk m c 10 t))
  sa := (ms0_11 t).view.read (Elt Ideal) ((hs0_11 t).unread (iblk m c 11 t))
  sb := (ms0_12 t).view.read (Elt Ideal) ((hs0_12 t).unread (iblk m c 12 t))

section
variable (m : (ℓ : Loc nD τ sig) → Buf (Elt Ideal) ℓ) (c : Dev nD) (t : Fin cfg0.N)

/-- The whole 128 × 128 buffer, and the sinks' row of the 8 × 128 one. -/
abbrev whole128 : Rect S128x128 := Rect.unit ![0, 0] S128x128.size inb_S128x128_S128x128_0_0
abbrev whole8 : Rect S8x128 := Rect.unit ![0, 0] S8x128.size inb_S8x128_S8x128_0_0
abbrev row8 : Rect S8x128 := Rect.unit ![0, 0] S1x128.size inb_S8x128_S1x128_0_0

theorem inb_col (p : Fin 10) : ∀ a, (![0, 128 * p.val] : Fin 2 → ℕ) a + S128x128.size a ≤ S128x1280.size a := by
  revert p; decide

/-- What a point writes to the rows' block: the eight query tiles, the keys' and the values'. -/
def tiles (I : In) (car metK' : Vec Ideal S128x128 .f32) (carV metV' : Vec Ideal S128x128 .f32) :
    List (View.Piece (Elt Ideal) S128x1280 .bf16) :=
  [⟨Rect.unit ![0, 128 * 9] S128x128.size (inb_col 9), k0_pay220 I.n I.foldV carV metV'⟩,
   ⟨Rect.unit ![0, 128 * 8] S128x128.size (inb_col 8), k0_pay219 I.n (k0_pay24 I.c) (k0_pay25 I.sa) (k0_pay26 I.sb) I.foldK car metK'⟩,
   ⟨Rect.unit ![0, 128 * 7] S128x128.size (inb_col 7), I.dq 7⟩, ⟨Rect.unit ![0, 128 * 6] S128x128.size (inb_col 6), I.dq 6⟩,
   ⟨Rect.unit ![0, 128 * 5] S128x128.size (inb_col 5), I.dq 5⟩, ⟨Rect.unit ![0, 128 * 4] S128x128.size (inb_col 4), I.dq 4⟩,
   ⟨Rect.unit ![0, 128 * 3] S128x128.size (inb_col 3), I.dq 3⟩, ⟨Rect.unit ![0, 128 * 2] S128x128.size (inb_col 2), I.dq 2⟩,
   ⟨Rect.unit ![0, 128 * 1] S128x128.size (inb_col 1), I.dq 1⟩, ⟨Rect.unit ![0, 128 * 0] S128x128.size (inb_col 0), I.dq 0⟩]

/-- A carried buffer as a later point finds it. -/
abbrev carried (k : Memref sig .tc .vmem S128x128 .f32) (h : k.IsWhole) (x : Vec Ideal S128x128 .f32) : Vec Ideal S128x128 .f32 :=
  View.readAt (Elt Ideal) k.view whole128.toLoadRect (h.unread x)

end
theorem e9 (I : In) : (k0_pay9 (F := Ideal) I.km I.kp I.kc) = (I.kd 0) := by sl_kernel_rfl
theorem e10 (I : In) : (k0_pay10 (F := Ideal) I.km I.kp I.kc) = (I.kd 1) := by sl_kernel_rfl
theorem e14 (I : In) : (k0_pay14 (F := Ideal) I.vm I.vp I.vc) = (I.vd 0) := by sl_kernel_rfl
theorem e15 (I : In) : (k0_pay15 (F := Ideal) (k0_pay13 (F := Ideal) I.vm I.vp I.vc)) = (I.vd 1) := by sl_kernel_rfl
theorem e18 (I : In) : (k0_pay18 (F := Ideal) k0_pay6 I.km I.kp I.kc) = (I.kt 0) := by sl_kernel_rfl
theorem e19 (I : In) : (k0_pay19 (F := Ideal) k0_pay6 I.km I.kp I.kc) = (I.kt 1) := by sl_kernel_rfl
theorem e23 (I : In) : (k0_pay23 (iota Kind.tc S384x128 32 [0] iota_S384x128_d0_w32) (k0_pay20 I.n) (k0_pay21 I.n) (k0_pay22 I.n)) = I.mask := by sl_kernel_rfl
theorem e30 (I : In) : (k0_pay30 (F := Ideal) k0_pay6 (I.qTile 0)) = (I.qh 0 0) := by sl_kernel_rfl
theorem e31 (I : In) : (k0_pay31 (F := Ideal) k0_pay6 (I.qTile 0)) = (I.qh 0 1) := by sl_kernel_rfl
theorem e32 (I : In) : (k0_pay32 (F := Ideal) k0_pay6 (I.cTile 0)) = (I.ch 0 0) := by sl_kernel_rfl
theorem e33 (I : In) : (k0_pay33 (F := Ideal) k0_pay6 (I.cTile 0)) = (I.ch 0 1) := by sl_kernel_rfl
theorem e36 (I : In) : (k0_pay36 (F := Ideal) k0_pay6 (I.qTile 1)) = (I.qh 0 2) := by sl_kernel_rfl
theorem e37 (I : In) : (k0_pay37 (F := Ideal) k0_pay6 (I.qTile 1)) = (I.qh 0 3) := by sl_kernel_rfl
theorem e38 (I : In) : (k0_pay38 (F := Ideal) k0_pay6 (I.cTile 1)) = (I.ch 0 2) := by sl_kernel_rfl
theorem e39 (I : In) : (k0_pay39 (F := Ideal) k0_pay6 (I.cTile 1)) = (I.ch 0 3) := by sl_kernel_rfl
theorem e42 (I : In) : (k0_pay42 (F := Ideal) k0_pay6 (I.qTile 2)) = (I.qh 0 4) := by sl_kernel_rfl
theorem e43 (I : In) : (k0_pay43 (F := Ideal) k0_pay6 (I.qTile 2)) = (I.qh 0 5) := by sl_kernel_rfl
theorem e44 (I : In) : (k0_pay44 (F := Ideal) k0_pay6 (I.cTile 2)) = (I.ch 0 4) := by sl_kernel_rfl
theorem e46 (I : In) : (k0_pay46 (F := Ideal) k0_pay6 (I.qh 0 0) (I.qh 0 1) (I.qh 0 2) (I.qh 0 3) (I.qh 0 4) (I.qh 0 5) (I.qTile 3)) = (I.qs 0) := by sl_kernel_rfl
theorem e47 (I : In) : (k0_pay47 (F := Ideal) k0_pay6 (I.ch 0 0) (I.ch 0 1) (I.ch 0 2) (I.ch 0 3) (k0_pay41 (F := Ideal) (I.cTile 2)) (I.ch 0 4) (Scalar.ofBits (F := Ideal) .bf16 0x0000#16) (k0_pay45 k0_pay6) (I.cTile 3)) = (I.cs 0) := by sl_kernel_rfl
theorem e48 (I : In) : (k0_pay48 (F := Ideal) k0_pay6 (I.kd 0) (I.qh 0 0) (I.qh 0 1) (I.qh 0 2) (I.qh 0 3) (I.qh 0 4) (I.qh 0 5) (I.qTile 3)) = (I.st 0) := by sl_kernel_rfl
theorem e49 (I : In) : (k0_pay49 (F := Ideal) k0_pay6 (I.vd 0) (I.ch 0 0) (I.ch 0 1) (I.ch 0 2) (I.ch 0 3) (k0_pay41 (F := Ideal) (I.cTile 2)) (I.ch 0 4) (Scalar.ofBits (F := Ideal) .bf16 0x0000#16) (k0_pay45 k0_pay6) (I.cTile 3)) = (I.dpt 0) := by sl_kernel_rfl
theorem e51 (I : In) : (k0_pay51 (F := Ideal) k0_pay6 (I.kd 0) I.mask (I.qh 0 0) (I.qh 0 1) (I.qh 0 2) (I.qh 0 3) (I.qh 0 4) (I.qh 0 5) (I.qTile 3) (I.lRow 0)) = (I.p 0 0) := by sl_kernel_rfl
theorem e52 (I : In) : (k0_pay52 (F := Ideal) k0_pay6 (I.vd 0) (I.ch 0 0) (I.ch 0 1) (I.ch 0 2) (I.ch 0 3) (k0_pay41 (F := Ideal) (I.cTile 2)) (I.ch 0 4) (Scalar.ofBits (F := Ideal) .bf16 0x0000#16) (k0_pay45 k0_pay6) (I.cTile 3)) = (I.dp 0 0) := by sl_kernel_rfl
theorem e53 (I : In) : (k0_pay53 (F := Ideal) k0_pay6 (I.kd 0) (I.vd 0) I.mask (I.qh 0 0) (I.qh 0 1) (I.ch 0 0) (I.ch 0 1) (I.qh 0 2) (I.qh 0 3) (I.ch 0 2) (I.ch 0 3) (k0_pay41 (F := Ideal) (I.cTile 2)) (I.qh 0 4) (I.qh 0 5) (I.ch 0 4) (Scalar.ofBits (F := Ideal) .bf16 0x0000#16) (k0_pay45 k0_pay6) (I.qTile 3) (I.cTile 3) (I.lRow 0)) = (I.delta 0 0) := by sl_kernel_rfl
theorem e54 (I : In) : (k0_pay54 (F := Ideal) k0_pay6 (I.kd 0) I.mask (I.qh 0 0) (I.qh 0 1) (I.qh 0 2) (I.qh 0 3) (I.qh 0 4) (I.qh 0 5) (I.qTile 3) (I.lRow 0)) = (I.pc 0 0) := by sl_kernel_rfl
theorem e55 (I : In) : (k0_pay55 (F := Ideal) k0_pay6 (I.kd 0) (I.vd 0) I.mask (I.qh 0 0) (I.qh 0 1) (I.ch 0 0) (I.ch 0 1) (I.qh 0 2) (I.qh 0 3) (I.ch 0 2) (I.ch 0 3) (k0_pay41 (F := Ideal) (I.cTile 2)) (I.qh 0 4) (I.qh 0 5) (I.ch 0 4) (Scalar.ofBits (F := Ideal) .bf16 0x0000#16) (k0_pay45 k0_pay6) (I.qTile 3) (I.cTile 3) (I.lRow 0)) = (I.ds 0 0) := by sl_kernel_rfl
theorem e56 (I : In) : (k0_pay56 (F := Ideal) (iota Kind.tc S1x128 32 [1] iota_S1x128_d1_w32) (k0_pay27 (F := Ideal)) (k0_pay50 (F := Ideal) (I.lRow 0)) (I.delta 0 0) (I.sWord 0)) = (I.sinkUpTo 1 (by decide)) := by sl_kernel_rfl
theorem e58 (I : In) : (k0_pay58 (F := Ideal) I.mask (I.st 0) (I.lRow 1)) = (I.p 0 1) := by sl_kernel_rfl
theorem e59 (I : In) : (k0_pay59 (F := Ideal) (I.dpt 0)) = (I.dp 0 1) := by sl_kernel_rfl
theorem e60 (I : In) : (k0_pay60 (F := Ideal) I.mask (I.st 0) (I.dpt 0) (I.lRow 1)) = (I.delta 0 1) := by sl_kernel_rfl
theorem e61 (I : In) : (k0_pay61 (F := Ideal) I.mask (I.st 0) (I.lRow 1)) = (I.pc 0 1) := by sl_kernel_rfl
theorem e62 (I : In) : (k0_pay62 (F := Ideal) I.mask (I.st 0) (I.dpt 0) (I.lRow 1)) = (I.ds 0 1) := by sl_kernel_rfl
theorem e66 (I : In) : (k0_pay66 (F := Ideal) I.mask (I.st 0) (I.lRow 2)) = (I.p 0 2) := by sl_kernel_rfl
theorem e67 (I : In) : (k0_pay67 (F := Ideal) (I.dpt 0)) = (I.dp 0 2) := by sl_kernel_rfl
theorem e68 (I : In) : (k0_pay68 (F := Ideal) I.mask (I.st 0) (I.dpt 0) (I.lRow 2)) = (I.delta 0 2) := by sl_kernel_rfl
theorem e69 (I : In) : (k0_pay69 (F := Ideal) I.mask (I.st 0) (I.lRow 2)) = (I.pc 0 2) := by sl_kernel_rfl
theorem e70 (I : In) : (k0_pay70 (F := Ideal) I.mask (I.st 0) (I.dpt 0) (I.lRow 2)) = (I.ds 0 2) := by sl_kernel_rfl
theorem e71 (I : In) : (k0_pay71 (F := Ideal) (iota Kind.tc S1x128 32 [1] iota_S1x128_d1_w32) I.mask (I.st 0) (I.dpt 0) (I.sinkUpTo 1 (by decide)) (k0_pay63 (iota Kind.tc S1x128 32 [1] iota_S1x128_d1_w32)) (Scalar.ofBits (F := Ideal) .f32 0x00000000#32) (k0_pay64 (F := Ideal) I.mask (I.st 0) (I.dpt 0) (I.lRow 1) (I.sWord 1)) (I.lRow 2) (I.sWord 2)) = (I.sinkUpTo 3 (by decide)) := by sl_kernel_rfl
theorem e73 (I : In) : (k0_pay73 (F := Ideal) I.mask (I.st 0) (I.lRow 3)) = (I.p 0 3) := by sl_kernel_rfl
theorem e74 (I : In) : (k0_pay74 (F := Ideal) (I.dpt 0)) = (I.dp 0 3) := by sl_kernel_rfl
theorem e76 (I : In) : (k0_pay76 (F := Ideal) (k0_pay75 (F := Ideal) I.mask (I.st 0) (I.dpt 0) (I.lRow 3))) = (I.delta 0 3) := by sl_kernel_rfl
theorem e77 (I : In) : (k0_pay77 (F := Ideal) (I.p 0 3)) = (I.pc 0 3) := by sl_kernel_rfl
theorem e78 (I : In) : (k0_pay78 (F := Ideal) (I.p 0 3) (I.dp 0 3) (k0_pay75 (F := Ideal) I.mask (I.st 0) (I.dpt 0) (I.lRow 3))) = (I.ds 0 3) := by sl_kernel_rfl
theorem e79 (I : In) : (k0_pay79 (F := Ideal) (iota Kind.tc S1x128 32 [1] iota_S1x128_d1_w32) (I.sinkUpTo 3 (by decide)) (k0_pay72 (F := Ideal) (I.lRow 3)) (k0_pay75 (F := Ideal) I.mask (I.st 0) (I.dpt 0) (I.lRow 3)) (I.sWord 3)) = (I.sinkUpTo 4 (by decide)) := by sl_kernel_rfl
theorem e81 (I : In) : (k0_pay81 (F := Ideal) I.mask (I.st 0) (I.lRow 4)) = (I.p 0 4) := by sl_kernel_rfl
theorem e82 (I : In) : (k0_pay82 (F := Ideal) (I.dpt 0)) = (I.dp 0 4) := by sl_kernel_rfl
theorem e83 (I : In) : (k0_pay83 (F := Ideal) I.mask (I.st 0) (I.dpt 0) (I.lRow 4)) = (I.delta 0 4) := by sl_kernel_rfl
theorem e84 (I : In) : (k0_pay84 (F := Ideal) I.mask (I.st 0) (I.lRow 4)) = (I.pc 0 4) := by sl_kernel_rfl
theorem e85 (I : In) : (k0_pay85 (F := Ideal) I.mask (I.st 0) (I.dpt 0) (I.lRow 4)) = (I.ds 0 4) := by sl_kernel_rfl
theorem e89 (I : In) : (k0_pay89 (F := Ideal) I.mask (I.st 0) (I.lRow 5)) = (I.p 0 5) := by sl_kernel_rfl
theorem e90 (I : In) : (k0_pay90 (F := Ideal) (I.dpt 0)) = (I.dp 0 5) := by sl_kernel_rfl
theorem e91 (I : In) : (k0_pay91 (F := Ideal) I.mask (I.st 0) (I.dpt 0) (I.lRow 5)) = (I.delta 0 5) := by sl_kernel_rfl
theorem e92 (I : In) : (k0_pay92 (F := Ideal) I.mask (I.st 0) (I.lRow 5)) = (I.pc 0 5) := by sl_kernel_rfl
theorem e93 (I : In) : (k0_pay93 (F := Ideal) I.mask (I.st 0) (I.dpt 0) (I.lRow 5)) = (I.ds 0 5) := by sl_kernel_rfl
theorem e94 (I : In) : (k0_pay94 (F := Ideal) (iota Kind.tc S1x128 32 [1] iota_S1x128_d1_w32) I.mask (I.st 0) (I.dpt 0) (I.sinkUpTo 4 (by decide)) (k0_pay86 (iota Kind.tc S1x128 32 [1] iota_S1x128_d1_w32)) (k0_pay87 (F := Ideal) I.mask (I.st 0) (I.dpt 0) (I.lRow 4) (I.sWord 4)) (I.lRow 5) (I.sWord 5)) = (I.sinkUpTo 6 (by decide)) := by sl_kernel_rfl
theorem e97 (I : In) : (k0_pay97 (F := Ideal) I.mask (k0_pay96 (F := Ideal) (I.st 0) (I.lRow 6)) (Scalar.ofBits (F := Ideal) .f32 0x00000000#32)) = (I.p 0 6) := by sl_kernel_rfl
theorem e98 (I : In) : (k0_pay98 (F := Ideal) (I.dpt 0)) = (I.dp 0 6) := by sl_kernel_rfl
theorem e99 (I : In) : (k0_pay99 (F := Ideal) I.mask (I.dpt 0) (k0_pay96 (F := Ideal) (I.st 0) (I.lRow 6)) (Scalar.ofBits (F := Ideal) .f32 0x00000000#32)) = (I.delta 0 6) := by sl_kernel_rfl
theorem e100 (I : In) : (k0_pay100 (F := Ideal) I.mask (k0_pay96 (F := Ideal) (I.st 0) (I.lRow 6)) (Scalar.ofBits (F := Ideal) .f32 0x00000000#32)) = (I.pc 0 6) := by sl_kernel_rfl
theorem e101 (I : In) : (k0_pay101 (F := Ideal) I.mask (I.dpt 0) (k0_pay96 (F := Ideal) (I.st 0) (I.lRow 6)) (Scalar.ofBits (F := Ideal) .f32 0x00000000#32)) = (I.ds 0 6) := by sl_kernel_rfl
theorem e102 (I : In) : (k0_pay102 (F := Ideal) (iota Kind.tc S1x128 32 [1] iota_S1x128_d1_w32) I.mask (I.dpt 0) (I.sinkUpTo 6 (by decide)) (k0_pay95 (F := Ideal) (I.lRow 6)) (k0_pay96 (F := Ideal) (I.st 0) (I.lRow 6)) (Scalar.ofBits (F := Ideal) .f32 0x00000000#32) (I.sWord 6)) = (I.sinkUpTo 7 (by decide)) := by sl_kernel_rfl
theorem e104 (I : In) : (k0_pay104 (F := Ideal) I.mask (I.st 0) (I.lRow 7)) = (I.p 0 7) := by sl_kernel_rfl
theorem e105 (I : In) : (k0_pay105 (F := Ideal) (I.dpt 0)) = (I.dp 0 7) := by sl_kernel_rfl
theorem e106 (I : In) : (k0_pay106 (F := Ideal) I.mask (I.st 0) (I.dpt 0) (I.lRow 7)) = (I.delta 0 7) := by sl_kernel_rfl
theorem e107 (I : In) : (k0_pay107 (F := Ideal) I.mask (I.st 0) (I.lRow 7)) = (I.pc 0 7) := by sl_kernel_rfl
theorem e108 (I : In) : (k0_pay108 (F := Ideal) I.mask (I.st 0) (I.dpt 0) (I.lRow 7)) = (I.ds 0 7) := by sl_kernel_rfl
theorem e111 (I : In) : (k0_pay111 (F := Ideal) (I.sinkUpTo 7 (by decide)) (k0_pay103 (F := Ideal) (I.lRow 7)) (I.delta 0 7) (k0_pay109 (iota Kind.tc S1x128 32 [1] iota_S1x128_d1_w32)) (k0_pay110 (F := Ideal) (I.sWord 7))) = (I.sinkUpTo 8 (by decide)) := by sl_kernel_rfl
theorem e112 (I : In) : (k0_pay112 (F := Ideal) (I.ds 0 0) (I.ds 0 1) (I.ds 0 2) (I.ds 0 3) (I.ds 0 4) (I.ds 0 5) (I.ds 0 6) (I.ds 0 7)) = (I.dsC 0) := by sl_kernel_rfl
theorem e113 (I : In) : (k0_pay113 (F := Ideal) (I.qs 0) (I.ds 0 0) (I.ds 0 1) (I.ds 0 2) (I.ds 0 3) (I.ds 0 4) (I.ds 0 5) (I.ds 0 6) (I.ds 0 7)) = (I.dk 0) := by sl_kernel_rfl
theorem e114 (I : In) : (k0_pay114 (F := Ideal) (I.cs 0) (I.pc 0 0) (I.pc 0 1) (I.pc 0 2) (I.pc 0 3) (I.pc 0 4) (I.pc 0 5) (I.pc 0 6) (I.pc 0 7)) = (I.dv 0) := by sl_kernel_rfl
theorem e115 (I : In) : (k0_pay115 (F := Ideal) (I.kt 0) (I.ds 0 0) (I.ds 0 1) (I.ds 0 2) (I.ds 0 3) (I.ds 0 4) (I.ds 0 5) (I.ds 0 6) (I.ds 0 7)) = (I.dqt 0) := by sl_kernel_rfl
theorem e116 (I : In) : (k0_pay116 (F := Ideal) k0_pay6 (I.kt 0) (k0_pay24 I.c) (k0_pay25 I.sa) (k0_pay26 I.sb) (I.ds 0 0) (I.ds 0 1) (I.ds 0 2) (I.ds 0 3) (I.ds 0 4) (I.ds 0 5) (I.ds 0 6) (I.ds 0 7)) = (I.dq 0) := by sl_kernel_rfl
theorem e120 (I : In) : (k0_pay120 (F := Ideal) (k0_pay118 (F := Ideal) k0_pay6 (I.kt 0) (k0_pay24 I.c) (k0_pay25 I.sa) (I.ds 0 0) (I.ds 0 1) (I.ds 0 2) (I.ds 0 3) (I.ds 0 4) (I.ds 0 5) (I.ds 0 6) (I.ds 0 7)) (k0_pay119 (F := Ideal) k0_pay6 (I.kt 0) (k0_pay26 I.sb) (I.ds 0 0) (I.ds 0 1) (I.ds 0 2) (I.ds 0 3) (I.ds 0 4) (I.ds 0 5) (I.ds 0 6) (I.ds 0 7))) = (I.dq 1) := by sl_kernel_rfl
theorem e121 (I : In) : (k0_pay121 (F := Ideal) k0_pay6 (k0_pay24 I.c) (k0_pay25 I.sa) (k0_pay26 I.sb) (I.dqt 0)) = (I.dq 2) := by sl_kernel_rfl
theorem e122 (I : In) : (k0_pay122 (F := Ideal) k0_pay6 (k0_pay24 I.c) (k0_pay25 I.sa) (k0_pay26 I.sb) (I.dqt 0)) = (I.dq 3) := by sl_kernel_rfl
theorem e125 (I : In) : (k0_pay125 (F := Ideal) k0_pay6 (k0_pay123 (F := Ideal) (I.qTile 4))) = (I.qh 1 0) := by sl_kernel_rfl
theorem e126 (I : In) : (k0_pay126 (F := Ideal) k0_pay6 (k0_pay123 (F := Ideal) (I.qTile 4))) = (I.qh 1 1) := by sl_kernel_rfl
theorem e127 (I : In) : (k0_pay127 (F := Ideal) k0_pay6 (I.cTile 4)) = (I.ch 1 0) := by sl_kernel_rfl
theorem e128 (I : In) : (k0_pay128 (F := Ideal) k0_pay6 (I.cTile 4)) = (I.ch 1 1) := by sl_kernel_rfl
theorem e131 (I : In) : (k0_pay131 (F := Ideal) k0_pay6 (I.qTile 5)) = (I.qh 1 2) := by sl_kernel_rfl
theorem e132 (I : In) : (k0_pay132 (F := Ideal) k0_pay6 (I.qTile 5)) = (I.qh 1 3) := by sl_kernel_rfl
theorem e133 (I : In) : (k0_pay133 (F := Ideal) k0_pay6 (I.cTile 5)) = (I.ch 1 2) := by sl_kernel_rfl
theorem e134 (I : In) : (k0_pay134 (F := Ideal) k0_pay6 (I.cTile 5)) = (I.ch 1 3) := by sl_kernel_rfl
theorem e136 (I : In) : (k0_pay136 (F := Ideal) k0_pay6 (I.qh 1 0) (I.qh 1 1) (I.qh 1 2) (I.qh 1 3) (k0_pay135 (F := Ideal) (I.qTile 6)) (I.qTile 7)) = (I.qs 1) := by sl_kernel_rfl
theorem e137 (I : In) : (k0_pay137 (F := Ideal) k0_pay6 (I.ch 1 0) (I.ch 1 1) (I.ch 1 2) (I.ch 1 3) (I.cTile 6) (I.cTile 7)) = (I.cs 1) := by sl_kernel_rfl
theorem e138 (I : In) : (k0_pay138 (F := Ideal) k0_pay6 (I.kd 1) (I.qh 1 0) (I.qh 1 1) (I.qh 1 2) (I.qh 1 3) (k0_pay135 (F := Ideal) (I.qTile 6)) (I.qTile 7)) = (I.st 1) := by sl_kernel_rfl
theorem e139 (I : In) : (k0_pay139 (F := Ideal) k0_pay6 (I.vd 1) (I.ch 1 0) (I.ch 1 1) (I.ch 1 2) (I.ch 1 3) (I.cTile 6) (I.cTile 7)) = (I.dpt 1) := by sl_kernel_rfl
theorem e141 (I : In) : (k0_pay141 (F := Ideal) I.mask (I.st 1) (I.lRow 8)) = (I.p 1 0) := by sl_kernel_rfl
theorem e142 (I : In) : (k0_pay142 (F := Ideal) (I.dpt 1)) = (I.dp 1 0) := by sl_kernel_rfl
theorem e143 (I : In) : (k0_pay143 (F := Ideal) I.mask (I.st 1) (I.dpt 1) (I.lRow 8)) = (I.delta 1 0) := by sl_kernel_rfl
theorem e144 (I : In) : (k0_pay144 (F := Ideal) I.mask (I.st 1) (I.lRow 8)) = (I.pc 1 0) := by sl_kernel_rfl
theorem e145 (I : In) : (k0_pay145 (F := Ideal) I.mask (I.st 1) (I.dpt 1) (I.lRow 8)) = (I.ds 1 0) := by sl_kernel_rfl
theorem e146 (I : In) : (k0_pay146 (F := Ideal) (iota Kind.tc S1x128 32 [1] iota_S1x128_d1_w32) I.mask (I.sinkUpTo 8 (by decide)) (I.st 1) (I.dpt 1) (I.lRow 8) (I.sWord 8)) = (I.sinkUpTo 9 (by decide)) := by sl_kernel_rfl
theorem e148 (I : In) : (k0_pay148 (F := Ideal) I.mask (I.st 1) (I.lRow 9)) = (I.p 1 1) := by sl_kernel_rfl
theorem e149 (I : In) : (k0_pay149 (F := Ideal) (I.dpt 1)) = (I.dp 1 1) := by sl_kernel_rfl
theorem e150 (I : In) : (k0_pay150 (F := Ideal) I.mask (I.st 1) (I.dpt 1) (I.lRow 9)) = (I.delta 1 1) := by sl_kernel_rfl
theorem e151 (I : In) : (k0_pay151 (F := Ideal) I.mask (I.st 1) (I.lRow 9)) = (I.pc 1 1) := by sl_kernel_rfl
theorem e153 (I : In) : (k0_pay153 (F := Ideal) (I.p 1 1) (I.dp 1 1) (k0_pay152 (F := Ideal) I.mask (I.st 1) (I.dpt 1) (I.lRow 9))) = (I.ds 1 1) := by sl_kernel_rfl
theorem e154 (I : In) : (k0_pay154 (F := Ideal) (iota Kind.tc S1x128 32 [1] iota_S1x128_d1_w32) (I.sinkUpTo 9 (by decide)) (k0_pay147 (F := Ideal) (I.lRow 9)) (I.delta 1 1) (I.sWord 9)) = (I.sinkUpTo 10 (by decide)) := by sl_kernel_rfl
theorem e156 (I : In) : (k0_pay156 (F := Ideal) I.mask (I.st 1) (I.lRow 10)) = (I.p 1 2) := by sl_kernel_rfl
theorem e157 (I : In) : (k0_pay157 (F := Ideal) (I.dpt 1)) = (I.dp 1 2) := by sl_kernel_rfl
theorem e158 (I : In) : (k0_pay158 (F := Ideal) I.mask (I.st 1) (I.dpt 1) (I.lRow 10)) = (I.delta 1 2) := by sl_kernel_rfl
theorem e159 (I : In) : (k0_pay159 (F := Ideal) I.mask (I.st 1) (I.lRow 10)) = (I.pc 1 2) := by sl_kernel_rfl
theorem e160 (I : In) : (k0_pay160 (F := Ideal) I.mask (I.st 1) (I.dpt 1) (I.lRow 10)) = (I.ds 1 2) := by sl_kernel_rfl
theorem e164 (I : In) : (k0_pay164 (F := Ideal) I.mask (I.st 1) (I.lRow 11)) = (I.p 1 3) := by sl_kernel_rfl
theorem e165 (I : In) : (k0_pay165 (F := Ideal) (I.dpt 1)) = (I.dp 1 3) := by sl_kernel_rfl
theorem e166 (I : In) : (k0_pay166 (F := Ideal) I.mask (I.st 1) (I.dpt 1) (I.lRow 11)) = (I.delta 1 3) := by sl_kernel_rfl
theorem e167 (I : In) : (k0_pay167 (F := Ideal) I.mask (I.st 1) (I.lRow 11)) = (I.pc 1 3) := by sl_kernel_rfl
theorem e168 (I : In) : (k0_pay168 (F := Ideal) I.mask (I.st 1) (I.dpt 1) (I.lRow 11)) = (I.ds 1 3) := by sl_kernel_rfl
theorem e169 (I : In) : (k0_pay169 (F := Ideal) (iota Kind.tc S1x128 32 [1] iota_S1x128_d1_w32) I.mask (I.st 1) (I.dpt 1) (I.sinkUpTo 10 (by decide)) (k0_pay161 (iota Kind.tc S1x128 32 [1] iota_S1x128_d1_w32)) (k0_pay162 (F := Ideal) I.mask (I.st 1) (I.dpt 1) (I.lRow 10) (I.sWord 10)) (Scalar.ofBits (F := Ideal) .f32 0x00000000#32) (I.lRow 11) (I.sWord 11)) = (I.sinkUpTo 12 (by decide)) := by sl_kernel_rfl
theorem e171 (I : In) : (k0_pay171 (F := Ideal) I.mask (I.st 1) (I.lRow 12)) = (I.p 1 4) := by sl_kernel_rfl
theorem e172 (I : In) : (k0_pay172 (F := Ideal) (I.dpt 1)) = (I.dp 1 4) := by sl_kernel_rfl
theorem e173 (I : In) : (k0_pay173 (F := Ideal) (I.p 1 4) (I.dp 1 4)) = (I.delta 1 4) := by sl_kernel_rfl
theorem e174 (I : In) : (k0_pay174 (F := Ideal) (I.p 1 4)) = (I.pc 1 4) := by sl_kernel_rfl
theorem e175 (I : In) : (k0_pay175 (F := Ideal) (I.p 1 4) (I.dp 1 4)) = (I.ds 1 4) := by sl_kernel_rfl
theorem e176 (I : In) : (k0_pay176 (F := Ideal) (iota Kind.tc S1x128 32 [1] iota_S1x128_d1_w32) (I.sinkUpTo 12 (by decide)) (k0_pay170 (F := Ideal) (I.lRow 12)) (I.p 1 4) (I.dp 1 4) (I.sWord 12)) = (I.sinkUpTo 13 (by decide)) := by sl_kernel_rfl
theorem e178 (I : In) : (k0_pay178 (F := Ideal) I.mask (I.st 1) (I.lRow 13)) = (I.p 1 5) := by sl_kernel_rfl
theorem e179 (I : In) : (k0_pay179 (F := Ideal) (I.dpt 1)) = (I.dp 1 5) := by sl_kernel_rfl
theorem e180 (I : In) : (k0_pay180 (F := Ideal) I.mask (I.st 1) (I.dpt 1) (I.lRow 13)) = (I.delta 1 5) := by sl_kernel_rfl
theorem e181 (I : In) : (k0_pay181 (F := Ideal) I.mask (I.st 1) (I.lRow 13)) = (I.pc 1 5) := by sl_kernel_rfl
theorem e182 (I : In) : (k0_pay182 (F := Ideal) I.mask (I.st 1) (I.dpt 1) (I.lRow 13)) = (I.ds 1 5) := by sl_kernel_rfl
theorem e186 (I : In) : (k0_pay186 (F := Ideal) I.mask (I.st 1) (I.lRow 14)) = (I.p 1 6) := by sl_kernel_rfl
theorem e187 (I : In) : (k0_pay187 (F := Ideal) (I.dpt 1)) = (I.dp 1 6) := by sl_kernel_rfl
theorem e188 (I : In) : (k0_pay188 (F := Ideal) I.mask (I.st 1) (I.dpt 1) (I.lRow 14)) = (I.delta 1 6) := by sl_kernel_rfl
theorem e189 (I : In) : (k0_pay189 (F := Ideal) I.mask (I.st 1) (I.lRow 14)) = (I.pc 1 6) := by sl_kernel_rfl
theorem e190 (I : In) : (k0_pay190 (F := Ideal) I.mask (I.st 1) (I.dpt 1) (I.lRow 14)) = (I.ds 1 6) := by sl_kernel_rfl
theorem e191 (I : In) : (k0_pay191 (F := Ideal) (iota Kind.tc S1x128 32 [1] iota_S1x128_d1_w32) I.mask (I.st 1) (I.dpt 1) (I.sinkUpTo 13 (by decide)) (k0_pay183 (iota Kind.tc S1x128 32 [1] iota_S1x128_d1_w32)) (k0_pay184 (F := Ideal) I.mask (I.st 1) (I.dpt 1) (I.lRow 13) (I.sWord 13)) (I.lRow 14) (I.sWord 14)) = (I.sinkUpTo 15 (by decide)) := by sl_kernel_rfl
theorem e195 (I : In) : (k0_pay195 (F := Ideal) I.mask (k0_pay193 (F := Ideal) (I.st 1)) (k0_pay194 (F := Ideal) (I.lRow 15))) = (I.p 1 7) := by sl_kernel_rfl
theorem e196 (I : In) : (k0_pay196 (F := Ideal) (I.dpt 1)) = (I.dp 1 7) := by sl_kernel_rfl
theorem e197 (I : In) : (k0_pay197 (F := Ideal) I.mask (I.dpt 1) (k0_pay193 (F := Ideal) (I.st 1)) (k0_pay194 (F := Ideal) (I.lRow 15))) = (I.delta 1 7) := by sl_kernel_rfl
theorem e198 (I : In) : (k0_pay198 (F := Ideal) (iota Kind.tc S1x128 32 [1] iota_S1x128_d1_w32) I.mask (I.dpt 1) (I.sinkUpTo 15 (by decide)) (k0_pay192 (F := Ideal) (I.lRow 15)) (k0_pay193 (F := Ideal) (I.st 1)) (k0_pay194 (F := Ideal) (I.lRow 15)) (I.sWord 15)) = (I.sinkUpTo 16 (by decide)) := by sl_kernel_rfl
theorem e199 (I : In) : (k0_pay199 (F := Ideal) I.mask (I.dpt 1) (I.ds 1 0) (I.ds 1 1) (I.ds 1 2) (I.ds 1 3) (I.ds 1 4) (I.ds 1 5) (I.ds 1 6) (k0_pay193 (F := Ideal) (I.st 1)) (k0_pay194 (F := Ideal) (I.lRow 15))) = (I.dsC 1) := by sl_kernel_rfl
theorem e200 (I : In) : (k0_pay200 (F := Ideal) I.mask (I.qs 1) (I.dpt 1) (I.ds 1 0) (I.ds 1 1) (I.ds 1 2) (I.ds 1 3) (I.ds 1 4) (I.ds 1 5) (I.ds 1 6) (k0_pay193 (F := Ideal) (I.st 1)) (k0_pay194 (F := Ideal) (I.lRow 15))) = (I.dk 1) := by sl_kernel_rfl
theorem e201 (I : In) : (k0_pay201 (F := Ideal) I.mask (I.cs 1) (I.pc 1 0) (I.pc 1 1) (I.pc 1 2) (I.pc 1 3) (I.pc 1 4) (I.pc 1 5) (I.pc 1 6) (k0_pay193 (F := Ideal) (I.st 1)) (k0_pay194 (F := Ideal) (I.lRow 15))) = (I.dv 1) := by sl_kernel_rfl
theorem e202 (I : In) : (k0_pay202 (F := Ideal) (I.kt 1) I.mask (I.dpt 1) (I.ds 1 0) (I.ds 1 1) (I.ds 1 2) (I.ds 1 3) (I.ds 1 4) (I.ds 1 5) (I.ds 1 6) (k0_pay193 (F := Ideal) (I.st 1)) (k0_pay194 (F := Ideal) (I.lRow 15))) = (I.dqt 1) := by sl_kernel_rfl
theorem e206 (I : In) : (k0_pay206 (F := Ideal) (k0_pay204 (F := Ideal) k0_pay6 (I.kt 1) I.mask (k0_pay24 I.c) (k0_pay25 I.sa) (I.dpt 1) (I.ds 1 0) (I.ds 1 1) (I.ds 1 2) (I.ds 1 3) (I.ds 1 4) (I.ds 1 5) (I.ds 1 6) (k0_pay193 (F := Ideal) (I.st 1)) (k0_pay194 (F := Ideal) (I.lRow 15))) (k0_pay205 (F := Ideal) k0_pay6 (I.kt 1) I.mask (k0_pay26 I.sb) (I.dpt 1) (I.ds 1 0) (I.ds 1 1) (I.ds 1 2) (I.ds 1 3) (I.ds 1 4) (I.ds 1 5) (I.ds 1 6) (k0_pay193 (F := Ideal) (I.st 1)) (k0_pay194 (F := Ideal) (I.lRow 15)))) = (I.dq 4) := by sl_kernel_rfl
theorem e207 (I : In) : (k0_pay207 (F := Ideal) k0_pay6 (k0_pay24 I.c) (k0_pay25 I.sa) (k0_pay26 I.sb) (I.dqt 1)) = (I.dq 5) := by sl_kernel_rfl
theorem e208 (I : In) : (k0_pay208 (F := Ideal) k0_pay6 (k0_pay24 I.c) (k0_pay25 I.sa) (k0_pay26 I.sb) (I.dqt 1)) = (I.dq 6) := by sl_kernel_rfl
theorem e212 (I : In) : (k0_pay212 (F := Ideal) (k0_pay26 I.sb) (k0_pay209 (F := Ideal) k0_pay6 (I.dqt 1)) (k0_pay210 (F := Ideal) k0_pay6 (k0_pay24 I.c) (I.dqt 1)) (k0_pay211 (F := Ideal) k0_pay6 (k0_pay25 I.sa) (I.dqt 1)) 8#32) = (I.dq 7) := by sl_kernel_rfl
theorem e214 (I : In) : (k0_pay214 (F := Ideal) k0_pay6 (I.dk 0) (I.dk 1)) = I.foldK := by sl_kernel_rfl
theorem e215 (I : In) : (k0_pay215 (F := Ideal) k0_pay6 (I.dv 0) (I.dv 1)) = I.foldV := by sl_kernel_rfl
theorem lq0 (m : (ℓ : Loc nD τ sig) → Buf (Elt Ideal) ℓ) (c : Dev nD) (t : Fin cfg0.N) :
    View.readAt (Elt Ideal) (ms0_1 t).view (Rect.unit (s := S128x1024) ![0, 0] S128x128.size inb_S128x1024_S128x128_0_0).toLoadRect ((hs0_1 t).unread (X0_1 m c t)) = (inp m c t).qTile 0 := rfl
theorem lc0 (m : (ℓ : Loc nD τ sig) → Buf (Elt Ideal) ℓ) (c : Dev nD) (t : Fin cfg0.N) :
    View.readAt (Elt Ideal) (ms0_8 t).view (Rect.unit (s := S128x1024) ![0, 0] S128x128.size inb_S128x1024_S128x128_0_0).toLoadRect ((hs0_8 t).unread (iblk m c 8 t)) = (inp m c t).cTile 0 := rfl
theorem lq1 (m : (ℓ : Loc nD τ sig) → Buf (Elt Ideal) ℓ) (c : Dev nD) (t : Fin cfg0.N) :
    View.readAt (Elt Ideal) (ms0_1 t).view (Rect.unit (s := S128x1024) ![0, 128] S128x128.size inb_S128x1024_S128x128_0_128).toLoadRect ((hs0_1 t).unread (X0_1 m c t)) = (inp m c t).qTile 1 := rfl
theorem lc1 (m : (ℓ : Loc nD τ sig) → Buf (Elt Ideal) ℓ) (c : Dev nD) (t : Fin cfg0.N) :
    View.readAt (Elt Ideal) (ms0_8 t).view (Rect.unit (s := S128x1024) ![0, 128] S128x128.size inb_S128x1024_S128x128_0_128).toLoadRect ((hs0_8 t).unread (iblk m c 8 t)) = (inp m c t).cTile 1 := rfl
theorem lq2 (m : (ℓ : Loc nD τ sig) → Buf (Elt Ideal) ℓ) (c : Dev nD) (t : Fin cfg0.N) :
    View.readAt (Elt Ideal) (ms0_1 t).view (Rect.unit (s := S128x1024) ![0, 256] S128x128.size inb_S128x1024_S128x128_0_256).toLoadRect ((hs0_1 t).unread (X0_1 m c t)) = (inp m c t).qTile 2 := rfl
theorem lc2 (m : (ℓ : Loc nD τ sig) → Buf (Elt Ideal) ℓ) (c : Dev nD) (t : Fin cfg0.N) :
    View.readAt (Elt Ideal) (ms0_8 t).view (Rect.unit (s := S128x1024) ![0, 256] S128x128.size inb_S128x1024_S128x128_0_256).toLoadRect ((hs0_8 t).unread (iblk m c 8 t)) = (inp m c t).cTile 2 := rfl
theorem lq3 (m : (ℓ : Loc nD τ sig) → Buf (Elt Ideal) ℓ) (c : Dev nD) (t : Fin cfg0.N) :
    View.readAt (Elt Ideal) (ms0_1 t).view (Rect.unit (s := S128x1024) ![0, 384] S128x128.size inb_S128x1024_S128x128_0_384).toLoadRect ((hs0_1 t).unread (X0_1 m c t)) = (inp m c t).qTile 3 := rfl
theorem lc3 (m : (ℓ : Loc nD τ sig) → Buf (Elt Ideal) ℓ) (c : Dev nD) (t : Fin cfg0.N) :
    View.readAt (Elt Ideal) (ms0_8 t).view (Rect.unit (s := S128x1024) ![0, 384] S128x128.size inb_S128x1024_S128x128_0_384).toLoadRect ((hs0_8 t).unread (iblk m c 8 t)) = (inp m c t).cTile 3 := rfl
theorem lq4 (m : (ℓ : Loc nD τ sig) → Buf (Elt Ideal) ℓ) (c : Dev nD) (t : Fin cfg0.N) :
    View.readAt (Elt Ideal) (ms0_1 t).view (Rect.unit (s := S128x1024) ![0, 512] S128x128.size inb_S128x1024_S128x128_0_512).toLoadRect ((hs0_1 t).unread (X0_1 m c t)) = (inp m c t).qTile 4 := rfl
theorem lc4 (m : (ℓ : Loc nD τ sig) → Buf (Elt Ideal) ℓ) (c : Dev nD) (t : Fin cfg0.N) :
    View.readAt (Elt Ideal) (ms0_8 t).view (Rect.unit (s := S128x1024) ![0, 512] S128x128.size inb_S128x1024_S128x128_0_512).toLoadRect ((hs0_8 t).unread (iblk m c 8 t)) = (inp m c t).cTile 4 := rfl
theorem lq5 (m : (ℓ : Loc nD τ sig) → Buf (Elt Ideal) ℓ) (c : Dev nD) (t : Fin cfg0.N) :
    View.readAt (Elt Ideal) (ms0_1 t).view (Rect.unit (s := S128x1024) ![0, 640] S128x128.size inb_S128x1024_S128x128_0_640).toLoadRect ((hs0_1 t).unread (X0_1 m c t)) = (inp m c t).qTile 5 := rfl
theorem lc5 (m : (ℓ : Loc nD τ sig) → Buf (Elt Ideal) ℓ) (c : Dev nD) (t : Fin cfg0.N) :
    View.readAt (Elt Ideal) (ms0_8 t).view (Rect.unit (s := S128x1024) ![0, 640] S128x128.size inb_S128x1024_S128x128_0_640).toLoadRect ((hs0_8 t).unread (iblk m c 8 t)) = (inp m c t).cTile 5 := rfl
theorem lq6 (m : (ℓ : Loc nD τ sig) → Buf (Elt Ideal) ℓ) (c : Dev nD) (t : Fin cfg0.N) :
    View.readAt (Elt Ideal) (ms0_1 t).view (Rect.unit (s := S128x1024) ![0, 768] S128x128.size inb_S128x1024_S128x128_0_768).toLoadRect ((hs0_1 t).unread (X0_1 m c t)) = (inp m c t).qTile 6 := rfl
theorem lc6 (m : (ℓ : Loc nD τ sig) → Buf (Elt Ideal) ℓ) (c : Dev nD) (t : Fin cfg0.N) :
    View.readAt (Elt Ideal) (ms0_8 t).view (Rect.unit (s := S128x1024) ![0, 768] S128x128.size inb_S128x1024_S128x128_0_768).toLoadRect ((hs0_8 t).unread (iblk m c 8 t)) = (inp m c t).cTile 6 := rfl
theorem lq7 (m : (ℓ : Loc nD τ sig) → Buf (Elt Ideal) ℓ) (c : Dev nD) (t : Fin cfg0.N) :
    View.readAt (Elt Ideal) (ms0_1 t).view (Rect.unit (s := S128x1024) ![0, 896] S128x128.size inb_S128x1024_S128x128_0_896).toLoadRect ((hs0_1 t).unread (X0_1 m c t)) = (inp m c t).qTile 7 := rfl
theorem lc7 (m : (ℓ : Loc nD τ sig) → Buf (Elt Ideal) ℓ) (c : Dev nD) (t : Fin cfg0.N) :
    View.readAt (Elt Ideal) (ms0_8 t).view (Rect.unit (s := S128x1024) ![0, 896] S128x128.size inb_S128x1024_S128x128_0_896).toLoadRect ((hs0_8 t).unread (iblk m c 8 t)) = (inp m c t).cTile 7 := rfl
theorem ll0 (m : (ℓ : Loc nD τ sig) → Buf (Elt Ideal) ℓ) (c : Dev nD) (t : Fin cfg0.N) :
    View.readAt (Elt Ideal) (ms0_9 t).view (Rect.unit (s := S16x128) ![0, 0] S1x128.size inb_S16x128_S1x128_0_0).toLoadRect ((hs0_9 t).unread (iblk m c 9 t)) = (inp m c t).lRow 0 := rfl
theorem ll1 (m : (ℓ : Loc nD τ sig) → Buf (Elt Ideal) ℓ) (c : Dev nD) (t : Fin cfg0.N) :
    View.readAt (Elt Ideal) (ms0_9 t).view (Rect.unit (s := S16x128) ![1, 0] S1x128.size inb_S16x128_S1x128_1_0).toLoadRect ((hs0_9 t).unread (iblk m c 9 t)) = (inp m c t).lRow 1 := rfl
theorem ll2 (m : (ℓ : Loc nD τ sig) → Buf (Elt Ideal) ℓ) (c : Dev nD) (t : Fin cfg0.N) :
    View.readAt (Elt Ideal) (ms0_9 t).view (Rect.unit (s := S16x128) ![2, 0] S1x128.size inb_S16x128_S1x128_2_0).toLoadRect ((hs0_9 t).unread (iblk m c 9 t)) = (inp m c t).lRow 2 := rfl
theorem ll3 (m : (ℓ : Loc nD τ sig) → Buf (Elt Ideal) ℓ) (c : Dev nD) (t : Fin cfg0.N) :
    View.readAt (Elt Ideal) (ms0_9 t).view (Rect.unit (s := S16x128) ![3, 0] S1x128.size inb_S16x128_S1x128_3_0).toLoadRect ((hs0_9 t).unread (iblk m c 9 t)) = (inp m c t).lRow 3 := rfl
theorem ll4 (m : (ℓ : Loc nD τ sig) → Buf (Elt Ideal) ℓ) (c : Dev nD) (t : Fin cfg0.N) :
    View.readAt (Elt Ideal) (ms0_9 t).view (Rect.unit (s := S16x128) ![4, 0] S1x128.size inb_S16x128_S1x128_4_0).toLoadRect ((hs0_9 t).unread (iblk m c 9 t)) = (inp m c t).lRow 4 := rfl
theorem ll5 (m : (ℓ : Loc nD τ sig) → Buf (Elt Ideal) ℓ) (c : Dev nD) (t : Fin cfg0.N) :
    View.readAt (Elt Ideal) (ms0_9 t).view (Rect.unit (s := S16x128) ![5, 0] S1x128.size inb_S16x128_S1x128_5_0).toLoadRect ((hs0_9 t).unread (iblk m c 9 t)) = (inp m c t).lRow 5 := rfl
theorem ll6 (m : (ℓ : Loc nD τ sig) → Buf (Elt Ideal) ℓ) (c : Dev nD) (t : Fin cfg0.N) :
    View.readAt (Elt Ideal) (ms0_9 t).view (Rect.unit (s := S16x128) ![6, 0] S1x128.size inb_S16x128_S1x128_6_0).toLoadRect ((hs0_9 t).unread (iblk m c 9 t)) = (inp m c t).lRow 6 := rfl
theorem ll7 (m : (ℓ : Loc nD τ sig) → Buf (Elt Ideal) ℓ) (c : Dev nD) (t : Fin cfg0.N) :
    View.readAt (Elt Ideal) (ms0_9 t).view (Rect.unit (s := S16x128) ![7, 0] S1x128.size inb_S16x128_S1x128_7_0).toLoadRect ((hs0_9 t).unread (iblk m c 9 t)) = (inp m c t).lRow 7 := rfl
theorem ll8 (m : (ℓ : Loc nD τ sig) → Buf (Elt Ideal) ℓ) (c : Dev nD) (t : Fin cfg0.N) :
    View.readAt (Elt Ideal) (ms0_9 t).view (Rect.unit (s := S16x128) ![8, 0] S1x128.size inb_S16x128_S1x128_8_0).toLoadRect ((hs0_9 t).unread (iblk m c 9 t)) = (inp m c t).lRow 8 := rfl
theorem ll9 (m : (ℓ : Loc nD τ sig) → Buf (Elt Ideal) ℓ) (c : Dev nD) (t : Fin cfg0.N) :
    View.readAt (Elt Ideal) (ms0_9 t).view (Rect.unit (s := S16x128) ![9, 0] S1x128.size inb_S16x128_S1x128_9_0).toLoadRect ((hs0_9 t).unread (iblk m c 9 t)) = (inp m c t).lRow 9 := rfl
theorem ll10 (m : (ℓ : Loc nD τ sig) → Buf (Elt Ideal) ℓ) (c : Dev nD) (t : Fin cfg0.N) :
    View.readAt (Elt Ideal) (ms0_9 t).view (Rect.unit (s := S16x128) ![10, 0] S1x128.size inb_S16x128_S1x128_10_0).toLoadRect ((hs0_9 t).unread (iblk m c 9 t)) = (inp m c t).lRow 10 := rfl
theorem ll11 (m : (ℓ : Loc nD τ sig) → Buf (Elt Ideal) ℓ) (c : Dev nD) (t : Fin cfg0.N) :
    View.readAt (Elt Ideal) (ms0_9 t).view (Rect.unit (s := S16x128) ![11, 0] S1x128.size inb_S16x128_S1x128_11_0).toLoadRect ((hs0_9 t).unread (iblk m c 9 t)) = (inp m c t).lRow 11 := rfl
theorem ll12 (m : (ℓ : Loc nD τ sig) → Buf (Elt Ideal) ℓ) (c : Dev nD) (t : Fin cfg0.N) :
    View.readAt (Elt Ideal) (ms0_9 t).view (Rect.unit (s := S16x128) ![12, 0] S1x128.size inb_S16x128_S1x128_12_0).toLoadRect ((hs0_9 t).unread (iblk m c 9 t)) = (inp m c t).lRow 12 := rfl
theorem ll13 (m : (ℓ : Loc nD τ sig) → Buf (Elt Ideal) ℓ) (c : Dev nD) (t : Fin cfg0.N) :
    View.readAt (Elt Ideal) (ms0_9 t).view (Rect.unit (s := S16x128) ![13, 0] S1x128.size inb_S16x128_S1x128_13_0).toLoadRect ((hs0_9 t).unread (iblk m c 9 t)) = (inp m c t).lRow 13 := rfl
theorem ll14 (m : (ℓ : Loc nD τ sig) → Buf (Elt Ideal) ℓ) (c : Dev nD) (t : Fin cfg0.N) :
    View.readAt (Elt Ideal) (ms0_9 t).view (Rect.unit (s := S16x128) ![14, 0] S1x128.size inb_S16x128_S1x128_14_0).toLoadRect ((hs0_9 t).unread (iblk m c 9 t)) = (inp m c t).lRow 14 := rfl
theorem ll15 (m : (ℓ : Loc nD τ sig) → Buf (Elt Ideal) ℓ) (c : Dev nD) (t : Fin cfg0.N) :
    View.readAt (Elt Ideal) (ms0_9 t).view (Rect.unit (s := S16x128) ![15, 0] S1x128.size inb_S16x128_S1x128_15_0).toLoadRect ((hs0_9 t).unread (iblk m c 9 t)) = (inp m c t).lRow 15 := rfl
theorem l_km (m : (ℓ : Loc nD τ sig) → Buf (Elt Ideal) ℓ) (c : Dev nD) (t : Fin cfg0.N) :
    View.readAt (Elt Ideal) (ms0_2 t).view (Rect.unit (s := S128x128) ![0, 0] S128x128.size inb_S128x128_S128x128_0_0).toLoadRect ((hs0_2 t).unread (iblk m c 2 t)) = (inp m c t).km :=
  View.ld_unit_lit' inb_S128x128_S128x128_0_0 _ (by decide)
theorem l_kp (m : (ℓ : Loc nD τ sig) → Buf (Elt Ideal) ℓ) (c : Dev nD) (t : Fin cfg0.N) :
    View.readAt (Elt Ideal) (ms0_3 t).view (Rect.unit (s := S128x128) ![0, 0] S128x128.size inb_S128x128_S128x128_0_0).toLoadRect ((hs0_3 t).unread (iblk m c 3 t)) = (inp m c t).kp :=
  View.ld_unit_lit' inb_S128x128_S128x128_0_0 _ (by decide)
theorem l_kc (m : (ℓ : Loc nD τ sig) → Buf (Elt Ideal) ℓ) (c : Dev nD) (t : Fin cfg0.N) :
    View.readAt (Elt Ideal) (ms0_4 t).view (Rect.unit (s := S128x128) ![0, 0] S128x128.size inb_S128x128_S128x128_0_0).toLoadRect ((hs0_4 t).unread (iblk m c 4 t)) = (inp m c t).kc :=
  View.ld_unit_lit' inb_S128x128_S128x128_0_0 _ (by decide)
theorem l_vm (m : (ℓ : Loc nD τ sig) → Buf (Elt Ideal) ℓ) (c : Dev nD) (t : Fin cfg0.N) :
    View.readAt (Elt Ideal) (ms0_5 t).view (Rect.unit (s := S128x128) ![0, 0] S128x128.size inb_S128x128_S128x128_0_0).toLoadRect ((hs0_5 t).unread (iblk m c 5 t)) = (inp m c t).vm :=
  View.ld_unit_lit' inb_S128x128_S128x128_0_0 _ (by decide)
theorem l_vp (m : (ℓ : Loc nD τ sig) → Buf (Elt Ideal) ℓ) (c : Dev nD) (t : Fin cfg0.N) :
    View.readAt (Elt Ideal) (ms0_6 t).view (Rect.unit (s := S128x128) ![0, 0] S128x128.size inb_S128x128_S128x128_0_0).toLoadRect ((hs0_6 t).unread (iblk m c 6 t)) = (inp m c t).vp :=
  View.ld_unit_lit' inb_S128x128_S128x128_0_0 _ (by decide)
theorem l_vc (m : (ℓ : Loc nD τ sig) → Buf (Elt Ideal) ℓ) (c : Dev nD) (t : Fin cfg0.N) :
    View.readAt (Elt Ideal) (ms0_7 t).view (Rect.unit (s := S128x128) ![0, 0] S128x128.size inb_S128x128_S128x128_0_0).toLoadRect ((hs0_7 t).unread (iblk m c 7 t)) = (inp m c t).vc :=
  View.ld_unit_lit' inb_S128x128_S128x128_0_0 _ (by decide)
theorem l_c (m : (ℓ : Loc nD τ sig) → Buf (Elt Ideal) ℓ) (c : Dev nD) (t : Fin cfg0.N) :
    View.readAt (Elt Ideal) (ms0_10 t).view (Rect.unit (s := S128x128) ![0, 0] S128x128.size inb_S128x128_S128x128_0_0).toLoadRect ((hs0_10 t).unread (iblk m c 10 t)) = (inp m c t).c :=
  View.ld_unit_lit' inb_S128x128_S128x128_0_0 _ (by decide)
theorem l_sa (m : (ℓ : Loc nD τ sig) → Buf (Elt Ideal) ℓ) (c : Dev nD) (t : Fin cfg0.N) :
    View.readAt (Elt Ideal) (ms0_11 t).view (Rect.unit (s := S128x128) ![0, 0] S128x128.size inb_S128x128_S128x128_0_0).toLoadRect ((hs0_11 t).unread (iblk m c 11 t)) = (inp m c t).sa :=
  View.ld_unit_lit' inb_S128x128_S128x128_0_0 _ (by decide)
theorem l_sb (m : (ℓ : Loc nD τ sig) → Buf (Elt Ideal) ℓ) (c : Dev nD) (t : Fin cfg0.N) :
    View.readAt (Elt Ideal) (ms0_12 t).view (Rect.unit (s := S128x128) ![0, 0] S128x128.size inb_S128x128_S128x128_0_0).toLoadRect ((hs0_12 t).unread (iblk m c 12 t)) = (inp m c t).sb :=
  View.ld_unit_lit' inb_S128x128_S128x128_0_0 _ (by decide)
theorem ls0 (m : (ℓ : Loc nD τ sig) → Buf (Elt Ideal) ℓ) (c : Dev nD) (t : Fin cfg0.N) (hp) :
    View.readAt (Elt Ideal) (ms0_0 t).view (Rect.unit (s := S16) ![0] S1.size inb_S16_S1_0).toLoadRect ((hs0_0 t).unread (iblk m c 0 t)) (Shape.Idx.first hp) = (inp m c t).sWord 0 := rfl
theorem ls1 (m : (ℓ : Loc nD τ sig) → Buf (Elt Ideal) ℓ) (c : Dev nD) (t : Fin cfg0.N) (hp) :
    View.readAt (Elt Ideal) (ms0_0 t).view (Rect.unit (s := S16) ![1] S1.size inb_S16_S1_1).toLoadRect ((hs0_0 t).unread (iblk m c 0 t)) (Shape.Idx.first hp) = (inp m c t).sWord 1 := rfl
theorem ls2 (m : (ℓ : Loc nD τ sig) → Buf (Elt Ideal) ℓ) (c : Dev nD) (t : Fin cfg0.N) (hp) :
    View.readAt (Elt Ideal) (ms0_0 t).view (Rect.unit (s := S16) ![2] S1.size inb_S16_S1_2).toLoadRect ((hs0_0 t).unread (iblk m c 0 t)) (Shape.Idx.first hp) = (inp m c t).sWord 2 := rfl
theorem ls3 (m : (ℓ : Loc nD τ sig) → Buf (Elt Ideal) ℓ) (c : Dev nD) (t : Fin cfg0.N) (hp) :
    View.readAt (Elt Ideal) (ms0_0 t).view (Rect.unit (s := S16) ![3] S1.size inb_S16_S1_3).toLoadRect ((hs0_0 t).unread (iblk m c 0 t)) (Shape.Idx.first hp) = (inp m c t).sWord 3 := rfl
theorem ls4 (m : (ℓ : Loc nD τ sig) → Buf (Elt Ideal) ℓ) (c : Dev nD) (t : Fin cfg0.N) (hp) :
    View.readAt (Elt Ideal) (ms0_0 t).view (Rect.unit (s := S16) ![4] S1.size inb_S16_S1_4).toLoadRect ((hs0_0 t).unread (iblk m c 0 t)) (Shape.Idx.first hp) = (inp m c t).sWord 4 := rfl
theorem ls5 (m : (ℓ : Loc nD τ sig) → Buf (Elt Ideal) ℓ) (c : Dev nD) (t : Fin cfg0.N) (hp) :
    View.readAt (Elt Ideal) (ms0_0 t).view (Rect.unit (s := S16) ![5] S1.size inb_S16_S1_5).toLoadRect ((hs0_0 t).unread (iblk m c 0 t)) (Shape.Idx.first hp) = (inp m c t).sWord 5 := rfl
theorem ls6 (m : (ℓ : Loc nD τ sig) → Buf (Elt Ideal) ℓ) (c : Dev nD) (t : Fin cfg0.N) (hp) :
    View.readAt (Elt Ideal) (ms0_0 t).view (Rect.unit (s := S16) ![6] S1.size inb_S16_S1_6).toLoadRect ((hs0_0 t).unread (iblk m c 0 t)) (Shape.Idx.first hp) = (inp m c t).sWord 6 := rfl
theorem ls7 (m : (ℓ : Loc nD τ sig) → Buf (Elt Ideal) ℓ) (c : Dev nD) (t : Fin cfg0.N) (hp) :
    View.readAt (Elt Ideal) (ms0_0 t).view (Rect.unit (s := S16) ![7] S1.size inb_S16_S1_7).toLoadRect ((hs0_0 t).unread (iblk m c 0 t)) (Shape.Idx.first hp) = (inp m c t).sWord 7 := rfl
theorem ls8 (m : (ℓ : Loc nD τ sig) → Buf (Elt Ideal) ℓ) (c : Dev nD) (t : Fin cfg0.N) (hp) :
    View.readAt (Elt Ideal) (ms0_0 t).view (Rect.unit (s := S16) ![8] S1.size inb_S16_S1_8).toLoadRect ((hs0_0 t).unread (iblk m c 0 t)) (Shape.Idx.first hp) = (inp m c t).sWord 8 := rfl
theorem ls9 (m : (ℓ : Loc nD τ sig) → Buf (Elt Ideal) ℓ) (c : Dev nD) (t : Fin cfg0.N) (hp) :
    View.readAt (Elt Ideal) (ms0_0 t).view (Rect.unit (s := S16) ![9] S1.size inb_S16_S1_9).toLoadRect ((hs0_0 t).unread (iblk m c 0 t)) (Shape.Idx.first hp) = (inp m c t).sWord 9 := rfl
theorem ls10 (m : (ℓ : Loc nD τ sig) → Buf (Elt Ideal) ℓ) (c : Dev nD) (t : Fin cfg0.N) (hp) :
    View.readAt (Elt Ideal) (ms0_0 t).view (Rect.unit (s := S16) ![10] S1.size inb_S16_S1_10).toLoadRect ((hs0_0 t).unread (iblk m c 0 t)) (Shape.Idx.first hp) = (inp m c t).sWord 10 := rfl
theorem ls11 (m : (ℓ : Loc nD τ sig) → Buf (Elt Ideal) ℓ) (c : Dev nD) (t : Fin cfg0.N) (hp) :
    View.readAt (Elt Ideal) (ms0_0 t).view (Rect.unit (s := S16) ![11] S1.size inb_S16_S1_11).toLoadRect ((hs0_0 t).unread (iblk m c 0 t)) (Shape.Idx.first hp) = (inp m c t).sWord 11 := rfl
theorem ls12 (m : (ℓ : Loc nD τ sig) → Buf (Elt Ideal) ℓ) (c : Dev nD) (t : Fin cfg0.N) (hp) :
    View.readAt (Elt Ideal) (ms0_0 t).view (Rect.unit (s := S16) ![12] S1.size inb_S16_S1_12).toLoadRect ((hs0_0 t).unread (iblk m c 0 t)) (Shape.Idx.first hp) = (inp m c t).sWord 12 := rfl
theorem ls13 (m : (ℓ : Loc nD τ sig) → Buf (Elt Ideal) ℓ) (c : Dev nD) (t : Fin cfg0.N) (hp) :
    View.readAt (Elt Ideal) (ms0_0 t).view (Rect.unit (s := S16) ![13] S1.size inb_S16_S1_13).toLoadRect ((hs0_0 t).unread (iblk m c 0 t)) (Shape.Idx.first hp) = (inp m c t).sWord 13 := rfl
theorem ls14 (m : (ℓ : Loc nD τ sig) → Buf (Elt Ideal) ℓ) (c : Dev nD) (t : Fin cfg0.N) (hp) :
    View.readAt (Elt Ideal) (ms0_0 t).view (Rect.unit (s := S16) ![14] S1.size inb_S16_S1_14).toLoadRect ((hs0_0 t).unread (iblk m c 0 t)) (Shape.Idx.first hp) = (inp m c t).sWord 14 := rfl
theorem ls15 (m : (ℓ : Loc nD τ sig) → Buf (Elt Ideal) ℓ) (c : Dev nD) (t : Fin cfg0.N) (hp) :
    View.readAt (Elt Ideal) (ms0_0 t).view (Rect.unit (s := S16) ![15] S1.size inb_S16_S1_15).toLoadRect ((hs0_0 t).unread (iblk m c 0 t)) (Shape.Idx.first hp) = (inp m c t).sWord 15 := rfl
end Cert.AttnBwdIdeal.Hand
-- ==== Proof.AttnBwdReads.lean ====
/- The block's vectors, entry by entry. -/
module

public import proofs.«01_k».proof.Proof.AttnBwdBlock
public import Idealize.ShloMosaic.Lib.Pointwise

@[expose] public section

set_option maxRecDepth 16384

noncomputable section

namespace Cert.AttnBwdIdeal.Hand
open Cert.AttnBwdIdeal Cert.AttnBwdIdeal.Gen
open Idealize.ShloMosaic Idealize.ShloMosaic.TcCoe Idealize.ShloMosaic.Tactic

/-- The three key blocks one under the other. -/
def rows3 (a b d : Vec Ideal S128x128 .bf16) (l : Fin 384) (x : Fin 128) : EReal :=
  if h : l.val < 128 then a (ix2 ⟨l.val, h⟩ x)
  else if h : l.val - 128 < 128 then b (ix2 ⟨l.val - 128, h⟩ x)
  else d (ix2 ⟨l.val - 128 - 128, by omega⟩ x)

theorem lane_low : ∀ x : Fin 128, IntOp.cmpi .slt (BitVec.ofNat 32 x.val) 64#32 = if x.val < 64 then 1#1 else 0#1 := by decide +kernel
theorem select_if' {α : Type} (P : Prop) [Decidable P] (a b : α) : Scalar.select (if P then 1#1 else 0#1) a b = if P then a else b := by
  by_cases h : P <;> simp [h, Scalar.select]

theorem low_at (x : Fin 128) : (k0_pay6 : IVec S1x128 1) (ix2 0 x) = if x.val < 64 then 1#1 else 0#1 := by
  pointwise [k0_pay6]
  exact lane_low x

theorem pay7_at (a b d : Vec Ideal S128x128 .bf16) (l : Fin 384) (x : Fin 128) : (k0_pay7 a b d : FVec Ideal S384x128 .bf16) (ix2 l x) = rows3 a b d l x := by
  pointwise [k0_pay7, rows3]
theorem pay8_at (a b d : Vec Ideal S128x128 .bf16) (l : Fin 384) (x : Fin 128) : (k0_pay8 a b d : FVec Ideal S384x128 .bf16) (ix2 l x) = rows3 a b d l ⟨(x.val + 64) % 128, Nat.mod_lt _ (by decide)⟩ := by
  pointwise [k0_pay8, pay7_at]
  exact congrArg (rows3 a b d l) (Fin.ext (by show (x.val + 128 - 64) % 128 = (x.val + 64) % 128; omega))
theorem pay11_at (a b d : Vec Ideal S128x128 .bf16) (l : Fin 384) (x : Fin 128) : (k0_pay11 a b d : FVec Ideal S384x128 .bf16) (ix2 l x) = rows3 a b d l x := by
  pointwise [k0_pay11, rows3]
theorem pay12_at (a b d : Vec Ideal S128x128 .bf16) (l : Fin 384) (x : Fin 128) : (k0_pay12 a b d : FVec Ideal S384x128 .bf16) (ix2 l x) = rows3 a b d l ⟨(x.val + 64) % 128, Nat.mod_lt _ (by decide)⟩ := by
  pointwise [k0_pay12, pay11_at]
  exact congrArg (rows3 a b d l) (Fin.ext (by show (x.val + 128 - 64) % 128 = (x.val + 64) % 128; omega))
theorem pay16_at (a b d : Vec Ideal S128x128 .bf16) (l : Fin 384) (x : Fin 128) : (k0_pay16 a b d : FVec Ideal S384x128 .bf16) (ix2 l x) = rows3 a b d l x := by
  pointwise [k0_pay16, rows3]
theorem pay17_at (a b d : Vec Ideal S128x128 .bf16) (l : Fin 384) (x : Fin 128) : (k0_pay17 a b d : FVec Ideal S384x128 .bf16) (ix2 l x) = rows3 a b d l ⟨(x.val + 64) % 128, Nat.mod_lt _ (by decide)⟩ := by
  pointwise [k0_pay17, pay16_at]
  exact congrArg (rows3 a b d l) (Fin.ext (by show (x.val + 128 - 64) % 128 = (x.val + 64) % 128; omega))

/-- The scale 1/8 of the queries, as both formats write it. -/
abbrev c8 : EReal := Ideal.ofBits FTy.f32 1040187392#32
theorem c8_real : c8 = ((1 / 8 : ℝ) : EReal) := by
  simp [c8, Ideal.ofBits, Ideal.ieee, -EReal.coe_mul]; norm_num
theorem c8_bf16 : Ideal.ofBits FTy.bf16 15872#16 = c8 := by
  rw [c8_real]
  simp [Ideal.ofBits, Ideal.ieee, -EReal.coe_mul]; norm_num

/-- A sum over the lanes of one half. -/
theorem sum_half (b : ℕ) (hb : b < 2) (F : Fin 64 → EReal) :
    (∑ y : Fin 128, if y.val / 64 = b then F ⟨y.val % 64, Nat.mod_lt _ (by decide)⟩ else 0) = ∑ d : Fin 64, F d := by
  rw [← Fin.sum_mul_add_fin 2 64 _ rfl, Fin.sum_univ_two]
  have e0 : ∀ (q : ℕ) (d : Fin 64), (q * 64 + d.val) / 64 = q := fun q d => by omega
  have e1 : ∀ (q : ℕ) (d : Fin 64), (q * 64 + d.val) % 64 = d.val := fun q d => by omega
  simp only [e0, e1, Fin.eta]
  interval_cases b <;> simp

/-- A sum over eight tiles of 128. -/
theorem sum_tiles (F : Fin 1024 → EReal) : ∑ k, F k = ∑ j : Fin 8, ∑ r : Fin 128, F ⟨128 * j.val + r.val, by omega⟩ := by
  rw [← Fin.sum_mul_add_fin 8 128 F rfl]
  exact Finset.sum_congr rfl fun j _ => Finset.sum_congr rfl fun r _ => congrArg F (Fin.ext (by show j.val * 128 + r.val = 128 * j.val + r.val; omega))

namespace In
variable (I : In)

/-! The block's scalars. -/
def K (g : Fin 2) (l : Fin 384) (d : Fin 64) : EReal := rows3 I.km I.kp I.kc l ⟨64 * g.val + d.val, by omega⟩
def W (g : Fin 2) (l : Fin 384) (d : Fin 64) : EReal := rows3 I.vm I.vp I.vc l ⟨64 * g.val + d.val, by omega⟩
def Q (g : Fin 2) (j : Fin 8) (r : Fin 128) (d : Fin 64) : EReal := I.q (ix2 r ⟨64 * (8 * g.val + j.val) + d.val, by omega⟩)
def C (g : Fin 2) (j : Fin 8) (r : Fin 128) (d : Fin 64) : EReal := I.ct (ix2 r ⟨64 * (8 * g.val + j.val) + d.val, by omega⟩)
def S (g : Fin 2) (j : Fin 8) (l : Fin 384) (r : Fin 128) : EReal := ∑ d, I.K g l d * (I.Q g j r d * c8)
def D (g : Fin 2) (j : Fin 8) (l : Fin 384) (r : Fin 128) : EReal := ∑ d, I.W g l d * I.C g j r d
def Lse (g : Fin 2) (j : Fin 8) (r : Fin 128) : EReal := I.lse (ix2 (hd g j) r)
def P (g : Fin 2) (j : Fin 8) (l : Fin 384) (r : Fin 128) : EReal := Scalar.select (I.mask (ix2 l r)) (Ideal.exp (I.S g j l r - I.Lse g j r)) 0
def Del (g : Fin 2) (j : Fin 8) (r : Fin 128) : EReal := ∑ l, I.P g j l r * I.D g j l r
def DS (g : Fin 2) (j : Fin 8) (l : Fin 384) (r : Fin 128) : EReal := I.P g j l r * (I.D g j l r - I.Del g j r)

theorem kd_at (g : Fin 2) (l : Fin 384) (x : Fin 128) : (I.kd g) (ix2 l x) = I.K g l ⟨x.val % 64, Nat.mod_lt _ (by decide)⟩ := by
  fin_cases g
  · show k0_pay9 I.km I.kp I.kc (ix2 l x) = _
    pointwise [k0_pay9, pay7_at, pay8_at]
    rw [low_at, select_if']
    unfold K
    split <;> exact congrArg (rows3 _ _ _ l) (Fin.ext (by simp only []; omega))
  · show k0_pay10 I.km I.kp I.kc (ix2 l x) = _
    pointwise [k0_pay10, pay7_at, pay8_at]
    rw [low_at, select_if']
    unfold K
    split <;> exact congrArg (rows3 _ _ _ l) (Fin.ext (by simp only []; omega))
theorem vd_at (g : Fin 2) (l : Fin 384) (x : Fin 128) : (I.vd g) (ix2 l x) = I.W g l ⟨x.val % 64, Nat.mod_lt _ (by decide)⟩ := by
  fin_cases g
  · show k0_pay14 I.vm I.vp I.vc (ix2 l x) = _
    pointwise [k0_pay14, pay11_at, pay12_at]
    rw [low_at, select_if']
    unfold W
    split <;> exact congrArg (rows3 _ _ _ l) (Fin.ext (by simp only []; omega))
  · show k0_pay15 (k0_pay13 I.vm I.vp I.vc) (ix2 l x) = _
    pointwise [k0_pay15, k0_pay13, pay11_at, pay12_at]
    rw [low_at, select_if']
    unfold W
    split <;> exact congrArg (rows3 _ _ _ l) (Fin.ext (by simp only []; omega))
theorem kt_at (g : Fin 2) (l : Fin 384) (x : Fin 128) : (I.kt g) (ix2 x l) = I.K g l ⟨x.val % 64, Nat.mod_lt _ (by decide)⟩ := by
  fin_cases g
  · show k0_pay18 k0_pay6 I.km I.kp I.kc (ix2 x l) = _
    pointwise [k0_pay18, pay16_at, pay17_at]
    rw [low_at, select_if']
    unfold K
    split <;> exact congrArg (rows3 _ _ _ l) (Fin.ext (by simp only []; omega))
  · show k0_pay19 k0_pay6 I.km I.kp I.kc (ix2 x l) = _
    pointwise [k0_pay19, pay16_at, pay17_at]
    rw [low_at, select_if']
    unfold K
    split <;> exact congrArg (rows3 _ _ _ l) (Fin.ext (by simp only []; omega))

theorem qh_at (g : Fin 2) (j : Fin 8) (r : Fin 128) (x : Fin 128) : (I.qh g j) (ix2 r x)
    = if x.val / 64 = j.val % 2 then I.Q g j r ⟨x.val % 64, Nat.mod_lt _ (by decide)⟩ * c8 else (0 : EReal) := by
  unfold qh Q
  by_cases hj : j.val % 2 = 0
  · rw [if_pos hj]
    pointwise [k0_pay30, qTile, k0_pay28]
    rw [low_at, select_if', c8_bf16]
    by_cases hx : x.val < 64
    · rw [if_pos hx, if_pos (by omega)]
      exact congrArg (fun z => I.q (ix2 r z) * c8) (Fin.ext (by simp only []; omega))
    · rw [if_neg hx, if_neg (by omega)]
  · rw [if_neg hj]
    pointwise [k0_pay31, qTile, k0_pay28]
    rw [low_at, select_if', c8_bf16]
    by_cases hx : x.val < 64
    · rw [if_pos hx, if_neg (by omega)]
    · rw [if_neg hx, if_pos (by omega)]
      exact congrArg (fun z => I.q (ix2 r z) * c8) (Fin.ext (by simp only []; omega))
theorem ch_at (g : Fin 2) (j : Fin 8) (r : Fin 128) (x : Fin 128) : (I.ch g j) (ix2 r x)
    = if x.val / 64 = j.val % 2 then I.C g j r ⟨x.val % 64, Nat.mod_lt _ (by decide)⟩ else (0 : EReal) := by
  unfold ch C
  by_cases hj : j.val % 2 = 0
  · rw [if_pos hj]
    pointwise [k0_pay32, cTile, k0_pay29]
    rw [low_at, select_if']
    by_cases hx : x.val < 64
    · rw [if_pos hx, if_pos (by omega)]
      exact congrArg (fun z => I.ct (ix2 r z)) (Fin.ext (by simp only []; omega))
    · rw [if_neg hx, if_neg (by omega)]
  · rw [if_neg hj]
    pointwise [k0_pay33, cTile, k0_pay29]
    rw [low_at, select_if']
    by_cases hx : x.val < 64
    · rw [if_pos hx, if_neg (by omega)]
    · rw [if_neg hx, if_pos (by omega)]
      exact congrArg (fun z => I.ct (ix2 r z)) (Fin.ext (by simp only []; omega))

theorem qs_at (g : Fin 2) (j : Fin 8) (r : Fin 128) (x : Fin 128) : (I.qs g) (ix2 (⟨128 * j.val + r.val, by omega⟩ : Fin 1024) x) = I.qh g j (ix2 r x) := by
  unfold qs
  refine concatenate_ofFn_apply (t := S1024x128) 0 (fun j => I.qh g j) _ rfl 128 rfl (ix2 (⟨128 * j.val + r.val, by omega⟩ : Fin 1024) x) j (show (128 * j.val + r.val) / 128 = j.val by omega) (ix2 r x) (show r.val = (128 * j.val + r.val) % 128 by omega) ?_
  intro b hb
  fin_cases b
  · exact absurd rfl hb
  · rfl
theorem cs_at (g : Fin 2) (j : Fin 8) (r : Fin 128) (x : Fin 128) : (I.cs g) (ix2 (⟨128 * j.val + r.val, by omega⟩ : Fin 1024) x) = I.ch g j (ix2 r x) := by
  unfold cs
  refine concatenate_ofFn_apply (t := S1024x128) 0 (fun j => I.ch g j) _ rfl 128 rfl (ix2 (⟨128 * j.val + r.val, by omega⟩ : Fin 1024) x) j (show (128 * j.val + r.val) / 128 = j.val by omega) (ix2 r x) (show r.val = (128 * j.val + r.val) % 128 by omega) ?_
  intro b hb
  fin_cases b
  · exact absurd rfl hb
  · rfl
theorem dsC_at (g : Fin 2) (j : Fin 8) (l : Fin 384) (r : Fin 128) : (I.dsC g) (ix2 l (⟨128 * j.val + r.val, by omega⟩ : Fin 1024)) = I.ds g j (ix2 l r) := by
  unfold dsC
  refine concatenate_ofFn_apply (t := S384x1024) 1 (fun j => I.ds g j) _ rfl 128 rfl (ix2 l (⟨128 * j.val + r.val, by omega⟩ : Fin 1024)) j (show (128 * j.val + r.val) / 128 = j.val by omega) (ix2 l r) (show r.val = (128 * j.val + r.val) % 128 by omega) ?_
  intro b hb
  fin_cases b
  · rfl
  · exact absurd rfl hb
theorem pC_at (g : Fin 2) (j : Fin 8) (l : Fin 384) (r : Fin 128) : (I.pC g) (ix2 l (⟨128 * j.val + r.val, by omega⟩ : Fin 1024)) = I.pc g j (ix2 l r) := by
  unfold pC
  refine concatenate_ofFn_apply (t := S384x1024) 1 (fun j => I.pc g j) _ rfl 128 rfl (ix2 l (⟨128 * j.val + r.val, by omega⟩ : Fin 1024)) j (show (128 * j.val + r.val) / 128 = j.val by omega) (ix2 l r) (show r.val = (128 * j.val + r.val) % 128 by omega) ?_
  intro b hb
  fin_cases b
  · rfl
  · exact absurd rfl hb

theorem ite_mul' {P : Prop} [Decidable P] (a b : EReal) : a * (if P then b else 0) = if P then a * b else 0 := by
  split <;> simp

theorem st_at (g : Fin 2) (j : Fin 8) (l : Fin 384) (r : Fin 128) : (I.st g) (ix2 l (⟨128 * j.val + r.val, by omega⟩ : Fin 1024)) = I.S g j l r := by
  pointwise [st, qs_at, qh_at, kd_at, ite_mul']
  exact sum_half (j.val % 2) (by omega) fun d => I.K g l d * (I.Q g j r d * c8)
theorem dpt_at (g : Fin 2) (j : Fin 8) (l : Fin 384) (r : Fin 128) : (I.dpt g) (ix2 l (⟨128 * j.val + r.val, by omega⟩ : Fin 1024)) = I.D g j l r := by
  pointwise [dpt, cs_at, ch_at, vd_at, ite_mul']
  exact sum_half (j.val % 2) (by omega) fun d => I.W g l d * I.C g j r d
theorem p_at (g : Fin 2) (j : Fin 8) (l : Fin 384) (r : Fin 128) : (I.p g j) (ix2 l r) = I.P g j l r := by
  pointwise [p, lRow, P, Lse, st_at]
theorem ds_at (g : Fin 2) (j : Fin 8) (l : Fin 384) (r : Fin 128) : (I.ds g j) (ix2 l r) = I.DS g j l r := by
  pointwise [ds, delta, dp, DS, Del, p_at, dpt_at]
theorem pc_at (g : Fin 2) (j : Fin 8) (l : Fin 384) (r : Fin 128) : (I.pc g j) (ix2 l r) = I.P g j l r := by
  pointwise [pc, p_at]
theorem dk_at (g : Fin 2) (l : Fin 384) (x : Fin 128) : (I.dk g) (ix2 l x) =
    ∑ j : Fin 8, ∑ r : Fin 128, if x.val / 64 = j.val % 2 then I.DS g j l r * (I.Q g j r ⟨x.val % 64, Nat.mod_lt _ (by decide)⟩ * c8) else 0 := by
  pointwise [dk]
  rw [sum_tiles]
  simp only [dsC_at, qs_at, qh_at, ds_at, ite_mul']
theorem dv_at (g : Fin 2) (l : Fin 384) (x : Fin 128) : (I.dv g) (ix2 l x) =
    ∑ j : Fin 8, ∑ r : Fin 128, if x.val / 64 = j.val % 2 then I.P g j l r * I.C g j r ⟨x.val % 64, Nat.mod_lt _ (by decide)⟩ else 0 := by
  pointwise [dv]
  rw [sum_tiles]
  simp only [pC_at, cs_at, ch_at, pc_at, ite_mul']

/-- The key gradient of key head `g` at key `l`, before the rotation is carried back. -/
def DK (g : Fin 2) (l : Fin 384) (d : Fin 64) : EReal := ∑ j : Fin 8, ∑ r : Fin 128, I.DS g j l r * (I.Q g j r d * c8)
def DV (g : Fin 2) (l : Fin 384) (d : Fin 64) : EReal := ∑ j : Fin 8, ∑ r : Fin 128, I.P g j l r * I.C g j r d
def DQ (g : Fin 2) (j : Fin 8) (r : Fin 128) (d : Fin 64) : EReal := (∑ l, I.K g l d * I.DS g j l r) * c8

theorem two_halves (x : Fin 128) (F : Fin 8 → Fin 128 → EReal) :
    (∑ j : Fin 8, ∑ r : Fin 128, if x.val / 64 = j.val % 2 then F j r else 0)
      + (∑ j : Fin 8, ∑ r : Fin 128, if (x.val + 128 - 64) % 128 / 64 = j.val % 2 then F j r else 0) = ∑ j : Fin 8, ∑ r : Fin 128, F j r := by
  rw [← Finset.sum_add_distrib]
  refine Finset.sum_congr rfl fun j _ => ?_
  rw [← Finset.sum_add_distrib]
  refine Finset.sum_congr rfl fun r _ => ?_
  by_cases h : x.val / 64 = j.val % 2
  · rw [if_pos h, if_neg (by omega), add_zero]
  · rw [if_neg h, if_pos (by omega), zero_add]

theorem foldK_at (l : Fin 384) (g : Fin 2) (d : Fin 64) : (I.foldK) (ix2 l (⟨64 * g.val + d.val, by omega⟩ : Fin 128)) = I.DK g l d := by
  pointwise [foldK, k0_pay214, dk_at]
  rw [low_at, select_if']
  have e1 : (64 * g.val + d.val) % 64 = d.val := by omega
  have e2 : (64 * g.val + d.val + 128 - 64) % 128 % 64 = d.val := by omega
  simp only [e1, e2, Fin.eta]
  have h0 := two_halves ⟨64 * g.val + d.val, by omega⟩
  fin_cases g
  · rw [if_pos (by simp only []; omega)]; exact h0 fun j r => I.DS 0 j l r * (I.Q 0 j r d * c8)
  · rw [if_neg (by simp only []; omega)]; exact h0 fun j r => I.DS 1 j l r * (I.Q 1 j r d * c8)
theorem foldV_at (l : Fin 384) (g : Fin 2) (d : Fin 64) : (I.foldV) (ix2 l (⟨64 * g.val + d.val, by omega⟩ : Fin 128)) = I.DV g l d := by
  pointwise [foldV, k0_pay215, dv_at]
  rw [low_at, select_if']
  have e1 : (64 * g.val + d.val) % 64 = d.val := by omega
  have e2 : (64 * g.val + d.val + 128 - 64) % 128 % 64 = d.val := by omega
  simp only [e1, e2, Fin.eta]
  have h0 := two_halves ⟨64 * g.val + d.val, by omega⟩
  fin_cases g
  · rw [if_pos (by simp only []; omega)]; exact h0 fun j r => I.P 0 j l r * I.C 0 j r d
  · rw [if_neg (by simp only []; omega)]; exact h0 fun j r => I.P 1 j l r * I.C 1 j r d

theorem dqt_at (g : Fin 2) (j : Fin 8) (r x : Fin 128) : (I.dqt g) (ix2 x (⟨128 * j.val + r.val, by omega⟩ : Fin 1024)) = I.DQ g j r ⟨x.val % 64, Nat.mod_lt _ (by decide)⟩ := by
  pointwise [dqt, kt_at, dsC_at, ds_at, DQ]

/-- The gradient of one tile of queries before the rotation is carried back. -/
def dq0 (p : Fin 8) : FVec Ideal S128x128 .f32 :=
  lanes (extractStridedSlice S128x128 ![0, 128 * (2 * (p.val % 4))] (I.dqt ⟨p.val / 4, by omega⟩) (slices_dq ⟨2 * (p.val % 4), by omega⟩))
    (extractStridedSlice S128x128 ![0, 128 * (2 * (p.val % 4) + 1)] (I.dqt ⟨p.val / 4, by omega⟩) (slices_dq ⟨2 * (p.val % 4) + 1, by omega⟩))
theorem dq_eq (p : Fin 8) : I.dq p = I.rope (I.dq0 p) := rfl

theorem dq0_at (p : Fin 8) (r x : Fin 128) : (I.dq0 p) (ix2 r x)
    = I.DQ ⟨p.val / 4, by omega⟩ ⟨2 * (p.val % 4) + x.val / 64, by omega⟩ r ⟨x.val % 64, Nat.mod_lt _ (by decide)⟩ := by
  unfold dq0 lanes
  pointwise
  rw [low_at, select_if']
  split
  · exact (I.dqt_at ⟨p.val / 4, by omega⟩ ⟨2 * (p.val % 4), by omega⟩ r x).trans (congrArg (fun j => I.DQ _ j r _) (Fin.ext (by simp only []; omega)))
  · exact (I.dqt_at ⟨p.val / 4, by omega⟩ ⟨2 * (p.val % 4) + 1, by omega⟩ r x).trans (congrArg (fun j => I.DQ _ j r _) (Fin.ext (by simp only []; omega)))

/-- The rotation carried back, entry by entry. -/
def turn (y : Fin 128 → EReal) (r x : Fin 128) : EReal :=
  y x * I.c (ix2 r x) + y ⟨(x.val + 128 - 8) % 128, Nat.mod_lt _ (by decide)⟩ * I.sa (ix2 r ⟨(x.val + 128 - 8) % 128, Nat.mod_lt _ (by decide)⟩)
    + y ⟨(x.val + 128 - 120) % 128, Nat.mod_lt _ (by decide)⟩ * I.sb (ix2 r ⟨(x.val + 128 - 120) % 128, Nat.mod_lt _ (by decide)⟩)
theorem rope_at (y : FVec Ideal S128x128 .f32) (r x : Fin 128) : (I.rope y) (ix2 r x) = I.turn (fun x => y (ix2 r x)) r x := by
  pointwise [rope, k0_pay24, k0_pay25, k0_pay26, turn]

theorem delta_at (g : Fin 2) (j : Fin 8) (r : Fin 128) : (I.delta g j) (ix2 0 r) = I.Del g j r := by
  pointwise [delta, dp, Del, p_at, dpt_at]
def Sink (h : Fin 16) : EReal :=
  0 - ∑ r : Fin 128, Ideal.exp (I.s (ix1 h) - I.lse (ix2 h r)) * I.Del ⟨h.val / 8, by omega⟩ ⟨h.val % 8, by omega⟩ r
theorem lane_eq : ∀ (h : Fin 16) (x : Fin 128), IntOp.cmpi .eq (BitVec.ofNat 32 x.val) (BitVec.ofNat 32 h.val) = if x.val = h.val then 1#1 else 0#1 := by decide +kernel
theorem sink_at (h : Fin 16) (x : Fin 128) : (I.sinkAdd h) (ix2 0 x) = if x.val = h.val then I.Sink h else (0 : EReal) := by
  pointwise [sinkAdd, lRow, sWord, delta_at, Fin.sum_univ_one]
  rw [lane_eq, select_if']
  rfl
theorem sinkUpTo_at (x : Fin 128) : ∀ (h : ℕ) (hh : h ≤ 16), (I.sinkUpTo h hh) (ix2 0 x)
    = if hx : x.val < h then I.Sink ⟨x.val, by omega⟩ else (0 : EReal)
  | 0, _ => by
    rw [dif_neg (by omega)]
    pointwise [sinkUpTo, k0_pay27]
  | h + 1, hh => by
    have ih := sinkUpTo_at x h (Nat.le_of_succ_le hh)
    pointwise [sinkUpTo, sink_at]
    rw [ih]
    by_cases h1 : x.val < h
    · rw [dif_pos h1, dif_pos (by omega), if_neg (by omega), add_zero]
    · rw [dif_neg h1, zero_add]
      by_cases h2 : x.val = h
      · rw [if_pos h2, dif_pos (by omega)]; exact congrArg I.Sink (Fin.ext h2.symm)
      · rw [if_neg h2, dif_neg (by omega)]

end In

theorem pay216_at (a b : FVec Ideal S384x128 .f32) (w : Vec Ideal S128x128 .f32) (l : Fin 128) (x : Fin 128) : (k0_pay216 k0_pay6 a b w : FVec Ideal S128x128 .f32) (ix2 l x)
    = w (ix2 l x) + (k0_pay214 k0_pay6 a b : FVec Ideal S384x128 .f32) (ix2 ⟨l.val, by omega⟩ x) := by
  pointwise [k0_pay216]
theorem pay217_at (a b : FVec Ideal S384x128 .f32) (w : Vec Ideal S128x128 .f32) (l : Fin 128) (x : Fin 128) : (k0_pay217 k0_pay6 a b w : FVec Ideal S128x128 .f32) (ix2 l x)
    = w (ix2 l x) + (k0_pay215 k0_pay6 a b : FVec Ideal S384x128 .f32) (ix2 ⟨l.val, by omega⟩ x) := by
  pointwise [k0_pay217]
/-- A block's own keys' gradient: this block's, the next block's, and at the first block everything the meta keys gathered. -/
def closing (n : BitVec 32) (a : FVec Ideal S384x128 .f32) (b d : Vec Ideal S128x128 .f32) (l x : Fin 128) : EReal :=
  a (ix2 ⟨256 + l.val, by omega⟩ x) + b (ix2 l x) + Scalar.select (Scalar.cmpi CmpIPredicate.eq n 0#32) (d (ix2 l x)) (0 : EReal)
theorem pay219_at (I : In) (a : FVec Ideal S384x128 .f32) (b d : Vec Ideal S128x128 .f32) (l : Fin 128) (x : Fin 128) :
    (k0_pay219 I.n (k0_pay24 I.c) (k0_pay25 I.sa) (k0_pay26 I.sb) a b d : FVec Ideal S128x128 .bf16) (ix2 l x) = I.turn (closing I.n a b d l) l x := by
  pointwise [k0_pay219, k0_pay218, In.turn, closing, k0_pay24, k0_pay25, k0_pay26]
theorem pay220_at (n : BitVec 32) (a : FVec Ideal S384x128 .f32) (b d : Vec Ideal S128x128 .f32) (l : Fin 128) (x : Fin 128) :
    (k0_pay220 n a b d : FVec Ideal S128x128 .bf16) (ix2 l x) = closing n a b d l x := by
  pointwise [k0_pay220, k0_pay218, closing]
theorem pay221_at (a : FVec Ideal S384x128 .f32) (l : Fin 128) (x : Fin 128) : (k0_pay221 a : FVec Ideal S128x128 .f32) (ix2 l x) = a (ix2 ⟨128 + l.val, by omega⟩ x) := by
  pointwise [k0_pay221]
theorem pay222_at (a : FVec Ideal S384x128 .f32) (l : Fin 128) (x : Fin 128) : (k0_pay222 a : FVec Ideal S128x128 .f32) (ix2 l x) = a (ix2 ⟨128 + l.val, by omega⟩ x) := by
  pointwise [k0_pay222]
theorem pay213_at (a : FVec Ideal S1x128 .f32) (b : Vec Ideal S1x128 .f32) (x : Fin 128) : (k0_pay213 a b : FVec Ideal S1x128 .f32) (ix2 0 x) = b (ix2 0 x) + a (ix2 0 x) := by
  pointwise [k0_pay213]
theorem pay1_at (l x : Fin 128) : (k0_pay1 (F := Ideal)) (ix2 l x) = (0 : EReal) := by pointwise [k0_pay1]
theorem pay2_at (l x : Fin 128) : (k0_pay2 (F := Ideal)) (ix2 l x) = (0 : EReal) := by pointwise [k0_pay2]
theorem pay3_at (l x : Fin 128) : (k0_pay3 (F := Ideal)) (ix2 l x) = (0 : EReal) := by pointwise [k0_pay3]
theorem pay4_at (l x : Fin 128) : (k0_pay4 (F := Ideal)) (ix2 l x) = (0 : EReal) := by pointwise [k0_pay4]
theorem pay5_at (l : Fin 8) (x : Fin 128) : (k0_pay5 (F := Ideal)) (ix2 l x) = (0 : EReal) := by pointwise [k0_pay5]

end Cert.AttnBwdIdeal.Hand
-- ==== Proof.AttnMask.lean ====
/- Which keys a query attends to: the meta keys up to it, and the band of 128 before it. Both programs' integer tests say the same. -/
module

public import proofs.«01_k».proof.Proof.Rows
public import Idealize.ShloMosaic.Lib.Pipeline.ValueKit
public import Idealize.ShloMosaic.Lib.Pointwise

@[expose] public section

set_option maxRecDepth 16384

noncomputable section

namespace Cert.Mask
open Idealize.ShloMosaic

/-- Small integers, as words. -/
abbrev w (a : ℤ) : BitVec 32 := BitVec.ofInt 32 a

theorem w_nat (n : ℕ) : BitVec.ofNat 32 n = w n := (BitVec.ofInt_natCast 32 n).symm
theorem w_add (a b : ℤ) : IntOp.addi (w a) (w b) = w (a + b) := (BitVec.ofInt_add a b).symm
theorem w_mul (a b : ℤ) : IntOp.muli (w a) (w b) = w (a * b) := (BitVec.ofInt_mul a b).symm
theorem w_sub (a b : ℤ) : IntOp.subi (w a) (w b) = w (a - b) := by
  show BitVec.ofInt 32 a - BitVec.ofInt 32 b = BitVec.ofInt 32 (a - b)
  rw [sub_eq_add_neg a b, BitVec.ofInt_add, BitVec.ofInt_neg, BitVec.sub_eq_add_neg]
theorem w_toInt (a : ℤ) (h1 : -2147483648 ≤ a) (h2 : a < 2147483648) : (w a).toInt = a :=
  BitVec.toInt_ofInt_eq_self (by decide) h1 h2
theorem w_le (a b : ℤ) (h1 : -2147483648 ≤ a) (h2 : a < 2147483648) (h3 : -2147483648 ≤ b) (h4 : b < 2147483648) :
    IntOp.cmpi .sle (w a) (w b) = if a ≤ b then 1#1 else 0#1 := by
  by_cases h : a ≤ b <;> simp [IntOp.cmpi, BitVec.sle, w_toInt a h1 h2, w_toInt b h3 h4, h]
theorem w_lt (a b : ℤ) (h1 : -2147483648 ≤ a) (h2 : a < 2147483648) (h3 : -2147483648 ≤ b) (h4 : b < 2147483648) :
    IntOp.cmpi .slt (w a) (w b) = if a < b then 1#1 else 0#1 := by
  by_cases h : a < b <;> simp [IntOp.cmpi, BitVec.slt, w_toInt a h1 h2, w_toInt b h3 h4, h]
theorem w_ge (a b : ℤ) (h1 : -2147483648 ≤ a) (h2 : a < 2147483648) (h3 : -2147483648 ≤ b) (h4 : b < 2147483648) :
    IntOp.cmpi .sge (w a) (w b) = if b ≤ a then 1#1 else 0#1 := by
  by_cases h : b ≤ a <;> simp [IntOp.cmpi, BitVec.sle, w_toInt a h1 h2, w_toInt b h3 h4, h]
theorem and_if (P Q : Prop) [Decidable P] [Decidable Q] : IntOp.andi (if P then 1#1 else 0#1) (if Q then 1#1 else 0#1) = if P ∧ Q then 1#1 else 0#1 := by
  by_cases h : P <;> by_cases h' : Q <;> simp [h, h', IntOp.andi]
theorem or_if (P Q : Prop) [Decidable P] [Decidable Q] : IntOp.ori (if P then 1#1 else 0#1) (if Q then 1#1 else 0#1) = if P ∨ Q then 1#1 else 0#1 := by
  by_cases h : P <;> by_cases h' : Q <;> simp [h, h', IntOp.ori]
theorem if_congr' {P Q : Prop} [Decidable P] [Decidable Q] (h : P ↔ Q) : (if P then 1#1 else 0#1 : BitVec 1) = if Q then 1#1 else 0#1 := by
  by_cases hp : P
  · rw [if_pos hp, if_pos (h.mp hp)]
  · rw [if_neg hp, if_neg fun q => hp (h.mpr q)]

/-- Key `l` of block `n`'s 384 (the meta block, the block before, the block itself), seen from the block's query `r`. -/
def ok (n : ℕ) (r : ℕ) (l : ℕ) : Prop := if l < 128 then 112 ≤ l ∧ l ≤ 128 * n + r else 384 ≤ 128 * n + l ∧ l ≤ r + 256 ∧ r + 128 < l
instance (n r l : ℕ) : Decidable (ok n r l) := by unfold ok; infer_instance

/-- The row of the padded arrays that key `l` lies in. -/
def rowOf (n : Fin 33) (l : Fin 384) : Fin 4224 :=
  if l.val < 128 then ⟨l.val, by omega⟩ else if l.val < 256 then ⟨128 * (n.val - 1) + (l.val - 128), by omega⟩ else ⟨128 * n.val + (l.val - 256), by omega⟩

end Cert.Mask
-- ==== Proof.AttnMasks.lean ====
module

public import proofs.«01_k».proof.Proof.AttnMask
public import proofs.«01_k».proof.Proof.AttnBwdReads
public import proofs.«01_k».proof.Proof.Gen.AttnRefIdeal.Read

@[expose] public section

set_option maxRecDepth 16384

noncomputable section

namespace Cert.AttnBwdIdeal.Hand
open Idealize.ShloMosaic Cert.AttnBwdIdeal Cert.AttnBwdIdeal.Gen Cert.Mask
theorem mask_at (I : In) (n : Fin 33) (hn : I.n = BitVec.ofNat 32 n.val) (l : Fin 384) (r : Fin 128) :
    I.mask (ix2 l r) = if ok n.val r.val l.val then 1#1 else 0#1 := by
  pointwise [In.mask, k0_pay23, k0_pay20, k0_pay21, k0_pay22]
  have h1 := n.isLt; have h2 := l.isLt; have h3 := r.isLt
  simp (disch := omega) only [hn, Scalar.muli, Scalar.subi, w_nat, w_add, w_mul, w_sub, w_le, w_lt, w_ge, and_if, or_if]
  refine if_congr' ?_
  unfold ok
  split <;> omega
end Cert.AttnBwdIdeal.Hand
namespace Cert.AttnRefIdeal.Val
open Cert.AttnRefIdeal Cert.AttnRefIdeal.Gen Cert.AttnRefIdeal.Read
open Idealize.ShloMosaic Idealize.ShloMosaic.TcCoe Idealize.ShloMosaic.Tactic
open Cert.Mask
theorem mask_at (n : Fin 33) (r : Fin 128) (x : Fin 272) : (val_main_v123 (F := Ideal)) (ix3 n r x) = if ok n.val r.val (x.val + 112) then 1#1 else 0#1 := by
  pointwise [val_main_v96, val_main_v97, val_main_v98, val_main_v99,val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_c, val_main_c_12, val_main_c_13, val_main_c_14]
  have h1 := n.isLt; have h2 := x.isLt; have h3 := r.isLt
  split
  · simp (disch := omega) only [w_nat, w_add, w_mul, w_sub, w_le, w_lt, w_ge, and_if, or_if]
    refine if_congr' ?_
    unfold ok
    split <;> omega
  split
  · simp (disch := omega) only [w_nat, w_add, w_mul, w_sub, w_le, w_lt, w_ge, and_if, or_if]
    refine if_congr' ?_
    unfold ok
    split <;> omega
  · simp (disch := omega) only [w_nat, w_add, w_mul, w_sub, w_le, w_lt, w_ge, and_if, or_if]
    refine if_congr' ?_
    unfold ok
    split <;> omega

end Cert.AttnRefIdeal.Val
-- ==== Proof.AttnBwdHost.lean ====
/- The arrays the host hands the kernel, in the reference's own values. -/
module

public import proofs.«01_k».proof.Proof.AttnBwdFrame
public import proofs.«01_k».proof.Proof.Pad
public import proofs.«01_k».proof.Proof.Gen.AttnRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.AttnBwdIdeal.Hand
open Cert.AttnBwdIdeal Cert.AttnBwdIdeal.Gen
open Idealize.ShloMosaic Idealize.ShloMosaic.TcCoe Idealize.ShloMosaic.Tactic
open Cert.Rows Cert.Pad

variable (m : (ℓ : Loc nD τ sig) → Buf (Elt Ideal) ℓ) (c : Dev nD)

abbrev proj : FVec Ideal S1x4112x1280 .f32 := m ((c.tc : Thread nD τ).loc main_arg0)
abbrev sinks : FVec Ideal S1x16 .f32 := m ((c.tc : Thread nD τ).loc main_arg1)
abbrev grads : FVec Ideal S1x4112x1024 .f32 := m ((c.tc : Thread nD τ).loc main_arg2)

set_option maxHeartbeats 1000000 in
theorem host_qkv : @Eq (FVec Ideal S4224x1280 .bf16) (V m c main_v143)
    (truncf .bf16 (pad S4224x1280 ![112, 0] ![0, 0] ![0, 0]
      (concatenate S4112x1280 1 [⟨S4112x1024, shapeCast _ (AttnRefIdeal.Read.val_main_v40 (F := Ideal) (proj m c)) shapeCasts_S4112x16x64_S4112x1024⟩,
        ⟨S4112x128, shapeCast _ (AttnRefIdeal.Read.val_main_v75 (F := Ideal) (proj m c)) shapeCasts_S4112x2x64_S4112x128⟩,
        ⟨S4112x128, shapeCast _ (AttnRefIdeal.Read.val_main_v76 (F := Ideal) (proj m c)) shapeCasts_S4112x2x64_S4112x128⟩]
        concatenates_S4112x1024_S4112x128_S4112x128_S4112x1280_d1)
      (sitofp .f32 (constantI S_ 32 0#32)) pads_S4112x1280_S4224x1280_11200_000 h_S_) bitsLt_bf16_f32) := by
  unfold V
  simp only [List.flatten_cons, List.flatten_nil, List.cons_append, List.nil_append, List.append_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]
  after_results
  simp only [StableHlo.TRef.toBuf, StableHlo.TRef.ofBuf, cast_eq]
  sl_kernel_rfl

set_option maxHeartbeats 1000000 in
theorem host_ct : @Eq (FVec Ideal S4224x1024 .bf16) (V m c main_v146)
    (truncf .bf16 (pad S4224x1024 ![112, 0] ![0, 0] ![0, 0]
      (shapeCast S4112x1024 (grads m c) shapeCasts_S1x4112x1024_S4112x1024)
      (sitofp .f32 (constantI S_ 32 0#32)) pads_S4112x1024_S4224x1024_11200_000 h_S_) bitsLt_bf16_f32) := by
  unfold V
  simp only [List.flatten_cons, List.flatten_nil, List.cons_append, List.nil_append, List.append_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]
  after_results
  simp only [StableHlo.TRef.toBuf, StableHlo.TRef.ofBuf, cast_eq]
  sl_kernel_rfl

set_option maxHeartbeats 1000000 in
theorem host_lse : @Eq (FVec Ideal S528x128 .f32) (V m c main_v147)
    (shapeCast S528x128 (addf (broadcastInDim S33x2x8x128x1 ![0, 1, 2, 3] bcast_S33x2x8x128_S33x2x8x128x1_0_1_2_3 (AttnRefIdeal.Read.val_main_v132 (F := Ideal) (proj m c) (sinks m c)))
      (Host.log (broadcastInDim S33x2x8x128x1 ![0, 1, 2, 3] bcast_S33x2x8x128_S33x2x8x128x1_0_1_2_3 (Host.reduceAdd (Host.exp (subf (AttnRefIdeal.Read.val_main_v131 (F := Ideal) (proj m c) (sinks m c))
        (broadcastInDim S33x2x8x128x273 ![0, 1, 2, 3, 4] bcast_S33x2x8x128x1_S33x2x8x128x273_0_1_2_3_4 (broadcastInDim S33x2x8x128x1 ![0, 1, 2, 3] bcast_S33x2x8x128_S33x2x8x128x1_0_1_2_3 (AttnRefIdeal.Read.val_main_v132 (F := Ideal) (proj m c) (sinks m c))))))
        (constant S_ .f32 0x00000000#32) reducesTo_S33x2x8x128x273_S33x2x8x128_d4 h_S_)))) shapeCasts_S33x2x8x128x1_S528x128) := by
  unfold V
  simp only [List.flatten_cons, List.flatten_nil, List.cons_append, List.nil_append, List.append_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]
  after_results
  simp only [StableHlo.TRef.toBuf, StableHlo.TRef.ofBuf, cast_eq]
  sl_kernel_rfl

set_option maxHeartbeats 1000000 in
theorem host_sinks : @Eq (FVec Ideal S16 .f32) (V m c main_v148)
    (shapeCast S16 (sinks m c) shapeCasts_S1x16_S16) := by
  unfold V
  simp only [List.flatten_cons, List.flatten_nil, List.cons_append, List.nil_append, List.append_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]
  after_results
  simp only [StableHlo.TRef.toBuf, StableHlo.TRef.ofBuf, cast_eq]
  sl_kernel_rfl

/-- A lane's place within its head. -/
def lane64 : Vec Ideal S128 .i32 := fun j => BitVec.ofNat 32 ((j 0).val % 64)
/-- A lane's place within its group of eight. -/
def lane8 : Vec Ideal S128 .i32 := fun j => BitVec.ofNat 32 ((j 0).val % 8)
/-- The angle of every row and lane. -/
def angles (a : Vec Ideal S128 .i32) : FVec Ideal S4224x128 .f32 :=
  mulf (broadcastInDim S4224x128 ![0, 1] bcast_S4224x1_S4224x128_0_1 (broadcastInDim S4224x1 ![0] bcast_S4224_S4224x1_0 (sitofp (F := Ideal) .f32 (subi (iotaInDim S4224 32 0) (broadcastInDim S4224 ![] bcast_S_S4224 (constantI S_ 32 112#32))))))
    (broadcastInDim S4224x128 ![0, 1] bcast_S1x128_S4224x128_0_1 (broadcastInDim S1x128 ![1] bcast_S128_S1x128_1 (Host.powf (broadcastInDim S128 ![] bcast_S_S128 (constant S_ .f32 0x48F42400#32))
      (Host.divf (mulf (Host.negf (sitofp (F := Ideal) .f32 a)) (broadcastInDim S128 ![] bcast_S_S128 (constant S_ .f32 0x40000000#32))) (broadcastInDim S128 ![] bcast_S_S128 (constant S_ .f32 0x41800000#32))))))

set_option maxHeartbeats 1000000 in
theorem host_lane64 : @Eq (Vec Ideal S128 .i32) (V m c main_v150) lane64 := by
  unfold V
  simp only [List.flatten_cons, List.flatten_nil, List.cons_append, List.nil_append, List.append_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]
  after_results
  simp only [StableHlo.TRef.toBuf, StableHlo.TRef.ofBuf, cast_eq]
  funext j
  rw [eq_ix1 j]
  generalize j 0 = x
  revert x
  decide +kernel

set_option maxHeartbeats 1000000 in
theorem host_lane8 : @Eq (Vec Ideal S128 .i32) (V m c main_v151) lane8 := by
  unfold V
  simp only [List.flatten_cons, List.flatten_nil, List.cons_append, List.nil_append, List.append_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]
  after_results
  simp only [StableHlo.TRef.toBuf, StableHlo.TRef.ofBuf, cast_eq]
  funext j
  rw [eq_ix1 j]
  generalize j 0 = x
  revert x
  decide +kernel

set_option maxHeartbeats 1000000 in
theorem host_cos : @Eq (FVec Ideal S4224x128 .f32) (V m c main_v173)
    (select (broadcastInDim S4224x128 ![1] bcast_S128_S4224x128_1 (cmpi .slt (V m c main_v150 : Vec Ideal S128 .i32) (broadcastInDim S128 ![] bcast_S_S128 (constantI S_ 32 16#32))))
      (Host.cos (angles (V m c main_v151))) (broadcastInDim S4224x128 ![] bcast_S_S4224x128 (constant S_ .f32 0x3F800000#32))) := by
  unfold V
  simp only [List.flatten_cons, List.flatten_nil, List.cons_append, List.nil_append, List.append_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]
  after_results
  simp only [StableHlo.TRef.toBuf, StableHlo.TRef.ofBuf, cast_eq]
  sl_kernel_rfl

set_option maxHeartbeats 1000000 in
theorem host_sa : @Eq (FVec Ideal S4224x128 .f32) (V m c main_v177)
    (select (broadcastInDim S4224x128 ![1] bcast_S128_S4224x128_1 (cmpi .slt (V m c main_v150 : Vec Ideal S128 .i32) (broadcastInDim S128 ![] bcast_S_S128 (constantI S_ 32 8#32))))
      (Host.negf (Host.sin (angles (V m c main_v151)))) (broadcastInDim S4224x128 ![] bcast_S_S4224x128 (constant S_ .f32 0x00000000#32))) := by
  unfold V
  simp only [List.flatten_cons, List.flatten_nil, List.cons_append, List.nil_append, List.append_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]
  after_results
  simp only [StableHlo.TRef.toBuf, StableHlo.TRef.ofBuf, cast_eq]
  sl_kernel_rfl

set_option maxHeartbeats 1000000 in
theorem host_sb : @Eq (FVec Ideal S4224x128 .f32) (V m c main_v183)
    (select (broadcastInDim S4224x128 ![1] bcast_S128_S4224x128_1 (andi (cmpi .sge (V m c main_v150 : Vec Ideal S128 .i32) (broadcastInDim S128 ![] bcast_S_S128 (constantI S_ 32 8#32)))
        (cmpi .slt (V m c main_v150 : Vec Ideal S128 .i32) (broadcastInDim S128 ![] bcast_S_S128 (constantI S_ 32 16#32)))))
      (Host.sin (angles (V m c main_v151))) (broadcastInDim S4224x128 ![] bcast_S_S4224x128 (constant S_ .f32 0x00000000#32))) := by
  unfold V
  simp only [List.flatten_cons, List.flatten_nil, List.cons_append, List.nil_append, List.append_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]
  after_results
  simp only [StableHlo.TRef.toBuf, StableHlo.TRef.ofBuf, cast_eq]
  sl_kernel_rfl

/-- The angle by which position `i` turns the pair `k`. -/
def angle (i : Fin 4112) (k : ℕ) : EReal :=
  FloatOps.sitofp (F := Ideal) FTy.f32 (BitVec.ofNat 32 i.val) *
    Ideal.pow (Ideal.ofBits FTy.f32 1223959552#32)
      (Ideal.div (-FloatOps.sitofp (F := Ideal) FTy.f32 (BitVec.ofNat 32 k) * Ideal.ofBits FTy.f32 1073741824#32)
        (Ideal.ofBits FTy.f32 1098907648#32))

theorem word_sub (i : Fin 4112) : IntOp.subi (BitVec.ofNat 32 (i.val + 112)) 112#32 = BitVec.ofNat 32 i.val := by
  show BitVec.ofNat 32 (i.val + 112) - 112#32 = _
  rw [BitVec.ofNat_add]; exact BitVec.add_sub_cancel _ _

theorem lane_lt16 : ∀ x : Fin 128, IntOp.cmpi .slt (BitVec.ofNat 32 (x.val % 64)) 16#32 = if x.val % 64 < 16 then 1#1 else 0#1 := by decide +kernel
theorem lane_lt8 : ∀ x : Fin 128, IntOp.cmpi .slt (BitVec.ofNat 32 (x.val % 64)) 8#32 = if x.val % 64 < 8 then 1#1 else 0#1 := by decide +kernel
theorem lane_mid : ∀ x : Fin 128, IntOp.andi (IntOp.cmpi .sge (BitVec.ofNat 32 (x.val % 64)) 8#32) (IntOp.cmpi .slt (BitVec.ofNat 32 (x.val % 64)) 16#32)
    = if 8 ≤ x.val % 64 ∧ x.val % 64 < 16 then 1#1 else 0#1 := by decide +kernel

theorem select_if {α : Type} (P : Prop) [Decidable P] (a b : α) : Scalar.select (if P then 1#1 else 0#1) a b = if P then a else b := by
  by_cases h : P <;> simp [h, Scalar.select]

/-- The row of the padded arrays that holds position `i`. -/
abbrev Rw (i : Fin 4112) : Fin 4224 := ⟨i.val + 112, by omega⟩

theorem tab_cos (i : Fin 4112) (x : Fin 128) : (V m c main_v173 : FVec Ideal S4224x128 .f32) (ix2 (Rw i) x)
    = if x.val % 64 < 16 then Ideal.cos (angle i (x.val % 8)) else (1 : EReal) := by
  rw [host_cos, host_lane64, host_lane8]
  pointwise [angles, lane64, lane8]
  rw [word_sub, lane_lt16, select_if]
  rfl
theorem tab_sa (i : Fin 4112) (x : Fin 128) : (V m c main_v177 : FVec Ideal S4224x128 .f32) (ix2 (Rw i) x)
    = if x.val % 64 < 8 then -Ideal.sin (angle i (x.val % 8)) else (0 : EReal) := by
  rw [host_sa, host_lane64, host_lane8]
  pointwise [angles, lane64, lane8]
  rw [word_sub, lane_lt8, select_if]
  rfl
theorem tab_sb (i : Fin 4112) (x : Fin 128) : (V m c main_v183 : FVec Ideal S4224x128 .f32) (ix2 (Rw i) x)
    = if 8 ≤ x.val % 64 ∧ x.val % 64 < 16 then Ideal.sin (angle i (x.val % 8)) else (0 : EReal) := by
  rw [host_sb, host_lane64, host_lane8]
  pointwise [angles, lane64, lane8]
  rw [word_sub, lane_mid, select_if]
  rfl

theorem ref_cos (i : Fin 4112) (k : Fin 8) : (AttnRefIdeal.Read.val_main_v21 (F := Ideal)) (ix2 i k) = Ideal.cos (angle i k.val) := by
  pointwise [AttnRefIdeal.Read.val_main_v5,AttnRefIdeal.Read.val_main_v7,AttnRefIdeal.Read.val_main_v8,AttnRefIdeal.Read.val_main_v9,AttnRefIdeal.Read.val_main_v10,AttnRefIdeal.Read.val_main_v11,AttnRefIdeal.Read.val_main_v12,AttnRefIdeal.Read.val_main_v13,AttnRefIdeal.Read.val_main_v14,AttnRefIdeal.Read.val_main_v15,AttnRefIdeal.Read.val_main_v16,AttnRefIdeal.Read.val_main_v17,AttnRefIdeal.Read.val_main_v18,AttnRefIdeal.Read.val_main_v19,AttnRefIdeal.Read.val_main_v20,AttnRefIdeal.Read.val_main_v21,AttnRefIdeal.Read.val_main_v22,AttnRefIdeal.Read.val_main_v23,AttnRefIdeal.Read.val_main_cst,AttnRefIdeal.Read.val_main_cst_0,AttnRefIdeal.Read.val_main_cst_1]
  rfl
theorem ref_sin (i : Fin 4112) (k : Fin 8) : (AttnRefIdeal.Read.val_main_v23 (F := Ideal)) (ix2 i k) = Ideal.sin (angle i k.val) := by
  pointwise [AttnRefIdeal.Read.val_main_v5,AttnRefIdeal.Read.val_main_v7,AttnRefIdeal.Read.val_main_v8,AttnRefIdeal.Read.val_main_v9,AttnRefIdeal.Read.val_main_v10,AttnRefIdeal.Read.val_main_v11,AttnRefIdeal.Read.val_main_v12,AttnRefIdeal.Read.val_main_v13,AttnRefIdeal.Read.val_main_v14,AttnRefIdeal.Read.val_main_v15,AttnRefIdeal.Read.val_main_v16,AttnRefIdeal.Read.val_main_v17,AttnRefIdeal.Read.val_main_v18,AttnRefIdeal.Read.val_main_v19,AttnRefIdeal.Read.val_main_v20,AttnRefIdeal.Read.val_main_v21,AttnRefIdeal.Read.val_main_v22,AttnRefIdeal.Read.val_main_v23,AttnRefIdeal.Read.val_main_cst,AttnRefIdeal.Read.val_main_cst_0,AttnRefIdeal.Read.val_main_cst_1]
  rfl

theorem fin_angle (i : Fin 4112) (k : ℕ) : Fin' (angle i k) := by
  unfold angle
  have e : ∃ t : ℝ, Ideal.ofBits FTy.f32 1223959552#32 = (t : EReal) := ⟨16000000 * 2 ^ (-5 : ℤ), by simp [Ideal.ofBits, Ideal.ieee, -EReal.coe_mul]⟩
  have e2 : ∃ t : ℝ, t ≠ 0 ∧ Ideal.ofBits FTy.f32 1098907648#32 = (t : EReal) := ⟨16, by norm_num, by simp [Ideal.ofBits, Ideal.ieee, -EReal.coe_mul]; norm_num⟩
  obtain ⟨t, e⟩ := e
  obtain ⟨u, hu, e2⟩ := e2
  rw [e, e2, show Ideal.ofBits FTy.f32 1073741824#32 = ((2 : ℝ) : EReal) from two_eq]
  refine Fin'.mul ⟨_, rfl⟩ ?_
  refine ⟨_, (congrArg (Ideal.pow (t : EReal)) (show Ideal.div (-FloatOps.sitofp (F := Ideal) FTy.f32 (BitVec.ofNat 32 k) * ((2 : ℝ) : EReal)) (u : EReal)
    = (((-((BitVec.ofNat 32 k).toInt : ℝ) * 2) / u : ℝ) : EReal) from ?_)).trans rfl⟩
  rw [← div_coe_coe _ hu, EReal.coe_mul, EReal.coe_neg]
  rfl

theorem fin_cos (i : Fin 4112) (k : ℕ) : Fin' (Ideal.cos (angle i k)) := by
  obtain ⟨r, h⟩ := fin_angle i k
  rw [h]; exact ⟨_, rfl⟩
theorem fin_sin (i : Fin 4112) (k : ℕ) : Fin' (Ideal.sin (angle i k)) := by
  obtain ⟨r, h⟩ := fin_angle i k
  rw [h]; exact ⟨_, rfl⟩

/-- The rotated queries, the rotated keys, the values and the incoming gradient, with their zero rows in front. -/
def qE (h : Fin 16) (d : Fin 64) : Fin 4224 → EReal := padRow fun i => AttnRefIdeal.Read.val_main_v40 (F := Ideal) (proj m c) (ix3 i h d)
def kE (g : Fin 2) (d : Fin 64) : Fin 4224 → EReal := padRow fun i => AttnRefIdeal.Read.val_main_v75 (F := Ideal) (proj m c) (ix3 i g d)
def vE (g : Fin 2) (d : Fin 64) : Fin 4224 → EReal := padRow fun i => AttnRefIdeal.Read.val_main_v76 (F := Ideal) (proj m c) (ix3 i g d)
def cE (h : Fin 16) (d : Fin 64) : Fin 4224 → EReal := padRow fun i => grads m c (ix3 0 i ⟨64 * h.val + d.val, by omega⟩)

theorem zero_word : (FloatOps.sitofp (F := Ideal) FTy.f32 0#32 : EReal) = 0 := (EReal.coe_natCast (n := 0)).trans (by simp)

theorem host_q (R : Fin 4224) (h : Fin 16) (d : Fin 64) : (V m c main_v143 : FVec Ideal S4224x1280 .bf16) (ix2 R ⟨64 * h.val + d.val, by omega⟩) = qE m c h d R := by
  rw [host_qkv]
  pointwise
  unfold qE padRow
  by_cases hR : 112 ≤ R.val
  · rw [dif_pos ⟨⟨hR, by omega⟩, by omega⟩, dif_pos (by omega), dif_pos hR]
  · rw [dif_neg (fun hh => hR hh.1.1), dif_neg hR]
    exact zero_word
theorem host_k (R : Fin 4224) (g : Fin 2) (d : Fin 64) : (V m c main_v143 : FVec Ideal S4224x1280 .bf16) (ix2 R ⟨1024 + (64 * g.val + d.val), by omega⟩) = kE m c g d R := by
  rw [host_qkv]
  pointwise
  unfold kE padRow
  by_cases hR : 112 ≤ R.val
  · rw [dif_pos ⟨⟨hR, by omega⟩, by omega⟩, dif_pos (by omega), dif_pos hR]
  · rw [dif_neg (fun hh => hR hh.1.1), dif_neg hR]
    exact zero_word
theorem host_v (R : Fin 4224) (g : Fin 2) (d : Fin 64) : (V m c main_v143 : FVec Ideal S4224x1280 .bf16) (ix2 R ⟨1152 + (64 * g.val + d.val), by omega⟩) = vE m c g d R := by
  rw [host_qkv]
  pointwise
  unfold vE padRow
  by_cases hR : 112 ≤ R.val
  · rw [dif_pos ⟨⟨hR, by omega⟩, by omega⟩, dif_neg (by omega), dif_neg (by omega), dif_pos hR]
    exact congrArg (AttnRefIdeal.Read.val_main_v76 (F := Ideal) (proj m c)) (congrArg₂ (ix3 _) (Fin.ext (by simp only []; omega)) (Fin.ext (by simp only []; omega)))
  · rw [dif_neg (fun hh => hR hh.1.1), dif_neg hR]
    exact zero_word
theorem host_c (R : Fin 4224) (h : Fin 16) (d : Fin 64) : (V m c main_v146 : FVec Ideal S4224x1024 .bf16) (ix2 R ⟨64 * h.val + d.val, by omega⟩) = cE m c h d R := by
  rw [host_ct]
  pointwise
  unfold cE padRow
  by_cases hR : 112 ≤ R.val
  · rw [dif_pos ⟨⟨hR, by omega⟩, by omega⟩, dif_pos hR]
  · rw [dif_neg (fun hh => hR hh.1.1), dif_neg hR]
    exact zero_word

theorem lse_at (L : FVec Ideal S33x2x8x128x273 .f32) (M : FVec Ideal S33x2x8x128 .f32) (n : Fin 33) (g : Fin 2) (j : Fin 8) (r : Fin 128) :
   (Host.reduceAdd (Host.exp (subf L
        (broadcastInDim S33x2x8x128x273 ![0, 1, 2, 3, 4] bcast_S33x2x8x128x1_S33x2x8x128x273_0_1_2_3_4 (broadcastInDim S33x2x8x128x1 ![0, 1, 2, 3] bcast_S33x2x8x128_S33x2x8x128x1_0_1_2_3 M))))
        (constant S_ .f32 0x00000000#32) reducesTo_S33x2x8x128x273_S33x2x8x128_d4 h_S_ : FVec Ideal S33x2x8x128 .f32) (ix4 n g j r) = ∑ x : Fin 273, Ideal.exp (L (ix5 n g j r x) - M (ix4 n g j r)) := by
  pointwise

theorem lse_sh (M Z : FVec Ideal S33x2x8x128 .f32) (n : Fin 33) (g : Fin 2) (j : Fin 8) (r : Fin 128) :
  (shapeCast S528x128 (addf (broadcastInDim S33x2x8x128x1 ![0, 1, 2, 3] bcast_S33x2x8x128_S33x2x8x128x1_0_1_2_3 M)
      (Host.log (broadcastInDim S33x2x8x128x1 ![0, 1, 2, 3] bcast_S33x2x8x128_S33x2x8x128x1_0_1_2_3 Z))) shapeCasts_S33x2x8x128x1_S528x128) (ix2 ⟨16 * n.val + (8 * g.val + j.val), by omega⟩ r)
   = M (ix4 n g j r) + Ideal.log (Z (ix4 n g j r)) := by
  pointwise

theorem host_l (n : Fin 33) (g : Fin 2) (j : Fin 8) (r : Fin 128) : (V m c main_v147 : FVec Ideal S528x128 .f32) (ix2 ⟨16 * n.val + (8 * g.val + j.val), by omega⟩ r)
    = AttnRefIdeal.Read.val_main_v132 (F := Ideal) (proj m c) (sinks m c) (ix4 n g j r) + Ideal.log (∑ x : Fin 273, Ideal.exp
      (AttnRefIdeal.Read.val_main_v131 (F := Ideal) (proj m c) (sinks m c) (ix5 n g j r x) - AttnRefIdeal.Read.val_main_v132 (F := Ideal) (proj m c) (sinks m c) (ix4 n g j r))) := by
  refine (congrFun (host_lse m c) _).trans ((lse_sh _ _ n g j r).trans ?_)
  rw [lse_at]

theorem host_s (h : Fin 16) : (V m c main_v148 : FVec Ideal S16 .f32) (ix1 h) = sinks m c (ix2 0 h) := by
  rw [host_sinks]
  pointwise

end Cert.AttnBwdIdeal.Hand
-- ==== Proof.AttnRow.lean ====
/- One query's softmax over its keys and a sink, and the gradient of it, in the kernel's words and in the reference's. -/
module

public import proofs.«01_k».proof.Proof.Rows
public import Idealize.ShloMosaic.Lib.Pipeline.ValueKit

@[expose] public section

set_option maxRecDepth 16384

noncomputable section

namespace Cert.Row
open Idealize.ShloMosaic Cert.Rows

variable {k : ℕ} (ok : Fin k → Prop) [DecidablePred ok] (S D D' : Fin k → EReal) (s m : EReal)

/-- The exponentials of the attended keys' logits, the largest taken off. -/
def E (x : Fin k) : EReal := Ideal.exp ((if ok x then S x else ⊥) - m)
/-- The sink's. -/
def Es : EReal := Ideal.exp (s - m)
def Z : EReal := (∑ x, E ok S m x) + Es s m
def lse : EReal := m + Ideal.log (Z ok S s m)
/-- The probabilities, from the logarithm of the sum. -/
def p (x : Fin k) : EReal := if ok x then Ideal.exp (S x - lse ok S s m) else 0
def del : EReal := ∑ y, p ok S s m y * D y
/-- The gradient a division by the sum hands down to the sum. -/
def down : EReal := -((∑ y, D' y * Ideal.div 1 (Z ok S s m * Z ok S s m) * E ok S m y) + 0 * Ideal.div 1 (Z ok S s m * Z ok S s m) * Es s m)

theorem real_of {f : Fin k → EReal} (h : ∀ x, Fin' (f x)) : ∃ g : Fin k → ℝ, ∀ x, f x = (g x : EReal) :=
  ⟨fun x => (h x).choose, fun x => (h x).choose_spec⟩

theorem row (hS : ∀ x, Fin' (S x)) (hD : ∀ x, Fin' (D x)) (hD' : ∀ x, ok x → D' x = D x) (hD'' : ∀ x, Fin' (D' x)) (hs : Fin' s) (hm : Fin' m) :
    (∀ x, p ok S s m x = Ideal.div (E ok S m x) (Z ok S s m))
    ∧ (∀ x, ok x → p ok S s m x * (D x - del ok S D s m) = (Ideal.div (D' x) (Z ok S s m) + down ok S D' s m) * E ok S m x)
    ∧ Fin' (Ideal.exp (s - lse ok S s m) * del ok S D s m)
    ∧ -(Ideal.exp (s - lse ok S s m) * del ok S D s m) = (Ideal.div 0 (Z ok S s m) + down ok S D' s m) * Es s m := by
  obtain ⟨a, ha⟩ := real_of hS
  obtain ⟨b, hb⟩ := real_of hD
  obtain ⟨b', hb'⟩ := real_of hD''
  obtain ⟨u, rfl⟩ := hs
  obtain ⟨v, rfl⟩ := hm
  have hbb : ∀ x, ok x → b' x = b x := fun x hx => by
    have := hD' x hx
    rw [hb, hb'] at this
    exact_mod_cast this
  let e : Fin k → ℝ := fun x => if ok x then Real.exp (a x - v) else 0
  have he0 : ∀ x, 0 ≤ e x := fun x => by
    simp only [e]
    split
    · exact (Real.exp_pos _).le
    · exact le_rfl
  have hE : ∀ x, E ok S v x = (e x : EReal) := fun x => by
    simp only [E, e]
    split
    · rw [ha, ← EReal.coe_sub]; rfl
    · rw [EReal.bot_sub]; rfl
  have hEs : Es u v = ((Real.exp (u - v) : ℝ) : EReal) := by
    unfold Es; rw [← EReal.coe_sub]; rfl
  let z : ℝ := (∑ x, e x) + Real.exp (u - v)
  have hz : 0 < z := add_pos_of_nonneg_of_pos (Finset.sum_nonneg fun x _ => he0 x) (Real.exp_pos _)
  have hZ : Z ok S u v = (z : EReal) := by
    unfold Z
    simp only [hE, hEs, z]
    rw [EReal.coe_add, coe_sum]
  have hl : lse ok S u v = ((v + Real.log z : ℝ) : EReal) := by
    unfold lse
    rw [hZ, EReal.coe_add v]
    have : Ideal.log (z : EReal) = if z ≤ 0 then (⊥ : EReal) else ((Real.log z : ℝ) : EReal) := rfl
    rw [this, if_neg (not_le.mpr hz)]
  have hexp : ∀ t : ℝ, Real.exp (t - (v + Real.log z)) = Real.exp (t - v) / z := fun t => by
    rw [← sub_sub, Real.exp_sub, Real.exp_log hz]
  have hp : ∀ x, p ok S u v x = ((e x / z : ℝ) : EReal) := fun x => by
    simp only [p, e]
    split
    · rw [ha, hl, ← EReal.coe_sub, ← hexp]; rfl
    · rw [zero_div]; rfl
  have hdel : del ok S D u v = ((∑ y, e y / z * b y : ℝ) : EReal) := by
    unfold del
    rw [coe_sum]
    refine Finset.sum_congr rfl fun y _ => ?_
    rw [hp, hb, ← EReal.coe_mul]
  have hdown : down ok S D' u v = ((-∑ y, b' y * (1 / (z * z)) * e y : ℝ) : EReal) := by
    unfold down
    rw [hZ, ← EReal.coe_mul, ← EReal.coe_one, div_coe_coe 1 (mul_pos hz hz).ne', zero_mul, zero_mul, add_zero, EReal.coe_neg, coe_sum]
    congr 1
    refine Finset.sum_congr rfl fun y _ => ?_
    rw [hb', hE, ← EReal.coe_mul, ← EReal.coe_mul]
  have hsum : ∑ y, b' y * (1 / (z * z)) * e y = (∑ y, e y / z * b y) / z := by
    rw [Finset.sum_div]
    refine Finset.sum_congr rfl fun y _ => ?_
    by_cases hy : ok y
    · rw [hbb y hy]; field_simp
    · have : e y = 0 := if_neg hy
      rw [this]; simp
  have hs' : Ideal.exp ((u : EReal) - lse ok S u v) = ((Real.exp (u - v) / z : ℝ) : EReal) := by
    rw [hl, ← EReal.coe_sub, ← hexp]; rfl
  refine ⟨fun x => ?_, fun x hx => ?_, ?_, ?_⟩
  · rw [hp, hE, hZ, div_coe_coe _ hz.ne']
  · rw [hp, hb, hdel, hb', hZ, hE, hdown, div_coe_coe _ hz.ne', ← EReal.coe_sub, ← EReal.coe_mul, ← EReal.coe_add, ← EReal.coe_mul, hsum, hbb x hx]
    congr 1
    field_simp
    ring
  · rw [hs', hdel, ← EReal.coe_mul]; exact ⟨_, rfl⟩
  · rw [hs', hdel, hdown, hEs, hZ, ← EReal.coe_zero, div_coe_coe _ hz.ne', ← EReal.coe_mul, ← EReal.coe_neg, ← EReal.coe_add, ← EReal.coe_mul, hsum]
    congr 1
    field_simp
    ring

/-- A sum of negated reals. -/
theorem neg_sum {ι : Type*} (t : Finset ι) {f : ι → EReal} (h : ∀ i, Fin' (f i)) : 0 - ∑ i ∈ t, f i = ∑ i ∈ t, -f i := by
  obtain ⟨g, hg⟩ : ∃ g : ι → ℝ, ∀ i, f i = (g i : EReal) := ⟨fun i => (h i).choose, fun i => (h i).choose_spec⟩
  simp only [hg]
  rw [← coe_sum, ← EReal.coe_zero, ← EReal.coe_sub, zero_sub, ← Finset.sum_neg_distrib, coe_sum]
  rfl

/-- The largest of a row of reals and minus infinities, a real among them, is real. -/
theorem max_real {ι : Type*} (t : Finset ι) (f : ι → EReal) (h : ∀ i, f i = ⊥ ∨ Fin' (f i)) (i : ι) (hi : i ∈ t) (hf : Fin' (f i)) :
    Fin' (t.fold max ⊥ f) := by
  have h1 : t.fold max ⊥ f ≠ ⊤ := by
    refine ne_of_lt ((Finset.fold_max_lt _).mpr ⟨bot_lt_top, fun x _ => ?_⟩)
    rcases h x with e | ⟨r, e⟩ <;> rw [e]
    · exact bot_lt_top
    · exact EReal.coe_lt_top r
  have h2 : t.fold max ⊥ f ≠ ⊥ := by
    obtain ⟨r, e⟩ := hf
    refine ne_of_gt (lt_of_lt_of_le (EReal.bot_lt_coe r) ((Finset.le_fold_max _).mpr (Or.inr ⟨i, hi, e ▸ le_rfl⟩)))
  exact ⟨_, (EReal.coe_toReal h1 h2).symm⟩

/-- A sum over 384 keys whose first 112 count for nothing. -/
theorem sum_tail (f : Fin 384 → EReal) (h : ∀ l : Fin 384, l.val < 112 → f l = 0) : ∑ l, f l = ∑ x : Fin 272, f ⟨x.val + 112, by omega⟩ := by
  rw [show (∑ l : Fin 384, f l) = ∑ l : Fin (112 + 272), f l from rfl, Fin.sum_univ_add]
  rw [Finset.sum_eq_zero fun i _ => h _ (by simp), zero_add]
  refine Finset.sum_congr rfl fun x _ => congrArg f (Fin.ext ?_)
  show 112 + x.val = x.val + 112
  omega

end Cert.Row
-- ==== Proof.AttnBwdRef.lean ====
/- The reference's softmax and its gradient, entry by entry, in the words the kernel's entries use. -/
module

public import proofs.«01_k».proof.Proof.Gen.AttnRefIdeal.Read
public import proofs.«01_k».proof.Proof.AttnMasks
public import proofs.«01_k».proof.Proof.AttnBwdHost
public import proofs.«01_k».proof.Proof.AttnRow
public import proofs.«01_k».proof.Proof.Pad
public import Idealize.ShloMosaic.Lib.Pipeline.ValueKit
public import Idealize.ShloMosaic.Lib.Pointwise
public import Idealize.ShloMosaic.Lib.TwoAxisContraction

@[expose] public section

set_option maxRecDepth 16384

noncomputable section

namespace Cert.AttnRefIdeal.Val
open Cert.AttnRefIdeal Cert.AttnRefIdeal.Gen Cert.AttnRefIdeal.Read
open Idealize.ShloMosaic Idealize.ShloMosaic.TcCoe Idealize.ShloMosaic.Tactic
open Cert.Rows Cert.Pad Cert.Mask

variable (x0 : FVec Ideal S1x4112x1280 .f32) (x1 : FVec Ideal S1x16 .f32) (x2 : FVec Ideal S1x4112x1024 .f32)

/-- An eighth: the scale of the logits. -/
abbrev c8 : EReal := Ideal.ofBits .f32 1040187392#32
def qE (h : Fin 16) (d : Fin 64) : Fin 4224 → EReal := padRow fun i => val_main_v40 (F := Ideal) x0 (ix3 i h d)
def kE (g : Fin 2) (d : Fin 64) : Fin 4224 → EReal := padRow fun i => val_main_v75 (F := Ideal) x0 (ix3 i g d)
def vE (g : Fin 2) (d : Fin 64) : Fin 4224 → EReal := padRow fun i => val_main_v76 (F := Ideal) x0 (ix3 i g d)
def cE (h : Fin 16) (d : Fin 64) : Fin 4224 → EReal := padRow fun i => x2 (ix3 0 i ⟨64 * h.val + d.val, by omega⟩)
/-- Query `r` of block `n`, as a row of the padded arrays. -/
abbrev qrow (n : Fin 33) (r : Fin 128) : Fin 4224 := ⟨128 * n.val + r.val, by omega⟩
abbrev head (g : Fin 2) (j : Fin 8) : Fin 16 := ⟨8 * g.val + j.val, by omega⟩
/-- The reference's 272 keys are the last of the 384. -/
abbrev key (x : Fin 272) : Fin 384 := ⟨x.val + 112, by omega⟩

theorem rowOf_val (n : Fin 33) (l : Fin 384) : (rowOf n l).val = if l.val < 128 then l.val else if l.val < 256 then 128 * (n.val - 1) + (l.val - 128) else 128 * n.val + (l.val - 256) := by
  unfold rowOf
  split
  · rfl
  split <;> rfl
theorem padRow_at (f : Fin 4112 → EReal) (R : Fin 4224) (i : Fin 4112) (h : R.val = i.val + 112) : padRow f R = f i := by
  rw [padRow_ge f R (by omega)]
  exact congrArg f (Fin.ext (by show R.val - 112 = i.val; omega))
/-- A block's 272 keys, as the reference lays them out. -/
theorem near (f : Fin 4112 → EReal) (n : Fin 33) (x : Fin 272) :
    (if h : x.val < 16 then f ⟨x.val, by omega⟩
    else if h : x.val - 16 < 128 then (if h : n.val < 1 then 0 else if h : (n.val - 1) * 128 + (x.val - 16) < 112 then 0 else f ⟨(n.val - 1) * 128 + (x.val - 16) - 112, by omega⟩)
    else if h : n.val * 128 + (x.val - 16 - 128) < 112 then 0 else f ⟨n.val * 128 + (x.val - 16 - 128) - 112, by omega⟩)
    = if n.val = 0 ∧ 16 ≤ x.val ∧ x.val < 144 then 0 else padRow f (rowOf n (key x)) := by
  have hR := rowOf_val n (key x)
  simp only at hR
  by_cases h1 : x.val < 16
  · rw [dif_pos h1, if_neg (by omega), padRow_at f _ ⟨x.val, by omega⟩ (by rw [hR, if_pos (by omega)])]
  rw [dif_neg h1]
  by_cases h2 : x.val - 16 < 128
  · rw [dif_pos h2]
    by_cases h3 : n.val < 1
    · rw [dif_pos h3, if_pos (by omega)]
    rw [dif_neg h3, if_neg (by omega)]
    rw [if_neg (by omega), if_pos (by omega)] at hR
    split
    · exact (padRow_lt f _ (by omega)).symm
    · exact (padRow_at f _ ⟨(n.val - 1) * 128 + (x.val - 16) - 112, by omega⟩ (by simp only; omega)).symm
  rw [dif_neg h2, if_neg (by omega)]
  rw [if_neg (by omega), if_neg (by omega)] at hR
  split
  · exact (padRow_lt f _ (by omega)).symm
  · exact (padRow_at f _ ⟨n.val * 128 + (x.val - 16 - 128) - 112, by omega⟩ (by simp only; omega)).symm
theorem rk_at (n : Fin 33) (x : Fin 272) (g : Fin 2) (d : Fin 64) : (val_main_v95 (F := Ideal) x0) (ix4 n x g d) = if n.val = 0 ∧ 16 ≤ x.val ∧ x.val < 144 then 0 else kE x0 g d (rowOf n (key x)) := by
  pointwise [val_main_v95, val_main_v94, val_main_v93, val_main_v92, val_main_v91, val_main_v90, val_main_v89, val_main_v88, val_main_v87, val_main_v86, val_main_v85, val_main_v84, val_main_v83, val_main_cst_8, val_main_cst_9, val_main_cst_10, val_main_cst_11]
  exact near (fun i => val_main_v75 (F := Ideal) x0 (ix3 i g d)) n x
theorem rv_at (n : Fin 33) (x : Fin 272) (g : Fin 2) (d : Fin 64) : (val_main_v173 (F := Ideal) x0) (ix4 n x g d) = if n.val = 0 ∧ 16 ≤ x.val ∧ x.val < 144 then 0 else vE x0 g d (rowOf n (key x)) := by
  pointwise [val_main_v173, val_main_v172, val_main_v171, val_main_v170, val_main_v169, val_main_v168, val_main_v167, val_main_v166, val_main_v165, val_main_v164, val_main_v163, val_main_v162, val_main_v161, val_main_cst_26, val_main_cst_27, val_main_cst_28, val_main_cst_29]
  exact near (fun i => val_main_v76 (F := Ideal) x0 (ix3 i g d)) n x
theorem rq_at (n : Fin 33) (r : Fin 128) (g : Fin 2) (j : Fin 8) (d : Fin 64) : (val_main_v82 (F := Ideal) x0) (ix5 n r g j d) = qE x0 (head g j) d (qrow n r) * c8 := by
  pointwise [val_main_v82, val_main_v81, val_main_v80, val_main_v79, val_main_v78, val_main_v77, val_main_cst_6, val_main_cst_7, val_main_cst_5]
  congr 1
  unfold qE padRow
  have h1 := n.isLt
  by_cases h : n.val * 128 + r.val < 112
  · rw [dif_pos h, dif_neg (by simp only; omega)]
  · rw [dif_neg h, dif_pos (by simp only; omega)]
    exact congrArg₂ (fun z h => val_main_v40 (F := Ideal) x0 (ix3 z h d)) (Fin.ext (by simp only; omega)) (Fin.ext (by simp only; omega))
theorem rc_at (n : Fin 33) (r : Fin 128) (g : Fin 2) (j : Fin 8) (d : Fin 64) : (val_main_v181 (F := Ideal) x2) (ix5 n g d j r) = cE x2 (head g j) d (qrow n r) := by
  pointwise [val_main_v181, val_main_v180, val_main_v179, val_main_v178, val_main_cst_30]
  unfold cE padRow
  have h1 := n.isLt
  by_cases h : 112 ≤ n.val * 128 + r.val
  · rw [dif_pos (by omega), dif_pos (by simp only; omega)]
    exact congrArg₂ (fun z h => x2 (ix3 0 z h)) (Fin.ext (by simp only; omega)) (Fin.ext (by simp only; omega))
  · rw [dif_neg (by omega), dif_neg (by simp only; omega)]
theorem rs_at (n : Fin 33) (g : Fin 2) (j : Fin 8) (r : Fin 128) (x : Fin 272) : (val_main_v124 (F := Ideal) x0) (ix5 n g x r j) = ∑ d, val_main_v95 (F := Ideal) x0 (ix4 n x g d) * val_main_v82 (F := Ideal) x0 (ix5 n r g j d) := by
  pointwise [val_main_v124]
theorem rd_at (n : Fin 33) (g : Fin 2) (j : Fin 8) (r : Fin 128) (x : Fin 272) : (val_main_v182 (F := Ideal) x0 x2) (ix5 n g j r x) = ∑ d, val_main_v181 (F := Ideal) x2 (ix5 n g d j r) * val_main_v173 (F := Ideal) x0 (ix4 n x g d) := by
  pointwise [val_main_v182]
theorem logit_at (n : Fin 33) (g : Fin 2) (j : Fin 8) (r : Fin 128) (x : Fin 272) : (val_main_v127_0 (F := Ideal) x0) (ix5 n g j r x) = if ok n.val r.val (key x).val then val_main_v124 (F := Ideal) x0 (ix5 n g x r j) else ⊥ := by
  pointwise [val_main_v127_0, val_main_v125, val_main_v126, val_main_v127_1, mask_at, val_main_call0_v2, val_main_call0_v0, val_main_cst_15, id]
  rw [show Ideal.ofBits .f32 4286578688#32 = ⊥ by simp [Ideal.ofBits, Ideal.ieee]]
  exact AttnBwdIdeal.Hand.select_if _ _ _
theorem all_at (n : Fin 33) (g : Fin 2) (j : Fin 8) (r : Fin 128) (x : Fin 273) : (val_main_v131 (F := Ideal) x0 x1) (ix5 n g j r x) = if h : x.val < 272 then val_main_v127_0 (F := Ideal) x0 (ix5 n g j r ⟨x.val, h⟩) else x1 (ix2 0 (head g j)) := by
  pointwise [val_main_v131, val_main_v130, val_main_v129, val_main_v128, val_main_v1]
  split_ifs
  · rfl
  · exact congrArg (fun z => x1 (ix2 0 z)) (Fin.ext (by first | omega | (simp only; omega)))
theorem exp_of (L : FVec Ideal S33x2x8x128x273 .f32) (M : FVec Ideal S33x2x8x128 .f32) (n : Fin 33) (g : Fin 2) (j : Fin 8) (r : Fin 128) (x : Fin 273) :
   (Host.exp (subf L
        (broadcastInDim S33x2x8x128x273 ![0, 1, 2, 3, 4] bcast_S33x2x8x128x1_S33x2x8x128x273_0_1_2_3_4 (broadcastInDim S33x2x8x128x1 ![0, 1, 2, 3] bcast_S33x2x8x128_S33x2x8x128x1_0_1_2_3 (maximumf (val_main_v138 (F := Ideal)) M)))) : FVec Ideal S33x2x8x128x273 .f32) (ix5 n g j r x) = Ideal.exp (L (ix5 n g j r x) - M (ix4 n g j r)) := by
  pointwise [val_main_v138, val_main_cst_18]
  rw [show Ideal.ofBits .f32 4286578688#32 = ⊥ by simp [Ideal.ofBits, Ideal.ieee], max_bot_left]
theorem exp_at (n : Fin 33) (g : Fin 2) (j : Fin 8) (r : Fin 128) (x : Fin 273) : (val_main_v152 (F := Ideal) x0 x1) (ix5 n g j r x)
    = Ideal.exp (val_main_v131 (F := Ideal) x0 x1 (ix5 n g j r x) - val_main_v132 (F := Ideal) x0 x1 (ix4 n g j r)) := by
  unfold val_main_v152 val_main_v151 val_main_v150 val_main_v149 val_main_v139
  exact exp_of _ _ n g j r x
theorem sum273 (e : FVec Ideal S33x2x8x128x273 .f32) (n : Fin 33) (g : Fin 2) (j : Fin 8) (r : Fin 128) :
    (Host.reduceAdd e (val_main_cst_24 (F := Ideal)) reducesTo_S33x2x8x128x273_S33x2x8x128_d4 h_S_ : FVec Ideal S33x2x8x128 .f32) (ix4 n g j r) = ∑ x, e (ix5 n g j r x) := by
  pointwise [val_main_cst_24]
theorem max273 (e : FVec Ideal S33x2x8x128x273 .f32) (n : Fin 33) (g : Fin 2) (j : Fin 8) (r : Fin 128) :
    (Host.reduce FloatOps.maximumf e (val_main_cst_16 (F := Ideal)) reducesTo_S33x2x8x128x273_S33x2x8x128_d4 h_S_ : FVec Ideal S33x2x8x128 .f32) (ix4 n g j r) = Finset.univ.fold max ⊥ fun x : Fin 273 => e (ix5 n g j r x) := by
  pointwise [val_main_cst_16]
  rw [show Ideal.ofBits .f32 4286578688#32 = ⊥ by simp [Ideal.ofBits, Ideal.ieee]]
theorem z_at (n : Fin 33) (g : Fin 2) (j : Fin 8) (r : Fin 128) : (val_main_v153 (F := Ideal) x0 x1) (ix4 n g j r) = ∑ x, val_main_v152 (F := Ideal) x0 x1 (ix5 n g j r x) := by
  unfold val_main_v153
  exact sum273 _ n g j r
theorem max_at (n : Fin 33) (g : Fin 2) (j : Fin 8) (r : Fin 128) : (val_main_v132 (F := Ideal) x0 x1) (ix4 n g j r) = Finset.univ.fold max ⊥ fun x => val_main_v131 (F := Ideal) x0 x1 (ix5 n g j r x) := by
  unfold val_main_v132
  exact max273 _ n g j r
theorem soft_of (e : FVec Ideal S33x2x8x128x273 .f32) (z : FVec Ideal S33x2x8x128 .f32) (n : Fin 33) (g : Fin 2) (j : Fin 8) (r : Fin 128) (x : Fin 272) :
   (extractStridedSlice S33x2x8x128x272 ![0, 0, 0, 0, 0] (Host.divf e
        (broadcastInDim S33x2x8x128x273 ![0, 1, 2, 3, 4] bcast_S33x2x8x128x1_S33x2x8x128x273_0_1_2_3_4 (broadcastInDim S33x2x8x128x1 ![0, 1, 2, 3] bcast_S33x2x8x128_S33x2x8x128x1_0_1_2_3 z))) : FVec Ideal S33x2x8x128x272 .f32) (ix5 n g j r x) = Ideal.div (e (ix5 n g j r ⟨x.val, by omega⟩)) (z (ix4 n g j r)) := by
  pointwise
theorem soft_at (n : Fin 33) (g : Fin 2) (j : Fin 8) (r : Fin 128) (x : Fin 272) : (val_main_v160 (F := Ideal) x0 x1) (ix5 n g j r x)
    = Ideal.div (val_main_v152 (F := Ideal) x0 x1 (ix5 n g j r ⟨x.val, by omega⟩)) (val_main_v153 (F := Ideal) x0 x1 (ix4 n g j r)) := by
  unfold val_main_v160 val_main_v156 val_main_v155 val_main_v154
  exact soft_of _ _ n g j r x
theorem back_at (n : Fin 33) (g : Fin 2) (j : Fin 8) (r : Fin 128) (x : Fin 273) : (val_main_v212 (F := Ideal) x0 x1 x2) (ix5 n g j r x)
    = (Ideal.div (if h : x.val < 272 then val_main_v182 (F := Ideal) x0 x2 (ix5 n g j r ⟨x.val, h⟩) else 0) (val_main_v153 (F := Ideal) x0 x1 (ix4 n g j r))
      + -((∑ y : Fin 272, val_main_v182 (F := Ideal) x0 x2 (ix5 n g j r y) * Ideal.div 1 (val_main_v153 (F := Ideal) x0 x1 (ix4 n g j r) * val_main_v153 (F := Ideal) x0 x1 (ix4 n g j r))
            * val_main_v152 (F := Ideal) x0 x1 (ix5 n g j r ⟨y.val, by omega⟩))
          + 0 * Ideal.div 1 (val_main_v153 (F := Ideal) x0 x1 (ix4 n g j r) * val_main_v153 (F := Ideal) x0 x1 (ix4 n g j r)) * val_main_v152 (F := Ideal) x0 x1 (ix5 n g j r 272)))
      * val_main_v152 (F := Ideal) x0 x1 (ix5 n g j r x) := by
  pointwise [val_main_v212, val_main_v211, val_main_v210, val_main_v209, val_main_v208, val_main_v207, val_main_v206, val_main_v205, val_main_v204, val_main_v203, val_main_v202, val_main_v201, val_main_v200, val_main_v159, val_main_v158, val_main_v157, val_main_v154, val_main_cst_25, val_main_cst_35, val_main_cst_36, val_main_cst_37]
  simp only [Fin.sum_univ_one]
theorem dl_at (n : Fin 33) (g : Fin 2) (j : Fin 8) (r : Fin 128) (x : Fin 272) : (val_main_v219 (F := Ideal) x0 x1 x2) (ix5 n g j r x)
    = if ok n.val r.val (key x).val then val_main_v212 (F := Ideal) x0 x1 x2 (ix5 n g j r ⟨x.val, by omega⟩) else 0 := by
  pointwise [val_main_v219, val_main_v213, val_main_v126, val_main_v127_1, mask_at, val_main_call1_v0, val_main_call1_cst]
  exact AttnBwdIdeal.Hand.select_if _ _ _
end Cert.AttnRefIdeal.Val
-- ==== Proof.AttnBwdFacts.lean ====
/- The reference's probabilities and its logits' gradient equal the kernel's formulas, where the arguments are finite. -/
module
public import proofs.«01_k».proof.Proof.AttnBwdRef
@[expose] public section
set_option maxRecDepth 16384
noncomputable section
namespace Cert.AttnRefIdeal.Val
open Cert.AttnRefIdeal Cert.AttnRefIdeal.Gen Cert.AttnRefIdeal.Read
open Idealize.ShloMosaic Idealize.ShloMosaic.TcCoe Idealize.ShloMosaic.Tactic
open Cert.Rows Cert.Pad Cert.Mask
variable (x0 : FVec Ideal S1x4112x1280 .f32) (x1 : FVec Ideal S1x16 .f32) (x2 : FVec Ideal S1x4112x1024 .f32)

/-! ## The kernel's formulas over the padded arrays -/

/-- The logits. -/
def fS (n : Fin 33) (g : Fin 2) (j : Fin 8) (r : Fin 128) (l : Fin 384) : EReal := ∑ d, kE x0 g d (rowOf n l) * (qE x0 (head g j) d (qrow n r) * c8)
/-- The gradient of the probabilities. -/
def fD (n : Fin 33) (g : Fin 2) (j : Fin 8) (r : Fin 128) (l : Fin 384) : EReal := ∑ d, vE x0 g d (rowOf n l) * cE x2 (head g j) d (qrow n r)
abbrev top (n : Fin 33) (g : Fin 2) (j : Fin 8) (r : Fin 128) : EReal := val_main_v132 (F := Ideal) x0 x1 (ix4 n g j r)
def fLse (n : Fin 33) (g : Fin 2) (j : Fin 8) (r : Fin 128) : EReal := top x0 x1 n g j r + Ideal.log (∑ x : Fin 273, Ideal.exp (val_main_v131 (F := Ideal) x0 x1 (ix5 n g j r x) - top x0 x1 n g j r))
def fP (n : Fin 33) (g : Fin 2) (j : Fin 8) (r : Fin 128) (l : Fin 384) : EReal := if ok n.val r.val l.val then Ideal.exp (fS x0 n g j r l - fLse x0 x1 n g j r) else 0
def fDel (n : Fin 33) (g : Fin 2) (j : Fin 8) (r : Fin 128) : EReal := ∑ l, fP x0 x1 n g j r l * fD x0 x2 n g j r l
/-- The gradient of the logits. -/
def fDS (n : Fin 33) (g : Fin 2) (j : Fin 8) (r : Fin 128) (l : Fin 384) : EReal := fP x0 x1 n g j r l * (fD x0 x2 n g j r l - fDel x0 x1 x2 n g j r)

/-! ## Finite entries -/

theorem fin_pad {f : Fin 4112 → EReal} (h : ∀ i, Fin' (f i)) (R : Fin 4224) : Fin' (padRow f R) := by
  unfold padRow
  split
  · exact h _
  · exact Fin'.zero

variable {x0 x1 x2}
theorem k_cos (i : Fin 4112) (k : Fin 8) : (val_main_v56 (F := Ideal)) (ix2 i k) = Ideal.cos (AttnBwdIdeal.Hand.angle i k.val) := by
  pointwise [val_main_v5, val_main_v42, val_main_v43, val_main_v44, val_main_v45, val_main_v46, val_main_v47, val_main_v48, val_main_v49, val_main_v50, val_main_v51, val_main_v52, val_main_v53, val_main_v54, val_main_v55, val_main_v56, val_main_cst_2, val_main_cst_3, val_main_cst_4]
  rfl
theorem k_sin (i : Fin 4112) (k : Fin 8) : (val_main_v58 (F := Ideal)) (ix2 i k) = Ideal.sin (AttnBwdIdeal.Hand.angle i k.val) := by
  pointwise [val_main_v5, val_main_v42, val_main_v43, val_main_v44, val_main_v45, val_main_v46, val_main_v47, val_main_v48, val_main_v49, val_main_v50, val_main_v51, val_main_v52, val_main_v53, val_main_v54, val_main_v55, val_main_v58, val_main_cst_2, val_main_cst_3, val_main_cst_4]
  rfl
theorem fin_v40 (h0 : ∀ i, Fin' (x0 i)) (i : Fin 4112) (h : Fin 16) (d : Fin 64) : Fin' (val_main_v40 (F := Ideal) x0 (ix3 i h d)) := by
  have hx : ∀ d, Fin' (val_main_v6 (F := Ideal) x0 (ix3 i h d)) := fun d => by
    pointwise [val_main_v6, val_main_v2, val_main_v0]
    exact h0 _
  pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v22, AttnBwdIdeal.Hand.ref_cos, AttnBwdIdeal.Hand.ref_sin]
  split
  · split
    · exact ((hx _).mul (AttnBwdIdeal.Hand.fin_cos _ _)).sub ((hx _).mul (AttnBwdIdeal.Hand.fin_sin _ _))
    · exact ((hx _).mul (AttnBwdIdeal.Hand.fin_cos _ _)).add ((hx _).mul (AttnBwdIdeal.Hand.fin_sin _ _))
  · exact hx _
theorem fin_v75 (h0 : ∀ i, Fin' (x0 i)) (i : Fin 4112) (h : Fin 2) (d : Fin 64) : Fin' (val_main_v75 (F := Ideal) x0 (ix3 i h d)) := by
  have hx : ∀ d, Fin' (val_main_v41 (F := Ideal) x0 (ix3 i h d)) := fun d => by
    pointwise [val_main_v41, val_main_v3, val_main_v0]
    exact h0 _
  pointwise [val_main_v75, val_main_v74, val_main_v73, val_main_v72, val_main_v71, val_main_v70, val_main_v69, val_main_v68, val_main_v67, val_main_v66, val_main_v65, val_main_v64, val_main_v63, val_main_v62, val_main_v61, val_main_v60, val_main_v59, val_main_v57, k_cos, k_sin]
  split
  · split
    · exact ((hx _).mul (AttnBwdIdeal.Hand.fin_cos _ _)).sub ((hx _).mul (AttnBwdIdeal.Hand.fin_sin _ _))
    · exact ((hx _).mul (AttnBwdIdeal.Hand.fin_cos _ _)).add ((hx _).mul (AttnBwdIdeal.Hand.fin_sin _ _))
  · exact hx _
theorem fin_v76 (h0 : ∀ i, Fin' (x0 i)) (i : Fin 4112) (h : Fin 2) (d : Fin 64) : Fin' (val_main_v76 (F := Ideal) x0 (ix3 i h d)) := by
  pointwise [val_main_v76, val_main_v4, val_main_v0]
  exact h0 _

theorem keep {n : Fin 33} {r : Fin 128} {x : Fin 272} (h : ok n.val r.val (key x).val) : ¬(n.val = 0 ∧ 16 ≤ x.val ∧ x.val < 144) := by
  unfold ok at h
  simp only at h
  split at h <;> omega
theorem none {n : Fin 33} {r : Fin 128} {l : Fin 384} (h : l.val < 112) : ¬ok n.val r.val l.val := by
  unfold ok
  rw [if_pos (by omega)]
  omega
theorem logit_ok {n : Fin 33} (g : Fin 2) (j : Fin 8) {r : Fin 128} {x : Fin 272} (h : ok n.val r.val (key x).val) :
    val_main_v124 (F := Ideal) x0 (ix5 n g x r j) = fS x0 n g j r (key x) := by
  rw [rs_at]
  refine Finset.sum_congr rfl fun d _ => ?_
  rw [rk_at, rq_at, if_neg (keep h)]
theorem dprob_ok {n : Fin 33} (g : Fin 2) (j : Fin 8) {r : Fin 128} {x : Fin 272} (h : ok n.val r.val (key x).val) :
    val_main_v182 (F := Ideal) x0 x2 (ix5 n g j r x) = fD x0 x2 n g j r (key x) := by
  rw [rd_at]
  refine Finset.sum_congr rfl fun d _ => ?_
  rw [rc_at, rv_at, if_neg (keep h), mul_comm]

/-- What the four equations of a row say here. -/
structure RowFacts (n : Fin 33) (g : Fin 2) (j : Fin 8) (r : Fin 128) : Prop where
  soft : ∀ x : Fin 272, val_main_v160 (F := Ideal) x0 x1 (ix5 n g j r x) = fP x0 x1 n g j r (key x)
  grad : ∀ x : Fin 272, val_main_v219 (F := Ideal) x0 x1 x2 (ix5 n g j r x) = fDS x0 x1 x2 n g j r (key x)
  fin : Fin' (Ideal.exp (x1 (ix2 0 (head g j)) - fLse x0 x1 n g j r) * fDel x0 x1 x2 n g j r)
  sink : val_main_v212 (F := Ideal) x0 x1 x2 (ix5 n g j r 272) = -(Ideal.exp (x1 (ix2 0 (head g j)) - fLse x0 x1 n g j r) * fDel x0 x1 x2 n g j r)

theorem rowFacts (h0 : ∀ i, Fin' (x0 i)) (h1 : ∀ i, Fin' (x1 i)) (h2 : ∀ i, Fin' (x2 i)) (n : Fin 33) (g : Fin 2) (j : Fin 8) (r : Fin 128) : RowFacts (x0 := x0) (x1 := x1) (x2 := x2) n g j r := by
  have hq : ∀ h d R, Fin' (qE x0 h d R) := fun h d R => fin_pad (fun i => fin_v40 h0 i h d) R
  have hk : ∀ g d R, Fin' (kE x0 g d R) := fun g d R => fin_pad (fun i => fin_v75 h0 i g d) R
  have hv : ∀ g d R, Fin' (vE x0 g d R) := fun g d R => fin_pad (fun i => fin_v76 h0 i g d) R
  have hc : ∀ h d R, Fin' (cE x2 h d R) := fun h d R => fin_pad (fun i => h2 _) R
  have hc8 : Fin' c8 := ⟨1 / 8, by simp [c8, Ideal.ofBits, Ideal.ieee, -EReal.coe_mul]; norm_num⟩
  have hkk : ∀ x d, Fin' (val_main_v95 (F := Ideal) x0 (ix4 n x g d)) := fun x d => by
    rw [rk_at]; split
    · exact Fin'.zero
    · exact hk _ _ _
  have hvv : ∀ x d, Fin' (val_main_v173 (F := Ideal) x0 (ix4 n x g d)) := fun x d => by
    rw [rv_at]; split
    · exact Fin'.zero
    · exact hv _ _ _
  let okx : Fin 272 → Prop := fun x => ok n.val r.val (key x).val
  let S : Fin 272 → EReal := fun x => val_main_v124 (F := Ideal) x0 (ix5 n g x r j)
  let D : Fin 272 → EReal := fun x => fD x0 x2 n g j r (key x)
  let D' : Fin 272 → EReal := fun x => val_main_v182 (F := Ideal) x0 x2 (ix5 n g j r x)
  let s : EReal := x1 (ix2 0 (head g j))
  let M : EReal := top x0 x1 n g j r
  have hS : ∀ x, Fin' (S x) := fun x => by
    show Fin' (val_main_v124 (F := Ideal) x0 (ix5 n g x r j))
    rw [rs_at]
    refine Fin'.sum _ fun d => (hkk x d).mul ?_
    rw [rq_at]
    exact (hq _ _ _).mul hc8
  have hD : ∀ x, Fin' (D x) := fun x => Fin'.sum _ fun d => (hv _ _ _).mul (hc _ _ _)
  have hD'' : ∀ x, Fin' (D' x) := fun x => by
    show Fin' (val_main_v182 (F := Ideal) x0 x2 (ix5 n g j r x))
    rw [rd_at]
    refine Fin'.sum _ fun d => Fin'.mul ?_ (hvv x d)
    rw [rc_at]
    exact hc _ _ _
  have hD' : ∀ x, okx x → D' x = D x := fun x hx => dprob_ok g j hx
  have hlast : ∀ x : Fin 272, (Fin.castSucc x : Fin 273) = ⟨x.val, by omega⟩ := fun x => rfl
  have hAll : ∀ x : Fin 272, val_main_v131 (F := Ideal) x0 x1 (ix5 n g j r ⟨x.val, by omega⟩) = if okx x then S x else ⊥ := fun x => by
    rw [all_at, dif_pos x.isLt, logit_at]
  have hAlls : val_main_v131 (F := Ideal) x0 x1 (ix5 n g j r 272) = s := by
    rw [all_at, dif_neg (by decide)]
  have hM : Fin' M := by
    show Fin' (val_main_v132 (F := Ideal) x0 x1 (ix4 n g j r))
    rw [max_at]
    refine Row.max_real _ _ (fun x => ?_) 272 (Finset.mem_univ _) ?_
    · by_cases hx : x.val < 272
      · have := hAll ⟨x.val, hx⟩
        rw [show (x : Fin 273) = ⟨x.val, by omega⟩ from rfl, this]
        split
        · exact Or.inr (hS _)
        · exact Or.inl rfl
      · rw [show x = 272 from Fin.ext (by show x.val = 272; omega), hAlls]
        exact Or.inr (h1 _)
    · rw [hAlls]; exact h1 _
  have hE : ∀ x : Fin 272, val_main_v152 (F := Ideal) x0 x1 (ix5 n g j r ⟨x.val, by omega⟩) = Row.E okx S M x := fun x => by
    rw [exp_at, hAll]; rfl
  have hEs : val_main_v152 (F := Ideal) x0 x1 (ix5 n g j r 272) = Row.Es s M := by
    rw [exp_at, hAlls]; rfl
  have hZ : val_main_v153 (F := Ideal) x0 x1 (ix4 n g j r) = Row.Z okx S s M := by
    rw [z_at, Fin.sum_univ_castSucc]
    exact congrArg₂ (· + ·) (Finset.sum_congr rfl fun x _ => hE x) hEs
  have hL : fLse x0 x1 n g j r = Row.lse okx S s M := by
    unfold fLse Row.lse
    rw [← hZ, z_at]
    simp only [exp_at]
    rfl
  have hP : ∀ x : Fin 272, fP x0 x1 n g j r (key x) = Row.p okx S s M x := fun x => by
    unfold fP Row.p
    rw [hL]
    by_cases hx : okx x
    · rw [if_pos hx, if_pos hx, show S x = _ from logit_ok g j hx]
    · rw [if_neg hx, if_neg hx]
  have hDel : fDel x0 x1 x2 n g j r = Row.del okx S D s M := by
    unfold fDel Row.del
    rw [Row.sum_tail _ fun l hl => by rw [show fP x0 x1 n g j r l = 0 from if_neg (none hl), zero_mul]]
    exact Finset.sum_congr rfl fun x _ => by rw [hP x]
  have hdown : -((∑ y : Fin 272, val_main_v182 (F := Ideal) x0 x2 (ix5 n g j r y) * Ideal.div 1 (val_main_v153 (F := Ideal) x0 x1 (ix4 n g j r) * val_main_v153 (F := Ideal) x0 x1 (ix4 n g j r))
            * val_main_v152 (F := Ideal) x0 x1 (ix5 n g j r ⟨y.val, by omega⟩))
          + 0 * Ideal.div 1 (val_main_v153 (F := Ideal) x0 x1 (ix4 n g j r) * val_main_v153 (F := Ideal) x0 x1 (ix4 n g j r)) * val_main_v152 (F := Ideal) x0 x1 (ix5 n g j r 272))
      = Row.down okx S D' s M := by
    unfold Row.down
    rw [hZ, hEs]
    simp only [hE]
    rfl
  obtain ⟨r1, r2, r3, r4⟩ := Row.row okx S D D' s M hS hD hD' hD'' (h1 _) hM
  refine ⟨fun x => ?_, fun x => ?_, ?_, ?_⟩
  · rw [soft_at, hE, hZ, hP, r1]
  · rw [dl_at]
    by_cases hx : okx x
    · rw [if_pos hx, back_at, dif_pos x.isLt, hdown, hE, hZ]
      unfold fDS
      rw [hP, hDel]
      exact (r2 x hx).symm
    · rw [if_neg hx]
      unfold fDS
      rw [show fP x0 x1 n g j r (key x) = 0 from if_neg hx, zero_mul]
  · rw [hL, hDel]; exact r3
  · rw [back_at, dif_neg (by decide), hdown, hEs, hZ, hL, hDel]
    exact r4.symm

/-! ## The gradients that the reference adds up -/

/-- The key gradient, the value gradient and the query gradient of a block. -/
def fDK (n : Fin 33) (g : Fin 2) (l : Fin 384) (d : Fin 64) : EReal := ∑ j : Fin 8, ∑ r : Fin 128, fDS x0 x1 x2 n g j r l * (qE x0 (head g j) d (qrow n r) * c8)
def fDV (n : Fin 33) (g : Fin 2) (l : Fin 384) (d : Fin 64) : EReal := ∑ j : Fin 8, ∑ r : Fin 128, fP x0 x1 n g j r l * cE x2 (head g j) d (qrow n r)
def fDQ (n : Fin 33) (g : Fin 2) (j : Fin 8) (r : Fin 128) (d : Fin 64) : EReal := (∑ l, kE x0 g d (rowOf n l) * fDS x0 x1 x2 n g j r l) * c8

section
variable (h0 : ∀ i, Fin' (x0 i)) (h1 : ∀ i, Fin' (x1 i)) (h2 : ∀ i, Fin' (x2 i))
include h0 h1 h2
theorem dv_at (n : Fin 33) (x : Fin 272) (g : Fin 2)  (d : Fin 64) : (val_main_v184 (F := Ideal) x0 x1 x2) (ix4 n x g d) = fDV (x0 := x0) (x1 := x1) (x2 := x2) n g (key x) d := by
  pointwise [val_main_v184, val_main_v183]
  unfold fDV
  refine Finset.sum_congr rfl fun j _ => Finset.sum_congr rfl fun r _ => ?_
  rw [rc_at, (rowFacts h0 h1 h2 n g j r).soft, mul_comm]
theorem dk_at (n : Fin 33) (x : Fin 272) (g : Fin 2)  (d : Fin 64) : (val_main_v224 (F := Ideal) x0 x1 x2) (ix4 n x g d) = fDK (x0 := x0) (x1 := x1) (x2 := x2) n g (key x) d := by
  pointwise [val_main_v224, val_main_v223, val_main_v220]
  unfold fDK
  rw [Finset.sum_comm]
  refine Finset.sum_congr rfl fun j _ => Finset.sum_congr rfl fun r _ => ?_
  rw [(rowFacts h0 h1 h2 n g j r).grad, rq_at]
theorem dq_at (n : Fin 33) (r : Fin 128) (g : Fin 2)  (j : Fin 8) (d : Fin 64) : (val_main_v222 (F := Ideal) x0 x1 x2) (ix5 n r g j d) * c8 = fDQ (x0 := x0) (x1 := x1) (x2 := x2) n g j r d := by
  pointwise [val_main_v222, val_main_v221, val_main_v220]
  unfold fDQ
  refine congrArg (· * c8) ?_
  have hz : ∀ l : Fin 384, ¬ok n.val r.val l.val → fDS x0 x1 x2 n g j r l = 0 := fun l hl => by
    unfold fDS
    rw [show fP x0 x1 n g j r l = 0 from if_neg hl, zero_mul]
  rw [Row.sum_tail _ fun l hl => by rw [hz l (none hl), mul_zero]]
  refine Finset.sum_congr rfl fun x _ => ?_
  rw [(rowFacts h0 h1 h2 n g j r).grad, rk_at]
  by_cases hx : ok n.val r.val (key x).val
  · rw [if_neg (keep hx), mul_comm]
  · rw [hz _ hx, zero_mul, mul_zero]
end

/-- Keys no query of the block attends to take no gradient. -/
theorem dk_zero (n : Fin 33) (g : Fin 2) (l : Fin 384) (d : Fin 64) (h : ∀ r : Fin 128, ¬ok n.val r.val l.val) : fDK (x0 := x0) (x1 := x1) (x2 := x2) n g l d = 0 := by
  unfold fDK fDS
  refine Finset.sum_eq_zero fun j _ => Finset.sum_eq_zero fun r _ => ?_
  rw [show fP x0 x1 n g j r l = 0 from if_neg (h r), zero_mul, zero_mul]
theorem dv_zero (n : Fin 33) (g : Fin 2) (l : Fin 384) (d : Fin 64) (h : ∀ r : Fin 128, ¬ok n.val r.val l.val) : fDV (x0 := x0) (x1 := x1) (x2 := x2) n g l d = 0 := by
  unfold fDV
  refine Finset.sum_eq_zero fun j _ => Finset.sum_eq_zero fun r _ => ?_
  rw [show fP x0 x1 n g j r l = 0 from if_neg (h r), zero_mul]

/-- A sum over the first axis, the fourth and a unit axis. -/
theorem reduce034 {a b : ℕ} (h : (⟨5, ![a, 2, 8, b, 1]⟩ : Shape).ReducesTo [0, 3, 4] ⟨2, ![2, 8]⟩) (v : (⟨5, ![a, 2, 8, b, 1]⟩ : Shape).Idx → EReal) (init : EReal) (g : Fin 2) (j : Fin 8) :
    Ideal.hostReduceAdd h v init (ix2 g j) = init + ∑ n : Fin a, ∑ r : Fin b, v (ix5 n g j r 0) := by
  unfold Ideal.hostReduceAdd
  rw [← Fintype.sum_prod_type' fun (n : Fin a) (r : Fin b) => v (ix5 n g j r 0)]
  refine congrArg (init + ·) (Finset.sum_nbij' (fun i => (i 0, i 3)) (fun p => ix5 p.1 g j p.2 0) (fun i _ => Finset.mem_univ _) (fun p _ => ?_) (fun i hi => ?_) (fun p _ => rfl) (fun i hi => ?_))
  · rw [Finset.mem_filter]
    refine ⟨Finset.mem_univ _, funext fun b => ?_⟩
    fin_cases b <;> rfl
  all_goals
    have e := (Finset.mem_filter.mp hi).2
    have e1 : (i 1).val = g.val := congrArg Fin.val (congrFun e 0)
    have e2 : (i 2).val = j.val := congrArg Fin.val (congrFun e 1)
    have e3 : (i 4).val < 1 := (i 4).isLt
    have e4 : ix5 (i 0) g j (i 3) 0 = i := by
      funext c
      fin_cases c
      · rfl
      · exact Fin.ext e1.symm
      · exact Fin.ext e2.symm
      · rfl
      · exact Fin.ext (show 0 = (i 4).val by omega)
  · exact e4
  · exact congrArg v e4.symm
theorem sink_at (h0 : ∀ i, Fin' (x0 i)) (h1 : ∀ i, Fin' (x1 i)) (h2 : ∀ i, Fin' (x2 i)) (i : Fin 8) (x : Fin 128) : (val_main_v294 (F := Ideal) x0 x1 x2) (ix2 i x)
    = if h : i.val < 1 ∧ x.val < 16 then ∑ n : Fin 33, ∑ r : Fin 128, -(Ideal.exp (x1 (ix2 0 ⟨x.val, h.2⟩) - fLse x0 x1 n ⟨x.val / 8, by omega⟩ ⟨x.val % 8, by omega⟩ r) * fDel x0 x1 x2 n ⟨x.val / 8, by omega⟩ ⟨x.val % 8, by omega⟩ r) else 0 := by
  pointwise [val_main_v294, val_main_v293, val_main_call3_v0, val_main_v218, val_main_v217, val_main_v216, val_main_v215, val_main_v214,val_main_cst_38, val_main_cst_39, val_main_c_54]
  split
  · rw [reduce034, zero_add]
    simp only [Fin.sum_univ_one]
    pointwise
    rw [reduce034, zero_add]
    refine Finset.sum_congr rfl fun n _ => Finset.sum_congr rfl fun r _ => ?_
    have hh : ∀ hx : x.val < 16, head ⟨x.val / 8, by omega⟩ ⟨x.val % 8, by omega⟩ = ⟨x.val, hx⟩ := fun hx => Fin.ext (by simp only; omega)
    have := (rowFacts h0 h1 h2 n ⟨x.val / 8, by omega⟩ ⟨x.val % 8, by omega⟩ r).sink
    rw [hh (by omega)] at this
    rw [← this]
    pointwise
  · exact AttnBwdIdeal.Hand.zero_word
end Cert.AttnRefIdeal.Val
-- ==== Proof.AttnBwdIn.lean ====
/- What the block at each grid point reads, and its scalars, in the reference's terms. -/
module

public import proofs.«01_k».proof.Proof.AttnBwdReads
public import proofs.«01_k».proof.Proof.AttnBwdFacts
public import proofs.«01_k».proof.Proof.AttnMasks

@[expose] public section

set_option maxRecDepth 16384

noncomputable section

namespace Cert.AttnBwdIdeal.Hand
open Cert.AttnBwdIdeal Cert.AttnBwdIdeal.Gen Cert.Mask
open Idealize.ShloMosaic Idealize.ShloMosaic.TcCoe Idealize.ShloMosaic.Tactic
open Cert.AttnRefIdeal.Val (qrow head fS fD fP fDel fDS fDK fDV fDQ fLse)

variable (m : (ℓ : Loc nD τ sig) → Buf (Elt Ideal) ℓ) (c : Dev nD)

/-- The query block of grid point `t`: the last one first. -/
abbrev blk (t : Fin cfg0.N) : Fin 33 := ⟨32 - t.val, by omega⟩

theorem idx : ∀ t : Fin cfg0.N, win0_0.index t = ![0] ∧ win0_1.index t = ![32 - t.val, 0] ∧ win0_2.index t = ![0, 8]
    ∧ win0_3.index t = ![32 - t.val - 1, 8] ∧ win0_4.index t = ![32 - t.val, 8] ∧ win0_5.index t = ![0, 9]
    ∧ win0_6.index t = ![32 - t.val - 1, 9] ∧ win0_7.index t = ![32 - t.val, 9] ∧ win0_8.index t = ![32 - t.val, 0]
    ∧ win0_9.index t = ![32 - t.val, 0] ∧ win0_10.index t = ![32 - t.val, 0] ∧ win0_11.index t = ![32 - t.val, 0]
    ∧ win0_12.index t = ![32 - t.val, 0] ∧ win0_13.index t = ![32 - t.val, 0] ∧ win0_14.index t = ![0, 0] :=
  (by decide +kernel : ∀ t : Fin grid0.N, _)

theorem n_at : ∀ t : Fin cfg0.N, Scalar.subi 32#32 (BitVec.ofNat 32 (grid0.coords t 0).val) = BitVec.ofNat 32 (32 - t.val) :=
  (by decide +kernel : ∀ t : Fin grid0.N, _)

section
variable (t : Fin cfg0.N)

theorem s_at (h : Fin 16) : (inp m c t).s (ix1 h) = sinks m c (ix2 0 h) :=
  (congrFun ((hs0_0 t).read_unread (iblk m c 0 t)) _).trans
    ((show (iblk m c 0 t : FVec Ideal S16 .f32) (ix1 h) = (V m c main_v148 : FVec Ideal S16 .f32) (ix1 h) by blk_ext [iblk, idx t]).trans (host_s m c h))

theorem q_at (r : Fin 128) (x : Fin 1024) : (inp m c t).q (ix2 r x) = (V m c main_v143 : FVec Ideal S4224x1280 .bf16) (ix2 (qrow (blk t) r) ⟨x.val, by omega⟩) :=
  (congrFun ((hs0_1 t).read_unread (X0_1 m c t)) _).trans (by
    refine (show X0_1 m c t (ix2 r x) = _ by unfold X0_1 Pipeline.Window.fill; rw [dif_pos (moved0_1 t _)]).trans ?_
    blk_ext [iblk, idx t])

theorem km_at (l x : Fin 128) : (inp m c t).km (ix2 l x) = (V m c main_v143 : FVec Ideal S4224x1280 .bf16) (ix2 ⟨l.val, by omega⟩ ⟨1024 + x.val, by omega⟩) :=
  (congrFun ((hs0_2 t).read_unread (iblk m c 2 t)) _).trans (by blk_ext [iblk, idx t])
theorem kp_at (l x : Fin 128) : (inp m c t).kp (ix2 l x) = (V m c main_v143 : FVec Ideal S4224x1280 .bf16) (ix2 ⟨128 * (32 - t.val - 1) + l.val, by omega⟩ ⟨1024 + x.val, by omega⟩) :=
  (congrFun ((hs0_3 t).read_unread (iblk m c 3 t)) _).trans (by blk_ext [iblk, idx t])
theorem kc_at (l x : Fin 128) : (inp m c t).kc (ix2 l x) = (V m c main_v143 : FVec Ideal S4224x1280 .bf16) (ix2 ⟨128 * (32 - t.val) + l.val, by omega⟩ ⟨1024 + x.val, by omega⟩) :=
  (congrFun ((hs0_4 t).read_unread (iblk m c 4 t)) _).trans (by blk_ext [iblk, idx t])
theorem vm_at (l x : Fin 128) : (inp m c t).vm (ix2 l x) = (V m c main_v143 : FVec Ideal S4224x1280 .bf16) (ix2 ⟨l.val, by omega⟩ ⟨1152 + x.val, by omega⟩) :=
  (congrFun ((hs0_5 t).read_unread (iblk m c 5 t)) _).trans (by blk_ext [iblk, idx t])
theorem vp_at (l x : Fin 128) : (inp m c t).vp (ix2 l x) = (V m c main_v143 : FVec Ideal S4224x1280 .bf16) (ix2 ⟨128 * (32 - t.val - 1) + l.val, by omega⟩ ⟨1152 + x.val, by omega⟩) :=
  (congrFun ((hs0_6 t).read_unread (iblk m c 6 t)) _).trans (by blk_ext [iblk, idx t])
theorem vc_at (l x : Fin 128) : (inp m c t).vc (ix2 l x) = (V m c main_v143 : FVec Ideal S4224x1280 .bf16) (ix2 ⟨128 * (32 - t.val) + l.val, by omega⟩ ⟨1152 + x.val, by omega⟩) :=
  (congrFun ((hs0_7 t).read_unread (iblk m c 7 t)) _).trans (by blk_ext [iblk, idx t])
theorem ct_at (r : Fin 128) (x : Fin 1024) : (inp m c t).ct (ix2 r x) = (V m c main_v146 : FVec Ideal S4224x1024 .bf16) (ix2 (qrow (blk t) r) x) :=
  (congrFun ((hs0_8 t).read_unread (iblk m c 8 t)) _).trans (by blk_ext [iblk, idx t])
theorem lse_emb (R : Fin 528) (h : Fin 16) (r : Fin 128) (hR : R.val = 16 * (32 - t.val) + h.val) :
    ((win0_9.blk t).view.emb (ix2 h r) : S528x128.Idx) = ix2 R r := by
  blk_ext [idx t]
theorem lse_read (f : FVec Ideal S528x128 .f32) (R : Fin 528) (h : Fin 16) (r : Fin 128) (hR : R.val = 16 * (32 - t.val) + h.val) :
    ((win0_9.blk t).view.read (Elt Ideal) f : FVec Ideal S16x128 .f32) (ix2 h r) = f (ix2 R r) :=
  congrArg f (lse_emb t R h r hR)
theorem lse_blk (R : Fin 528) (h : Fin 16) (r : Fin 128) (hR : R.val = 16 * (32 - t.val) + h.val) :
    (iblk m c 9 t : FVec Ideal S16x128 .f32) (ix2 h r) = (V m c main_v147 : FVec Ideal S528x128 .f32) (ix2 R r) :=
  lse_read t (V m c main_v147) R h r hR
theorem lse_row (h : Fin 16) (r : Fin 128) (R : Fin 528) (hR : R.val = 16 * (32 - t.val) + h.val) : (inp m c t).lse (ix2 h r) = (V m c main_v147 : FVec Ideal S528x128 .f32) (ix2 R r) :=
  (congrFun ((hs0_9 t).read_unread (iblk m c 9 t)) _).trans (lse_blk m c t R h r hR)
theorem c_at (r x : Fin 128) : (inp m c t).c (ix2 r x) = (V m c main_v173 : FVec Ideal S4224x128 .f32) (ix2 (qrow (blk t) r) x) :=
  (congrFun ((hs0_10 t).read_unread (iblk m c 10 t)) _).trans (by blk_ext [iblk, idx t])
theorem sa_at (r x : Fin 128) : (inp m c t).sa (ix2 r x) = (V m c main_v177 : FVec Ideal S4224x128 .f32) (ix2 (qrow (blk t) r) x) :=
  (congrFun ((hs0_11 t).read_unread (iblk m c 11 t)) _).trans (by blk_ext [iblk, idx t])
theorem sb_at (r x : Fin 128) : (inp m c t).sb (ix2 r x) = (V m c main_v183 : FVec Ideal S4224x128 .f32) (ix2 (qrow (blk t) r) x) :=
  (congrFun ((hs0_12 t).read_unread (iblk m c 12 t)) _).trans (by blk_ext [iblk, idx t])

theorem Q_at (g : Fin 2) (j : Fin 8) (r : Fin 128) (d : Fin 64) : (inp m c t).Q g j r d = AttnRefIdeal.Val.qE (proj m c) (head g j) d (qrow (blk t) r) :=
  (q_at m c t r _).trans (host_q m c (qrow (blk t) r) (head g j) d)
theorem C_at (g : Fin 2) (j : Fin 8) (r : Fin 128) (d : Fin 64) : (inp m c t).C g j r d = AttnRefIdeal.Val.cE (grads m c) (head g j) d (qrow (blk t) r) :=
  (ct_at m c t r _).trans (host_c m c (qrow (blk t) r) (head g j) d)
theorem K_at (g : Fin 2) (l : Fin 384) (d : Fin 64) : (inp m c t).K g l d = AttnRefIdeal.Val.kE (proj m c) g d (rowOf (blk t) l) := by
  refine Eq.trans ?_ (host_k m c (rowOf (blk t) l) g d)
  unfold In.K rows3 rowOf
  by_cases h1 : l.val < 128
  · rw [dif_pos h1, if_pos h1]; exact km_at m c t _ _
  rw [dif_neg h1, if_neg h1]
  by_cases h2 : l.val < 256
  · rw [dif_pos (by omega), if_pos h2]; exact kp_at m c t _ _
  rw [dif_neg (by omega), if_neg h2]
  refine (kc_at m c t _ _).trans (congrArg (fun R => (V m c main_v143 : FVec Ideal S4224x1280 .bf16) (ix2 R _)) (Fin.ext ?_))
  show 128 * (32 - t.val) + (l.val - 128 - 128) = 128 * (32 - t.val) + (l.val - 256)
  omega
theorem W_at (g : Fin 2) (l : Fin 384) (d : Fin 64) : (inp m c t).W g l d = AttnRefIdeal.Val.vE (proj m c) g d (rowOf (blk t) l) := by
  refine Eq.trans ?_ (host_v m c (rowOf (blk t) l) g d)
  unfold In.W rows3 rowOf
  by_cases h1 : l.val < 128
  · rw [dif_pos h1, if_pos h1]; exact vm_at m c t _ _
  rw [dif_neg h1, if_neg h1]
  by_cases h2 : l.val < 256
  · rw [dif_pos (by omega), if_pos h2]; exact vp_at m c t _ _
  rw [dif_neg (by omega), if_neg h2]
  refine (vc_at m c t _ _).trans (congrArg (fun R => (V m c main_v143 : FVec Ideal S4224x1280 .bf16) (ix2 R _)) (Fin.ext ?_))
  show 128 * (32 - t.val) + (l.val - 128 - 128) = 128 * (32 - t.val) + (l.val - 256)
  omega
theorem Lse_at (g : Fin 2) (j : Fin 8) (r : Fin 128) : (inp m c t).Lse g j r = fLse (proj m c) (sinks m c) (blk t) g j r :=
  (lse_row m c t _ r _ rfl).trans (host_l m c (blk t) g j r)

theorem S_at (g : Fin 2) (j : Fin 8) (l : Fin 384) (r : Fin 128) : (inp m c t).S g j l r = fS (proj m c) (blk t) g j r l :=
  Finset.sum_congr rfl fun d _ => by rw [K_at, Q_at]
theorem D_at (g : Fin 2) (j : Fin 8) (l : Fin 384) (r : Fin 128) : (inp m c t).D g j l r = fD (proj m c) (grads m c) (blk t) g j r l :=
  Finset.sum_congr rfl fun d _ => by rw [W_at, C_at]
theorem P_at (g : Fin 2) (j : Fin 8) (l : Fin 384) (r : Fin 128) : (inp m c t).P g j l r = fP (proj m c) (sinks m c) (blk t) g j r l := by
  unfold In.P fP
  rw [mask_at _ (blk t) (n_at t), select_if, S_at, Lse_at]
theorem Del_at (g : Fin 2) (j : Fin 8) (r : Fin 128) : (inp m c t).Del g j r = fDel (proj m c) (sinks m c) (grads m c) (blk t) g j r :=
  Finset.sum_congr rfl fun l _ => by rw [P_at, D_at]
theorem DS_at (g : Fin 2) (j : Fin 8) (l : Fin 384) (r : Fin 128) : (inp m c t).DS g j l r = fDS (proj m c) (sinks m c) (grads m c) (blk t) g j r l := by
  unfold In.DS fDS
  rw [P_at, D_at, Del_at]
theorem DK_at (g : Fin 2) (l : Fin 384) (d : Fin 64) : (inp m c t).DK g l d = fDK (x0 := proj m c) (x1 := sinks m c) (x2 := grads m c) (blk t) g l d :=
  Finset.sum_congr rfl fun j _ => Finset.sum_congr rfl fun r _ => by rw [DS_at, Q_at]
theorem DV_at (g : Fin 2) (l : Fin 384) (d : Fin 64) : (inp m c t).DV g l d = fDV (x0 := proj m c) (x1 := sinks m c) (x2 := grads m c) (blk t) g l d :=
  Finset.sum_congr rfl fun j _ => Finset.sum_congr rfl fun r _ => by rw [P_at, C_at]
theorem DQ_at (g : Fin 2) (j : Fin 8) (r : Fin 128) (d : Fin 64) : (inp m c t).DQ g j r d = fDQ (x0 := proj m c) (x1 := sinks m c) (x2 := grads m c) (blk t) g j r d := by
  refine congrArg (· * c8) (Finset.sum_congr rfl fun l _ => ?_)
  rw [K_at, DS_at]
theorem Sink_at (h : Fin 16) : (inp m c t).Sink h = 0 - ∑ r : Fin 128, Ideal.exp (sinks m c (ix2 0 h) - fLse (proj m c) (sinks m c) (blk t) ⟨h.val / 8, by omega⟩ ⟨h.val % 8, by omega⟩ r)
    * fDel (proj m c) (sinks m c) (grads m c) (blk t) ⟨h.val / 8, by omega⟩ ⟨h.val % 8, by omega⟩ r := by
  refine congrArg (0 - ·) (Finset.sum_congr rfl fun r _ => ?_)
  rw [s_at, Del_at, ← Lse_at]
  refine congrArg (fun x => Ideal.exp (_ - (inp m c t).lse (ix2 x r)) * _) (Fin.ext ?_)
  show h.val = 8 * (h.val / 8) + h.val % 8
  omega
end
end Cert.AttnBwdIdeal.Hand
-- ==== Proof.AttnBwdFound.lean ====
/- Which pieces the body's run leaves, in the block's own terms. -/
module

public import proofs.«01_k».proof.Proof.AttnBwdBlock

@[expose] public section

set_option maxRecDepth 16384

noncomputable section

namespace Cert.AttnBwdIdeal.Hand
open Cert.AttnBwdIdeal Cert.AttnBwdIdeal.Gen
open Idealize.ShloMosaic Idealize.ShloMosaic.TcCoe Idealize.ShloMosaic.Tactic
open Idealize.ShloMosaic.ValueIdx

section
variable (m : (ℓ : Loc nD τ sig) → Buf (Elt Ideal) ℓ) (c : Dev nD) (t : Fin cfg0.N)

theorem inp_n : Scalar.subi (32#32) (BitVec.ofNat 32 ↑(grid0.coords t 0)) = (inp m c t).n := rfl
theorem inp_n' : Scalar.subi (BitVec.ofNat 32 32) (BitVec.ofNat 32 ↑(grid0.coords t 0)) = (inp m c t).n := rfl

set_option maxHeartbeats 4000000 in
theorem metK_B (h0 : ¬t.val % 33 = 0) (p : Left Ideal) : (runB m c t h0 p).2.2.2.2.1
    = [⟨whole128, k0_pay216 k0_pay6 ((inp m c t).dk 0) ((inp m c t).dk 1) (carried scM0_2 (Memref.isWhole_whole _) p.metK)⟩] := by
  unfold runB; frame_open
  refine congrArg (fun w => [(⟨whole128, w⟩ : View.Piece (Elt Ideal) S128x128 .f32)]) ?_
  simp -proj only [lq0, lc0, lq1, lc1, lq2, lc2, lq3, lc3, lq4, lc4, lq5, lc5, lq6, lc6, lq7, lc7, ll0, ll1, ll2, ll3, ll4, ll5, ll6, ll7, ll8, ll9, ll10, ll11, ll12, ll13, ll14, ll15, l_km, l_kp, l_kc, l_vm, l_vp, l_vc, l_c, l_sa, l_sb, ls0, ls1, ls2, ls3, ls4, ls5, ls6, ls7, ls8, ls9, ls10, ls11, ls12, ls13, ls14, ls15, inp_n m c t, inp_n' m c t]
  simp -proj only [e9, e10, e14, e15, e18, e19, e23, e30, e31, e32, e33, e36, e37, e38, e39, e42, e43, e44, e46, e47, e48, e49, e51, e52, e53, e54, e55, e56, e58, e59, e60, e61, e62, e66, e67, e68, e69, e70, e71, e73, e74, e76, e77, e78, e79, e81, e82, e83, e84, e85, e89, e90, e91, e92, e93, e94, e97, e98, e99, e100, e101, e102, e104, e105, e106, e107, e108, e111, e112, e113, e114, e115, e116, e120, e121, e122, e125, e126, e127, e128, e131, e132, e133, e134, e136, e137, e138, e139, e141, e142, e143, e144, e145, e146, e148, e149, e150, e151, e153, e154, e156, e157, e158, e159, e160, e164, e165, e166, e167, e168, e169, e171, e172, e173, e174, e175, e176, e178, e179, e180, e181, e182, e186, e187, e188, e189, e190, e191, e195, e196, e197, e198, e199, e200, e201, e202, e206, e207, e208, e212, e214, e215]

set_option maxHeartbeats 4000000 in
theorem metV_B (h0 : ¬t.val % 33 = 0) (p : Left Ideal) : (runB m c t h0 p).2.2.2.2.2.1
    = [⟨whole128, k0_pay217 k0_pay6 ((inp m c t).dv 0) ((inp m c t).dv 1) (carried scM0_3 (Memref.isWhole_whole _) p.metV)⟩] := by
  unfold runB; frame_open
  refine congrArg (fun w => [(⟨whole128, w⟩ : View.Piece (Elt Ideal) S128x128 .f32)]) ?_
  simp -proj only [lq0, lc0, lq1, lc1, lq2, lc2, lq3, lc3, lq4, lc4, lq5, lc5, lq6, lc6, lq7, lc7, ll0, ll1, ll2, ll3, ll4, ll5, ll6, ll7, ll8, ll9, ll10, ll11, ll12, ll13, ll14, ll15, l_km, l_kp, l_kc, l_vm, l_vp, l_vc, l_c, l_sa, l_sb, ls0, ls1, ls2, ls3, ls4, ls5, ls6, ls7, ls8, ls9, ls10, ls11, ls12, ls13, ls14, ls15, inp_n m c t, inp_n' m c t]
  simp -proj only [e9, e10, e14, e15, e18, e19, e23, e30, e31, e32, e33, e36, e37, e38, e39, e42, e43, e44, e46, e47, e48, e49, e51, e52, e53, e54, e55, e56, e58, e59, e60, e61, e62, e66, e67, e68, e69, e70, e71, e73, e74, e76, e77, e78, e79, e81, e82, e83, e84, e85, e89, e90, e91, e92, e93, e94, e97, e98, e99, e100, e101, e102, e104, e105, e106, e107, e108, e111, e112, e113, e114, e115, e116, e120, e121, e122, e125, e126, e127, e128, e131, e132, e133, e134, e136, e137, e138, e139, e141, e142, e143, e144, e145, e146, e148, e149, e150, e151, e153, e154, e156, e157, e158, e159, e160, e164, e165, e166, e167, e168, e169, e171, e172, e173, e174, e175, e176, e178, e179, e180, e181, e182, e186, e187, e188, e189, e190, e191, e195, e196, e197, e198, e199, e200, e201, e202, e206, e207, e208, e212, e214, e215]

set_option maxHeartbeats 4000000 in
theorem carK_B (h0 : ¬t.val % 33 = 0) (p : Left Ideal) : (runB m c t h0 p).2.2.1
    = [⟨whole128, k0_pay221 (inp m c t).foldK⟩] := by
  unfold runB; frame_open
  refine congrArg (fun w => [(⟨whole128, w⟩ : View.Piece (Elt Ideal) S128x128 .f32)]) ?_
  simp -proj only [lq0, lc0, lq1, lc1, lq2, lc2, lq3, lc3, lq4, lc4, lq5, lc5, lq6, lc6, lq7, lc7, ll0, ll1, ll2, ll3, ll4, ll5, ll6, ll7, ll8, ll9, ll10, ll11, ll12, ll13, ll14, ll15, l_km, l_kp, l_kc, l_vm, l_vp, l_vc, l_c, l_sa, l_sb, ls0, ls1, ls2, ls3, ls4, ls5, ls6, ls7, ls8, ls9, ls10, ls11, ls12, ls13, ls14, ls15, inp_n m c t, inp_n' m c t]
  simp -proj only [e9, e10, e14, e15, e18, e19, e23, e30, e31, e32, e33, e36, e37, e38, e39, e42, e43, e44, e46, e47, e48, e49, e51, e52, e53, e54, e55, e56, e58, e59, e60, e61, e62, e66, e67, e68, e69, e70, e71, e73, e74, e76, e77, e78, e79, e81, e82, e83, e84, e85, e89, e90, e91, e92, e93, e94, e97, e98, e99, e100, e101, e102, e104, e105, e106, e107, e108, e111, e112, e113, e114, e115, e116, e120, e121, e122, e125, e126, e127, e128, e131, e132, e133, e134, e136, e137, e138, e139, e141, e142, e143, e144, e145, e146, e148, e149, e150, e151, e153, e154, e156, e157, e158, e159, e160, e164, e165, e166, e167, e168, e169, e171, e172, e173, e174, e175, e176, e178, e179, e180, e181, e182, e186, e187, e188, e189, e190, e191, e195, e196, e197, e198, e199, e200, e201, e202, e206, e207, e208, e212, e214, e215]

set_option maxHeartbeats 4000000 in
theorem carV_B (h0 : ¬t.val % 33 = 0) (p : Left Ideal) : (runB m c t h0 p).2.2.2.1
    = [⟨whole128, k0_pay222 (inp m c t).foldV⟩] := by
  unfold runB; frame_open
  refine congrArg (fun w => [(⟨whole128, w⟩ : View.Piece (Elt Ideal) S128x128 .f32)]) ?_
  simp -proj only [lq0, lc0, lq1, lc1, lq2, lc2, lq3, lc3, lq4, lc4, lq5, lc5, lq6, lc6, lq7, lc7, ll0, ll1, ll2, ll3, ll4, ll5, ll6, ll7, ll8, ll9, ll10, ll11, ll12, ll13, ll14, ll15, l_km, l_kp, l_kc, l_vm, l_vp, l_vc, l_c, l_sa, l_sb, ls0, ls1, ls2, ls3, ls4, ls5, ls6, ls7, ls8, ls9, ls10, ls11, ls12, ls13, ls14, ls15, inp_n m c t, inp_n' m c t]
  simp -proj only [e9, e10, e14, e15, e18, e19, e23, e30, e31, e32, e33, e36, e37, e38, e39, e42, e43, e44, e46, e47, e48, e49, e51, e52, e53, e54, e55, e56, e58, e59, e60, e61, e62, e66, e67, e68, e69, e70, e71, e73, e74, e76, e77, e78, e79, e81, e82, e83, e84, e85, e89, e90, e91, e92, e93, e94, e97, e98, e99, e100, e101, e102, e104, e105, e106, e107, e108, e111, e112, e113, e114, e115, e116, e120, e121, e122, e125, e126, e127, e128, e131, e132, e133, e134, e136, e137, e138, e139, e141, e142, e143, e144, e145, e146, e148, e149, e150, e151, e153, e154, e156, e157, e158, e159, e160, e164, e165, e166, e167, e168, e169, e171, e172, e173, e174, e175, e176, e178, e179, e180, e181, e182, e186, e187, e188, e189, e190, e191, e195, e196, e197, e198, e199, e200, e201, e202, e206, e207, e208, e212, e214, e215]

set_option maxHeartbeats 4000000 in
theorem dsink_B (h0 : ¬t.val % 33 = 0) (p : Left Ideal) : (runB m c t h0 p).2.1
    = [⟨row8, k0_pay213 ((inp m c t).sinkUpTo 16 (by decide)) (View.readAt (Elt Ideal) (ms0_14 t).view row8.toLoadRect ((hs0_14 t).unread p.dsink))⟩] := by
  unfold runB; frame_open
  refine congrArg (fun w => [(⟨row8, w⟩ : View.Piece (Elt Ideal) S8x128 .f32)]) ?_
  simp -proj only [lq0, lc0, lq1, lc1, lq2, lc2, lq3, lc3, lq4, lc4, lq5, lc5, lq6, lc6, lq7, lc7, ll0, ll1, ll2, ll3, ll4, ll5, ll6, ll7, ll8, ll9, ll10, ll11, ll12, ll13, ll14, ll15, l_km, l_kp, l_kc, l_vm, l_vp, l_vc, l_c, l_sa, l_sb, ls0, ls1, ls2, ls3, ls4, ls5, ls6, ls7, ls8, ls9, ls10, ls11, ls12, ls13, ls14, ls15, inp_n m c t, inp_n' m c t]
  simp -proj only [e9, e10, e14, e15, e18, e19, e23, e30, e31, e32, e33, e36, e37, e38, e39, e42, e43, e44, e46, e47, e48, e49, e51, e52, e53, e54, e55, e56, e58, e59, e60, e61, e62, e66, e67, e68, e69, e70, e71, e73, e74, e76, e77, e78, e79, e81, e82, e83, e84, e85, e89, e90, e91, e92, e93, e94, e97, e98, e99, e100, e101, e102, e104, e105, e106, e107, e108, e111, e112, e113, e114, e115, e116, e120, e121, e122, e125, e126, e127, e128, e131, e132, e133, e134, e136, e137, e138, e139, e141, e142, e143, e144, e145, e146, e148, e149, e150, e151, e153, e154, e156, e157, e158, e159, e160, e164, e165, e166, e167, e168, e169, e171, e172, e173, e174, e175, e176, e178, e179, e180, e181, e182, e186, e187, e188, e189, e190, e191, e195, e196, e197, e198, e199, e200, e201, e202, e206, e207, e208, e212, e214, e215]

set_option maxHeartbeats 4000000 in
theorem dqkv_B (h0 : ¬t.val % 33 = 0) (p : Left Ideal) : (runB m c t h0 p).1
    = tiles (inp m c t) (carried scM0_0 (Memref.isWhole_whole _) p.carK) (k0_pay216 k0_pay6 ((inp m c t).dk 0) ((inp m c t).dk 1) (carried scM0_2 (Memref.isWhole_whole _) p.metK)) (carried scM0_1 (Memref.isWhole_whole _) p.carV) (k0_pay217 k0_pay6 ((inp m c t).dv 0) ((inp m c t).dv 1) (carried scM0_3 (Memref.isWhole_whole _) p.metV)) := by
  unfold runB; frame_open
  unfold tiles
  simp -proj only [lq0, lc0, lq1, lc1, lq2, lc2, lq3, lc3, lq4, lc4, lq5, lc5, lq6, lc6, lq7, lc7, ll0, ll1, ll2, ll3, ll4, ll5, ll6, ll7, ll8, ll9, ll10, ll11, ll12, ll13, ll14, ll15, l_km, l_kp, l_kc, l_vm, l_vp, l_vc, l_c, l_sa, l_sb, ls0, ls1, ls2, ls3, ls4, ls5, ls6, ls7, ls8, ls9, ls10, ls11, ls12, ls13, ls14, ls15, inp_n m c t, inp_n' m c t]
  simp -proj only [e9, e10, e14, e15, e18, e19, e23, e30, e31, e32, e33, e36, e37, e38, e39, e42, e43, e44, e46, e47, e48, e49, e51, e52, e53, e54, e55, e56, e58, e59, e60, e61, e62, e66, e67, e68, e69, e70, e71, e73, e74, e76, e77, e78, e79, e81, e82, e83, e84, e85, e89, e90, e91, e92, e93, e94, e97, e98, e99, e100, e101, e102, e104, e105, e106, e107, e108, e111, e112, e113, e114, e115, e116, e120, e121, e122, e125, e126, e127, e128, e131, e132, e133, e134, e136, e137, e138, e139, e141, e142, e143, e144, e145, e146, e148, e149, e150, e151, e153, e154, e156, e157, e158, e159, e160, e164, e165, e166, e167, e168, e169, e171, e172, e173, e174, e175, e176, e178, e179, e180, e181, e182, e186, e187, e188, e189, e190, e191, e195, e196, e197, e198, e199, e200, e201, e202, e206, e207, e208, e212, e214, e215]
  simp -proj (disch := decide) only [View.readCov_unit_lit', View.readCov_cons_unit_lit']

set_option maxHeartbeats 4000000 in
theorem metK_A (h0 : t.val % 33 = 0) : (runA m c t h0).2.2.2.2.1
    = [⟨whole128, k0_pay216 k0_pay6 ((inp m c t).dk 0) ((inp m c t).dk 1) (k0_pay3 (F := Ideal))⟩, ⟨whole128, k0_pay3 (F := Ideal)⟩] := by
  unfold runA; frame_open
  refine congrArg (fun w => [(⟨whole128, w⟩ : View.Piece (Elt Ideal) S128x128 .f32), ⟨whole128, k0_pay3 (F := Ideal)⟩]) ?_
  simp -proj only [lq0, lc0, lq1, lc1, lq2, lc2, lq3, lc3, lq4, lc4, lq5, lc5, lq6, lc6, lq7, lc7, ll0, ll1, ll2, ll3, ll4, ll5, ll6, ll7, ll8, ll9, ll10, ll11, ll12, ll13, ll14, ll15, l_km, l_kp, l_kc, l_vm, l_vp, l_vc, l_c, l_sa, l_sb, ls0, ls1, ls2, ls3, ls4, ls5, ls6, ls7, ls8, ls9, ls10, ls11, ls12, ls13, ls14, ls15, inp_n m c t, inp_n' m c t]
  simp -proj only [e9, e10, e14, e15, e18, e19, e23, e30, e31, e32, e33, e36, e37, e38, e39, e42, e43, e44, e46, e47, e48, e49, e51, e52, e53, e54, e55, e56, e58, e59, e60, e61, e62, e66, e67, e68, e69, e70, e71, e73, e74, e76, e77, e78, e79, e81, e82, e83, e84, e85, e89, e90, e91, e92, e93, e94, e97, e98, e99, e100, e101, e102, e104, e105, e106, e107, e108, e111, e112, e113, e114, e115, e116, e120, e121, e122, e125, e126, e127, e128, e131, e132, e133, e134, e136, e137, e138, e139, e141, e142, e143, e144, e145, e146, e148, e149, e150, e151, e153, e154, e156, e157, e158, e159, e160, e164, e165, e166, e167, e168, e169, e171, e172, e173, e174, e175, e176, e178, e179, e180, e181, e182, e186, e187, e188, e189, e190, e191, e195, e196, e197, e198, e199, e200, e201, e202, e206, e207, e208, e212, e214, e215]
  simp -proj (disch := decide) only [View.readCov_unit_lit', View.readCov_cons_unit_lit']

set_option maxHeartbeats 4000000 in
theorem metV_A (h0 : t.val % 33 = 0) : (runA m c t h0).2.2.2.2.2.1
    = [⟨whole128, k0_pay217 k0_pay6 ((inp m c t).dv 0) ((inp m c t).dv 1) (k0_pay4 (F := Ideal))⟩, ⟨whole128, k0_pay4 (F := Ideal)⟩] := by
  unfold runA; frame_open
  refine congrArg (fun w => [(⟨whole128, w⟩ : View.Piece (Elt Ideal) S128x128 .f32), ⟨whole128, k0_pay4 (F := Ideal)⟩]) ?_
  simp -proj only [lq0, lc0, lq1, lc1, lq2, lc2, lq3, lc3, lq4, lc4, lq5, lc5, lq6, lc6, lq7, lc7, ll0, ll1, ll2, ll3, ll4, ll5, ll6, ll7, ll8, ll9, ll10, ll11, ll12, ll13, ll14, ll15, l_km, l_kp, l_kc, l_vm, l_vp, l_vc, l_c, l_sa, l_sb, ls0, ls1, ls2, ls3, ls4, ls5, ls6, ls7, ls8, ls9, ls10, ls11, ls12, ls13, ls14, ls15, inp_n m c t, inp_n' m c t]
  simp -proj only [e9, e10, e14, e15, e18, e19, e23, e30, e31, e32, e33, e36, e37, e38, e39, e42, e43, e44, e46, e47, e48, e49, e51, e52, e53, e54, e55, e56, e58, e59, e60, e61, e62, e66, e67, e68, e69, e70, e71, e73, e74, e76, e77, e78, e79, e81, e82, e83, e84, e85, e89, e90, e91, e92, e93, e94, e97, e98, e99, e100, e101, e102, e104, e105, e106, e107, e108, e111, e112, e113, e114, e115, e116, e120, e121, e122, e125, e126, e127, e128, e131, e132, e133, e134, e136, e137, e138, e139, e141, e142, e143, e144, e145, e146, e148, e149, e150, e151, e153, e154, e156, e157, e158, e159, e160, e164, e165, e166, e167, e168, e169, e171, e172, e173, e174, e175, e176, e178, e179, e180, e181, e182, e186, e187, e188, e189, e190, e191, e195, e196, e197, e198, e199, e200, e201, e202, e206, e207, e208, e212, e214, e215]
  simp -proj (disch := decide) only [View.readCov_unit_lit', View.readCov_cons_unit_lit']

set_option maxHeartbeats 4000000 in
theorem carK_A (h0 : t.val % 33 = 0) : (runA m c t h0).2.2.1
    = [⟨whole128, k0_pay221 (inp m c t).foldK⟩, ⟨whole128, k0_pay1 (F := Ideal)⟩] := by
  unfold runA; frame_open
  refine congrArg (fun w => [(⟨whole128, w⟩ : View.Piece (Elt Ideal) S128x128 .f32), ⟨whole128, k0_pay1 (F := Ideal)⟩]) ?_
  simp -proj only [lq0, lc0, lq1, lc1, lq2, lc2, lq3, lc3, lq4, lc4, lq5, lc5, lq6, lc6, lq7, lc7, ll0, ll1, ll2, ll3, ll4, ll5, ll6, ll7, ll8, ll9, ll10, ll11, ll12, ll13, ll14, ll15, l_km, l_kp, l_kc, l_vm, l_vp, l_vc, l_c, l_sa, l_sb, ls0, ls1, ls2, ls3, ls4, ls5, ls6, ls7, ls8, ls9, ls10, ls11, ls12, ls13, ls14, ls15, inp_n m c t, inp_n' m c t]
  simp -proj only [e9, e10, e14, e15, e18, e19, e23, e30, e31, e32, e33, e36, e37, e38, e39, e42, e43, e44, e46, e47, e48, e49, e51, e52, e53, e54, e55, e56, e58, e59, e60, e61, e62, e66, e67, e68, e69, e70, e71, e73, e74, e76, e77, e78, e79, e81, e82, e83, e84, e85, e89, e90, e91, e92, e93, e94, e97, e98, e99, e100, e101, e102, e104, e105, e106, e107, e108, e111, e112, e113, e114, e115, e116, e120, e121, e122, e125, e126, e127, e128, e131, e132, e133, e134, e136, e137, e138, e139, e141, e142, e143, e144, e145, e146, e148, e149, e150, e151, e153, e154, e156, e157, e158, e159, e160, e164, e165, e166, e167, e168, e169, e171, e172, e173, e174, e175, e176, e178, e179, e180, e181, e182, e186, e187, e188, e189, e190, e191, e195, e196, e197, e198, e199, e200, e201, e202, e206, e207, e208, e212, e214, e215]

set_option maxHeartbeats 4000000 in
theorem carV_A (h0 : t.val % 33 = 0) : (runA m c t h0).2.2.2.1
    = [⟨whole128, k0_pay222 (inp m c t).foldV⟩, ⟨whole128, k0_pay2 (F := Ideal)⟩] := by
  unfold runA; frame_open
  refine congrArg (fun w => [(⟨whole128, w⟩ : View.Piece (Elt Ideal) S128x128 .f32), ⟨whole128, k0_pay2 (F := Ideal)⟩]) ?_
  simp -proj only [lq0, lc0, lq1, lc1, lq2, lc2, lq3, lc3, lq4, lc4, lq5, lc5, lq6, lc6, lq7, lc7, ll0, ll1, ll2, ll3, ll4, ll5, ll6, ll7, ll8, ll9, ll10, ll11, ll12, ll13, ll14, ll15, l_km, l_kp, l_kc, l_vm, l_vp, l_vc, l_c, l_sa, l_sb, ls0, ls1, ls2, ls3, ls4, ls5, ls6, ls7, ls8, ls9, ls10, ls11, ls12, ls13, ls14, ls15, inp_n m c t, inp_n' m c t]
  simp -proj only [e9, e10, e14, e15, e18, e19, e23, e30, e31, e32, e33, e36, e37, e38, e39, e42, e43, e44, e46, e47, e48, e49, e51, e52, e53, e54, e55, e56, e58, e59, e60, e61, e62, e66, e67, e68, e69, e70, e71, e73, e74, e76, e77, e78, e79, e81, e82, e83, e84, e85, e89, e90, e91, e92, e93, e94, e97, e98, e99, e100, e101, e102, e104, e105, e106, e107, e108, e111, e112, e113, e114, e115, e116, e120, e121, e122, e125, e126, e127, e128, e131, e132, e133, e134, e136, e137, e138, e139, e141, e142, e143, e144, e145, e146, e148, e149, e150, e151, e153, e154, e156, e157, e158, e159, e160, e164, e165, e166, e167, e168, e169, e171, e172, e173, e174, e175, e176, e178, e179, e180, e181, e182, e186, e187, e188, e189, e190, e191, e195, e196, e197, e198, e199, e200, e201, e202, e206, e207, e208, e212, e214, e215]

set_option maxHeartbeats 4000000 in
theorem dsink_A (h0 : t.val % 33 = 0) : (runA m c t h0).2.1
    = [⟨row8, k0_pay213 ((inp m c t).sinkUpTo 16 (by decide)) (View.readCov (ms0_14 t).view [⟨whole8, k0_pay5 (F := Ideal)⟩] row8.toLoadRect)⟩, ⟨whole8, k0_pay5 (F := Ideal)⟩] := by
  unfold runA; frame_open
  refine congrArg (fun w => [(⟨row8, w⟩ : View.Piece (Elt Ideal) S8x128 .f32), ⟨whole8, k0_pay5 (F := Ideal)⟩]) ?_
  simp -proj only [lq0, lc0, lq1, lc1, lq2, lc2, lq3, lc3, lq4, lc4, lq5, lc5, lq6, lc6, lq7, lc7, ll0, ll1, ll2, ll3, ll4, ll5, ll6, ll7, ll8, ll9, ll10, ll11, ll12, ll13, ll14, ll15, l_km, l_kp, l_kc, l_vm, l_vp, l_vc, l_c, l_sa, l_sb, ls0, ls1, ls2, ls3, ls4, ls5, ls6, ls7, ls8, ls9, ls10, ls11, ls12, ls13, ls14, ls15, inp_n m c t, inp_n' m c t]
  simp -proj only [e9, e10, e14, e15, e18, e19, e23, e30, e31, e32, e33, e36, e37, e38, e39, e42, e43, e44, e46, e47, e48, e49, e51, e52, e53, e54, e55, e56, e58, e59, e60, e61, e62, e66, e67, e68, e69, e70, e71, e73, e74, e76, e77, e78, e79, e81, e82, e83, e84, e85, e89, e90, e91, e92, e93, e94, e97, e98, e99, e100, e101, e102, e104, e105, e106, e107, e108, e111, e112, e113, e114, e115, e116, e120, e121, e122, e125, e126, e127, e128, e131, e132, e133, e134, e136, e137, e138, e139, e141, e142, e143, e144, e145, e146, e148, e149, e150, e151, e153, e154, e156, e157, e158, e159, e160, e164, e165, e166, e167, e168, e169, e171, e172, e173, e174, e175, e176, e178, e179, e180, e181, e182, e186, e187, e188, e189, e190, e191, e195, e196, e197, e198, e199, e200, e201, e202, e206, e207, e208, e212, e214, e215]

set_option maxHeartbeats 4000000 in
theorem dqkv_A (h0 : t.val % 33 = 0) : (runA m c t h0).1
    = tiles (inp m c t) (k0_pay1 (F := Ideal)) (k0_pay216 k0_pay6 ((inp m c t).dk 0) ((inp m c t).dk 1) (k0_pay3 (F := Ideal))) (k0_pay2 (F := Ideal)) (k0_pay217 k0_pay6 ((inp m c t).dv 0) ((inp m c t).dv 1) (k0_pay4 (F := Ideal))) := by
  unfold runA; frame_open
  unfold tiles
  simp -proj only [lq0, lc0, lq1, lc1, lq2, lc2, lq3, lc3, lq4, lc4, lq5, lc5, lq6, lc6, lq7, lc7, ll0, ll1, ll2, ll3, ll4, ll5, ll6, ll7, ll8, ll9, ll10, ll11, ll12, ll13, ll14, ll15, l_km, l_kp, l_kc, l_vm, l_vp, l_vc, l_c, l_sa, l_sb, ls0, ls1, ls2, ls3, ls4, ls5, ls6, ls7, ls8, ls9, ls10, ls11, ls12, ls13, ls14, ls15, inp_n m c t, inp_n' m c t]
  simp -proj only [e9, e10, e14, e15, e18, e19, e23, e30, e31, e32, e33, e36, e37, e38, e39, e42, e43, e44, e46, e47, e48, e49, e51, e52, e53, e54, e55, e56, e58, e59, e60, e61, e62, e66, e67, e68, e69, e70, e71, e73, e74, e76, e77, e78, e79, e81, e82, e83, e84, e85, e89, e90, e91, e92, e93, e94, e97, e98, e99, e100, e101, e102, e104, e105, e106, e107, e108, e111, e112, e113, e114, e115, e116, e120, e121, e122, e125, e126, e127, e128, e131, e132, e133, e134, e136, e137, e138, e139, e141, e142, e143, e144, e145, e146, e148, e149, e150, e151, e153, e154, e156, e157, e158, e159, e160, e164, e165, e166, e167, e168, e169, e171, e172, e173, e174, e175, e176, e178, e179, e180, e181, e182, e186, e187, e188, e189, e190, e191, e195, e196, e197, e198, e199, e200, e201, e202, e206, e207, e208, e212, e214, e215]
  simp -proj (disch := decide) only [View.readCov_unit_lit', View.readCov_cons_unit_lit']

end
end Cert.AttnBwdIdeal.Hand
-- ==== Proof.AttnBwdLeft.lean ====
/- What the body leaves at each point, entry by entry. -/
module

public import proofs.«01_k».proof.Proof.AttnBwdIn
public import proofs.«01_k».proof.Proof.AttnBwdFound
public import Idealize.ShloMosaic.Lib.WritesUnit

@[expose] public section

set_option maxRecDepth 16384

noncomputable section

namespace Cert.AttnBwdIdeal.Hand
open Cert.AttnBwdIdeal Cert.AttnBwdIdeal.Gen Cert.Mask
open Idealize.ShloMosaic Idealize.ShloMosaic.TcCoe Idealize.ShloMosaic.Tactic
open Cert.AttnRefIdeal.Val (qrow head fS fD fP fDel fDS fDK fDV fDQ fLse)

variable (m : (ℓ : Loc nD τ sig) → Buf (Elt Ideal) ℓ) (c : Dev nD)

/-- The keys' and the values' gradients block `n` hands out, by lane. -/
def gK (n : Fin 33) (l : Fin 384) (x : Fin 128) : EReal := fDK (x0 := proj m c) (x1 := sinks m c) (x2 := grads m c) n ⟨x.val / 64, by omega⟩ l ⟨x.val % 64, Nat.mod_lt _ (by decide)⟩
def gV (n : Fin 33) (l : Fin 384) (x : Fin 128) : EReal := fDV (x0 := proj m c) (x1 := sinks m c) (x2 := grads m c) n ⟨x.val / 64, by omega⟩ l ⟨x.val % 64, Nat.mod_lt _ (by decide)⟩
/-- The sinks' gradient block `n` adds. -/
def gS (n : Fin 33) (h : Fin 16) : EReal := 0 - ∑ r : Fin 128, Ideal.exp (sinks m c (ix2 0 h) - fLse (proj m c) (sinks m c) n ⟨h.val / 8, by omega⟩ ⟨h.val % 8, by omega⟩ r)
    * fDel (proj m c) (sinks m c) (grads m c) n ⟨h.val / 8, by omega⟩ ⟨h.val % 8, by omega⟩ r

theorem lane_split (x : Fin 128) : x = ⟨64 * (x.val / 64) + x.val % 64, by omega⟩ := Fin.ext (Nat.div_add_mod _ _).symm

section
variable (t : Fin cfg0.N)

theorem foldK_lane (l : Fin 384) (x : Fin 128) : (inp m c t).foldK (ix2 l x) = gK m c (blk t) l x :=
  (congrArg (fun y => (inp m c t).foldK (ix2 l y)) (lane_split x)).trans
    ((In.foldK_at _ l ⟨x.val / 64, by omega⟩ ⟨x.val % 64, Nat.mod_lt _ (by decide)⟩).trans (DK_at m c t _ _ _))
theorem foldV_lane (l : Fin 384) (x : Fin 128) : (inp m c t).foldV (ix2 l x) = gV m c (blk t) l x :=
  (congrArg (fun y => (inp m c t).foldV (ix2 l y)) (lane_split x)).trans
    ((In.foldV_at _ l ⟨x.val / 64, by omega⟩ ⟨x.val % 64, Nat.mod_lt _ (by decide)⟩).trans (DV_at m c t _ _ _))

theorem carried_eq (k : Memref sig .tc .vmem S128x128 .f32) (h : k.IsWhole) (x : Vec Ideal S128x128 .f32) : carried k h x = x := by
  show View.ld (k.view.read (Elt Ideal) (h.unread x)) whole128 = x
  rw [h.read_unread]
  exact View.ld_unit_lit' _ _ (by decide)

theorem canon_whole (w : Vec Ideal S128x128 .f32) (L : List (View.Piece (Elt Ideal) S128x128 .f32)) :
    View.canon (⟨whole128, w⟩ :: L) = w := View.canon_cons_unit_lit' _ w L (by decide)

theorem carK_left_A (h0 : t.val % 33 = 0) : (left m c t.val t.isLt).carK = k0_pay221 (inp m c t).foldK :=
  (congrArg Left.carK (left_A m c t h0)).trans ((View.read_writes_junk_eq_canon VS0_0 (runA m c t h0).2.2.1).trans ((congrArg View.canon (carK_A m c t h0)).trans (canon_whole _ _)))
theorem carK_left_B (h0 : ¬t.val % 33 = 0) : (left m c t.val t.isLt).carK = k0_pay221 (inp m c t).foldK :=
  (congrArg Left.carK (left_B m c t h0)).trans ((View.read_writes_junk_eq_canon VS0_0 (runB m c t h0 (before m c t)).2.2.1).trans ((congrArg View.canon (carK_B m c t h0 (before m c t))).trans (canon_whole _ _)))
theorem carK_left : (left m c t.val t.isLt).carK = k0_pay221 (inp m c t).foldK := by
  by_cases h0 : t.val % 33 = 0
  · exact carK_left_A m c t h0
  · exact carK_left_B m c t h0
theorem carV_left_A (h0 : t.val % 33 = 0) : (left m c t.val t.isLt).carV = k0_pay222 (inp m c t).foldV :=
  (congrArg Left.carV (left_A m c t h0)).trans ((View.read_writes_junk_eq_canon VS0_1 (runA m c t h0).2.2.2.1).trans ((congrArg View.canon (carV_A m c t h0)).trans (canon_whole _ _)))
theorem carV_left_B (h0 : ¬t.val % 33 = 0) : (left m c t.val t.isLt).carV = k0_pay222 (inp m c t).foldV :=
  (congrArg Left.carV (left_B m c t h0)).trans ((View.read_writes_junk_eq_canon VS0_1 (runB m c t h0 (before m c t)).2.2.2.1).trans ((congrArg View.canon (carV_B m c t h0 (before m c t))).trans (canon_whole _ _)))
theorem carV_left : (left m c t.val t.isLt).carV = k0_pay222 (inp m c t).foldV := by
  by_cases h0 : t.val % 33 = 0
  · exact carV_left_A m c t h0
  · exact carV_left_B m c t h0
theorem metK_left_A (h0 : t.val % 33 = 0) : (left m c t.val t.isLt).metK = k0_pay216 k0_pay6 ((inp m c t).dk 0) ((inp m c t).dk 1) (k0_pay3 (F := Ideal)) :=
  (congrArg Left.metK (left_A m c t h0)).trans ((View.read_writes_junk_eq_canon VS0_2 (runA m c t h0).2.2.2.2.1).trans ((congrArg View.canon (metK_A m c t h0)).trans (canon_whole _ _)))
theorem metV_left_A (h0 : t.val % 33 = 0) : (left m c t.val t.isLt).metV = k0_pay217 k0_pay6 ((inp m c t).dv 0) ((inp m c t).dv 1) (k0_pay4 (F := Ideal)) :=
  (congrArg Left.metV (left_A m c t h0)).trans ((View.read_writes_junk_eq_canon VS0_3 (runA m c t h0).2.2.2.2.2.1).trans ((congrArg View.canon (metV_A m c t h0)).trans (canon_whole _ _)))
theorem metK_left_B (h0 : ¬t.val % 33 = 0) : (left m c t.val t.isLt).metK = k0_pay216 k0_pay6 ((inp m c t).dk 0) ((inp m c t).dk 1) (before m c t).metK :=
  ((congrArg Left.metK (left_B m c t h0)).trans ((View.read_writes_junk_eq_canon VS0_2 (runB m c t h0 (before m c t)).2.2.2.2.1).trans ((congrArg View.canon (metK_B m c t h0 (before m c t))).trans (canon_whole _ _)))).trans (congrArg _ (carried_eq _ _ _))
theorem metV_left_B (h0 : ¬t.val % 33 = 0) : (left m c t.val t.isLt).metV = k0_pay217 k0_pay6 ((inp m c t).dv 0) ((inp m c t).dv 1) (before m c t).metV :=
  ((congrArg Left.metV (left_B m c t h0)).trans ((View.read_writes_junk_eq_canon VS0_3 (runB m c t h0 (before m c t)).2.2.2.2.2.1).trans ((congrArg View.canon (metV_B m c t h0 (before m c t))).trans (canon_whole _ _)))).trans (congrArg _ (carried_eq _ _ _))
theorem dqkv_left_A (h0 : t.val % 33 = 0) : (left m c t.val t.isLt).dqkv
    = View.canon (tiles (inp m c t) (k0_pay1 (F := Ideal)) (left m c t.val t.isLt).metK (k0_pay2 (F := Ideal)) (left m c t.val t.isLt).metV) := by
  rw [metK_left_A m c t h0, metV_left_A m c t h0]
  exact (congrArg Left.dqkv (left_A m c t h0)).trans ((View.read_writes_junk_eq_canon VO0_13 (runA m c t h0).1).trans (congrArg View.canon (dqkv_A m c t h0)))
theorem dqkv_left_B (h0 : ¬t.val % 33 = 0) : (left m c t.val t.isLt).dqkv
    = View.canon (tiles (inp m c t) (before m c t).carK (left m c t.val t.isLt).metK (before m c t).carV (left m c t.val t.isLt).metV) := by
  have e := (congrArg Left.dqkv (left_B m c t h0)).trans ((View.read_writes_junk_eq_canon VO0_13 (runB m c t h0 (before m c t)).1).trans (congrArg View.canon (dqkv_B m c t h0 (before m c t))))
  rw [carried_eq, carried_eq, carried_eq, carried_eq, ← metK_left_B m c t h0, ← metV_left_B m c t h0] at e
  exact e
end

/-- The last point. -/
abbrev tEnd : Fin cfg0.N := ⟨32, lt_of_lt_of_eq (by decide : 32 < 33) N_0.symm⟩

/-- At the last point the meta keys' accumulators hold every block's share. -/
theorem metK_last (l x : Fin 128) : (left m c tEnd.val tEnd.isLt).metK (ix2 l x) = ∑ t : Fin cfg0.N, gK m c (blk t) ⟨l.val, by omega⟩ x := by
  refine (Pipeline.eq_sum_fin_of_reset_step_apply_last (fun n h => (fun j : Fin 128 × Fin 128 => (left m c n h).metK (ix2 j.1 j.2))) 33 (fun _ => (0 : EReal))
    (fun t j => gK m c (blk t) ⟨j.1.val, by omega⟩ j.2) (fun t h j => ?_) (fun t h j => ?_) (le_of_eq N_0) tEnd (show 32 + 1 = cfg0.N from N_0.symm) (l, x)).trans (zero_add _)
  · show (left m c t.val t.isLt).metK (ix2 j.1 j.2) = _
    rw [metK_left_A m c t h, pay216_at, pay3_at]
    exact congrArg (_ + ·) (foldK_lane m c t _ _)
  · show (left m c t.val t.isLt).metK (ix2 j.1 j.2) = _
    rw [metK_left_B m c t h, pay216_at]
    exact congrArg (_ + ·) (foldK_lane m c t _ _)
theorem metV_last (l x : Fin 128) : (left m c tEnd.val tEnd.isLt).metV (ix2 l x) = ∑ t : Fin cfg0.N, gV m c (blk t) ⟨l.val, by omega⟩ x := by
  refine (Pipeline.eq_sum_fin_of_reset_step_apply_last (fun n h => (fun j : Fin 128 × Fin 128 => (left m c n h).metV (ix2 j.1 j.2))) 33 (fun _ => (0 : EReal))
    (fun t j => gV m c (blk t) ⟨j.1.val, by omega⟩ j.2) (fun t h j => ?_) (fun t h j => ?_) (le_of_eq N_0) tEnd (show 32 + 1 = cfg0.N from N_0.symm) (l, x)).trans (zero_add _)
  · show (left m c t.val t.isLt).metV (ix2 j.1 j.2) = _
    rw [metV_left_A m c t h, pay217_at, pay4_at]
    exact congrArg (_ + ·) (foldV_lane m c t _ _)
  · show (left m c t.val t.isLt).metV (ix2 j.1 j.2) = _
    rw [metV_left_B m c t h, pay217_at]
    exact congrArg (_ + ·) (foldV_lane m c t _ _)

/-- What a point adds to the sinks' buffer. -/
def sinkRow (t : Fin cfg0.N) (i : Fin 8) (x : Fin 128) : EReal := if h : i.val = 0 ∧ x.val < 16 then gS m c (blk t) ⟨x.val, h.2⟩ else 0

theorem sinkAll (t : Fin cfg0.N) (x : Fin 128) : (inp m c t).sinkUpTo 16 (by decide) (ix2 0 x) = sinkRow m c t 0 x := by
  rw [In.sinkUpTo_at]
  unfold sinkRow
  by_cases h : x.val < 16
  · rw [dif_pos h, dif_pos ⟨rfl, h⟩]; exact Sink_at m c t _
  · rw [dif_neg h, dif_neg fun h' => h h'.2]

/-- Off the sinks' row the fill stays. -/
theorem canon_other (w : Vec Ideal S1x128 .f32) (i : Fin 8) (x : Fin 128) (hi : ¬i.val = 0) :
    View.canon [(⟨row8, w⟩ : View.Piece (Elt Ideal) S8x128 .f32), ⟨whole8, k0_pay5 (F := Ideal)⟩] (ix2 i x) = (0 : EReal) := by
  have e : (ix2 i x : S8x128.Idx) ∉ row8.set := fun h => hi (Nat.lt_one_iff.mp
    (show i.val < 0 + 1 from ((Rect.mem_set_unit (s := S8x128) (off := ![0, 0]) (size := S1x128.size) (inb := inb_S8x128_S1x128_0_0)).mp h 0).2))
  have hw : View.canon [(⟨whole8, k0_pay5 (F := Ideal)⟩ : View.Piece (Elt Ideal) S8x128 .f32)] = k0_pay5 (F := Ideal) := View.canon_cons_unit_lit' _ _ _ (by decide)
  exact (View.canon_cons_of_not_mem (⟨row8, w⟩ : View.Piece (Elt Ideal) S8x128 .f32) _ e).trans ((congrFun hw _).trans (pay5_at i x))

theorem dsink_left_A (t : Fin cfg0.N) (h0 : t.val % 33 = 0) (i : Fin 8) (x : Fin 128) : (left m c t.val t.isLt).dsink (ix2 i x) = 0 + sinkRow m c t i x := by
  refine (congrFun ((congrArg Left.dsink (left_A m c t h0)).trans ((View.read_writes_junk_eq_canon VO0_14 (runA m c t h0).2.1).trans (congrArg View.canon (dsink_A m c t h0)))) _).trans ?_
  have hw : View.canon [(⟨whole8, k0_pay5 (F := Ideal)⟩ : View.Piece (Elt Ideal) S8x128 .f32)] = k0_pay5 (F := Ideal) := View.canon_cons_unit_lit' _ _ _ (by decide)
  by_cases hi : i.val = 0
  · obtain rfl : i = 0 := Fin.ext hi
    have e : (ix2 0 x : S8x128.Idx) = row8.emb (ix2 0 x) := by funext a; fin_cases a <;> exact Fin.ext (by simp [Rect.emb_apply] )
    rw [e, View.canon_cons_emb, pay213_at, sinkAll, View.readCov_eq_canon', hw]
    show k0_pay5 (F := Ideal) (row8.emb (ix2 0 x)) + _ = _
    rw [← e, pay5_at]
  · refine (canon_other _ i x hi).trans ?_
    unfold sinkRow
    rw [dif_neg fun h => hi h.1, zero_add]

theorem dsink_left_B (t : Fin cfg0.N) (h0 : ¬t.val % 33 = 0) (i : Fin 8) (x : Fin 128) : (left m c t.val t.isLt).dsink (ix2 i x) = (before m c t).dsink (ix2 i x) + sinkRow m c t i x := by
  refine (congrFun (congrArg Left.dsink (left_B m c t h0)) _).trans ?_
  refine (congrFun (congrArg (fun L => (ms0_14 t).view.read (Elt Ideal) ((ms0_14 t).view.writes (Elt Ideal) ((hs0_14 t).unread (before m c t).dsink) L)) (dsink_B m c t h0 (before m c t))) _).trans ?_
  by_cases hi : i.val = 0
  · obtain rfl : i = 0 := Fin.ext hi
    refine (View.read_writes_cons_unit_of_mem _ _ _ _ _ _ (ix2 0 x) rfl (fun a => by fin_cases a <;> simp)).trans ?_
    rw [pay213_at, sinkAll, View.readAt_eq_ld, (hs0_14 t).read_unread]
    refine congrArg (fun y => (before m c t).dsink y + _) ?_
    funext a; fin_cases a <;> exact Fin.ext (by simp [Rect.emb_apply])
  · refine (View.read_writes_cons_unit_of_not_mem _ _ _ _ _ _ rfl 0 (Or.inr (by show 0 + 1 ≤ i.val; omega))).trans ?_
    rw [View.writes_nil, (hs0_14 t).read_unread]
    unfold sinkRow
    rw [dif_neg fun h => hi h.1, add_zero]

theorem dsink_last (i : Fin 8) (x : Fin 128) : (left m c tEnd.val tEnd.isLt).dsink (ix2 i x) = ∑ t : Fin cfg0.N, sinkRow m c t i x :=
  (Pipeline.eq_sum_fin_of_reset_step_apply_last (fun n h => (fun j : Fin 8 × Fin 128 => (left m c n h).dsink (ix2 j.1 j.2))) 33 (fun _ => (0 : EReal))
    (fun t j => sinkRow m c t j.1 j.2) (fun t h j => dsink_left_A m c t h _ _) (fun t h j => dsink_left_B m c t h _ _) (le_of_eq N_0) tEnd (show 32 + 1 = cfg0.N from N_0.symm) (i, x)).trans (zero_add _)

end Cert.AttnBwdIdeal.Hand
-- ==== Proof.AttnBwdGold.lean ====
/- The gradient of the projected rows: what the reference computes, entry by entry. -/
module

public import proofs.«01_k».proof.Proof.AttnBwdLeft

@[expose] public section

set_option maxRecDepth 16384

noncomputable section

namespace Cert.AttnBwdIdeal.Hand
open Cert.AttnBwdIdeal Cert.AttnBwdIdeal.Gen Cert.Mask
open Idealize.ShloMosaic Idealize.ShloMosaic.TcCoe Idealize.ShloMosaic.Tactic Cert.Rows
open Cert.AttnRefIdeal.Val (qrow head key fS fD fP fDel fDS fDK fDV fDQ fLse)

/-- A head's row, the rotation of position `i` carried back. -/
def back (Y : Fin 64 → EReal) (i : Fin 4112) (d : Fin 64) : EReal :=
  if h : d.val < 8 then Y ⟨8 + d.val, by omega⟩ * Ideal.sin (angle i d.val) + Y d * Ideal.cos (angle i d.val)
  else if d.val < 16 then Y d * Ideal.cos (angle i (d.val - 8)) + -Y ⟨d.val - 8, by omega⟩ * Ideal.sin (angle i (d.val - 8))
  else Y d

theorem back_low (Y : Fin 64 → EReal) (i : Fin 4112) (d : Fin 64) (h : d.val < 8) :
    back Y i d = Y ⟨8 + d.val, by omega⟩ * Ideal.sin (angle i d.val) + Y d * Ideal.cos (angle i d.val) := dif_pos h
theorem back_mid (Y : Fin 64 → EReal) (i : Fin 4112) (d : Fin 64) (h : 8 ≤ d.val) (h' : d.val < 16) :
    back Y i d = Y d * Ideal.cos (angle i (d.val - 8)) + -Y ⟨d.val - 8, by omega⟩ * Ideal.sin (angle i (d.val - 8)) :=
  (dif_neg (by omega)).trans (if_pos h')
theorem back_high (Y : Fin 64 → EReal) (i : Fin 4112) (d : Fin 64) (h : 16 ≤ d.val) : back Y i d = Y d :=
  (dif_neg (by omega)).trans (if_neg (by omega))

/-- The same, as the sum of the three slices put back in place. -/
theorem back_slices (Y : Fin 64 → EReal) (i : Fin 4112) (d : Fin 64) (k N : ℕ) (hk : k < N) :
    ((if h : k < N ∧ 16 ≤ d.val ∧ d.val - 16 < 48 then Y ⟨16 + (d.val - 16), by omega⟩ else 0)
      + if h : k < N ∧ d.val < 16 then
          (if h : k < N ∧ 8 ≤ d.val ∧ d.val - 8 < 8 then Y ⟨8 + (d.val - 8), by omega⟩ * Ideal.cos (angle i (d.val - 8)) + -Y ⟨d.val - 8, by omega⟩ * Ideal.sin (angle i (d.val - 8)) else 0)
          + if h : k < N ∧ d.val < 8 then Y ⟨8 + d.val, by omega⟩ * Ideal.sin (angle i d.val) + Y ⟨d.val, by omega⟩ * Ideal.cos (angle i d.val) else 0
        else 0) = back Y i d := by
  by_cases h8 : d.val < 8
  · rw [back_low _ _ _ h8, dif_neg (by omega), dif_pos ⟨hk, by omega⟩, dif_neg (by omega), dif_pos ⟨hk, h8⟩, zero_add, zero_add]
  by_cases h16 : d.val < 16
  · rw [back_mid _ _ _ (by omega) h16, dif_neg (by omega), dif_pos ⟨hk, h16⟩, dif_pos ⟨hk, by omega, by omega⟩, dif_neg (by omega), zero_add, add_zero]
    exact congrArg (fun e => Y e * _ + _) (Fin.ext (by simp only; omega))
  · rw [back_high _ _ _ (by omega), dif_pos ⟨hk, by omega, by omega⟩, dif_neg (by omega), add_zero]
    exact congrArg Y (Fin.ext (by simp only; omega))

section ref
open Cert.AttnRefIdeal.Read
variable (x0 : FVec Ideal S1x4112x1280 .f32) (x1 : FVec Ideal S1x16 .f32) (x2 : FVec Ideal S1x4112x1024 .f32)

theorem ref_turn_q (i : Fin 4112) (x : Fin 1024) : (val_main_v289 (F := Ideal) x0 x1 x2) (ix2 i x)
    = back (fun d => val_main_v244 (F := Ideal) x0 x1 x2 (ix3 i ⟨x.val / 64, by omega⟩ d)) i ⟨x.val % 64, Nat.mod_lt _ (by decide)⟩ := by
  pointwise [val_main_v289, val_main_v288, val_main_v287, val_main_v286, val_main_v285, val_main_v284, val_main_v283, val_main_v282, val_main_v281, val_main_v280, val_main_v279, val_main_v278, val_main_v277, val_main_v276, val_main_v275, val_main_v274, val_main_v273, val_main_v272, val_main_v271, val_main_v270, val_main_v269, val_main_v268, val_main_cst_49, val_main_cst_50, val_main_cst_51, val_main_cst_52, val_main_v22, val_main_v24, ref_cos, ref_sin]
  exact back_slices (fun d => val_main_v244 (F := Ideal) x0 x1 x2 (ix3 i ⟨x.val / 64, by omega⟩ d)) i ⟨x.val % 64, Nat.mod_lt _ (by decide)⟩ (x.val / 64) 16 (by omega)
theorem ref_turn_k (i : Fin 4112) (x : Fin 128) : (val_main_v267 (F := Ideal) x0 x1 x2) (ix2 i x)
    = back (fun d => val_main_v239 (F := Ideal) x0 x1 x2 (ix3 i ⟨x.val / 64, by omega⟩ d)) i ⟨x.val % 64, Nat.mod_lt _ (by decide)⟩ := by
  pointwise [val_main_v267, val_main_v266, val_main_v265, val_main_v264, val_main_v263, val_main_v262, val_main_v261, val_main_v260, val_main_v259, val_main_v258, val_main_v257, val_main_v256, val_main_v255, val_main_v254, val_main_v253, val_main_v252, val_main_v251, val_main_v250, val_main_v249, val_main_v248, val_main_v247, val_main_v246, val_main_cst_45, val_main_cst_46, val_main_cst_47, val_main_cst_48, val_main_v57, val_main_v59, AttnRefIdeal.Val.k_cos, AttnRefIdeal.Val.k_sin]
  exact back_slices (fun d => val_main_v239 (F := Ideal) x0 x1 x2 (ix3 i ⟨x.val / 64, by omega⟩ d)) i ⟨x.val % 64, Nat.mod_lt _ (by decide)⟩ (x.val / 64) 2 (by omega)
end ref

/-- The three places a row of keys is read from: its own block, the next one, and, in the first block, every one. -/
theorem keys_sum (f : Fin 33 → Fin 384 → EReal) (n : Fin 33) (r : Fin 128) (i : Fin 4112) (hi : 112 + i.val = 128 * n.val + r.val) :
    ((if h : i.val < 16 then ∑ n', f n' (key ⟨i.val, by omega⟩) else 0)
      + (f ⟨n.val, n.isLt⟩ (key ⟨144 + r.val, by omega⟩) + if h : n.val < 32 ∧ r.val < 128 then f ⟨1 + n.val, by omega⟩ (key ⟨16 + r.val, by omega⟩) else 0))
    = (f n ⟨256 + r.val, by omega⟩ + if h : n.val < 32 then f ⟨n.val + 1, by omega⟩ ⟨128 + r.val, by omega⟩ else 0)
      + if n.val = 0 then ∑ n' : Fin 33, f n' ⟨r.val, by omega⟩ else 0 := by
  rw [add_comm]
  refine congrArg₂ (· + ·) (congrArg₂ (· + ·) (congrArg (f n) (Fin.ext (by simp only; omega))) ?_) ?_
  · by_cases h : n.val < 32
    · rw [dif_pos ⟨h, r.isLt⟩, dif_pos h]
      exact congrArg₂ f (Fin.ext (by simp only; omega)) (Fin.ext (by simp only; omega))
    · rw [dif_neg fun h' => h h'.1, dif_neg h]
  · by_cases h : n.val = 0
    · rw [dif_pos (by omega), if_pos h]
      exact Finset.sum_congr rfl fun n' _ => congrArg (f n') (Fin.ext (by simp only; omega))
    · rw [dif_neg (by omega), if_neg h]

section turn
variable (m : (ℓ : Loc nD τ sig) → Buf (Elt Ideal) ℓ) (c : Dev nD) (t : Fin cfg0.N)

theorem turn_zero (y : Fin 128 → EReal) (hy : ∀ x, y x = 0) (r x : Fin 128) : (inp m c t).turn y r x = 0 := by
  unfold In.turn
  rw [hy, hy, hy]
  simp only [zero_mul, add_zero]

/-- The kernel's rotation with its rolled tables is the reference's. -/
theorem turn_back (y : Fin 128 → EReal) (r x : Fin 128) (i : Fin 4112) (hi : qrow (blk t) r = Rw i) :
    (inp m c t).turn y r x = back (fun d => y ⟨64 * (x.val / 64) + d.val, by omega⟩) i ⟨x.val % 64, Nat.mod_lt _ (by decide)⟩ := by
  unfold In.turn
  rw [c_at, sa_at, sb_at, hi, tab_cos, tab_sa, tab_sb]
  by_cases h8 : x.val % 64 < 8
  · rw [back_low _ _ _ h8, if_pos (by omega), if_neg (by simp only; omega), if_pos (by simp only; omega), mul_zero, add_zero, add_comm]
    have e1 : x.val % 8 = x.val % 64 := by omega
    have e2 : (x.val + 128 - 120) % 128 % 8 = x.val % 64 := by omega
    simp only [e1, e2]
    refine congrArg₂ (· + ·) (congrArg (· * _) (congrArg y (Fin.ext ?_))) (congrArg (· * _) (congrArg y (Fin.ext ?_))) <;> simp only <;> omega
  by_cases h16 : x.val % 64 < 16
  · rw [back_mid _ _ _ (by simp only; omega) h16, if_pos h16, if_pos (by simp only; omega), if_neg (by simp only; omega), mul_zero, add_zero, EReal.neg_mul, mul_comm (y _) (-_), EReal.neg_mul, mul_comm (Ideal.sin _) (y _)]
    have e1 : x.val % 8 = x.val % 64 - 8 := by omega
    have e2 : (x.val + 128 - 8) % 128 % 8 = x.val % 64 - 8 := by omega
    simp only [e1, e2]
    refine congrArg₂ (· + ·) (congrArg (· * _) (congrArg y (Fin.ext ?_))) (congrArg (- ·) (congrArg (· * _) (congrArg y (Fin.ext ?_)))) <;> simp only <;> omega
  · rw [back_high _ _ _ (by simp only; omega), if_neg h16, if_neg (by simp only; omega), if_neg (by simp only; omega), mul_zero, mul_zero, add_zero, add_zero, mul_one]
    exact congrArg y (Fin.ext (by simp only; omega))
end turn

section ref
open Cert.AttnRefIdeal.Read
variable {x0 : FVec Ideal S1x4112x1280 .f32} {x1 : FVec Ideal S1x16 .f32} {x2 : FVec Ideal S1x4112x1024 .f32}
variable (h0 : ∀ i, Fin' (x0 i)) (h1 : ∀ i, Fin' (x1 i)) (h2 : ∀ i, Fin' (x2 i))
include h0 h1 h2

theorem ref_k (n : Fin 33) (r : Fin 128) (i : Fin 4112) (hi : 112 + i.val = 128 * n.val + r.val) (g : Fin 2) (d : Fin 64) :
    (val_main_v239 (F := Ideal) x0 x1 x2) (ix3 i g d)
    = (fDK (x0 := x0) (x1 := x1) (x2 := x2) n g ⟨256 + r.val, by omega⟩ d
        + if h : n.val < 32 then fDK (x0 := x0) (x1 := x1) (x2 := x2) ⟨n.val + 1, by omega⟩ g ⟨128 + r.val, by omega⟩ d else 0)
      + if n.val = 0 then ∑ n' : Fin 33, fDK (x0 := x0) (x1 := x1) (x2 := x2) n' g ⟨r.val, by omega⟩ d else 0 := by
  have e1 : (112 + i.val) / 128 = n.val := by omega
  have e2 : (112 + i.val) % 128 = r.val := by omega
  pointwise [val_main_v236, val_main_v235, val_main_v234, val_main_v233, val_main_v232, val_main_v231, val_main_v230, val_main_v229, val_main_v227, val_main_v226, val_main_v225, val_main_v238, val_main_v239, val_main_cst_40, val_main_cst_41, val_main_cst_42, val_main_cst_43, AttnRefIdeal.Val.dk_at h0 h1 h2, Fin.sum_univ_one]
  simp only [e1, e2]
  exact keys_sum (fun n l => fDK (x0 := x0) (x1 := x1) (x2 := x2) n g l d) n r i hi
theorem ref_v (n : Fin 33) (r : Fin 128) (i : Fin 4112) (hi : 112 + i.val = 128 * n.val + r.val) (g : Fin 2) (d : Fin 64) :
    (val_main_v199 (F := Ideal) x0 x1 x2) (ix3 i g d)
    = (fDV (x0 := x0) (x1 := x1) (x2 := x2) n g ⟨256 + r.val, by omega⟩ d
        + if h : n.val < 32 then fDV (x0 := x0) (x1 := x1) (x2 := x2) ⟨n.val + 1, by omega⟩ g ⟨128 + r.val, by omega⟩ d else 0)
      + if n.val = 0 then ∑ n' : Fin 33, fDV (x0 := x0) (x1 := x1) (x2 := x2) n' g ⟨r.val, by omega⟩ d else 0 := by
  have e1 : (112 + i.val) / 128 = n.val := by omega
  have e2 : (112 + i.val) % 128 = r.val := by omega
  pointwise [val_main_v196, val_main_v195, val_main_v194, val_main_v193, val_main_v192, val_main_v191, val_main_v190, val_main_v189, val_main_v187, val_main_v186, val_main_v185, val_main_v198, val_main_v199, val_main_cst_31, val_main_cst_32, val_main_cst_33, val_main_cst_34, AttnRefIdeal.Val.dv_at h0 h1 h2, Fin.sum_univ_one]
  simp only [e1, e2]
  exact keys_sum (fun n l => fDV (x0 := x0) (x1 := x1) (x2 := x2) n g l d) n r i hi
theorem ref_q (n : Fin 33) (r : Fin 128) (i : Fin 4112) (hi : 112 + i.val = 128 * n.val + r.val) (h : Fin 16) (d : Fin 64) :
    (val_main_v244 (F := Ideal) x0 x1 x2) (ix3 i h d) = fDQ (x0 := x0) (x1 := x1) (x2 := x2) n ⟨h.val / 8, by omega⟩ ⟨h.val % 8, by omega⟩ r d := by
  have e1 : (112 + i.val) / 128 = n.val := by omega
  have e2 : (112 + i.val) % 128 = r.val := by omega
  pointwise [val_main_v244, val_main_v242, val_main_v241, val_main_v240, val_main_cst_44]
  simp only [e1, e2]
  exact AttnRefIdeal.Val.dq_at h0 h1 h2 _ _ _ _ _
end ref

section out
open Cert.AttnRefIdeal.Read
variable (m : (ℓ : Loc nD τ sig) → Buf (Elt Ideal) ℓ) (c : Dev nD)

/-- A row of keys' gradient, by lane, and a row of values'. -/
def kOut (n : Fin 33) (r x : Fin 128) : EReal :=
  (gK m c n ⟨256 + r.val, by omega⟩ x + if h : n.val < 32 then gK m c ⟨n.val + 1, by omega⟩ ⟨128 + r.val, by omega⟩ x else 0)
    + if n.val = 0 then ∑ n' : Fin 33, gK m c n' ⟨r.val, by omega⟩ x else 0
def vOut (n : Fin 33) (r x : Fin 128) : EReal :=
  (gV m c n ⟨256 + r.val, by omega⟩ x + if h : n.val < 32 then gV m c ⟨n.val + 1, by omega⟩ ⟨128 + r.val, by omega⟩ x else 0)
    + if n.val = 0 then ∑ n' : Fin 33, gV m c n' ⟨r.val, by omega⟩ x else 0
/-- A row of queries' gradient before the rotation is carried back. -/
def qOut (n : Fin 33) (r : Fin 128) (x : Fin 1024) : EReal :=
  fDQ (x0 := proj m c) (x1 := sinks m c) (x2 := grads m c) n ⟨x.val / 64 / 8, by omega⟩ ⟨x.val / 64 % 8, by omega⟩ r ⟨x.val % 64, Nat.mod_lt _ (by decide)⟩

/-- No row before position zero takes part. -/
theorem not_ok_own (r : Fin 128) (hr : r.val < 112) (r' : Fin 128) : ¬ok 0 r'.val (256 + r.val) := by
  unfold ok; rw [if_neg (by omega)]; omega
theorem not_ok_next (r : Fin 128) (hr : r.val < 112) (r' : Fin 128) : ¬ok 1 r'.val (128 + r.val) := by
  unfold ok; rw [if_neg (by omega)]; omega
theorem not_ok_row (r : Fin 128) (hr : r.val < 112) (l : Fin 384) : ¬ok 0 r.val l.val := by
  unfold ok; split <;> omega

theorem kOut_zero (n : Fin 33) (hn : n.val = 0) (r x : Fin 128) (hr : r.val < 112) : kOut m c n r x = 0 := by
  obtain rfl : n = 0 := Fin.ext hn
  unfold kOut gK
  rw [AttnRefIdeal.Val.dk_zero _ _ _ _ (not_ok_own r hr), dif_pos (by decide), if_pos hn, zero_add]
  rw [show fDK (x0 := proj m c) (x1 := sinks m c) (x2 := grads m c) ⟨(0 : Fin 33).val + 1, by decide⟩ ⟨x.val / 64, by omega⟩ ⟨128 + r.val, by omega⟩ ⟨x.val % 64, Nat.mod_lt _ (by decide)⟩ = 0 from
    AttnRefIdeal.Val.dk_zero _ _ _ _ (not_ok_next r hr), zero_add]
  exact Finset.sum_eq_zero fun n _ => AttnRefIdeal.Val.dk_zero _ _ _ _ fun r' => AttnRefIdeal.Val.none (by exact hr)
theorem vOut_zero (n : Fin 33) (hn : n.val = 0) (r x : Fin 128) (hr : r.val < 112) : vOut m c n r x = 0 := by
  obtain rfl : n = 0 := Fin.ext hn
  unfold vOut gV
  rw [AttnRefIdeal.Val.dv_zero _ _ _ _ (not_ok_own r hr), dif_pos (by decide), if_pos hn, zero_add]
  rw [show fDV (x0 := proj m c) (x1 := sinks m c) (x2 := grads m c) ⟨(0 : Fin 33).val + 1, by decide⟩ ⟨x.val / 64, by omega⟩ ⟨128 + r.val, by omega⟩ ⟨x.val % 64, Nat.mod_lt _ (by decide)⟩ = 0 from
    AttnRefIdeal.Val.dv_zero _ _ _ _ (not_ok_next r hr), zero_add]
  exact Finset.sum_eq_zero fun n _ => AttnRefIdeal.Val.dv_zero _ _ _ _ fun r' => AttnRefIdeal.Val.none (by exact hr)
theorem qOut_zero (n : Fin 33) (hn : n.val = 0) (r : Fin 128) (x : Fin 1024) (hr : r.val < 112) : qOut m c n r x = 0 := by
  obtain rfl : n = 0 := Fin.ext hn
  unfold qOut fDQ
  rw [Finset.sum_eq_zero fun l _ => ?_, zero_mul]
  unfold fDS
  rw [show fP (proj m c) (sinks m c) 0 ⟨x.val / 64 / 8, by omega⟩ ⟨x.val / 64 % 8, by omega⟩ r l = 0 from if_neg (not_ok_row r hr l), zero_mul, mul_zero]

/-- The gradient of the projected rows, entry by entry. -/
def out (n : Fin 33) (r : Fin 128) (x : Fin 1280) : EReal :=
  if hR : 112 ≤ 128 * n.val + r.val then
    if hx : x.val < 1024 then back (fun d => qOut m c n r ⟨64 * (x.val / 64) + d.val, by omega⟩) ⟨128 * n.val + r.val - 112, by omega⟩ ⟨x.val % 64, Nat.mod_lt _ (by decide)⟩
    else if hx' : x.val < 1152 then back (fun d => kOut m c n r ⟨64 * ((x.val - 1024) / 64) + d.val, by omega⟩) ⟨128 * n.val + r.val - 112, by omega⟩ ⟨(x.val - 1024) % 64, Nat.mod_lt _ (by decide)⟩
    else vOut m c n r ⟨x.val - 1152, by omega⟩
  else 0

variable (h0 : ∀ i, Fin' (proj m c i)) (h1 : ∀ i, Fin' (sinks m c i)) (h2 : ∀ i, Fin' (grads m c i))
include h0 h1 h2
theorem ref_out (n : Fin 33) (r : Fin 128) (x : Fin 1280) : (val_main_v292 (F := Ideal) (proj m c) (sinks m c) (grads m c)) (ix2 (qrow n r) x) = out m c n r x := by
  pointwise [val_main_v292, val_main_v291, val_main_v290, val_main_v245, val_main_call2_v0, val_main_c_53]
  unfold out
  by_cases hR : 112 ≤ 128 * n.val + r.val
  · rw [dif_pos ⟨hR, by omega⟩, dif_pos hR]
    by_cases hx : x.val < 1024
    · rw [dif_pos hx, dif_pos hx, ref_turn_q]
      refine congrArg (fun Y => back Y _ _) (funext fun d => (ref_q h0 h1 h2 n r _ (by simp only; omega) _ d).trans ?_)
      unfold qOut
      have e1 : (64 * (x.val / 64) + d.val) / 64 = x.val / 64 := by omega
      have e2 : (64 * (x.val / 64) + d.val) % 64 = d.val := by omega
      simp only [e1, e2]
    rw [dif_neg hx, dif_neg hx]
    by_cases hx' : x.val < 1152
    · rw [dif_pos (by omega), dif_pos hx', ref_turn_k]
      refine congrArg (fun Y => back Y _ _) (funext fun d => (ref_k h0 h1 h2 n r _ (by simp only; omega) _ d).trans ?_)
      unfold kOut gK
      have e1 : (64 * ((x.val - 1024) / 64) + d.val) / 64 = (x.val - 1024) / 64 := by omega
      have e2 : (64 * ((x.val - 1024) / 64) + d.val) % 64 = d.val := by omega
      simp only [e1, e2]
    · rw [dif_neg (by omega), dif_neg hx', ref_v h0 h1 h2 n r _ (by simp only; omega)]
      unfold vOut gV
      have e : x.val - 1024 - 128 = x.val - 1152 := by omega
      simp only [e]
  · rw [dif_neg fun h => hR h.1, dif_neg hR]
    exact zero_word
end out
end Cert.AttnBwdIdeal.Hand
-- ==== Proof.AttnBwdOut.lean ====
/- The two arrays the kernel leaves are the reference's. -/
module

public import proofs.«01_k».proof.Proof.AttnBwdGold
public import Idealize.ShloMosaic.Lib.Pipeline.ValueKit

@[expose] public section

set_option maxRecDepth 16384

noncomputable section

namespace Cert.AttnBwdIdeal.Hand
open Idealize.ShloMosaic.Pipeline
open Cert.AttnBwdIdeal Cert.AttnBwdIdeal.Gen Cert.Mask
open Idealize.ShloMosaic Idealize.ShloMosaic.TcCoe Idealize.ShloMosaic.Tactic Cert.Rows
open Idealize.ShloMosaic.Pipeline (Dat)
open Cert.AttnRefIdeal.Read
open Cert.AttnRefIdeal.Val (qrow head fLse fDel)

variable (m : (ℓ : Loc nD τ sig) → Buf (Elt Ideal) ℓ) (c : Dev nD)

/-- A sum over the grid's points is one over the blocks. -/
theorem sum_points (f : Fin 33 → EReal) : ∑ t : Fin cfg0.N, f (blk t) = ∑ n : Fin 33, f n :=
  Fintype.sum_equiv ⟨blk, fun n => ⟨32 - n.val, lt_of_lt_of_eq (by omega) N_0.symm⟩,
      fun t => Fin.ext (by have := lt_of_lt_of_eq t.isLt N_0; show 32 - (32 - t.val) = t.val; omega),
      fun n => Fin.ext (by show 32 - (32 - n.val) = n.val; omega)⟩ _ _ fun t => rfl

theorem first_block : ∀ t : Fin cfg0.N, Scalar.cmpi CmpIPredicate.eq (Scalar.subi 32#32 (BitVec.ofNat 32 (grid0.coords t 0).val)) 0#32 = if t.val = 32 then 1#1 else 0#1 :=
  (by decide +kernel : ∀ t : Fin grid0.N, _)

section
variable (t : Fin cfg0.N)

theorem car_K (h : ¬t.val % 33 = 0) (l x : Fin 128) (hn : (blk t).val < 32) : (before m c t).carK (ix2 l x) = gK m c ⟨(blk t).val + 1, by omega⟩ ⟨128 + l.val, by omega⟩ x := by
  have hN := lt_of_lt_of_eq t.isLt N_0
  refine (congrFun (carK_left m c ⟨t.val - 1, Nat.lt_of_le_of_lt (Nat.sub_le _ _) t.isLt⟩) _).trans ((pay221_at _ l x).trans ((foldK_lane m c _ _ x).trans ?_))
  exact congrArg (fun n => gK m c n _ x) (Fin.ext (by show 32 - (t.val - 1) = 32 - t.val + 1; omega))
theorem car_V (h : ¬t.val % 33 = 0) (l x : Fin 128) (hn : (blk t).val < 32) : (before m c t).carV (ix2 l x) = gV m c ⟨(blk t).val + 1, by omega⟩ ⟨128 + l.val, by omega⟩ x := by
  have hN := lt_of_lt_of_eq t.isLt N_0
  refine (congrFun (carV_left m c ⟨t.val - 1, Nat.lt_of_le_of_lt (Nat.sub_le _ _) t.isLt⟩) _).trans ((pay222_at _ l x).trans ((foldV_lane m c _ _ x).trans ?_))
  exact congrArg (fun n => gV m c n _ x) (Fin.ext (by show 32 - (t.val - 1) = 32 - t.val + 1; omega))

theorem met_K (h : t.val = 32) (l x : Fin 128) : (left m c t.val t.isLt).metK (ix2 l x) = ∑ n : Fin 33, gK m c n ⟨l.val, by omega⟩ x := by
  obtain rfl : t = tEnd := Fin.ext h
  exact (metK_last m c l x).trans (sum_points fun n => gK m c n ⟨l.val, by omega⟩ x)
theorem met_V (h : t.val = 32) (l x : Fin 128) : (left m c t.val t.isLt).metV (ix2 l x) = ∑ n : Fin 33, gV m c n ⟨l.val, by omega⟩ x := by
  obtain rfl : t = tEnd := Fin.ext h
  exact (metV_last m c l x).trans (sum_points fun n => gV m c n ⟨l.val, by omega⟩ x)

theorem closing_of (F : FVec Ideal S384x128 .f32) (b d : Vec Ideal S128x128 .f32) (f : Fin 33 → Fin 384 → Fin 128 → EReal)
    (hF : ∀ l x, F (ix2 l x) = f (blk t) l x)
    (hb : ∀ l x, b (ix2 l x) = if h : (blk t).val < 32 then f ⟨(blk t).val + 1, by omega⟩ ⟨128 + l.val, by omega⟩ x else (0 : EReal))
    (hd : t.val = 32 → ∀ l x, d (ix2 l x) = ∑ n : Fin 33, f n ⟨l.val, by omega⟩ x) (l x : Fin 128) :
    closing (inp m c t).n F b d l x = (f (blk t) ⟨256 + l.val, by omega⟩ x + if h : (blk t).val < 32 then f ⟨(blk t).val + 1, by omega⟩ ⟨128 + l.val, by omega⟩ x else 0)
      + if (blk t).val = 0 then ∑ n : Fin 33, f n ⟨l.val, by omega⟩ x else 0 := by
  have hN := lt_of_lt_of_eq t.isLt N_0
  refine congrArg₂ (· + ·) (congrArg₂ (· + ·) (hF _ _) (hb l x)) ?_
  rw [show Scalar.cmpi CmpIPredicate.eq (inp m c t).n 0#32 = if t.val = 32 then 1#1 else 0#1 from first_block t, select_if]
  by_cases h : t.val = 32
  · rw [if_pos h, if_pos (by show 32 - t.val = 0; omega), hd h]
  · rw [if_neg h, if_neg (by show ¬32 - t.val = 0; omega)]

/-- The keys' and the values' tiles, with the carried buffers as the point finds them. -/
theorem tile_K (car : Vec Ideal S128x128 .f32) (hc : ∀ l x, car (ix2 l x) = if h : (blk t).val < 32 then gK m c ⟨(blk t).val + 1, by omega⟩ ⟨128 + l.val, by omega⟩ x else (0 : EReal)) (l x : Fin 128) :
    closing (inp m c t).n (inp m c t).foldK car (left m c t.val t.isLt).metK l x = kOut m c (blk t) l x :=
  closing_of m c t _ _ _ (gK m c) (foldK_lane m c t) hc (met_K m c t) l x
theorem tile_V (car : Vec Ideal S128x128 .f32) (hc : ∀ l x, car (ix2 l x) = if h : (blk t).val < 32 then gV m c ⟨(blk t).val + 1, by omega⟩ ⟨128 + l.val, by omega⟩ x else (0 : EReal)) (l x : Fin 128) :
    closing (inp m c t).n (inp m c t).foldV car (left m c t.val t.isLt).metV l x = vOut m c (blk t) l x :=
  closing_of m c t _ _ _ (gV m c) (foldV_lane m c t) hc (met_V m c t) l x

theorem dq0_lane (p : Fin 8) (r y : Fin 128) : ((inp m c t).dq0 p) (ix2 r y) = qOut m c (blk t) r ⟨128 * p.val + y.val, by omega⟩ := by
  rw [In.dq0_at, DQ_at]
  unfold qOut
  have e1 : (128 * p.val + y.val) / 64 / 8 = p.val / 4 := by omega
  have e2 : (128 * p.val + y.val) / 64 % 8 = 2 * (p.val % 4) + y.val / 64 := by omega
  have e3 : (128 * p.val + y.val) % 64 = y.val % 64 := by omega
  simp only [e1, e2, e3]

theorem tile_q (p : Fin 8) (r x : Fin 128) : ((inp m c t).dq p) (ix2 r x) = out m c (blk t) r ⟨128 * p.val + x.val, by omega⟩ := by
  rw [In.dq_eq, In.rope_at]
  unfold out
  have hb : (blk t).val = 32 - t.val := rfl
  by_cases hR : 112 ≤ 128 * (blk t).val + r.val
  · rw [dif_pos hR, dif_pos (show 128 * p.val + x.val < 1024 by omega), turn_back m c t _ r x ⟨128 * (blk t).val + r.val - 112, by omega⟩ (Fin.ext (by simp only; omega))]
    have e3 : (128 * p.val + x.val) % 64 = x.val % 64 := by omega
    simp only [e3]
    refine congrArg (fun Y => back Y _ _) (funext fun d => (dq0_lane m c t p r _).trans (congrArg (qOut m c (blk t) r) (Fin.ext ?_)))
    show 128 * p.val + (64 * (x.val / 64) + d.val) = 64 * ((128 * p.val + x.val) / 64) + d.val
    omega
  · rw [dif_neg hR]
    exact turn_zero m c t _ (fun y => (dq0_lane m c t p r y).trans (qOut_zero m c _ (by omega) r _ (by omega))) r x

theorem tile_k (F : Fin 128 → EReal) (r x : Fin 128) (hF : ∀ y, F y = kOut m c (blk t) r y) : (inp m c t).turn F r x = out m c (blk t) r ⟨128 * 8 + x.val, by omega⟩ := by
  unfold out
  have hb : (blk t).val = 32 - t.val := rfl
  by_cases hR : 112 ≤ 128 * (blk t).val + r.val
  · rw [dif_pos hR, dif_neg (show ¬128 * 8 + x.val < 1024 by omega), dif_pos (show 128 * 8 + x.val < 1152 by omega), turn_back m c t _ r x ⟨128 * (blk t).val + r.val - 112, by omega⟩ (Fin.ext (by simp only; omega))]
    have e3 : 128 * 8 + x.val - 1024 = x.val := by omega
    simp only [e3]
    exact congrArg (fun Y => back Y _ _) (funext fun d => hF _)
  · rw [dif_neg hR]
    exact turn_zero m c t _ (fun y => (hF y).trans (kOut_zero m c _ (by omega) r y (by omega))) r x

theorem tile_v (r x : Fin 128) : vOut m c (blk t) r x = out m c (blk t) r ⟨128 * 9 + x.val, by omega⟩ := by
  unfold out
  have hb : (blk t).val = 32 - t.val := rfl
  by_cases hR : 112 ≤ 128 * (blk t).val + r.val
  · rw [dif_pos hR, dif_neg (show ¬128 * 9 + x.val < 1024 by omega), dif_neg (show ¬128 * 9 + x.val < 1152 by omega)]
    exact congrArg (vOut m c (blk t) r) (Fin.ext (by simp only; omega))
  · rw [dif_neg hR]
    exact vOut_zero m c _ (by omega) r x (by omega)

/-- Column block `p` of the rows' block. -/
theorem emb_col (p : Fin 10) (y : S128x128.Idx) : (Rect.unit (s := S128x1280) ![0, 128 * p.val] S128x128.size (inb_col p)).emb y = ix2 (y 0 : Fin 128) (⟨128 * p.val + (y 1 : Fin 128).val, by have h : (y 1 : Fin 128).val < 128 := (y 1 : Fin 128).isLt; omega⟩ : Fin 1280) := by
  refine funext fun a => ?_
  fin_cases a
  · exact Fin.ext ((ValueKit.rect_emb_unit_val _ _ _ _ _).trans (Nat.zero_add _))
  · exact Fin.ext (ValueKit.rect_emb_unit_val _ _ _ _ _)

theorem tiles_at (car carV : Vec Ideal S128x128 .f32)
    (hk : ∀ l x, car (ix2 l x) = if h : (blk t).val < 32 then gK m c ⟨(blk t).val + 1, by omega⟩ ⟨128 + l.val, by omega⟩ x else (0 : EReal))
    (hv : ∀ l x, carV (ix2 l x) = if h : (blk t).val < 32 then gV m c ⟨(blk t).val + 1, by omega⟩ ⟨128 + l.val, by omega⟩ x else (0 : EReal))
    (hcov : ∀ y, ∃ pc ∈ tiles (inp m c t) car (left m c t.val t.isLt).metK carV (left m c t.val t.isLt).metV, y ∈ pc.1.set) (r : Fin 128) (x : Fin 1280) :
    View.canon (tiles (inp m c t) car (left m c t.val t.isLt).metK carV (left m c t.val t.isLt).metV) (ix2 r x) = out m c (blk t) r x := by
  refine View.canon_apply_of_pieces (fun y => out m c (blk t) (y 0) (y 1)) _ (fun p hp y => ?_) (ix2 r x) (hcov _)
  unfold tiles at hp
  simp only [List.mem_cons, List.not_mem_nil, or_false] at hp
  have hq : ∀ p : Fin 8, ∀ y : S128x128.Idx, ((inp m c t).dq p) y = (fun y : S128x1280.Idx => out m c (blk t) (y 0) (y 1)) ((Rect.unit (s := S128x1280) ![0, 128 * p.val] S128x128.size (inb_col ⟨p.val, by omega⟩)).emb y) := fun p y => by
    rw [emb_col ⟨p.val, by omega⟩ y, eq_ix2 y]
    exact tile_q m c t p _ _
  rcases hp with rfl | rfl | rfl | rfl | rfl | rfl | rfl | rfl | rfl | rfl
  · show k0_pay220 (F := Ideal) (inp m c t).n (inp m c t).foldV carV (left m c t.val t.isLt).metV y = (fun y : S128x1280.Idx => out m c (blk t) (y 0) (y 1)) ((Rect.unit (s := S128x1280) ![0, 128 * (9 : Fin 10).val] S128x128.size (inb_col 9)).emb y)
    rw [emb_col 9 y, eq_ix2 y]
    exact (pay220_at _ _ _ _ _ _).trans ((tile_V m c t carV hv _ _).trans (tile_v m c t _ _))
  · show k0_pay219 (F := Ideal) (inp m c t).n (k0_pay24 (inp m c t).c) (k0_pay25 (inp m c t).sa) (k0_pay26 (inp m c t).sb) (inp m c t).foldK car (left m c t.val t.isLt).metK y = (fun y : S128x1280.Idx => out m c (blk t) (y 0) (y 1)) ((Rect.unit (s := S128x1280) ![0, 128 * (8 : Fin 10).val] S128x128.size (inb_col 8)).emb y)
    rw [emb_col 8 y, eq_ix2 y]
    exact (pay219_at _ _ _ _ _ _).trans (tile_k m c t _ _ _ fun z => tile_K m c t car hk _ z)
  · exact hq 7 y
  · exact hq 6 y
  · exact hq 5 y
  · exact hq 4 y
  · exact hq 3 y
  · exact hq 2 y
  · exact hq 1 y
  · exact hq 0 y

theorem dqkv_at (r : Fin 128) (x : Fin 1280) : (left m c t.val t.isLt).dqkv (ix2 r x) = out m c (blk t) r x := by
  have hN := lt_of_lt_of_eq t.isLt N_0
  by_cases h0 : t.val % 33 = 0
  · have hb : ¬(blk t).val < 32 := by show ¬32 - t.val < 32; omega
    rw [dqkv_left_A m c t h0]
    refine tiles_at m c t _ _ (fun l x => ?_) (fun l x => ?_) ?_ r x
    · rw [dif_neg hb]; exact pay1_at l x
    · rw [dif_neg hb]; exact pay2_at l x
    · have h := (covA m c t h0).1
      rw [dqkv_A m c t h0, ← metK_left_A m c t h0, ← metV_left_A m c t h0] at h
      exact h
  · have hb : (blk t).val < 32 := by show 32 - t.val < 32; omega
    rw [dqkv_left_B m c t h0]
    refine tiles_at m c t _ _ (fun l x => ?_) (fun l x => ?_) ?_ r x
    · rw [dif_pos hb]; exact car_K m c t h0 l x hb
    · rw [dif_pos hb]; exact car_V m c t h0 l x hb
    · have h := (covB m c t h0 (before m c t)).1
      rw [dqkv_B m c t h0, carried_eq, carried_eq, carried_eq, carried_eq, ← metK_left_B m c t h0, ← metV_left_B m c t h0] at h
      exact h
end

variable (h0 : ∀ i, Fin' (proj m c i)) (h1 : ∀ i, Fin' (sinks m c i)) (h2 : ∀ i, Fin' (grads m c i))
include h0 h1 h2

theorem fin13 : (dats m 0 c).arrAt 13 cfg0.N = val_main_v292 (F := Ideal) (proj m c) (sinks m c) (grads m c) := by
  refine (dats m 0 c).arrAt_eq_of_covers 13 _ (by decide +kernel) fun t hf' y => ?_
  blk_simp
  rw [after_13]
  obtain ⟨r, x, rfl⟩ : ∃ (r : Fin 128) (x : Fin 1280), y = ix2 r x := ⟨y 0, y 1, eq_ix2 y⟩
  refine (dqkv_at m c t r x).trans ((ref_out m c h0 h1 h2 (blk t) r x).symm.trans ?_)
  blk_ext [idx t]

theorem fin14 : (dats m 0 c).arrAt 14 cfg0.N = val_main_v294 (F := Ideal) (proj m c) (sinks m c) (grads m c) := by
  refine (dats m 0 c).arrAt_eq_of_after_last 14 tEnd (by decide +kernel) _ fun j => ?_
  blk_simp
  rw [after_14]
  obtain ⟨i, x, rfl⟩ : ∃ (i : Fin 8) (x : Fin 128), j = ix2 i x := ⟨j 0, j 1, eq_ix2 j⟩
  refine (dsink_last m c i x).trans (Eq.trans ?_ (congrArg _ (show ix2 i x = _ by blk_ext [idx tEnd])))
  rw [AttnRefIdeal.Val.sink_at h0 h1 h2]
  unfold sinkRow
  by_cases h : i.val = 0 ∧ x.val < 16
  · rw [dif_pos ⟨by omega, h.2⟩]
    simp only [dif_pos h]
    refine (sum_points fun n => gS m c n ⟨x.val, h.2⟩).trans (Finset.sum_congr rfl fun n _ => ?_)
    unfold gS
    refine Row.neg_sum _ fun r => ?_
    have hf := (AttnRefIdeal.Val.rowFacts h0 h1 h2 n ⟨x.val / 8, by omega⟩ ⟨x.val % 8, by omega⟩ r).fin
    have e : head ⟨x.val / 8, by omega⟩ ⟨x.val % 8, by omega⟩ = (⟨x.val, h.2⟩ : Fin 16) := Fin.ext (by simp only; omega)
    rw [e] at hf
    exact hf
  · rw [dif_neg (fun h' => h ⟨by omega, h'.2⟩)]
    simp only [dif_neg h]
    exact Finset.sum_const_zero
end Cert.AttnBwdIdeal.Hand
-- ==== Proof.AttnBwdClaim.lean ====
/- The claims about the attention's backward kernel. -/
module

public import proofs.«01_k».proof.Defs
public import proofs.«01_k».proof.Proof.Finite
public import proofs.«01_k».proof.Proof.AttnBwdOut
public import proofs.«01_k».proof.Proof.AttnBwdBitsFrame
public import proofs.«01_k».proof.Proof.Gen.AttnRefIdeal.Run
public import proofs.«01_k».proof.Proof.Gen.AttnRefIdeal.Read
public import proofs.«01_k».proof.Proof.Gen.Pre_attn_finite

@[expose] public section

noncomputable section

namespace Cert.Proof.Attn
open Idealize.ShloMosaic Idealize.SL.Sem Cert.Rows

theorem q1 : Cert.quiescent_AttnBwd := fun m ρ _ => Cert.AttnBwd.Hand.quiet m ρ
theorem q2 : Cert.quiescent_AttnBwdIdeal := fun m ρ _ => Cert.AttnBwdIdeal.Hand.quiet m ρ
theorem q3 : Cert.quiescent_AttnBwdIdeal_pre_attn_finite := fun m ρ _ => Cert.AttnBwdIdeal.Hand.quiet m ρ
theorem q4 : Cert.quiescent_AttnRefIdeal := by
  intro m g _
  hlo_run
  · simp
  · exact sem_eq_zero_of_no_sems (sig := Cert.AttnRefIdeal.sig) (by decide) _
theorem q5 : Cert.quiescent_AttnRefIdeal_pre_attn_finite := by
  intro m g _
  hlo_run
  · simp
  · exact sem_eq_zero_of_no_sems (sig := Cert.AttnRefIdeal.sig) (by decide) _
theorem q6 : Cert.preserves_AttnBwd_AttnBwdIdeal := trivial

set_option maxHeartbeats 1000000 in
/-- The two programs leave the same gradients. -/
theorem algebraic : Cert.algebraic_AttnBwdIdeal_AttnRefIdeal_pre_attn_finite := by
  pair_intro
  · run_from Cert.AttnBwdIdeal.Hand.run_named m g
  · run_from Cert.AttnRefIdeal.Value.run m' g'
    all_goals obtain ⟨a0, a1, a2⟩ := hagree c
    all_goals obtain ⟨e0, e1, e2⟩ := hpre c
    · refine (Cert.AttnRefIdeal.Read.val_main_v292_eq _).trans ?_
      refine (congr (congrArg₂ _ a0 a1) a2).trans ?_
      exact (Cert.AttnBwdIdeal.Hand.fin13 m c (finite_arg _ e0) (finite_arg _ e1) (finite_arg _ e2)).symm
    · refine (Cert.AttnRefIdeal.Read.val_main_v294_eq _).trans ?_
      refine (congr (congrArg₂ _ a0 a1) a2).trans ?_
      exact (Cert.AttnBwdIdeal.Hand.fin14 m c (finite_arg _ e0) (finite_arg _ e1) (finite_arg _ e2)).symm

end Cert.Proof.Attn
-- ==== Proof.AttnFwdBlock.lean ====
/- What the forward kernel's body makes of one block of queries: the inputs and the logits are the
   backward kernel's, the softmax and the product with the values are written here once for all heads. -/
module

public import proofs.«01_k».proof.Proof.Gen.AttnFwdIdeal.Value
public import proofs.«01_k».proof.Proof.AttnBwdBlock
public import Idealize.ShloMosaic.Lib.Pipeline.ValueKit
public import Idealize.ShloMosaic.Lib.Claim

@[expose] public section

set_option maxRecDepth 16384

noncomputable section

namespace Cert.AttnFwdIdeal.Hand
open Cert.AttnFwdIdeal Cert.AttnFwdIdeal.Gen
open Idealize.ShloMosaic Idealize.ShloMosaic.TcCoe Idealize.ShloMosaic.Tactic
open Cert.AttnBwdIdeal.Hand (In)

theorem slices_head (j : Fin 8) : S384x1024.Slices ![0, 128 * j.val] S384x128 := by
  revert j; decide
theorem slices_out (j : Fin 8) : S128x1024.Slices ![0, 128 * j.val] S128x128 := by
  revert j; decide

section
variable (I : In)

/-- The transposed values of key head `g`, in both halves of the rows. -/
def vt (g : Fin 2) : FVec Ideal S128x384 .bf16 := if g.val = 0 then k0_pay11 I.vm I.vp I.vc else k0_pay12 I.vm I.vp I.vc

/-- Head `8 g + j`'s masked logits, their largest with the sink's, their exponentials, and the denominator. -/
def sc (g : Fin 2) (j : Fin 8) : FVec Ideal S384x128 .f32 :=
  select I.mask (extractStridedSlice S384x128 ![0, 128 * j.val] (I.st g) (slices_head j)) (broadcast S384x128 (Named.named κ "mask" 0xF149F2CA#32))
def mx (g : Fin 2) (j : Fin 8) : FVec Ideal S1x128 .f32 :=
  maximumf (shapeCast S1x128 (multiReduction .maximumf [0] S128 (sc I g j) 0xFF800000#32 reduces_S384x128_S128 (.inl rfl) rfl) shapeCasts_S128_S1x128)
    (broadcast S1x128 (I.sWord (AttnBwdIdeal.Hand.hd g j)))
def ex (g : Fin 2) (j : Fin 8) : FVec Ideal S384x128 .f32 := exp (subf (sc I g j) (broadcastTo S384x128 (mx I g j) broadcasts_S1x128_S384x128))
def dn (g : Fin 2) (j : Fin 8) : FVec Ideal S1x128 .f32 :=
  addf (shapeCast S1x128 (multiReduction .add [0] S128 (ex I g j) 0x00000000#32 reduces_S384x128_S128 (.inl rfl) rfl) shapeCasts_S128_S1x128)
    (exp (subf (broadcast S1x128 (I.sWord (AttnBwdIdeal.Hand.hd g j))) (mx I g j)))
def pr (g : Fin 2) (j : Fin 8) : FVec Ideal S384x128 .bf16 := truncf .bf16 (ex I g j) bitsLt_bf16_f32
def inv (g : Fin 2) (j : Fin 8) : FVec Ideal S1x128 .f32 := divf (broadcast S1x128 (Scalar.ofBits .f32 0x3F800000#32)) (dn I g j)
def ls (g : Fin 2) (j : Fin 8) : FVec Ideal S1x128 .f32 := addf (mx I g j) (log (dn I g j))

/-- The values weighted by the exponentials, transposed, the eight heads side by side. -/
def ot (g : Fin 2) : FVec Ideal S128x1024 .f32 :=
  matmul dot_S128x384_S384x1024_S128x1024_1_0_0_1_n_n none (vt I g)
    (concatenate S384x1024 1 (List.ofFn fun j : Fin 8 => ⟨S384x128, pr I g j⟩) concatenates_S384x128_S384x128_S384x128_S384x128_S384x128_S384x128_S384x128_S384x128_S384x1024_d1)
    (constant S128x1024 .f32 0x00000000#32)
/-- One head's, over its denominator. -/
def oh (g : Fin 2) (j : Fin 8) : FVec Ideal S128x128 .f32 :=
  transpose S128x128 [1, 0] (mulf (extractStridedSlice S128x128 ![0, 128 * j.val] (ot I g) (slices_out j)) (broadcastTo S128x128 (inv I g j) broadcasts_S1x128_S128x128))
    transposes_S128x128_p1_0_S128x128
/-- Two heads' columns. -/
def tile (p : Fin 8) : FVec Ideal S128x128 .bf16 :=
  truncf .bf16 (select (broadcastTo S128x128 (shapeCast S1x128 k0_pay4 shapeCasts_S1x128_S1x128) broadcasts_S1x128_S128x128)
    (oh I ⟨p.val / 4, by omega⟩ ⟨2 * (p.val % 4), by omega⟩) (oh I ⟨p.val / 4, by omega⟩ ⟨2 * (p.val % 4) + 1, by omega⟩)) bitsLt_bf16_f32
/-- The logarithms of all heads' denominators. -/
def lsC : FVec Ideal S16x128 .f32 :=
  concatenate S16x128 0 (List.ofFn fun h : Fin 16 => ⟨S1x128, ls I ⟨h.val / 8, by omega⟩ ⟨h.val % 8, by omega⟩⟩)
    concatenates_S1x128_S1x128_S1x128_S1x128_S1x128_S1x128_S1x128_S1x128_S1x128_S1x128_S1x128_S1x128_S1x128_S1x128_S1x128_S1x128_S16x128_d0
end

/-- The inputs at point `t`; the last five are the backward kernel's alone. -/
def inp (m : (ℓ : Loc nD τ sig) → Buf (Elt Ideal) ℓ) (c : Dev nD) (t : Fin cfg0.N) : In where
  n := BitVec.ofNat 32 (grid0.coords t 0).val
  s := (ms0_0 t).view.read (Elt Ideal) ((hs0_0 t).unread (iblk m c 0 t))
  q := (ms0_1 t).view.read (Elt Ideal) ((hs0_1 t).unread (X0_1 m c t))
  km := (ms0_2 t).view.read (Elt Ideal) ((hs0_2 t).unread (iblk m c 2 t))
  kp := (ms0_3 t).view.read (Elt Ideal) ((hs0_3 t).unread (iblk m c 3 t))
  kc := (ms0_4 t).view.read (Elt Ideal) ((hs0_4 t).unread (iblk m c 4 t))
  vm := (ms0_5 t).view.read (Elt Ideal) ((hs0_5 t).unread (iblk m c 5 t))
  vp := (ms0_6 t).view.read (Elt Ideal) ((hs0_6 t).unread (iblk m c 6 t))
  vc := (ms0_7 t).view.read (Elt Ideal) ((hs0_7 t).unread (iblk m c 7 t))
  ct := fun _ => (0 : EReal)
  lse := fun _ => (0 : EReal)
  c := fun _ => (0 : EReal)
  sa := fun _ => (0 : EReal)
  sb := fun _ => (0 : EReal)

theorem inb_col (p : Fin 8) : ∀ a, (![0, 128 * p.val] : Fin 2 → ℕ) a + S128x128.size a ≤ S128x1024.size a := by
  revert p; decide

/-- What a point writes to the rows' block. -/
def tiles (I : In) : List (View.Piece (Elt Ideal) S128x1024 .bf16) :=
  [⟨Rect.unit ![0, 128 * 7] S128x128.size (inb_col 7), tile I 7⟩, ⟨Rect.unit ![0, 128 * 6] S128x128.size (inb_col 6), tile I 6⟩,
   ⟨Rect.unit ![0, 128 * 5] S128x128.size (inb_col 5), tile I 5⟩, ⟨Rect.unit ![0, 128 * 4] S128x128.size (inb_col 4), tile I 4⟩,
   ⟨Rect.unit ![0, 128 * 3] S128x128.size (inb_col 3), tile I 3⟩, ⟨Rect.unit ![0, 128 * 2] S128x128.size (inb_col 2), tile I 2⟩,
   ⟨Rect.unit ![0, 128 * 1] S128x128.size (inb_col 1), tile I 1⟩, ⟨Rect.unit ![0, 128 * 0] S128x128.size (inb_col 0), tile I 0⟩]
abbrev whole16 : Rect S16x128 := Rect.unit ![0, 0] S16x128.size inb_S16x128_S16x128_0_0

theorem e7 (I : In) : (k0_pay7 (F := Ideal) I.km I.kp I.kc) = (I.kd 0) := by sl_kernel_rfl
theorem e8 (I : In) : (k0_pay8 (F := Ideal) I.km I.kp I.kc) = (I.kd 1) := by sl_kernel_rfl
theorem e11 (I : In) : (k0_pay11 (F := Ideal) I.vm I.vp I.vc) = (vt I 0) := by sl_kernel_rfl
theorem e12 (I : In) : (k0_pay12 (F := Ideal) I.vm I.vp I.vc) = (vt I 1) := by sl_kernel_rfl
theorem e14 (I : In) : (k0_pay14 I.n (iota Kind.tc S384x128 32 [1] iota_S384x128_d1_w32) (iota Kind.tc S384x128 32 [0] iota_S384x128_d0_w32) (broadcast S384x128 (Scalar.muli I.n 128#32))) = I.mask := by sl_kernel_rfl
theorem e16 (I : In) : (k0_pay16 (F := Ideal) k0_pay4 (I.qTile 0)) = (I.qh 0 0) := by sl_kernel_rfl
theorem e17 (I : In) : (k0_pay17 (F := Ideal) k0_pay4 (I.qTile 0)) = (I.qh 0 1) := by sl_kernel_rfl
theorem e18 (I : In) : (k0_pay18 (F := Ideal) k0_pay4 (I.kd 0) (I.qh 0 0) (I.qh 0 1) (I.qTile 1) (I.qTile 2) (I.qTile 3)) = (I.st 0) := by sl_kernel_rfl
theorem e23 (I : In) : (k0_pay23 (F := Ideal) (k0_pay19 (F := Ideal) k0_pay4 (I.kd 0) I.mask (I.qh 0 0) (I.qh 0 1) (I.qTile 1) (I.qTile 2) (I.qTile 3)) (I.sWord 0)) = (pr I 0 0) := by sl_kernel_rfl
theorem e24 (I : In) : (k0_pay24 (F := Ideal) (k0_pay19 (F := Ideal) k0_pay4 (I.kd 0) I.mask (I.qh 0 0) (I.qh 0 1) (I.qTile 1) (I.qTile 2) (I.qTile 3)) (I.sWord 0)) = (inv I 0 0) := by sl_kernel_rfl
theorem e25 (I : In) : (k0_pay25 (F := Ideal) (k0_pay19 (F := Ideal) k0_pay4 (I.kd 0) I.mask (I.qh 0 0) (I.qh 0 1) (I.qTile 1) (I.qTile 2) (I.qTile 3)) (I.sWord 0)) = (ls I 0 0) := by sl_kernel_rfl
theorem e30 (I : In) : (k0_pay30 (F := Ideal) I.mask (I.st 0) (I.sWord 1)) = (pr I 0 1) := by sl_kernel_rfl
theorem e31 (I : In) : (k0_pay31 (F := Ideal) I.mask (I.st 0) (I.sWord 1)) = (inv I 0 1) := by sl_kernel_rfl
theorem e32 (I : In) : (k0_pay32 (F := Ideal) I.mask (I.st 0) (I.sWord 1)) = (ls I 0 1) := by sl_kernel_rfl
theorem e38 (I : In) : (k0_pay38 (F := Ideal) (k0_pay33 (F := Ideal) I.mask (I.st 0)) (k0_pay35 (F := Ideal) I.mask (I.st 0) (I.sWord 2))) = (pr I 0 2) := by sl_kernel_rfl
theorem e39 (I : In) : (k0_pay39 (F := Ideal) (k0_pay33 (F := Ideal) I.mask (I.st 0)) (I.sWord 2) (k0_pay34 (F := Ideal) I.mask (I.st 0) (I.sWord 2)) (k0_pay35 (F := Ideal) I.mask (I.st 0) (I.sWord 2))) = (inv I 0 2) := by sl_kernel_rfl
theorem e40 (I : In) : (k0_pay40 (F := Ideal) (k0_pay33 (F := Ideal) I.mask (I.st 0)) (I.sWord 2) (k0_pay34 (F := Ideal) I.mask (I.st 0) (I.sWord 2)) (k0_pay35 (F := Ideal) I.mask (I.st 0) (I.sWord 2))) = (ls I 0 2) := by sl_kernel_rfl
theorem e45 (I : In) : (k0_pay45 (F := Ideal) I.mask (I.st 0) (I.sWord 3)) = (pr I 0 3) := by sl_kernel_rfl
theorem e46 (I : In) : (k0_pay46 (F := Ideal) I.mask (I.st 0) (I.sWord 3)) = (inv I 0 3) := by sl_kernel_rfl
theorem e47 (I : In) : (k0_pay47 (F := Ideal) I.mask (I.st 0) (I.sWord 3)) = (ls I 0 3) := by sl_kernel_rfl
theorem e54 (I : In) : (k0_pay54 (F := Ideal) (k0_pay50 (F := Ideal) I.mask (I.st 0) (I.sWord 4))) = (pr I 0 4) := by sl_kernel_rfl
theorem e55 (I : In) : (k0_pay55 (F := Ideal) (k0_pay49 (F := Ideal) I.mask (I.st 0) (I.sWord 4)) (k0_pay51 (F := Ideal) I.mask (I.st 0) (I.sWord 4)) (k0_pay52 (F := Ideal) (I.sWord 4))) = (inv I 0 4) := by sl_kernel_rfl
theorem e56 (I : In) : (k0_pay56 (F := Ideal) (k0_pay49 (F := Ideal) I.mask (I.st 0) (I.sWord 4)) (k0_pay51 (F := Ideal) I.mask (I.st 0) (I.sWord 4)) (k0_pay52 (F := Ideal) (I.sWord 4))) = (ls I 0 4) := by sl_kernel_rfl
theorem e61 (I : In) : (k0_pay61 (F := Ideal) I.mask (I.st 0) (I.sWord 5)) = (pr I 0 5) := by sl_kernel_rfl
theorem e62 (I : In) : (k0_pay62 (F := Ideal) I.mask (I.st 0) (I.sWord 5)) = (inv I 0 5) := by sl_kernel_rfl
theorem e63 (I : In) : (k0_pay63 (F := Ideal) I.mask (I.st 0) (I.sWord 5)) = (ls I 0 5) := by sl_kernel_rfl
theorem e68 (I : In) : (k0_pay68 (F := Ideal) I.mask (I.st 0) (I.sWord 6)) = (pr I 0 6) := by sl_kernel_rfl
theorem e70 (I : In) : (k0_pay70 (F := Ideal) (k0_pay67 (F := Ideal) I.mask (I.st 0) (I.sWord 6)) (k0_pay69 (F := Ideal))) = (inv I 0 6) := by sl_kernel_rfl
theorem e71 (I : In) : (k0_pay71 (F := Ideal) (k0_pay65 (F := Ideal) I.mask (I.st 0) (I.sWord 6)) (k0_pay67 (F := Ideal) I.mask (I.st 0) (I.sWord 6))) = (ls I 0 6) := by sl_kernel_rfl
theorem e76 (I : In) : (k0_pay76 (F := Ideal) I.mask (I.st 0) (I.sWord 7)) = (inv I 0 7) := by sl_kernel_rfl
theorem e77 (I : In) : (k0_pay77 (F := Ideal) I.mask (I.st 0) (I.sWord 7)) = (ls I 0 7) := by sl_kernel_rfl
theorem e78 (I : In) : (k0_pay78 (F := Ideal) (vt I 0) I.mask (I.st 0) (pr I 0 0) (pr I 0 1) (pr I 0 2) (pr I 0 3) (pr I 0 4) (pr I 0 5) (pr I 0 6) (I.sWord 7)) = (ot I 0) := by sl_kernel_rfl
theorem e79 (I : In) : (k0_pay79 (F := Ideal) k0_pay4 (vt I 0) I.mask (I.st 0) (pr I 0 0) (inv I 0 0) (pr I 0 1) (inv I 0 1) (pr I 0 2) (pr I 0 3) (pr I 0 4) (pr I 0 5) (pr I 0 6) (I.sWord 7)) = (tile I 0) := by sl_kernel_rfl
theorem e81 (I : In) : (k0_pay81 (F := Ideal) (k0_pay80 (F := Ideal) k0_pay4 (vt I 0) I.mask (I.st 0) (pr I 0 0) (pr I 0 1) (pr I 0 2) (inv I 0 2) (pr I 0 3) (inv I 0 3) (pr I 0 4) (pr I 0 5) (pr I 0 6) (I.sWord 7))) = (tile I 1) := by sl_kernel_rfl
theorem e82 (I : In) : (k0_pay82 (F := Ideal) k0_pay4 (inv I 0 4) (inv I 0 5) (ot I 0)) = (tile I 2) := by sl_kernel_rfl
theorem e83 (I : In) : (k0_pay83 (F := Ideal) k0_pay4 (inv I 0 6) (inv I 0 7) (ot I 0)) = (tile I 3) := by sl_kernel_rfl
theorem e85 (I : In) : (k0_pay85 (F := Ideal) k0_pay4 (I.qTile 4)) = (I.qh 1 0) := by sl_kernel_rfl
theorem e86 (I : In) : (k0_pay86 (F := Ideal) k0_pay4 (I.qTile 4)) = (I.qh 1 1) := by sl_kernel_rfl
theorem e89 (I : In) : (k0_pay89 (F := Ideal) k0_pay4 (I.kd 1) (I.qh 1 0) (I.qh 1 1) (k0_pay87 (F := Ideal) (I.qTile 5)) (k0_pay88 (F := Ideal)) (I.qTile 6) (I.qTile 7)) = (I.st 1) := by sl_kernel_rfl
theorem e95 (I : In) : (k0_pay95 (F := Ideal) (k0_pay90 (F := Ideal) k0_pay4 (I.kd 1) I.mask (I.qh 1 0) (I.qh 1 1) (k0_pay87 (F := Ideal) (I.qTile 5)) (k0_pay88 (F := Ideal)) (I.qTile 6) (I.qTile 7)) (k0_pay92 (F := Ideal) k0_pay4 (I.kd 1) I.mask (I.qh 1 0) (I.qh 1 1) (k0_pay87 (F := Ideal) (I.qTile 5)) (k0_pay88 (F := Ideal)) (I.qTile 6) (I.qTile 7) (I.sWord 8))) = (pr I 1 0) := by sl_kernel_rfl
theorem e96 (I : In) : (k0_pay96 (F := Ideal) (k0_pay90 (F := Ideal) k0_pay4 (I.kd 1) I.mask (I.qh 1 0) (I.qh 1 1) (k0_pay87 (F := Ideal) (I.qTile 5)) (k0_pay88 (F := Ideal)) (I.qTile 6) (I.qTile 7)) (I.sWord 8) (k0_pay91 (F := Ideal) k0_pay4 (I.kd 1) I.mask (I.qh 1 0) (I.qh 1 1) (k0_pay87 (F := Ideal) (I.qTile 5)) (k0_pay88 (F := Ideal)) (I.qTile 6) (I.qTile 7) (I.sWord 8)) (k0_pay92 (F := Ideal) k0_pay4 (I.kd 1) I.mask (I.qh 1 0) (I.qh 1 1) (k0_pay87 (F := Ideal) (I.qTile 5)) (k0_pay88 (F := Ideal)) (I.qTile 6) (I.qTile 7) (I.sWord 8))) = (inv I 1 0) := by sl_kernel_rfl
theorem e97 (I : In) : (k0_pay97 (F := Ideal) (k0_pay90 (F := Ideal) k0_pay4 (I.kd 1) I.mask (I.qh 1 0) (I.qh 1 1) (k0_pay87 (F := Ideal) (I.qTile 5)) (k0_pay88 (F := Ideal)) (I.qTile 6) (I.qTile 7)) (I.sWord 8) (k0_pay91 (F := Ideal) k0_pay4 (I.kd 1) I.mask (I.qh 1 0) (I.qh 1 1) (k0_pay87 (F := Ideal) (I.qTile 5)) (k0_pay88 (F := Ideal)) (I.qTile 6) (I.qTile 7) (I.sWord 8)) (k0_pay92 (F := Ideal) k0_pay4 (I.kd 1) I.mask (I.qh 1 0) (I.qh 1 1) (k0_pay87 (F := Ideal) (I.qTile 5)) (k0_pay88 (F := Ideal)) (I.qTile 6) (I.qTile 7) (I.sWord 8))) = (ls I 1 0) := by sl_kernel_rfl
theorem e102 (I : In) : (k0_pay102 (F := Ideal) I.mask (I.st 1) (I.sWord 9)) = (pr I 1 1) := by sl_kernel_rfl
theorem e103 (I : In) : (k0_pay103 (F := Ideal) I.mask (I.st 1) (I.sWord 9)) = (inv I 1 1) := by sl_kernel_rfl
theorem e104 (I : In) : (k0_pay104 (F := Ideal) I.mask (I.st 1) (I.sWord 9)) = (ls I 1 1) := by sl_kernel_rfl
theorem e111 (I : In) : (k0_pay111 (F := Ideal) (k0_pay107 (F := Ideal) I.mask (I.st 1) (I.sWord 10))) = (pr I 1 2) := by sl_kernel_rfl
theorem e112 (I : In) : (k0_pay112 (F := Ideal) (k0_pay106 (F := Ideal) I.mask (I.st 1) (I.sWord 10)) (k0_pay108 (F := Ideal) I.mask (I.st 1) (I.sWord 10)) (k0_pay109 (F := Ideal) (I.sWord 10))) = (inv I 1 2) := by sl_kernel_rfl
theorem e113 (I : In) : (k0_pay113 (F := Ideal) (k0_pay106 (F := Ideal) I.mask (I.st 1) (I.sWord 10)) (k0_pay108 (F := Ideal) I.mask (I.st 1) (I.sWord 10)) (k0_pay109 (F := Ideal) (I.sWord 10))) = (ls I 1 2) := by sl_kernel_rfl
theorem e118 (I : In) : (k0_pay118 (F := Ideal) I.mask (I.st 1) (I.sWord 11)) = (pr I 1 3) := by sl_kernel_rfl
theorem e119 (I : In) : (k0_pay119 (F := Ideal) I.mask (I.st 1) (I.sWord 11)) = (inv I 1 3) := by sl_kernel_rfl
theorem e120 (I : In) : (k0_pay120 (F := Ideal) I.mask (I.st 1) (I.sWord 11)) = (ls I 1 3) := by sl_kernel_rfl
theorem e125 (I : In) : (k0_pay125 (F := Ideal) I.mask (I.st 1) (I.sWord 12)) = (pr I 1 4) := by sl_kernel_rfl
theorem e127 (I : In) : (k0_pay127 (F := Ideal) (k0_pay124 (F := Ideal) I.mask (I.st 1) (I.sWord 12)) (k0_pay126 (F := Ideal))) = (inv I 1 4) := by sl_kernel_rfl
theorem e128 (I : In) : (k0_pay128 (F := Ideal) (k0_pay122 (F := Ideal) I.mask (I.st 1) (I.sWord 12)) (k0_pay124 (F := Ideal) I.mask (I.st 1) (I.sWord 12))) = (ls I 1 4) := by sl_kernel_rfl
theorem e133 (I : In) : (k0_pay133 (F := Ideal) I.mask (I.st 1) (I.sWord 13)) = (pr I 1 5) := by sl_kernel_rfl
theorem e134 (I : In) : (k0_pay134 (F := Ideal) I.mask (I.st 1) (I.sWord 13)) = (inv I 1 5) := by sl_kernel_rfl
theorem e135 (I : In) : (k0_pay135 (F := Ideal) I.mask (I.st 1) (I.sWord 13)) = (ls I 1 5) := by sl_kernel_rfl
theorem e140 (I : In) : (k0_pay140 (F := Ideal) I.mask (I.st 1) (I.sWord 14)) = (pr I 1 6) := by sl_kernel_rfl
theorem e141 (I : In) : (k0_pay141 (F := Ideal) I.mask (I.st 1) (I.sWord 14)) = (inv I 1 6) := by sl_kernel_rfl
theorem e142 (I : In) : (k0_pay142 (F := Ideal) I.mask (I.st 1) (I.sWord 14)) = (ls I 1 6) := by sl_kernel_rfl
theorem e149 (I : In) : (k0_pay149 (F := Ideal) I.mask (k0_pay143 (F := Ideal) (I.st 1)) (k0_pay144 (F := Ideal)) (I.sWord 15)) = (inv I 1 7) := by sl_kernel_rfl
theorem e150 (I : In) : (k0_pay150 (F := Ideal) I.mask (k0_pay143 (F := Ideal) (I.st 1)) (k0_pay144 (F := Ideal)) (I.sWord 15)) = (ls I 1 7) := by sl_kernel_rfl
theorem e151 (I : In) : (k0_pay151 (F := Ideal) (vt I 1) I.mask (pr I 1 0) (pr I 1 1) (pr I 1 2) (pr I 1 3) (pr I 1 4) (pr I 1 5) (pr I 1 6) (k0_pay143 (F := Ideal) (I.st 1)) (k0_pay144 (F := Ideal)) (I.sWord 15)) = (ot I 1) := by sl_kernel_rfl
theorem e152 (I : In) : (k0_pay152 (F := Ideal) k0_pay4 (vt I 1) I.mask (pr I 1 0) (inv I 1 0) (pr I 1 1) (inv I 1 1) (pr I 1 2) (pr I 1 3) (pr I 1 4) (pr I 1 5) (pr I 1 6) (k0_pay143 (F := Ideal) (I.st 1)) (k0_pay144 (F := Ideal)) (I.sWord 15)) = (tile I 4) := by sl_kernel_rfl
theorem e153 (I : In) : (k0_pay153 (F := Ideal) k0_pay4 (vt I 1) I.mask (pr I 1 0) (pr I 1 1) (pr I 1 2) (inv I 1 2) (pr I 1 3) (inv I 1 3) (pr I 1 4) (pr I 1 5) (pr I 1 6) (k0_pay143 (F := Ideal) (I.st 1)) (k0_pay144 (F := Ideal)) (I.sWord 15)) = (tile I 5) := by sl_kernel_rfl
theorem e1 (I : In) : (k0_pay1 (F := Ideal) k0_pay4 (inv I 1 4) (inv I 1 5) (ot I 1) (k0_pay154 (F := Ideal) (vt I 1) I.mask (pr I 1 0) (pr I 1 1) (pr I 1 2) (pr I 1 3) (pr I 1 4) (pr I 1 5) (pr I 1 6) (k0_pay143 (F := Ideal) (I.st 1)) (k0_pay144 (F := Ideal)) (I.sWord 15))) = (tile I 6) := by sl_kernel_rfl
theorem e2 (I : In) : (k0_pay2 (F := Ideal) k0_pay4 (inv I 1 6) (inv I 1 7) (ot I 1)) = (tile I 7) := by sl_kernel_rfl
theorem e3 (I : In) : (k0_pay3 (F := Ideal) (ls I 0 0) (ls I 0 1) (ls I 0 2) (ls I 0 3) (ls I 0 4) (ls I 0 5) (ls I 0 6) (ls I 0 7) (ls I 1 0) (ls I 1 1) (ls I 1 2) (ls I 1 3) (ls I 1 4) (ls I 1 5) (ls I 1 6) (ls I 1 7)) = (lsC I) := by sl_kernel_rfl
theorem lq0 (m : (ℓ : Loc nD τ sig) → Buf (Elt Ideal) ℓ) (c : Dev nD) (t : Fin cfg0.N) :
    View.readAt (Elt Ideal) (ms0_1 t).view (Rect.unit (s := S128x1024) ![0, 0] S128x128.size inb_S128x1024_S128x128_0_0).toLoadRect ((hs0_1 t).unread (X0_1 m c t)) = (inp m c t).qTile 0 := rfl
theorem lq1 (m : (ℓ : Loc nD τ sig) → Buf (Elt Ideal) ℓ) (c : Dev nD) (t : Fin cfg0.N) :
    View.readAt (Elt Ideal) (ms0_1 t).view (Rect.unit (s := S128x1024) ![0, 128] S128x128.size inb_S128x1024_S128x128_0_128).toLoadRect ((hs0_1 t).unread (X0_1 m c t)) = (inp m c t).qTile 1 := rfl
theorem lq2 (m : (ℓ : Loc nD τ sig) → Buf (Elt Ideal) ℓ) (c : Dev nD) (t : Fin cfg0.N) :
    View.readAt (Elt Ideal) (ms0_1 t).view (Rect.unit (s := S128x1024) ![0, 256] S128x128.size inb_S128x1024_S128x128_0_256).toLoadRect ((hs0_1 t).unread (X0_1 m c t)) = (inp m c t).qTile 2 := rfl
theorem lq3 (m : (ℓ : Loc nD τ sig) → Buf (Elt Ideal) ℓ) (c : Dev nD) (t : Fin cfg0.N) :
    View.readAt (Elt Ideal) (ms0_1 t).view (Rect.unit (s := S128x1024) ![0, 384] S128x128.size inb_S128x1024_S128x128_0_384).toLoadRect ((hs0_1 t).unread (X0_1 m c t)) = (inp m c t).qTile 3 := rfl
theorem lq4 (m : (ℓ : Loc nD τ sig) → Buf (Elt Ideal) ℓ) (c : Dev nD) (t : Fin cfg0.N) :
    View.readAt (Elt Ideal) (ms0_1 t).view (Rect.unit (s := S128x1024) ![0, 512] S128x128.size inb_S128x1024_S128x128_0_512).toLoadRect ((hs0_1 t).unread (X0_1 m c t)) = (inp m c t).qTile 4 := rfl
theorem lq5 (m : (ℓ : Loc nD τ sig) → Buf (Elt Ideal) ℓ) (c : Dev nD) (t : Fin cfg0.N) :
    View.readAt (Elt Ideal) (ms0_1 t).view (Rect.unit (s := S128x1024) ![0, 640] S128x128.size inb_S128x1024_S128x128_0_640).toLoadRect ((hs0_1 t).unread (X0_1 m c t)) = (inp m c t).qTile 5 := rfl
theorem lq6 (m : (ℓ : Loc nD τ sig) → Buf (Elt Ideal) ℓ) (c : Dev nD) (t : Fin cfg0.N) :
    View.readAt (Elt Ideal) (ms0_1 t).view (Rect.unit (s := S128x1024) ![0, 768] S128x128.size inb_S128x1024_S128x128_0_768).toLoadRect ((hs0_1 t).unread (X0_1 m c t)) = (inp m c t).qTile 6 := rfl
theorem lq7 (m : (ℓ : Loc nD τ sig) → Buf (Elt Ideal) ℓ) (c : Dev nD) (t : Fin cfg0.N) :
    View.readAt (Elt Ideal) (ms0_1 t).view (Rect.unit (s := S128x1024) ![0, 896] S128x128.size inb_S128x1024_S128x128_0_896).toLoadRect ((hs0_1 t).unread (X0_1 m c t)) = (inp m c t).qTile 7 := rfl
theorem l_km (m : (ℓ : Loc nD τ sig) → Buf (Elt Ideal) ℓ) (c : Dev nD) (t : Fin cfg0.N) :
    View.readAt (Elt Ideal) (ms0_2 t).view (Rect.unit (s := S128x128) ![0, 0] S128x128.size inb_S128x128_S128x128_0_0).toLoadRect ((hs0_2 t).unread (iblk m c 2 t)) = (inp m c t).km :=
  View.ld_unit_lit' inb_S128x128_S128x128_0_0 _ (by decide)
theorem l_kp (m : (ℓ : Loc nD τ sig) → Buf (Elt Ideal) ℓ) (c : Dev nD) (t : Fin cfg0.N) :
    View.readAt (Elt Ideal) (ms0_3 t).view (Rect.unit (s := S128x128) ![0, 0] S128x128.size inb_S128x128_S128x128_0_0).toLoadRect ((hs0_3 t).unread (iblk m c 3 t)) = (inp m c t).kp :=
  View.ld_unit_lit' inb_S128x128_S128x128_0_0 _ (by decide)
theorem l_kc (m : (ℓ : Loc nD τ sig) → Buf (Elt Ideal) ℓ) (c : Dev nD) (t : Fin cfg0.N) :
    View.readAt (Elt Ideal) (ms0_4 t).view (Rect.unit (s := S128x128) ![0, 0] S128x128.size inb_S128x128_S128x128_0_0).toLoadRect ((hs0_4 t).unread (iblk m c 4 t)) = (inp m c t).kc :=
  View.ld_unit_lit' inb_S128x128_S128x128_0_0 _ (by decide)
theorem l_vm (m : (ℓ : Loc nD τ sig) → Buf (Elt Ideal) ℓ) (c : Dev nD) (t : Fin cfg0.N) :
    View.readAt (Elt Ideal) (ms0_5 t).view (Rect.unit (s := S128x128) ![0, 0] S128x128.size inb_S128x128_S128x128_0_0).toLoadRect ((hs0_5 t).unread (iblk m c 5 t)) = (inp m c t).vm :=
  View.ld_unit_lit' inb_S128x128_S128x128_0_0 _ (by decide)
theorem l_vp (m : (ℓ : Loc nD τ sig) → Buf (Elt Ideal) ℓ) (c : Dev nD) (t : Fin cfg0.N) :
    View.readAt (Elt Ideal) (ms0_6 t).view (Rect.unit (s := S128x128) ![0, 0] S128x128.size inb_S128x128_S128x128_0_0).toLoadRect ((hs0_6 t).unread (iblk m c 6 t)) = (inp m c t).vp :=
  View.ld_unit_lit' inb_S128x128_S128x128_0_0 _ (by decide)
theorem l_vc (m : (ℓ : Loc nD τ sig) → Buf (Elt Ideal) ℓ) (c : Dev nD) (t : Fin cfg0.N) :
    View.readAt (Elt Ideal) (ms0_7 t).view (Rect.unit (s := S128x128) ![0, 0] S128x128.size inb_S128x128_S128x128_0_0).toLoadRect ((hs0_7 t).unread (iblk m c 7 t)) = (inp m c t).vc :=
  View.ld_unit_lit' inb_S128x128_S128x128_0_0 _ (by decide)
theorem ls0 (m : (ℓ : Loc nD τ sig) → Buf (Elt Ideal) ℓ) (c : Dev nD) (t : Fin cfg0.N) (hp) :
    View.readAt (Elt Ideal) (ms0_0 t).view (Rect.unit (s := S16) ![0] S1.size inb_S16_S1_0).toLoadRect ((hs0_0 t).unread (iblk m c 0 t)) (Shape.Idx.first hp) = (inp m c t).sWord 0 := rfl
theorem ls1 (m : (ℓ : Loc nD τ sig) → Buf (Elt Ideal) ℓ) (c : Dev nD) (t : Fin cfg0.N) (hp) :
    View.readAt (Elt Ideal) (ms0_0 t).view (Rect.unit (s := S16) ![1] S1.size inb_S16_S1_1).toLoadRect ((hs0_0 t).unread (iblk m c 0 t)) (Shape.Idx.first hp) = (inp m c t).sWord 1 := rfl
theorem ls2 (m : (ℓ : Loc nD τ sig) → Buf (Elt Ideal) ℓ) (c : Dev nD) (t : Fin cfg0.N) (hp) :
    View.readAt (Elt Ideal) (ms0_0 t).view (Rect.unit (s := S16) ![2] S1.size inb_S16_S1_2).toLoadRect ((hs0_0 t).unread (iblk m c 0 t)) (Shape.Idx.first hp) = (inp m c t).sWord 2 := rfl
theorem ls3 (m : (ℓ : Loc nD τ sig) → Buf (Elt Ideal) ℓ) (c : Dev nD) (t : Fin cfg0.N) (hp) :
    View.readAt (Elt Ideal) (ms0_0 t).view (Rect.unit (s := S16) ![3] S1.size inb_S16_S1_3).toLoadRect ((hs0_0 t).unread (iblk m c 0 t)) (Shape.Idx.first hp) = (inp m c t).sWord 3 := rfl
theorem ls4 (m : (ℓ : Loc nD τ sig) → Buf (Elt Ideal) ℓ) (c : Dev nD) (t : Fin cfg0.N) (hp) :
    View.readAt (Elt Ideal) (ms0_0 t).view (Rect.unit (s := S16) ![4] S1.size inb_S16_S1_4).toLoadRect ((hs0_0 t).unread (iblk m c 0 t)) (Shape.Idx.first hp) = (inp m c t).sWord 4 := rfl
theorem ls5 (m : (ℓ : Loc nD τ sig) → Buf (Elt Ideal) ℓ) (c : Dev nD) (t : Fin cfg0.N) (hp) :
    View.readAt (Elt Ideal) (ms0_0 t).view (Rect.unit (s := S16) ![5] S1.size inb_S16_S1_5).toLoadRect ((hs0_0 t).unread (iblk m c 0 t)) (Shape.Idx.first hp) = (inp m c t).sWord 5 := rfl
theorem ls6 (m : (ℓ : Loc nD τ sig) → Buf (Elt Ideal) ℓ) (c : Dev nD) (t : Fin cfg0.N) (hp) :
    View.readAt (Elt Ideal) (ms0_0 t).view (Rect.unit (s := S16) ![6] S1.size inb_S16_S1_6).toLoadRect ((hs0_0 t).unread (iblk m c 0 t)) (Shape.Idx.first hp) = (inp m c t).sWord 6 := rfl
theorem ls7 (m : (ℓ : Loc nD τ sig) → Buf (Elt Ideal) ℓ) (c : Dev nD) (t : Fin cfg0.N) (hp) :
    View.readAt (Elt Ideal) (ms0_0 t).view (Rect.unit (s := S16) ![7] S1.size inb_S16_S1_7).toLoadRect ((hs0_0 t).unread (iblk m c 0 t)) (Shape.Idx.first hp) = (inp m c t).sWord 7 := rfl
theorem ls8 (m : (ℓ : Loc nD τ sig) → Buf (Elt Ideal) ℓ) (c : Dev nD) (t : Fin cfg0.N) (hp) :
    View.readAt (Elt Ideal) (ms0_0 t).view (Rect.unit (s := S16) ![8] S1.size inb_S16_S1_8).toLoadRect ((hs0_0 t).unread (iblk m c 0 t)) (Shape.Idx.first hp) = (inp m c t).sWord 8 := rfl
theorem ls9 (m : (ℓ : Loc nD τ sig) → Buf (Elt Ideal) ℓ) (c : Dev nD) (t : Fin cfg0.N) (hp) :
    View.readAt (Elt Ideal) (ms0_0 t).view (Rect.unit (s := S16) ![9] S1.size inb_S16_S1_9).toLoadRect ((hs0_0 t).unread (iblk m c 0 t)) (Shape.Idx.first hp) = (inp m c t).sWord 9 := rfl
theorem ls10 (m : (ℓ : Loc nD τ sig) → Buf (Elt Ideal) ℓ) (c : Dev nD) (t : Fin cfg0.N) (hp) :
    View.readAt (Elt Ideal) (ms0_0 t).view (Rect.unit (s := S16) ![10] S1.size inb_S16_S1_10).toLoadRect ((hs0_0 t).unread (iblk m c 0 t)) (Shape.Idx.first hp) = (inp m c t).sWord 10 := rfl
theorem ls11 (m : (ℓ : Loc nD τ sig) → Buf (Elt Ideal) ℓ) (c : Dev nD) (t : Fin cfg0.N) (hp) :
    View.readAt (Elt Ideal) (ms0_0 t).view (Rect.unit (s := S16) ![11] S1.size inb_S16_S1_11).toLoadRect ((hs0_0 t).unread (iblk m c 0 t)) (Shape.Idx.first hp) = (inp m c t).sWord 11 := rfl
theorem ls12 (m : (ℓ : Loc nD τ sig) → Buf (Elt Ideal) ℓ) (c : Dev nD) (t : Fin cfg0.N) (hp) :
    View.readAt (Elt Ideal) (ms0_0 t).view (Rect.unit (s := S16) ![12] S1.size inb_S16_S1_12).toLoadRect ((hs0_0 t).unread (iblk m c 0 t)) (Shape.Idx.first hp) = (inp m c t).sWord 12 := rfl
theorem ls13 (m : (ℓ : Loc nD τ sig) → Buf (Elt Ideal) ℓ) (c : Dev nD) (t : Fin cfg0.N) (hp) :
    View.readAt (Elt Ideal) (ms0_0 t).view (Rect.unit (s := S16) ![13] S1.size inb_S16_S1_13).toLoadRect ((hs0_0 t).unread (iblk m c 0 t)) (Shape.Idx.first hp) = (inp m c t).sWord 13 := rfl
theorem ls14 (m : (ℓ : Loc nD τ sig) → Buf (Elt Ideal) ℓ) (c : Dev nD) (t : Fin cfg0.N) (hp) :
    View.readAt (Elt Ideal) (ms0_0 t).view (Rect.unit (s := S16) ![14] S1.size inb_S16_S1_14).toLoadRect ((hs0_0 t).unread (iblk m c 0 t)) (Shape.Idx.first hp) = (inp m c t).sWord 14 := rfl
theorem ls15 (m : (ℓ : Loc nD τ sig) → Buf (Elt Ideal) ℓ) (c : Dev nD) (t : Fin cfg0.N) (hp) :
    View.readAt (Elt Ideal) (ms0_0 t).view (Rect.unit (s := S16) ![15] S1.size inb_S16_S1_15).toLoadRect ((hs0_0 t).unread (iblk m c 0 t)) (Shape.Idx.first hp) = (inp m c t).sWord 15 := rfl
theorem inp_n (m : (ℓ : Loc nD τ sig) → Buf (Elt Ideal) ℓ) (c : Dev nD) (t : Fin cfg0.N) : BitVec.ofNat 32 ↑(grid0.coords t 0) = (inp m c t).n := rfl
theorem inp_base (m : (ℓ : Loc nD τ sig) → Buf (Elt Ideal) ℓ) (c : Dev nD) (t : Fin cfg0.N) : k0_pay13 (grid0.coords t) = broadcast S384x128 (Scalar.muli (inp m c t).n 128#32) := rfl

end Cert.AttnFwdIdeal.Hand
-- ==== Proof.AttnFwdReads.lean ====
/- The forward block's vectors, entry by entry. -/
module

public import proofs.«01_k».proof.Proof.AttnFwdBlock
public import proofs.«01_k».proof.Proof.AttnBwdReads
public import Idealize.ShloMosaic.Lib.Pointwise

@[expose] public section

set_option maxRecDepth 16384

noncomputable section

namespace Cert.AttnFwdIdeal.Hand
open Cert.AttnFwdIdeal Cert.AttnFwdIdeal.Gen
open Idealize.ShloMosaic Idealize.ShloMosaic.TcCoe Idealize.ShloMosaic.Tactic
open Cert.AttnBwdIdeal.Hand (In rows3 lane_low select_if' hd)

theorem low_at (x : Fin 128) : (k0_pay4 : IVec S1x128 1) (ix2 0 x) = if x.val < 64 then 1#1 else 0#1 := by
  pointwise [k0_pay4]
  exact lane_low x
theorem pay9_at (a b d : Vec Ideal S128x128 .bf16) (l : Fin 384) (x : Fin 128) : (k0_pay9 a b d : FVec Ideal S384x128 .f32) (ix2 l x) = rows3 a b d l x := by
  pointwise [k0_pay9, rows3]
theorem pay10_at (a b d : Vec Ideal S128x128 .bf16) (l : Fin 384) (x : Fin 128) : (k0_pay10 a b d : FVec Ideal S384x128 .f32) (ix2 l x) = rows3 a b d l ⟨(x.val + 64) % 128, Nat.mod_lt _ (by decide)⟩ := by
  pointwise [k0_pay10, pay9_at]
  exact congrArg (rows3 a b d l) (Fin.ext (by show (x.val + 128 - 64) % 128 = (x.val + 64) % 128; omega))

/-- The constant of the masked places stands for minus infinity. -/
theorem mask_word : (Named.named κ "mask" 0xF149F2CA#32 : Ideal .f32) = (⊥ : EReal) := rfl

variable (I : In)

theorem vt_at (g : Fin 2) (l : Fin 384) (x : Fin 128) : (vt I g) (ix2 x l) = I.W g l ⟨x.val % 64, Nat.mod_lt _ (by decide)⟩ := by
  fin_cases g
  · show k0_pay11 I.vm I.vp I.vc (ix2 x l) = _
    pointwise [k0_pay11, pay9_at, pay10_at]
    rw [low_at, select_if']
    unfold In.W
    split <;> exact congrArg (rows3 _ _ _ l) (Fin.ext (by simp only []; omega))
  · show k0_pay12 I.vm I.vp I.vc (ix2 x l) = _
    pointwise [k0_pay12, pay9_at, pay10_at]
    rw [low_at, select_if']
    unfold In.W
    split <;> exact congrArg (rows3 _ _ _ l) (Fin.ext (by simp only []; omega))

/-! The forward scalars: a masked logit, the largest, an exponential, the denominator, and an output. -/
def Sc (g : Fin 2) (j : Fin 8) (l : Fin 384) (r : Fin 128) : EReal := Scalar.select (I.mask (ix2 l r)) (I.S g j l r) (⊥ : EReal)
def Mx (g : Fin 2) (j : Fin 8) (r : Fin 128) : EReal := max (Finset.univ.fold max ⊥ fun l => Sc I g j l r) (I.s (ix1 (hd g j)))
def Ex (g : Fin 2) (j : Fin 8) (l : Fin 384) (r : Fin 128) : EReal := Ideal.exp (Sc I g j l r - Mx I g j r)
def Dn (g : Fin 2) (j : Fin 8) (r : Fin 128) : EReal := (∑ l, Ex I g j l r) + Ideal.exp (I.s (ix1 (hd g j)) - Mx I g j r)
def Oh (g : Fin 2) (j : Fin 8) (r : Fin 128) (d : Fin 64) : EReal := (∑ l, I.W g l d * Ex I g j l r) * Ideal.div 1 (Dn I g j r)

theorem sc_at (g : Fin 2) (j : Fin 8) (l : Fin 384) (r : Fin 128) : (sc I g j) (ix2 l r) = Sc I g j l r := by
  unfold Sc
  rw [← mask_word]
  pointwise [sc, In.st_at]
theorem mx_at (g : Fin 2) (j : Fin 8) (r : Fin 128) : (mx I g j) (ix2 0 r) = Mx I g j r := by
  pointwise [mx, In.sWord, sc_at, Mx]
  rw [show Ideal.ofBits FTy.f32 4286578688#32 = (⊥ : EReal) by simp [Ideal.ofBits, Ideal.ieee]]
theorem ex_at (g : Fin 2) (j : Fin 8) (l : Fin 384) (r : Fin 128) : (ex I g j) (ix2 l r) = Ex I g j l r := by
  pointwise [ex, sc_at, mx_at, Ex]
theorem dn_at (g : Fin 2) (j : Fin 8) (r : Fin 128) : (dn I g j) (ix2 0 r) = Dn I g j r := by
  pointwise [dn, In.sWord, ex_at, mx_at, Dn]
theorem pr_at (g : Fin 2) (j : Fin 8) (l : Fin 384) (r : Fin 128) : (pr I g j) (ix2 l r) = Ex I g j l r := by
  pointwise [pr, ex_at]
theorem inv_at (g : Fin 2) (j : Fin 8) (r : Fin 128) : (inv I g j) (ix2 0 r) = Ideal.div 1 (Dn I g j r) := by
  pointwise [inv, dn_at]
theorem ls_at (g : Fin 2) (j : Fin 8) (r : Fin 128) : (ls I g j) (ix2 0 r) = Mx I g j r + Ideal.log (Dn I g j r) := by
  pointwise [ls, mx_at, dn_at]

/-- The eight heads' exponentials side by side. -/
theorem prC_at (g : Fin 2) (j : Fin 8) (l : Fin 384) (r : Fin 128) :
    (concatenate S384x1024 1 (List.ofFn fun j : Fin 8 => ⟨S384x128, pr I g j⟩) concatenates_S384x128_S384x128_S384x128_S384x128_S384x128_S384x128_S384x128_S384x128_S384x1024_d1 : FVec Ideal S384x1024 .bf16)
      (ix2 l (⟨128 * j.val + r.val, by omega⟩ : Fin 1024)) = Ex I g j l r := by
  refine Eq.trans ?_ (pr_at I g j l r)
  refine concatenate_ofFn_apply (t := S384x1024) 1 (fun j => pr I g j) _ rfl 128 rfl (ix2 l (⟨128 * j.val + r.val, by omega⟩ : Fin 1024)) j (show (128 * j.val + r.val) / 128 = j.val by omega) (ix2 l r) (show r.val = (128 * j.val + r.val) % 128 by omega) ?_
  intro b hb
  fin_cases b
  · rfl
  · exact absurd rfl hb
theorem ot_at (g : Fin 2) (j : Fin 8) (r x : Fin 128) : (ot I g) (ix2 x (⟨128 * j.val + r.val, by omega⟩ : Fin 1024))
    = ∑ l, I.W g l ⟨x.val % 64, Nat.mod_lt _ (by decide)⟩ * Ex I g j l r := by
  pointwise [ot, vt_at, prC_at]
theorem oh_at (g : Fin 2) (j : Fin 8) (r x : Fin 128) : (oh I g j) (ix2 r x) = Oh I g j r ⟨x.val % 64, Nat.mod_lt _ (by decide)⟩ := by
  pointwise [oh, ot_at, inv_at, Oh]
theorem tile_at (p : Fin 8) (r x : Fin 128) : (tile I p) (ix2 r x)
    = Oh I ⟨p.val / 4, by omega⟩ ⟨2 * (p.val % 4) + x.val / 64, by omega⟩ r ⟨x.val % 64, Nat.mod_lt _ (by decide)⟩ := by
  pointwise [tile, oh_at]
  rw [low_at, select_if']
  split
  · exact congrArg (fun j => Oh I _ j r _) (Fin.ext (by simp only []; omega))
  · exact congrArg (fun j => Oh I _ j r _) (Fin.ext (by simp only []; omega))
theorem lsC_at (h : Fin 16) (r : Fin 128) : (lsC I) (ix2 h r)
    = Mx I ⟨h.val / 8, by omega⟩ ⟨h.val % 8, by omega⟩ r + Ideal.log (Dn I ⟨h.val / 8, by omega⟩ ⟨h.val % 8, by omega⟩ r) := by
  refine Eq.trans ?_ (ls_at I ⟨h.val / 8, by omega⟩ ⟨h.val % 8, by omega⟩ r)
  unfold lsC
  refine concatenate_ofFn_apply (t := S16x128) 0 (fun h : Fin 16 => ls I ⟨h.val / 8, by omega⟩ ⟨h.val % 8, by omega⟩) _ rfl 1 rfl (ix2 h r) h (show h.val / 1 = h.val by omega) (ix2 (0 : Fin 1) r) (show 0 = h.val % 1 by omega) ?_
  intro b hb
  fin_cases b
  · exact absurd rfl hb
  · rfl
end Cert.AttnFwdIdeal.Hand
-- ==== Proof.AttnFwdRef.lean ====
/- The forward reference's arrays, entry by entry, and the kernel's softmax row in the reference's words. -/
module

public import proofs.«01_k».proof.Proof.AttnBwdFacts
public import proofs.«01_k».proof.Proof.Gen.AttnFwdRefIdeal.Read

@[expose] public section

set_option maxRecDepth 16384

noncomputable section

namespace Cert.AttnFwdRefIdeal.Val
open Cert.AttnFwdRefIdeal Cert.AttnFwdRefIdeal.Gen Cert.AttnFwdRefIdeal.Read
open Idealize.ShloMosaic Idealize.ShloMosaic.TcCoe Idealize.ShloMosaic.Tactic
open Cert.Rows Cert.Pad Cert.Mask
open Cert.AttnRefIdeal.Val (qrow head key qE kE vE c8 fS top keep none logit_ok rs_at rk_at rq_at rv_at logit_at all_at max_at exp_at z_at soft_at fin_pad fin_v40 fin_v75 fin_v76)

variable (x0 : FVec Ideal S1x4112x1280 .f32) (x1 : FVec Ideal S1x16 .f32)

/-! ## The parts the two references share -/

theorem logits_eq : val_main_v128 (F := Ideal) x0 x1 = AttnRefIdeal.Read.val_main_v131 (F := Ideal) x0 x1 := by sl_kernel_rfl
theorem max_eq : val_main_v129 (F := Ideal) x0 x1 = AttnRefIdeal.Read.val_main_v132 (F := Ideal) x0 x1 := by sl_kernel_rfl
theorem probs_eq : val_main_v149 (F := Ideal) x0 x1 = AttnRefIdeal.Read.val_main_v160 (F := Ideal) x0 x1 := by sl_kernel_rfl
theorem values_eq : val_main_v160 (F := Ideal) x0 = AttnRefIdeal.Read.val_main_v173 (F := Ideal) x0 := by sl_kernel_rfl

/-! ## The outputs -/

theorem sum_at (n : Fin 33) (g : Fin 2) (j : Fin 8) (r : Fin 128) (d : Fin 64) : (val_main_v161 (F := Ideal) x0 x1) (ix5 n g d j r)
    = ∑ x : Fin 272, AttnRefIdeal.Read.val_main_v160 (F := Ideal) x0 x1 (ix5 n g j r x) * AttnRefIdeal.Read.val_main_v173 (F := Ideal) x0 (ix4 n x g d) := by
  rw [← probs_eq, ← values_eq]
  pointwise [val_main_v161]
  first
    | rfl
    | exact Finset.sum_congr rfl fun x _ => mul_comm _ _
theorem flat_at (n : Fin 33) (g : Fin 2) (j : Fin 8) (r : Fin 128) (d : Fin 64) :
    (val_main_v163 (F := Ideal) x0 x1) (ix2 (qrow n r) (⟨64 * (8 * g.val + j.val) + d.val, by omega⟩ : Fin 1024)) = val_main_v161 (F := Ideal) x0 x1 (ix5 n g d j r) := by
  pointwise [val_main_v163, val_main_v162]
  exact congrArg₂ (fun a b => val_main_v161 (F := Ideal) x0 x1 (ix5 a g d j b)) (Fin.ext (by simp only []; omega)) (Fin.ext (by simp only []; omega))
theorem out_pad (R : Fin 4224) (x : Fin 1024) : (val_main_v166 (F := Ideal) x0 x1) (ix2 R x) = if 112 ≤ R.val then val_main_v163 (F := Ideal) x0 x1 (ix2 R x) else 0 := by
  pointwise [val_main_v166, val_main_v165, val_main_v164, val_main_call1_v0]
  by_cases hR : 112 ≤ R.val
  · rw [if_pos hR, dif_pos ⟨hR, by omega⟩]
    exact congrArg (fun z => val_main_v163 (F := Ideal) x0 x1 (ix2 z x)) (Fin.ext (by simp only []; omega))
  · rw [if_neg hR, dif_neg (fun hh => hR hh.1)]
    exact AttnBwdIdeal.Hand.zero_word

theorem lse_of (L : FVec Ideal S33x2x8x128x273 .f32) (M : FVec Ideal S33x2x8x128 .f32) (n : Fin 33) (g : Fin 2) (j : Fin 8) (r : Fin 128) :
   (shapeCast S528x128 (addf (broadcastInDim S33x2x8x128x1 ![0, 1, 2, 3] bcast_S33x2x8x128_S33x2x8x128x1_0_1_2_3 M)
      (Host.log (broadcastInDim S33x2x8x128x1 ![0, 1, 2, 3] bcast_S33x2x8x128_S33x2x8x128x1_0_1_2_3 (Host.reduceAdd (Host.exp (subf L
        (broadcastInDim S33x2x8x128x273 ![0, 1, 2, 3, 4] bcast_S33x2x8x128x1_S33x2x8x128x273_0_1_2_3_4 (broadcastInDim S33x2x8x128x1 ![0, 1, 2, 3] bcast_S33x2x8x128_S33x2x8x128x1_0_1_2_3 M))))
        (constant S_ .f32 0x00000000#32) reducesTo_S33x2x8x128x273_S33x2x8x128_d4 h_S_)))) shapeCasts_S33x2x8x128x1_S528x128 : FVec Ideal S528x128 .f32)
      (ix2 ⟨16 * n.val + (8 * g.val + j.val), by omega⟩ r) = M (ix4 n g j r) + Ideal.log (∑ x : Fin 273, Ideal.exp (L (ix5 n g j r x) - M (ix4 n g j r))) := by
  refine (AttnBwdIdeal.Hand.lse_sh _ _ n g j r).trans ?_
  exact congrArg (fun z => M (ix4 n g j r) + Ideal.log z) (AttnBwdIdeal.Hand.lse_at L M n g j r)
theorem lse_at (n : Fin 33) (g : Fin 2) (j : Fin 8) (r : Fin 128) : (val_main_v167 (F := Ideal) x0 x1) (ix2 ⟨16 * n.val + (8 * g.val + j.val), by omega⟩ r)
    = top x0 x1 n g j r + Ideal.log (AttnRefIdeal.Read.val_main_v153 (F := Ideal) x0 x1 (ix4 n g j r)) := by
  rw [z_at]
  simp only [exp_at]
  rw [← logits_eq, ← max_eq]
  exact lse_of (val_main_v128 (F := Ideal) x0 x1) (val_main_v129 (F := Ideal) x0 x1) n g j r

/-! ## The kernel's row -/

/-- A masked logit, an exponential and the denominator as the kernel forms them, over all 384 keys. -/
def fL (n : Fin 33) (g : Fin 2) (j : Fin 8) (r : Fin 128) (l : Fin 384) : EReal := if ok n.val r.val l.val then fS x0 n g j r l else ⊥
def fE (n : Fin 33) (g : Fin 2) (j : Fin 8) (r : Fin 128) (l : Fin 384) : EReal := Ideal.exp (fL x0 n g j r l - top x0 x1 n g j r)
def fZ (n : Fin 33) (g : Fin 2) (j : Fin 8) (r : Fin 128) : EReal := (∑ l, fE x0 x1 n g j r l) + Ideal.exp (x1 (ix2 0 (head g j)) - top x0 x1 n g j r)

variable {x0 x1}
theorem all_key (n : Fin 33) (g : Fin 2) (j : Fin 8) (r : Fin 128) (x : Fin 272) :
    AttnRefIdeal.Read.val_main_v131 (F := Ideal) x0 x1 (ix5 n g j r ⟨x.val, by omega⟩) = fL x0 n g j r (key x) := by
  rw [all_at, dif_pos x.isLt, logit_at]
  unfold fL
  by_cases hx : ok n.val r.val (key x).val
  · rw [if_pos hx, if_pos hx, logit_ok g j hx]
  · rw [if_neg hx, if_neg hx]
theorem all_sink (n : Fin 33) (g : Fin 2) (j : Fin 8) (r : Fin 128) : AttnRefIdeal.Read.val_main_v131 (F := Ideal) x0 x1 (ix5 n g j r 272) = x1 (ix2 0 (head g j)) := by
  rw [all_at, dif_neg (by decide)]

/-- The keys that the reference leaves out are masked. -/
theorem max_keys (n : Fin 33) (g : Fin 2) (j : Fin 8) (r : Fin 128) :
    max (Finset.univ.fold max ⊥ fun l => fL x0 n g j r l) (x1 (ix2 0 (head g j))) = top x0 x1 n g j r := by
  refine Eq.trans ?_ (max_at x0 x1 n g j r).symm
  refine le_antisymm (max_le ((Finset.fold_max_le _).mpr ⟨bot_le, fun l _ => ?_⟩) ?_) ((Finset.fold_max_le _).mpr ⟨bot_le, fun x _ => ?_⟩)
  · by_cases hl : l.val < 112
    · exact le_of_eq_of_le (if_neg (none hl)) bot_le
    · refine (Finset.le_fold_max _).mpr (Or.inr ⟨⟨l.val - 112, by omega⟩, Finset.mem_univ _, ?_⟩)
      rw [all_key n g j r ⟨l.val - 112, by omega⟩]
      exact le_of_eq (congrArg (fL x0 n g j r) (Fin.ext (by simp only []; omega)))
  · exact (Finset.le_fold_max _).mpr (Or.inr ⟨272, Finset.mem_univ _, le_of_eq (all_sink n g j r).symm⟩)
  · by_cases hx : x.val < 272
    · rw [show x = (⟨(⟨x.val, hx⟩ : Fin 272).val, by omega⟩ : Fin 273) from rfl, all_key n g j r ⟨x.val, hx⟩]
      exact le_max_of_le_left ((Finset.le_fold_max _).mpr (Or.inr ⟨_, Finset.mem_univ _, le_rfl⟩))
    · rw [show x = 272 from Fin.ext (by show x.val = 272; omega), all_sink]
      exact le_max_right _ _

section
variable (h0 : ∀ i, Fin' (x0 i)) (h1 : ∀ i, Fin' (x1 i))
include h0

theorem fin_fS (n : Fin 33) (g : Fin 2) (j : Fin 8) (r : Fin 128) (l : Fin 384) : Fin' (fS x0 n g j r l) := by
  have hc8 : Fin' c8 := ⟨1 / 8, by simp [c8, Ideal.ofBits, Ideal.ieee, -EReal.coe_mul]; norm_num⟩
  exact Fin'.sum _ fun d => (fin_pad (fun i => fin_v75 h0 i g d) _).mul ((fin_pad (fun i => fin_v40 h0 i _ d) _).mul hc8)
include h1
theorem fin_top (n : Fin 33) (g : Fin 2) (j : Fin 8) (r : Fin 128) : Fin' (top x0 x1 n g j r) := by
  show Fin' (AttnRefIdeal.Read.val_main_v132 (F := Ideal) x0 x1 (ix4 n g j r))
  rw [max_at]
  refine Row.max_real _ _ (fun x => ?_) 272 (Finset.mem_univ _) ?_
  · by_cases hx : x.val < 272
    · rw [show x = (⟨(⟨x.val, hx⟩ : Fin 272).val, by omega⟩ : Fin 273) from rfl, all_key n g j r ⟨x.val, hx⟩]
      unfold fL
      split
      · exact Or.inr (fin_fS h0 n g j r _)
      · exact Or.inl rfl
    · rw [show x = 272 from Fin.ext (by show x.val = 272; omega), all_sink]
      exact Or.inr (h1 _)
  · rw [all_sink]; exact h1 _

/-- The exponentials are reals, none below zero, and those of masked keys are zero. -/
theorem real_E (n : Fin 33) (g : Fin 2) (j : Fin 8) (r : Fin 128) (l : Fin 384) :
    ∃ e : ℝ, fE x0 x1 n g j r l = (e : EReal) ∧ 0 ≤ e ∧ (¬ok n.val r.val l.val → e = 0) := by
  obtain ⟨a, ha⟩ := fin_fS h0 n g j r l
  obtain ⟨b, hb⟩ := fin_top h0 h1 n g j r
  unfold fE fL
  by_cases hl : ok n.val r.val l.val
  · rw [if_pos hl, ha, hb, ← EReal.coe_sub]
    exact ⟨Real.exp (a - b), rfl, (Real.exp_pos _).le, fun h => absurd hl h⟩
  · rw [if_neg hl, hb, EReal.bot_sub]
    exact ⟨0, rfl, le_rfl, fun _ => rfl⟩
theorem E_zero (n : Fin 33) (g : Fin 2) (j : Fin 8) (r : Fin 128) (l : Fin 384) (hl : ¬ok n.val r.val l.val) : fE x0 x1 n g j r l = 0 := by
  obtain ⟨e, he, _, h⟩ := real_E h0 h1 n g j r l
  rw [he, h hl]; rfl
theorem real_Z (n : Fin 33) (g : Fin 2) (j : Fin 8) (r : Fin 128) : ∃ z : ℝ, fZ x0 x1 n g j r = (z : EReal) ∧ 0 < z := by
  choose e he hp _ using fun l => real_E h0 h1 n g j r l
  obtain ⟨a, ha⟩ := h1 (ix2 0 (head g j))
  obtain ⟨b, hb⟩ := fin_top h0 h1 n g j r
  refine ⟨(∑ l, e l) + Real.exp (a - b), ?_, add_pos_of_nonneg_of_pos (Finset.sum_nonneg fun l _ => hp l) (Real.exp_pos _)⟩
  unfold fZ
  simp only [he]
  rw [ha, hb, ← EReal.coe_sub, EReal.coe_add, coe_sum]
  rfl
theorem Z_eq (n : Fin 33) (g : Fin 2) (j : Fin 8) (r : Fin 128) : AttnRefIdeal.Read.val_main_v153 (F := Ideal) x0 x1 (ix4 n g j r) = fZ x0 x1 n g j r := by
  rw [z_at, Fin.sum_univ_castSucc]
  unfold fZ
  rw [Row.sum_tail _ fun l hl => E_zero h0 h1 n g j r l (none hl)]
  refine congrArg₂ (· + ·) (Finset.sum_congr rfl fun x _ => ?_) ?_
  · rw [exp_at]
    exact congrArg (fun z => Ideal.exp (z - top x0 x1 n g j r)) (all_key n g j r x)
  · rw [exp_at]
    exact congrArg (fun z => Ideal.exp (z - top x0 x1 n g j r)) (all_sink n g j r)

/-- Dividing once, after the sum, is dividing every probability. -/
theorem mean_eq (n : Fin 33) (g : Fin 2) (j : Fin 8) (r : Fin 128) (d : Fin 64) :
    (∑ l, vE x0 g d (rowOf n l) * fE x0 x1 n g j r l) * Ideal.div 1 (fZ x0 x1 n g j r) = val_main_v161 (F := Ideal) x0 x1 (ix5 n g d j r) := by
  rw [sum_at, Row.sum_tail _ fun l hl => by rw [E_zero h0 h1 n g j r l (none hl), mul_zero]]
  choose e he _ hm using fun l => real_E h0 h1 n g j r l
  obtain ⟨z, hz, hp⟩ := real_Z h0 h1 n g j r
  have hfin : ∀ l, ∃ a : ℝ, vE x0 g d (rowOf n l) = (a : EReal) := fun l => fin_pad (fun i => fin_v76 h0 i g d) (rowOf n l)
  choose v hv using hfin
  have hr : ∀ x : Fin 272, AttnRefIdeal.Read.val_main_v160 (F := Ideal) x0 x1 (ix5 n g j r x) * AttnRefIdeal.Read.val_main_v173 (F := Ideal) x0 (ix4 n x g d)
      = ((e (key x) / z * v (key x) : ℝ) : EReal) := fun x => by
    rw [soft_at, Z_eq h0 h1, hz, exp_at, all_key n g j r x, rv_at]
    rw [show Ideal.exp (fL x0 n g j r (key x) - AttnRefIdeal.Read.val_main_v132 (F := Ideal) x0 x1 (ix4 n g j r)) = (e (key x) : EReal) from he (key x), div_coe_coe _ hp.ne']
    by_cases hx : ok n.val r.val (key x).val
    · rw [if_neg (keep hx), hv, ← EReal.coe_mul]
    · rw [hm _ hx, zero_div, zero_mul]
      exact zero_mul _
  simp only [hr]
  rw [hz, ← EReal.coe_one, div_coe_coe 1 hp.ne', ← coe_sum]
  have hl : ∀ x : Fin 272, vE x0 g d (rowOf n ⟨x.val + 112, by omega⟩) * fE x0 x1 n g j r ⟨x.val + 112, by omega⟩ = ((v (key x) * e (key x) : ℝ) : EReal) := fun x => by
    rw [hv, he, ← EReal.coe_mul]
  simp only [hl]
  rw [← coe_sum, ← EReal.coe_mul, Finset.sum_mul]
  refine congrArg _ (Finset.sum_congr rfl fun x _ => ?_)
  field_simp

/-- A query row the padding adds has no key, so its output is zero. -/
theorem mean_zero (n : Fin 33) (g : Fin 2) (j : Fin 8) (r : Fin 128) (d : Fin 64) (h : ¬112 ≤ (qrow n r).val) :
    (∑ l, vE x0 g d (rowOf n l) * fE x0 x1 n g j r l) * Ideal.div 1 (fZ x0 x1 n g j r) = 0 := by
  have hq : ¬112 ≤ 128 * n.val + r.val := h
  rw [Finset.sum_eq_zero fun l _ => by rw [E_zero h0 h1 n g j r l (by unfold ok; split <;> omega), mul_zero], zero_mul]
theorem out_at (n : Fin 33) (g : Fin 2) (j : Fin 8) (r : Fin 128) (d : Fin 64) :
    (val_main_v166 (F := Ideal) x0 x1) (ix2 (qrow n r) (⟨64 * (8 * g.val + j.val) + d.val, by omega⟩ : Fin 1024))
      = (∑ l, vE x0 g d (rowOf n l) * fE x0 x1 n g j r l) * Ideal.div 1 (fZ x0 x1 n g j r) := by
  rw [out_pad]
  split
  · rw [flat_at, mean_eq h0 h1]
  · rename_i h
    exact (mean_zero h0 h1 n g j r d h).symm
end
end Cert.AttnFwdRefIdeal.Val
-- ==== Proof.AttnFwdIn.lean ====
/- What the forward kernel's block at each grid point reads, and its scalars, in the reference's terms. -/
module

public import proofs.«01_k».proof.Proof.AttnFwdReads
public import proofs.«01_k».proof.Proof.AttnFwdRef
public import proofs.«01_k».proof.Proof.AttnMasks

@[expose] public section

set_option maxRecDepth 16384

noncomputable section

namespace Cert.AttnFwdIdeal.Hand
open Cert.AttnFwdIdeal Cert.AttnFwdIdeal.Gen Cert.Mask Cert.Rows Cert.Pad
open Idealize.ShloMosaic Idealize.ShloMosaic.TcCoe Idealize.ShloMosaic.Tactic
open Cert.AttnBwdIdeal.Hand (In rows3 select_if hd zero_word)
open Cert.AttnRefIdeal.Val (qrow head qE kE vE fS top)
open Cert.AttnFwdRefIdeal.Val (fL fE fZ max_keys)

variable (m : (ℓ : Loc nD τ sig) → Buf (Elt Ideal) ℓ) (c : Dev nD)

abbrev proj : FVec Ideal S1x4112x1280 .f32 := m ((c.tc : Thread nD τ).loc main_arg0)
abbrev sinks : FVec Ideal S1x16 .f32 := m ((c.tc : Thread nD τ).loc main_arg1)

/-! ## The arrays the host hands the kernel -/

set_option maxHeartbeats 1000000 in
theorem host_qkv : @Eq (FVec Ideal S4224x1280 .bf16) (V m c main_v81)
    (truncf .bf16 (pad S4224x1280 ![112, 0] ![0, 0] ![0, 0]
      (concatenate S4112x1280 1 [⟨S4112x1024, shapeCast _ (AttnRefIdeal.Read.val_main_v40 (F := Ideal) (proj m c)) shapeCasts_S4112x16x64_S4112x1024⟩,
        ⟨S4112x128, shapeCast _ (AttnRefIdeal.Read.val_main_v75 (F := Ideal) (proj m c)) shapeCasts_S4112x2x64_S4112x128⟩,
        ⟨S4112x128, shapeCast _ (AttnRefIdeal.Read.val_main_v76 (F := Ideal) (proj m c)) shapeCasts_S4112x2x64_S4112x128⟩]
        concatenates_S4112x1024_S4112x128_S4112x128_S4112x1280_d1)
      (sitofp .f32 (constantI S_ 32 0#32)) pads_S4112x1280_S4224x1280_11200_000 h_S_) bitsLt_bf16_f32) := by
  unfold V
  simp only [List.flatten_cons, List.flatten_nil, List.cons_append, List.nil_append, List.append_nil, hostOps0, hostOps0_1, hostOps0_2]
  after_results
  simp only [StableHlo.TRef.toBuf, StableHlo.TRef.ofBuf, cast_eq]
  sl_kernel_rfl

set_option maxHeartbeats 1000000 in
theorem host_sinks : @Eq (FVec Ideal S16 .f32) (V m c main_v82) (shapeCast S16 (sinks m c) shapeCasts_S1x16_S16) := by
  unfold V
  simp only [List.flatten_cons, List.flatten_nil, List.cons_append, List.nil_append, List.append_nil, hostOps0, hostOps0_1, hostOps0_2]
  after_results
  simp only [StableHlo.TRef.toBuf, StableHlo.TRef.ofBuf, cast_eq]
  sl_kernel_rfl

theorem host_q (R : Fin 4224) (h : Fin 16) (d : Fin 64) : (V m c main_v81 : FVec Ideal S4224x1280 .bf16) (ix2 R ⟨64 * h.val + d.val, by omega⟩) = qE (proj m c) h d R := by
  rw [host_qkv]
  pointwise
  unfold qE padRow
  by_cases hR : 112 ≤ R.val
  · rw [dif_pos ⟨⟨hR, by omega⟩, by omega⟩, dif_pos (by omega), dif_pos hR]
  · rw [dif_neg (fun hh => hR hh.1.1), dif_neg hR]
    exact zero_word
theorem host_k (R : Fin 4224) (g : Fin 2) (d : Fin 64) : (V m c main_v81 : FVec Ideal S4224x1280 .bf16) (ix2 R ⟨1024 + (64 * g.val + d.val), by omega⟩) = kE (proj m c) g d R := by
  rw [host_qkv]
  pointwise
  unfold kE padRow
  by_cases hR : 112 ≤ R.val
  · rw [dif_pos ⟨⟨hR, by omega⟩, by omega⟩, dif_pos (by omega), dif_pos hR]
  · rw [dif_neg (fun hh => hR hh.1.1), dif_neg hR]
    exact zero_word
theorem host_v (R : Fin 4224) (g : Fin 2) (d : Fin 64) : (V m c main_v81 : FVec Ideal S4224x1280 .bf16) (ix2 R ⟨1152 + (64 * g.val + d.val), by omega⟩) = vE (proj m c) g d R := by
  rw [host_qkv]
  pointwise
  unfold vE padRow
  by_cases hR : 112 ≤ R.val
  · rw [dif_pos ⟨⟨hR, by omega⟩, by omega⟩, dif_neg (by omega), dif_neg (by omega), dif_pos hR]
    exact congrArg (AttnRefIdeal.Read.val_main_v76 (F := Ideal) (proj m c)) (congrArg₂ (ix3 _) (Fin.ext (by simp only []; omega)) (Fin.ext (by simp only []; omega)))
  · rw [dif_neg (fun hh => hR hh.1.1), dif_neg hR]
    exact zero_word
theorem host_s (h : Fin 16) : (V m c main_v82 : FVec Ideal S16 .f32) (ix1 h) = sinks m c (ix2 0 h) := by
  rw [host_sinks]
  pointwise

/-! ## The blocks -/

/-- The query block of grid point `t`. -/
abbrev blk (t : Fin cfg0.N) : Fin 33 := ⟨t.val, lt_of_lt_of_eq t.isLt N_0⟩

theorem idx : ∀ t : Fin cfg0.N, win0_0.index t = ![0] ∧ win0_1.index t = ![t.val, 0] ∧ win0_2.index t = ![0, 8]
    ∧ win0_3.index t = ![t.val - 1, 8] ∧ win0_4.index t = ![t.val, 8] ∧ win0_5.index t = ![0, 9]
    ∧ win0_6.index t = ![t.val - 1, 9] ∧ win0_7.index t = ![t.val, 9] ∧ win0_8.index t = ![t.val, 0] ∧ win0_9.index t = ![t.val, 0] :=
  (by decide +kernel : ∀ t : Fin grid0.N, _)

theorem n_at : ∀ t : Fin cfg0.N, BitVec.ofNat 32 (grid0.coords t 0).val = BitVec.ofNat 32 t.val :=
  (by decide +kernel : ∀ t : Fin grid0.N, _)

section
variable (t : Fin cfg0.N)

theorem s_at (h : Fin 16) : (inp m c t).s (ix1 h) = sinks m c (ix2 0 h) :=
  (congrFun ((hs0_0 t).read_unread (iblk m c 0 t)) _).trans
    ((show (iblk m c 0 t : FVec Ideal S16 .f32) (ix1 h) = (V m c main_v82 : FVec Ideal S16 .f32) (ix1 h) by blk_ext [iblk, idx t]).trans (host_s m c h))
theorem q_at (r : Fin 128) (x : Fin 1024) : (inp m c t).q (ix2 r x) = (V m c main_v81 : FVec Ideal S4224x1280 .bf16) (ix2 (qrow (blk t) r) ⟨x.val, by omega⟩) :=
  (congrFun ((hs0_1 t).read_unread (X0_1 m c t)) _).trans (by
    refine (show X0_1 m c t (ix2 r x) = _ by unfold X0_1 Pipeline.Window.fill; rw [dif_pos (moved0_1 t _)]).trans ?_
    blk_ext [iblk, idx t])
theorem km_at (l x : Fin 128) : (inp m c t).km (ix2 l x) = (V m c main_v81 : FVec Ideal S4224x1280 .bf16) (ix2 ⟨l.val, by omega⟩ ⟨1024 + x.val, by omega⟩) :=
  (congrFun ((hs0_2 t).read_unread (iblk m c 2 t)) _).trans (by blk_ext [iblk, idx t])
theorem kp_at (l x : Fin 128) : (inp m c t).kp (ix2 l x) = (V m c main_v81 : FVec Ideal S4224x1280 .bf16) (ix2 ⟨128 * ((blk t).val - 1) + l.val, by omega⟩ ⟨1024 + x.val, by omega⟩) :=
  (congrFun ((hs0_3 t).read_unread (iblk m c 3 t)) _).trans (by blk_ext [iblk, idx t])
theorem kc_at (l x : Fin 128) : (inp m c t).kc (ix2 l x) = (V m c main_v81 : FVec Ideal S4224x1280 .bf16) (ix2 ⟨128 * (blk t).val + l.val, by omega⟩ ⟨1024 + x.val, by omega⟩) :=
  (congrFun ((hs0_4 t).read_unread (iblk m c 4 t)) _).trans (by blk_ext [iblk, idx t])
theorem vm_at (l x : Fin 128) : (inp m c t).vm (ix2 l x) = (V m c main_v81 : FVec Ideal S4224x1280 .bf16) (ix2 ⟨l.val, by omega⟩ ⟨1152 + x.val, by omega⟩) :=
  (congrFun ((hs0_5 t).read_unread (iblk m c 5 t)) _).trans (by blk_ext [iblk, idx t])
theorem vp_at (l x : Fin 128) : (inp m c t).vp (ix2 l x) = (V m c main_v81 : FVec Ideal S4224x1280 .bf16) (ix2 ⟨128 * ((blk t).val - 1) + l.val, by omega⟩ ⟨1152 + x.val, by omega⟩) :=
  (congrFun ((hs0_6 t).read_unread (iblk m c 6 t)) _).trans (by blk_ext [iblk, idx t])
theorem vc_at (l x : Fin 128) : (inp m c t).vc (ix2 l x) = (V m c main_v81 : FVec Ideal S4224x1280 .bf16) (ix2 ⟨128 * (blk t).val + l.val, by omega⟩ ⟨1152 + x.val, by omega⟩) :=
  (congrFun ((hs0_7 t).read_unread (iblk m c 7 t)) _).trans (by blk_ext [iblk, idx t])

theorem Q_at (g : Fin 2) (j : Fin 8) (r : Fin 128) (d : Fin 64) : (inp m c t).Q g j r d = qE (proj m c) (head g j) d (qrow (blk t) r) :=
  (q_at m c t r _).trans (host_q m c (qrow (blk t) r) (head g j) d)
theorem K_at (g : Fin 2) (l : Fin 384) (d : Fin 64) : (inp m c t).K g l d = kE (proj m c) g d (rowOf (blk t) l) := by
  refine Eq.trans ?_ (host_k m c (rowOf (blk t) l) g d)
  unfold In.K rows3 rowOf
  by_cases h1 : l.val < 128
  · rw [dif_pos h1, if_pos h1]; exact km_at m c t _ _
  rw [dif_neg h1, if_neg h1]
  by_cases h2 : l.val < 256
  · rw [dif_pos (by omega), if_pos h2]; exact kp_at m c t _ _
  rw [dif_neg (by omega), if_neg h2]
  refine (kc_at m c t _ _).trans (congrArg (fun R => (V m c main_v81 : FVec Ideal S4224x1280 .bf16) (ix2 R _)) (Fin.ext ?_))
  show 128 * t.val + (l.val - 128 - 128) = 128 * t.val + (l.val - 256)
  omega
theorem W_at (g : Fin 2) (l : Fin 384) (d : Fin 64) : (inp m c t).W g l d = vE (proj m c) g d (rowOf (blk t) l) := by
  refine Eq.trans ?_ (host_v m c (rowOf (blk t) l) g d)
  unfold In.W rows3 rowOf
  by_cases h1 : l.val < 128
  · rw [dif_pos h1, if_pos h1]; exact vm_at m c t _ _
  rw [dif_neg h1, if_neg h1]
  by_cases h2 : l.val < 256
  · rw [dif_pos (by omega), if_pos h2]; exact vp_at m c t _ _
  rw [dif_neg (by omega), if_neg h2]
  refine (vc_at m c t _ _).trans (congrArg (fun R => (V m c main_v81 : FVec Ideal S4224x1280 .bf16) (ix2 R _)) (Fin.ext ?_))
  show 128 * t.val + (l.val - 128 - 128) = 128 * t.val + (l.val - 256)
  omega
theorem S_at (g : Fin 2) (j : Fin 8) (l : Fin 384) (r : Fin 128) : (inp m c t).S g j l r = fS (proj m c) (blk t) g j r l :=
  Finset.sum_congr rfl fun d _ => by rw [K_at, Q_at]
theorem Sc_at (g : Fin 2) (j : Fin 8) (l : Fin 384) (r : Fin 128) : Sc (inp m c t) g j l r = fL (proj m c) (blk t) g j r l := by
  unfold Sc fL
  rw [AttnBwdIdeal.Hand.mask_at _ (blk t) (n_at t), select_if, S_at]
theorem Mx_at (g : Fin 2) (j : Fin 8) (r : Fin 128) : Mx (inp m c t) g j r = top (proj m c) (sinks m c) (blk t) g j r := by
  refine Eq.trans ?_ (max_keys (blk t) g j r)
  unfold Mx
  simp only [Sc_at]
  rw [s_at]
theorem Ex_at (g : Fin 2) (j : Fin 8) (l : Fin 384) (r : Fin 128) : Ex (inp m c t) g j l r = fE (proj m c) (sinks m c) (blk t) g j r l := by
  unfold Ex fE
  rw [Sc_at, Mx_at]
theorem Dn_at (g : Fin 2) (j : Fin 8) (r : Fin 128) : Dn (inp m c t) g j r = fZ (proj m c) (sinks m c) (blk t) g j r := by
  unfold Dn fZ
  simp only [Ex_at]
  rw [Mx_at, s_at]
theorem Oh_at (g : Fin 2) (j : Fin 8) (r : Fin 128) (d : Fin 64) : Oh (inp m c t) g j r d
    = (∑ l, vE (proj m c) g d (rowOf (blk t) l) * fE (proj m c) (sinks m c) (blk t) g j r l) * Ideal.div 1 (fZ (proj m c) (sinks m c) (blk t) g j r) := by
  unfold Oh
  simp only [W_at, Ex_at]
  rw [Dn_at]
end
end Cert.AttnFwdIdeal.Hand
-- ==== Proof.AttnFwdFound.lean ====
/- Which pieces the forward body's run leaves, in the block's own terms. -/
module

public import proofs.«01_k».proof.Proof.AttnFwdBlock

@[expose] public section

set_option maxRecDepth 16384

noncomputable section

namespace Cert.AttnFwdIdeal.Hand
open Cert.AttnFwdIdeal Cert.AttnFwdIdeal.Gen
open Idealize.ShloMosaic Idealize.ShloMosaic.TcCoe Idealize.ShloMosaic.Tactic

section
variable (m : (ℓ : Loc nD τ sig) → Buf (Elt Ideal) ℓ) (c : Dev nD) (t : Fin cfg0.N)

/-- The body's run at point `t`. -/
abbrev run := kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
  (iblk m c 0 t) (X0_1 m c t) (iblk m c 2 t) (iblk m c 3 t) (iblk m c 4 t) (iblk m c 5 t) (iblk m c 6 t) (iblk m c 7 t)

set_option maxHeartbeats 4000000 in
theorem out_run : (run m c t).1 = tiles (inp m c t) := by
  unfold run; frame_open
  unfold tiles
  simp -proj only [lq0, lq1, lq2, lq3, lq4, lq5, lq6, lq7, l_km, l_kp, l_kc, l_vm, l_vp, l_vc, ls0, ls1, ls2, ls3, ls4, ls5, ls6, ls7, ls8, ls9, ls10, ls11, ls12, ls13, ls14, ls15, inp_base m c t, inp_n m c t]
  simp -proj only [e7, e8, e11, e12, e14, e16, e17, e18, e23, e24, e25, e30, e31, e32, e38, e39, e40, e45, e46, e47, e54, e55, e56, e61, e62, e63, e68, e70, e71, e76, e77, e78, e79, e81, e82, e83, e85, e86, e89, e95, e96, e97, e102, e103, e104, e111, e112, e113, e118, e119, e120, e125, e127, e128, e133, e134, e135, e140, e141, e142, e149, e150, e151, e152, e153, e1, e2, e3]

set_option maxHeartbeats 4000000 in
theorem lse_run : (run m c t).2.1 = [⟨whole16, lsC (inp m c t)⟩] := by
  unfold run; frame_open
  simp -proj only [lq0, lq1, lq2, lq3, lq4, lq5, lq6, lq7, l_km, l_kp, l_kc, l_vm, l_vp, l_vc, ls0, ls1, ls2, ls3, ls4, ls5, ls6, ls7, ls8, ls9, ls10, ls11, ls12, ls13, ls14, ls15, inp_base m c t, inp_n m c t]
  simp -proj only [e7, e8, e11, e12, e14, e16, e17, e18, e23, e24, e25, e30, e31, e32, e38, e39, e40, e45, e46, e47, e54, e55, e56, e61, e62, e63, e68, e70, e71, e76, e77, e78, e79, e81, e82, e83, e85, e86, e89, e95, e96, e97, e102, e103, e104, e111, e112, e113, e118, e119, e120, e125, e127, e128, e133, e134, e135, e140, e141, e142, e149, e150, e151, e152, e153, e1, e2, e3]
end
end Cert.AttnFwdIdeal.Hand
-- ==== Proof.AttnFwdOut.lean ====
/- The two arrays the forward kernel leaves are the reference's. -/
module

public import proofs.«01_k».proof.Proof.AttnFwdIn
public import proofs.«01_k».proof.Proof.AttnFwdFound
public import proofs.«01_k».proof.Proof.Gen.AttnFwdIdeal.Value

@[expose] public section

set_option maxRecDepth 16384

noncomputable section

namespace Cert.AttnFwdIdeal.Hand
open Cert.AttnFwdIdeal Cert.AttnFwdIdeal.Gen Cert.Mask Cert.Rows Cert.Pad
open Idealize.ShloMosaic Idealize.ShloMosaic.TcCoe Idealize.ShloMosaic.Tactic
open Cert.AttnBwdIdeal.Hand (In)
open Cert.AttnRefIdeal.Val (qrow head)
open Cert.AttnFwdRefIdeal.Read (val_main_v166 val_main_v167)

variable (m : (ℓ : Loc nD τ sig) → Buf (Elt Ideal) ℓ) (c : Dev nD)

/-- Column block `p` of the rows' block. -/
theorem emb_col (p : Fin 8) (y : S128x128.Idx) : (Rect.unit (s := S128x1024) ![0, 128 * p.val] S128x128.size (inb_col p)).emb y = ix2 (y 0 : Fin 128) (⟨128 * p.val + (y 1 : Fin 128).val, by have h : (y 1 : Fin 128).val < 128 := (y 1 : Fin 128).isLt; omega⟩ : Fin 1024) := by
  refine funext fun a => ?_
  fin_cases a
  · exact Fin.ext ((ValueKit.rect_emb_unit_val _ _ _ _ _).trans (Nat.zero_add _))
  · exact Fin.ext (ValueKit.rect_emb_unit_val _ _ _ _ _)

/-- One entry of the block's output. -/
def out (I : In) (r : Fin 128) (x : Fin 1024) : EReal := Oh I ⟨x.val / 512, by omega⟩ ⟨x.val / 64 % 8, by omega⟩ r ⟨x.val % 64, by omega⟩

theorem tile_out (I : In) (p : Fin 8) (r x : Fin 128) : tile I p (ix2 r x) = out I r ⟨128 * p.val + x.val, by omega⟩ := by
  rw [tile_at]
  unfold out
  have e : ∀ {g g' : Fin 2} {j j' : Fin 8} {d d' : Fin 64}, g = g' → j = j' → d = d' → Oh I g j r d = Oh I g' j' r d' := by
    rintro _ _ _ _ _ _ rfl rfl rfl; rfl
  exact e (Fin.ext (by simp only []; omega)) (Fin.ext (by simp only []; omega)) (Fin.ext (by simp only []; omega))

theorem tiles_at (I : In) (hcov : ∀ y, ∃ pc ∈ tiles I, y ∈ pc.1.set) (r : Fin 128) (x : Fin 1024) :
    View.canon (tiles I) (ix2 r x) = out I r x := by
  refine View.canon_apply_of_pieces (fun y => out I (y 0) (y 1)) _ (fun p hp y => ?_) (ix2 r x) (hcov _)
  unfold tiles at hp
  simp only [List.mem_cons, List.not_mem_nil, or_false] at hp
  have hq : ∀ p : Fin 8, ∀ y : S128x128.Idx, (tile I p) y = (fun y : S128x1024.Idx => out I (y 0) (y 1)) ((Rect.unit (s := S128x1024) ![0, 128 * p.val] S128x128.size (inb_col p)).emb y) := fun p y => by
    rw [emb_col p y, eq_ix2 y]
    exact tile_out I p _ _
  rcases hp with rfl | rfl | rfl | rfl | rfl | rfl | rfl | rfl
  · exact hq 7 y
  · exact hq 6 y
  · exact hq 5 y
  · exact hq 4 y
  · exact hq 3 y
  · exact hq 2 y
  · exact hq 1 y
  · exact hq 0 y

section
variable (t : Fin cfg0.N)
theorem cov8 : ∀ y, ∃ pc ∈ (run m c t).1, y ∈ pc.1.set :=
  cover0_A_8 c _ _ _ _ _ _ _ _ _ _ _ _ _ _ _ _ _ _ _ _ _ _ _ _ _ _ _ _ _
theorem rows_at (r : Fin 128) (x : Fin 1024) : (outsAt0 m c t).1 (ix2 r x) = out (inp m c t) r x := by
  have h := cov8 m c t
  rw [out_run m c t] at h
  exact (congrFun ((View.read_writes_junk_eq_canon VO0_8 (run m c t).1).trans (congrArg View.canon (out_run m c t))) _).trans (tiles_at _ h r x)
theorem lse_emb (R : Fin 528) (h : Fin 16) (r : Fin 128) (hR : R.val = 16 * (blk t).val + h.val) :
    ((win0_9.blk t).view.emb (ix2 h r) : S528x128.Idx) = ix2 R r := by
  have hR : R.val = 16 * t.val + h.val := hR
  blk_ext [idx t]
theorem canon_whole (w : Vec Ideal S16x128 .f32) (L : List (View.Piece (Elt Ideal) S16x128 .f32)) : View.canon (⟨whole16, w⟩ :: L) = w :=
  View.canon_cons_unit_lit' _ w L (by decide)
theorem lse_blk (h : Fin 16) (r : Fin 128) : (outsAt0 m c t).2 (ix2 h r) = lsC (inp m c t) (ix2 h r) :=
  congrFun ((View.read_writes_junk_eq_canon VO0_9 (run m c t).2.1).trans ((congrArg View.canon (lse_run m c t)).trans (canon_whole _ _))) _
end

variable (h0 : ∀ i, Fin' (proj m c i)) (h1 : ∀ i, Fin' (sinks m c i))
include h0 h1

theorem ref_rows (t : Fin cfg0.N) (r : Fin 128) (x : Fin 1024) : val_main_v166 (F := Ideal) (proj m c) (sinks m c) (ix2 (qrow (blk t) r) x) = out (inp m c t) r x := by
  unfold out
  rw [Oh_at, ← AttnFwdRefIdeal.Val.out_at h0 h1]
  exact congrArg (fun z => val_main_v166 (F := Ideal) (proj m c) (sinks m c) (ix2 (qrow (blk t) r) z)) (Fin.ext (by simp only []; omega))
theorem ref_lse (t : Fin cfg0.N) (h : Fin 16) (r : Fin 128) (R : Fin 528) (hR : R.val = 16 * (blk t).val + h.val) :
    val_main_v167 (F := Ideal) (proj m c) (sinks m c) (ix2 R r) = lsC (inp m c t) (ix2 h r) := by
  rw [lsC_at, Mx_at, Dn_at, ← AttnFwdRefIdeal.Val.Z_eq h0 h1, ← AttnFwdRefIdeal.Val.lse_at]
  exact congrArg (fun z => val_main_v167 (F := Ideal) (proj m c) (sinks m c) (ix2 z r)) (Fin.ext (by simp only [hR]; omega))

theorem fin8 : (dats m 0 c).arrAt 8 cfg0.N = val_main_v166 (F := Ideal) (proj m c) (sinks m c) := by
  refine (dats m 0 c).arrAt_eq_of_covers 8 _ (by decide +kernel) fun t hf' y => ?_
  blk_simp
  rw [after0_8]
  obtain ⟨r, x, rfl⟩ : ∃ (r : Fin 128) (x : Fin 1024), y = ix2 r x := ⟨y 0, y 1, eq_ix2 y⟩
  refine (rows_at m c t r x).trans ((ref_rows m c h0 h1 t r x).symm.trans ?_)
  blk_ext [idx t]
theorem fin9 : (dats m 0 c).arrAt 9 cfg0.N = val_main_v167 (F := Ideal) (proj m c) (sinks m c) := by
  refine (dats m 0 c).arrAt_eq_of_covers 9 _ (by decide +kernel) fun t hf' y => ?_
  blk_simp
  rw [after0_9]
  obtain ⟨h, r, rfl⟩ : ∃ (h : Fin 16) (r : Fin 128), y = ix2 h r := ⟨y 0, y 1, eq_ix2 y⟩
  refine (lse_blk m c t h r).trans ((ref_lse m c h0 h1 t h r ⟨16 * (blk t).val + h.val, by omega⟩ rfl).symm.trans ?_)
  exact congrArg (val_main_v167 (F := Ideal) (proj m c) (sinks m c)) (lse_emb t _ h r rfl).symm
end Cert.AttnFwdIdeal.Hand
-- ==== Proof.AttnFwdClaim.lean ====
/- The claims about the attention's forward kernel. -/
module

public import proofs.«01_k».proof.Defs
public import proofs.«01_k».proof.Proof.Finite
public import proofs.«01_k».proof.Proof.AttnFwdOut
public import proofs.«01_k».proof.Proof.Gen.AttnFwd.Frame
public import proofs.«01_k».proof.Proof.Gen.AttnFwdRefIdeal.Run
public import proofs.«01_k».proof.Proof.Gen.Pre_attn_fwd_finite

@[expose] public section

set_option maxRecDepth 16384

noncomputable section

namespace Cert.Proof.AttnFwd
open Idealize.ShloMosaic Idealize.SL.Sem Cert.Rows

theorem q1 : Cert.quiescent_AttnFwd := fun m ρ _ => Cert.AttnFwd.Gen.frame m ρ
theorem q2 : Cert.quiescent_AttnFwdIdeal := fun m ρ _ => Cert.AttnFwdIdeal.Gen.frame m ρ
theorem q3 : Cert.quiescent_AttnFwdIdeal_pre_attn_fwd_finite := fun m ρ _ => Cert.AttnFwdIdeal.Gen.frame m ρ
theorem q4 : Cert.quiescent_AttnFwdRefIdeal := by
  intro m g _
  hlo_run
  · simp
  · exact sem_eq_zero_of_no_sems (sig := Cert.AttnFwdRefIdeal.sig) (by decide) _
theorem q5 : Cert.quiescent_AttnFwdRefIdeal_pre_attn_fwd_finite := by
  intro m g _
  hlo_run
  · simp
  · exact sem_eq_zero_of_no_sems (sig := Cert.AttnFwdRefIdeal.sig) (by decide) _
theorem q6 : Cert.preserves_AttnFwd_AttnFwdIdeal := IdealRules.named_const.statement Cert.AttnFwdIdeal.κ "mask" .f32 0xF149F2CA#32 ⊥ rfl

set_option maxHeartbeats 1000000 in
/-- The two programs leave the same rows and the same logarithms. -/
theorem algebraic : Cert.algebraic_AttnFwdIdeal_AttnFwdRefIdeal_pre_attn_fwd_finite := by
  pair_intro
  · run_from Cert.AttnFwdIdeal.Value.run_blocks m g
  · refine (θ_run _ _ _).mono (fun r h c => ?_) (Cert.AttnFwdRefIdeal.Value.run m' g')
    obtain ⟨a0, a1⟩ := hagree c
    obtain ⟨e0, e1⟩ := hpre c
    refine ⟨(h c).1.trans ((Cert.AttnFwdRefIdeal.Read.val_main_v166_eq _).trans ?_), (h c).2.1.trans ((Cert.AttnFwdRefIdeal.Read.val_main_v167_eq _).trans ?_), (h c).2.2.1, (h c).2.2.2⟩
    · refine (congrArg₂ _ a0 a1).trans ?_
      exact (Cert.AttnFwdIdeal.Hand.fin8 m c (finite_arg _ e0) (finite_arg _ e1)).symm
    · refine (congrArg₂ _ a0 a1).trans ?_
      exact (Cert.AttnFwdIdeal.Hand.fin9 m c (finite_arg _ e0) (finite_arg _ e1)).symm

end Cert.Proof.AttnFwd
-- ==== Proof.DwValue.lean ====
/- The array that the gradient of a square projection's matrix is left in. -/
module

public import proofs.«01_k».proof.Proof.Pad
public import proofs.«01_k».proof.Proof.Gen.DwProjIdeal.Frame
public import proofs.«01_k».proof.Proof.Gen.DwProjRefIdeal.Read
public import Idealize.ShloMosaic.Lib.Pipeline.ValueKit
public import Idealize.ShloMosaic.Lib.Claim
public import Idealize.ShloMosaic.Lib.WritesUnit

@[expose] public section

set_option maxRecDepth 16384

noncomputable section

namespace Cert.DwProjIdeal.Val
open Idealize.ShloMosaic Idealize.ShloMosaic.TcCoe Idealize.SL.Sem Cert.Rows Cert.Pad
open Cert.DwProjIdeal Cert.DwProjIdeal.Gen
open Idealize.ShloMosaic.Pipeline (Dat)

/-- The arguments: a sequence's rows. -/
abbrev Seq := (⟨Cert.DwProjRefIdeal.S1x4112x1024, .f32⟩ : BufTy).Contents (Elt Ideal)

/-! What one block computes. -/

theorem pay1 (k n : Fin 1024) : k0_pay1 (F := Ideal) (ix2 k n) = 0 := by
  pointwise [k0_pay1]
theorem pay2 (s : Vec Ideal S1024x1024 .f32) (a b : Vec Ideal S2112x1024 .bf16) (k n : Fin 1024) :
    k0_pay2 (F := Ideal) s a b (ix2 k n) = s (ix2 k n) + ∑ r, a (ix2 r k) * b (ix2 r n) := by
  pointwise [k0_pay2]
theorem pay3 (s : Vec Ideal S1024x1024 .f32) (k n : Fin 1024) : k0_pay3 (F := Ideal) s (ix2 k n) = s (ix2 k n) := by
  pointwise [k0_pay3]

/-- The reference: row by row, the rows' entries times the cotangent's. -/
theorem v6 (x y : Seq) (k n : Fin 1024) :
    Cert.DwProjRefIdeal.Read.val_main_v6 (F := Ideal) x y (ix2 k n) = ∑ i : Fin 4112, y (ix3 0 i n) * x (ix3 0 i k) := by
  pointwise [Cert.DwProjRefIdeal.Read.val_main_v6, Cert.DwProjRefIdeal.Read.val_main_v5, Cert.DwProjRefIdeal.Read.val_main_v4,
    Cert.DwProjRefIdeal.Read.val_main_v3, Cert.DwProjRefIdeal.Read.val_main_v1]

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] :=
  (by decide +kernel : ∀ t : Fin grid0.N, _)

/-- The kernel's arguments. -/
abbrev x : Seq := m ((c.tc : Thread nD τ).loc main_arg0)
abbrev y : Seq := m ((c.tc : Thread nD τ).loc main_arg1)

theorem e2 (R : Fin 4224) (k : Fin 1024) :
    (V m c main_v2 : FVec Ideal S4224x1024 .bf16) (ix2 R k) = padRow (fun i => x m c (ix3 0 i k)) R := by
  unfold V
  simp only [List.flatten_cons, List.flatten_nil, List.cons_append, List.nil_append, List.append_nil, hostOps0, hostOps0_1, hostOps0_2, hostOps0_3, hostOps0_4]
  after_results
  simp only [StableHlo.TRef.toBuf, StableHlo.TRef.ofBuf, cast_eq]
  pointwise
  exact pad_if (fun i => x m c (ix3 0 i k)) R
theorem e5 (R : Fin 4224) (k : Fin 1024) :
    (V m c main_v5 : FVec Ideal S4224x1024 .bf16) (ix2 R k) = padRow (fun i => y m c (ix3 0 i k)) R := by
  unfold V
  simp only [List.flatten_cons, List.flatten_nil, List.cons_append, List.nil_append, List.append_nil, hostOps0, hostOps0_1, hostOps0_2, hostOps0_3, hostOps0_4]
  after_results
  simp only [StableHlo.TRef.toBuf, StableHlo.TRef.ofBuf, cast_eq]
  pointwise
  exact pad_if (fun i => y m c (ix3 0 i k)) R

/-- The row of the padded arrays that block `t` holds at its row `r`. -/
abbrev R (t : Fin cfg0.N) (r : Fin 2112) : Fin 4224 := ⟨2112 * t.val + r.val, by have := lt_of_lt_of_eq t.isLt N_0; omega⟩

theorem b0 (t : Fin cfg0.N) (r : Fin 2112) (k : Fin 1024) :
    (iblk m c 0 t : FVec Ideal S2112x1024 .bf16) (ix2 r k) = padRow (fun i => x m c (ix3 0 i k)) (R t r) :=
  (show (iblk m c 0 t : FVec Ideal S2112x1024 .bf16) (ix2 r k) = (V m c main_v2 : FVec Ideal S4224x1024 .bf16) (ix2 (R t r) k) by
    blk_ext [iblk, idx t]).trans (e2 m c _ _)
theorem b1 (t : Fin cfg0.N) (r : Fin 2112) (k : Fin 1024) :
    (iblk m c 1 t : FVec Ideal S2112x1024 .bf16) (ix2 r k) = padRow (fun i => y m c (ix3 0 i k)) (R t r) :=
  (show (iblk m c 1 t : FVec Ideal S2112x1024 .bf16) (ix2 r k) = (V m c main_v5 : FVec Ideal S4224x1024 .bf16) (ix2 (R t r) k) by
    blk_ext [iblk, idx t]).trans (e5 m c _ _)

/-- A block's part of the product. -/
theorem term (t : Fin cfg0.N) (r : Fin 2112) (k n : Fin 1024) :
    (show EReal from (iblk m c 0 t : FVec Ideal S2112x1024 .bf16) (ix2 r k)) * (show EReal from (iblk m c 1 t : FVec Ideal S2112x1024 .bf16) (ix2 r n))
      = padRow (fun i => y m c (ix3 0 i n) * x m c (ix3 0 i k)) (R t r) := by
  refine (congrArg₂ (fun u v : EReal => u * v) (b0 m c t r k) (b1 m c t r n)).trans ?_
  by_cases hR : 112 ≤ (R t r).val
  · simp only [padRow_ge _ _ hR]
    exact mul_comm _ _
  · simp only [padRow_lt _ _ hR]
    exact zero_mul _

/-- What the scratch holds after a grid point. -/
theorem left0 (k n : Fin 1024) : (outsAt0 m c t0_0.val t0_0.isLt).2 (ix2 k n)
    = 0 + ∑ r, padRow (fun i => y m c (ix3 0 i n) * x m c (ix3 0 i k)) (R t0_0 r) := by
  rw [outsAt0_A m c t0_0 (by decide) (by decide)]
  frame_out
  refine (pay2 _ _ _ k n).trans ?_
  exact congrArg₂ (· + ·) (pay1 k n) (Finset.sum_congr rfl fun r _ => term m c t0_0 r k n)

theorem before (k n : Fin 1024) (t : ℕ) (ht : t < cfg0.N) (h : t = 0) :
    (outsAt0 m c t ht).2 (ix2 k n) = (outsAt0 m c t0_0.val t0_0.isLt).2 (ix2 k n) := by
  subst h; rfl

theorem left1 (k n : Fin 1024) : (outsAt0 m c t0_1.val t0_1.isLt).1 (ix2 k n)
    = (outsAt0 m c t0_0.val t0_0.isLt).2 (ix2 k n) + ∑ r, padRow (fun i => y m c (ix3 0 i n) * x m c (ix3 0 i k)) (R t0_1 r) := by
  rw [outsAt0_B m c t0_1 (by decide) (by decide)]
  frame_out
  refine (pay3 _ k n).trans ?_
  refine (pay2 _ _ _ k n).trans ?_
  exact congrArg₂ (· + ·) ((congrFun (Memref.IsWhole.read_unread _ _) _).trans (before m c k n _ _ (by decide))) (Finset.sum_congr rfl fun r _ => term m c t0_1 r k n)

/-- A sum over the padded rows, in its two halves. -/
theorem halves (f : Fin 4112 → EReal) : (0 + ∑ r, padRow f (R t0_0 r)) + ∑ r, padRow f (R t0_1 r) = ∑ i, f i := by
  rw [zero_add, ← sum_pad]
  refine Eq.trans ?_ (Fin.sum_univ_add (a := 2112) (b := 2112) (padRow f)).symm
  exact congrArg₂ (· + ·)
    (Finset.sum_congr rfl fun r _ => congrArg (padRow f) (Fin.ext (by simp [t0_0])))
    (Finset.sum_congr rfl fun r _ => congrArg (padRow f) (Fin.ext (by simp [t0_1, Nat.add_comm])))

theorem fin2 : (dats m 0 c).arrAt 2 cfg0.N = Cert.DwProjRefIdeal.Read.val_main_v6 (F := Ideal) (x m c) (y m c) := by
  refine (dats m 0 c).arrAt_eq_of_after_last 2 t0_1 (by decide +kernel) _ fun j => ?_
  blk_simp
  rw [after0_2]
  obtain ⟨k, n, rfl⟩ : ∃ (k n : Fin 1024), j = ix2 k n := ⟨j 0, j 1, eq_ix2 j⟩
  refine (left1 m c k n).trans ?_
  rw [left0, halves]
  refine (v6 _ _ k n).symm.trans (congrArg _ (show ix2 k n = _ by blk_ext [idx t0_1]))

end Cert.DwProjIdeal.Val
-- ==== Proof.DwClaim.lean ====
/- The claims about the gradient of a square projection's matrix. -/
module

public import proofs.«01_k».proof.Defs
public import proofs.«01_k».proof.Proof.DwValue
public import proofs.«01_k».proof.Proof.Gen.DwProj.Frame
public import proofs.«01_k».proof.Proof.Gen.DwProjIdeal.Value
public import proofs.«01_k».proof.Proof.Gen.DwProjRefIdeal.Run
public import proofs.«01_k».proof.Proof.Gen.DwProjRefIdeal.Read

@[expose] public section

noncomputable section

namespace Cert.Proof.DwProj
open Idealize.ShloMosaic Idealize.SL.Sem

theorem q1 : Cert.quiescent_DwProj := fun m ρ _ => Cert.DwProj.Gen.frame m ρ
theorem q2 : Cert.quiescent_DwProjIdeal := fun m ρ _ => Cert.DwProjIdeal.Gen.frame m ρ
theorem q3 : Cert.quiescent_DwProjRefIdeal := by
  intro m g _
  hlo_run
  · simp
  · exact sem_eq_zero_of_no_sems (sig := Cert.DwProjRefIdeal.sig) (by decide) _
theorem q4 : Cert.preserves_DwProj_DwProjIdeal := trivial

/-- The two programs leave the same array. -/
theorem algebraic : Cert.algebraic_DwProjIdeal_DwProjRefIdeal := by
  pair_intro
  · run_from Cert.DwProjIdeal.Value.run_blocks m g
  · refine (θ_run _ _ _).mono (fun r h c => ?_) (Cert.DwProjRefIdeal.Value.run m' g')
    obtain ⟨a0, a1⟩ := hagree c
    refine ⟨(h c).1.trans ((Cert.DwProjRefIdeal.Read.val_main_v6_eq _ _).trans ?_), (h c).2⟩
    rw [a0, a1]
    exact (Cert.DwProjIdeal.Val.fin2 m c).symm

end Cert.Proof.DwProj
-- ==== Proof.DwDownValue.lean ====
/- The array that the gradient of the down projection is left in. -/
module

public import proofs.«01_k».proof.Proof.Pad
public import proofs.«01_k».proof.Proof.Gen.DwDownIdeal.Frame
public import proofs.«01_k».proof.Proof.Gen.DwDownRefIdeal.Read
public import Idealize.ShloMosaic.Lib.Pipeline.ValueKit
public import Idealize.ShloMosaic.Lib.Claim
public import Idealize.ShloMosaic.Lib.WritesUnit

@[expose] public section

set_option maxRecDepth 16384

noncomputable section

namespace Cert.DwDownIdeal.Val
open Idealize.ShloMosaic Idealize.ShloMosaic.TcCoe Idealize.SL.Sem Cert.Rows Cert.Pad
open Cert.DwDownIdeal Cert.DwDownIdeal.Gen
open Idealize.ShloMosaic.Pipeline (Dat)

/-- The arguments: a sequence's rows, and the cotangent's. -/
abbrev Seq := (⟨Cert.DwDownRefIdeal.S1x4112x2816, .f32⟩ : BufTy).Contents (Elt Ideal)
abbrev Cot := (⟨Cert.DwDownRefIdeal.S1x4112x1024, .f32⟩ : BufTy).Contents (Elt Ideal)

/-! What one block computes. -/

theorem pay1 (k : Fin 2816) (n : Fin 512) : k0_pay1 (F := Ideal) (ix2 k n) = 0 := by
  pointwise [k0_pay1]
theorem pay2 (s : Vec Ideal S2816x512 .f32) (a : Vec Ideal S1056x2816 .bf16) (b : Vec Ideal S1056x512 .bf16) (k : Fin 2816) (n : Fin 512) :
    k0_pay2 (F := Ideal) s a b (ix2 k n) = s (ix2 k n) + ∑ r, a (ix2 r k) * b (ix2 r n) := by
  pointwise [k0_pay2]
theorem pay3 (s : Vec Ideal S2816x512 .f32) (k : Fin 2816) (n : Fin 512) : k0_pay3 (F := Ideal) s (ix2 k n) = s (ix2 k n) := by
  pointwise [k0_pay3]

/-- The reference: row by row, the cotangent's entries times the rows'. -/
theorem ref (x : Seq) (y : Cot) (k : Fin 2816) (n : Fin 1024) :
    Cert.DwDownRefIdeal.Read.val_main_v6 (F := Ideal) x y (ix2 k n) = ∑ i : Fin 4112, y (ix3 0 i n) * x (ix3 0 i k) := by
  pointwise [Cert.DwDownRefIdeal.Read.val_main_v6, Cert.DwDownRefIdeal.Read.val_main_v5, Cert.DwDownRefIdeal.Read.val_main_v4,
    Cert.DwDownRefIdeal.Read.val_main_v3, Cert.DwDownRefIdeal.Read.val_main_v1]

variable (m : (ℓ : Loc nD τ sig) → Buf (Elt Ideal) ℓ) (c : Dev nD)

theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- The kernel's arguments. -/
abbrev x : Seq := m ((c.tc : Thread nD τ).loc main_arg0)
abbrev y : Cot := m ((c.tc : Thread nD τ).loc main_arg1)

theorem e2 (R : Fin 4224) (k : Fin 2816) :
    (V m c main_v2 : FVec Ideal S4224x2816 .bf16) (ix2 R k) = padRow (fun i => x m c (ix3 0 i k)) R := by
  unfold V
  simp only [List.flatten_cons, List.flatten_nil, List.cons_append, List.nil_append, List.append_nil, hostOps0, hostOps0_1, hostOps0_2, hostOps0_3, hostOps0_4]
  after_results
  simp only [StableHlo.TRef.toBuf, StableHlo.TRef.ofBuf, cast_eq]
  pointwise
  exact pad_if (fun i => x m c (ix3 0 i k)) R
theorem e5 (R : Fin 4224) (k : Fin 1024) :
    (V m c main_v5 : FVec Ideal S4224x1024 .bf16) (ix2 R k) = padRow (fun i => y m c (ix3 0 i k)) R := by
  unfold V
  simp only [List.flatten_cons, List.flatten_nil, List.cons_append, List.nil_append, List.append_nil, hostOps0, hostOps0_1, hostOps0_2, hostOps0_3, hostOps0_4]
  after_results
  simp only [StableHlo.TRef.toBuf, StableHlo.TRef.ofBuf, cast_eq]
  pointwise
  exact pad_if (fun i => y m c (ix3 0 i k)) R

/-- The row of the padded arrays that grid point `t` reads at its row `r`, and the column at its column `n`. -/
abbrev R (t : Fin cfg0.N) (r : Fin 1056) : Fin 4224 := ⟨1056 * (t.val % 4) + r.val, by omega⟩
abbrev C (t : Fin cfg0.N) (n : Fin 512) : Fin 1024 := ⟨512 * (t.val / 4) + n.val, by have := lt_of_lt_of_eq t.isLt N_0; omega⟩

theorem b0 (t : Fin cfg0.N) (r : Fin 1056) (k : Fin 2816) :
    (iblk m c 0 t : FVec Ideal S1056x2816 .bf16) (ix2 r k) = padRow (fun i => x m c (ix3 0 i k)) (R t r) :=
  (show (iblk m c 0 t : FVec Ideal S1056x2816 .bf16) (ix2 r k) = (V m c main_v2 : FVec Ideal S4224x2816 .bf16) (ix2 (R t r) k) by
    blk_ext [iblk, idx t]).trans (e2 m c _ _)
theorem b1 (t : Fin cfg0.N) (r : Fin 1056) (n : Fin 512) :
    (iblk m c 1 t : FVec Ideal S1056x512 .bf16) (ix2 r n) = padRow (fun i => y m c (ix3 0 i (C t n))) (R t r) :=
  (show (iblk m c 1 t : FVec Ideal S1056x512 .bf16) (ix2 r n) = (V m c main_v5 : FVec Ideal S4224x1024 .bf16) (ix2 (R t r) (C t n)) by
    blk_ext [iblk, idx t]).trans (e5 m c _ _)

/-- The summand of the gradient, by rows. -/
abbrev gr (k : Fin 2816) (K : Fin 1024) (i : Fin 4112) : EReal := y m c (ix3 0 i K) * x m c (ix3 0 i k)

/-- A grid point's part of the product. -/
theorem term (t : Fin cfg0.N) (r : Fin 1056) (k : Fin 2816) (n : Fin 512) :
    (show EReal from (iblk m c 0 t : FVec Ideal S1056x2816 .bf16) (ix2 r k)) * (show EReal from (iblk m c 1 t : FVec Ideal S1056x512 .bf16) (ix2 r n))
      = padRow (gr m c k (C t n)) (R t r) := by
  refine (congrArg₂ (fun u v : EReal => u * v) (b0 m c t r k) (b1 m c t r n)).trans ?_
  by_cases hR : 112 ≤ (R t r).val
  · simp only [padRow_ge _ _ hR]
    exact mul_comm _ _
  · simp only [padRow_lt _ _ hR]
    exact zero_mul _

/-- What the scratch holds after a grid point. -/
theorem leftA (t : Fin cfg0.N) (h : t.val % 4 = 0) (k : Fin 2816) (n : Fin 512) : (outsAt0 m c t.val t.isLt).2 (ix2 k n)
    = 0 + ∑ r, padRow (gr m c k (C t n)) (R t r) := by
  rw [outsAt0_A m c t h (by omega)]
  frame_out
  refine (pay2 _ _ _ k n).trans ?_
  exact congrArg₂ (· + ·) (pay1 k n) (Finset.sum_congr rfl fun r _ => term m c t r k n)

theorem leftB (t : Fin cfg0.N) (h : ¬t.val % 4 = 0) (k : Fin 2816) (n : Fin 512) : (outsAt0 m c t.val t.isLt).2 (ix2 k n)
    = (outsAt0 m c (t.val - 1) (lt_of_le_of_lt (Nat.sub_le _ _) t.isLt)).2 (ix2 k n) + ∑ r, padRow (gr m c k (C t n)) (R t r) := by
  by_cases h1 : t.val % 4 = 3
  · rw [outsAt0_C m c t h h1]
    frame_out
    refine (pay2 _ _ _ k n).trans ?_
    exact congrArg₂ (· + ·) (congrFun (Memref.IsWhole.read_unread _ _) _) (Finset.sum_congr rfl fun r _ => term m c t r k n)
  · rw [outsAt0_B m c t h h1]
    frame_out
    refine (pay2 _ _ _ k n).trans ?_
    exact congrArg₂ (· + ·) (congrFun (Memref.IsWhole.read_unread _ _) _) (Finset.sum_congr rfl fun r _ => term m c t r k n)

/-- The last grid point of a run writes the scratch back. -/
theorem out (t : Fin cfg0.N) (h : t.val % 4 = 3) (k : Fin 2816) (n : Fin 512) :
    (outsAt0 m c t.val t.isLt).1 (ix2 k n) = (outsAt0 m c t.val t.isLt).2 (ix2 k n) := by
  rw [outsAt0_C m c t (by omega) h]
  frame_out
  exact pay3 _ k n

/-- A sum over the padded rows, tile by tile. -/
theorem tiles (f : Fin 4112 → EReal) (t : Fin cfg0.N) (h : ∀ s : Fin 4, 4 * (t.val / 4) + s.val < cfg0.N) :
    ∑ s : Fin 4, ∑ r, padRow f (R ⟨4 * (t.val / 4) + s.val, h s⟩ r) = ∑ i, f i := by
  rw [← sum_pad]
  refine Fin.sum_mul_add_congr fun s r hl => congrArg (padRow f) (Fin.ext ?_)
  show 1056 * ((4 * (t.val / 4) + s.val) % 4) + r.val = s.val * 1056 + r.val
  omega

theorem total (t : Fin cfg0.N) (h : t.val % 4 = 3) (k : Fin 2816) (n : Fin 512) :
    (outsAt0 m c t.val t.isLt).2 (ix2 k n) = ∑ i, gr m c k (C t n) i := by
  rw [Pipeline.eq_sum_fin_of_reset_step_apply_of_flush (fun n h => (outsAt0 m c n h).2) 4 (fun _ => (0 : EReal))
    (fun t j => ∑ r, padRow (gr m c (j 0) (C t (j 1))) (R t r))
    (fun t h j => by
      obtain ⟨k, n, rfl⟩ : ∃ (k : Fin 2816) (n : Fin 512), j = ix2 k n := ⟨j 0, j 1, eq_ix2 j⟩
      exact leftA m c t h k n)
    (fun t h j => by
      obtain ⟨k, n, rfl⟩ : ∃ (k : Fin 2816) (n : Fin 512), j = ix2 k n := ⟨j 0, j 1, eq_ix2 j⟩
      exact leftB m c t h k n)
    t h (ix2 k n), zero_add]
  refine Eq.trans (Finset.sum_congr rfl fun s _ => ?_) (tiles (gr m c k (C t n)) t fun s => by have := lt_of_lt_of_eq t.isLt N_0; exact lt_of_lt_of_eq (by omega) N_0.symm)
  refine Finset.sum_congr rfl fun r _ => congrArg (fun K => padRow (gr m c k K) _) (Fin.ext ?_)
  show 512 * ((4 * (t.val / 4) + s.val) / 4) + n.val = 512 * (t.val / 4) + n.val
  omega

theorem fin2 : (dats m 0 c).arrAt 2 cfg0.N = Cert.DwDownRefIdeal.Read.val_main_v6 (F := Ideal) (x m c) (y m c) := by
  refine (dats m 0 c).arrAt_eq_of_covers 2 _ (by decide +kernel) fun t hf' j => ?_
  have hl := (flush0_2 t).mp hf'
  have ht := lt_of_lt_of_eq t.isLt N_0
  blk_simp
  rw [after0_2]
  obtain ⟨k, n, rfl⟩ : ∃ (k : Fin 2816) (n : Fin 512), j = ix2 k n := ⟨j 0, j 1, eq_ix2 j⟩
  refine ((out m c t hl k n).trans (total m c t hl k n)).trans ?_
  exact (ref _ _ k (C t n)).symm.trans (congrArg _ (show ix2 k (C t n) = _ by blk_ext [idx t]))

end Cert.DwDownIdeal.Val
-- ==== Proof.DwDownClaim.lean ====
/- The claims about the gradient of the down projection. -/
module

public import proofs.«01_k».proof.Defs
public import proofs.«01_k».proof.Proof.DwDownValue
public import proofs.«01_k».proof.Proof.Gen.DwDown.Frame
public import proofs.«01_k».proof.Proof.Gen.DwDownIdeal.Value
public import proofs.«01_k».proof.Proof.Gen.DwDownRefIdeal.Run
public import proofs.«01_k».proof.Proof.Gen.DwDownRefIdeal.Read

@[expose] public section

noncomputable section

namespace Cert.Proof.DwDown
open Idealize.ShloMosaic Idealize.SL.Sem

theorem q1 : Cert.quiescent_DwDown := fun m ρ _ => Cert.DwDown.Gen.frame m ρ
theorem q2 : Cert.quiescent_DwDownIdeal := fun m ρ _ => Cert.DwDownIdeal.Gen.frame m ρ
theorem q3 : Cert.quiescent_DwDownRefIdeal := by
  intro m g _
  hlo_run
  · simp
  · exact sem_eq_zero_of_no_sems (sig := Cert.DwDownRefIdeal.sig) (by decide) _
theorem q4 : Cert.preserves_DwDown_DwDownIdeal := trivial

/-- The two programs leave the same array. -/
theorem algebraic : Cert.algebraic_DwDownIdeal_DwDownRefIdeal := by
  pair_intro
  · run_from Cert.DwDownIdeal.Value.run_blocks m g
  · refine (θ_run _ _ _).mono (fun r h c => ?_) (Cert.DwDownRefIdeal.Value.run m' g')
    obtain ⟨a0, a1⟩ := hagree c
    refine ⟨(h c).1.trans ((Cert.DwDownRefIdeal.Read.val_main_v6_eq _ _).trans ?_), (h c).2⟩
    rw [a0, a1]
    exact (Cert.DwDownIdeal.Val.fin2 m c).symm

end Cert.Proof.DwDown
-- ==== Proof.DwUpValue.lean ====
/- The array that the gradient of the up projection is left in. -/
module

public import proofs.«01_k».proof.Proof.Pad
public import proofs.«01_k».proof.Proof.Gen.DwUpIdeal.Frame
public import proofs.«01_k».proof.Proof.Gen.DwUpRefIdeal.Read
public import Idealize.ShloMosaic.Lib.Pipeline.ValueKit
public import Idealize.ShloMosaic.Lib.Claim
public import Idealize.ShloMosaic.Lib.WritesUnit

@[expose] public section

set_option maxRecDepth 16384

noncomputable section

namespace Cert.DwUpIdeal.Val
open Idealize.ShloMosaic Idealize.ShloMosaic.TcCoe Idealize.SL.Sem Cert.Rows Cert.Pad
open Cert.DwUpIdeal Cert.DwUpIdeal.Gen
open Idealize.ShloMosaic.Pipeline (Dat)

/-- The arguments: a sequence's rows, and the cotangent's. -/
abbrev Seq := (⟨Cert.DwUpRefIdeal.S1x4112x1024, .f32⟩ : BufTy).Contents (Elt Ideal)
abbrev Cot := (⟨Cert.DwUpRefIdeal.S1x4112x5632, .f32⟩ : BufTy).Contents (Elt Ideal)

/-! What one block computes. -/

theorem pay1 (k : Fin 1024) (n : Fin 1408) : k0_pay1 (F := Ideal) (ix2 k n) = 0 := by
  pointwise [k0_pay1]
theorem pay2 (s : Vec Ideal S1024x1408 .f32) (a : Vec Ideal S2112x1024 .bf16) (b : Vec Ideal S2112x1408 .bf16) (k : Fin 1024) (n : Fin 1408) :
    k0_pay2 (F := Ideal) s a b (ix2 k n) = s (ix2 k n) + ∑ r, a (ix2 r k) * b (ix2 r n) := by
  pointwise [k0_pay2]
theorem pay3 (s : Vec Ideal S1024x1408 .f32) (k : Fin 1024) (n : Fin 1408) : k0_pay3 (F := Ideal) s (ix3 0 k n) = s (ix2 k n) := by
  pointwise [k0_pay3]

/-- The reference: row by row, the cotangent's entries times the rows'. -/
theorem ref (x : Seq) (y : Cot) (q : Fin 4) (k : Fin 1024) (n : Fin 1408) :
    Cert.DwUpRefIdeal.Read.val_main_v8 (F := Ideal) x y (ix3 q k n) = ∑ i : Fin 4112, y (ix3 0 i ⟨1408 * q.val + n.val, by omega⟩) * x (ix3 0 i k) := by
  pointwise [Cert.DwUpRefIdeal.Read.val_main_v8, Cert.DwUpRefIdeal.Read.val_main_v7, Cert.DwUpRefIdeal.Read.val_main_v6, Cert.DwUpRefIdeal.Read.val_main_v5, Cert.DwUpRefIdeal.Read.val_main_v4,
    Cert.DwUpRefIdeal.Read.val_main_v3, Cert.DwUpRefIdeal.Read.val_main_v1]
  exact Finset.sum_congr rfl fun i _ => congrArg (fun K => y (ix3 0 i K) * x (ix3 0 i k)) (Fin.ext (by show q.val * 1408 + n.val = 1408 * q.val + n.val; omega))

variable (m : (ℓ : Loc nD τ sig) → Buf (Elt Ideal) ℓ) (c : Dev nD)

theorem idx : ∀ t : Fin cfg0.N, win0_0.index t = ![t.val % 2, 0] ∧ win0_1.index t = ![t.val % 2, t.val / 2] ∧ win0_2.index t = ![t.val / 2, 0, 0] :=
  (by decide +kernel : ∀ t : Fin grid0.N, _)

/-- The kernel's arguments. -/
abbrev x : Seq := m ((c.tc : Thread nD τ).loc main_arg0)
abbrev y : Cot := m ((c.tc : Thread nD τ).loc main_arg1)

theorem e2 (R : Fin 4224) (k : Fin 1024) :
    (V m c main_v2 : FVec Ideal S4224x1024 .bf16) (ix2 R k) = padRow (fun i => x m c (ix3 0 i k)) R := by
  unfold V
  simp only [List.flatten_cons, List.flatten_nil, List.cons_append, List.nil_append, List.append_nil, hostOps0, hostOps0_1, hostOps0_2, hostOps0_3, hostOps0_4]
  after_results
  simp only [StableHlo.TRef.toBuf, StableHlo.TRef.ofBuf, cast_eq]
  pointwise
  exact pad_if (fun i => x m c (ix3 0 i k)) R
theorem e5 (R : Fin 4224) (k : Fin 5632) :
    (V m c main_v5 : FVec Ideal S4224x5632 .bf16) (ix2 R k) = padRow (fun i => y m c (ix3 0 i k)) R := by
  unfold V
  simp only [List.flatten_cons, List.flatten_nil, List.cons_append, List.nil_append, List.append_nil, hostOps0, hostOps0_1, hostOps0_2, hostOps0_3, hostOps0_4]
  after_results
  simp only [StableHlo.TRef.toBuf, StableHlo.TRef.ofBuf, cast_eq]
  pointwise
  exact pad_if (fun i => y m c (ix3 0 i k)) R

/-- The row of the padded arrays that grid point `t` reads at its row `r`, and the column at its column `n`. -/
abbrev R (t : Fin cfg0.N) (r : Fin 2112) : Fin 4224 := ⟨2112 * (t.val % 2) + r.val, by omega⟩
abbrev C (t : Fin cfg0.N) (n : Fin 1408) : Fin 5632 := ⟨1408 * (t.val / 2) + n.val, by have := lt_of_lt_of_eq t.isLt N_0; omega⟩

theorem b0 (t : Fin cfg0.N) (r : Fin 2112) (k : Fin 1024) :
    (iblk m c 0 t : FVec Ideal S2112x1024 .bf16) (ix2 r k) = padRow (fun i => x m c (ix3 0 i k)) (R t r) :=
  (show (iblk m c 0 t : FVec Ideal S2112x1024 .bf16) (ix2 r k) = (V m c main_v2 : FVec Ideal S4224x1024 .bf16) (ix2 (R t r) k) by
    blk_ext [iblk, idx t]).trans (e2 m c _ _)
theorem b1 (t : Fin cfg0.N) (r : Fin 2112) (n : Fin 1408) :
    (iblk m c 1 t : FVec Ideal S2112x1408 .bf16) (ix2 r n) = padRow (fun i => y m c (ix3 0 i (C t n))) (R t r) :=
  (show (iblk m c 1 t : FVec Ideal S2112x1408 .bf16) (ix2 r n) = (V m c main_v5 : FVec Ideal S4224x5632 .bf16) (ix2 (R t r) (C t n)) by
    blk_ext [iblk, idx t]).trans (e5 m c _ _)

/-- The summand of the gradient, by rows. -/
abbrev gr (k : Fin 1024) (K : Fin 5632) (i : Fin 4112) : EReal := y m c (ix3 0 i K) * x m c (ix3 0 i k)

/-- A grid point's part of the product. -/
theorem term (t : Fin cfg0.N) (r : Fin 2112) (k : Fin 1024) (n : Fin 1408) :
    (show EReal from (iblk m c 0 t : FVec Ideal S2112x1024 .bf16) (ix2 r k)) * (show EReal from (iblk m c 1 t : FVec Ideal S2112x1408 .bf16) (ix2 r n))
      = padRow (gr m c k (C t n)) (R t r) := by
  refine (congrArg₂ (fun u v : EReal => u * v) (b0 m c t r k) (b1 m c t r n)).trans ?_
  by_cases hR : 112 ≤ (R t r).val
  · simp only [padRow_ge _ _ hR]
    exact mul_comm _ _
  · simp only [padRow_lt _ _ hR]
    exact zero_mul _

/-- What the scratch holds after a grid point. -/
theorem leftA (t : Fin cfg0.N) (h : t.val % 2 = 0) (k : Fin 1024) (n : Fin 1408) : (outsAt0 m c t.val t.isLt).2 (ix2 k n)
    = 0 + ∑ r, padRow (gr m c k (C t n)) (R t r) := by
  rw [outsAt0_A m c t h (by omega)]
  frame_out
  refine (pay2 _ _ _ k n).trans ?_
  exact congrArg₂ (· + ·) (pay1 k n) (Finset.sum_congr rfl fun r _ => term m c t r k n)

theorem leftB (t : Fin cfg0.N) (h : ¬t.val % 2 = 0) (k : Fin 1024) (n : Fin 1408) : (outsAt0 m c t.val t.isLt).2 (ix2 k n)
    = (outsAt0 m c (t.val - 1) (lt_of_le_of_lt (Nat.sub_le _ _) t.isLt)).2 (ix2 k n) + ∑ r, padRow (gr m c k (C t n)) (R t r) := by
  rw [outsAt0_B m c t h (by omega)]
  frame_out
  refine (pay2 _ _ _ k n).trans ?_
  exact congrArg₂ (· + ·) (congrFun (Memref.IsWhole.read_unread _ _) _) (Finset.sum_congr rfl fun r _ => term m c t r k n)

/-- The last grid point of a run writes the scratch back. -/
theorem out (t : Fin cfg0.N) (h : t.val % 2 = 1) (k : Fin 1024) (n : Fin 1408) :
    (outsAt0 m c t.val t.isLt).1 (ix3 0 k n) = (outsAt0 m c t.val t.isLt).2 (ix2 k n) := by
  rw [outsAt0_B m c t (by omega) h]
  frame_out
  exact pay3 _ k n

/-- A sum over the padded rows, tile by tile. -/
theorem tiles (f : Fin 4112 → EReal) (t : Fin cfg0.N) (h : ∀ s : Fin 2, 2 * (t.val / 2) + s.val < cfg0.N) :
    ∑ s : Fin 2, ∑ r, padRow f (R ⟨2 * (t.val / 2) + s.val, h s⟩ r) = ∑ i, f i := by
  rw [← sum_pad]
  refine Fin.sum_mul_add_congr fun s r hl => congrArg (padRow f) (Fin.ext ?_)
  show 2112 * ((2 * (t.val / 2) + s.val) % 2) + r.val = s.val * 2112 + r.val
  omega

theorem total (t : Fin cfg0.N) (h : t.val % 2 = 1) (k : Fin 1024) (n : Fin 1408) :
    (outsAt0 m c t.val t.isLt).2 (ix2 k n) = ∑ i, gr m c k (C t n) i := by
  rw [Pipeline.eq_sum_fin_of_reset_step_apply_of_flush (fun n h => (outsAt0 m c n h).2) 2 (fun _ => (0 : EReal))
    (fun t j => ∑ r, padRow (gr m c (j 0) (C t (j 1))) (R t r))
    (fun t h j => by
      obtain ⟨k, n, rfl⟩ : ∃ (k : Fin 1024) (n : Fin 1408), j = ix2 k n := ⟨j 0, j 1, eq_ix2 j⟩
      exact leftA m c t h k n)
    (fun t h j => by
      obtain ⟨k, n, rfl⟩ : ∃ (k : Fin 1024) (n : Fin 1408), j = ix2 k n := ⟨j 0, j 1, eq_ix2 j⟩
      exact leftB m c t h k n)
    t h (ix2 k n), zero_add]
  refine Eq.trans (Finset.sum_congr rfl fun s _ => ?_) (tiles (gr m c k (C t n)) t fun s => by have := lt_of_lt_of_eq t.isLt N_0; exact lt_of_lt_of_eq (by omega) N_0.symm)
  refine Finset.sum_congr rfl fun r _ => congrArg (fun K => padRow (gr m c k K) _) (Fin.ext ?_)
  show 1408 * ((2 * (t.val / 2) + s.val) / 2) + n.val = 1408 * (t.val / 2) + n.val
  omega

theorem fin2 : (dats m 0 c).arrAt 2 cfg0.N = Cert.DwUpRefIdeal.Read.val_main_v8 (F := Ideal) (x m c) (y m c) := by
  refine (dats m 0 c).arrAt_eq_of_covers 2 _ (by decide +kernel) fun t hf' j => ?_
  have hl := (flush0_2 t).mp hf'
  have ht := lt_of_lt_of_eq t.isLt N_0
  blk_simp
  rw [after0_2]
  obtain ⟨u, k, n, rfl⟩ : ∃ (u : Fin 1) (k : Fin 1024) (n : Fin 1408), j = ix3 u k n := ⟨j 0, j 1, j 2, eq_ix3 j⟩
  obtain rfl : u = 0 := Subsingleton.elim _ _
  refine ((out m c t hl k n).trans (total m c t hl k n)).trans ?_
  exact (ref _ _ ⟨t.val / 2, by omega⟩ k n).symm.trans (congrArg _ (show ix3 ⟨t.val / 2, by omega⟩ k n = _ by blk_ext [idx t]))

end Cert.DwUpIdeal.Val
-- ==== Proof.DwUpClaim.lean ====
/- The claims about the gradient of the up projection. -/
module

public import proofs.«01_k».proof.Defs
public import proofs.«01_k».proof.Proof.DwUpValue
public import proofs.«01_k».proof.Proof.Gen.DwUp.Frame
public import proofs.«01_k».proof.Proof.Gen.DwUpIdeal.Value
public import proofs.«01_k».proof.Proof.Gen.DwUpRefIdeal.Run
public import proofs.«01_k».proof.Proof.Gen.DwUpRefIdeal.Read

@[expose] public section

noncomputable section

namespace Cert.Proof.DwUp
open Idealize.ShloMosaic Idealize.SL.Sem

theorem q1 : Cert.quiescent_DwUp := fun m ρ _ => Cert.DwUp.Gen.frame m ρ
theorem q2 : Cert.quiescent_DwUpIdeal := fun m ρ _ => Cert.DwUpIdeal.Gen.frame m ρ
theorem q3 : Cert.quiescent_DwUpRefIdeal := by
  intro m g _
  hlo_run
  · simp
  · exact sem_eq_zero_of_no_sems (sig := Cert.DwUpRefIdeal.sig) (by decide) _
theorem q4 : Cert.preserves_DwUp_DwUpIdeal := trivial

/-- The two programs leave the same array. -/
theorem algebraic : Cert.algebraic_DwUpIdeal_DwUpRefIdeal := by
  pair_intro
  · run_from Cert.DwUpIdeal.Value.run_blocks m g
  · refine (θ_run _ _ _).mono (fun r h c => ?_) (Cert.DwUpRefIdeal.Value.run m' g')
    obtain ⟨a0, a1⟩ := hagree c
    refine ⟨(h c).1.trans ((Cert.DwUpRefIdeal.Read.val_main_v8_eq _ _).trans ?_), (h c).2⟩
    rw [a0, a1]
    exact (Cert.DwUpIdeal.Val.fin2 m c).symm

end Cert.Proof.DwUp
-- ==== Proof.lean ====
module

public import proofs.«01_k».proof.Defs
public import proofs.«01_k».proof.Proof.Gen.FfnIn
public import proofs.«01_k».proof.Proof.Gen.FfnInIdeal
public import proofs.«01_k».proof.Proof.Gen.FfnInIdeal.Value
public import proofs.«01_k».proof.Proof.Gen.FfnInRefIdeal
public import proofs.«01_k».proof.Proof.Gen.FfnInRefIdeal.Run
public import proofs.«01_k».proof.Proof.Gen.FfnInRefIdeal.Read
public import proofs.«01_k».proof.Proof.Gen.Pre_ffn_in_finite
public import proofs.«01_k».proof.Proof.Gen.InBwd
public import proofs.«01_k».proof.Proof.Gen.InBwd.Frame
public import proofs.«01_k».proof.Proof.Gen.InBwdIdeal
public import proofs.«01_k».proof.Proof.Gen.InBwdIdeal.Value
public import proofs.«01_k».proof.Proof.Gen.InBwdRefIdeal
public import proofs.«01_k».proof.Proof.Gen.InBwdRefIdeal.Run
public import proofs.«01_k».proof.Proof.Gen.InBwdRefIdeal.Read
public import proofs.«01_k».proof.Proof.Gen.Pre_in_finite
public import proofs.«01_k».proof.Proof.Gen.FfnDown
public import proofs.«01_k».proof.Proof.Gen.FfnDown.Frame
public import proofs.«01_k».proof.Proof.Gen.FfnDownIdeal
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.FfnDownRefIdeal.Read
public import proofs.«01_k».proof.Proof.Gen.Pre_down_finite
public import proofs.«01_k».proof.Proof.Gen.AttnBwd
public import proofs.«01_k».proof.Proof.Gen.AttnBwdIdeal
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Pre_attn_finite
public import proofs.«01_k».proof.Proof.Gen.AttnFwd
public import proofs.«01_k».proof.Proof.Gen.AttnFwd.Frame
public import proofs.«01_k».proof.Proof.Gen.AttnFwdIdeal
public import proofs.«01_k».proof.Proof.Gen.AttnFwdIdeal.Value
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.Gen.Pre_attn_fwd_finite
public import proofs.«01_k».proof.Proof.Gen.DwProj
public import proofs.«01_k».proof.Proof.Gen.DwProj.Frame
public import proofs.«01_k».proof.Proof.Gen.DwProjIdeal
public import proofs.«01_k».proof.Proof.Gen.DwProjIdeal.Value
public import proofs.«01_k».proof.Proof.Gen.DwProjRefIdeal
public import proofs.«01_k».proof.Proof.Gen.DwProjRefIdeal.Run
public import proofs.«01_k».proof.Proof.Gen.DwProjRefIdeal.Read
public import proofs.«01_k».proof.Proof.Gen.DwDown
public import proofs.«01_k».proof.Proof.Gen.DwDown.Frame
public import proofs.«01_k».proof.Proof.Gen.DwDownIdeal
public import proofs.«01_k».proof.Proof.Gen.DwDownIdeal.Value
public import proofs.«01_k».proof.Proof.Gen.DwDownRefIdeal
public import proofs.«01_k».proof.Proof.Gen.DwDownRefIdeal.Run
public import proofs.«01_k».proof.Proof.Gen.DwDownRefIdeal.Read
public import proofs.«01_k».proof.Proof.Gen.DwUp
public import proofs.«01_k».proof.Proof.Gen.DwUp.Frame
public import proofs.«01_k».proof.Proof.Gen.DwUpIdeal
public import proofs.«01_k».proof.Proof.Gen.DwUpIdeal.Value
public import proofs.«01_k».proof.Proof.Gen.DwUpRefIdeal
public import proofs.«01_k».proof.Proof.Gen.DwUpRefIdeal.Run
public import proofs.«01_k».proof.Proof.Gen.DwUpRefIdeal.Read
public import proofs.«01_k».proof.Proof.FfnInClaim
public import proofs.«01_k».proof.Proof.InClaim
public import proofs.«01_k».proof.Proof.DownClaim
public import proofs.«01_k».proof.Proof.AttnBwdClaim
public import proofs.«01_k».proof.Proof.AttnFwdClaim
public import proofs.«01_k».proof.Proof.DwClaim
public import proofs.«01_k».proof.Proof.DwDownClaim
public import proofs.«01_k».proof.Proof.DwUpClaim

@[expose] public section

noncomputable section

namespace Cert.Proof

theorem claim : Cert.Claim :=
  ⟨Cert.FfnIn.Gen.facts, Cert.FfnInIdeal.Gen.facts, Cert.FfnInRefIdeal.Gen.facts,
    Cert.InBwd.Gen.facts, Cert.InBwdIdeal.Gen.facts, Cert.InBwdRefIdeal.Gen.facts,
    Cert.FfnDown.Gen.facts, Cert.FfnDownIdeal.Gen.facts, Cert.FfnDownRefIdeal.Gen.facts,
    Cert.AttnBwd.Gen.facts, Cert.AttnBwdIdeal.Gen.facts, Cert.AttnRefIdeal.Gen.facts,
    Cert.AttnFwd.Gen.facts, Cert.AttnFwdIdeal.Gen.facts, Cert.AttnFwdRefIdeal.Gen.facts,
    Cert.DwProj.Gen.facts, Cert.DwProjIdeal.Gen.facts, Cert.DwProjRefIdeal.Gen.facts,
    Cert.DwDown.Gen.facts, Cert.DwDownIdeal.Gen.facts, Cert.DwDownRefIdeal.Gen.facts,
    Cert.DwUp.Gen.facts, Cert.DwUpIdeal.Gen.facts, Cert.DwUpRefIdeal.Gen.facts,
    Cert.Pre_ffn_in_finite.Gen.facts, Cert.Pre_in_finite.Gen.facts, Cert.Pre_down_finite.Gen.facts,
    Cert.Pre_attn_finite.Gen.facts, Cert.Pre_attn_fwd_finite.Gen.facts,
    FfnIn.q1, FfnIn.q2, FfnIn.q3, FfnIn.q4, FfnIn.q5,
    InBwd.q1, InBwd.q2, InBwd.q3, InBwd.q4, InBwd.q5,
    FfnDown.q1, FfnDown.q2, FfnDown.q3, FfnDown.q4, FfnDown.q5,
    Attn.q1, Attn.q2, Attn.q3, Attn.q4, Attn.q5,
    AttnFwd.q1, AttnFwd.q2, AttnFwd.q3, AttnFwd.q4, AttnFwd.q5,
    DwProj.q1, DwProj.q2, DwProj.q3,
    DwDown.q1, DwDown.q2, DwDown.q3,
    DwUp.q1, DwUp.q2, DwUp.q3,
    FfnIn.q6, FfnIn.algebraic,
    InBwd.q6, InBwd.algebraic,
    FfnDown.q6, FfnDown.algebraic,
    Attn.q6, Attn.algebraic,
    AttnFwd.q6, AttnFwd.algebraic,
    DwProj.q4, DwProj.algebraic,
    DwDown.q4, DwDown.algebraic,
    DwUp.q4, DwUp.algebraic⟩

end Cert.Proof

end
